-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Cache (m : (ℓ : Loc Cert.Cache.nD Cert.Cache.τ Cert.Cache.sig) → Buf (Elt Bits) ℓ) : Prop :=
  True

def Pre_CacheIdeal (m : (ℓ : Loc Cert.CacheIdeal.nD Cert.CacheIdeal.τ Cert.CacheIdeal.sig) → Buf (Elt Ideal) ℓ) : Prop :=
  True

def Pre_CacheRefIdeal (m : (ℓ : Loc Cert.CacheRefIdeal.nD Cert.CacheRefIdeal.τ Cert.CacheRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def Pre_Vals (m : (ℓ : Loc Cert.Vals.nD Cert.Vals.τ Cert.Vals.sig) → Buf (Elt Bits) ℓ) : Prop :=
  True

def Pre_ValsIdeal (m : (ℓ : Loc Cert.ValsIdeal.nD Cert.ValsIdeal.τ Cert.ValsIdeal.sig) → Buf (Elt Ideal) ℓ) : Prop :=
  True

def Pre_ValsRefIdeal (m : (ℓ : Loc Cert.ValsRefIdeal.nD Cert.ValsRefIdeal.τ Cert.ValsRefIdeal.sig) → Buf (Elt Ideal) ℓ) : Prop :=
  True

def Pre_Latkv (m : (ℓ : Loc Cert.Latkv.nD Cert.Latkv.τ Cert.Latkv.sig) → Buf (Elt Bits) ℓ) : Prop :=
  True

def Pre_LatkvIdeal (m : (ℓ : Loc Cert.LatkvIdeal.nD Cert.LatkvIdeal.τ Cert.LatkvIdeal.sig) → Buf (Elt Ideal) ℓ) : Prop :=
  True

def Pre_LatkvRefIdeal (m : (ℓ : Loc Cert.LatkvRefIdeal.nD Cert.LatkvRefIdeal.τ Cert.LatkvRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Newk (m : (ℓ : Loc Cert.Newk.nD Cert.Newk.τ Cert.Newk.sig) → Buf (Elt Bits) ℓ) : Prop :=
  True

def Pre_NewkIdeal (m : (ℓ : Loc Cert.NewkIdeal.nD Cert.NewkIdeal.τ Cert.NewkIdeal.sig) → Buf (Elt Ideal) ℓ) : Prop :=
  True

def Pre_NewkRefIdeal (m : (ℓ : Loc Cert.NewkRefIdeal.nD Cert.NewkRefIdeal.τ Cert.NewkRefIdeal.sig) → Buf (Elt Ideal) ℓ) : Prop :=
  True

def Pre_Newv (m : (ℓ : Loc Cert.Newv.nD Cert.Newv.τ Cert.Newv.sig) → Buf (Elt Bits) ℓ) : Prop :=
  True

def Pre_NewvIdeal (m : (ℓ : Loc Cert.NewvIdeal.nD Cert.NewvIdeal.τ Cert.NewvIdeal.sig) → Buf (Elt Ideal) ℓ) : Prop :=
  True

def Pre_NewvRefIdeal (m : (ℓ : Loc Cert.NewvRefIdeal.nD Cert.NewvRefIdeal.τ Cert.NewvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Cache [hCache : Cert.Cache.Facts] : Prop :=
  ∀ (m : (ℓ : Loc Cert.Cache.nD Cert.Cache.τ Cert.Cache.sig) → Buf (Elt Bits) ℓ) (g : Dev Cert.Cache.nD → PrngReg), Pre_Cache m →
    θ_run (Cert.Cache.defs (F := Bits)) (onTc (τ := Cert.Cache.τ) (Cert.Cache.main (F := Bits))) ⟨m, fun _ => 0, g⟩ (fun r => (∀ c : Dev Cert.Cache.nD,
      r.2.mem ((c.tc : Thread Cert.Cache.nD Cert.Cache.τ).loc Cert.Cache.main_arg0) = m ((c.tc : Thread Cert.Cache.nD Cert.Cache.τ).loc Cert.Cache.main_arg0)
      ∧ r.2.mem ((c.tc : Thread Cert.Cache.nD Cert.Cache.τ).loc Cert.Cache.main_arg1) = m ((c.tc : Thread Cert.Cache.nD Cert.Cache.τ).loc Cert.Cache.main_arg1)
      ∧ r.2.mem ((c.tc : Thread Cert.Cache.nD Cert.Cache.τ).loc Cert.Cache.main_arg2) = m ((c.tc : Thread Cert.Cache.nD Cert.Cache.τ).loc Cert.Cache.main_arg2))
      ∧ r.2.sem = fun _ => 0)

def quiescent_CacheIdeal [hCacheIdeal : Cert.CacheIdeal.Facts] : Prop :=
  ∀ (m : (ℓ : Loc Cert.CacheIdeal.nD Cert.CacheIdeal.τ Cert.CacheIdeal.sig) → Buf (Elt Ideal) ℓ) (g : Dev Cert.CacheIdeal.nD → PrngReg), Pre_CacheIdeal m →
    θ_run (Cert.CacheIdeal.defs (F := Ideal)) (onTc (τ := Cert.CacheIdeal.τ) (Cert.CacheIdeal.main (F := Ideal))) ⟨m, fun _ => 0, g⟩ (fun r => (∀ c : Dev Cert.CacheIdeal.nD,
      r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
      ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
      ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2))
      ∧ r.2.sem = fun _ => 0)

def quiescent_CacheRefIdeal [hCacheRefIdeal : Cert.CacheRefIdeal.Facts] : Prop :=
  ∀ (m : (ℓ : Loc Cert.CacheRefIdeal.nD Cert.CacheRefIdeal.τ Cert.CacheRefIdeal.sig) → Buf (Elt Ideal) ℓ) (g : Dev Cert.CacheRefIdeal.nD → PrngReg), Pre_CacheRefIdeal m →
    θ_run (Cert.CacheRefIdeal.defs (F := Ideal)) (onTc (τ := Cert.CacheRefIdeal.τ) (Cert.CacheRefIdeal.main (F := Ideal))) ⟨m, fun _ => 0, g⟩ (fun r => (∀ c : Dev Cert.CacheRefIdeal.nD,
      r.2.mem ((c.tc : Thread Cert.CacheRefIdeal.nD Cert.CacheRefIdeal.τ).loc Cert.CacheRefIdeal.main_arg0) = m ((c.tc : Thread Cert.CacheRefIdeal.nD Cert.CacheRefIdeal.τ).loc Cert.CacheRefIdeal.main_arg0)
      ∧ r.2.mem ((c.tc : Thread Cert.CacheRefIdeal.nD Cert.CacheRefIdeal.τ).loc Cert.CacheRefIdeal.main_arg1) = m ((c.tc : Thread Cert.CacheRefIdeal.nD Cert.CacheRefIdeal.τ).loc Cert.CacheRefIdeal.main_arg1)
      ∧ r.2.mem ((c.tc : Thread Cert.CacheRefIdeal.nD Cert.CacheRefIdeal.τ).loc Cert.CacheRefIdeal.main_arg2) = m ((c.tc : Thread Cert.CacheRefIdeal.nD Cert.CacheRefIdeal.τ).loc Cert.CacheRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5))
      ∧ r.2.sem = fun _ => 0)

def quiescent_Vals [hVals : Cert.Vals.Facts] : Prop :=
  ∀ (m : (ℓ : Loc Cert.Vals.nD Cert.Vals.τ Cert.Vals.sig) → Buf (Elt Bits) ℓ) (g : Dev Cert.Vals.nD → PrngReg), Pre_Vals m →
    θ_run (Cert.Vals.defs (F := Bits)) (onTc (τ := Cert.Vals.τ) (Cert.Vals.main (F := Bits))) ⟨m, fun _ => 0, g⟩ (fun r => (∀ c : Dev Cert.Vals.nD,
      r.2.mem ((c.tc : Thread Cert.Vals.nD Cert.Vals.τ).loc Cert.Vals.main_arg0) = m ((c.tc : Thread Cert.Vals.nD Cert.Vals.τ).loc Cert.Vals.main_arg0)
      ∧ r.2.mem ((c.tc : Thread Cert.Vals.nD Cert.Vals.τ).loc Cert.Vals.main_arg1) = m ((c.tc : Thread Cert.Vals.nD Cert.Vals.τ).loc Cert.Vals.main_arg1)
      ∧ r.2.mem ((c.tc : Thread Cert.Vals.nD Cert.Vals.τ).loc Cert.Vals.main_arg2) = m ((c.tc : Thread Cert.Vals.nD Cert.Vals.τ).loc Cert.Vals.main_arg2))
      ∧ r.2.sem = fun _ => 0)

def quiescent_ValsIdeal [hValsIdeal : Cert.ValsIdeal.Facts] : Prop :=
  ∀ (m : (ℓ : Loc Cert.ValsIdeal.nD Cert.ValsIdeal.τ Cert.ValsIdeal.sig) → Buf (Elt Ideal) ℓ) (g : Dev Cert.ValsIdeal.nD → PrngReg), Pre_ValsIdeal m →
    θ_run (Cert.ValsIdeal.defs (F := Ideal)) (onTc (τ := Cert.ValsIdeal.τ) (Cert.ValsIdeal.main (F := Ideal))) ⟨m, fun _ => 0, g⟩ (fun r => (∀ c : Dev Cert.ValsIdeal.nD,
      r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
      ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1)
      ∧ r.2.mem ((c.tc : Thread Cert.ValsIdeal.nD Cert.ValsIdeal.τ).loc Cert.ValsIdeal.main_arg2) = m ((c.tc : Thread Cert.ValsIdeal.nD Cert.ValsIdeal.τ).loc Cert.ValsIdeal.main_arg2))
      ∧ r.2.sem = fun _ => 0)

def quiescent_ValsRefIdeal [hValsRefIdeal : Cert.ValsRefIdeal.Facts] : Prop :=
  ∀ (m : (ℓ : Loc Cert.ValsRefIdeal.nD Cert.ValsRefIdeal.τ Cert.ValsRefIdeal.sig) → Buf (Elt Ideal) ℓ) (g : Dev Cert.ValsRefIdeal.nD → PrngReg), Pre_ValsRefIdeal m →
    θ_run (Cert.ValsRefIdeal.defs (F := Ideal)) (onTc (τ := Cert.ValsRefIdeal.τ) (Cert.ValsRefIdeal.main (F := Ideal))) ⟨m, fun _ => 0, g⟩ (fun r => (∀ c : Dev Cert.ValsRefIdeal.nD,
      r.2.mem ((c.tc : Thread Cert.ValsRefIdeal.nD Cert.ValsRefIdeal.τ).loc Cert.ValsRefIdeal.main_arg0) = m ((c.tc : Thread Cert.ValsRefIdeal.nD Cert.ValsRefIdeal.τ).loc Cert.ValsRefIdeal.main_arg0)
      ∧ r.2.mem ((c.tc : Thread Cert.ValsRefIdeal.nD Cert.ValsRefIdeal.τ).loc Cert.ValsRefIdeal.main_arg1) = m ((c.tc : Thread Cert.ValsRefIdeal.nD Cert.ValsRefIdeal.τ).loc Cert.ValsRefIdeal.main_arg1)
      ∧ r.2.mem ((c.tc : Thread Cert.ValsRefIdeal.nD Cert.ValsRefIdeal.τ).loc Cert.ValsRefIdeal.main_arg2) = m ((c.tc : Thread Cert.ValsRefIdeal.nD Cert.ValsRefIdeal.τ).loc Cert.ValsRefIdeal.main_arg2))
      ∧ r.2.sem = fun _ => 0)

def quiescent_Latkv [hLatkv : Cert.Latkv.Facts] : Prop :=
  ∀ (m : (ℓ : Loc Cert.Latkv.nD Cert.Latkv.τ Cert.Latkv.sig) → Buf (Elt Bits) ℓ) (g : Dev Cert.Latkv.nD → PrngReg), Pre_Latkv m →
    θ_run (Cert.Latkv.defs (F := Bits)) (onTc (τ := Cert.Latkv.τ) (Cert.Latkv.main (F := Bits))) ⟨m, fun _ => 0, g⟩ (fun r => (∀ c : Dev Cert.Latkv.nD,
      r.2.mem ((c.tc : Thread Cert.Latkv.nD Cert.Latkv.τ).loc Cert.Latkv.main_arg0) = m ((c.tc : Thread Cert.Latkv.nD Cert.Latkv.τ).loc Cert.Latkv.main_arg0)
      ∧ r.2.mem ((c.tc : Thread Cert.Latkv.nD Cert.Latkv.τ).loc Cert.Latkv.main_arg1) = m ((c.tc : Thread Cert.Latkv.nD Cert.Latkv.τ).loc Cert.Latkv.main_arg1))
      ∧ r.2.sem = fun _ => 0)

def quiescent_LatkvIdeal [hLatkvIdeal : Cert.LatkvIdeal.Facts] : Prop :=
  ∀ (m : (ℓ : Loc Cert.LatkvIdeal.nD Cert.LatkvIdeal.τ Cert.LatkvIdeal.sig) → Buf (Elt Ideal) ℓ) (g : Dev Cert.LatkvIdeal.nD → PrngReg), Pre_LatkvIdeal m →
    θ_run (Cert.LatkvIdeal.defs (F := Ideal)) (onTc (τ := Cert.LatkvIdeal.τ) (Cert.LatkvIdeal.main (F := Ideal))) ⟨m, fun _ => 0, g⟩ (fun r => (∀ c : Dev Cert.LatkvIdeal.nD,
      r.2.mem ((c.tc : Thread Cert.LatkvIdeal.nD Cert.LatkvIdeal.τ).loc Cert.LatkvIdeal.main_arg0) = m ((c.tc : Thread Cert.LatkvIdeal.nD Cert.LatkvIdeal.τ).loc Cert.LatkvIdeal.main_arg0)
      ∧ r.2.mem ((c.tc : Thread Cert.LatkvIdeal.nD Cert.LatkvIdeal.τ).loc Cert.LatkvIdeal.main_arg1) = m ((c.tc : Thread Cert.LatkvIdeal.nD Cert.LatkvIdeal.τ).loc Cert.LatkvIdeal.main_arg1))
      ∧ r.2.sem = fun _ => 0)

def quiescent_LatkvRefIdeal [hLatkvRefIdeal : Cert.LatkvRefIdeal.Facts] : Prop :=
  ∀ (m : (ℓ : Loc Cert.LatkvRefIdeal.nD Cert.LatkvRefIdeal.τ Cert.LatkvRefIdeal.sig) → Buf (Elt Ideal) ℓ) (g : Dev Cert.LatkvRefIdeal.nD → PrngReg), Pre_LatkvRefIdeal m →
    θ_run (Cert.LatkvRefIdeal.defs (F := Ideal)) (onTc (τ := Cert.LatkvRefIdeal.τ) (Cert.LatkvRefIdeal.main (F := Ideal))) ⟨m, fun _ => 0, g⟩ (fun r => (∀ c : Dev Cert.LatkvRefIdeal.nD,
      r.2.mem ((c.tc : Thread Cert.LatkvRefIdeal.nD Cert.LatkvRefIdeal.τ).loc Cert.LatkvRefIdeal.main_arg0) = m ((c.tc : Thread Cert.LatkvRefIdeal.nD Cert.LatkvRefIdeal.τ).loc Cert.LatkvRefIdeal.main_arg0)
      ∧ r.2.mem ((c.tc : Thread Cert.LatkvRefIdeal.nD Cert.LatkvRefIdeal.τ).loc Cert.LatkvRefIdeal.main_arg1) = m ((c.tc : Thread Cert.LatkvRefIdeal.nD Cert.LatkvRefIdeal.τ).loc Cert.LatkvRefIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6))
      ∧ r.2.sem = fun _ => 0)

def quiescent_Newk [hNewk : Cert.Newk.Facts] : Prop :=
  ∀ (m : (ℓ : Loc Cert.Newk.nD Cert.Newk.τ Cert.Newk.sig) → Buf (Elt Bits) ℓ) (g : Dev Cert.Newk.nD → PrngReg), Pre_Newk m →
    θ_run (Cert.Newk.defs (F := Bits)) (onTc (τ := Cert.Newk.τ) (Cert.Newk.main (F := Bits))) ⟨m, fun _ => 0, g⟩ (fun r => (∀ c : Dev Cert.Newk.nD,
      r.2.mem ((c.tc : Thread Cert.Newk.nD Cert.Newk.τ).loc Cert.Newk.main_arg0) = m ((c.tc : Thread Cert.Newk.nD Cert.Newk.τ).loc Cert.Newk.main_arg0)
      ∧ r.2.mem ((c.tc : Thread Cert.Newk.nD Cert.Newk.τ).loc Cert.Newk.main_arg1) = m ((c.tc : Thread Cert.Newk.nD Cert.Newk.τ).loc Cert.Newk.main_arg1))
      ∧ r.2.sem = fun _ => 0)

def quiescent_NewkIdeal [hNewkIdeal : Cert.NewkIdeal.Facts] : Prop :=
  ∀ (m : (ℓ : Loc Cert.NewkIdeal.nD Cert.NewkIdeal.τ Cert.NewkIdeal.sig) → Buf (Elt Ideal) ℓ) (g : Dev Cert.NewkIdeal.nD → PrngReg), Pre_NewkIdeal m →
    θ_run (Cert.NewkIdeal.defs (F := Ideal)) (onTc (τ := Cert.NewkIdeal.τ) (Cert.NewkIdeal.main (F := Ideal))) ⟨m, fun _ => 0, g⟩ (fun r => (∀ c : Dev Cert.NewkIdeal.nD,
      r.2.mem ((c.tc : Thread Cert.NewkIdeal.nD Cert.NewkIdeal.τ).loc Cert.NewkIdeal.main_arg0) = m ((c.tc : Thread Cert.NewkIdeal.nD Cert.NewkIdeal.τ).loc Cert.NewkIdeal.main_arg0)
      ∧ r.2.mem ((c.tc : Thread Cert.NewkIdeal.nD Cert.NewkIdeal.τ).loc Cert.NewkIdeal.main_arg1) = m ((c.tc : Thread Cert.NewkIdeal.nD Cert.NewkIdeal.τ).loc Cert.NewkIdeal.main_arg1))
      ∧ r.2.sem = fun _ => 0)

def quiescent_NewkRefIdeal [hNewkRefIdeal : Cert.NewkRefIdeal.Facts] : Prop :=
  ∀ (m : (ℓ : Loc Cert.NewkRefIdeal.nD Cert.NewkRefIdeal.τ Cert.NewkRefIdeal.sig) → Buf (Elt Ideal) ℓ) (g : Dev Cert.NewkRefIdeal.nD → PrngReg), Pre_NewkRefIdeal m →
    θ_run (Cert.NewkRefIdeal.defs (F := Ideal)) (onTc (τ := Cert.NewkRefIdeal.τ) (Cert.NewkRefIdeal.main (F := Ideal))) ⟨m, fun _ => 0, g⟩ (fun r => (∀ c : Dev Cert.NewkRefIdeal.nD,
      r.2.mem ((c.tc : Thread Cert.NewkRefIdeal.nD Cert.NewkRefIdeal.τ).loc Cert.NewkRefIdeal.main_arg0) = m ((c.tc : Thread Cert.NewkRefIdeal.nD Cert.NewkRefIdeal.τ).loc Cert.NewkRefIdeal.main_arg0)
      ∧ r.2.mem ((c.tc : Thread Cert.NewkRefIdeal.nD Cert.NewkRefIdeal.τ).loc Cert.NewkRefIdeal.main_arg1) = m ((c.tc : Thread Cert.NewkRefIdeal.nD Cert.NewkRefIdeal.τ).loc Cert.NewkRefIdeal.main_arg1))
      ∧ r.2.sem = fun _ => 0)

def quiescent_Newv [hNewv : Cert.Newv.Facts] : Prop :=
  ∀ (m : (ℓ : Loc Cert.Newv.nD Cert.Newv.τ Cert.Newv.sig) → Buf (Elt Bits) ℓ) (g : Dev Cert.Newv.nD → PrngReg), Pre_Newv m →
    θ_run (Cert.Newv.defs (F := Bits)) (onTc (τ := Cert.Newv.τ) (Cert.Newv.main (F := Bits))) ⟨m, fun _ => 0, g⟩ (fun r => (∀ c : Dev Cert.Newv.nD,
      r.2.mem ((c.tc : Thread Cert.Newv.nD Cert.Newv.τ).loc Cert.Newv.main_arg0) = m ((c.tc : Thread Cert.Newv.nD Cert.Newv.τ).loc Cert.Newv.main_arg0)
      ∧ r.2.mem ((c.tc : Thread Cert.Newv.nD Cert.Newv.τ).loc Cert.Newv.main_arg1) = m ((c.tc : Thread Cert.Newv.nD Cert.Newv.τ).loc Cert.Newv.main_arg1))
      ∧ r.2.sem = fun _ => 0)

def quiescent_NewvIdeal [hNewvIdeal : Cert.NewvIdeal.Facts] : Prop :=
  ∀ (m : (ℓ : Loc Cert.NewvIdeal.nD Cert.NewvIdeal.τ Cert.NewvIdeal.sig) → Buf (Elt Ideal) ℓ) (g : Dev Cert.NewvIdeal.nD → PrngReg), Pre_NewvIdeal m →
    θ_run (Cert.NewvIdeal.defs (F := Ideal)) (onTc (τ := Cert.NewvIdeal.τ) (Cert.NewvIdeal.main (F := Ideal))) ⟨m, fun _ => 0, g⟩ (fun r => (∀ c : Dev Cert.NewvIdeal.nD,
      r.2.mem ((c.tc : Thread Cert.NewvIdeal.nD Cert.NewvIdeal.τ).loc Cert.NewvIdeal.main_arg0) = m ((c.tc : Thread Cert.NewvIdeal.nD Cert.NewvIdeal.τ).loc Cert.NewvIdeal.main_arg0)
      ∧ r.2.mem ((c.tc : Thread Cert.NewvIdeal.nD Cert.NewvIdeal.τ).loc Cert.NewvIdeal.main_arg1) = m ((c.tc : Thread Cert.NewvIdeal.nD Cert.NewvIdeal.τ).loc Cert.NewvIdeal.main_arg1))
      ∧ r.2.sem = fun _ => 0)

def quiescent_NewvRefIdeal [hNewvRefIdeal : Cert.NewvRefIdeal.Facts] : Prop :=
  ∀ (m : (ℓ : Loc Cert.NewvRefIdeal.nD Cert.NewvRefIdeal.τ Cert.NewvRefIdeal.sig) → Buf (Elt Ideal) ℓ) (g : Dev Cert.NewvRefIdeal.nD → PrngReg), Pre_NewvRefIdeal m →
    θ_run (Cert.NewvRefIdeal.defs (F := Ideal)) (onTc (τ := Cert.NewvRefIdeal.τ) (Cert.NewvRefIdeal.main (F := Ideal))) ⟨m, fun _ => 0, g⟩ (fun r => (∀ c : Dev Cert.NewvRefIdeal.nD,
      r.2.mem ((c.tc : Thread Cert.NewvRefIdeal.nD Cert.NewvRefIdeal.τ).loc Cert.NewvRefIdeal.main_arg0) = m ((c.tc : Thread Cert.NewvRefIdeal.nD Cert.NewvRefIdeal.τ).loc Cert.NewvRefIdeal.main_arg0)
      ∧ r.2.mem ((c.tc : Thread Cert.NewvRefIdeal.nD Cert.NewvRefIdeal.τ).loc Cert.NewvRefIdeal.main_arg1) = m ((c.tc : Thread Cert.NewvRefIdeal.nD Cert.NewvRefIdeal.τ).loc Cert.NewvRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v3_0)) (v1 : (c : Dev Cert.RetIdeal.nD) → Buf (Elt Ideal) ((c.tc : Thread Cert.RetIdeal.nD Cert.RetIdeal.τ).loc Cert.RetIdeal.main_v3_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v3_0) = v0 c
          ∧ r.2.mem ((c.tc : Thread Cert.RetIdeal.nD Cert.RetIdeal.τ).loc Cert.RetIdeal.main_v3_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v185) = v0 c
          ∧ r.2.mem ((c.tc : Thread Cert.RetRefIdeal.nD Cert.RetRefIdeal.τ).loc Cert.RetRefIdeal.main_v189) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v5) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Cache_CacheIdeal : Prop :=
  True

def algebraic_CacheIdeal_CacheRefIdeal [hCacheIdeal : Cert.CacheIdeal.Facts] [hCacheRefIdeal : Cert.CacheRefIdeal.Facts] : Prop :=
  ∀ (m : (ℓ : Loc Cert.CacheIdeal.nD Cert.CacheIdeal.τ Cert.CacheIdeal.sig) → Buf (Elt Ideal) ℓ) (g : Dev Cert.CacheIdeal.nD → PrngReg)
    (m' : (ℓ : Loc Cert.CacheRefIdeal.nD Cert.CacheRefIdeal.τ Cert.CacheRefIdeal.sig) → Buf (Elt Ideal) ℓ) (g' : Dev Cert.CacheRefIdeal.nD → PrngReg), Pre_CacheIdeal m →
    (∀ c : Dev Cert.CacheIdeal.nD,
      m' ((c.tc : Thread Cert.CacheRefIdeal.nD Cert.CacheRefIdeal.τ).loc Cert.CacheRefIdeal.main_arg0) = m ((c.tc : Thread Cert.CacheIdeal.nD Cert.CacheIdeal.τ).loc Cert.CacheIdeal.main_arg0)
      ∧ m' ((c.tc : Thread Cert.CacheRefIdeal.nD Cert.CacheRefIdeal.τ).loc Cert.CacheRefIdeal.main_arg1) = m ((c.tc : Thread Cert.CacheIdeal.nD Cert.CacheIdeal.τ).loc Cert.CacheIdeal.main_arg1)
      ∧ m' ((c.tc : Thread Cert.CacheRefIdeal.nD Cert.CacheRefIdeal.τ).loc Cert.CacheRefIdeal.main_arg2) = m ((c.tc : Thread Cert.CacheIdeal.nD Cert.CacheIdeal.τ).loc Cert.CacheIdeal.main_arg2)) →
    ∃ (v0 : (c : Dev Cert.CacheIdeal.nD) → Buf (Elt Ideal) ((c.tc : Thread Cert.CacheIdeal.nD Cert.CacheIdeal.τ).loc Cert.CacheIdeal.main_v0)),
      θ_run (Cert.CacheIdeal.defs (F := Ideal)) (onTc (τ := Cert.CacheIdeal.τ) (Cert.CacheIdeal.main (F := Ideal))) ⟨m, fun _ => 0, g⟩ (fun r => ∀ c : Dev Cert.CacheIdeal.nD,
          r.2.mem ((c.tc : Thread Cert.CacheIdeal.nD Cert.CacheIdeal.τ).loc Cert.CacheIdeal.main_v0) = v0 c
          ∧ r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
          ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
          ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2))
      ∧ θ_run (Cert.CacheRefIdeal.defs (F := Ideal)) (onTc (τ := Cert.CacheRefIdeal.τ) (Cert.CacheRefIdeal.main (F := Ideal))) ⟨m', fun _ => 0, g'⟩ (fun r => ∀ c : Dev Cert.CacheRefIdeal.nD,
          r.2.mem ((c.tc : Thread Cert.CacheRefIdeal.nD Cert.CacheRefIdeal.τ).loc Cert.CacheRefIdeal.main_v11) = v0 c
          ∧ r.2.mem ((c.tc : Thread Cert.CacheRefIdeal.nD Cert.CacheRefIdeal.τ).loc Cert.CacheRefIdeal.main_arg0) = m' ((c.tc : Thread Cert.CacheRefIdeal.nD Cert.CacheRefIdeal.τ).loc Cert.CacheRefIdeal.main_arg0)
          ∧ r.2.mem ((c.tc : Thread Cert.CacheRefIdeal.nD Cert.CacheRefIdeal.τ).loc Cert.CacheRefIdeal.main_arg1) = m' ((c.tc : Thread Cert.CacheRefIdeal.nD Cert.CacheRefIdeal.τ).loc Cert.CacheRefIdeal.main_arg1)
          ∧ r.2.mem ((c.tc : Thread Cert.CacheRefIdeal.nD Cert.CacheRefIdeal.τ).loc Cert.CacheRefIdeal.main_arg2) = m' ((c.tc : Thread Cert.CacheRefIdeal.nD Cert.CacheRefIdeal.τ).loc Cert.CacheRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v31) = v0 c
          ∧ r.2.mem ((c.tc : Thread Cert.DownRefIdeal.nD Cert.DownRefIdeal.τ).loc Cert.DownRefIdeal.main_v58) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v5) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)
      ∧ m' ((c.tc : Thread Cert.NextRefIdeal.nD Cert.NextRefIdeal.τ).loc Cert.NextRefIdeal.main_arg5) = m ((c.tc : Thread Cert.NextIdeal.nD Cert.NextIdeal.τ).loc Cert.NextIdeal.main_arg5)) →
    ∃ (v0 : (c : Dev Cert.NextIdeal.nD) → Buf (Elt Ideal) ((c.tc : Thread Cert.NextIdeal.nD Cert.NextIdeal.τ).loc Cert.NextIdeal.main_v6_0)) (v1 : (c : Dev Cert.NextIdeal.nD) → Buf (Elt Ideal) ((c.tc : Thread Cert.NextIdeal.nD Cert.NextIdeal.τ).loc Cert.NextIdeal.main_v6_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v6_0) = v0 c
          ∧ r.2.mem ((c.tc : Thread Cert.NextIdeal.nD Cert.NextIdeal.τ).loc Cert.NextIdeal.main_v6_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v32) = v0 c
          ∧ r.2.mem ((c.tc : Thread Cert.NextRefIdeal.nD Cert.NextRefIdeal.τ).loc Cert.NextRefIdeal.main_v56) = v1 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
          ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5))

def preserves_Vals_ValsIdeal : Prop :=
  True

def algebraic_ValsIdeal_ValsRefIdeal [hValsIdeal : Cert.ValsIdeal.Facts] [hValsRefIdeal : Cert.ValsRefIdeal.Facts] : Prop :=
  ∀ (m : (ℓ : Loc Cert.ValsIdeal.nD Cert.ValsIdeal.τ Cert.ValsIdeal.sig) → Buf (Elt Ideal) ℓ) (g : Dev Cert.ValsIdeal.nD → PrngReg)
    (m' : (ℓ : Loc Cert.ValsRefIdeal.nD Cert.ValsRefIdeal.τ Cert.ValsRefIdeal.sig) → Buf (Elt Ideal) ℓ) (g' : Dev Cert.ValsRefIdeal.nD → PrngReg), Pre_ValsIdeal m →
    (∀ c : Dev Cert.ValsIdeal.nD,
      m' ((c.tc : Thread Cert.ValsRefIdeal.nD Cert.ValsRefIdeal.τ).loc Cert.ValsRefIdeal.main_arg0) = m ((c.tc : Thread Cert.ValsIdeal.nD Cert.ValsIdeal.τ).loc Cert.ValsIdeal.main_arg0)
      ∧ m' ((c.tc : Thread Cert.ValsRefIdeal.nD Cert.ValsRefIdeal.τ).loc Cert.ValsRefIdeal.main_arg1) = m ((c.tc : Thread Cert.ValsIdeal.nD Cert.ValsIdeal.τ).loc Cert.ValsIdeal.main_arg1)
      ∧ m' ((c.tc : Thread Cert.ValsRefIdeal.nD Cert.ValsRefIdeal.τ).loc Cert.ValsRefIdeal.main_arg2) = m ((c.tc : Thread Cert.ValsIdeal.nD Cert.ValsIdeal.τ).loc Cert.ValsIdeal.main_arg2)) →
    ∃ (v0 : (c : Dev Cert.ValsIdeal.nD) → Buf (Elt Ideal) ((c.tc : Thread Cert.ValsIdeal.nD Cert.ValsIdeal.τ).loc Cert.ValsIdeal.main_v0)),
      θ_run (Cert.ValsIdeal.defs (F := Ideal)) (onTc (τ := Cert.ValsIdeal.τ) (Cert.ValsIdeal.main (F := Ideal))) ⟨m, fun _ => 0, g⟩ (fun r => ∀ c : Dev Cert.ValsIdeal.nD,
          r.2.mem ((c.tc : Thread Cert.ValsIdeal.nD Cert.ValsIdeal.τ).loc Cert.ValsIdeal.main_v0) = v0 c
          ∧ r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
          ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1)
          ∧ r.2.mem ((c.tc : Thread Cert.ValsIdeal.nD Cert.ValsIdeal.τ).loc Cert.ValsIdeal.main_arg2) = m ((c.tc : Thread Cert.ValsIdeal.nD Cert.ValsIdeal.τ).loc Cert.ValsIdeal.main_arg2))
      ∧ θ_run (Cert.ValsRefIdeal.defs (F := Ideal)) (onTc (τ := Cert.ValsRefIdeal.τ) (Cert.ValsRefIdeal.main (F := Ideal))) ⟨m', fun _ => 0, g'⟩ (fun r => ∀ c : Dev Cert.ValsRefIdeal.nD,
          r.2.mem ((c.tc : Thread Cert.ValsRefIdeal.nD Cert.ValsRefIdeal.τ).loc Cert.ValsRefIdeal.main_v11) = v0 c
          ∧ r.2.mem ((c.tc : Thread Cert.ValsRefIdeal.nD Cert.ValsRefIdeal.τ).loc Cert.ValsRefIdeal.main_arg0) = m' ((c.tc : Thread Cert.ValsRefIdeal.nD Cert.ValsRefIdeal.τ).loc Cert.ValsRefIdeal.main_arg0)
          ∧ r.2.mem ((c.tc : Thread Cert.ValsRefIdeal.nD Cert.ValsRefIdeal.τ).loc Cert.ValsRefIdeal.main_arg1) = m' ((c.tc : Thread Cert.ValsRefIdeal.nD Cert.ValsRefIdeal.τ).loc Cert.ValsRefIdeal.main_arg1)
          ∧ r.2.mem ((c.tc : Thread Cert.ValsRefIdeal.nD Cert.ValsRefIdeal.τ).loc Cert.ValsRefIdeal.main_arg2) = m' ((c.tc : Thread Cert.ValsRefIdeal.nD Cert.ValsRefIdeal.τ).loc Cert.ValsRefIdeal.main_arg2))

def preserves_Latkv_LatkvIdeal : Prop :=
  True

def algebraic_LatkvIdeal_LatkvRefIdeal [hLatkvIdeal : Cert.LatkvIdeal.Facts] [hLatkvRefIdeal : Cert.LatkvRefIdeal.Facts] : Prop :=
  ∀ (m : (ℓ : Loc Cert.LatkvIdeal.nD Cert.LatkvIdeal.τ Cert.LatkvIdeal.sig) → Buf (Elt Ideal) ℓ) (g : Dev Cert.LatkvIdeal.nD → PrngReg)
    (m' : (ℓ : Loc Cert.LatkvRefIdeal.nD Cert.LatkvRefIdeal.τ Cert.LatkvRefIdeal.sig) → Buf (Elt Ideal) ℓ) (g' : Dev Cert.LatkvRefIdeal.nD → PrngReg), Pre_LatkvIdeal m →
    (∀ c : Dev Cert.LatkvIdeal.nD,
      m' ((c.tc : Thread Cert.LatkvRefIdeal.nD Cert.LatkvRefIdeal.τ).loc Cert.LatkvRefIdeal.main_arg0) = m ((c.tc : Thread Cert.LatkvIdeal.nD Cert.LatkvIdeal.τ).loc Cert.LatkvIdeal.main_arg0)
      ∧ m' ((c.tc : Thread Cert.LatkvRefIdeal.nD Cert.LatkvRefIdeal.τ).loc Cert.LatkvRefIdeal.main_arg1) = m ((c.tc : Thread Cert.LatkvIdeal.nD Cert.LatkvIdeal.τ).loc Cert.LatkvIdeal.main_arg1)) →
    ∃ (v0 : (c : Dev Cert.LatkvIdeal.nD) → Buf (Elt Ideal) ((c.tc : Thread Cert.LatkvIdeal.nD Cert.LatkvIdeal.τ).loc Cert.LatkvIdeal.main_v0)),
      θ_run (Cert.LatkvIdeal.defs (F := Ideal)) (onTc (τ := Cert.LatkvIdeal.τ) (Cert.LatkvIdeal.main (F := Ideal))) ⟨m, fun _ => 0, g⟩ (fun r => ∀ c : Dev Cert.LatkvIdeal.nD,
          r.2.mem ((c.tc : Thread Cert.LatkvIdeal.nD Cert.LatkvIdeal.τ).loc Cert.LatkvIdeal.main_v0) = v0 c
          ∧ r.2.mem ((c.tc : Thread Cert.LatkvIdeal.nD Cert.LatkvIdeal.τ).loc Cert.LatkvIdeal.main_arg0) = m ((c.tc : Thread Cert.LatkvIdeal.nD Cert.LatkvIdeal.τ).loc Cert.LatkvIdeal.main_arg0)
          ∧ r.2.mem ((c.tc : Thread Cert.LatkvIdeal.nD Cert.LatkvIdeal.τ).loc Cert.LatkvIdeal.main_arg1) = m ((c.tc : Thread Cert.LatkvIdeal.nD Cert.LatkvIdeal.τ).loc Cert.LatkvIdeal.main_arg1))
      ∧ θ_run (Cert.LatkvRefIdeal.defs (F := Ideal)) (onTc (τ := Cert.LatkvRefIdeal.τ) (Cert.LatkvRefIdeal.main (F := Ideal))) ⟨m', fun _ => 0, g'⟩ (fun r => ∀ c : Dev Cert.LatkvRefIdeal.nD,
          r.2.mem ((c.tc : Thread Cert.LatkvRefIdeal.nD Cert.LatkvRefIdeal.τ).loc Cert.LatkvRefIdeal.main_v6) = v0 c
          ∧ r.2.mem ((c.tc : Thread Cert.LatkvRefIdeal.nD Cert.LatkvRefIdeal.τ).loc Cert.LatkvRefIdeal.main_arg0) = m' ((c.tc : Thread Cert.LatkvRefIdeal.nD Cert.LatkvRefIdeal.τ).loc Cert.LatkvRefIdeal.main_arg0)
          ∧ r.2.mem ((c.tc : Thread Cert.LatkvRefIdeal.nD Cert.LatkvRefIdeal.τ).loc Cert.LatkvRefIdeal.main_arg1) = m' ((c.tc : Thread Cert.LatkvRefIdeal.nD Cert.LatkvRefIdeal.τ).loc Cert.LatkvRefIdeal.main_arg1))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v3_0)) (v1 : (c : Dev Cert.LastIdeal.nD) → Buf (Elt Ideal) ((c.tc : Thread Cert.LastIdeal.nD Cert.LastIdeal.τ).loc Cert.LastIdeal.main_v3_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v3_0) = v0 c
          ∧ r.2.mem ((c.tc : Thread Cert.LastIdeal.nD Cert.LastIdeal.τ).loc Cert.LastIdeal.main_v3_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v185) = v0 c
          ∧ r.2.mem ((c.tc : Thread Cert.LastRefIdeal.nD Cert.LastRefIdeal.τ).loc Cert.LastRefIdeal.main_v190) = v1 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)) →
    ∃ (v0 : (c : Dev Cert.FirstIdeal.nD) → Buf (Elt Ideal) ((c.tc : Thread Cert.FirstIdeal.nD Cert.FirstIdeal.τ).loc Cert.FirstIdeal.main_v6_0)) (v1 : (c : Dev Cert.FirstIdeal.nD) → Buf (Elt Ideal) ((c.tc : Thread Cert.FirstIdeal.nD Cert.FirstIdeal.τ).loc Cert.FirstIdeal.main_v6_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v6_0) = v0 c
          ∧ r.2.mem ((c.tc : Thread Cert.FirstIdeal.nD Cert.FirstIdeal.τ).loc Cert.FirstIdeal.main_v6_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v33) = v0 c
          ∧ r.2.mem ((c.tc : Thread Cert.FirstRefIdeal.nD Cert.FirstRefIdeal.τ).loc Cert.FirstRefIdeal.main_v57) = v1 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6))

def preserves_Newk_NewkIdeal : Prop :=
  True

def algebraic_NewkIdeal_NewkRefIdeal [hNewkIdeal : Cert.NewkIdeal.Facts] [hNewkRefIdeal : Cert.NewkRefIdeal.Facts] : Prop :=
  ∀ (m : (ℓ : Loc Cert.NewkIdeal.nD Cert.NewkIdeal.τ Cert.NewkIdeal.sig) → Buf (Elt Ideal) ℓ) (g : Dev Cert.NewkIdeal.nD → PrngReg)
    (m' : (ℓ : Loc Cert.NewkRefIdeal.nD Cert.NewkRefIdeal.τ Cert.NewkRefIdeal.sig) → Buf (Elt Ideal) ℓ) (g' : Dev Cert.NewkRefIdeal.nD → PrngReg), Pre_NewkIdeal m →
    (∀ c : Dev Cert.NewkIdeal.nD,
      m' ((c.tc : Thread Cert.NewkRefIdeal.nD Cert.NewkRefIdeal.τ).loc Cert.NewkRefIdeal.main_arg0) = m ((c.tc : Thread Cert.NewkIdeal.nD Cert.NewkIdeal.τ).loc Cert.NewkIdeal.main_arg0)
      ∧ m' ((c.tc : Thread Cert.NewkRefIdeal.nD Cert.NewkRefIdeal.τ).loc Cert.NewkRefIdeal.main_arg1) = m ((c.tc : Thread Cert.NewkIdeal.nD Cert.NewkIdeal.τ).loc Cert.NewkIdeal.main_arg1)) →
    ∃ (v0 : (c : Dev Cert.NewkIdeal.nD) → Buf (Elt Ideal) ((c.tc : Thread Cert.NewkIdeal.nD Cert.NewkIdeal.τ).loc Cert.NewkIdeal.main_v0)),
      θ_run (Cert.NewkIdeal.defs (F := Ideal)) (onTc (τ := Cert.NewkIdeal.τ) (Cert.NewkIdeal.main (F := Ideal))) ⟨m, fun _ => 0, g⟩ (fun r => ∀ c : Dev Cert.NewkIdeal.nD,
          r.2.mem ((c.tc : Thread Cert.NewkIdeal.nD Cert.NewkIdeal.τ).loc Cert.NewkIdeal.main_v0) = v0 c
          ∧ r.2.mem ((c.tc : Thread Cert.NewkIdeal.nD Cert.NewkIdeal.τ).loc Cert.NewkIdeal.main_arg0) = m ((c.tc : Thread Cert.NewkIdeal.nD Cert.NewkIdeal.τ).loc Cert.NewkIdeal.main_arg0)
          ∧ r.2.mem ((c.tc : Thread Cert.NewkIdeal.nD Cert.NewkIdeal.τ).loc Cert.NewkIdeal.main_arg1) = m ((c.tc : Thread Cert.NewkIdeal.nD Cert.NewkIdeal.τ).loc Cert.NewkIdeal.main_arg1))
      ∧ θ_run (Cert.NewkRefIdeal.defs (F := Ideal)) (onTc (τ := Cert.NewkRefIdeal.τ) (Cert.NewkRefIdeal.main (F := Ideal))) ⟨m', fun _ => 0, g'⟩ (fun r => ∀ c : Dev Cert.NewkRefIdeal.nD,
          r.2.mem ((c.tc : Thread Cert.NewkRefIdeal.nD Cert.NewkRefIdeal.τ).loc Cert.NewkRefIdeal.main_v10) = v0 c
          ∧ r.2.mem ((c.tc : Thread Cert.NewkRefIdeal.nD Cert.NewkRefIdeal.τ).loc Cert.NewkRefIdeal.main_arg0) = m' ((c.tc : Thread Cert.NewkRefIdeal.nD Cert.NewkRefIdeal.τ).loc Cert.NewkRefIdeal.main_arg0)
          ∧ r.2.mem ((c.tc : Thread Cert.NewkRefIdeal.nD Cert.NewkRefIdeal.τ).loc Cert.NewkRefIdeal.main_arg1) = m' ((c.tc : Thread Cert.NewkRefIdeal.nD Cert.NewkRefIdeal.τ).loc Cert.NewkRefIdeal.main_arg1))

def preserves_Newv_NewvIdeal : Prop :=
  True

def algebraic_NewvIdeal_NewvRefIdeal [hNewvIdeal : Cert.NewvIdeal.Facts] [hNewvRefIdeal : Cert.NewvRefIdeal.Facts] : Prop :=
  ∀ (m : (ℓ : Loc Cert.NewvIdeal.nD Cert.NewvIdeal.τ Cert.NewvIdeal.sig) → Buf (Elt Ideal) ℓ) (g : Dev Cert.NewvIdeal.nD → PrngReg)
    (m' : (ℓ : Loc Cert.NewvRefIdeal.nD Cert.NewvRefIdeal.τ Cert.NewvRefIdeal.sig) → Buf (Elt Ideal) ℓ) (g' : Dev Cert.NewvRefIdeal.nD → PrngReg), Pre_NewvIdeal m →
    (∀ c : Dev Cert.NewvIdeal.nD,
      m' ((c.tc : Thread Cert.NewvRefIdeal.nD Cert.NewvRefIdeal.τ).loc Cert.NewvRefIdeal.main_arg0) = m ((c.tc : Thread Cert.NewvIdeal.nD Cert.NewvIdeal.τ).loc Cert.NewvIdeal.main_arg0)
      ∧ m' ((c.tc : Thread Cert.NewvRefIdeal.nD Cert.NewvRefIdeal.τ).loc Cert.NewvRefIdeal.main_arg1) = m ((c.tc : Thread Cert.NewvIdeal.nD Cert.NewvIdeal.τ).loc Cert.NewvIdeal.main_arg1)) →
    ∃ (v0 : (c : Dev Cert.NewvIdeal.nD) → Buf (Elt Ideal) ((c.tc : Thread Cert.NewvIdeal.nD Cert.NewvIdeal.τ).loc Cert.NewvIdeal.main_v0)),
      θ_run (Cert.NewvIdeal.defs (F := Ideal)) (onTc (τ := Cert.NewvIdeal.τ) (Cert.NewvIdeal.main (F := Ideal))) ⟨m, fun _ => 0, g⟩ (fun r => ∀ c : Dev Cert.NewvIdeal.nD,
          r.2.mem ((c.tc : Thread Cert.NewvIdeal.nD Cert.NewvIdeal.τ).loc Cert.NewvIdeal.main_v0) = v0 c
          ∧ r.2.mem ((c.tc : Thread Cert.NewvIdeal.nD Cert.NewvIdeal.τ).loc Cert.NewvIdeal.main_arg0) = m ((c.tc : Thread Cert.NewvIdeal.nD Cert.NewvIdeal.τ).loc Cert.NewvIdeal.main_arg0)
          ∧ r.2.mem ((c.tc : Thread Cert.NewvIdeal.nD Cert.NewvIdeal.τ).loc Cert.NewvIdeal.main_arg1) = m ((c.tc : Thread Cert.NewvIdeal.nD Cert.NewvIdeal.τ).loc Cert.NewvIdeal.main_arg1))
      ∧ θ_run (Cert.NewvRefIdeal.defs (F := Ideal)) (onTc (τ := Cert.NewvRefIdeal.τ) (Cert.NewvRefIdeal.main (F := Ideal))) ⟨m', fun _ => 0, g'⟩ (fun r => ∀ c : Dev Cert.NewvRefIdeal.nD,
          r.2.mem ((c.tc : Thread Cert.NewvRefIdeal.nD Cert.NewvRefIdeal.τ).loc Cert.NewvRefIdeal.main_v10) = v0 c
          ∧ r.2.mem ((c.tc : Thread Cert.NewvRefIdeal.nD Cert.NewvRefIdeal.τ).loc Cert.NewvRefIdeal.main_arg0) = m' ((c.tc : Thread Cert.NewvRefIdeal.nD Cert.NewvRefIdeal.τ).loc Cert.NewvRefIdeal.main_arg0)
          ∧ r.2.mem ((c.tc : Thread Cert.NewvRefIdeal.nD Cert.NewvRefIdeal.τ).loc Cert.NewvRefIdeal.main_arg1) = m' ((c.tc : Thread Cert.NewvRefIdeal.nD Cert.NewvRefIdeal.τ).loc Cert.NewvRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v30) = v0 c
          ∧ r.2.mem ((c.tc : Thread Cert.OutRefIdeal.nD Cert.OutRefIdeal.τ).loc Cert.OutRefIdeal.main_v54) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def Claim : Prop :=
  ∃ (hRet : Cert.Ret.Facts) (hRetIdeal : Cert.RetIdeal.Facts) (hRetRefIdeal : Cert.RetRefIdeal.Facts) (hUp : Cert.Up.Facts) (hUpIdeal : Cert.UpIdeal.Facts) (hUpRefIdeal : Cert.UpRefIdeal.Facts) (hProj : Cert.Proj.Facts) (hProjIdeal : Cert.ProjIdeal.Facts) (hProjRefIdeal : Cert.ProjRefIdeal.Facts) (hCache : Cert.Cache.Facts) (hCacheIdeal : Cert.CacheIdeal.Facts) (hCacheRefIdeal : Cert.CacheRefIdeal.Facts) (hDown : Cert.Down.Facts) (hDownIdeal : Cert.DownIdeal.Facts) (hDownRefIdeal : Cert.DownRefIdeal.Facts) (hGates : Cert.Gates.Facts) (hGatesIdeal : Cert.GatesIdeal.Facts) (hGatesRefIdeal : Cert.GatesRefIdeal.Facts) (hNext : Cert.Next.Facts) (hNextIdeal : Cert.NextIdeal.Facts) (hNextRefIdeal : Cert.NextRefIdeal.Facts) (hVals : Cert.Vals.Facts) (hValsIdeal : Cert.ValsIdeal.Facts) (hValsRefIdeal : Cert.ValsRefIdeal.Facts) (hLatkv : Cert.Latkv.Facts) (hLatkvIdeal : Cert.LatkvIdeal.Facts) (hLatkvRefIdeal : Cert.LatkvRefIdeal.Facts) (hLast : Cert.Last.Facts) (hLastIdeal : Cert.LastIdeal.Facts) (hLastRefIdeal : Cert.LastRefIdeal.Facts) (hFirst : Cert.First.Facts) (hFirstIdeal : Cert.FirstIdeal.Facts) (hFirstRefIdeal : Cert.FirstRefIdeal.Facts) (hNewk : Cert.Newk.Facts) (hNewkIdeal : Cert.NewkIdeal.Facts) (hNewkRefIdeal : Cert.NewkRefIdeal.Facts) (hNewv : Cert.Newv.Facts) (hNewvIdeal : Cert.NewvIdeal.Facts) (hNewvRefIdeal : Cert.NewvRefIdeal.Facts) (hOut : Cert.Out.Facts) (hOutIdeal : Cert.OutIdeal.Facts) (hOutRefIdeal : Cert.OutRefIdeal.Facts),
    quiescent_Ret (hRet := hRet)
    ∧ quiescent_RetIdeal (hRetIdeal := hRetIdeal)
    ∧ quiescent_RetRefIdeal (hRetRefIdeal := hRetRefIdeal)
    ∧ quiescent_Up (hUp := hUp)
    ∧ quiescent_UpIdeal (hUpIdeal := hUpIdeal)
    ∧ quiescent_UpRefIdeal (hUpRefIdeal := hUpRefIdeal)
    ∧ quiescent_Proj (hProj := hProj)
    ∧ quiescent_ProjIdeal (hProjIdeal := hProjIdeal)
    ∧ quiescent_ProjRefIdeal (hProjRefIdeal := hProjRefIdeal)
    ∧ quiescent_Cache (hCache := hCache)
    ∧ quiescent_CacheIdeal (hCacheIdeal := hCacheIdeal)
    ∧ quiescent_CacheRefIdeal (hCacheRefIdeal := hCacheRefIdeal)
    ∧ quiescent_Down (hDown := hDown)
    ∧ quiescent_DownIdeal (hDownIdeal := hDownIdeal)
    ∧ quiescent_DownRefIdeal (hDownRefIdeal := hDownRefIdeal)
    ∧ quiescent_Gates (hGates := hGates)
    ∧ quiescent_GatesIdeal (hGatesIdeal := hGatesIdeal)
    ∧ quiescent_GatesRefIdeal (hGatesRefIdeal := hGatesRefIdeal)
    ∧ quiescent_Next (hNext := hNext)
    ∧ quiescent_NextIdeal (hNextIdeal := hNextIdeal)
    ∧ quiescent_NextRefIdeal (hNextRefIdeal := hNextRefIdeal)
    ∧ quiescent_Vals (hVals := hVals)
    ∧ quiescent_ValsIdeal (hValsIdeal := hValsIdeal)
    ∧ quiescent_ValsRefIdeal (hValsRefIdeal := hValsRefIdeal)
    ∧ quiescent_Latkv (hLatkv := hLatkv)
    ∧ quiescent_LatkvIdeal (hLatkvIdeal := hLatkvIdeal)
    ∧ quiescent_LatkvRefIdeal (hLatkvRefIdeal := hLatkvRefIdeal)
    ∧ quiescent_Last (hLast := hLast)
    ∧ quiescent_LastIdeal (hLastIdeal := hLastIdeal)
    ∧ quiescent_LastRefIdeal (hLastRefIdeal := hLastRefIdeal)
    ∧ quiescent_First (hFirst := hFirst)
    ∧ quiescent_FirstIdeal (hFirstIdeal := hFirstIdeal)
    ∧ quiescent_FirstRefIdeal (hFirstRefIdeal := hFirstRefIdeal)
    ∧ quiescent_Newk (hNewk := hNewk)
    ∧ quiescent_NewkIdeal (hNewkIdeal := hNewkIdeal)
    ∧ quiescent_NewkRefIdeal (hNewkRefIdeal := hNewkRefIdeal)
    ∧ quiescent_Newv (hNewv := hNewv)
    ∧ quiescent_NewvIdeal (hNewvIdeal := hNewvIdeal)
    ∧ quiescent_NewvRefIdeal (hNewvRefIdeal := hNewvRefIdeal)
    ∧ quiescent_Out (hOut := hOut)
    ∧ quiescent_OutIdeal (hOutIdeal := hOutIdeal)
    ∧ quiescent_OutRefIdeal (hOutRefIdeal := hOutRefIdeal)
    ∧ preserves_Ret_RetIdeal
    ∧ algebraic_RetIdeal_RetRefIdeal (hRetIdeal := hRetIdeal) (hRetRefIdeal := hRetRefIdeal)
    ∧ preserves_Up_UpIdeal
    ∧ algebraic_UpIdeal_UpRefIdeal (hUpIdeal := hUpIdeal) (hUpRefIdeal := hUpRefIdeal)
    ∧ preserves_Proj_ProjIdeal
    ∧ algebraic_ProjIdeal_ProjRefIdeal (hProjIdeal := hProjIdeal) (hProjRefIdeal := hProjRefIdeal)
    ∧ preserves_Cache_CacheIdeal
    ∧ algebraic_CacheIdeal_CacheRefIdeal (hCacheIdeal := hCacheIdeal) (hCacheRefIdeal := hCacheRefIdeal)
    ∧ preserves_Down_DownIdeal
    ∧ algebraic_DownIdeal_DownRefIdeal (hDownIdeal := hDownIdeal) (hDownRefIdeal := hDownRefIdeal)
    ∧ preserves_Gates_GatesIdeal
    ∧ algebraic_GatesIdeal_GatesRefIdeal (hGatesIdeal := hGatesIdeal) (hGatesRefIdeal := hGatesRefIdeal)
    ∧ preserves_Next_NextIdeal
    ∧ algebraic_NextIdeal_NextRefIdeal (hNextIdeal := hNextIdeal) (hNextRefIdeal := hNextRefIdeal)
    ∧ preserves_Vals_ValsIdeal
    ∧ algebraic_ValsIdeal_ValsRefIdeal (hValsIdeal := hValsIdeal) (hValsRefIdeal := hValsRefIdeal)
    ∧ preserves_Latkv_LatkvIdeal
    ∧ algebraic_LatkvIdeal_LatkvRefIdeal (hLatkvIdeal := hLatkvIdeal) (hLatkvRefIdeal := hLatkvRefIdeal)
    ∧ preserves_Last_LastIdeal
    ∧ algebraic_LastIdeal_LastRefIdeal (hLastIdeal := hLastIdeal) (hLastRefIdeal := hLastRefIdeal)
    ∧ preserves_First_FirstIdeal
    ∧ algebraic_FirstIdeal_FirstRefIdeal (hFirstIdeal := hFirstIdeal) (hFirstRefIdeal := hFirstRefIdeal)
    ∧ preserves_Newk_NewkIdeal
    ∧ algebraic_NewkIdeal_NewkRefIdeal (hNewkIdeal := hNewkIdeal) (hNewkRefIdeal := hNewkRefIdeal)
    ∧ preserves_Newv_NewvIdeal
    ∧ algebraic_NewvIdeal_NewvRefIdeal (hNewvIdeal := hNewvIdeal) (hNewvRefIdeal := hNewvRefIdeal)
    ∧ preserves_Out_OutIdeal
    ∧ algebraic_OutIdeal_OutRefIdeal (hOutIdeal := hOutIdeal) (hOutRefIdeal := hOutRefIdeal)
-- ==== Ret.lean ====
abbrev S16384x8192 : Shape := ⟨2, ![16384, 8192]⟩
abbrev S2x8 : Shape := ⟨2, ![2, 8]⟩
abbrev S8x2 : Shape := ⟨2, ![8, 2]⟩
abbrev S8x2x1x1 : Shape := ⟨4, ![8, 2, 1, 1]⟩
abbrev S8x2x1x256 : Shape := ⟨4, ![8, 2, 1, 256]⟩
abbrev S8192x2048 : Shape := ⟨2, ![8192, 2048]⟩
abbrev S32x2x2x8x128x256 : Shape := ⟨6, ![32, 2, 2, 8, 128, 256]⟩
abbrev S256x1024 : Shape := ⟨2, ![256, 1024]⟩
abbrev S256x2048 : Shape := ⟨2, ![256, 2048]⟩
abbrev S1x2x2x8x128x256 : Shape := ⟨6, ![1, 2, 2, 8, 128, 256]⟩
abbrev S8x256x128 : Shape := ⟨3, ![8, 256, 128]⟩
abbrev S8x256x256 : Shape := ⟨3, ![8, 256, 256]⟩
abbrev S8x2x128x256 : Shape := ⟨4, ![8, 2, 128, 256]⟩
abbrev S2x2x8x128x256 : Shape := ⟨5, ![2, 2, 8, 128, 256]⟩
abbrev S128x128 : Shape := ⟨2, ![128, 128]⟩
abbrev S1x2x1x256 : Shape := ⟨4, ![1, 2, 1, 256]⟩
abbrev S2x1x256 : Shape := ⟨3, ![2, 1, 256]⟩
abbrev S1x1x256 : Shape := ⟨3, ![1, 1, 256]⟩
abbrev S1x256 : Shape := ⟨2, ![1, 256]⟩
abbrev S1x128 : Shape := ⟨2, ![1, 128]⟩
abbrev S1x128x128 : Shape := ⟨3, ![1, 128, 128]⟩
abbrev S128x256 : Shape := ⟨2, ![128, 256]⟩
abbrev S1x1x128x256 : Shape := ⟨4, ![1, 1, 128, 256]⟩
abbrev S1x1x2x8x128x256 : Shape := ⟨6, ![1, 1, 2, 8, 128, 256]⟩
abbrev S2x8x128x256 : Shape := ⟨4, ![2, 8, 128, 256]⟩
abbrev S1x128x256 : Shape := ⟨3, ![1, 128, 256]⟩
abbrev S128x384 : Shape := ⟨2, ![128, 384]⟩
abbrev S384x256 : Shape := ⟨2, ![384, 256]⟩
abbrev S128 : Shape := ⟨1, ![128]⟩
abbrev S128x1 : Shape := ⟨2, ![128, 1]⟩

abbrev nBuf : Space → Nat
  | .hbm => 7
  | .vmem => 20
  | .smem => 0
  | _ => 0

abbrev bufTy : (tb : Table) → Fin (tcTables nBuf tb) → BufTy
  | .hbm, ⟨0, _⟩ => ⟨S16384x8192, .bf16⟩
  | .hbm, ⟨1, _⟩ => ⟨S2x8, .f32⟩
  | .hbm, ⟨2, _⟩ => ⟨S8x2, .f32⟩
  | .hbm, ⟨3, _⟩ => ⟨S8x2x1x1, .f32⟩
  | .hbm, ⟨4, _⟩ => ⟨S8x2x1x256, .f32⟩
  | .hbm, ⟨5, _⟩ => ⟨S8192x2048, .bf16⟩
  | .hbm, ⟨6, _⟩ => ⟨S32x2x2x8x128x256, .f32⟩
  | .local _ .vmem, ⟨0, _⟩ => ⟨S8x2x1x256, .f32⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S1x2x2x8x128x256, .f32⟩
  | .local _ .vmem, ⟨12, _⟩ => ⟨S1x2x2x8x128x256, .f32⟩
  | .local _ .vmem, ⟨13, _⟩ => ⟨S8x256x128, .bf16⟩
  | .local _ .vmem, ⟨14, _⟩ => ⟨S8x256x128, .bf16⟩
  | .local _ .vmem, ⟨15, _⟩ => ⟨S8x256x128, .bf16⟩
  | .local _ .vmem, ⟨16, _⟩ => ⟨S8x256x128, .bf16⟩
  | .local _ .vmem, ⟨17, _⟩ => ⟨S8x256x256, .bf16⟩
  | .local _ .vmem, ⟨18, _⟩ => ⟨S8x2x128x256, .bf16⟩
  | .local _ .vmem, ⟨19, _⟩ => ⟨S8x2x128x256, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi c1_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi c1_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.addi c2_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

abbrev stage0_0 : Fin 1 → Memref sig .tc .vmem S8x2x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RetRefIdeal.lean ====
abbrev S16384x8192 : Shape := ⟨2, ![16384, 8192]⟩
abbrev S2x8 : Shape := ⟨2, ![2, 8]⟩
abbrev S8192x8192 : Shape := ⟨2, ![8192, 8192]⟩
abbrev S32x256x8192 : Shape := ⟨3, ![32, 256, 8192]⟩
abbrev S32x256x1024 : Shape := ⟨3, ![32, 256, 1024]⟩
abbrev S32x256x8x128 : Shape := ⟨4, ![32, 256, 8, 128]⟩
abbrev S32x256x2048 : Shape := ⟨3, ![32, 256, 2048]⟩
abbrev S32x256x8x256 : Shape := ⟨4, ![32, 256, 8, 256]⟩
abbrev S_ : Shape := ⟨0, ![]⟩
abbrev S1x8 : Shape := ⟨2, ![1, 8]⟩
abbrev S8 : Shape := ⟨1, ![8]⟩
abbrev S32x2x128x8x128 : Shape := ⟨5, ![32, 2, 128, 8, 128]⟩
abbrev S32x2x128x8x256 : Shape := ⟨5, ![32, 2, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S32x2x8x128x128 : Shape := ⟨5, ![32, 2, 8, 128, 128]⟩
abbrev S1x1x8x128x128 : Shape := ⟨5, ![1, 1, 8, 128, 128]⟩
abbrev S32x2x8x256x128 : Shape := ⟨5, ![32, 2, 8, 256, 128]⟩
abbrev S8x1 : Shape := ⟨2, ![8, 1]⟩
abbrev S8x128 : Shape := ⟨2, ![8, 128]⟩
abbrev S128x8 : Shape := ⟨2, ![128, 8]⟩
abbrev S1x1x128x8x1 : Shape := ⟨5, ![1, 1, 128, 8, 1]⟩
abbrev S32x2x8x128x256 : Shape := ⟨5, ![32, 2, 8, 128, 256]⟩
abbrev S1x8x1x1 : Shape := ⟨4, ![1, 8, 1, 1]⟩
abbrev S32x8x128x256 : Shape := ⟨4, ![32, 8, 128, 256]⟩
abbrev S32x1x8x128x256 : Shape := ⟨5, ![32, 1, 8, 128, 256]⟩
abbrev S32x256x8 : Shape := ⟨3, ![32, 256, 8]⟩
abbrev S32x256x8x1 : Shape := ⟨4, ![32, 256, 8, 1]⟩
abbrev S8192x2048 : Shape := ⟨2, ![8192, 2048]⟩
abbrev S32x1x2x8x128x256 : Shape := ⟨6, ![32, 1, 2, 8, 128, 256]⟩
abbrev S32x2x2x8x128x256 : Shape := ⟨6, ![32, 2, 2, 8, 128, 256]⟩

abbrev nBuf : Space → Nat
  | .hbm => 240
  | .vmem => 0
  | .smem => 0
  | _ => 0

abbrev hbmTy0_0 (i : Nat) : BufTy := match i % 128 with
  | 0 => ⟨S16384x8192, .bf16⟩
  | 1 => ⟨S2x8, .f32⟩
  | 2 => ⟨S8192x8192, .bf16⟩
  | 3 => ⟨S8192x8192, .f32⟩
  | 4 => ⟨S32x256x8192, .f32⟩
  | 5 => ⟨S32x256x1024, .f32⟩
  | 6 => ⟨S32x256x8x128, .f32⟩
  | 7 => ⟨S32x256x1024, .f32⟩
  | 8 => ⟨S32x256x8x128, .f32⟩
  | 9 => ⟨S32x256x2048, .f32⟩
  | 10 => ⟨S32x256x8x256, .f32⟩
  | 11 => ⟨S32x256x2048, .f32⟩
  | 12 => ⟨S2x8, .f32⟩
  | 13 => ⟨S_, .f32⟩
  | 14 => ⟨S2x8, .f32⟩
  | 15 => ⟨S2x8, .f32⟩
  | 16 => ⟨S2x8, .f32⟩
  | 17 => ⟨S2x8, .f32⟩
  | 18 => ⟨S2x8, .i1⟩
  | 19 => ⟨S2x8, .f32⟩
  | 20 => ⟨S2x8, .f32⟩
  | 21 => ⟨S2x8, .f32⟩
  | 22 => ⟨S2x8, .f32⟩
  | 23 => ⟨S2x8, .f32⟩
  | 24 => ⟨S2x8, .f32⟩
  | 25 => ⟨S2x8, .f32⟩
  | 26 => ⟨S2x8, .f32⟩
  | 27 => ⟨S2x8, .f32⟩
  | 28 => ⟨S_, .f32⟩
  | 29 => ⟨S32x256x8x128, .f32⟩
  | 30 => ⟨S32x256x8x128, .f32⟩
  | 31 => ⟨S1x8, .f32⟩
  | 32 => ⟨S8, .f32⟩
  | 33 => ⟨S32x2x128x8x128, .f32⟩
  | 34 => ⟨S32x2x128x8x128, .f32⟩
  | 35 => ⟨S32x2x128x8x256, .f32⟩
  | 36 => ⟨S128, .f32⟩
  | 37 => ⟨S128x1, .f32⟩
  | 38 => ⟨S1x128, .f32⟩
  | 39 => ⟨S128x128, .f32⟩
  | 40 => ⟨S128x128, .f32⟩
  | 41 => ⟨S128x128, .f32⟩
  | 42 => ⟨S_, .f32⟩
  | 43 => ⟨S128x128, .f32⟩
  | 44 => ⟨S128x128, .i1⟩
  | 45 => ⟨S8x1x1, .f32⟩
  | 46 => ⟨S_, .f32⟩
  | 47 => ⟨S128x128, .f32⟩
  | 48 => ⟨S128x128, .f32⟩
  | 49 => ⟨S1x128x128, .f32⟩
  | 50 => ⟨S8x128x128, .f32⟩
  | 51 => ⟨S8x128x128, .f32⟩
  | 52 => ⟨S8x128x128, .f32⟩
  | 53 => ⟨S8x128x128, .f32⟩
  | 54 => ⟨S_, .f32⟩
  | 55 => ⟨S_, .f32⟩
  | 56 => ⟨S8x128x128, .i1⟩
  | 57 => ⟨S8x128x128, .f32⟩
  | 58 => ⟨S8x128x128, .f32⟩
  | 59 => ⟨S32x2x8x128x128, .f32⟩
  | 60 => ⟨S1x1x8x128x128, .f32⟩
  | 61 => ⟨S32x2x8x128x128, .f32⟩
  | 62 => ⟨S32x2x8x128x128, .f32⟩
  | 63 => ⟨S32x2x8x256x128, .f32⟩
  | 64 => ⟨S32x2x128x8x256, .f32⟩
  | 65 => ⟨S8x1, .f32⟩
  | 66 => ⟨S_, .f32⟩
  | 67 => ⟨S128, .f32⟩
  | 68 => ⟨S128, .f32⟩
  | 69 => ⟨S1x128, .f32⟩
  | 70 => ⟨S8x128, .f32⟩
  | 71 => ⟨S8x128, .f32⟩
  | 72 => ⟨S8x128, .f32⟩
  | 73 => ⟨S8x128, .f32⟩
  | 74 => ⟨S128x8, .f32⟩
  | 75 => ⟨S1x1x128x8x1, .f32⟩
  | 76 => ⟨S32x2x128x8x128, .f32⟩
  | 77 => ⟨S32x2x128x8x128, .f32⟩
  | 78 => ⟨S32x2x8x128x256, .f32⟩
  | 79 => ⟨S_, .f32⟩
  | 80 => ⟨S8, .f32⟩
  | 81 => ⟨S8, .f32⟩
  | 82 => ⟨S8, .f32⟩
  | 83 => ⟨S1x8x1x1, .f32⟩
  | 84 => ⟨S_, .f32⟩
  | 85 => ⟨S32x8x128x256, .f32⟩
  | 86 => ⟨S32x8x128x256, .f32⟩
  | 87 => ⟨S32x8x128x256, .f32⟩
  | 88 => ⟨S32x1x8x128x256, .f32⟩
  | 89 => ⟨S32x8x128x256, .f32⟩
  | 90 => ⟨S32x8x128x256, .f32⟩
  | 91 => ⟨S32x8x128x256, .f32⟩
  | 92 => ⟨S32x8x128x256, .f32⟩
  | 93 => ⟨S32x1x8x128x256, .f32⟩
  | 94 => ⟨S32x8x128x256, .f32⟩
  | 95 => ⟨S32x8x128x256, .f32⟩
  | 96 => ⟨S32x1x8x128x256, .f32⟩
  | 97 => ⟨S32x1x8x128x256, .f32⟩
  | 98 => ⟨S32x2x8x128x256, .f32⟩
  | 99 => ⟨S8x1, .f32⟩
  | 100 => ⟨S_, .f32⟩
  | 101 => ⟨S128, .f32⟩
  | 102 => ⟨S128, .f32⟩
  | 103 => ⟨S1x128, .f32⟩
  | 104 => ⟨S8x128, .f32⟩
  | 105 => ⟨S8x128, .f32⟩
  | 106 => ⟨S8x128, .f32⟩
  | 107 => ⟨S8x128, .f32⟩
  | 108 => ⟨S32x2x8x256x128, .f32⟩
  | 109 => ⟨S32x2x128x8x256, .f32⟩
  | 110 => ⟨S128x8, .f32⟩
  | 111 => ⟨S1x1x128x8x1, .f32⟩
  | 112 => ⟨S32x2x128x8x256, .f32⟩
  | 113 => ⟨S32x2x128x8x256, .f32⟩
  | 114 => ⟨S32x2x128x8x256, .f32⟩
  | 115 => ⟨S32x256x8x256, .f32⟩
  | 116 => ⟨S32x256x8x128, .f32⟩
  | 117 => ⟨S32x256x8x128, .f32⟩
  | 118 => ⟨S32x256x8x256, .f32⟩
  | 119 => ⟨S1x8, .f32⟩
  | 120 => ⟨S8, .f32⟩
  | 121 => ⟨S32x2x128x8x128, .f32⟩
  | 122 => ⟨S32x2x128x8x128, .f32⟩
  | 123 => ⟨S32x2x128x8x256, .f32⟩
  | 124 => ⟨S128, .f32⟩
  | 125 => ⟨S128x1, .f32⟩
  | 126 => ⟨S1x128, .f32⟩
  | 127 => ⟨S128x128, .f32⟩
  | _ => ⟨S16384x8192, .bf16⟩

abbrev hbmTy0_1 (i : Nat) : BufTy := match i % 128 with
  | 0 => ⟨S128x128, .f32⟩
  | 1 => ⟨S128x128, .f32⟩
  | 2 => ⟨S_, .f32⟩
  | 3 => ⟨S128x128, .f32⟩
  | 4 => ⟨S128x128, .i1⟩
  | 5 => ⟨S8x1x1, .f32⟩
  | 6 => ⟨S_, .f32⟩
  | 7 => ⟨S128x128, .f32⟩
  | 8 => ⟨S128x128, .f32⟩
  | 9 => ⟨S1x128x128, .f32⟩
  | 10 => ⟨S8x128x128, .f32⟩
  | 11 => ⟨S8x128x128, .f32⟩
  | 12 => ⟨S8x128x128, .f32⟩
  | 13 => ⟨S8x128x128, .f32⟩
  | 14 => ⟨S_, .f32⟩
  | 15 => ⟨S_, .f32⟩
  | 16 => ⟨S8x128x128, .i1⟩
  | 17 => ⟨S8x128x128, .f32⟩
  | 18 => ⟨S8x128x128, .f32⟩
  | 19 => ⟨S32x2x8x128x128, .f32⟩
  | 20 => ⟨S1x1x8x128x128, .f32⟩
  | 21 => ⟨S32x2x8x128x128, .f32⟩
  | 22 => ⟨S32x2x8x128x128, .f32⟩
  | 23 => ⟨S32x2x8x256x128, .f32⟩
  | 24 => ⟨S32x2x128x8x256, .f32⟩
  | 25 => ⟨S8x1, .f32⟩
  | 26 => ⟨S_, .f32⟩
  | 27 => ⟨S128, .f32⟩
  | 28 => ⟨S128, .f32⟩
  | 29 => ⟨S1x128, .f32⟩
  | 30 => ⟨S8x128, .f32⟩
  | 31 => ⟨S8x128, .f32⟩
  | 32 => ⟨S8x128, .f32⟩
  | 33 => ⟨S8x128, .f32⟩
  | 34 => ⟨S128x8, .f32⟩
  | 35 => ⟨S1x1x128x8x1, .f32⟩
  | 36 => ⟨S32x2x128x8x128, .f32⟩
  | 37 => ⟨S32x2x128x8x128, .f32⟩
  | 38 => ⟨S32x2x8x128x256, .f32⟩
  | 39 => ⟨S_, .f32⟩
  | 40 => ⟨S8, .f32⟩
  | 41 => ⟨S8, .f32⟩
  | 42 => ⟨S8, .f32⟩
  | 43 => ⟨S1x8x1x1, .f32⟩
  | 44 => ⟨S_, .f32⟩
  | 45 => ⟨S32x8x128x256, .f32⟩
  | 46 => ⟨S32x8x128x256, .f32⟩
  | 47 => ⟨S32x8x128x256, .f32⟩
  | 48 => ⟨S32x1x8x128x256, .f32⟩
  | 49 => ⟨S32x8x128x256, .f32⟩
  | 50 => ⟨S32x8x128x256, .f32⟩
  | 51 => ⟨S32x8x128x256, .f32⟩
  | 52 => ⟨S32x8x128x256, .f32⟩
  | 53 => ⟨S32x1x8x128x256, .f32⟩
  | 54 => ⟨S32x8x128x256, .f32⟩
  | 55 => ⟨S32x8x128x256, .f32⟩
  | 56 => ⟨S32x1x8x128x256, .f32⟩
  | 57 => ⟨S32x1x8x128x256, .f32⟩
  | 58 => ⟨S32x2x8x128x256, .f32⟩
  | 59 => ⟨S8x1, .f32⟩
  | 60 => ⟨S_, .f32⟩
  | 61 => ⟨S128, .f32⟩
  | 62 => ⟨S128, .f32⟩
  | 63 => ⟨S1x128, .f32⟩
  | 64 => ⟨S8x128, .f32⟩
  | 65 => ⟨S8x128, .f32⟩
  | 66 => ⟨S8x128, .f32⟩
  | 67 => ⟨S8x128, .f32⟩
  | 68 => ⟨S32x2x8x256x128, .f32⟩
  | 69 => ⟨S32x2x128x8x256, .f32⟩
  | 70 => ⟨S128x8, .f32⟩
  | 71 => ⟨S1x1x128x8x1, .f32⟩
  | 72 => ⟨S32x2x128x8x256, .f32⟩
  | 73 => ⟨S32x2x128x8x256, .f32⟩
  | 74 => ⟨S32x2x128x8x256, .f32⟩
  | 75 => ⟨S32x256x8x256, .f32⟩
  | 76 => ⟨S32x256x8x256, .f32⟩
  | 77 => ⟨S32x256x8x256, .f32⟩
  | 78 => ⟨S32x256x8x256, .f32⟩
  | 79 => ⟨S_, .f32⟩
  | 80 => ⟨S32x256x8, .f32⟩
  | 81 => ⟨S32x256x8x1, .f32⟩
  | 82 => ⟨S_, .f32⟩
  | 83 => ⟨S32x256x8x1, .f32⟩
  | 84 => ⟨S32x256x8x1, .f32⟩
  | 85 => ⟨S_, .f32⟩
  | 86 => ⟨S32x256x8x1, .f32⟩
  | 87 => ⟨S32x256x8x1, .f32⟩
  | 88 => ⟨S32x256x8x1, .f32⟩
  | 89 => ⟨S32x256x8x256, .f32⟩
  | 90 => ⟨S32x256x8x256, .f32⟩
  | 91 => ⟨S32x256x8x256, .f32⟩
  | 92 => ⟨S32x256x8x256, .f32⟩
  | 93 => ⟨S32x256x8x256, .f32⟩
  | 94 => ⟨S_, .f32⟩
  | 95 => ⟨S32x256x8x256, .f32⟩
  | 96 => ⟨S32x256x8x256, .f32⟩
  | 97 => ⟨S_, .f32⟩
  | 98 => ⟨S32x256x8x256, .f32⟩
  | 99 => ⟨S32x256x8x256, .f32⟩
  | 100 => ⟨S32x256x8x256, .f32⟩
  | 101 => ⟨S32x256x8x256, .f32⟩
  | 102 => ⟨S32x1x8x128x256, .f32⟩
  | 103 => ⟨S32x1x8x128x256, .f32⟩
  | 104 => ⟨S32x2x8x128x256, .f32⟩
  | 105 => ⟨S8192x2048, .f32⟩
  | 106 => ⟨S8192x2048, .bf16⟩
  | 107 => ⟨S_, .f32⟩
  | 108 => ⟨S32x2x8x128x256, .f32⟩
  | 109 => ⟨S32x1x2x8x128x256, .f32⟩
  | 110 => ⟨S32x1x2x8x128x256, .f32⟩
  | 111 => ⟨S32x2x2x8x128x256, .f32⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_4 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_5 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_6 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_7 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_8 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_9 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_10 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_11 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_12 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_13 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_14 : Ref sig .tc := ⟨.hbm, 207, rfl⟩
abbrev main_v169 : Ref sig .tc := ⟨.hbm, 208, rfl⟩
abbrev main_v170 : Ref sig .tc := ⟨.hbm, 209, rfl⟩
abbrev main_cst_15 : Ref sig .tc := ⟨.hbm, 210, rfl⟩
abbrev main_v171 : Ref sig .tc := ⟨.hbm, 211, rfl⟩
abbrev main_v172 : Ref sig .tc := ⟨.hbm, 212, rfl⟩
abbrev main_cst_16 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_call7_v0 : Ref sig .tc := ⟨.hbm, 220, rfl⟩
abbrev main_call7_v1 : Ref sig .tc := ⟨.hbm, 221, rfl⟩
abbrev main_call7_cst : Ref sig .tc := ⟨.hbm, 222, rfl⟩
abbrev main_call7_v2 : Ref sig .tc := ⟨.hbm, 223, rfl⟩
abbrev main_call7_v3 : Ref sig .tc := ⟨.hbm, 224, rfl⟩
abbrev main_call7_cst_0 : Ref sig .tc := ⟨.hbm, 225, rfl⟩
abbrev main_call7_v4 : Ref sig .tc := ⟨.hbm, 226, rfl⟩
abbrev main_call7_v5 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_cst_17 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩

abbrev nD : Nat := 1
abbrev τ : Topo := Topo.v7x

variable {F : FTy → Type} [FloatOps F]
-- ==== Up.lean ====
abbrev S16384x2048 : Shape := ⟨2, ![16384, 2048]⟩
abbrev S2x2x2048x11264 : Shape := ⟨4, ![2, 2, 2048, 11264]⟩
abbrev S16384x5632 : Shape := ⟨2, ![16384, 5632]⟩
abbrev S2048x2048 : Shape := ⟨2, ![2048, 2048]⟩
abbrev S1x1x2048x512 : Shape := ⟨4, ![1, 1, 2048, 512]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 3
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2x2x2048x11264, .f32⟩
  | .hbm, ⟨2, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x2048 : Shape := ⟨2, ![16384, 2048]⟩
abbrev S2x2x2048x11264 : Shape := ⟨4, ![2, 2, 2048, 11264]⟩
abbrev S1x1x2048x11264 : Shape := ⟨4, ![1, 1, 2048, 11264]⟩
abbrev S2048x11264 : Shape := ⟨2, ![2048, 11264]⟩
abbrev S16384x11264 : Shape := ⟨2, ![16384, 11264]⟩
abbrev S16384x5632 : Shape := ⟨2, ![16384, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2x2048x11264, .f32⟩
  | .hbm, ⟨2, _⟩ => ⟨S16384x2048, .f32⟩
  | .hbm, ⟨3, _⟩ => ⟨S1x1x2048x11264, .f32⟩
  | .hbm, ⟨4, _⟩ => ⟨S2048x11264, .f32⟩
  | .hbm, ⟨5, _⟩ => ⟨S16384x11264, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proj.lean ====
abbrev S16384x2048 : Shape := ⟨2, ![16384, 2048]⟩
abbrev S2x2048x17408 : Shape := ⟨3, ![2, 2048, 17408]⟩
abbrev S16384x9216 : Shape := ⟨2, ![16384, 9216]⟩
abbrev S2048x2048 : Shape := ⟨2, ![2048, 2048]⟩
abbrev S1x2048x1024 : Shape := ⟨3, ![1, 2048, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S16384x9216, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x2048 : Shape := ⟨2, ![16384, 2048]⟩
abbrev S2x2048x17408 : Shape := ⟨3, ![2, 2048, 17408]⟩
abbrev S1x2048x17408 : Shape := ⟨3, ![1, 2048, 17408]⟩
abbrev S2048x17408 : Shape := ⟨2, ![2048, 17408]⟩
abbrev S16384x17408 : Shape := ⟨2, ![16384, 17408]⟩
abbrev S16384x9216 : Shape := ⟨2, ![16384, 9216]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S16384x2048, .f32⟩
  | .hbm, ⟨3, _⟩ => ⟨S1x2048x17408, .f32⟩
  | .hbm, ⟨4, _⟩ => ⟨S2048x17408, .f32⟩
  | .hbm, ⟨5, _⟩ => ⟨S16384x17408, .f32⟩
  | .hbm, ⟨6, _⟩ => ⟨S16384x9216, .f32⟩
  | .hbm, ⟨7, _⟩ => ⟨S16384x9216, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Cache.lean ====
abbrev S16384x2048 : Shape := ⟨2, ![16384, 2048]⟩
abbrev S2x2048x17408 : Shape := ⟨3, ![2, 2048, 17408]⟩
abbrev S32x2x256x1024 : Shape := ⟨4, ![32, 2, 256, 1024]⟩
abbrev S512x2048 : Shape := ⟨2, ![512, 2048]⟩
abbrev S1x2048x1024 : Shape := ⟨3, ![1, 2048, 1024]⟩
abbrev S2x1x256x1024 : Shape := ⟨4, ![2, 1, 256, 1024]⟩
abbrev S2048x1024 : Shape := ⟨2, ![2048, 1024]⟩
abbrev S512x1024 : Shape := ⟨2, ![512, 1024]⟩
abbrev S2x256x1024 : Shape := ⟨3, ![2, 256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S32x2x256x1024, .f32⟩
  | .hbm, ⟨3, _⟩ => ⟨S32x2x256x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S2x1x256x1024, .f32⟩
  | .local _ .vmem, ⟨4, _⟩ => ⟨S2x1x256x1024, .f32⟩
  | .local _ .vmem, ⟨5, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c9_i32 : BitVec 32 := 9#32
  let c0_i32_0 : BitVec 32 := 0#32
  ![c1_i32.toNat, c0_i32.toNat, c9_i32.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CacheRefIdeal.lean ====
abbrev S16384x2048 : Shape := ⟨2, ![16384, 2048]⟩
abbrev S2x2048x17408 : Shape := ⟨3, ![2, 2048, 17408]⟩
abbrev S32x2x256x1024 : Shape := ⟨4, ![32, 2, 256, 1024]⟩
abbrev S8192x2048 : Shape := ⟨2, ![8192, 2048]⟩
abbrev S1x2048x17408 : Shape := ⟨3, ![1, 2048, 17408]⟩
abbrev S2048x17408 : Shape := ⟨2, ![2048, 17408]⟩
abbrev S8192x17408 : Shape := ⟨2, ![8192, 17408]⟩
abbrev S8192x1024 : Shape := ⟨2, ![8192, 1024]⟩
abbrev S32x1x256x1024 : Shape := ⟨4, ![32, 1, 256, 1024]⟩
abbrev S32x256x1024 : Shape := ⟨3, ![32, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S32x2x256x1024, .f32⟩
  | .hbm, ⟨3, _⟩ => ⟨S8192x2048, .bf16⟩
  | .hbm, ⟨4, _⟩ => ⟨S8192x2048, .f32⟩
  | .hbm, ⟨5, _⟩ => ⟨S1x2048x17408, .f32⟩
  | .hbm, ⟨6, _⟩ => ⟨S2048x17408, .f32⟩
  | .hbm, ⟨7, _⟩ => ⟨S8192x17408, .f32⟩
  | .hbm, ⟨8, _⟩ => ⟨S8192x1024, .f32⟩
  | .hbm, ⟨9, _⟩ => ⟨S32x1x256x1024, .f32⟩
  | .hbm, ⟨10, _⟩ => ⟨S32x256x1024, .f32⟩
  | .hbm, ⟨11, _⟩ => ⟨S32x256x1024, .f32⟩
  | .hbm, ⟨12, _⟩ => ⟨S32x1x256x1024, .f32⟩
  | .hbm, ⟨13, _⟩ => ⟨S32x1x256x1024, .f32⟩
  | .hbm, ⟨14, _⟩ => ⟨S32x2x256x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Down.lean ====
abbrev S16384x5632 : Shape := ⟨2, ![16384, 5632]⟩
abbrev S2x2x5632x2048 : Shape := ⟨4, ![2, 2, 5632, 2048]⟩
abbrev S16384x2048 : Shape := ⟨2, ![16384, 2048]⟩
abbrev S144x1x2048 : Shape := ⟨3, ![144, 1, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S8192x2048 : Shape := ⟨2, ![8192, 2048]⟩
abbrev S256x5632 : Shape := ⟨2, ![256, 5632]⟩
abbrev S1x1x512x2048 : Shape := ⟨4, ![1, 1, 512, 2048]⟩
abbrev S256x2048 : Shape := ⟨2, ![256, 2048]⟩
abbrev S5632x2048 : Shape := ⟨2, ![5632, 2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x5632, .bf16⟩
  | .hbm, ⟨1, _⟩ => ⟨S2x2x5632x2048, .f32⟩
  | .hbm, ⟨2, _⟩ => ⟨S16384x2048, .f32⟩
  | .hbm, ⟨3, _⟩ => ⟨S144x1x2048, .f32⟩
  | .hbm, ⟨4, _⟩ => ⟨S2x3x2048, .f32⟩
  | .hbm, ⟨5, _⟩ => ⟨S1x1x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S1x1x512x2048, .f32⟩
  | .local _ .vmem, ⟨3, _⟩ => ⟨S1x1x512x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S5632x2048, .bf16⟩
  | .local _ .vmem, ⟨14, _⟩ => ⟨S256x2048, .f32⟩
  | .local _ .vmem, ⟨15, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![76], ![false]⟩

def k0_cond1 (i : grid0.Coords) : BitVec 1 :=
  let arg0 : BitVec 32 := BitVec.ofNat 32 (i 0).val
  let c11_i32_0 : BitVec 32 := 11#32
  let v1 : BitVec 1 := Scalar.cmpi .slt arg0 c11_i32_0
  let v2 : BitVec 32 := Scalar.extui v1
  let c0_i32 : BitVec 32 := 0#32
  let v3 : BitVec 1 := Scalar.cmpi .ne v2 c0_i32
  v3

def k0_mult1 (i : grid0.Coords) : BitVec 32 :=
  let arg0 : BitVec 32 := BitVec.ofNat 32 (i 0).val
  let c512_i32 : BitVec 32 := 512#32
  let v63 : BitVec 32 := Scalar.muli arg0 c512_i32
  v63
def k0_off1 (i : grid0.Coords) : Fin 2 → Nat :=
  let arg0 : BitVec 32 := BitVec.ofNat 32 (i 0).val
  let c512_i32 : BitVec 32 := 512#32
  let v63 : BitVec 32 := Scalar.muli arg0 c512_i32
  let v64 : BitVec 32 := v63
  let v65 : Index := Scalar.indexCast v64
  let c0_34 : Index := 0#32
  ![v65.toNat, 0]
def k0_cond3 (i : grid0.Coords) : BitVec 1 :=
  let arg0 : BitVec 32 := BitVec.ofNat 32 (i 0).val
  let c11_i32 : BitVec 32 := 11#32
  let v0 : BitVec 32 := Scalar.subi arg0 c11_i32
  let c0_i32_3 : BitVec 32 := 0#32
  let v7 : BitVec 1 := Scalar.cmpi .sgt v0 c0_i32_3
  let c64_i32 : BitVec 32 := 64#32
  let v8 : BitVec 1 := Scalar.cmpi .slt v0 c64_i32
  let v9 : BitVec 1 := Scalar.andi v7 v8
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi v0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v21 : BitVec 1 := Scalar.andi v9 v20
  let c1_i32_9 : BitVec 32 := 1#32
  let v22 : BitVec 32 := Scalar.subi v0 c1_i32_9
  let c32_i32 : BitVec 32 := 32#32
  let v23 : BitVec 1 := Scalar.cmpi .slt v22 c32_i32
  let v24 : BitVec 1 := Scalar.andi v21 v23
  let v25 : BitVec 32 := Scalar.extui v24
  let c0_i32_10 : BitVec 32 := 0#32
  let v26 : BitVec 1 := Scalar.cmpi .ne v25 c0_i32_10
  v26

def k0_cond5 (i : grid0.Coords) : BitVec 1 :=
  let arg0 : BitVec 32 := BitVec.ofNat 32 (i 0).val
  let c11_i32 : BitVec 32 := 11#32
  let v0 : BitVec 32 := Scalar.subi arg0 c11_i32
  let c0_i32_14 : BitVec 32 := 0#32
  let v32 : BitVec 1 := Scalar.cmpi .sgt v0 c0_i32_14
  let c64_i32_15 : BitVec 32 := 64#32
  let v33 : BitVec 1 := Scalar.cmpi .slt v0 c64_i32_15
  let v34 : BitVec 1 := Scalar.andi v32 v33
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v0 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1_i32_22 : BitVec 32 := 1#32
  let v45 : BitVec 1 := Scalar.cmpi .eq v44 c1_i32_22
  let v46 : BitVec 1 := Scalar.andi v34 v45
  let c1_i32_23 : BitVec 32 := 1#32
  let v47 : BitVec 32 := Scalar.subi v0 c1_i32_23
  let c32_i32_24 : BitVec 32 := 32#32
  let v48 : BitVec 1 := Scalar.cmpi .slt v47 c32_i32_24
  let v49 : BitVec 1 := Scalar.andi v46 v48
  let v50 : BitVec 32 := Scalar.extui v49
  let c0_i32_25 : BitVec 32 := 0#32
  let v51 : BitVec 1 := Scalar.cmpi .ne v50 c0_i32_25
  v51

def k0_cond4 (i : grid0.Coords) : BitVec 1 :=
  let arg0 : BitVec 32 := BitVec.ofNat 32 (i 0).val
  let c11_i32 : BitVec 32 := 11#32
  let v0 : BitVec 32 := Scalar.subi arg0 c11_i32
  let c0_i32_3 : BitVec 32 := 0#32
  let v7 : BitVec 1 := Scalar.cmpi .sgt v0 c0_i32_3
  let c64_i32 : BitVec 32 := 64#32
  let v8 : BitVec 1 := Scalar.cmpi .slt v0 c64_i32
  let v9 : BitVec 1 := Scalar.andi v7 v8
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi v0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v21 : BitVec 1 := Scalar.andi v9 v20
  let c1_i32_11 : BitVec 32 := 1#32
  let v27 : BitVec 32 := Scalar.subi v0 c1_i32_11
  let c32_i32_12 : BitVec 32 := 32#32
  let v28 : BitVec 1 := Scalar.cmpi .sge v27 c32_i32_12
  let v29 : BitVec 1 := Scalar.andi v21 v28
  let v30 : BitVec 32 := Scalar.extui v29
  let c0_i32_13 : BitVec 32 := 0#32
  let v31 : BitVec 1 := Scalar.cmpi .ne v30 c0_i32_13
  v31

def k0_cond6 (i : grid0.Coords) : BitVec 1 :=
  let arg0 : BitVec 32 := BitVec.ofNat 32 (i 0).val
  let c11_i32 : BitVec 32 := 11#32
  let v0 : BitVec 32 := Scalar.subi arg0 c11_i32
  let c0_i32_14 : BitVec 32 := 0#32
  let v32 : BitVec 1 := Scalar.cmpi .sgt v0 c0_i32_14
  let c64_i32_15 : BitVec 32 := 64#32
  let v33 : BitVec 1 := Scalar.cmpi .slt v0 c64_i32_15
  let v34 : BitVec 1 := Scalar.andi v32 v33
  let c2_i32_16 : BitVec 32 := 2#32
  let c0_i32_17 : BitVec 32 := 0#32
  let v35 : BitVec 1 := Scalar.cmpi .eq c2_i32_16 c0_i32_17
  let c1_i32_18 : BitVec 32 := 1#32
  let v36 : BitVec 32 := Scalar.select v35 c1_i32_18 c2_i32_16
  let v37 : BitVec 32 := Scalar.remsi v0 v36
  let c0_i32_20 : BitVec 32 := 0#32
  let v39 : BitVec 1 := Scalar.cmpi .slt v37 c0_i32_20
  let c0_i32_21 : BitVec 32 := 0#32
  let v40 : BitVec 1 := Scalar.cmpi .slt v36 c0_i32_21
  let v41 : BitVec 1 := Scalar.xori v39 v40
  let c0_i32_19 : BitVec 32 := 0#32
  let v38 : BitVec 1 := Scalar.cmpi .ne v37 c0_i32_19
  let v42 : BitVec 1 := Scalar.andi v41 v38
  let v43 : BitVec 32 := Scalar.addi v37 v36
  let v44 : BitVec 32 := Scalar.select v42 v43 v37
  let c1_i32_22 : BitVec 32 := 1#32
  let v45 : BitVec 1 := Scalar.cmpi .eq v44 c1_i32_22
  let v46 : BitVec 1 := Scalar.andi v34 v45
  let c1_i32_26 : BitVec 32 := 1#32
  let v52 : BitVec 32 := Scalar.subi v0 c1_i32_26
  let c32_i32_27 : BitVec 32 := 32#32
  let v53 : BitVec 1 := Scalar.cmpi .sge v52 c32_i32_27
  let v54 : BitVec 1 := Scalar.andi v46 v53
  let v55 : BitVec 32 := Scalar.extui v54
  let c0_i32_28 : BitVec 32 := 0#32
  let v56 : BitVec 1 := Scalar.cmpi .ne v55 c0_i32_28
  v56

def k0_cond7 (i : grid0.Coords) : BitVec 1 :=
  let arg0 : BitVec 32 := BitVec.ofNat 32 (i 0).val
  let c11_i32 : BitVec 32 := 11#32
  let v0 : BitVec 32 := Scalar.subi arg0 c11_i32
  let c64_i32_29 : BitVec 32 := 64#32
  let v57 : BitVec 1 := Scalar.cmpi .eq v0 c64_i32_29
  let v58 : BitVec 32 := Scalar.extui v57
  let c0_i32_30 : BitVec 32 := 0#32
  let v59 : BitVec 1 := Scalar.cmpi .ne v58 c0_i32_30
  v59

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_1 (i : grid0.Coords) : Fin 4 → Nat :=
  let arg0 : BitVec 32 := BitVec.ofNat 32 (i 0).val
  let c10_i32 : BitVec 32 := 10#32
  let v0 : BitVec 32 := Scalar.minsi arg0 c10_i32
  let c1_i32 : BitVec 32 := 1#32
  let c1_i32_0 : BitVec 32 := 1#32
  let c0_i32 : BitVec 32 := 0#32
  let c0_i32_1 : BitVec 32 := 0#32
  ![c1_i32.toNat, c1_i32_0.toNat, v0.toNat, c0_i32.toNat]

def cc0_transform_2 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c32_i32 : BitVec 32 := 32#32
  let v4 : BitVec 1 := Scalar.cmpi .slt v3 c32_i32
  let c32_i32_0 : BitVec 32 := 32#32
  let v5 : BitVec 32 := Scalar.subi v3 c32_i32_0
  let c4_i32 : BitVec 32 := 4#32
  let v6 : BitVec 32 := Scalar.divsi v5 c4_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c4_i32 c0_i32_3
  let v13 : BitVec 32 := Scalar.extui v12
  let c0_i32_4 : BitVec 32 := 0#32
  let v14 : BitVec 1 := Scalar.cmpi .slt c4_i32 c0_i32_4
  let v15 : BitVec 32 := Scalar.extui v14
  let v16 : BitVec 32 := Scalar.subi v13 v15
  let v17 : BitVec 1 := Scalar.cmpi .ne v11 v16
  let v18 : BitVec 32 := Scalar.remsi v5 c4_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c6_i32 : BitVec 32 := 6#32
  let v26 : BitVec 32 := Scalar.addi v25 c6_i32
  let c2_i32 : BitVec 32 := 2#32
  let v27 : BitVec 32 := Scalar.addi v26 c2_i32
  let c0_i32_9 : BitVec 32 := 0#32
  let c0_i32_10 : BitVec 32 := 0#32
  let c0_i32_11 : BitVec 32 := 0#32
  ![v27.toNat, c0_i32_9.toNat, c0_i32_10.toNat]

def cc0_transform_5 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c31_i32 : BitVec 32 := 31#32
  let v4 : BitVec 32 := Scalar.minsi v3 c31_i32
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c32_i32 : BitVec 32 := 32#32
  let v4 : BitVec 32 := Scalar.subi v3 c32_i32
  let c0_i32_0 : BitVec 32 := 0#32
  let v5 : BitVec 32 := Scalar.maxsi v4 c0_i32_0
  let c0_i32_1 : BitVec 32 := 0#32
  let c0_i32_2 : BitVec 32 := 0#32
  ![v5.toNat, c0_i32_1.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S16384x5632 : Shape := ⟨2, ![16384, 5632]⟩
abbrev S2x2x5632x2048 : Shape := ⟨4, ![2, 2, 5632, 2048]⟩
abbrev S16384x2048 : Shape := ⟨2, ![16384, 2048]⟩
abbrev S144x1x2048 : Shape := ⟨3, ![144, 1, 2048]⟩
abbrev S2x3x2048 : Shape := ⟨3, ![2, 3, 2048]⟩
abbrev S1x1x5632x2048 : Shape := ⟨4, ![1, 1, 5632, 2048]⟩
abbrev S5632x2048 : Shape := ⟨2, ![5632, 2048]⟩
abbrev S16x9x2048 : Shape := ⟨3, ![16, 9, 2048]⟩
abbrev S16x1x2048 : Shape := ⟨3, ![16, 1, 2048]⟩
abbrev S16x2048 : Shape := ⟨2, ![16, 2048]⟩
abbrev S8192x2048 : Shape := ⟨2, ![8192, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S8192 : Shape := ⟨1, ![8192]⟩
abbrev S8192x1 : Shape := ⟨2, ![8192, 1]⟩
abbrev S8x1024x2048 : Shape := ⟨3, ![8, 1024, 2048]⟩
abbrev S8x2048 : Shape := ⟨2, ![8, 2048]⟩
abbrev S8x1x2048 : Shape := ⟨3, ![8, 1, 2048]⟩
abbrev S8x1024 : Shape := ⟨2, ![8, 1024]⟩
abbrev S8x1024x1 : Shape := ⟨3, ![8, 1024, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x2x5632x2048, .f32⟩
  | .hbm, ⟨2, _⟩ => ⟨S16384x2048, .f32⟩
  | .hbm, ⟨3, _⟩ => ⟨S144x1x2048, .f32⟩
  | .hbm, ⟨4, _⟩ => ⟨S2x3x2048, .f32⟩
  | .hbm, ⟨5, _⟩ => ⟨S16384x5632, .f32⟩
  | .hbm, ⟨6, _⟩ => ⟨S1x1x5632x2048, .f32⟩
  | .hbm, ⟨7, _⟩ => ⟨S5632x2048, .f32⟩
  | .hbm, ⟨8, _⟩ => ⟨S16384x2048, .f32⟩
  | .hbm, ⟨9, _⟩ => ⟨S16x9x2048, .f32⟩
  | .hbm, ⟨10, _⟩ => ⟨S16x1x2048, .f32⟩
  | .hbm, ⟨11, _⟩ => ⟨S16x2048, .f32⟩
  | .hbm, ⟨12, _⟩ => ⟨S8192x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S1x1x2048, .f32⟩
  | .hbm, ⟨17, _⟩ => ⟨S2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8x1024x2048, .f32⟩
  | .hbm, ⟨43, _⟩ => ⟨S8x2048, .f32⟩
  | .hbm, ⟨44, _⟩ => ⟨S8x1x2048, .f32⟩
  | .hbm, ⟨45, _⟩ => ⟨S8192x2048, .f32⟩
  | .hbm, ⟨46, _⟩ => ⟨S8x1024x2048, .f32⟩
  | .hbm, ⟨47, _⟩ => ⟨S1x1x2048, .f32⟩
  | .hbm, ⟨48, _⟩ => ⟨S2048, .f32⟩
  | .hbm, ⟨49, _⟩ => ⟨S8x1024x2048, .f32⟩
  | .hbm, ⟨50, _⟩ => ⟨S_, .f32⟩
  | .hbm, ⟨51, _⟩ => ⟨S8x1024, .f32⟩
  | .hbm, ⟨52, _⟩ => ⟨S8x1024x1, .f32⟩
  | .hbm, ⟨53, _⟩ => ⟨S_, .f32⟩
  | .hbm, ⟨54, _⟩ => ⟨S8x1024x1, .f32⟩
  | .hbm, ⟨55, _⟩ => ⟨S8x1024x1, .f32⟩
  | .hbm, ⟨56, _⟩ => ⟨S_, .f32⟩
  | .hbm, ⟨57, _⟩ => ⟨S8x1024x1, .f32⟩
  | .hbm, ⟨58, _⟩ => ⟨S8x1024x1, .f32⟩
  | .hbm, ⟨59, _⟩ => ⟨S8x1024x1, .f32⟩
  | .hbm, ⟨60, _⟩ => ⟨S8x1024x2048, .f32⟩
  | .hbm, ⟨61, _⟩ => ⟨S8x1024x2048, .f32⟩
  | .hbm, ⟨62, _⟩ => ⟨S1x1x2048, .f32⟩
  | .hbm, ⟨63, _⟩ => ⟨S8x1024x2048, .f32⟩
  | .hbm, ⟨64, _⟩ => ⟨S8x1024x2048, .f32⟩
  | .hbm, ⟨65, _⟩ => ⟨S_, .f32⟩
  | .hbm, ⟨66, _⟩ => ⟨S8x1x2048, .f32⟩
  | .hbm, ⟨67, _⟩ => ⟨S8x1x2048, .f32⟩
  | .hbm, ⟨68, _⟩ => ⟨S8x1024x2048, .f32⟩
  | .hbm, ⟨69, _⟩ => ⟨S8x1024x2048, .f32⟩
  | .hbm, ⟨70, _⟩ => ⟨S8x1024x2048, .f32⟩
  | .hbm, ⟨71, _⟩ => ⟨S8192x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Gates.lean ====
abbrev S16384x2048 : Shape := ⟨2, ![16384, 2048]⟩
abbrev S2x2048x17408 : Shape := ⟨3, ![2, 2048, 17408]⟩
abbrev S16384x6144 : Shape := ⟨2, ![16384, 6144]⟩
abbrev S2048x2048 : Shape := ⟨2, ![2048, 2048]⟩
abbrev S1x2048x1024 : Shape := ⟨3, ![1, 2048, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S16384x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S16384x2048 : Shape := ⟨2, ![16384, 2048]⟩
abbrev S2x2048x17408 : Shape := ⟨3, ![2, 2048, 17408]⟩
abbrev S1x2048x17408 : Shape := ⟨3, ![1, 2048, 17408]⟩
abbrev S2048x17408 : Shape := ⟨2, ![2048, 17408]⟩
abbrev S16384x17408 : Shape := ⟨2, ![16384, 17408]⟩
abbrev S16384x6144 : Shape := ⟨2, ![16384, 6144]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S16384x2048, .f32⟩
  | .hbm, ⟨3, _⟩ => ⟨S1x2048x17408, .f32⟩
  | .hbm, ⟨4, _⟩ => ⟨S2048x17408, .f32⟩
  | .hbm, ⟨5, _⟩ => ⟨S16384x17408, .f32⟩
  | .hbm, ⟨6, _⟩ => ⟨S16384x6144, .f32⟩
  | .hbm, ⟨7, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Next.lean ====
abbrev S16384x5632 : Shape := ⟨2, ![16384, 5632]⟩
abbrev S2x2x5632x2048 : Shape := ⟨4, ![2, 2, 5632, 2048]⟩
abbrev S16384x2048 : Shape := ⟨2, ![16384, 2048]⟩
abbrev S144x1x2048 : Shape := ⟨3, ![144, 1, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S256x5632 : Shape := ⟨2, ![256, 5632]⟩
abbrev S1x1x512x2048 : Shape := ⟨4, ![1, 1, 512, 2048]⟩
abbrev S256x2048 : Shape := ⟨2, ![256, 2048]⟩
abbrev S5632x2048 : Shape := ⟨2, ![5632, 2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩

abbrev nBuf : Space → Nat
  | .hbm => 14
  | .vmem => 21
  | .smem => 0
  | _ => 0

abbrev bufTy : (tb : Table) → Fin (tcTables nBuf tb) → BufTy
  | .hbm, ⟨0, _⟩ => ⟨S16384x5632, .bf16⟩
  | .hbm, ⟨1, _⟩ => ⟨S2x2x5632x2048, .f32⟩
  | .hbm, ⟨2, _⟩ => ⟨S16384x2048, .f32⟩
  | .hbm, ⟨3, _⟩ => ⟨S144x1x2048, .f32⟩
  | .hbm, ⟨4, _⟩ => ⟨S2x3x2048, .f32⟩
  | .hbm, ⟨5, _⟩ => ⟨S2x3x2048, .f32⟩
  | .hbm, ⟨6, _⟩ => ⟨S1x1x2048, .f32⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S1x1x512x2048, .f32⟩
  | .local _ .vmem, ⟨3, _⟩ => ⟨S1x1x512x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S5632x2048, .bf16⟩
  | .local _ .vmem, ⟨19, _⟩ => ⟨S256x2048, .f32⟩
  | .local _ .vmem, ⟨20, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![76], ![false]⟩

def k0_cond1 (i : grid0.Coords) : BitVec 1 :=
  let arg0 : BitVec 32 := BitVec.ofNat 32 (i 0).val
  let c11_i32_0 : BitVec 32 := 11#32
  let v1 : BitVec 1 := Scalar.cmpi .slt arg0 c11_i32_0
  let v2 : BitVec 32 := Scalar.extui v1
  let c0_i32 : BitVec 32 := 0#32
  let v3 : BitVec 1 := Scalar.cmpi .ne v2 c0_i32
  v3

def k0_mult1 (i : grid0.Coords) : BitVec 32 :=
  let arg0 : BitVec 32 := BitVec.ofNat 32 (i 0).val
  let c512_i32 : BitVec 32 := 512#32
  let v47 : BitVec 32 := Scalar.muli arg0 c512_i32
  v47
def k0_off1 (i : grid0.Coords) : Fin 2 → Nat :=
  let arg0 : BitVec 32 := BitVec.ofNat 32 (i 0).val
  let c512_i32 : BitVec 32 := 512#32
  let v47 : BitVec 32 := Scalar.muli arg0 c512_i32
  let v48 : BitVec 32 := v47
  let v49 : Index := Scalar.indexCast v48
  let c0_25 : Index := 0#32
  ![v49.toNat, 0]
def k0_cond3 (i : grid0.Coords) : BitVec 1 :=
  let arg0 : BitVec 32 := BitVec.ofNat 32 (i 0).val
  let c11_i32 : BitVec 32 := 11#32
  let v0 : BitVec 32 := Scalar.subi arg0 c11_i32
  let c0_i32_3 : BitVec 32 := 0#32
  let v7 : BitVec 1 := Scalar.cmpi .sgt v0 c0_i32_3
  let c64_i32 : BitVec 32 := 64#32
  let v8 : BitVec 1 := Scalar.cmpi .slt v0 c64_i32
  let v9 : BitVec 1 := Scalar.andi v7 v8
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi v0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v21 : BitVec 1 := Scalar.andi v9 v20
  let v22 : BitVec 32 := Scalar.extui v21
  let c0_i32_9 : BitVec 32 := 0#32
  let v23 : BitVec 1 := Scalar.cmpi .ne v22 c0_i32_9
  v23

def k0_cond4 (i : grid0.Coords) : BitVec 1 :=
  let arg0 : BitVec 32 := BitVec.ofNat 32 (i 0).val
  let c11_i32 : BitVec 32 := 11#32
  let v0 : BitVec 32 := Scalar.subi arg0 c11_i32
  let c0_i32_10 : BitVec 32 := 0#32
  let v24 : BitVec 1 := Scalar.cmpi .sgt v0 c0_i32_10
  let c64_i32_11 : BitVec 32 := 64#32
  let v25 : BitVec 1 := Scalar.cmpi .slt v0 c64_i32_11
  let v26 : BitVec 1 := Scalar.andi v24 v25
  let c2_i32_12 : BitVec 32 := 2#32
  let c0_i32_13 : BitVec 32 := 0#32
  let v27 : BitVec 1 := Scalar.cmpi .eq c2_i32_12 c0_i32_13
  let c1_i32_14 : BitVec 32 := 1#32
  let v28 : BitVec 32 := Scalar.select v27 c1_i32_14 c2_i32_12
  let v29 : BitVec 32 := Scalar.remsi v0 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let c1_i32_18 : BitVec 32 := 1#32
  let v37 : BitVec 1 := Scalar.cmpi .eq v36 c1_i32_18
  let v38 : BitVec 1 := Scalar.andi v26 v37
  let v39 : BitVec 32 := Scalar.extui v38
  let c0_i32_19 : BitVec 32 := 0#32
  let v40 : BitVec 1 := Scalar.cmpi .ne v39 c0_i32_19
  v40

def k0_cond5 (i : grid0.Coords) : BitVec 1 :=
  let arg0 : BitVec 32 := BitVec.ofNat 32 (i 0).val
  let c11_i32 : BitVec 32 := 11#32
  let v0 : BitVec 32 := Scalar.subi arg0 c11_i32
  let c64_i32_20 : BitVec 32 := 64#32
  let v41 : BitVec 1 := Scalar.cmpi .eq v0 c64_i32_20
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_1 (i : grid0.Coords) : Fin 4 → Nat :=
  let arg0 : BitVec 32 := BitVec.ofNat 32 (i 0).val
  let c10_i32 : BitVec 32 := 10#32
  let v0 : BitVec 32 := Scalar.minsi arg0 c10_i32
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_2 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c32_i32 : BitVec 32 := 32#32
  let v4 : BitVec 1 := Scalar.cmpi .slt v3 c32_i32
  let c32_i32_0 : BitVec 32 := 32#32
  let v5 : BitVec 32 := Scalar.subi v3 c32_i32_0
  let c4_i32 : BitVec 32 := 4#32
  let v6 : BitVec 32 := Scalar.divsi v5 c4_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c4_i32 c0_i32_3
  let v13 : BitVec 32 := Scalar.extui v12
  let c0_i32_4 : BitVec 32 := 0#32
  let v14 : BitVec 1 := Scalar.cmpi .slt c4_i32 c0_i32_4
  let v15 : BitVec 32 := Scalar.extui v14
  let v16 : BitVec 32 := Scalar.subi v13 v15
  let v17 : BitVec 1 := Scalar.cmpi .ne v11 v16
  let v18 : BitVec 32 := Scalar.remsi v5 c4_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c0_i32_9 : BitVec 32 := 0#32
  let v26 : BitVec 32 := Scalar.addi v25 c0_i32_9
  let c2_i32 : BitVec 32 := 2#32
  let v27 : BitVec 32 := Scalar.addi v26 c2_i32
  let c0_i32_10 : BitVec 32 := 0#32
  let c0_i32_11 : BitVec 32 := 0#32
  let c0_i32_12 : BitVec 32 := 0#32
  ![v27.toNat, c0_i32_10.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c32_i32 : BitVec 32 := 32#32
  let v4 : BitVec 1 := Scalar.cmpi .slt v3 c32_i32
  let c32_i32_0 : BitVec 32 := 32#32
  let v5 : BitVec 32 := Scalar.subi v3 c32_i32_0
  let c4_i32 : BitVec 32 := 4#32
  let v6 : BitVec 32 := Scalar.divsi v5 c4_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c4_i32 c0_i32_3
  let v13 : BitVec 32 := Scalar.extui v12
  let c0_i32_4 : BitVec 32 := 0#32
  let v14 : BitVec 1 := Scalar.cmpi .slt c4_i32 c0_i32_4
  let v15 : BitVec 32 := Scalar.extui v14
  let v16 : BitVec 32 := Scalar.subi v13 v15
  let v17 : BitVec 1 := Scalar.cmpi .ne v11 v16
  let v18 : BitVec 32 := Scalar.remsi v5 c4_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c3_i32 : BitVec 32 := 3#32
  let v26 : BitVec 32 := Scalar.addi v25 c3_i32
  let c1_i32_9 : BitVec 32 := 1#32
  let v27 : BitVec 32 := Scalar.addi v26 c1_i32_9
  let c0_i32_10 : BitVec 32 := 0#32
  let c0_i32_11 : BitVec 32 := 0#32
  let c0_i32_12 : BitVec 32 := 0#32
  ![v27.toNat, c0_i32_10.toNat, c0_i32_11.toNat]

def cc0_transform_7 (i : grid0.Coords) : Fin 3 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c32_i32 : BitVec 32 := 32#32
  let v4 : BitVec 1 := Scalar.cmpi .slt v3 c32_i32
  let c32_i32_0 : BitVec 32 := 32#32
  let v5 : BitVec 32 := Scalar.subi v3 c32_i32_0
  let c4_i32 : BitVec 32 := 4#32
  let v6 : BitVec 32 := Scalar.divsi v5 c4_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c4_i32 c0_i32_3
  let v13 : BitVec 32 := Scalar.extui v12
  let c0_i32_4 : BitVec 32 := 0#32
  let v14 : BitVec 1 := Scalar.cmpi .slt c4_i32 c0_i32_4
  let v15 : BitVec 32 := Scalar.extui v14
  let v16 : BitVec 32 := Scalar.subi v13 v15
  let v17 : BitVec 1 := Scalar.cmpi .ne v11 v16
  let v18 : BitVec 32 := Scalar.remsi v5 c4_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c3_i32 : BitVec 32 := 3#32
  let v26 : BitVec 32 := Scalar.addi v25 c3_i32
  let c0_i32_9 : BitVec 32 := 0#32
  let v27 : BitVec 32 := Scalar.addi v26 c0_i32_9
  let c0_i32_10 : BitVec 32 := 0#32
  let c0_i32_11 : BitVec 32 := 0#32
  let c0_i32_12 : BitVec 32 := 0#32
  ![v27.toNat, c0_i32_10.toNat, c0_i32_11.toNat]

def cc0_transform_8 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NextRefIdeal.lean ====
abbrev S16384x5632 : Shape := ⟨2, ![16384, 5632]⟩
abbrev S2x2x5632x2048 : Shape := ⟨4, ![2, 2, 5632, 2048]⟩
abbrev S16384x2048 : Shape := ⟨2, ![16384, 2048]⟩
abbrev S144x1x2048 : Shape := ⟨3, ![144, 1, 2048]⟩
abbrev S2x3x2048 : Shape := ⟨3, ![2, 3, 2048]⟩
abbrev S1x1x5632x2048 : Shape := ⟨4, ![1, 1, 5632, 2048]⟩
abbrev S5632x2048 : Shape := ⟨2, ![5632, 2048]⟩
abbrev S16x9x2048 : Shape := ⟨3, ![16, 9, 2048]⟩
abbrev S1x9x2048 : Shape := ⟨3, ![1, 9, 2048]⟩
abbrev S8192x9x2048 : Shape := ⟨3, ![8192, 9, 2048]⟩
abbrev S8x9x2048 : Shape := ⟨3, ![8, 9, 2048]⟩
abbrev S8x1x9x2048 : Shape := ⟨4, ![8, 1, 9, 2048]⟩
abbrev S8x1024x9x2048 : Shape := ⟨4, ![8, 1024, 9, 2048]⟩
abbrev S16384x9x2048 : Shape := ⟨3, ![16384, 9, 2048]⟩
abbrev S16384x1x2048 : Shape := ⟨3, ![16384, 1, 2048]⟩
abbrev S_ : Shape := ⟨0, ![]⟩
abbrev S1x1x2048 : Shape := ⟨3, ![1, 1, 2048]⟩
abbrev S2048 : Shape := ⟨1, ![2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x2x5632x2048, .f32⟩
  | .hbm, ⟨2, _⟩ => ⟨S16384x2048, .f32⟩
  | .hbm, ⟨3, _⟩ => ⟨S144x1x2048, .f32⟩
  | .hbm, ⟨4, _⟩ => ⟨S2x3x2048, .f32⟩
  | .hbm, ⟨5, _⟩ => ⟨S2x3x2048, .f32⟩
  | .hbm, ⟨6, _⟩ => ⟨S16384x5632, .f32⟩
  | .hbm, ⟨7, _⟩ => ⟨S1x1x5632x2048, .f32⟩
  | .hbm, ⟨8, _⟩ => ⟨S5632x2048, .f32⟩
  | .hbm, ⟨9, _⟩ => ⟨S16384x2048, .f32⟩
  | .hbm, ⟨10, _⟩ => ⟨S16x9x2048, .f32⟩
  | .hbm, ⟨11, _⟩ => ⟨S1x9x2048, .f32⟩
  | .hbm, ⟨12, _⟩ => ⟨S8192x9x2048, .f32⟩
  | .hbm, ⟨13, _⟩ => ⟨S8x9x2048, .f32⟩
  | .hbm, ⟨14, _⟩ => ⟨S8x1x9x2048, .f32⟩
  | .hbm, ⟨15, _⟩ => ⟨S8x1024x9x2048, .f32⟩
  | .hbm, ⟨16, _⟩ => ⟨S8192x9x2048, .f32⟩
  | .hbm, ⟨17, _⟩ => ⟨S16384x9x2048, .f32⟩
  | .hbm, ⟨18, _⟩ => ⟨S16384x1x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S1x1x2048, .f32⟩
  | .hbm, ⟨24, _⟩ => ⟨S2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S1x1x2048, .f32⟩
  | .hbm, ⟨44, _⟩ => ⟨S2048, .f32⟩
  | .hbm, ⟨45, _⟩ => ⟨S16384x2048, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x2048, .f32⟩
  | .hbm, ⟨57, _⟩ => ⟨S16384x2048, .f32⟩
  | .hbm, ⟨58, _⟩ => ⟨S1x2048, .f32⟩
  | .hbm, ⟨59, _⟩ => ⟨S16384x2048, .f32⟩
  | .hbm, ⟨60, _⟩ => ⟨S16384x2048, .f32⟩
  | .hbm, ⟨61, _⟩ => ⟨S16384x1x2048, .f32⟩
  | .hbm, ⟨62, _⟩ => ⟨S16384x2048, .f32⟩
  | .hbm, ⟨63, _⟩ => ⟨S_, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x1x2048, .f32⟩
  | .hbm, ⟨68, _⟩ => ⟨S16384x2048, .f32⟩
  | .hbm, ⟨69, _⟩ => ⟨S16384x2048, .f32⟩
  | .hbm, ⟨70, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Vals.lean ====
abbrev S16384x2048 : Shape := ⟨2, ![16384, 2048]⟩
abbrev S2x2048x17408 : Shape := ⟨3, ![2, 2048, 17408]⟩
abbrev S32x2x256x1024 : Shape := ⟨4, ![32, 2, 256, 1024]⟩
abbrev S512x2048 : Shape := ⟨2, ![512, 2048]⟩
abbrev S1x2048x1024 : Shape := ⟨3, ![1, 2048, 1024]⟩
abbrev S2x1x256x1024 : Shape := ⟨4, ![2, 1, 256, 1024]⟩
abbrev S2048x1024 : Shape := ⟨2, ![2048, 1024]⟩
abbrev S512x1024 : Shape := ⟨2, ![512, 1024]⟩
abbrev S2x256x1024 : Shape := ⟨3, ![2, 256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S32x2x256x1024, .f32⟩
  | .hbm, ⟨3, _⟩ => ⟨S32x2x256x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S2x1x256x1024, .f32⟩
  | .local _ .vmem, ⟨4, _⟩ => ⟨S2x1x256x1024, .f32⟩
  | .local _ .vmem, ⟨5, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c10_i32 : BitVec 32 := 10#32
  let c0_i32_0 : BitVec 32 := 0#32
  ![c1_i32.toNat, c0_i32.toNat, c10_i32.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ValsRefIdeal.lean ====
abbrev S16384x2048 : Shape := ⟨2, ![16384, 2048]⟩
abbrev S2x2048x17408 : Shape := ⟨3, ![2, 2048, 17408]⟩
abbrev S32x2x256x1024 : Shape := ⟨4, ![32, 2, 256, 1024]⟩
abbrev S8192x2048 : Shape := ⟨2, ![8192, 2048]⟩
abbrev S1x2048x17408 : Shape := ⟨3, ![1, 2048, 17408]⟩
abbrev S2048x17408 : Shape := ⟨2, ![2048, 17408]⟩
abbrev S8192x17408 : Shape := ⟨2, ![8192, 17408]⟩
abbrev S8192x1024 : Shape := ⟨2, ![8192, 1024]⟩
abbrev S32x1x256x1024 : Shape := ⟨4, ![32, 1, 256, 1024]⟩
abbrev S32x256x1024 : Shape := ⟨3, ![32, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S32x2x256x1024, .f32⟩
  | .hbm, ⟨3, _⟩ => ⟨S8192x2048, .bf16⟩
  | .hbm, ⟨4, _⟩ => ⟨S8192x2048, .f32⟩
  | .hbm, ⟨5, _⟩ => ⟨S1x2048x17408, .f32⟩
  | .hbm, ⟨6, _⟩ => ⟨S2048x17408, .f32⟩
  | .hbm, ⟨7, _⟩ => ⟨S8192x17408, .f32⟩
  | .hbm, ⟨8, _⟩ => ⟨S8192x1024, .f32⟩
  | .hbm, ⟨9, _⟩ => ⟨S32x1x256x1024, .f32⟩
  | .hbm, ⟨10, _⟩ => ⟨S32x256x1024, .f32⟩
  | .hbm, ⟨11, _⟩ => ⟨S32x256x1024, .f32⟩
  | .hbm, ⟨12, _⟩ => ⟨S32x1x256x1024, .f32⟩
  | .hbm, ⟨13, _⟩ => ⟨S32x1x256x1024, .f32⟩
  | .hbm, ⟨14, _⟩ => ⟨S32x2x256x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Latkv.lean ====
abbrev S16384x2048 : Shape := ⟨2, ![16384, 2048]⟩
abbrev S2x2048x17408 : Shape := ⟨3, ![2, 2048, 17408]⟩
abbrev S8192x2048 : Shape := ⟨2, ![8192, 2048]⟩
abbrev S2048x2048 : Shape := ⟨2, ![2048, 2048]⟩
abbrev S1x2048x1024 : Shape := ⟨3, ![1, 2048, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatkvRefIdeal.lean ====
abbrev S16384x2048 : Shape := ⟨2, ![16384, 2048]⟩
abbrev S2x2048x17408 : Shape := ⟨3, ![2, 2048, 17408]⟩
abbrev S8192x2048 : Shape := ⟨2, ![8192, 2048]⟩
abbrev S1x2048x17408 : Shape := ⟨3, ![1, 2048, 17408]⟩
abbrev S2048x17408 : Shape := ⟨2, ![2048, 17408]⟩
abbrev S8192x17408 : Shape := ⟨2, ![8192, 17408]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S8192x2048, .bf16⟩
  | .hbm, ⟨3, _⟩ => ⟨S8192x2048, .f32⟩
  | .hbm, ⟨4, _⟩ => ⟨S1x2048x17408, .f32⟩
  | .hbm, ⟨5, _⟩ => ⟨S2048x17408, .f32⟩
  | .hbm, ⟨6, _⟩ => ⟨S8192x17408, .f32⟩
  | .hbm, ⟨7, _⟩ => ⟨S8192x2048, .f32⟩
  | .hbm, ⟨8, _⟩ => ⟨S8192x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Last.lean ====
abbrev S16384x8192 : Shape := ⟨2, ![16384, 8192]⟩
abbrev S2x8 : Shape := ⟨2, ![2, 8]⟩
abbrev S32x2x2x8x128x256 : Shape := ⟨6, ![32, 2, 2, 8, 128, 256]⟩
abbrev S8x2 : Shape := ⟨2, ![8, 2]⟩
abbrev S8x2x1x1 : Shape := ⟨4, ![8, 2, 1, 1]⟩
abbrev S8x2x1x256 : Shape := ⟨4, ![8, 2, 1, 256]⟩
abbrev S8192x2048 : Shape := ⟨2, ![8192, 2048]⟩
abbrev S256x1024 : Shape := ⟨2, ![256, 1024]⟩
abbrev S256x2048 : Shape := ⟨2, ![256, 2048]⟩
abbrev S1x1x2x8x128x256 : Shape := ⟨6, ![1, 1, 2, 8, 128, 256]⟩
abbrev S8x256x128 : Shape := ⟨3, ![8, 256, 128]⟩
abbrev S8x256x256 : Shape := ⟨3, ![8, 256, 256]⟩
abbrev S8x2x128x256 : Shape := ⟨4, ![8, 2, 128, 256]⟩
abbrev S128x128 : Shape := ⟨2, ![128, 128]⟩
abbrev S1x2x1x256 : Shape := ⟨4, ![1, 2, 1, 256]⟩
abbrev S2x1x256 : Shape := ⟨3, ![2, 1, 256]⟩
abbrev S1x1x256 : Shape := ⟨3, ![1, 1, 256]⟩
abbrev S1x256 : Shape := ⟨2, ![1, 256]⟩
abbrev S1x128 : Shape := ⟨2, ![1, 128]⟩
abbrev S1x128x128 : Shape := ⟨3, ![1, 128, 128]⟩
abbrev S128x256 : Shape := ⟨2, ![128, 256]⟩
abbrev S1x1x128x256 : Shape := ⟨4, ![1, 1, 128, 256]⟩
abbrev S1x1x1x1x128x256 : Shape := ⟨6, ![1, 1, 1, 1, 128, 256]⟩
abbrev S1x128x256 : Shape := ⟨3, ![1, 128, 256]⟩
abbrev S128x384 : Shape := ⟨2, ![128, 384]⟩
abbrev S384x256 : Shape := ⟨2, ![384, 256]⟩
abbrev S128 : Shape := ⟨1, ![128]⟩
abbrev S128x1 : Shape := ⟨2, ![128, 1]⟩

abbrev nBuf : Space → Nat
  | .hbm => 8
  | .vmem => 20
  | .smem => 0
  | _ => 0

abbrev bufTy : (tb : Table) → Fin (tcTables nBuf tb) → BufTy
  | .hbm, ⟨0, _⟩ => ⟨S16384x8192, .bf16⟩
  | .hbm, ⟨1, _⟩ => ⟨S2x8, .f32⟩
  | .hbm, ⟨2, _⟩ => ⟨S32x2x2x8x128x256, .f32⟩
  | .hbm, ⟨3, _⟩ => ⟨S8x2, .f32⟩
  | .hbm, ⟨4, _⟩ => ⟨S8x2x1x1, .f32⟩
  | .hbm, ⟨5, _⟩ => ⟨S8x2x1x256, .f32⟩
  | .hbm, ⟨6, _⟩ => ⟨S8192x2048, .bf16⟩
  | .hbm, ⟨7, _⟩ => ⟨S32x2x2x8x128x256, .f32⟩
  | .local _ .vmem, ⟨0, _⟩ => ⟨S8x2x1x256, .f32⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S1x1x2x8x128x256, .f32⟩
  | .local _ .vmem, ⟨12, _⟩ => ⟨S1x1x2x8x128x256, .f32⟩
  | .local _ .vmem, ⟨13, _⟩ => ⟨S8x256x128, .bf16⟩
  | .local _ .vmem, ⟨14, _⟩ => ⟨S8x256x128, .bf16⟩
  | .local _ .vmem, ⟨15, _⟩ => ⟨S8x256x128, .bf16⟩
  | .local _ .vmem, ⟨16, _⟩ => ⟨S8x256x128, .bf16⟩
  | .local _ .vmem, ⟨17, _⟩ => ⟨S8x256x256, .bf16⟩
  | .local _ .vmem, ⟨18, _⟩ => ⟨S8x2x128x256, .bf16⟩
  | .local _ .vmem, ⟨19, _⟩ => ⟨S8x2x128x256, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi c1_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi c1_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.addi c2_i32 arg1
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 6 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, arg1.toNat, c0_i32_0.toNat, c0_i32_1.toNat]

abbrev stage0_0 : Fin 1 → Memref sig .tc .vmem S8x2x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LastRefIdeal.lean ====
abbrev S16384x8192 : Shape := ⟨2, ![16384, 8192]⟩
abbrev S2x8 : Shape := ⟨2, ![2, 8]⟩
abbrev S32x2x2x8x128x256 : Shape := ⟨6, ![32, 2, 2, 8, 128, 256]⟩
abbrev S8192x8192 : Shape := ⟨2, ![8192, 8192]⟩
abbrev S32x256x8192 : Shape := ⟨3, ![32, 256, 8192]⟩
abbrev S32x256x1024 : Shape := ⟨3, ![32, 256, 1024]⟩
abbrev S32x256x8x128 : Shape := ⟨4, ![32, 256, 8, 128]⟩
abbrev S32x256x2048 : Shape := ⟨3, ![32, 256, 2048]⟩
abbrev S32x256x8x256 : Shape := ⟨4, ![32, 256, 8, 256]⟩
abbrev S_ : Shape := ⟨0, ![]⟩
abbrev S1x8 : Shape := ⟨2, ![1, 8]⟩
abbrev S8 : Shape := ⟨1, ![8]⟩
abbrev S32x2x128x8x128 : Shape := ⟨5, ![32, 2, 128, 8, 128]⟩
abbrev S32x2x128x8x256 : Shape := ⟨5, ![32, 2, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S32x2x8x128x128 : Shape := ⟨5, ![32, 2, 8, 128, 128]⟩
abbrev S1x1x8x128x128 : Shape := ⟨5, ![1, 1, 8, 128, 128]⟩
abbrev S32x2x8x256x128 : Shape := ⟨5, ![32, 2, 8, 256, 128]⟩
abbrev S8x1 : Shape := ⟨2, ![8, 1]⟩
abbrev S8x128 : Shape := ⟨2, ![8, 128]⟩
abbrev S128x8 : Shape := ⟨2, ![128, 8]⟩
abbrev S1x1x128x8x1 : Shape := ⟨5, ![1, 1, 128, 8, 1]⟩
abbrev S32x2x8x128x256 : Shape := ⟨5, ![32, 2, 8, 128, 256]⟩
abbrev S1x8x1x1 : Shape := ⟨4, ![1, 8, 1, 1]⟩
abbrev S32x8x128x256 : Shape := ⟨4, ![32, 8, 128, 256]⟩
abbrev S32x1x8x128x256 : Shape := ⟨5, ![32, 1, 8, 128, 256]⟩
abbrev S32x256x8 : Shape := ⟨3, ![32, 256, 8]⟩
abbrev S32x256x8x1 : Shape := ⟨4, ![32, 256, 8, 1]⟩
abbrev S8192x2048 : Shape := ⟨2, ![8192, 2048]⟩
abbrev S32x1x2x8x128x256 : Shape := ⟨6, ![32, 1, 2, 8, 128, 256]⟩

abbrev nBuf : Space → Nat
  | .hbm => 241
  | .vmem => 0
  | .smem => 0
  | _ => 0

abbrev hbmTy0_0 (i : Nat) : BufTy := match i % 128 with
  | 0 => ⟨S16384x8192, .bf16⟩
  | 1 => ⟨S2x8, .f32⟩
  | 2 => ⟨S32x2x2x8x128x256, .f32⟩
  | 3 => ⟨S8192x8192, .bf16⟩
  | 4 => ⟨S8192x8192, .f32⟩
  | 5 => ⟨S32x256x8192, .f32⟩
  | 6 => ⟨S32x256x1024, .f32⟩
  | 7 => ⟨S32x256x8x128, .f32⟩
  | 8 => ⟨S32x256x1024, .f32⟩
  | 9 => ⟨S32x256x8x128, .f32⟩
  | 10 => ⟨S32x256x2048, .f32⟩
  | 11 => ⟨S32x256x8x256, .f32⟩
  | 12 => ⟨S32x256x2048, .f32⟩
  | 13 => ⟨S2x8, .f32⟩
  | 14 => ⟨S_, .f32⟩
  | 15 => ⟨S2x8, .f32⟩
  | 16 => ⟨S2x8, .f32⟩
  | 17 => ⟨S2x8, .f32⟩
  | 18 => ⟨S2x8, .f32⟩
  | 19 => ⟨S2x8, .i1⟩
  | 20 => ⟨S2x8, .f32⟩
  | 21 => ⟨S2x8, .f32⟩
  | 22 => ⟨S2x8, .f32⟩
  | 23 => ⟨S2x8, .f32⟩
  | 24 => ⟨S2x8, .f32⟩
  | 25 => ⟨S2x8, .f32⟩
  | 26 => ⟨S2x8, .f32⟩
  | 27 => ⟨S2x8, .f32⟩
  | 28 => ⟨S2x8, .f32⟩
  | 29 => ⟨S_, .f32⟩
  | 30 => ⟨S32x256x8x128, .f32⟩
  | 31 => ⟨S32x256x8x128, .f32⟩
  | 32 => ⟨S1x8, .f32⟩
  | 33 => ⟨S8, .f32⟩
  | 34 => ⟨S32x2x128x8x128, .f32⟩
  | 35 => ⟨S32x2x128x8x128, .f32⟩
  | 36 => ⟨S32x2x128x8x256, .f32⟩
  | 37 => ⟨S128, .f32⟩
  | 38 => ⟨S128x1, .f32⟩
  | 39 => ⟨S1x128, .f32⟩
  | 40 => ⟨S128x128, .f32⟩
  | 41 => ⟨S128x128, .f32⟩
  | 42 => ⟨S128x128, .f32⟩
  | 43 => ⟨S_, .f32⟩
  | 44 => ⟨S128x128, .f32⟩
  | 45 => ⟨S128x128, .i1⟩
  | 46 => ⟨S8x1x1, .f32⟩
  | 47 => ⟨S_, .f32⟩
  | 48 => ⟨S128x128, .f32⟩
  | 49 => ⟨S128x128, .f32⟩
  | 50 => ⟨S1x128x128, .f32⟩
  | 51 => ⟨S8x128x128, .f32⟩
  | 52 => ⟨S8x128x128, .f32⟩
  | 53 => ⟨S8x128x128, .f32⟩
  | 54 => ⟨S8x128x128, .f32⟩
  | 55 => ⟨S_, .f32⟩
  | 56 => ⟨S_, .f32⟩
  | 57 => ⟨S8x128x128, .i1⟩
  | 58 => ⟨S8x128x128, .f32⟩
  | 59 => ⟨S8x128x128, .f32⟩
  | 60 => ⟨S32x2x8x128x128, .f32⟩
  | 61 => ⟨S1x1x8x128x128, .f32⟩
  | 62 => ⟨S32x2x8x128x128, .f32⟩
  | 63 => ⟨S32x2x8x128x128, .f32⟩
  | 64 => ⟨S32x2x8x256x128, .f32⟩
  | 65 => ⟨S32x2x128x8x256, .f32⟩
  | 66 => ⟨S8x1, .f32⟩
  | 67 => ⟨S_, .f32⟩
  | 68 => ⟨S128, .f32⟩
  | 69 => ⟨S128, .f32⟩
  | 70 => ⟨S1x128, .f32⟩
  | 71 => ⟨S8x128, .f32⟩
  | 72 => ⟨S8x128, .f32⟩
  | 73 => ⟨S8x128, .f32⟩
  | 74 => ⟨S8x128, .f32⟩
  | 75 => ⟨S128x8, .f32⟩
  | 76 => ⟨S1x1x128x8x1, .f32⟩
  | 77 => ⟨S32x2x128x8x128, .f32⟩
  | 78 => ⟨S32x2x128x8x128, .f32⟩
  | 79 => ⟨S32x2x8x128x256, .f32⟩
  | 80 => ⟨S_, .f32⟩
  | 81 => ⟨S8, .f32⟩
  | 82 => ⟨S8, .f32⟩
  | 83 => ⟨S8, .f32⟩
  | 84 => ⟨S1x8x1x1, .f32⟩
  | 85 => ⟨S_, .f32⟩
  | 86 => ⟨S32x8x128x256, .f32⟩
  | 87 => ⟨S32x8x128x256, .f32⟩
  | 88 => ⟨S32x8x128x256, .f32⟩
  | 89 => ⟨S32x1x8x128x256, .f32⟩
  | 90 => ⟨S32x8x128x256, .f32⟩
  | 91 => ⟨S32x8x128x256, .f32⟩
  | 92 => ⟨S32x8x128x256, .f32⟩
  | 93 => ⟨S32x8x128x256, .f32⟩
  | 94 => ⟨S32x1x8x128x256, .f32⟩
  | 95 => ⟨S32x8x128x256, .f32⟩
  | 96 => ⟨S32x8x128x256, .f32⟩
  | 97 => ⟨S32x1x8x128x256, .f32⟩
  | 98 => ⟨S32x1x8x128x256, .f32⟩
  | 99 => ⟨S32x2x8x128x256, .f32⟩
  | 100 => ⟨S8x1, .f32⟩
  | 101 => ⟨S_, .f32⟩
  | 102 => ⟨S128, .f32⟩
  | 103 => ⟨S128, .f32⟩
  | 104 => ⟨S1x128, .f32⟩
  | 105 => ⟨S8x128, .f32⟩
  | 106 => ⟨S8x128, .f32⟩
  | 107 => ⟨S8x128, .f32⟩
  | 108 => ⟨S8x128, .f32⟩
  | 109 => ⟨S32x2x8x256x128, .f32⟩
  | 110 => ⟨S32x2x128x8x256, .f32⟩
  | 111 => ⟨S128x8, .f32⟩
  | 112 => ⟨S1x1x128x8x1, .f32⟩
  | 113 => ⟨S32x2x128x8x256, .f32⟩
  | 114 => ⟨S32x2x128x8x256, .f32⟩
  | 115 => ⟨S32x2x128x8x256, .f32⟩
  | 116 => ⟨S32x256x8x256, .f32⟩
  | 117 => ⟨S32x256x8x128, .f32⟩
  | 118 => ⟨S32x256x8x128, .f32⟩
  | 119 => ⟨S32x256x8x256, .f32⟩
  | 120 => ⟨S1x8, .f32⟩
  | 121 => ⟨S8, .f32⟩
  | 122 => ⟨S32x2x128x8x128, .f32⟩
  | 123 => ⟨S32x2x128x8x128, .f32⟩
  | 124 => ⟨S32x2x128x8x256, .f32⟩
  | 125 => ⟨S128, .f32⟩
  | 126 => ⟨S128x1, .f32⟩
  | 127 => ⟨S1x128, .f32⟩
  | _ => ⟨S16384x8192, .bf16⟩

abbrev hbmTy0_1 (i : Nat) : BufTy := match i % 128 with
  | 0 => ⟨S128x128, .f32⟩
  | 1 => ⟨S128x128, .f32⟩
  | 2 => ⟨S128x128, .f32⟩
  | 3 => ⟨S_, .f32⟩
  | 4 => ⟨S128x128, .f32⟩
  | 5 => ⟨S128x128, .i1⟩
  | 6 => ⟨S8x1x1, .f32⟩
  | 7 => ⟨S_, .f32⟩
  | 8 => ⟨S128x128, .f32⟩
  | 9 => ⟨S128x128, .f32⟩
  | 10 => ⟨S1x128x128, .f32⟩
  | 11 => ⟨S8x128x128, .f32⟩
  | 12 => ⟨S8x128x128, .f32⟩
  | 13 => ⟨S8x128x128, .f32⟩
  | 14 => ⟨S8x128x128, .f32⟩
  | 15 => ⟨S_, .f32⟩
  | 16 => ⟨S_, .f32⟩
  | 17 => ⟨S8x128x128, .i1⟩
  | 18 => ⟨S8x128x128, .f32⟩
  | 19 => ⟨S8x128x128, .f32⟩
  | 20 => ⟨S32x2x8x128x128, .f32⟩
  | 21 => ⟨S1x1x8x128x128, .f32⟩
  | 22 => ⟨S32x2x8x128x128, .f32⟩
  | 23 => ⟨S32x2x8x128x128, .f32⟩
  | 24 => ⟨S32x2x8x256x128, .f32⟩
  | 25 => ⟨S32x2x128x8x256, .f32⟩
  | 26 => ⟨S8x1, .f32⟩
  | 27 => ⟨S_, .f32⟩
  | 28 => ⟨S128, .f32⟩
  | 29 => ⟨S128, .f32⟩
  | 30 => ⟨S1x128, .f32⟩
  | 31 => ⟨S8x128, .f32⟩
  | 32 => ⟨S8x128, .f32⟩
  | 33 => ⟨S8x128, .f32⟩
  | 34 => ⟨S8x128, .f32⟩
  | 35 => ⟨S128x8, .f32⟩
  | 36 => ⟨S1x1x128x8x1, .f32⟩
  | 37 => ⟨S32x2x128x8x128, .f32⟩
  | 38 => ⟨S32x2x128x8x128, .f32⟩
  | 39 => ⟨S32x2x8x128x256, .f32⟩
  | 40 => ⟨S_, .f32⟩
  | 41 => ⟨S8, .f32⟩
  | 42 => ⟨S8, .f32⟩
  | 43 => ⟨S8, .f32⟩
  | 44 => ⟨S1x8x1x1, .f32⟩
  | 45 => ⟨S_, .f32⟩
  | 46 => ⟨S32x8x128x256, .f32⟩
  | 47 => ⟨S32x8x128x256, .f32⟩
  | 48 => ⟨S32x8x128x256, .f32⟩
  | 49 => ⟨S32x1x8x128x256, .f32⟩
  | 50 => ⟨S32x8x128x256, .f32⟩
  | 51 => ⟨S32x8x128x256, .f32⟩
  | 52 => ⟨S32x8x128x256, .f32⟩
  | 53 => ⟨S32x8x128x256, .f32⟩
  | 54 => ⟨S32x1x8x128x256, .f32⟩
  | 55 => ⟨S32x8x128x256, .f32⟩
  | 56 => ⟨S32x8x128x256, .f32⟩
  | 57 => ⟨S32x1x8x128x256, .f32⟩
  | 58 => ⟨S32x1x8x128x256, .f32⟩
  | 59 => ⟨S32x2x8x128x256, .f32⟩
  | 60 => ⟨S8x1, .f32⟩
  | 61 => ⟨S_, .f32⟩
  | 62 => ⟨S128, .f32⟩
  | 63 => ⟨S128, .f32⟩
  | 64 => ⟨S1x128, .f32⟩
  | 65 => ⟨S8x128, .f32⟩
  | 66 => ⟨S8x128, .f32⟩
  | 67 => ⟨S8x128, .f32⟩
  | 68 => ⟨S8x128, .f32⟩
  | 69 => ⟨S32x2x8x256x128, .f32⟩
  | 70 => ⟨S32x2x128x8x256, .f32⟩
  | 71 => ⟨S128x8, .f32⟩
  | 72 => ⟨S1x1x128x8x1, .f32⟩
  | 73 => ⟨S32x2x128x8x256, .f32⟩
  | 74 => ⟨S32x2x128x8x256, .f32⟩
  | 75 => ⟨S32x2x128x8x256, .f32⟩
  | 76 => ⟨S32x256x8x256, .f32⟩
  | 77 => ⟨S32x256x8x256, .f32⟩
  | 78 => ⟨S32x256x8x256, .f32⟩
  | 79 => ⟨S32x256x8x256, .f32⟩
  | 80 => ⟨S_, .f32⟩
  | 81 => ⟨S32x256x8, .f32⟩
  | 82 => ⟨S32x256x8x1, .f32⟩
  | 83 => ⟨S_, .f32⟩
  | 84 => ⟨S32x256x8x1, .f32⟩
  | 85 => ⟨S32x256x8x1, .f32⟩
  | 86 => ⟨S_, .f32⟩
  | 87 => ⟨S32x256x8x1, .f32⟩
  | 88 => ⟨S32x256x8x1, .f32⟩
  | 89 => ⟨S32x256x8x1, .f32⟩
  | 90 => ⟨S32x256x8x256, .f32⟩
  | 91 => ⟨S32x256x8x256, .f32⟩
  | 92 => ⟨S32x256x8x256, .f32⟩
  | 93 => ⟨S32x256x8x256, .f32⟩
  | 94 => ⟨S32x256x8x256, .f32⟩
  | 95 => ⟨S_, .f32⟩
  | 96 => ⟨S32x256x8x256, .f32⟩
  | 97 => ⟨S32x256x8x256, .f32⟩
  | 98 => ⟨S_, .f32⟩
  | 99 => ⟨S32x256x8x256, .f32⟩
  | 100 => ⟨S32x256x8x256, .f32⟩
  | 101 => ⟨S32x256x8x256, .f32⟩
  | 102 => ⟨S32x256x8x256, .f32⟩
  | 103 => ⟨S32x1x8x128x256, .f32⟩
  | 104 => ⟨S32x1x8x128x256, .f32⟩
  | 105 => ⟨S32x2x8x128x256, .f32⟩
  | 106 => ⟨S8192x2048, .f32⟩
  | 107 => ⟨S8192x2048, .bf16⟩
  | 108 => ⟨S32x1x2x8x128x256, .f32⟩
  | 109 => ⟨S32x2x8x128x256, .f32⟩
  | 110 => ⟨S32x1x2x8x128x256, .f32⟩
  | 111 => ⟨S32x1x2x8x128x256, .f32⟩
  | 112 => ⟨S32x2x2x8x128x256, .f32⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_1 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_4 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_5 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_6 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_7 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_8 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_9 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_10 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_11 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_12 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_13 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_cst_14 : Ref sig .tc := ⟨.hbm, 208, rfl⟩
abbrev main_v169 : Ref sig .tc := ⟨.hbm, 209, rfl⟩
abbrev main_v170 : Ref sig .tc := ⟨.hbm, 210, rfl⟩
abbrev main_cst_15 : Ref sig .tc := ⟨.hbm, 211, rfl⟩
abbrev main_v171 : Ref sig .tc := ⟨.hbm, 212, rfl⟩
abbrev main_v172 : Ref sig .tc := ⟨.hbm, 213, rfl⟩
abbrev main_cst_16 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_call7_v0 : Ref sig .tc := ⟨.hbm, 221, rfl⟩
abbrev main_call7_v1 : Ref sig .tc := ⟨.hbm, 222, rfl⟩
abbrev main_call7_cst : Ref sig .tc := ⟨.hbm, 223, rfl⟩
abbrev main_call7_v2 : Ref sig .tc := ⟨.hbm, 224, rfl⟩
abbrev main_call7_v3 : Ref sig .tc := ⟨.hbm, 225, rfl⟩
abbrev main_call7_cst_0 : Ref sig .tc := ⟨.hbm, 226, rfl⟩
abbrev main_call7_v4 : Ref sig .tc := ⟨.hbm, 227, rfl⟩
abbrev main_call7_v5 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩

abbrev nD : Nat := 1
abbrev τ : Topo := Topo.v7x

variable {F : FTy → Type} [FloatOps F]
-- ==== First.lean ====
abbrev S16384x5632 : Shape := ⟨2, ![16384, 5632]⟩
abbrev S2x2x5632x2048 : Shape := ⟨4, ![2, 2, 5632, 2048]⟩
abbrev S8192x2048 : Shape := ⟨2, ![8192, 2048]⟩
abbrev S144x1x2048 : Shape := ⟨3, ![144, 1, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S16384x2048 : Shape := ⟨2, ![16384, 2048]⟩
abbrev S256x5632 : Shape := ⟨2, ![256, 5632]⟩
abbrev S1x1x256x2048 : Shape := ⟨4, ![1, 1, 256, 2048]⟩
abbrev S256x2048 : Shape := ⟨2, ![256, 2048]⟩
abbrev S5632x2048 : Shape := ⟨2, ![5632, 2048]⟩
abbrev S16x2048 : Shape := ⟨2, ![16, 2048]⟩
abbrev S16 : Shape := ⟨1, ![16]⟩
abbrev S16x1 : Shape := ⟨2, ![16, 1]⟩

abbrev nBuf : Space → Nat
  | .hbm => 15
  | .vmem => 23
  | .smem => 0
  | _ => 0

abbrev bufTy : (tb : Table) → Fin (tcTables nBuf tb) → BufTy
  | .hbm, ⟨0, _⟩ => ⟨S16384x5632, .bf16⟩
  | .hbm, ⟨1, _⟩ => ⟨S2x2x5632x2048, .f32⟩
  | .hbm, ⟨2, _⟩ => ⟨S8192x2048, .f32⟩
  | .hbm, ⟨3, _⟩ => ⟨S8192x2048, .f32⟩
  | .hbm, ⟨4, _⟩ => ⟨S144x1x2048, .f32⟩
  | .hbm, ⟨5, _⟩ => ⟨S2x3x2048, .f32⟩
  | .hbm, ⟨6, _⟩ => ⟨S2x3x2048, .f32⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S16384x2048, .f32⟩
  | .hbm, ⟨14, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S1x1x256x2048, .f32⟩
  | .local _ .vmem, ⟨3, _⟩ => ⟨S1x1x256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S5632x2048, .bf16⟩
  | .local _ .vmem, ⟨21, _⟩ => ⟨S256x2048, .f32⟩
  | .local _ .vmem, ⟨22, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![87], ![false]⟩

def k0_cond1 (i : grid0.Coords) : BitVec 1 :=
  let arg0 : BitVec 32 := BitVec.ofNat 32 (i 0).val
  let c22_i32_0 : BitVec 32 := 22#32
  let v1 : BitVec 1 := Scalar.cmpi .slt arg0 c22_i32_0
  let v2 : BitVec 32 := Scalar.extui v1
  let c0_i32 : BitVec 32 := 0#32
  let v3 : BitVec 1 := Scalar.cmpi .ne v2 c0_i32
  v3

def k0_mult1 (i : grid0.Coords) : BitVec 32 :=
  let arg0 : BitVec 32 := BitVec.ofNat 32 (i 0).val
  let c256_i32 : BitVec 32 := 256#32
  let v47 : BitVec 32 := Scalar.muli arg0 c256_i32
  v47
def k0_off1 (i : grid0.Coords) : Fin 2 → Nat :=
  let arg0 : BitVec 32 := BitVec.ofNat 32 (i 0).val
  let c256_i32 : BitVec 32 := 256#32
  let v47 : BitVec 32 := Scalar.muli arg0 c256_i32
  let v48 : BitVec 32 := v47
  let v49 : Index := Scalar.indexCast v48
  let c0_25 : Index := 0#32
  ![v49.toNat, 0]
def k0_cond3 (i : grid0.Coords) : BitVec 1 :=
  let arg0 : BitVec 32 := BitVec.ofNat 32 (i 0).val
  let c22_i32 : BitVec 32 := 22#32
  let v0 : BitVec 32 := Scalar.subi arg0 c22_i32
  let c0_i32_3 : BitVec 32 := 0#32
  let v7 : BitVec 1 := Scalar.cmpi .sgt v0 c0_i32_3
  let c64_i32 : BitVec 32 := 64#32
  let v8 : BitVec 1 := Scalar.cmpi .slt v0 c64_i32
  let v9 : BitVec 1 := Scalar.andi v7 v8
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi v0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v21 : BitVec 1 := Scalar.andi v9 v20
  let v22 : BitVec 32 := Scalar.extui v21
  let c0_i32_9 : BitVec 32 := 0#32
  let v23 : BitVec 1 := Scalar.cmpi .ne v22 c0_i32_9
  v23

def k0_cond4 (i : grid0.Coords) : BitVec 1 :=
  let arg0 : BitVec 32 := BitVec.ofNat 32 (i 0).val
  let c22_i32 : BitVec 32 := 22#32
  let v0 : BitVec 32 := Scalar.subi arg0 c22_i32
  let c0_i32_10 : BitVec 32 := 0#32
  let v24 : BitVec 1 := Scalar.cmpi .sgt v0 c0_i32_10
  let c64_i32_11 : BitVec 32 := 64#32
  let v25 : BitVec 1 := Scalar.cmpi .slt v0 c64_i32_11
  let v26 : BitVec 1 := Scalar.andi v24 v25
  let c2_i32_12 : BitVec 32 := 2#32
  let c0_i32_13 : BitVec 32 := 0#32
  let v27 : BitVec 1 := Scalar.cmpi .eq c2_i32_12 c0_i32_13
  let c1_i32_14 : BitVec 32 := 1#32
  let v28 : BitVec 32 := Scalar.select v27 c1_i32_14 c2_i32_12
  let v29 : BitVec 32 := Scalar.remsi v0 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let c1_i32_18 : BitVec 32 := 1#32
  let v37 : BitVec 1 := Scalar.cmpi .eq v36 c1_i32_18
  let v38 : BitVec 1 := Scalar.andi v26 v37
  let v39 : BitVec 32 := Scalar.extui v38
  let c0_i32_19 : BitVec 32 := 0#32
  let v40 : BitVec 1 := Scalar.cmpi .ne v39 c0_i32_19
  v40

def k0_cond5 (i : grid0.Coords) : BitVec 1 :=
  let arg0 : BitVec 32 := BitVec.ofNat 32 (i 0).val
  let c22_i32 : BitVec 32 := 22#32
  let v0 : BitVec 32 := Scalar.subi arg0 c22_i32
  let c64_i32_20 : BitVec 32 := 64#32
  let v41 : BitVec 1 := Scalar.cmpi .eq v0 c64_i32_20
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let c22_i32 : BitVec 32 := 22#32
  let v0 : BitVec 32 := Scalar.subi arg0 c22_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_1 (i : grid0.Coords) : Fin 4 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_2 (i : grid0.Coords) : Fin 2 → Nat :=
  let arg0 : BitVec 32 := BitVec.ofNat 32 (i 0).val
  let c22_i32 : BitVec 32 := 22#32
  let v0 : BitVec 32 := Scalar.subi arg0 c22_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c31_i32 : BitVec 32 := 31#32
  let v4 : BitVec 32 := Scalar.minsi v3 c31_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let c22_i32 : BitVec 32 := 22#32
  let v0 : BitVec 32 := Scalar.subi arg0 c22_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c32_i32 : BitVec 32 := 32#32
  let v4 : BitVec 32 := Scalar.subi v3 c32_i32
  let c0_i32_0 : BitVec 32 := 0#32
  let v5 : BitVec 32 := Scalar.maxsi v4 c0_i32_0
  let c0_i32_1 : BitVec 32 := 0#32
  let c0_i32_2 : BitVec 32 := 0#32
  ![v5.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c22_i32 : BitVec 32 := 22#32
  let v0 : BitVec 32 := Scalar.subi arg0 c22_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c32_i32 : BitVec 32 := 32#32
  let v4 : BitVec 1 := Scalar.cmpi .slt v3 c32_i32
  let c32_i32_0 : BitVec 32 := 32#32
  let v5 : BitVec 32 := Scalar.subi v3 c32_i32_0
  let c4_i32 : BitVec 32 := 4#32
  let v6 : BitVec 32 := Scalar.divsi v5 c4_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c4_i32 c0_i32_3
  let v13 : BitVec 32 := Scalar.extui v12
  let c0_i32_4 : BitVec 32 := 0#32
  let v14 : BitVec 1 := Scalar.cmpi .slt c4_i32 c0_i32_4
  let v15 : BitVec 32 := Scalar.extui v14
  let v16 : BitVec 32 := Scalar.subi v13 v15
  let v17 : BitVec 1 := Scalar.cmpi .ne v11 v16
  let v18 : BitVec 32 := Scalar.remsi v5 c4_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c0_i32_9 : BitVec 32 := 0#32
  let v26 : BitVec 32 := Scalar.addi v25 c0_i32_9
  let c2_i32 : BitVec 32 := 2#32
  let v27 : BitVec 32 := Scalar.addi v26 c2_i32
  let c0_i32_10 : BitVec 32 := 0#32
  let c0_i32_11 : BitVec 32 := 0#32
  let c0_i32_12 : BitVec 32 := 0#32
  ![v27.toNat, c0_i32_10.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c22_i32 : BitVec 32 := 22#32
  let v0 : BitVec 32 := Scalar.subi arg0 c22_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c32_i32 : BitVec 32 := 32#32
  let v4 : BitVec 1 := Scalar.cmpi .slt v3 c32_i32
  let c32_i32_0 : BitVec 32 := 32#32
  let v5 : BitVec 32 := Scalar.subi v3 c32_i32_0
  let c4_i32 : BitVec 32 := 4#32
  let v6 : BitVec 32 := Scalar.divsi v5 c4_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c4_i32 c0_i32_3
  let v13 : BitVec 32 := Scalar.extui v12
  let c0_i32_4 : BitVec 32 := 0#32
  let v14 : BitVec 1 := Scalar.cmpi .slt c4_i32 c0_i32_4
  let v15 : BitVec 32 := Scalar.extui v14
  let v16 : BitVec 32 := Scalar.subi v13 v15
  let v17 : BitVec 1 := Scalar.cmpi .ne v11 v16
  let v18 : BitVec 32 := Scalar.remsi v5 c4_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c3_i32 : BitVec 32 := 3#32
  let v26 : BitVec 32 := Scalar.addi v25 c3_i32
  let c1_i32_9 : BitVec 32 := 1#32
  let v27 : BitVec 32 := Scalar.addi v26 c1_i32_9
  let c0_i32_10 : BitVec 32 := 0#32
  let c0_i32_11 : BitVec 32 := 0#32
  let c0_i32_12 : BitVec 32 := 0#32
  ![v27.toNat, c0_i32_10.toNat, c0_i32_11.toNat]

def cc0_transform_8 (i : grid0.Coords) : Fin 3 → Nat :=
  let arg0 : BitVec 32 := BitVec.ofNat 32 (i 0).val
  let c22_i32 : BitVec 32 := 22#32
  let v0 : BitVec 32 := Scalar.subi arg0 c22_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c32_i32 : BitVec 32 := 32#32
  let v4 : BitVec 1 := Scalar.cmpi .slt v3 c32_i32
  let c32_i32_0 : BitVec 32 := 32#32
  let v5 : BitVec 32 := Scalar.subi v3 c32_i32_0
  let c4_i32 : BitVec 32 := 4#32
  let v6 : BitVec 32 := Scalar.divsi v5 c4_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c4_i32 c0_i32_3
  let v13 : BitVec 32 := Scalar.extui v12
  let c0_i32_4 : BitVec 32 := 0#32
  let v14 : BitVec 1 := Scalar.cmpi .slt c4_i32 c0_i32_4
  let v15 : BitVec 32 := Scalar.extui v14
  let v16 : BitVec 32 := Scalar.subi v13 v15
  let v17 : BitVec 1 := Scalar.cmpi .ne v11 v16
  let v18 : BitVec 32 := Scalar.remsi v5 c4_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c3_i32 : BitVec 32 := 3#32
  let v26 : BitVec 32 := Scalar.addi v25 c3_i32
  let c0_i32_9 : BitVec 32 := 0#32
  let v27 : BitVec 32 := Scalar.addi v26 c0_i32_9
  let c0_i32_10 : BitVec 32 := 0#32
  let c0_i32_11 : BitVec 32 := 0#32
  let c0_i32_12 : BitVec 32 := 0#32
  ![v27.toNat, c0_i32_10.toNat, c0_i32_11.toNat]

def cc0_transform_9 (i : grid0.Coords) : Fin 2 → Nat :=
  let arg0 : BitVec 32 := BitVec.ofNat 32 (i 0).val
  let c22_i32 : BitVec 32 := 22#32
  let v0 : BitVec 32 := Scalar.subi arg0 c22_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let c22_i32 : BitVec 32 := 22#32
  let v0 : BitVec 32 := Scalar.subi arg0 c22_i32
  let c1_i32 : BitVec 32 := 1#32
  let v1 : BitVec 32 := Scalar.subi v0 c1_i32
  let c0_i32 : BitVec 32 := 0#32
  let c63_i32 : BitVec 32 := 63#32
  let v2 : BitVec 32 := Scalar.maxsi c0_i32 v1
  let v3 : BitVec 32 := Scalar.minsi c63_i32 v2
  let c0_i32_0 : BitVec 32 := 0#32
  let c0_i32_1 : BitVec 32 := 0#32
  ![v3.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FirstRefIdeal.lean ====
abbrev S16384x5632 : Shape := ⟨2, ![16384, 5632]⟩
abbrev S2x2x5632x2048 : Shape := ⟨4, ![2, 2, 5632, 2048]⟩
abbrev S8192x2048 : Shape := ⟨2, ![8192, 2048]⟩
abbrev S144x1x2048 : Shape := ⟨3, ![144, 1, 2048]⟩
abbrev S2x3x2048 : Shape := ⟨3, ![2, 3, 2048]⟩
abbrev S1x1x5632x2048 : Shape := ⟨4, ![1, 1, 5632, 2048]⟩
abbrev S5632x2048 : Shape := ⟨2, ![5632, 2048]⟩
abbrev S16384x2048 : Shape := ⟨2, ![16384, 2048]⟩
abbrev S16x9x2048 : Shape := ⟨3, ![16, 9, 2048]⟩
abbrev S1x9x2048 : Shape := ⟨3, ![1, 9, 2048]⟩
abbrev S8192x9x2048 : Shape := ⟨3, ![8192, 9, 2048]⟩
abbrev S8x9x2048 : Shape := ⟨3, ![8, 9, 2048]⟩
abbrev S8x1x9x2048 : Shape := ⟨4, ![8, 1, 9, 2048]⟩
abbrev S8x1024x9x2048 : Shape := ⟨4, ![8, 1024, 9, 2048]⟩
abbrev S16384x9x2048 : Shape := ⟨3, ![16384, 9, 2048]⟩
abbrev S16384x1x2048 : Shape := ⟨3, ![16384, 1, 2048]⟩
abbrev S_ : Shape := ⟨0, ![]⟩
abbrev S1x1x2048 : Shape := ⟨3, ![1, 1, 2048]⟩
abbrev S2048 : Shape := ⟨1, ![2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x2x5632x2048, .f32⟩
  | .hbm, ⟨2, _⟩ => ⟨S8192x2048, .f32⟩
  | .hbm, ⟨3, _⟩ => ⟨S8192x2048, .f32⟩
  | .hbm, ⟨4, _⟩ => ⟨S144x1x2048, .f32⟩
  | .hbm, ⟨5, _⟩ => ⟨S2x3x2048, .f32⟩
  | .hbm, ⟨6, _⟩ => ⟨S2x3x2048, .f32⟩
  | .hbm, ⟨7, _⟩ => ⟨S16384x5632, .f32⟩
  | .hbm, ⟨8, _⟩ => ⟨S1x1x5632x2048, .f32⟩
  | .hbm, ⟨9, _⟩ => ⟨S5632x2048, .f32⟩
  | .hbm, ⟨10, _⟩ => ⟨S16384x2048, .f32⟩
  | .hbm, ⟨11, _⟩ => ⟨S16x9x2048, .f32⟩
  | .hbm, ⟨12, _⟩ => ⟨S1x9x2048, .f32⟩
  | .hbm, ⟨13, _⟩ => ⟨S8192x9x2048, .f32⟩
  | .hbm, ⟨14, _⟩ => ⟨S8x9x2048, .f32⟩
  | .hbm, ⟨15, _⟩ => ⟨S8x1x9x2048, .f32⟩
  | .hbm, ⟨16, _⟩ => ⟨S8x1024x9x2048, .f32⟩
  | .hbm, ⟨17, _⟩ => ⟨S8192x9x2048, .f32⟩
  | .hbm, ⟨18, _⟩ => ⟨S16384x9x2048, .f32⟩
  | .hbm, ⟨19, _⟩ => ⟨S16384x2048, .f32⟩
  | .hbm, ⟨20, _⟩ => ⟨S16384x1x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S1x1x2048, .f32⟩
  | .hbm, ⟨26, _⟩ => ⟨S2048, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S1x1x2048, .f32⟩
  | .hbm, ⟨46, _⟩ => ⟨S2048, .f32⟩
  | .hbm, ⟨47, _⟩ => ⟨S16384x2048, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x2048, .f32⟩
  | .hbm, ⟨59, _⟩ => ⟨S16384x2048, .f32⟩
  | .hbm, ⟨60, _⟩ => ⟨S1x2048, .f32⟩
  | .hbm, ⟨61, _⟩ => ⟨S16384x2048, .f32⟩
  | .hbm, ⟨62, _⟩ => ⟨S16384x2048, .f32⟩
  | .hbm, ⟨63, _⟩ => ⟨S16384x1x2048, .f32⟩
  | .hbm, ⟨64, _⟩ => ⟨S16384x2048, .f32⟩
  | .hbm, ⟨65, _⟩ => ⟨S_, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x1x2048, .f32⟩
  | .hbm, ⟨70, _⟩ => ⟨S16384x2048, .f32⟩
  | .hbm, ⟨71, _⟩ => ⟨S16384x2048, .f32⟩
  | .hbm, ⟨72, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Newk.lean ====
abbrev S16384x2048 : Shape := ⟨2, ![16384, 2048]⟩
abbrev S2x2048x17408 : Shape := ⟨3, ![2, 2048, 17408]⟩
abbrev S32x2x256x1024 : Shape := ⟨4, ![32, 2, 256, 1024]⟩
abbrev S512x2048 : Shape := ⟨2, ![512, 2048]⟩
abbrev S1x2048x1024 : Shape := ⟨3, ![1, 2048, 1024]⟩
abbrev S2x2x256x1024 : Shape := ⟨4, ![2, 2, 256, 1024]⟩
abbrev S2048x1024 : Shape := ⟨2, ![2048, 1024]⟩
abbrev S512x1024 : Shape := ⟨2, ![512, 1024]⟩
abbrev S2x256x1024 : Shape := ⟨3, ![2, 256, 1024]⟩
abbrev S2x1x256x1024 : Shape := ⟨4, ![2, 1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S32x2x256x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S2x2x256x1024, .f32⟩
  | .local _ .vmem, ⟨4, _⟩ => ⟨S2x2x256x1024, .f32⟩
  | .local _ .vmem, ⟨5, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c9_i32 : BitVec 32 := 9#32
  let c0_i32_1 : BitVec 32 := 0#32
  ![c0_i32.toNat, c0_i32_0.toNat, c9_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NewkRefIdeal.lean ====
abbrev S16384x2048 : Shape := ⟨2, ![16384, 2048]⟩
abbrev S2x2048x17408 : Shape := ⟨3, ![2, 2048, 17408]⟩
abbrev S8192x2048 : Shape := ⟨2, ![8192, 2048]⟩
abbrev S1x2048x17408 : Shape := ⟨3, ![1, 2048, 17408]⟩
abbrev S2048x17408 : Shape := ⟨2, ![2048, 17408]⟩
abbrev S8192x17408 : Shape := ⟨2, ![8192, 17408]⟩
abbrev S8192x1024 : Shape := ⟨2, ![8192, 1024]⟩
abbrev S32x256x1024 : Shape := ⟨3, ![32, 256, 1024]⟩
abbrev S_ : Shape := ⟨0, ![]⟩
abbrev S32x1x256x1024 : Shape := ⟨4, ![32, 1, 256, 1024]⟩
abbrev S32x2x256x1024 : Shape := ⟨4, ![32, 2, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S8192x2048, .bf16⟩
  | .hbm, ⟨3, _⟩ => ⟨S8192x2048, .f32⟩
  | .hbm, ⟨4, _⟩ => ⟨S1x2048x17408, .f32⟩
  | .hbm, ⟨5, _⟩ => ⟨S2048x17408, .f32⟩
  | .hbm, ⟨6, _⟩ => ⟨S8192x17408, .f32⟩
  | .hbm, ⟨7, _⟩ => ⟨S8192x1024, .f32⟩
  | .hbm, ⟨8, _⟩ => ⟨S32x256x1024, .f32⟩
  | .hbm, ⟨9, _⟩ => ⟨S_, .f32⟩
  | .hbm, ⟨10, _⟩ => ⟨S32x256x1024, .f32⟩
  | .hbm, ⟨11, _⟩ => ⟨S32x1x256x1024, .f32⟩
  | .hbm, ⟨12, _⟩ => ⟨S32x1x256x1024, .f32⟩
  | .hbm, ⟨13, _⟩ => ⟨S32x2x256x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Newv.lean ====
abbrev S16384x2048 : Shape := ⟨2, ![16384, 2048]⟩
abbrev S2x2048x17408 : Shape := ⟨3, ![2, 2048, 17408]⟩
abbrev S32x2x256x1024 : Shape := ⟨4, ![32, 2, 256, 1024]⟩
abbrev S512x2048 : Shape := ⟨2, ![512, 2048]⟩
abbrev S1x2048x1024 : Shape := ⟨3, ![1, 2048, 1024]⟩
abbrev S2x2x256x1024 : Shape := ⟨4, ![2, 2, 256, 1024]⟩
abbrev S2048x1024 : Shape := ⟨2, ![2048, 1024]⟩
abbrev S512x1024 : Shape := ⟨2, ![512, 1024]⟩
abbrev S2x256x1024 : Shape := ⟨3, ![2, 256, 1024]⟩
abbrev S2x1x256x1024 : Shape := ⟨4, ![2, 1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S32x2x256x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S2x2x256x1024, .f32⟩
  | .local _ .vmem, ⟨4, _⟩ => ⟨S2x2x256x1024, .f32⟩
  | .local _ .vmem, ⟨5, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c10_i32 : BitVec 32 := 10#32
  let c0_i32_1 : BitVec 32 := 0#32
  ![c0_i32.toNat, c0_i32_0.toNat, c10_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NewvRefIdeal.lean ====
abbrev S16384x2048 : Shape := ⟨2, ![16384, 2048]⟩
abbrev S2x2048x17408 : Shape := ⟨3, ![2, 2048, 17408]⟩
abbrev S8192x2048 : Shape := ⟨2, ![8192, 2048]⟩
abbrev S1x2048x17408 : Shape := ⟨3, ![1, 2048, 17408]⟩
abbrev S2048x17408 : Shape := ⟨2, ![2048, 17408]⟩
abbrev S8192x17408 : Shape := ⟨2, ![8192, 17408]⟩
abbrev S8192x1024 : Shape := ⟨2, ![8192, 1024]⟩
abbrev S32x256x1024 : Shape := ⟨3, ![32, 256, 1024]⟩
abbrev S_ : Shape := ⟨0, ![]⟩
abbrev S32x1x256x1024 : Shape := ⟨4, ![32, 1, 256, 1024]⟩
abbrev S32x2x256x1024 : Shape := ⟨4, ![32, 2, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x17408, .f32⟩
  | .hbm, ⟨2, _⟩ => ⟨S8192x2048, .bf16⟩
  | .hbm, ⟨3, _⟩ => ⟨S8192x2048, .f32⟩
  | .hbm, ⟨4, _⟩ => ⟨S1x2048x17408, .f32⟩
  | .hbm, ⟨5, _⟩ => ⟨S2048x17408, .f32⟩
  | .hbm, ⟨6, _⟩ => ⟨S8192x17408, .f32⟩
  | .hbm, ⟨7, _⟩ => ⟨S8192x1024, .f32⟩
  | .hbm, ⟨8, _⟩ => ⟨S32x256x1024, .f32⟩
  | .hbm, ⟨9, _⟩ => ⟨S_, .f32⟩
  | .hbm, ⟨10, _⟩ => ⟨S32x256x1024, .f32⟩
  | .hbm, ⟨11, _⟩ => ⟨S32x1x256x1024, .f32⟩
  | .hbm, ⟨12, _⟩ => ⟨S32x1x256x1024, .f32⟩
  | .hbm, ⟨13, _⟩ => ⟨S32x2x256x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Out.lean ====
abbrev S16384x2048 : Shape := ⟨2, ![16384, 2048]⟩
abbrev S2x2048x2048 : Shape := ⟨3, ![2, 2048, 2048]⟩
abbrev S144x1x2048 : Shape := ⟨3, ![144, 1, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S1x512x2048 : Shape := ⟨3, ![1, 512, 2048]⟩
abbrev S2048x2048 : Shape := ⟨2, ![2048, 2048]⟩
abbrev S16x2048 : Shape := ⟨2, ![16, 2048]⟩
abbrev S16 : Shape := ⟨1, ![16]⟩
abbrev S16x1 : Shape := ⟨2, ![16, 1]⟩

abbrev nBuf : Space → Nat
  | .hbm => 14
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S144x1x2048, .f32⟩
  | .hbm, ⟨4, _⟩ => ⟨S2x3x2048, .f32⟩
  | .hbm, ⟨5, _⟩ => ⟨S2x3x2048, .f32⟩
  | .hbm, ⟨6, _⟩ => ⟨S1x1x2048, .f32⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S2048x2048, .bf16⟩
  | .local _ .vmem, ⟨19, _⟩ => ⟨S512x2048, .f32⟩
  | .local _ .vmem, ⟨20, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c4_i32_0 : BitVec 32 := 4#32
  let v1 : BitVec 1 := Scalar.cmpi .slt arg0 c4_i32_0
  let v2 : BitVec 32 := Scalar.extui v1
  let c0_i32 : BitVec 32 := 0#32
  let v3 : BitVec 1 := Scalar.cmpi .ne v2 c0_i32
  v3

def k0_mult1 (i : grid0.Coords) : BitVec 32 :=
  let arg0 : BitVec 32 := BitVec.ofNat 32 (i 0).val
  let c512_i32 : BitVec 32 := 512#32
  let v47 : BitVec 32 := Scalar.muli arg0 c512_i32
  v47
def k0_off1 (i : grid0.Coords) : Fin 2 → Nat :=
  let arg0 : BitVec 32 := BitVec.ofNat 32 (i 0).val
  let c512_i32 : BitVec 32 := 512#32
  let v47 : BitVec 32 := Scalar.muli arg0 c512_i32
  let v48 : BitVec 32 := v47
  let v49 : Index := Scalar.indexCast v48
  let c0_24 : Index := 0#32
  ![v49.toNat, 0]
def k0_cond3 (i : grid0.Coords) : BitVec 1 :=
  let arg0 : BitVec 32 := BitVec.ofNat 32 (i 0).val
  let c4_i32 : BitVec 32 := 4#32
  let v0 : BitVec 32 := Scalar.subi arg0 c4_i32
  let c0_i32_3 : BitVec 32 := 0#32
  let v7 : BitVec 1 := Scalar.cmpi .sgt v0 c0_i32_3
  let c32_i32 : BitVec 32 := 32#32
  let v8 : BitVec 1 := Scalar.cmpi .slt v0 c32_i32
  let v9 : BitVec 1 := Scalar.andi v7 v8
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi v0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_8 : BitVec 32 := 0#32
  let v20 : BitVec 1 := Scalar.cmpi .eq v19 c0_i32_8
  let v21 : BitVec 1 := Scalar.andi v9 v20
  let v22 : BitVec 32 := Scalar.extui v21
  let c0_i32_9 : BitVec 32 := 0#32
  let v23 : BitVec 1 := Scalar.cmpi .ne v22 c0_i32_9
  v23

def k0_cond4 (i : grid0.Coords) : BitVec 1 :=
  let arg0 : BitVec 32 := BitVec.ofNat 32 (i 0).val
  let c4_i32 : BitVec 32 := 4#32
  let v0 : BitVec 32 := Scalar.subi arg0 c4_i32
  let c0_i32_10 : BitVec 32 := 0#32
  let v24 : BitVec 1 := Scalar.cmpi .sgt v0 c0_i32_10
  let c32_i32_11 : BitVec 32 := 32#32
  let v25 : BitVec 1 := Scalar.cmpi .slt v0 c32_i32_11
  let v26 : BitVec 1 := Scalar.andi v24 v25
  let c2_i32_12 : BitVec 32 := 2#32
  let c0_i32_13 : BitVec 32 := 0#32
  let v27 : BitVec 1 := Scalar.cmpi .eq c2_i32_12 c0_i32_13
  let c1_i32_14 : BitVec 32 := 1#32
  let v28 : BitVec 32 := Scalar.select v27 c1_i32_14 c2_i32_12
  let v29 : BitVec 32 := Scalar.remsi v0 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let c1_i32_18 : BitVec 32 := 1#32
  let v37 : BitVec 1 := Scalar.cmpi .eq v36 c1_i32_18
  let v38 : BitVec 1 := Scalar.andi v26 v37
  let v39 : BitVec 32 := Scalar.extui v38
  let c0_i32_19 : BitVec 32 := 0#32
  let v40 : BitVec 1 := Scalar.cmpi .ne v39 c0_i32_19
  v40

def k0_cond5 (i : grid0.Coords) : BitVec 1 :=
  let arg0 : BitVec 32 := BitVec.ofNat 32 (i 0).val
  let c4_i32 : BitVec 32 := 4#32
  let v0 : BitVec 32 := Scalar.subi arg0 c4_i32
  let c32_i32_20 : BitVec 32 := 32#32
  let v41 : BitVec 1 := Scalar.cmpi .eq v0 c32_i32_20
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c16_i32 : BitVec 32 := 16#32
  let v4 : BitVec 1 := Scalar.cmpi .slt v3 c16_i32
  let c16_i32_0 : BitVec 32 := 16#32
  let v5 : BitVec 32 := Scalar.subi v3 c16_i32_0
  let c2_i32 : BitVec 32 := 2#32
  let v6 : BitVec 32 := Scalar.divsi v5 c2_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c3_i32 : BitVec 32 := 3#32
  let v26 : BitVec 32 := Scalar.addi v25 c3_i32
  let c2_i32_9 : BitVec 32 := 2#32
  let v27 : BitVec 32 := Scalar.addi v26 c2_i32_9
  let c0_i32_10 : BitVec 32 := 0#32
  let c0_i32_11 : BitVec 32 := 0#32
  let c0_i32_12 : BitVec 32 := 0#32
  ![v27.toNat, c0_i32_10.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c16_i32 : BitVec 32 := 16#32
  let v4 : BitVec 1 := Scalar.cmpi .slt v3 c16_i32
  let c16_i32_0 : BitVec 32 := 16#32
  let v5 : BitVec 32 := Scalar.subi v3 c16_i32_0
  let c2_i32 : BitVec 32 := 2#32
  let v6 : BitVec 32 := Scalar.divsi v5 c2_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c6_i32 : BitVec 32 := 6#32
  let v26 : BitVec 32 := Scalar.addi v25 c6_i32
  let c1_i32_9 : BitVec 32 := 1#32
  let v27 : BitVec 32 := Scalar.addi v26 c1_i32_9
  let c0_i32_10 : BitVec 32 := 0#32
  let c0_i32_11 : BitVec 32 := 0#32
  let c0_i32_12 : BitVec 32 := 0#32
  ![v27.toNat, c0_i32_10.toNat, c0_i32_11.toNat]

def cc0_transform_7 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c16_i32 : BitVec 32 := 16#32
  let v4 : BitVec 1 := Scalar.cmpi .slt v3 c16_i32
  let c16_i32_0 : BitVec 32 := 16#32
  let v5 : BitVec 32 := Scalar.subi v3 c16_i32_0
  let c2_i32 : BitVec 32 := 2#32
  let v6 : BitVec 32 := Scalar.divsi v5 c2_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let c1_i32_6 : BitVec 32 := 1#32
  let v21 : BitVec 32 := Scalar.subi v6 c1_i32_6
  let v22 : BitVec 32 := Scalar.select v20 v21 v6
  let c1_i32_7 : BitVec 32 := 1#32
  let v23 : BitVec 32 := Scalar.addi c1_i32_7 v22
  let c0_i32_8 : BitVec 32 := 0#32
  let v24 : BitVec 32 := Scalar.select v4 c0_i32_8 v23
  let c9_i32 : BitVec 32 := 9#32
  let v25 : BitVec 32 := Scalar.muli v24 c9_i32
  let c6_i32 : BitVec 32 := 6#32
  let v26 : BitVec 32 := Scalar.addi v25 c6_i32
  let c0_i32_9 : BitVec 32 := 0#32
  let v27 : BitVec 32 := Scalar.addi v26 c0_i32_9
  let c0_i32_10 : BitVec 32 := 0#32
  let c0_i32_11 : BitVec 32 := 0#32
  let c0_i32_12 : BitVec 32 := 0#32
  ![v27.toNat, c0_i32_10.toNat, c0_i32_11.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S16384x2048 : Shape := ⟨2, ![16384, 2048]⟩
abbrev S2x2048x2048 : Shape := ⟨3, ![2, 2048, 2048]⟩
abbrev S144x1x2048 : Shape := ⟨3, ![144, 1, 2048]⟩
abbrev S2x3x2048 : Shape := ⟨3, ![2, 3, 2048]⟩
abbrev S1x2048x2048 : Shape := ⟨3, ![1, 2048, 2048]⟩
abbrev S2048x2048 : Shape := ⟨2, ![2048, 2048]⟩
abbrev S16x9x2048 : Shape := ⟨3, ![16, 9, 2048]⟩
abbrev S1x9x2048 : Shape := ⟨3, ![1, 9, 2048]⟩
abbrev S8192x9x2048 : Shape := ⟨3, ![8192, 9, 2048]⟩
abbrev S8x9x2048 : Shape := ⟨3, ![8, 9, 2048]⟩
abbrev S8x1x9x2048 : Shape := ⟨4, ![8, 1, 9, 2048]⟩
abbrev S8x1024x9x2048 : Shape := ⟨4, ![8, 1024, 9, 2048]⟩
abbrev S16384x9x2048 : Shape := ⟨3, ![16384, 9, 2048]⟩
abbrev S16384x1x2048 : Shape := ⟨3, ![16384, 1, 2048]⟩
abbrev S1x1x2048 : Shape := ⟨3, ![1, 1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S144x1x2048, .f32⟩
  | .hbm, ⟨4, _⟩ => ⟨S2x3x2048, .f32⟩
  | .hbm, ⟨5, _⟩ => ⟨S2x3x2048, .f32⟩
  | .hbm, ⟨6, _⟩ => ⟨S16384x2048, .f32⟩
  | .hbm, ⟨7, _⟩ => ⟨S1x2048x2048, .f32⟩
  | .hbm, ⟨8, _⟩ => ⟨S2048x2048, .f32⟩
  | .hbm, ⟨9, _⟩ => ⟨S16384x2048, .f32⟩
  | .hbm, ⟨10, _⟩ => ⟨S16x9x2048, .f32⟩
  | .hbm, ⟨11, _⟩ => ⟨S1x9x2048, .f32⟩
  | .hbm, ⟨12, _⟩ => ⟨S8192x9x2048, .f32⟩
  | .hbm, ⟨13, _⟩ => ⟨S8x9x2048, .f32⟩
  | .hbm, ⟨14, _⟩ => ⟨S8x1x9x2048, .f32⟩
  | .hbm, ⟨15, _⟩ => ⟨S8x1024x9x2048, .f32⟩
  | .hbm, ⟨16, _⟩ => ⟨S8192x9x2048, .f32⟩
  | .hbm, ⟨17, _⟩ => ⟨S16384x9x2048, .f32⟩
  | .hbm, ⟨18, _⟩ => ⟨S16384x1x2048, .f32⟩
  | .hbm, ⟨19, _⟩ => ⟨S16384x2048, .f32⟩
  | .hbm, ⟨20, _⟩ => ⟨S1x1x2048, .f32⟩
  | .hbm, ⟨21, _⟩ => ⟨S2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x1x2048, .f32⟩
  | .hbm, ⟨41, _⟩ => ⟨S2048, .f32⟩
  | .hbm, ⟨42, _⟩ => ⟨S16384x2048, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x2048, .f32⟩
  | .hbm, ⟨54, _⟩ => ⟨S16384x2048, .f32⟩
  | .hbm, ⟨55, _⟩ => ⟨S1x2048, .f32⟩
  | .hbm, ⟨56, _⟩ => ⟨S16384x2048, .f32⟩
  | .hbm, ⟨57, _⟩ => ⟨S16384x2048, .f32⟩
  | .hbm, ⟨58, _⟩ => ⟨S16384x1x2048, .f32⟩
  | .hbm, ⟨59, _⟩ => ⟨S16384x2048, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x1x2048, .f32⟩
  | .hbm, ⟨65, _⟩ => ⟨S16384x2048, .f32⟩
  | .hbm, ⟨66, _⟩ => ⟨S16384x2048, .f32⟩
  | .hbm, ⟨67, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Proof.Ret.Head.lean ====
/-
  One head of the context retention call, on one block: the values the body computes for a chunk, as functions of the
  chunk's queries, keys, values and gate and of the head's two log-decay logits.
-/
module

public import proofs.«01_k».proof.Proof.Gen.RetIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

noncomputable section

namespace Cert.RetIdeal.Ret

open Cert.RetIdeal Cert.RetIdeal.Gen Idealize.ShloMosaic Idealize.ShloMosaic.TcCoe Idealize.SL.Sem

/-! ## The scalars -/

/-- The log of the sigmoid, as the kernel writes it. -/
def ls (x : EReal) : EReal := min x 0 - Ideal.log1p (Ideal.exp (0 - FloatOps.absf (F := Ideal) (φ := .f32) x))

/-- The scale on the keys. -/
def kscale : EReal := Ideal.ofBits FTy.f32 1035273459#32
/-- The chunk length. -/
def c128 : EReal := Ideal.ofBits FTy.f32 1124073472#32
/-- The chunk length less one. -/
def c127 : EReal := Ideal.ofBits FTy.f32 1123942400#32
/-- A position of the chunk as a float. -/
def ps (r : Fin 128) : EReal := FloatOps.sitofp (F := Ideal) FTy.f32 (BitVec.ofNat 32 r.val)
/-- The difference of two positions as a float. -/
def df (r l : Fin 128) : EReal := FloatOps.sitofp (F := Ideal) FTy.f32 (IntOp.subi (BitVec.ofNat 32 r.val) (BitVec.ofNat 32 l.val))

/-- The decay to the end of the chunk, forward, at position `r`. -/
def zf (l : EReal) (r : Fin 128) : EReal := Ideal.exp (l * (c127 - ps r))
/-- The decay to the start of the chunk, backward, at position `r`. -/
def zb (l : EReal) (r : Fin 128) : EReal := Ideal.exp (l * ps r)
/-- The decay of the entering state at position `r`, forward. -/
def xf (l : EReal) (r : Fin 128) : EReal := Ideal.exp (l * (ps r + 1))
/-- The decay of the entering state at position `r`, backward. -/
def xb (l : EReal) (r : Fin 128) : EReal := Ideal.exp (l * (c128 - ps r))
/-- The decay over a whole chunk. -/
def dc (l : EReal) : EReal := Ideal.exp (l * c128)

/-- The two directions' decays between two positions, added: each direction counts the positions on its side, both the
    diagonal. -/
def dmask (lf lb : EReal) (r l : Fin 128) : EReal :=
  (if 0 ≤ df r l then Ideal.exp (lf * max (df r l) 0) else 0) + if df r l ≤ 0 then Ideal.exp (lb * max (0 - df r l) 0) else 0

/-! ## The head -/

/-- A lane of the key dimension among the lanes of the value dimension. -/
abbrev lane (d : Fin 128) : Fin 256 := ⟨d.val, by omega⟩

/-- One chunk's decayed key-value product. -/
def kv (z : EReal → Fin 128 → EReal) (l : Fin 256 → EReal) (k : Fin 128 → Fin 128 → EReal) (v : Fin 128 → Fin 256 → EReal)
    (d : Fin 128) (e : Fin 256) : EReal :=
  ∑ x, k x d * kscale * z (l (lane d)) x * v x e

/-- The state after one chunk from the zero state. -/
def st1 (z : EReal → Fin 128 → EReal) (l : Fin 256 → EReal) (k : Fin 128 → Fin 128 → EReal) (v : Fin 128 → Fin 256 → EReal)
    (d : Fin 128) (e : Fin 256) : EReal :=
  dc (l e) * 0 + kv z l k v d e

/-- The state after two chunks from the zero state. -/
def st2 (z : EReal → Fin 128 → EReal) (l : Fin 256 → EReal) (k k' : Fin 128 → Fin 128 → EReal) (v v' : Fin 128 → Fin 256 → EReal)
    (d : Fin 128) (e : Fin 256) : EReal :=
  dc (l e) * st1 z l k v d e + kv z l k' v' d e

/-- The masked scores of a chunk. -/
def score (lf lb : Fin 256 → EReal) (q k : Fin 128 → Fin 128 → EReal) (r l : Fin 128) : EReal :=
  (∑ x, q r x * (k l x * kscale)) * dmask (lf (lane l)) (lb (lane l)) r l

/-- The retained values of a chunk before the normalisation: the masked scores on the chunk's values, and the decayed
    queries on the two entering states. -/
def ctx (lf lb : Fin 256 → EReal) (q k : Fin 128 → Fin 128 → EReal) (v : Fin 128 → Fin 256 → EReal)
    (sf sb : Fin 128 → Fin 256 → EReal) (r : Fin 128) (e : Fin 256) : EReal :=
  (∑ l, score lf lb q k r l * v l e)
    + ((∑ d, q r d * xf (lf (lane d)) r * sf d e) + ∑ d, q r d * xb (lb (lane d)) r * sb d e)

/-- The normalisation over the head and the gate. -/
def norm (o : Fin 256 → EReal) (g : EReal) (e : Fin 256) : EReal :=
  o e * Ideal.rsqrt (Ideal.div (∑ x, o x * o x) (Ideal.ofBits FTy.f32 1132462080#32) + Ideal.ofBits FTy.f32 897988541#32)
    * (g * Ideal.logistic g)

/-! ## The body's blocks -/

/-- Under a last write, an index the write places is read from the write. -/
theorem canon_hit {s : Shape} {e : EltTy} (r : Rect s) (w : r.shape.Idx → Elt Ideal e) (L : List (View.Piece (Elt Ideal) s e)) (i : s.Idx)
    (x : r.shape.Idx) (h : r.emb x = i) : View.canon (⟨r, w⟩ :: L) i = w x := by
  subst h; exact View.canon_cons_emb r w L x

/-- Two half-width blocks side by side. -/
def joinQ (a b : Vec Ideal S1x128x128 .bf16) : Vec Ideal S1x128x256 .bf16 := fun y =>
  if h : (y 2).val < 128 then a (ix3 (0 : Fin 1) (y 1) (⟨(y 2).val, h⟩ : Fin 128))
  else b (ix3 (0 : Fin 1) (y 1) (⟨(y 2).val - 128, by have h2 : (y 2).val < 256 := (y 2).isLt; omega⟩ : Fin 128))

theorem joinQ_lt (a b : Vec Ideal S1x128x128 .bf16) (z : Fin 1) (p : Fin 128) (c : Fin 256) (h : c.val < 128) :
    joinQ a b (ix3 z p c) = a (ix3 (0 : Fin 1) p ⟨c.val, h⟩) :=
  dif_pos (c := ((ix3 z p c : S1x128x256.Idx) 2).val < 128) h
theorem joinQ_ge (a b : Vec Ideal S1x128x128 .bf16) (z : Fin 1) (p : Fin 128) (c : Fin 256) (h : ¬ c.val < 128) :
    joinQ a b (ix3 z p c) = b (ix3 (0 : Fin 1) p ⟨c.val - 128, by omega⟩) :=
  dif_neg (c := ((ix3 z p c : S1x128x256.Idx) 2).val < 128) h

/-- A block stored as two halves, the right one last, is loaded as the halves side by side. -/
theorem readCov_join {σ : RefSig} {κ : Kind} {sp : Space} (v : View σ κ sp S8x256x256 .bf16) (j r : Nat)
    (i1 : ∀ a, (![j, r, 128] : Fin 3 → Nat) a + (![1, 128, 128] : Fin 3 → Nat) a ≤ S8x256x256.size a)
    (i0 : ∀ a, (![j, r, 0] : Fin 3 → Nat) a + (![1, 128, 128] : Fin 3 → Nat) a ≤ S8x256x256.size a)
    (i : ∀ a, (![j, r, 0] : Fin 3 → Nat) a + (![1, 128, 256] : Fin 3 → Nat) a ≤ S8x256x256.size a)
    (a b : Vec Ideal S1x128x128 .bf16) (L : List (View.Piece (Elt Ideal) S8x256x256 .bf16)) :
    v.readCov (⟨Rect.unit ![j, r, 128] ![1, 128, 128] i1, b⟩ :: ⟨Rect.unit ![j, r, 0] ![1, 128, 128] i0, a⟩ :: L)
      (Rect.unit ![j, r, 0] ![1, 128, 256] i).toLoadRect = joinQ a b := by
  rw [View.readCov_eq_canon']
  funext y
  obtain ⟨z, p, c, rfl⟩ : ∃ (z : Fin 1) (p : Fin 128) (c : Fin 256), y = ix3 z p c := ⟨y 0, y 1, y 2, eq_ix3 y⟩
  have hj : j + 1 ≤ 8 := i 0
  have hr : r + 128 ≤ 256 := i 1
  have hi : (Rect.unit (s := S8x256x256) ![j, r, 0] ![1, 128, 256] i).toLoadRect.idx (ix3 z p c)
      = ix3 (⟨j, by omega⟩ : Fin 8) (⟨r + p.val, by omega⟩ : Fin 256) c := by
    funext a
    apply Fin.ext
    match a with
    | ⟨0, _⟩ => exact (show j + 1 * z.val = j by omega)
    | ⟨1, _⟩ => exact (show r + 1 * p.val = r + p.val by omega)
    | ⟨2, _⟩ => exact (show 0 + 1 * c.val = c.val by omega)
  rw [hi]
  by_cases h : c.val < 128
  · refine (View.canon_cons_of_not_mem _ _ fun hm => ?_).trans ((canon_hit _ _ _ _ (ix3 (0 : Fin 1) p (⟨c.val, h⟩ : Fin 128)) ?_).trans (joinQ_lt a b z p c h).symm)
    · have := ((Rect.mem_set_unit (inb := i1)).mp hm 2).1
      exact absurd (show 128 ≤ c.val from this) (by omega)
    · funext a
      apply Fin.ext
      match a with
      | ⟨0, _⟩ => exact (show j + 1 * 0 = j by omega)
      | ⟨1, _⟩ => exact (show r + 1 * p.val = r + p.val by omega)
      | ⟨2, _⟩ => exact (show 0 + 1 * c.val = c.val by omega)
  · refine (canon_hit _ _ _ _ (ix3 (0 : Fin 1) p (⟨c.val - 128, by omega⟩ : Fin 128)) ?_).trans (joinQ_ge a b z p c h).symm
    funext a
    apply Fin.ext
    match a with
    | ⟨0, _⟩ => exact (show j + 1 * 0 = j by omega)
    | ⟨1, _⟩ => exact (show r + 1 * p.val = r + p.val by omega)
    | ⟨2, _⟩ => exact (show 128 + 1 * (c.val - 128) = c.val by omega)

/-- The mask of a head. -/
def maskB (lg : Vec Ideal S1x2x1x256 .f32) : FVec Ideal S128x128 .f32 :=
  k0_pay12 (k0_pay8 lg) (k0_pay9 lg) (k0_pay10 (F := Ideal)) k0_pay11 (FloatOps.ofBits (F := Ideal) FTy.f32 0#32)

/-- The decayed keys of a chunk, forward. -/
def kfB (lg : Vec Ideal S1x2x1x256 .f32) (k : Vec Ideal S128x128 .bf16) : FVec Ideal S1x128x128 .bf16 :=
  k0_pay24 (k0_pay13 k0_pay3 (k0_pay7 lg)) (k0_pay20 k)
/-- The decayed keys of a chunk, backward. -/
def kbB (lg : Vec Ideal S1x2x1x256 .f32) (k : Vec Ideal S128x128 .bf16) : FVec Ideal S1x128x128 .bf16 :=
  k0_pay25 (k0_pay14 k0_pay3 (k0_pay8 lg)) (k0_pay20 k)
/-- The forward state after one chunk, as stored for the next. -/
def sfB (lg : Vec Ideal S1x2x1x256 .f32) (k : Vec Ideal S128x128 .bf16) (v : Vec Ideal S128x256 .bf16) : FVec Ideal S1x1x128x256 .bf16 :=
  k0_pay40 (k0_pay38 (k0_pay17 (k0_pay5 lg))) (kfB lg k) v
/-- The backward state after one chunk, as stored for the next. -/
def sbB (lg : Vec Ideal S1x2x1x256 .f32) (k : Vec Ideal S128x128 .bf16) (v : Vec Ideal S128x256 .bf16) : FVec Ideal S1x1x128x256 .bf16 :=
  k0_pay46 (k0_pay44 (k0_pay18 (k0_pay6 lg))) (kbB lg k) v
/-- The backward state after both chunks: chunk 1, then chunk 0. -/
def endB (lg : Vec Ideal S1x2x1x256 .f32) (k1 : Vec Ideal S128x128 .bf16) (v1 : Vec Ideal S128x256 .bf16)
    (k0 : Vec Ideal S128x128 .bf16) (v0 : Vec Ideal S128x256 .bf16) : FVec Ideal S1x1x128x256 .f32 :=
  k0_pay47 (k0_pay18 (k0_pay6 lg)) (k0_pay44 (k0_pay18 (k0_pay6 lg))) (kbB lg k1) v1 (kbB lg k0) v0
/-- A head's result on a chunk, from the two entering states. -/
def outB (lg : Vec Ideal S1x2x1x256 .f32) (q k : Vec Ideal S128x128 .bf16) (v g : Vec Ideal S128x256 .bf16)
    (sf sb : FVec Ideal S1x1x128x256 .bf16) : FVec Ideal S128x256 .bf16 :=
  k0_pay52 (k0_pay49 (maskB lg) (k0_pay30 q) (k0_pay31 (k0_pay29 k)))
    (joinQ (k0_pay34 (k0_pay15 k0_pay3 (k0_pay7 lg)) (k0_pay28 q)) (k0_pay35 (k0_pay16 k0_pay3 (k0_pay8 lg)) (k0_pay28 q)))
    v sf sb g

/-! ## The blocks read at an index -/

/-- A head's log decays, one per lane; direction 0 is forward, 1 backward. -/
abbrev lv (lg : Vec Ideal S1x2x1x256 .f32) (d : Fin 2) (e : Fin 256) : EReal := ls (lg (ix4 (0 : Fin 1) d (0 : Fin 1) e))
/-- A two-axis block as a function of its coordinates. -/
abbrev cv {m n : Nat} (x : (⟨2, ![m, n]⟩ : Shape).Idx → EReal) (r : Fin m) (d : Fin n) : EReal := x (ix2 r d)

theorem maskB_apply (lg : Vec Ideal S1x2x1x256 .f32) (r l : Fin 128) :
    maskB lg (ix2 r l) = dmask (lv lg 0 (lane l)) (lv lg 1 (lane l)) r l := by
  pointwise [maskB, k0_pay2, k0_pay12, k0_pay8, k0_pay9, k0_pay10, k0_pay11, k0_pay7, k0_pay6, k0_pay5, k0_pay4]
  rfl

theorem kfB_apply (lg : Vec Ideal S1x2x1x256 .f32) (k : Vec Ideal S128x128 .bf16) (r d : Fin 128) :
    kfB lg k (ix3 (0 : Fin 1) r d) = k (ix2 r d) * kscale * zf (lv lg 0 (lane d)) r := by
  pointwise [kfB, k0_pay24, k0_pay13, k0_pay3, k0_pay7, k0_pay5, k0_pay4, k0_pay20]
  rfl

theorem kbB_apply (lg : Vec Ideal S1x2x1x256 .f32) (k : Vec Ideal S128x128 .bf16) (r d : Fin 128) :
    kbB lg k (ix3 (0 : Fin 1) r d) = k (ix2 r d) * kscale * zb (lv lg 1 (lane d)) r := by
  pointwise [kbB, k0_pay25, k0_pay14, k0_pay3, k0_pay8, k0_pay6, k0_pay4, k0_pay20]
  rfl

theorem sfB_apply (lg : Vec Ideal S1x2x1x256 .f32) (k : Vec Ideal S128x128 .bf16) (v : Vec Ideal S128x256 .bf16) (d : Fin 128) (e : Fin 256) :
    sfB lg k v (ix4 (0 : Fin 1) (0 : Fin 1) d e) = st1 zf (lv lg 0) (cv k) (cv v) d e := by
  have h : sfB lg k v (ix4 (0 : Fin 1) (0 : Fin 1) d e) = dc (lv lg 0 e) * 0 + ∑ x : Fin 128, kfB lg k (ix3 (0 : Fin 1) x d) * v (ix2 x e) := by
    pointwise [sfB, k0_pay40, k0_pay39, k0_pay38, k0_pay36, k0_pay17, k0_pay5, k0_pay4]
    rfl
  simp only [h, kfB_apply]
  rfl

theorem sbB_apply (lg : Vec Ideal S1x2x1x256 .f32) (k : Vec Ideal S128x128 .bf16) (v : Vec Ideal S128x256 .bf16) (d : Fin 128) (e : Fin 256) :
    sbB lg k v (ix4 (0 : Fin 1) (0 : Fin 1) d e) = st1 zb (lv lg 1) (cv k) (cv v) d e := by
  have h : sbB lg k v (ix4 (0 : Fin 1) (0 : Fin 1) d e) = dc (lv lg 1 e) * 0 + ∑ x : Fin 128, kbB lg k (ix3 (0 : Fin 1) x d) * v (ix2 x e) := by
    pointwise [sbB, k0_pay46, k0_pay45, k0_pay44, k0_pay42, k0_pay18, k0_pay6, k0_pay4]
    rfl
  simp only [h, kbB_apply]
  rfl

theorem endB_apply (lg : Vec Ideal S1x2x1x256 .f32) (k1 : Vec Ideal S128x128 .bf16) (v1 : Vec Ideal S128x256 .bf16)
    (k0 : Vec Ideal S128x128 .bf16) (v0 : Vec Ideal S128x256 .bf16) (d : Fin 128) (e : Fin 256) :
    endB lg k1 v1 k0 v0 (ix4 (0 : Fin 1) (0 : Fin 1) d e) = st2 zb (lv lg 1) (cv k1) (cv k0) (cv v1) (cv v0) d e := by
  have h : endB lg k1 v1 k0 v0 (ix4 (0 : Fin 1) (0 : Fin 1) d e)
      = dc (lv lg 1 e) * (dc (lv lg 1 e) * 0 + ∑ x : Fin 128, kbB lg k1 (ix3 (0 : Fin 1) x d) * v1 (ix2 x e))
        + ∑ x : Fin 128, kbB lg k0 (ix3 (0 : Fin 1) x d) * v0 (ix2 x e) := by
    pointwise [endB, k0_pay47, k0_pay45, k0_pay44, k0_pay42, k0_pay18, k0_pay6, k0_pay4]
    rfl
  simp only [h, kbB_apply]
  rfl

/-- A sum over the three stacked parts of the product's contraction. -/
theorem sum384 (f : Fin 384 → EReal) : ∑ x, f x
    = (∑ x : Fin 128, f ⟨x.val, by omega⟩) + ((∑ x : Fin 128, f ⟨128 + x.val, by omega⟩) + ∑ x : Fin 128, f ⟨256 + x.val, by omega⟩) := by
  refine (Fin.sum_univ_add (a := 128) (b := 256) f).trans (congrArg₂ (· + ·) rfl ?_)
  refine (Fin.sum_univ_add (a := 128) (b := 128) fun x => f (Fin.natAdd 128 x)).trans (congrArg₂ (· + ·) rfl ?_)
  exact Finset.sum_congr rfl fun x _ => congrArg f (Fin.ext (by simp; omega))

theorem joinQ_left (a b : Vec Ideal S1x128x128 .bf16) (r : Fin 128) (x : Nat) (hx : x < 128) :
    joinQ a b (ix3 (0 : Fin 1) r (⟨x, by omega⟩ : Fin 256)) = a (ix3 (0 : Fin 1) r ⟨x, hx⟩) := joinQ_lt a b 0 r _ hx
theorem joinQ_right (a b : Vec Ideal S1x128x128 .bf16) (r : Fin 128) (x : Nat) (hx : x < 128) :
    joinQ a b (ix3 (0 : Fin 1) r (⟨128 + x, by omega⟩ : Fin 256)) = b (ix3 (0 : Fin 1) r ⟨x, hx⟩) :=
  (joinQ_ge a b 0 r _ (by simp)).trans (congrArg b (congrArg (ix3 (0 : Fin 1) r) (Fin.ext (by simp))))

/-- The product of the concatenated scores and queries with the stacked values and states, the normalisation and the gate. -/
theorem pay52_apply (a : FVec Ideal S128x128 .bf16) (b1 b2 : Vec Ideal S1x128x128 .bf16) (v g : Vec Ideal S128x256 .bf16)
    (sf sb : FVec Ideal S1x1x128x256 .bf16) (r : Fin 128) (e : Fin 256) :
    k0_pay52 (F := Ideal) a (joinQ b1 b2) v sf sb g (ix2 r e)
      = norm (fun x => (∑ l : Fin 128, a (ix2 r l) * v (ix2 l x))
          + ((∑ d : Fin 128, b1 (ix3 (0 : Fin 1) r d) * sf (ix4 (0 : Fin 1) (0 : Fin 1) d x))
            + ∑ d : Fin 128, b2 (ix3 (0 : Fin 1) r d) * sb (ix4 (0 : Fin 1) (0 : Fin 1) d x))) (g (ix2 r e)) e := by
  pointwise [k0_pay52]
  simp only [sum384, Fin.is_lt, dite_true, show ∀ x : Fin 128, ¬ (128 + x.val < 128) from fun x => by omega,
    show ∀ x : Fin 128, ¬ (256 + x.val < 128) from fun x => by omega, dite_false, Nat.add_sub_cancel_left,
    show ∀ x : Fin 128, 256 + x.val - 128 = 128 + x.val from fun x => by omega, joinQ_left, joinQ_right]
  rfl

theorem score_apply (lg : Vec Ideal S1x2x1x256 .f32) (q k : Vec Ideal S128x128 .bf16) (r l : Fin 128) :
    k0_pay49 (F := Ideal) (maskB lg) (k0_pay30 q) (k0_pay31 (k0_pay29 k)) (ix2 r l) = score (lv lg 0) (lv lg 1) (cv q) (cv k) r l := by
  pointwise [k0_pay49, k0_pay30, k0_pay31, k0_pay29, k0_pay28]
  rw [maskB_apply]
  rfl

theorem xf_apply (lg : Vec Ideal S1x2x1x256 .f32) (q : Vec Ideal S128x128 .bf16) (r d : Fin 128) :
    k0_pay34 (F := Ideal) (k0_pay15 k0_pay3 (k0_pay7 lg)) (k0_pay28 q) (ix3 (0 : Fin 1) r d) = q (ix2 r d) * xf (lv lg 0 (lane d)) r := by
  pointwise [k0_pay34, k0_pay15, k0_pay3, k0_pay7, k0_pay5, k0_pay4, k0_pay28]
  rfl

theorem xb_apply (lg : Vec Ideal S1x2x1x256 .f32) (q : Vec Ideal S128x128 .bf16) (r d : Fin 128) :
    k0_pay35 (F := Ideal) (k0_pay16 k0_pay3 (k0_pay8 lg)) (k0_pay28 q) (ix3 (0 : Fin 1) r d) = q (ix2 r d) * xb (lv lg 1 (lane d)) r := by
  pointwise [k0_pay35, k0_pay16, k0_pay3, k0_pay8, k0_pay6, k0_pay4, k0_pay28]
  rfl

/-- A head's result on a chunk, read at an index. -/
theorem outB_apply (lg : Vec Ideal S1x2x1x256 .f32) (q k : Vec Ideal S128x128 .bf16) (v g : Vec Ideal S128x256 .bf16)
    (sf sb : FVec Ideal S1x1x128x256 .bf16) (r : Fin 128) (e : Fin 256) :
    outB lg q k v g sf sb (ix2 r e)
      = norm (ctx (lv lg 0) (lv lg 1) (cv q) (cv k) (cv v) (fun d x => sf (ix4 (0 : Fin 1) (0 : Fin 1) d x))
          (fun d x => sb (ix4 (0 : Fin 1) (0 : Fin 1) d x)) r) (g (ix2 r e)) e := by
  unfold outB
  rw [pay52_apply]
  simp only [score_apply, xf_apply, xb_apply]
  rfl

end Cert.RetIdeal.Ret

end
-- ==== Proof.Ret.Block.lean ====
/-
  The context retention call's block at a grid point: each of the eight heads stores its two chunks of the gated context and
  its two end states, and the blocks the body leaves are these values at every index.
-/
module

public import proofs.«01_k».proof.Proof.Ret.Head
public import Idealize.ShloMosaic.Lib.Pipeline.CanonAppend

@[expose] public section

noncomputable section

namespace Cert.RetIdeal.Ret

open Cert.RetIdeal Cert.RetIdeal.Gen Idealize.ShloMosaic Idealize.ShloMosaic.TcCoe Idealize.SL.Sem

/-! ## The block's parts -/

/-- Head `j`'s log decays in the block of logits. -/
def L (x : Vec Ideal S8x2x1x256 .f32) (j : Fin 8) (d : Fin 2) (e : Fin 256) : EReal := ls (x (ix4 j d (0 : Fin 1) e))
/-- Head `j`'s queries or keys in chunk `n` of the block. -/
def Q (x : Vec Ideal S256x1024 .bf16) (n : Fin 2) (j : Fin 8) (r d : Fin 128) : EReal :=
  x (ix2 (⟨n.val * 128 + r.val, by omega⟩ : Fin 256) (⟨j.val * 128 + d.val, by omega⟩ : Fin 1024))
/-- Head `j`'s values or gates in chunk `n` of the block. -/
def W (x : Vec Ideal S256x2048 .bf16) (n : Fin 2) (j : Fin 8) (r : Fin 128) (e : Fin 256) : EReal :=
  x (ix2 (⟨n.val * 128 + r.val, by omega⟩ : Fin 256) (⟨j.val * 256 + e.val, by omega⟩ : Fin 2048))

/-- The state entering chunk `n` forward: none before chunk 0, chunk 0's before chunk 1. -/
def inF (x0 : Vec Ideal S8x2x1x256 .f32) (x2 : Vec Ideal S256x1024 .bf16) (x3 : Vec Ideal S256x2048 .bf16) (n : Fin 2) (j : Fin 8)
    (d : Fin 128) (e : Fin 256) : EReal := if n = 0 then 0 else st1 zf (L x0 j 0) (Q x2 0 j) (W x3 0 j) d e
/-- The state entering chunk `n` backward: none before chunk 1, chunk 1's before chunk 0. -/
def inB (x0 : Vec Ideal S8x2x1x256 .f32) (x2 : Vec Ideal S256x1024 .bf16) (x3 : Vec Ideal S256x2048 .bf16) (n : Fin 2) (j : Fin 8)
    (d : Fin 128) (e : Fin 256) : EReal := if n = 0 then st1 zb (L x0 j 1) (Q x2 1 j) (W x3 1 j) d e else 0

/-- The context of head `j` at row `r` of chunk `n`. -/
def ctxAt (x0 : Vec Ideal S8x2x1x256 .f32) (x1 x2 : Vec Ideal S256x1024 .bf16) (x3 : Vec Ideal S256x2048 .bf16)
    (n : Fin 2) (j : Fin 8) (r : Fin 128) : Fin 256 → EReal :=
  ctx (L x0 j 0) (L x0 j 1) (Q x1 n j) (Q x2 n j) (W x3 n j) (inF x0 x2 x3 n j) (inB x0 x2 x3 n j) r

/-- The block of the result: the gated and normalised context of each head and row. -/
def blockOut (x0 : Vec Ideal S8x2x1x256 .f32) (x1 x2 : Vec Ideal S256x1024 .bf16) (x3 x4 : Vec Ideal S256x2048 .bf16) :
    Vec Ideal S256x2048 .bf16 := fun y =>
  norm (ctxAt x0 x1 x2 x3 ⟨(y 0).val / 128, by have h : (y 0).val < 256 := (y 0).isLt; omega⟩
      ⟨(y 1).val / 256, by have h : (y 1).val < 2048 := (y 1).isLt; omega⟩ ⟨(y 0).val % 128, by omega⟩)
    (x4 y) ⟨(y 1).val % 256, by omega⟩

/-- The end state of head `j` in a direction: forward chunk 0 then chunk 1, backward chunk 1 then chunk 0. -/
def endAt (x0 : Vec Ideal S8x2x1x256 .f32) (x2 : Vec Ideal S256x1024 .bf16) (x3 : Vec Ideal S256x2048 .bf16) (dir : Fin 2) (j : Fin 8)
    (d : Fin 128) (e : Fin 256) : EReal :=
  if dir = 0 then st2 zf (L x0 j 0) (Q x2 0 j) (Q x2 1 j) (W x3 0 j) (W x3 1 j) d e
  else st2 zb (L x0 j 1) (Q x2 1 j) (Q x2 0 j) (W x3 1 j) (W x3 0 j) d e

/-- The block of the states: the end states in the first layer's place, nothing in the second's. -/
def blockSt (x0 : Vec Ideal S8x2x1x256 .f32) (x2 : Vec Ideal S256x1024 .bf16) (x3 : Vec Ideal S256x2048 .bf16) :
    Vec Ideal S1x2x2x8x128x256 .f32 := fun y =>
  if (y 1).val = 0 then endAt x0 x2 x3 (y 2) (y 3) (y 4) (y 5) else 0

/-! ## Loads of the parts -/

/-- Head `j`'s logits, loaded. -/
abbrev lgL (x : Vec Ideal S8x2x1x256 .f32) (j : Fin 8) : Vec Ideal S1x2x1x256 .f32 :=
  View.ld x (Rect.unit (s := S8x2x1x256) ![j.val, 0, 0, 0] ![1, 2, 1, 256] (fun a => by fin_cases a <;> simp <;> omega))
/-- A chunk's queries or keys, loaded. -/
abbrev qL (x : Vec Ideal S256x1024 .bf16) (n : Fin 2) (j : Fin 8) : Vec Ideal S128x128 .bf16 :=
  View.ld x (Rect.unit (s := S256x1024) ![n.val * 128, j.val * 128] ![128, 128] (fun a => by fin_cases a <;> simp <;> omega))
/-- A chunk's values or gates, loaded. -/
abbrev vL (x : Vec Ideal S256x2048 .bf16) (n : Fin 2) (j : Fin 8) : Vec Ideal S128x256 .bf16 :=
  View.ld x (Rect.unit (s := S256x2048) ![n.val * 128, j.val * 256] ![128, 256] (fun a => by fin_cases a <;> simp <;> omega))

theorem lv_lgL (x : Vec Ideal S8x2x1x256 .f32) (j : Fin 8) (d : Fin 2) : lv (lgL x j) d = L x j d := funext fun e =>
  congrArg ls (View.ld_unit_apply_of x _ _ _ _ (ix4 j d (0 : Fin 1) e) (fun a => by fin_cases a <;> simp))
theorem cv_qL (x : Vec Ideal S256x1024 .bf16) (n : Fin 2) (j : Fin 8) : cv (qL x n j) = Q x n j := funext fun r => funext fun d =>
  View.ld_unit_apply_of x _ _ _ _ _ (fun a => by fin_cases a <;> simp)
theorem cv_vL (x : Vec Ideal S256x2048 .bf16) (n : Fin 2) (j : Fin 8) : cv (vL x n j) = W x n j := funext fun r => funext fun d =>
  View.ld_unit_apply_of x _ _ _ _ _ (fun a => by fin_cases a <;> simp)

theorem zero37 (d : Fin 128) (e : Fin 256) : k0_pay37 (F := Ideal) (ix4 (0 : Fin 1) (0 : Fin 1) d e) = 0 := by
  pointwise [k0_pay37, k0_pay36]
theorem zero43 (d : Fin 128) (e : Fin 256) : k0_pay43 (F := Ideal) (ix4 (0 : Fin 1) (0 : Fin 1) d e) = 0 := by
  pointwise [k0_pay43, k0_pay42]

/-! ## The stores of the result -/

/-- The store of head `j`'s chunk `n`, from the two entering states. -/
abbrev outPiece (x0 : Vec Ideal S8x2x1x256 .f32) (x1 x2 : Vec Ideal S256x1024 .bf16) (x3 x4 : Vec Ideal S256x2048 .bf16)
    (n : Fin 2) (j : Fin 8) (sf sb : FVec Ideal S1x1x128x256 .bf16) : View.Piece (Elt Ideal) S256x2048 .bf16 :=
  ⟨Rect.unit (s := S256x2048) ![n.val * 128, j.val * 256] ![128, 256] (fun a => by fin_cases a <;> simp <;> omega),
    outB (lgL x0 j) (qL x1 n j) (qL x2 n j) (vL x3 n j) (vL x4 n j) sf sb⟩

/-- A head's store is the block's value restricted to the chunk's rows and the head's columns. -/
theorem outPiece_apply (x0 : Vec Ideal S8x2x1x256 .f32) (x1 x2 : Vec Ideal S256x1024 .bf16) (x3 x4 : Vec Ideal S256x2048 .bf16)
    (n : Fin 2) (j : Fin 8) (sf sb : FVec Ideal S1x1x128x256 .bf16)
    (hf : ∀ d e, sf (ix4 (0 : Fin 1) (0 : Fin 1) d e) = inF x0 x2 x3 n j d e)
    (hb : ∀ d e, sb (ix4 (0 : Fin 1) (0 : Fin 1) d e) = inB x0 x2 x3 n j d e)
    (y : (outPiece x0 x1 x2 x3 x4 n j sf sb).1.shape.Idx) :
    (outPiece x0 x1 x2 x3 x4 n j sf sb).2 y = blockOut x0 x1 x2 x3 x4 ((outPiece x0 x1 x2 x3 x4 n j sf sb).1.emb y) := by
  obtain ⟨r, e, rfl⟩ : ∃ (r : Fin 128) (e : Fin 256), y = ix2 r e := ⟨y 0, y 1, eq_ix2 y⟩
  have e0 : (((outPiece x0 x1 x2 x3 x4 n j sf sb).1.emb (ix2 r e)) 0).val = n.val * 128 + r.val := by simp [Rect.emb_apply]
  have e1 : (((outPiece x0 x1 x2 x3 x4 n j sf sb).1.emb (ix2 r e)) 1).val = j.val * 256 + e.val := by simp [Rect.emb_apply]
  show outB (lgL x0 j) (qL x1 n j) (qL x2 n j) (vL x3 n j) (vL x4 n j) sf sb (ix2 r e) = _
  rw [outB_apply]
  simp only [lv_lgL, cv_qL, cv_vL, hf, hb]
  unfold blockOut
  have hn : (⟨(((outPiece x0 x1 x2 x3 x4 n j sf sb).1.emb (ix2 r e)) 0).val / 128, by omega⟩ : Fin 2) = n := Fin.ext (by simp only [e0]; omega)
  have hr : (⟨(((outPiece x0 x1 x2 x3 x4 n j sf sb).1.emb (ix2 r e)) 0).val % 128, by omega⟩ : Fin 128) = r := Fin.ext (by simp only [e0]; omega)
  have hj : (⟨(((outPiece x0 x1 x2 x3 x4 n j sf sb).1.emb (ix2 r e)) 1).val / 256, by omega⟩ : Fin 8) = j := Fin.ext (by simp only [e1]; omega)
  have he : (⟨(((outPiece x0 x1 x2 x3 x4 n j sf sb).1.emb (ix2 r e)) 1).val % 256, by omega⟩ : Fin 256) = e := Fin.ext (by simp only [e1]; omega)
  have hg : vL x4 n j (ix2 r e) = x4 ((outPiece x0 x1 x2 x3 x4 n j sf sb).1.emb (ix2 r e)) := rfl
  simp only [hn, hr, hj, he, hg]
  rfl

/-- The store of a chunk with the states its place gives it. -/
def outP (x0 : Vec Ideal S8x2x1x256 .f32) (x1 x2 : Vec Ideal S256x1024 .bf16) (x3 x4 : Vec Ideal S256x2048 .bf16) :
    Fin 8 × Fin 2 → View.Piece (Elt Ideal) S256x2048 .bf16
  | (j, 0) => outPiece x0 x1 x2 x3 x4 0 j (k0_pay37 (F := Ideal)) (sbB (lgL x0 j) (qL x2 1 j) (vL x3 1 j))
  | (j, 1) => outPiece x0 x1 x2 x3 x4 1 j (sfB (lgL x0 j) (qL x2 0 j) (vL x3 0 j)) (k0_pay43 (F := Ideal))

theorem outP_apply (x0 : Vec Ideal S8x2x1x256 .f32) (x1 x2 : Vec Ideal S256x1024 .bf16) (x3 x4 : Vec Ideal S256x2048 .bf16)
    (p : Fin 8 × Fin 2) (y : (outP x0 x1 x2 x3 x4 p).1.shape.Idx) :
    (outP x0 x1 x2 x3 x4 p).2 y = blockOut x0 x1 x2 x3 x4 ((outP x0 x1 x2 x3 x4 p).1.emb y) := by
  match p with
  | (j, 0) =>
    refine outPiece_apply x0 x1 x2 x3 x4 0 j _ _ (fun d e => ?_) (fun d e => ?_) y
    · rw [zero37]; rfl
    · rw [sbB_apply, lv_lgL, cv_qL, cv_vL]; rfl
  | (j, 1) =>
    refine outPiece_apply x0 x1 x2 x3 x4 1 j _ _ (fun d e => ?_) (fun d e => ?_) y
    · rw [sfB_apply, lv_lgL, cv_qL, cv_vL]; rfl
    · rw [zero43]; rfl

/-- The stores of the result in order, last first. -/
def outL (x0 : Vec Ideal S8x2x1x256 .f32) (x1 x2 : Vec Ideal S256x1024 .bf16) (x3 x4 : Vec Ideal S256x2048 .bf16) :
    List (View.Piece (Elt Ideal) S256x2048 .bf16) :=
  [(7, 1), (7, 0), (6, 1), (6, 0), (5, 1), (5, 0), (4, 1), (4, 0), (3, 1), (3, 0), (2, 1), (2, 0), (1, 1), (1, 0), (0, 1), (0, 0)].map
    (outP x0 x1 x2 x3 x4)

theorem outL_forall (x0 : Vec Ideal S8x2x1x256 .f32) (x1 x2 : Vec Ideal S256x1024 .bf16) (x3 x4 : Vec Ideal S256x2048 .bf16) :
    ∀ p ∈ outL x0 x1 x2 x3 x4, ∀ y : p.1.shape.Idx, p.2 y = blockOut x0 x1 x2 x3 x4 (p.1.emb y) := by
  intro p hp
  obtain ⟨q, _, rfl⟩ := List.mem_map.1 hp
  exact outP_apply x0 x1 x2 x3 x4 q

/-! ## The stores of the states -/

/-- The forward state after both chunks: chunk 0, then chunk 1. -/
def endF (lg : Vec Ideal S1x2x1x256 .f32) (k0 : Vec Ideal S128x128 .bf16) (v0 : Vec Ideal S128x256 .bf16)
    (k1 : Vec Ideal S128x128 .bf16) (v1 : Vec Ideal S128x256 .bf16) : FVec Ideal S1x1x128x256 .f32 :=
  k0_pay47 (k0_pay17 (k0_pay5 lg)) (k0_pay38 (k0_pay17 (k0_pay5 lg))) (kfB lg k0) v0 (kfB lg k1) v1

theorem endF_apply (lg : Vec Ideal S1x2x1x256 .f32) (k0 : Vec Ideal S128x128 .bf16) (v0 : Vec Ideal S128x256 .bf16)
    (k1 : Vec Ideal S128x128 .bf16) (v1 : Vec Ideal S128x256 .bf16) (d : Fin 128) (e : Fin 256) :
    endF lg k0 v0 k1 v1 (ix4 (0 : Fin 1) (0 : Fin 1) d e) = st2 zf (lv lg 0) (cv k0) (cv k1) (cv v0) (cv v1) d e := by
  have h : endF lg k0 v0 k1 v1 (ix4 (0 : Fin 1) (0 : Fin 1) d e)
      = dc (lv lg 0 e) * (dc (lv lg 0 e) * 0 + ∑ x : Fin 128, kfB lg k0 (ix3 (0 : Fin 1) x d) * v0 (ix2 x e))
        + ∑ x : Fin 128, kfB lg k1 (ix3 (0 : Fin 1) x d) * v1 (ix2 x e) := by
    pointwise [endF, k0_pay47, k0_pay45, k0_pay38, k0_pay36, k0_pay17, k0_pay5, k0_pay4]
    rfl
  simp only [h, kfB_apply]
  rfl

/-- Where a head's end state lies in the block of the states, seen through the layer's slice. -/
abbrev stRect (dir : Fin 2) (j : Fin 8) : Rect S1x2x2x8x128x256 :=
  (Rect.unit (s := S1x2x2x8x128x256) ![0, 0, 0, 0, 0, 0] ![1, 1, 2, 8, 128, 256] (by decide)).within
    (((Rect.unit (s := S2x8x128x256) ![dir.val, j.val, 0, 0] ![1, 1, 128, 256] (fun a => by fin_cases a <;> simp <;> omega)).consLift
      ![1, 2, 8, 128, 256] rfl (fun _ => rfl)).consLift ![1, 1, 2, 8, 128, 256] rfl (fun _ => rfl)) (fun _ => rfl)

theorem stRect_numel (dir : Fin 2) (j : Fin 8) : (stRect dir j).shape.numel = (⟨4, ![1, 1, 128, 256]⟩ : Shape).numel := by
  simp [Shape.numel, Fin.prod_univ_succ, Rect.within, Rect.consLift]

/-- The store of a head's end state. -/
abbrev stPiece (dir : Fin 2) (j : Fin 8) (w : FVec Ideal S1x1x128x256 .f32) : View.Piece (Elt Ideal) S1x2x2x8x128x256 .f32 :=
  ⟨stRect dir j, fun y => w (Shape.reshapeEquiv (stRect_numel dir j) y)⟩

/-- A payload carried through two leading unit axes, read without them. -/
theorem payAlong_two {n : Nat} {d : Fin n → Nat} (r : Rect ⟨n, d⟩) (s1 : Fin (n + 1) → Nat) (h1 : s1 0 = 1) (g1 : ∀ i, s1 i.succ = d i)
    (s2 : Fin (n + 2) → Nat) (h2 : s2 0 = 1) (g2 : ∀ i, s2 i.succ = s1 i) {V : Type} (w : r.shape.Idx → V)
    (hR : ((r.consLift s1 h1 g1).consLift s2 h2 g2).shape.numel = r.shape.numel)
    (x : ((r.consLift s1 h1 g1).consLift s2 h2 g2).shape.Idx) (z : r.shape.Idx) (hz : ∀ i, (z i).val = (x i.succ.succ).val) :
    w (Shape.reshapeEquiv hR x) = w z := by
  have h := Rect.payAlong_consLift r s1 h1 g1 w (r.numel_consLift s1 h1 g1)
    (Shape.reshapeEquiv ((r.consLift s1 h1 g1).numel_consLift s2 h2 g2) x) z
    (fun i => (hz i).trans ((r.consLift s1 h1 g1).reshapeEquiv_consLift_succ s2 h2 g2 x i.succ))
  refine Eq.trans (congrArg w ?_) h
  exact (Shape.reshapeEquiv_reshapeEquiv _ _ x).symm

theorem stPiece_apply (x0 : Vec Ideal S8x2x1x256 .f32) (x2 : Vec Ideal S256x1024 .bf16) (x3 : Vec Ideal S256x2048 .bf16)
    (dir : Fin 2) (j : Fin 8) (w : FVec Ideal S1x1x128x256 .f32)
    (hw : ∀ d e, w (ix4 (0 : Fin 1) (0 : Fin 1) d e) = endAt x0 x2 x3 dir j d e) (y : (stPiece dir j w).1.shape.Idx) :
    (stPiece dir j w).2 y = blockSt x0 x2 x3 ((stPiece dir j w).1.emb y) := by
  obtain ⟨d, hd⟩ : ∃ d : Fin 128, d.val = (y 4).val := ⟨y 4, rfl⟩
  obtain ⟨e, he⟩ : ∃ e : Fin 256, e.val = (y 5).val := ⟨y 5, rfl⟩
  have y0 : (y 0).val = 0 := by have h : (y 0).val < 1 := (y 0).isLt; omega
  have y1 : (y 1).val = 0 := by have h : (y 1).val < 1 := (y 1).isLt; omega
  have y2 : (y 2).val = 0 := by have h : (y 2).val < 1 := (y 2).isLt; omega
  have y3 : (y 3).val = 0 := by have h : (y 3).val < 1 := (y 3).isLt; omega
  have hp : (stPiece dir j w).2 y = w (ix4 (0 : Fin 1) (0 : Fin 1) d e) :=
    payAlong_two (Rect.unit (s := S2x8x128x256) ![dir.val, j.val, 0, 0] ![1, 1, 128, 256] (fun a => by fin_cases a <;> simp <;> omega))
      ![1, 2, 8, 128, 256] rfl (fun _ => rfl) ![1, 1, 2, 8, 128, 256] rfl (fun _ => rfl) w (stRect_numel dir j) y (ix4 (0 : Fin 1) (0 : Fin 1) d e) (fun i => by
      match i with
      | ⟨0, _⟩ => exact y2.symm
      | ⟨1, _⟩ => exact y3.symm
      | ⟨2, _⟩ => exact hd
      | ⟨3, _⟩ => exact he)
  have e1 : (((stPiece dir j w).1.emb y) 1).val = 0 := by
    rw [Rect.emb_apply]; show 0 + 0 + 1 * (y 1).val = 0; omega
  have e2 : ((stPiece dir j w).1.emb y) 2 = dir := Fin.ext (by
    rw [Rect.emb_apply]; show 0 + dir.val + 1 * (y 2).val = dir.val; omega)
  have e3 : ((stPiece dir j w).1.emb y) 3 = j := Fin.ext (by
    rw [Rect.emb_apply]; show 0 + j.val + 1 * (y 3).val = j.val; omega)
  have e4 : ((stPiece dir j w).1.emb y) 4 = d := Fin.ext (by
    rw [Rect.emb_apply]; show 0 + 0 + 1 * (y 4).val = d.val; omega)
  have e5 : ((stPiece dir j w).1.emb y) 5 = e := Fin.ext (by
    rw [Rect.emb_apply]; show 0 + 0 + 1 * (y 5).val = e.val; omega)
  rw [hp, hw]
  unfold blockSt
  rw [if_pos e1, e2, e3, e4, e5]

/-- A head's end state stored in its place. -/
def stP (x0 : Vec Ideal S8x2x1x256 .f32) (x2 : Vec Ideal S256x1024 .bf16) (x3 : Vec Ideal S256x2048 .bf16) :
    Fin 2 × Fin 8 → View.Piece (Elt Ideal) S1x2x2x8x128x256 .f32
  | (0, j) => stPiece 0 j (endF (lgL x0 j) (qL x2 0 j) (vL x3 0 j) (qL x2 1 j) (vL x3 1 j))
  | (1, j) => stPiece 1 j (endB (lgL x0 j) (qL x2 1 j) (vL x3 1 j) (qL x2 0 j) (vL x3 0 j))

theorem stP_apply (x0 : Vec Ideal S8x2x1x256 .f32) (x2 : Vec Ideal S256x1024 .bf16) (x3 : Vec Ideal S256x2048 .bf16)
    (p : Fin 2 × Fin 8) (y : (stP x0 x2 x3 p).1.shape.Idx) :
    (stP x0 x2 x3 p).2 y = blockSt x0 x2 x3 ((stP x0 x2 x3 p).1.emb y) := by
  match p with
  | (0, j) =>
    refine stPiece_apply x0 x2 x3 0 j _ (fun d e => ?_) y
    simp only [endF_apply, lv_lgL, cv_qL, cv_vL]; rfl
  | (1, j) =>
    refine stPiece_apply x0 x2 x3 1 j _ (fun d e => ?_) y
    simp only [endB_apply, lv_lgL, cv_qL, cv_vL]; rfl

/-- The order of the stores of the states, last first. -/
abbrev stKeys : List (Fin 2 × Fin 8) :=
  [(1, 7), (0, 7), (1, 6), (0, 6), (1, 5), (0, 5), (1, 4), (0, 4), (1, 3), (0, 3), (1, 2), (0, 2), (1, 1), (0, 1), (1, 0), (0, 0)]

/-- The stores of the states in order, last first. -/
def stL (x0 : Vec Ideal S8x2x1x256 .f32) (x2 : Vec Ideal S256x1024 .bf16) (x3 : Vec Ideal S256x2048 .bf16) :
    List (View.Piece (Elt Ideal) S1x2x2x8x128x256 .f32) := stKeys.map (stP x0 x2 x3)

theorem stP_mem (x0 : Vec Ideal S8x2x1x256 .f32) (x2 : Vec Ideal S256x1024 .bf16) (x3 : Vec Ideal S256x2048 .bf16)
    (dir : Fin 2) (j : Fin 8) (y : S1x2x2x8x128x256.Idx) : y ∈ (stP x0 x2 x3 (dir, j)).1.set ↔ y ∈ (stRect dir j).set := by
  match dir with
  | 0 => rfl
  | 1 => rfl

/-- The first store: the whole block of zeros. -/
abbrev stFill : View.Piece (Elt Ideal) S1x2x2x8x128x256 .f32 :=
  ⟨Rect.unit (s := S1x2x2x8x128x256) ![0, 0, 0, 0, 0, 0] S1x2x2x8x128x256.size (by decide), k0_pay1 (F := Ideal)⟩

theorem fill_apply (y : stFill.1.shape.Idx) : stFill.2 y = 0 := by
  show k0_pay1 (F := Ideal) y = 0
  simp only [k0_pay1]
  exact Ideal.ofBits_zero_f32

/-- The stores of the states leave the end states over zeros. -/
theorem stL_canon (x0 : Vec Ideal S8x2x1x256 .f32) (x2 : Vec Ideal S256x1024 .bf16) (x3 : Vec Ideal S256x2048 .bf16)
    (y : S1x2x2x8x128x256.Idx) : View.canon (stL x0 x2 x3 ++ [stFill]) y = blockSt x0 x2 x3 y := by
  by_cases hy : (y 1).val = 0
  · refine View.canon_append_of_pieces (blockSt x0 x2 x3) [stFill] (stL x0 x2 x3) (fun p hp => ?_) y ?_
    · obtain ⟨q, _, rfl⟩ := List.mem_map.1 hp
      exact stP_apply x0 x2 x3 q
    · refine ⟨stP x0 x2 x3 (y 2, y 3), List.mem_map.2 ⟨_, (by decide : ∀ (a : Fin 2) (b : Fin 8), (a, b) ∈ stKeys) (y 2) (y 3), rfl⟩, ?_⟩
      refine (stP_mem x0 x2 x3 (y 2) (y 3) y).2 ((LoadRect.mem_set _).2 fun a => ?_)
      have h0 : (y 0).val < 1 := (y 0).isLt
      match a with
      | ⟨0, _⟩ => exact ⟨0, Nat.one_pos, by show (y 0).val = 0 + 0 + 1 * 0; omega⟩
      | ⟨1, _⟩ => exact ⟨0, Nat.one_pos, by show (y 1).val = 0 + 0 + 1 * 0; omega⟩
      | ⟨2, _⟩ => exact ⟨0, Nat.one_pos, by show (y 2).val = 0 + (y 2).val + 1 * 0; omega⟩
      | ⟨3, _⟩ => exact ⟨0, Nat.one_pos, by show (y 3).val = 0 + (y 3).val + 1 * 0; omega⟩
      | ⟨4, _⟩ => exact ⟨(y 4).val, (y 4).isLt, by show (y 4).val = 0 + 0 + 1 * (y 4).val; omega⟩
      | ⟨5, _⟩ => exact ⟨(y 5).val, (y 5).isLt, by show (y 5).val = 0 + 0 + 1 * (y 5).val; omega⟩
  · have hn : ∀ q : Fin 2 × Fin 8, y ∉ (stP x0 x2 x3 q).1.set := fun q hq => hy (by
      obtain ⟨k, hk, h⟩ := (LoadRect.mem_set _).1 ((stP_mem x0 x2 x3 q.1 q.2 y).1 hq) 1
      have hk' : k < 1 := hk
      have h' : (y 1).val = 0 + 0 + 1 * k := h
      omega)
    have hl : ∀ l : List (Fin 2 × Fin 8), View.canon (l.map (stP x0 x2 x3) ++ [stFill]) y = View.canon [stFill] y := fun l => by
      induction l with
      | nil => rfl
      | cons q l ih => exact (View.canon_cons_of_not_mem _ _ (hn q)).trans ih
    refine (hl stKeys).trans ?_
    have hf : View.canon [stFill] y = 0 :=
      (canon_hit _ _ [] y y (funext fun a => Fin.ext (by
        rw [Rect.emb_apply]; fin_cases a <;> exact (Nat.zero_add _).trans (Nat.one_mul _)))).trans (fill_apply y)
    rw [hf]; unfold blockSt; rw [if_neg hy]

end Cert.RetIdeal.Ret
-- ==== Proof.Ret.Kernel.lean ====
/-
  The context retention call's result blocks at any grid point: the pieces the body stores are the head values of Block.lean.
-/
module

public import proofs.«01_k».proof.Proof.Ret.Block

@[expose] public section

set_option maxHeartbeats 4000000
set_option maxRecDepth 16384

noncomputable section

namespace Cert.RetIdeal.Ret

open Cert.RetIdeal Cert.RetIdeal.Gen Idealize.ShloMosaic Idealize.ShloMosaic.TcCoe Idealize.SL.Sem

/-- The result block a point leaves is the gated and normalised context over the point's input blocks. -/
theorem out5 (c : Dev nD) (i : grid0.Coords) (arg2 : Memref sig .tc .vmem S8x2x1x256 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S1x2x2x8x128x256 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x256x128 .bf16) (harg12 : arg12.IsWhole) (arg13 : Memref sig .tc .vmem S8x256x256 .bf16) (harg13 : arg13.IsWhole) (arg14 : Memref sig .tc .vmem S8x2x128x256 .bf16) (harg14 : arg14.IsWhole) (arg15 : Memref sig .tc .vmem S8x2x128x256 .bf16) (harg15 : arg15.IsWhole)
    (x0 : Vec Ideal S8x2x1x256 .f32) (x1 : Vec Ideal S256x1024 .bf16) (x2 : Vec Ideal S256x1024 .bf16) (x3 : Vec Ideal S256x2048 .bf16) (x4 : Vec Ideal S256x2048 .bf16) :
    out0_A_5 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4
      = blockOut x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)]
  funext y
  have hcov := cover0_A_5 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 y
  refine View.canon_apply_of_pieces (blockOut x0 x1 x2 x3 x4) _ ?_ y hcov
  unfold kernelRun0_A
  dsimp only
  sl_unfold_words
  simp (discharger := decide) only [↓View.readCov_skip, ↓View.readCov_cons_toLoadRect, ↓readCov_join, View.readAt_eq_ld, harg2.read_unread,
    harg3.read_unread, harg4.read_unread, harg5.read_unread, harg6.read_unread]
  exact outL_forall x0 x1 x2 x3 x4

/-- The block of states a point leaves holds the heads' end states over zeros. -/
theorem out6 (c : Dev nD) (i : grid0.Coords) (arg2 : Memref sig .tc .vmem S8x2x1x256 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S1x2x2x8x128x256 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x256x128 .bf16) (harg12 : arg12.IsWhole) (arg13 : Memref sig .tc .vmem S8x256x256 .bf16) (harg13 : arg13.IsWhole) (arg14 : Memref sig .tc .vmem S8x2x128x256 .bf16) (harg14 : arg14.IsWhole) (arg15 : Memref sig .tc .vmem S8x2x128x256 .bf16) (harg15 : arg15.IsWhole)
    (x0 : Vec Ideal S8x2x1x256 .f32) (x1 : Vec Ideal S256x1024 .bf16) (x2 : Vec Ideal S256x1024 .bf16) (x3 : Vec Ideal S256x2048 .bf16) (x4 : Vec Ideal S256x2048 .bf16) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4
      = blockSt x0 x2 x3 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4)]
  funext y
  refine Eq.trans ?_ (stL_canon x0 x2 x3 y)
  refine congrFun (congrArg View.canon ?_) y
  unfold kernelRun0_A
  dsimp only
  sl_unfold_words
  simp (discharger := decide) only [↓View.readCov_skip, ↓View.readCov_cons_toLoadRect, ↓readCov_join, View.readAt_eq_ld, harg2.read_unread,
    harg3.read_unread, harg4.read_unread, harg5.read_unread, harg6.read_unread]
  rfl

end Cert.RetIdeal.Ret
-- ==== Proof.Ret.Final.lean ====
/-
  The context retention call's two results after the run, as functions of the two argument arrays.
-/
module

public import proofs.«01_k».proof.Proof.Ret.Kernel

@[expose] public section

noncomputable section

namespace Cert.RetIdeal.Ret

open Cert.RetIdeal Cert.RetIdeal.Gen Idealize.ShloMosaic Idealize.ShloMosaic.TcCoe Idealize.SL.Sem
open Idealize.ShloMosaic.Pipeline (Dat)

variable (m : (ℓ : Loc nD τ sig) → Buf (Elt Ideal) ℓ)

/-- The logits as the region finds them: transposed and repeated along the lanes. -/
theorem V_logits (c : Dev nD) (j : Fin 8) (d : Fin 2) (z : Fin 1) (e : Fin 256) :
    V m c main_v2 (ix4 j d z e) = m ((c : Thread nD τ).loc main_arg1) (ix2 d j) := by
  entry_read
  pointwise

theorem N_eq : cfg0.N = 32 := N_0

theorem idx0 : ∀ t : Fin cfg0.N, win0_0.index t = ![0, 0, 0, 0] :=
  (by decide +kernel : ∀ t : Fin grid0.N, win0_0.index t = ![0, 0, 0, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 1] :=
  (by decide +kernel : ∀ t : Fin grid0.N, win0_2.index t = ![t.val, 1])
theorem idx3 : ∀ t : Fin cfg0.N, win0_3.index t = ![t.val, 1] :=
  (by decide +kernel : ∀ t : Fin grid0.N, win0_3.index t = ![t.val, 1])
theorem idx4 : ∀ t : Fin cfg0.N, win0_4.index t = ![t.val, 2] :=
  (by decide +kernel : ∀ t : Fin grid0.N, win0_4.index t = ![t.val, 2])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0, 0, 0, 0, 0] :=
  (by decide +kernel : ∀ t : Fin grid0.N, win0_6.index t = ![t.val, 0, 0, 0, 0, 0])

/-! ## The arguments by sequence, chunk and head -/

abbrev ZT : Shape := ⟨2, ![16384, 8192]⟩
abbrev LT : Shape := ⟨2, ![2, 8]⟩

/-- Head `j`'s log decay in a direction. -/
def lgA (lg : LT.Idx → EReal) (dir : Fin 2) (j : Fin 8) : EReal := ls (lg (ix2 dir j))
/-- Sequence `b`'s queries (`h = 0`) or keys (`h = 1`) of head `j` in chunk `n`. -/
def qA (z : ZT.Idx → EReal) (h : Fin 2) (b : Fin 32) (n : Fin 2) (j : Fin 8) (r d : Fin 128) : EReal :=
  z (ix2 (⟨b.val * 256 + (n.val * 128 + r.val), by omega⟩ : Fin 16384) (⟨h.val * 1024 + (j.val * 128 + d.val), by omega⟩ : Fin 8192))
/-- Sequence `b`'s values (`h = 1`) or gates (`h = 2`) of head `j` in chunk `n`. -/
def vA (z : ZT.Idx → EReal) (h : Fin 3) (b : Fin 32) (n : Fin 2) (j : Fin 8) (r : Fin 128) (e : Fin 256) : EReal :=
  z (ix2 (⟨b.val * 256 + (n.val * 128 + r.val), by omega⟩ : Fin 16384) (⟨h.val * 2048 + (j.val * 256 + e.val), by omega⟩ : Fin 8192))

/-- The grid's sequences. -/
abbrev seqOf (t : Fin cfg0.N) : Fin 32 := ⟨t.val, by have := t.isLt; have := N_eq; omega⟩

theorem L_iblk (c : Dev nD) (t : Fin cfg0.N) (j : Fin 8) (d : Fin 2) :
    L (iblk m c 0 t) j d = fun _ => lgA (m ((c : Thread nD τ).loc main_arg1)) d j := by
  funext e
  unfold L lgA
  refine congrArg ls ((?_ : _ = V m c main_v2 (ix4 j d (0 : Fin 1) e)).trans (V_logits m c j d 0 e))
  blk_ext [iblk, idx0 t]
theorem Q_iblk1 (c : Dev nD) (t : Fin cfg0.N) (n : Fin 2) (j : Fin 8) :
    Q (iblk m c 1 t) n j = qA (m ((c : Thread nD τ).loc main_arg0)) 0 (seqOf t) n j := by
  funext r d
  unfold Q qA
  blk_ext [iblk, V_main_arg0, idx1 t]
theorem Q_iblk2 (c : Dev nD) (t : Fin cfg0.N) (n : Fin 2) (j : Fin 8) :
    Q (iblk m c 2 t) n j = qA (m ((c : Thread nD τ).loc main_arg0)) 1 (seqOf t) n j := by
  funext r d
  unfold Q qA
  blk_ext [iblk, V_main_arg0, idx2 t]
theorem W_iblk3 (c : Dev nD) (t : Fin cfg0.N) (n : Fin 2) (j : Fin 8) :
    W (iblk m c 3 t) n j = vA (m ((c : Thread nD τ).loc main_arg0)) 1 (seqOf t) n j := by
  funext r d
  unfold W vA
  blk_ext [iblk, V_main_arg0, idx3 t]

/-! ## The results -/

/-- The state entering chunk `n` forward. -/
def inFA (z : ZT.Idx → EReal) (lg : LT.Idx → EReal) (b : Fin 32) (n : Fin 2) (j : Fin 8) (d : Fin 128) (e : Fin 256) : EReal :=
  if n = 0 then 0 else st1 zf (fun _ => lgA lg 0 j) (qA z 1 b 0 j) (vA z 1 b 0 j) d e
/-- The state entering chunk `n` backward. -/
def inBA (z : ZT.Idx → EReal) (lg : LT.Idx → EReal) (b : Fin 32) (n : Fin 2) (j : Fin 8) (d : Fin 128) (e : Fin 256) : EReal :=
  if n = 0 then st1 zb (fun _ => lgA lg 1 j) (qA z 1 b 1 j) (vA z 1 b 1 j) d e else 0
/-- The context of a sequence's head at a row of a chunk, before the normalisation. -/
def ctxA (z : ZT.Idx → EReal) (lg : LT.Idx → EReal) (b : Fin 32) (n : Fin 2) (j : Fin 8) (r : Fin 128) : Fin 256 → EReal :=
  ctx (fun _ => lgA lg 0 j) (fun _ => lgA lg 1 j) (qA z 0 b n j) (qA z 1 b n j) (vA z 1 b n j) (inFA z lg b n j) (inBA z lg b n j) r
/-- The result at a sequence, chunk, row, head and lane. -/
def outA (z : ZT.Idx → EReal) (lg : LT.Idx → EReal) (b : Fin 32) (n : Fin 2) (r : Fin 128) (j : Fin 8) (e : Fin 256) : EReal :=
  norm (ctxA z lg b n j r) (vA z 2 b n j r e) e
/-- The first result: the gated and normalised context. -/
def outVal (z : ZT.Idx → EReal) (lg : LT.Idx → EReal) : S8192x2048.Idx → EReal := fun y =>
  outA z lg ⟨(y 0).val / 256, by have h : (y 0).val < 8192 := (y 0).isLt; omega⟩ ⟨(y 0).val % 256 / 128, by omega⟩ ⟨(y 0).val % 128, by omega⟩
    ⟨(y 1).val / 256, by have h : (y 1).val < 2048 := (y 1).isLt; omega⟩ ⟨(y 1).val % 256, by omega⟩
/-- A sequence's end state of a head in a direction. -/
def endA (z : ZT.Idx → EReal) (lg : LT.Idx → EReal) (b : Fin 32) (dir : Fin 2) (j : Fin 8) (d : Fin 128) (e : Fin 256) : EReal :=
  if dir = 0 then st2 zf (fun _ => lgA lg 0 j) (qA z 1 b 0 j) (qA z 1 b 1 j) (vA z 1 b 0 j) (vA z 1 b 1 j) d e
  else st2 zb (fun _ => lgA lg 1 j) (qA z 1 b 1 j) (qA z 1 b 0 j) (vA z 1 b 1 j) (vA z 1 b 0 j) d e
/-- The second result: the end states in the first layer's place, nothing in the second's. -/
def stVal (z : ZT.Idx → EReal) (lg : LT.Idx → EReal) : S32x2x2x8x128x256.Idx → EReal := fun y =>
  if (y 1).val = 0 then endA z lg (y 0) (y 2) (y 3) (y 4) (y 5) else 0

/-- A row and a column of the block as chunk, position, head and lane. -/
theorem split_row (r : Fin 256) : ∃ (n : Fin 2) (p : Fin 128), r = ⟨n.val * 128 + p.val, by omega⟩ :=
  ⟨⟨r.val / 128, by omega⟩, ⟨r.val % 128, by omega⟩, Fin.ext (by show r.val = r.val / 128 * 128 + r.val % 128; omega)⟩
theorem split_col (l : Fin 2048) : ∃ (j : Fin 8) (e : Fin 256), l = ⟨j.val * 256 + e.val, by omega⟩ :=
  ⟨⟨l.val / 256, by omega⟩, ⟨l.val % 256, by omega⟩, Fin.ext (by show l.val = l.val / 256 * 256 + l.val % 256; omega)⟩

theorem blockOut_apply (x0 : Vec Ideal S8x2x1x256 .f32) (x1 x2 : Vec Ideal S256x1024 .bf16) (x3 x4 : Vec Ideal S256x2048 .bf16)
    (n : Fin 2) (p : Fin 128) (j : Fin 8) (e : Fin 256) :
    blockOut x0 x1 x2 x3 x4 (ix2 (⟨n.val * 128 + p.val, by omega⟩ : Fin 256) (⟨j.val * 256 + e.val, by omega⟩ : Fin 2048))
      = norm (ctxAt x0 x1 x2 x3 n j p) (W x4 n j p e) e := by
  have hn : (⟨(n.val * 128 + p.val) / 128, by omega⟩ : Fin 2) = n := Fin.ext (by simp only []; omega)
  have hp : (⟨(n.val * 128 + p.val) % 128, by omega⟩ : Fin 128) = p := Fin.ext (by simp only []; omega)
  have hj : (⟨(j.val * 256 + e.val) / 256, by omega⟩ : Fin 8) = j := Fin.ext (by simp only []; omega)
  have he : (⟨(j.val * 256 + e.val) % 256, by omega⟩ : Fin 256) = e := Fin.ext (by simp only []; omega)
  show norm (ctxAt x0 x1 x2 x3 (⟨(n.val * 128 + p.val) / 128, by omega⟩ : Fin 2) (⟨(j.val * 256 + e.val) / 256, by omega⟩ : Fin 8)
    (⟨(n.val * 128 + p.val) % 128, by omega⟩ : Fin 128)) (W x4 n j p e) (⟨(j.val * 256 + e.val) % 256, by omega⟩ : Fin 256) = _
  rw [hn, hp, hj, he]

theorem outVal_apply (z : ZT.Idx → EReal) (lg : LT.Idx → EReal) (b : Fin 32) (n : Fin 2) (p : Fin 128) (j : Fin 8) (e : Fin 256) :
    outVal z lg (ix2 (⟨b.val * 256 + (n.val * 128 + p.val), by omega⟩ : Fin 8192) (⟨j.val * 256 + e.val, by omega⟩ : Fin 2048))
      = outA z lg b n p j e := by
  have hb : (⟨(b.val * 256 + (n.val * 128 + p.val)) / 256, by omega⟩ : Fin 32) = b := Fin.ext (by simp only []; omega)
  have hn : (⟨(b.val * 256 + (n.val * 128 + p.val)) % 256 / 128, by omega⟩ : Fin 2) = n := Fin.ext (by simp only []; omega)
  have hp : (⟨(b.val * 256 + (n.val * 128 + p.val)) % 128, by omega⟩ : Fin 128) = p := Fin.ext (by simp only []; omega)
  have hj : (⟨(j.val * 256 + e.val) / 256, by omega⟩ : Fin 8) = j := Fin.ext (by simp only []; omega)
  have he : (⟨(j.val * 256 + e.val) % 256, by omega⟩ : Fin 256) = e := Fin.ext (by simp only []; omega)
  show outA z lg (⟨(b.val * 256 + (n.val * 128 + p.val)) / 256, by omega⟩ : Fin 32) (⟨(b.val * 256 + (n.val * 128 + p.val)) % 256 / 128, by omega⟩ : Fin 2)
    (⟨(b.val * 256 + (n.val * 128 + p.val)) % 128, by omega⟩ : Fin 128) (⟨(j.val * 256 + e.val) / 256, by omega⟩ : Fin 8)
    (⟨(j.val * 256 + e.val) % 256, by omega⟩ : Fin 256) = _
  rw [hb, hn, hp, hj, he]

theorem W_iblk4 (c : Dev nD) (t : Fin cfg0.N) (n : Fin 2) (j : Fin 8) :
    W (iblk m c 4 t) n j = vA (m ((c : Thread nD τ).loc main_arg0)) 2 (seqOf t) n j := by
  funext r d
  unfold W vA
  blk_ext [iblk, V_main_arg0, idx4 t]

/-- The first result array after the run. -/
theorem final5 (c : Dev nD) : (dats m 0 c).arrAt 5 cfg0.N
    = outVal (m ((c : Thread nD τ).loc main_arg0)) (m ((c : Thread nD τ).loc main_arg1)) := by
  refine (dats m 0 c).arrAt_eq_of_covers 5 _ (by decide +kernel) fun t hf y => ?_
  blk_simp
  rw [after0_5]
  dsimp only [outsAt0]
  rw [out5]
  obtain ⟨r, l, rfl⟩ : ∃ (r : Fin 256) (l : Fin 2048), y = ix2 r l := ⟨y 0, y 1, eq_ix2 y⟩
  obtain ⟨n, p, rfl⟩ := split_row r
  obtain ⟨j, e, rfl⟩ := split_col l
  have h := outVal_apply (m ((c : Thread nD τ).loc main_arg0)) (m ((c : Thread nD τ).loc main_arg1)) (seqOf t) n p j e
  rw [blockOut_apply]
  unfold ctxAt inF inB
  simp only [L_iblk, Q_iblk1, Q_iblk2, W_iblk3, W_iblk4]
  refine Eq.trans h.symm ?_
  generalize outVal (m ((c : Thread nD τ).loc main_arg0)) (m ((c : Thread nD τ).loc main_arg1)) = f
  blk_ext [idx5 t]

/-- The second result array after the run. -/
theorem final6 (c : Dev nD) : (dats m 0 c).arrAt 6 cfg0.N
    = stVal (m ((c : Thread nD τ).loc main_arg0)) (m ((c : Thread nD τ).loc main_arg1)) := by
  refine (dats m 0 c).arrAt_eq_of_covers 6 _ (by decide +kernel) fun t hf y => ?_
  blk_simp
  rw [after0_6]
  dsimp only [outsAt0]
  rw [out6]
  obtain ⟨y0, y1, y2, y3, y4, y5, rfl⟩ : ∃ (y0 : Fin 1) (y1 : Fin 2) (y2 : Fin 2) (y3 : Fin 8) (y4 : Fin 128) (y5 : Fin 256), y = ix6 y0 y1 y2 y3 y4 y5 :=
    ⟨y 0, y 1, y 2, y 3, y 4, y 5, eq_ix6 y⟩
  have h : blockSt (iblk m c 0 t) (iblk m c 2 t) (iblk m c 3 t) (ix6 y0 y1 y2 y3 y4 y5)
      = stVal (m ((c : Thread nD τ).loc main_arg0)) (m ((c : Thread nD τ).loc main_arg1)) (ix6 (seqOf t) y1 y2 y3 y4 y5) := by
    show (if y1.val = 0 then endAt (iblk m c 0 t) (iblk m c 2 t) (iblk m c 3 t) y2 y3 y4 y5 else 0)
      = if y1.val = 0 then endA (m ((c : Thread nD τ).loc main_arg0)) (m ((c : Thread nD τ).loc main_arg1)) (seqOf t) y2 y3 y4 y5 else 0
    unfold endAt endA
    simp only [L_iblk, Q_iblk2, W_iblk3]
  refine Eq.trans h ?_
  generalize stVal (m ((c : Thread nD τ).loc main_arg0)) (m ((c : Thread nD τ).loc main_arg1)) = f
  blk_ext [idx6 t]

end Cert.RetIdeal.Ret
-- ==== Proof.Ret.Ref.lean ====
/-
  The context retention reference, read at an index: each direction as the chunkwise recurrence over the sequence's two
  chunks, the backward one over the reversed sequence.
-/
module

public import proofs.«01_k».proof.Proof.Gen.RetRefIdeal.Read
public import proofs.«01_k».proof.Proof.Ret.Final

@[expose] public section

noncomputable section

namespace Cert.RetRefIdeal.Ret

open Cert.RetRefIdeal Cert.RetRefIdeal.Read Idealize.ShloMosaic Idealize.ShloMosaic.TcCoe
open Cert.RetIdeal.Ret (ZT LT qA vA kscale ps c127 c128 zf xf dc)

/-! ## One direction as a recurrence over chunks -/

/-- The log of the sigmoid, as the reference writes it. -/
def rls (x : EReal) : EReal :=
  -(if -x ≠ -x then -x else max (-x) 0 + Ideal.log1p (Ideal.exp (-(FloatOps.absf (F := Ideal) (φ := .f32) (-x)))))

/-- The decay between two positions of a chunk, nothing ahead of the diagonal. -/
def rmask (l : EReal) (r s : Fin 128) : EReal := if 0 ≤ ps r - ps s then Ideal.exp (l * max (ps r - ps s) 0) else 0

/-- One chunk's decayed key-value product. -/
def rkv (l : EReal) (k : Fin 128 → Fin 128 → EReal) (v : Fin 128 → Fin 256 → EReal) (d : Fin 128) (e : Fin 256) : EReal :=
  ∑ x, k x d * zf l x * v x e
/-- The state after the first chunk. -/
def rs1 (l : EReal) (k : Fin 2 → Fin 128 → Fin 128 → EReal) (v : Fin 2 → Fin 128 → Fin 256 → EReal) (d : Fin 128) (e : Fin 256) : EReal :=
  dc l * 0 + rkv l (k 0) (v 0) d e
/-- The state after the second chunk. -/
def rs2 (l : EReal) (k : Fin 2 → Fin 128 → Fin 128 → EReal) (v : Fin 2 → Fin 128 → Fin 256 → EReal) (d : Fin 128) (e : Fin 256) : EReal :=
  dc l * rs1 l k v d e + rkv l (k 1) (v 1) d e
/-- A row's retained values: within the chunk, and from the state entering it. -/
def rdir (l : EReal) (q k : Fin 2 → Fin 128 → Fin 128 → EReal) (v : Fin 2 → Fin 128 → Fin 256 → EReal)
    (n : Fin 2) (r : Fin 128) (e : Fin 256) : EReal :=
  (∑ x, v n x e * ((∑ y, q n r y * k n x y) * rmask l r x)) + (∑ x, (if n = 0 then 0 else rs1 l k v x e) * q n r x) * xf l r

/-- A head's scaled keys. -/
def kA (z : ZT.Idx → EReal) (b : Fin 32) (j : Fin 8) (n : Fin 2) (r d : Fin 128) : EReal := qA z 1 b n j r d * kscale
/-- A head's queries by chunk. -/
def qR (z : ZT.Idx → EReal) (b : Fin 32) (j : Fin 8) (n : Fin 2) (r d : Fin 128) : EReal := qA z 0 b n j r d
/-- A head's values by chunk. -/
def vR (z : ZT.Idx → EReal) (b : Fin 32) (j : Fin 8) (n : Fin 2) (r : Fin 128) (e : Fin 256) : EReal := vA z 1 b n j r e
/-- Chunks in the reversed order, each reversed. -/
def rev {A : Type} (f : Fin 2 → Fin 128 → A) (n : Fin 2) (r : Fin 128) : A := f n.rev r.rev

variable (z : ZT.Idx → EReal) (lg : LT.Idx → EReal)

/-! ## The operands -/

theorem logit_apply (dir : Fin 2) (j : Fin 8) : val_main_v10 (F := Ideal) lg (ix2 dir j) = rls (lg (ix2 dir j)) := by
  pointwise [rls, val_main_v10, val_main_call0_v1, val_main_call0_v0, val_main_call0_call0_v11, val_main_call0_call0_v10,
    val_main_call0_call0_v9, val_main_call0_call0_v8, val_main_call0_call0_v7, val_main_call0_call0_v6, val_main_call0_call0_v5,
    val_main_call0_call0_v4, val_main_call0_call0_v3, val_main_call0_call0_v2, val_main_call0_call0_v1, val_main_call0_call0_v0,
    val_main_call0_call0_cst]

theorem lgF_apply (j : Fin 8) : val_main_v14 (F := Ideal) lg (ix1 j) = rls (lg (ix2 (0 : Fin 2) j)) := by
  refine Eq.trans ?_ (logit_apply lg 0 j)
  pointwise [val_main_v14, val_main_v13]
theorem lgB_apply (j : Fin 8) : val_main_v92 (F := Ideal) lg (ix1 j) = rls (lg (ix2 (1 : Fin 2) j)) := by
  refine Eq.trans ?_ (logit_apply lg 1 j)
  pointwise [val_main_v92, val_main_v91]

/-- A reversed row, by chunk and position. -/
theorem rev_row (n : Fin 2) (r : Fin 128) (h : n.val * 128 + r.val < 256) :
    (⟨n.val * 128 + r.val, h⟩ : Fin 256).rev = ⟨n.rev.val * 128 + r.rev.val, by omega⟩ :=
  Fin.ext (by simp only [Fin.val_rev]; omega)

theorem qF_apply (b : Fin 32) (n : Fin 2) (r : Fin 128) (j : Fin 8) (d : Fin 128) :
    val_main_v15 (F := Ideal) z (ix5 b n r j d) = qR z b j n r d := by
  unfold qR qA
  pointwise [val_main_v15, val_main_v4, val_main_v3, val_main_v2, val_main_v1, val_main_v0]
theorem kF_apply (b : Fin 32) (n : Fin 2) (r : Fin 128) (j : Fin 8) (d : Fin 128) :
    val_main_v16 (F := Ideal) z (ix5 b n r j d) = kA z b j n r d := by
  unfold kA qA kscale
  pointwise [val_main_v16, val_main_v12, val_main_v11, val_main_cst, val_main_v6, val_main_v5, val_main_v2, val_main_v1, val_main_v0]
theorem vF_apply (b : Fin 32) (n : Fin 2) (r : Fin 128) (j : Fin 8) (e : Fin 256) :
    val_main_v17 (F := Ideal) z (ix5 b n r j e) = vR z b j n r e := by
  unfold vR vA
  pointwise [val_main_v17, val_main_v8, val_main_v7, val_main_v2, val_main_v1, val_main_v0]
theorem qB_apply (b : Fin 32) (n : Fin 2) (r : Fin 128) (j : Fin 8) (d : Fin 128) :
    val_main_v93 (F := Ideal) z (ix5 b n r j d) = rev (qR z b j) n r d := by
  have h : val_main_v93 (F := Ideal) z (ix5 b n r j d) = val_main_v4 (F := Ideal) z (ix4 b (⟨n.val * 128 + r.val, by omega⟩ : Fin 256).rev j d) := by
    pointwise [val_main_v93, val_main_v88]
    rfl
  refine h.trans ?_
  rw [rev_row]
  unfold rev qR qA
  pointwise [val_main_v4, val_main_v3, val_main_v2, val_main_v1, val_main_v0]
theorem kB_apply (b : Fin 32) (n : Fin 2) (r : Fin 128) (j : Fin 8) (d : Fin 128) :
    val_main_v94 (F := Ideal) z (ix5 b n r j d) = rev (kA z b j) n r d := by
  have h : val_main_v94 (F := Ideal) z (ix5 b n r j d) = val_main_v12 (F := Ideal) z (ix4 b (⟨n.val * 128 + r.val, by omega⟩ : Fin 256).rev j d) := by
    pointwise [val_main_v94, val_main_v89]
    rfl
  refine h.trans ?_
  rw [rev_row]
  unfold rev kA qA kscale
  pointwise [val_main_v12, val_main_v11, val_main_cst, val_main_v6, val_main_v5, val_main_v2, val_main_v1, val_main_v0]
theorem vB_apply (b : Fin 32) (n : Fin 2) (r : Fin 128) (j : Fin 8) (e : Fin 256) :
    val_main_v95 (F := Ideal) z (ix5 b n r j e) = rev (vR z b j) n r e := by
  have h : val_main_v95 (F := Ideal) z (ix5 b n r j e) = val_main_v8 (F := Ideal) z (ix4 b (⟨n.val * 128 + r.val, by omega⟩ : Fin 256).rev j e) := by
    pointwise [val_main_v95, val_main_v90]
    rfl
  refine h.trans ?_
  rw [rev_row]
  unfold rev vR vA
  pointwise [val_main_v8, val_main_v7, val_main_v2, val_main_v1, val_main_v0]

/-! ## The forward direction -/

theorem maskF_apply (j : Fin 8) (r l : Fin 128) : val_main_v34 (F := Ideal) lg (ix3 j r l) = rmask (rls (lg (ix2 (0 : Fin 2) j))) r l := by
  rw [← lgF_apply]
  unfold rmask ps
  pointwise [val_main_v34, val_main_call1_v2, val_main_call1_v1, val_main_call1_v0, val_main_v33, val_main_v32, val_main_v31, val_main_v30, val_main_v29, val_main_v28, val_main_v27, val_main_v26, val_main_v25, val_main_v24, val_main_v23, val_main_v22, val_main_v21, val_main_v20, val_main_v19, val_main_v18, val_main_cst_0, val_main_cst_1, val_main_cst_2]
  refine if_congr Iff.rfl rfl ?_
  exact Ideal.ofBits_zero_f32
theorem innerF_apply (b : Fin 32) (n : Fin 2) (r : Fin 128) (j : Fin 8) (e : Fin 256) : val_main_v40 (F := Ideal) z lg (ix5 b n r j e)
    = ∑ x, (vR z b j) n x e * ((∑ y, (qR z b j) n r y * (kA z b j) n x y) * rmask (rls (lg (ix2 (0 : Fin 2) j))) r x) := by
  simp only [← vF_apply, ← qF_apply, ← kF_apply, ← maskF_apply]
  pointwise [val_main_v40, val_main_v39, val_main_v38, val_main_v37, val_main_v36, val_main_v35]
theorem kvF_apply (b : Fin 32) (n : Fin 2) (j : Fin 8) (d : Fin 128) (e : Fin 256) : val_main_v53 (F := Ideal) z lg (ix5 b n j d e)
    = rkv (rls (lg (ix2 (0 : Fin 2) j))) ((kA z b j) n) ((vR z b j) n) d e := by
  unfold rkv zf c127 ps
  simp only [← vF_apply, ← kF_apply, ← lgF_apply]
  pointwise [val_main_v53, val_main_v52, val_main_v51, val_main_v50, val_main_v49, val_main_v48, val_main_v47, val_main_v46, val_main_v45, val_main_v44, val_main_v43, val_main_v42, val_main_v41, val_main_cst_3, val_main_v18]
theorem s1F_apply (b : Fin 32) (j : Fin 8) (d : Fin 128) (e : Fin 256) : val_main_v63 (F := Ideal) z lg (ix4 b j d e)
    = rs1 (rls (lg (ix2 (0 : Fin 2) j))) (kA z b j) (vR z b j) d e := by
  unfold rs1 dc c128
  rw [← kvF_apply, ← lgF_apply]
  pointwise [val_main_v63, val_main_v62, val_main_v61, val_main_v60, val_main_v59, val_main_v58, val_main_v57, val_main_v56, val_main_v55, val_main_v54, val_main_cst_4, val_main_cst_5]
theorem s2F_apply (b : Fin 32) (j : Fin 8) (d : Fin 128) (e : Fin 256) : val_main_v68 (F := Ideal) z lg (ix4 b j d e)
    = rs2 (rls (lg (ix2 (0 : Fin 2) j))) (kA z b j) (vR z b j) d e := by
  unfold rs2 dc c128
  rw [← kvF_apply, ← s1F_apply, ← lgF_apply]
  pointwise [val_main_v68, val_main_v67, val_main_v66, val_main_v65, val_main_v64, val_main_v57, val_main_v56, val_main_v55, val_main_v54, val_main_cst_4]
theorem entF_apply (b : Fin 32) (n : Fin 2) (j : Fin 8) (d : Fin 128) (e : Fin 256) : val_main_v71 (F := Ideal) z lg (ix5 b n j d e)
    = if n = 0 then 0 else rs1 (rls (lg (ix2 (0 : Fin 2) j))) (kA z b j) (vR z b j) d e := by
  rw [← s1F_apply]
  have h : val_main_v71 (F := Ideal) z lg (ix5 b n j d e) = if h : n.val < 1 then 0 else val_main_v63 (F := Ideal) z lg (ix4 b j d e) := by
    pointwise [val_main_v71, val_main_v70, val_main_v69, val_main_v58, val_main_cst_5]
  rw [h]
  exact if_congr ⟨fun h => Fin.ext (by show n.val = 0; omega), fun h => by rw [h]; exact Nat.one_pos⟩ rfl rfl
theorem dirF_apply (b : Fin 32) (n : Fin 2) (r : Fin 128) (j : Fin 8) (e : Fin 256) : val_main_v86 (F := Ideal) z lg (ix5 b n r j e)
    = rdir (rls (lg (ix2 (0 : Fin 2) j))) (qR z b j) (kA z b j) (vR z b j) n r e := by
  unfold rdir xf ps
  rw [← innerF_apply]
  simp only [← entF_apply]
  simp only [← qF_apply, ← lgF_apply]
  pointwise [val_main_v86, val_main_v85, val_main_v84, val_main_v83, val_main_v82, val_main_v81, val_main_v80, val_main_v79, val_main_v78, val_main_v77, val_main_v76, val_main_v75, val_main_v74, val_main_v73, val_main_v72, val_main_cst_6, val_main_v18]

/-! ## The backward direction -/

theorem maskB_apply (j : Fin 8) (r l : Fin 128) : val_main_v112 (F := Ideal) lg (ix3 j r l) = rmask (rls (lg (ix2 (1 : Fin 2) j))) r l := by
  rw [← lgB_apply]
  unfold rmask ps
  pointwise [val_main_v112, val_main_call5_v2, val_main_call5_v1, val_main_call5_v0, val_main_v111, val_main_v110, val_main_v109, val_main_v108, val_main_v107, val_main_v106, val_main_v105, val_main_v104, val_main_v103, val_main_v102, val_main_v101, val_main_v100, val_main_v99, val_main_v98, val_main_v97, val_main_v96, val_main_cst_7, val_main_cst_8, val_main_cst_9]
  refine if_congr Iff.rfl rfl ?_
  exact Ideal.ofBits_zero_f32
theorem innerB_apply (b : Fin 32) (n : Fin 2) (r : Fin 128) (j : Fin 8) (e : Fin 256) : val_main_v118 (F := Ideal) z lg (ix5 b n r j e)
    = ∑ x, (rev (vR z b j)) n x e * ((∑ y, (rev (qR z b j)) n r y * (rev (kA z b j)) n x y) * rmask (rls (lg (ix2 (1 : Fin 2) j))) r x) := by
  simp only [← vB_apply, ← qB_apply, ← kB_apply, ← maskB_apply]
  pointwise [val_main_v118, val_main_v117, val_main_v116, val_main_v115, val_main_v114, val_main_v113]
theorem kvB_apply (b : Fin 32) (n : Fin 2) (j : Fin 8) (d : Fin 128) (e : Fin 256) : val_main_v131 (F := Ideal) z lg (ix5 b n j d e)
    = rkv (rls (lg (ix2 (1 : Fin 2) j))) ((rev (kA z b j)) n) ((rev (vR z b j)) n) d e := by
  unfold rkv zf c127 ps
  simp only [← vB_apply, ← kB_apply, ← lgB_apply]
  pointwise [val_main_v131, val_main_v130, val_main_v129, val_main_v128, val_main_v127, val_main_v126, val_main_v125, val_main_v124, val_main_v123, val_main_v122, val_main_v121, val_main_v120, val_main_v119, val_main_cst_10, val_main_v96]
theorem s1B_apply (b : Fin 32) (j : Fin 8) (d : Fin 128) (e : Fin 256) : val_main_v141 (F := Ideal) z lg (ix4 b j d e)
    = rs1 (rls (lg (ix2 (1 : Fin 2) j))) (rev (kA z b j)) (rev (vR z b j)) d e := by
  unfold rs1 dc c128
  rw [← kvB_apply, ← lgB_apply]
  pointwise [val_main_v141, val_main_v140, val_main_v139, val_main_v138, val_main_v137, val_main_v136, val_main_v135, val_main_v134, val_main_v133, val_main_v132, val_main_cst_11, val_main_cst_12]
theorem s2B_apply (b : Fin 32) (j : Fin 8) (d : Fin 128) (e : Fin 256) : val_main_v146 (F := Ideal) z lg (ix4 b j d e)
    = rs2 (rls (lg (ix2 (1 : Fin 2) j))) (rev (kA z b j)) (rev (vR z b j)) d e := by
  unfold rs2 dc c128
  rw [← kvB_apply, ← s1B_apply, ← lgB_apply]
  pointwise [val_main_v146, val_main_v145, val_main_v144, val_main_v143, val_main_v142, val_main_v135, val_main_v134, val_main_v133, val_main_v132, val_main_cst_11]
theorem entB_apply (b : Fin 32) (n : Fin 2) (j : Fin 8) (d : Fin 128) (e : Fin 256) : val_main_v149 (F := Ideal) z lg (ix5 b n j d e)
    = if n = 0 then 0 else rs1 (rls (lg (ix2 (1 : Fin 2) j))) (rev (kA z b j)) (rev (vR z b j)) d e := by
  rw [← s1B_apply]
  have h : val_main_v149 (F := Ideal) z lg (ix5 b n j d e) = if h : n.val < 1 then 0 else val_main_v141 (F := Ideal) z lg (ix4 b j d e) := by
    pointwise [val_main_v149, val_main_v148, val_main_v147, val_main_v136, val_main_cst_12]
  rw [h]
  exact if_congr ⟨fun h => Fin.ext (by show n.val = 0; omega), fun h => by rw [h]; exact Nat.one_pos⟩ rfl rfl
theorem dirB_apply (b : Fin 32) (n : Fin 2) (r : Fin 128) (j : Fin 8) (e : Fin 256) : val_main_v164 (F := Ideal) z lg (ix5 b n r j e)
    = rdir (rls (lg (ix2 (1 : Fin 2) j))) (rev (qR z b j)) (rev (kA z b j)) (rev (vR z b j)) n r e := by
  unfold rdir xf ps
  rw [← innerB_apply]
  simp only [← entB_apply]
  simp only [← qB_apply, ← lgB_apply]
  pointwise [val_main_v164, val_main_v163, val_main_v162, val_main_v161, val_main_v160, val_main_v159, val_main_v158, val_main_v157, val_main_v156, val_main_v155, val_main_v154, val_main_v153, val_main_v152, val_main_v151, val_main_v150, val_main_cst_13, val_main_v96]

/-! ## The results -/

/-- The two directions added, before the normalisation. -/
def rsum (b : Fin 32) (j : Fin 8) (n : Fin 2) (r : Fin 128) (e : Fin 256) : EReal :=
  rdir (rls (lg (ix2 (0 : Fin 2) j))) (qR z b j) (kA z b j) (vR z b j) n r e
    + rdir (rls (lg (ix2 (1 : Fin 2) j))) (rev (qR z b j)) (rev (kA z b j)) (rev (vR z b j)) n.rev r.rev e

theorem sum_apply (b : Fin 32) (n : Fin 2) (r : Fin 128) (j : Fin 8) (e : Fin 256) :
    val_main_v167 (F := Ideal) z lg (ix4 b (⟨n.val * 128 + r.val, by omega⟩ : Fin 256) j e) = rsum z lg b j n r e := by
  have h1 : val_main_v87 (F := Ideal) z lg (ix4 b (⟨n.val * 128 + r.val, by omega⟩ : Fin 256) j e) = val_main_v86 (F := Ideal) z lg (ix5 b n r j e) := by
    pointwise [val_main_v87]
  have h2 : ∀ (n : Fin 2) (r : Fin 128), val_main_v165 (F := Ideal) z lg (ix4 b (⟨n.val * 128 + r.val, by omega⟩ : Fin 256) j e)
      = val_main_v164 (F := Ideal) z lg (ix5 b n r j e) := fun n r => by
    pointwise [val_main_v165]
  have h3 : val_main_v166 (F := Ideal) z lg (ix4 b (⟨n.val * 128 + r.val, by omega⟩ : Fin 256) j e)
      = val_main_v165 (F := Ideal) z lg (ix4 b (⟨n.val * 128 + r.val, by omega⟩ : Fin 256).rev j e) := by
    pointwise [val_main_v166]
    rfl
  rw [rev_row, h2, dirB_apply] at h3
  rw [dirF_apply] at h1
  have h : val_main_v167 (F := Ideal) z lg (ix4 b (⟨n.val * 128 + r.val, by omega⟩ : Fin 256) j e)
      = val_main_v87 (F := Ideal) z lg (ix4 b (⟨n.val * 128 + r.val, by omega⟩ : Fin 256) j e)
        + val_main_v166 (F := Ideal) z lg (ix4 b (⟨n.val * 128 + r.val, by omega⟩ : Fin 256) j e) := by
    pointwise [val_main_v167]
  rw [h, h1, h3]
  rfl

theorem gate_apply (b : Fin 32) (n : Fin 2) (r : Fin 128) (j : Fin 8) (e : Fin 256) :
    val_main_v9 (F := Ideal) z (ix3 b (⟨n.val * 128 + r.val, by omega⟩ : Fin 256) (⟨j.val * 256 + e.val, by omega⟩ : Fin 2048)) = vA z 2 b n j r e := by
  unfold vA
  pointwise [val_main_v9, val_main_v2, val_main_v1, val_main_v0]

/-- The reference's first result. -/
theorem out_apply (b : Fin 32) (n : Fin 2) (r : Fin 128) (j : Fin 8) (e : Fin 256) :
    val_main_v185 (F := Ideal) z lg (ix2 (⟨b.val * 256 + (n.val * 128 + r.val), by omega⟩ : Fin 8192) (⟨j.val * 256 + e.val, by omega⟩ : Fin 2048))
      = Cert.RetIdeal.Ret.norm (rsum z lg b j n r) (vA z 2 b n j r e) e := by
  have hr : (⟨(b.val * 256 + (n.val * 128 + r.val)) % 256, by omega⟩ : Fin 256) = ⟨n.val * 128 + r.val, by omega⟩ := Fin.ext (by simp only []; omega)
  have hs : (fun e => rsum z lg b j n r e) = rsum z lg b j n r := rfl
  unfold Cert.RetIdeal.Ret.norm
  simp only [← sum_apply, ← gate_apply, ← hr]
  pointwise [val_main_v185, val_main_v184, val_main_v180, val_main_v179, val_main_v178, val_main_v177, val_main_v176, val_main_v175,
    val_main_v174, val_main_v173, val_main_v172, val_main_v171, val_main_v170, val_main_v169, val_main_v168, val_main_cst_14,
    val_main_cst_15, val_main_cst_16, val_main_call7_v5, val_main_call7_v4, val_main_call7_v3, val_main_call7_v2, val_main_call7_v1,
    val_main_call7_v0, val_main_call7_cst, val_main_call7_cst_0]
  rfl

/-- The reference's second result. -/
theorem st_apply (b : Fin 32) (lay dir : Fin 2) (j : Fin 8) (d : Fin 128) (e : Fin 256) :
    val_main_v189 (F := Ideal) z lg (ix6 b lay dir j d e)
      = if lay.val = 0 then (if dir = 0 then rs2 (rls (lg (ix2 (0 : Fin 2) j))) (kA z b j) (vR z b j) d e
          else rs2 (rls (lg (ix2 (1 : Fin 2) j))) (rev (kA z b j)) (rev (vR z b j)) d e) else 0 := by
  rw [← s2F_apply, ← s2B_apply]
  have h : val_main_v189 (F := Ideal) z lg (ix6 b lay dir j d e) = (if h : lay.val < 1 then if h : dir.val < 1 then
      val_main_v68 (F := Ideal) z lg (ix4 b j d e) else val_main_v146 (F := Ideal) z lg (ix4 b j d e) else 0) := by
    pointwise [val_main_v189, val_main_v188, val_main_v187, val_main_v186, val_main_v183, val_main_v182, val_main_v181, val_main_cst_17]
  rw [h]
  exact if_congr ⟨fun h => by omega, fun h => by omega⟩
    (if_congr ⟨fun h => Fin.ext (by show dir.val = 0; omega), fun h => by rw [h]; exact Nat.one_pos⟩ rfl rfl) rfl

end Cert.RetRefIdeal.Ret

end
-- ==== Proof.Ret.Math.lean ====
/-
  The mathematics that joins the two: the kernel adds the two directions' masks before it multiplies by the values, scales the
  queries by the decay before it multiplies by the state, and counts the backward positions from the end of the chunk; the
  reference treats each direction alone, the backward one over the reversed sequence. The decays are exponentials of
  nonpositive numbers, hence reals between zero and one, so that the two groupings agree.
-/
module

public import proofs.«01_k».proof.Proof.Ret.Ref

@[expose] public section

noncomputable section

namespace Cert.RetRefIdeal.Ret

open Idealize.ShloMosaic Idealize.ShloMosaic.TcCoe
open Cert.RetRefIdeal.Read
open Cert.RetIdeal.Ret

/-! ## Constants and positions -/

theorem c127_eq : c127 = ((127 : ℝ) : EReal) := by
  unfold c127; simp [Ideal.ofBits, Ideal.ieee]; rw [← EReal.coe_mul]; norm_num
theorem c128_eq : c128 = ((128 : ℝ) : EReal) := by
  unfold c128; simp [Ideal.ofBits, Ideal.ieee]; rw [← EReal.coe_mul]; norm_num

theorem ps_eq (r : Fin 128) : ps r = ((r.val : ℝ) : EReal) := by
  have h : (BitVec.ofNat 32 r.val).toInt = (r.val : ℤ) := by
    rw [BitVec.toInt_eq_toNat_of_lt] <;> simp [BitVec.toNat_ofNat] <;> omega
  show (((BitVec.ofNat 32 r.val).toInt : ℝ) : EReal) = _
  rw [h]; simp
theorem df_eq (r l : Fin 128) : df r l = (((r.val : ℝ) - (l.val : ℝ) : ℝ) : EReal) := by
  have h : (BitVec.ofNat 32 r.val - BitVec.ofNat 32 l.val).toInt = (r.val : ℤ) - (l.val : ℤ) := by
    rw [BitVec.toInt_sub]
    have hr : (BitVec.ofNat 32 r.val).toInt = (r.val : ℤ) := by
      rw [BitVec.toInt_eq_toNat_of_lt] <;> simp [BitVec.toNat_ofNat] <;> omega
    have hl : (BitVec.ofNat 32 l.val).toInt = (l.val : ℤ) := by
      rw [BitVec.toInt_eq_toNat_of_lt] <;> simp [BitVec.toNat_ofNat] <;> omega
    rw [hr, hl, Int.bmod_eq_of_le] <;> omega
  show (((BitVec.ofNat 32 r.val - BitVec.ofNat 32 l.val).toInt : ℝ) : EReal) = _
  rw [h]; push_cast; rfl

theorem rev_val (r : Fin 128) : ((r.rev.val : ℕ) : ℝ) = 127 - (r.val : ℝ) := by
  have h : r.rev.val + r.val = 127 := by rw [Fin.val_rev]; omega
  have h' : ((r.rev.val : ℕ) : ℝ) + (r.val : ℝ) = 127 := by exact_mod_cast h
  linarith

/-- The backward decay to the chunk's start is the forward decay at the reversed position. -/
theorem zb_eq (l : EReal) (r : Fin 128) : zb l r = zf l r.rev := by
  unfold zb zf
  rw [ps_eq, ps_eq, c127_eq, rev_val, ← EReal.coe_sub]
  congr 3; ring
theorem xb_eq (l : EReal) (r : Fin 128) : xb l r = xf l r.rev := by
  unfold xb xf
  rw [ps_eq, ps_eq, c128_eq, rev_val, ← EReal.coe_sub, ← EReal.coe_one, ← EReal.coe_add]
  congr 3; ring

/-! ## The log of the sigmoid -/

theorem log1p_exp_nonneg (x : EReal) : 0 ≤ Ideal.log1p (Ideal.exp x) := by
  unfold Ideal.log1p
  induction x using EReal.rec with
  | bot => rw [Ideal.exp_bot, add_zero, ← EReal.coe_one, Ideal.log_coe, if_neg (by norm_num), Real.log_one]; simp
  | top => rw [Ideal.exp_top, ← EReal.coe_one, EReal.coe_add_top, Ideal.log_top]; exact le_top
  | coe x =>
    rw [Ideal.exp_coe, ← EReal.coe_one, ← EReal.coe_add, Ideal.log_coe, if_neg (by have := Real.exp_pos x; linarith)]
    exact_mod_cast Real.log_nonneg (by have := Real.exp_pos x; linarith)

theorem ls_eq (x : EReal) : ls x = rls x := by
  unfold ls rls
  rw [if_neg (by simp)]
  have ha : FloatOps.absf (F := Ideal) (φ := .f32) (-x) = FloatOps.absf (F := Ideal) (φ := .f32) x := by
    show max (-x) (- -x) = max x (-x)
    rw [neg_neg, max_comm]
  have hm : -(max (-x) 0) = min x 0 := by
    rcases le_total x 0 with h | h
    · rw [max_eq_left (by simpa using EReal.neg_le_neg_iff.2 h), neg_neg, min_eq_left h]
    · rw [max_eq_right (by simpa using EReal.neg_le_neg_iff.2 h), neg_zero, min_eq_right h]
  have hp := log1p_exp_nonneg (-(FloatOps.absf (F := Ideal) (φ := .f32) x))
  rw [ha, zero_sub, EReal.neg_add (Or.inl (ne_of_gt (lt_of_lt_of_le EReal.bot_lt_zero (le_max_right _ _))))
    (Or.inr (ne_of_gt (lt_of_lt_of_le EReal.bot_lt_zero hp))), hm]

theorem rls_nonpos (x : EReal) : rls x ≤ 0 := by
  rw [← ls_eq]
  unfold ls
  rw [sub_eq_add_neg]
  refine (add_le_add (min_le_right _ _) (EReal.neg_le_neg_iff.2 (log1p_exp_nonneg _))).trans ?_
  simp

/-! ## The decays are reals between zero and one -/

/-- The exponential of a nonpositive number is a nonnegative real. -/
theorem exp_real (x : EReal) (h : x ≤ 0) : 0 ≤ Ideal.exp x ∧ Ideal.exp x ≠ ⊤ := by
  induction x using EReal.rec with
  | bot => rw [Ideal.exp_bot]; exact ⟨le_refl _, EReal.zero_ne_top⟩
  | top => exact absurd h (by simp)
  | coe x => rw [Ideal.exp_coe]; exact ⟨by exact_mod_cast (Real.exp_pos x).le, EReal.coe_ne_top _⟩
theorem exp_nonneg (x : EReal) : 0 ≤ Ideal.exp x := by
  induction x using EReal.rec with
  | bot => rw [Ideal.exp_bot]
  | top => rw [Ideal.exp_top]; exact le_top
  | coe x => rw [Ideal.exp_coe]; exact_mod_cast (Real.exp_pos x).le

theorem xf_real (l : EReal) (hl : l ≤ 0) (r : Fin 128) : 0 ≤ xf l r ∧ xf l r ≠ ⊤ := by
  refine exp_real _ ?_
  rw [ps_eq, ← EReal.coe_one, ← EReal.coe_add]
  refine EReal.mul_nonpos_iff.2 (Or.inr ⟨hl, ?_⟩)
  exact_mod_cast (by positivity : (0 : ℝ) ≤ (r.val : ℝ) + 1)

theorem rmask_nonneg (l : EReal) (r s : Fin 128) : 0 ≤ rmask l r s := by
  unfold rmask; split
  · exact exp_nonneg _
  · exact le_refl _

/-- The kernel's mask is the forward mask and the backward mask of the reversed positions, added. -/
theorem dmask_eq (lf lb : EReal) (r s : Fin 128) : dmask lf lb r s = rmask lf r s + rmask lb r.rev s.rev := by
  have h1 : ps r - ps s = df r s := by rw [ps_eq, ps_eq, df_eq, EReal.coe_sub]
  have h2 : ps r.rev - ps s.rev = 0 - df r s := by
    rw [ps_eq, ps_eq, df_eq, rev_val, rev_val, zero_sub, ← EReal.coe_sub, ← EReal.coe_neg]; congr 1; ring
  unfold dmask rmask
  rw [h1, h2]
  refine congrArg₂ (· + ·) rfl (if_congr ?_ rfl rfl)
  rw [df_eq, zero_sub, ← EReal.coe_neg]
  constructor
  · intro h; have h' : (r.val : ℝ) - s.val ≤ 0 := by exact_mod_cast h
    exact_mod_cast (by linarith : (0 : ℝ) ≤ -((r.val : ℝ) - s.val))
  · intro h; have h' : (0 : ℝ) ≤ -((r.val : ℝ) - s.val) := by exact_mod_cast h
    exact_mod_cast (by linarith : (r.val : ℝ) - s.val ≤ 0)

/-! ## The groupings -/

/-- A factor distributes over the sum of two nonpositive numbers. -/
theorem nonpos_distrib (x y v : EReal) (hx : x ≤ 0) (hy : y ≤ 0) : (x + y) * v = x * v + y * v := by
  have hx' : 0 ≤ -x := EReal.neg_nonneg.2 hx
  have hy' : 0 ≤ -y := EReal.neg_nonneg.2 hy
  have h := EReal.right_distrib_of_nonneg (c := -v) hx' hy'
  have e : -x + -y = -(x + y) := by
    rw [EReal.neg_add (Or.inr fun h => by simp [h] at hy) (Or.inl fun h => by simp [h] at hx), sub_eq_add_neg]
  rw [e] at h
  simpa only [neg_mul, mul_neg, neg_neg] using h

/-- A score times the sum of two nonnegative masks, times a value. -/
theorem split_mul (s a b v : EReal) (ha : 0 ≤ a) (hb : 0 ≤ b) : s * (a + b) * v = v * (s * a) + v * (s * b) := by
  rw [EReal.left_distrib_of_nonneg ha hb, mul_comm v, mul_comm v]
  rcases le_total 0 s with h | h
  · exact EReal.right_distrib_of_nonneg (mul_nonneg h ha) (mul_nonneg h hb)
  · exact nonpos_distrib _ _ _ (EReal.mul_nonpos_iff.2 (Or.inr ⟨h, ha⟩)) (EReal.mul_nonpos_iff.2 (Or.inr ⟨h, hb⟩))

/-- A finite nonnegative factor moves out of a sum. -/
theorem sum_mul_real {n : Nat} (f : Fin n → EReal) (c : EReal) (h0 : 0 ≤ c) (ht : c ≠ ⊤) : ∑ x, f x * c = (∑ x, f x) * c := by
  classical
  refine Finset.induction_on (Finset.univ : Finset (Fin n)) (by simp) fun a s ha ih => ?_
  rw [Finset.sum_insert ha, Finset.sum_insert ha, ih, EReal.right_distrib_of_nonneg_of_ne_top h0 ht]

/-- A sum over the reversed positions. -/
theorem sum_rev {n : Nat} (f : Fin n → EReal) : ∑ x : Fin n, f x.rev = ∑ x, f x := Equiv.sum_comp Fin.revPerm f

/-! ## The states and the context -/

theorem kv_f (l : EReal) (k0 : Fin 128 → Fin 128 → EReal) (v0 : Fin 128 → Fin 256 → EReal) (d : Fin 128) (e : Fin 256) :
    kv zf (fun _ => l) k0 v0 d e = rkv l (fun r d => k0 r d * kscale) v0 d e := rfl
theorem kv_b (l : EReal) (k0 : Fin 128 → Fin 128 → EReal) (v0 : Fin 128 → Fin 256 → EReal) (d : Fin 128) (e : Fin 256) :
    kv zb (fun _ => l) k0 v0 d e = rkv l (fun r d => k0 r.rev d * kscale) (fun r => v0 r.rev) d e := by
  unfold kv rkv
  simp only [zb_eq]
  rw [← sum_rev]
  simp only [Fin.rev_rev]

/-- The kernel's context of a row, regrouped by direction. -/
theorem ctx_split (lf lb : EReal) (hf : lf ≤ 0) (hb : lb ≤ 0) (q k : Fin 128 → Fin 128 → EReal) (v sf sb : Fin 128 → Fin 256 → EReal)
    (r : Fin 128) (e : Fin 256) :
    ctx (fun _ => lf) (fun _ => lb) q k v sf sb r e
      = ((∑ x, v x e * ((∑ y, q r y * (k x y * kscale)) * rmask lf r x)) + (∑ x, sf x e * q r x) * xf lf r)
        + ((∑ x, v x e * ((∑ y, q r y * (k x y * kscale)) * rmask lb r.rev x.rev)) + (∑ x, sb x e * q r x) * xf lb r.rev) := by
  have h1 : (∑ l, score (fun _ => lf) (fun _ => lb) q k r l * v l e)
      = (∑ x, v x e * ((∑ y, q r y * (k x y * kscale)) * rmask lf r x))
        + ∑ x, v x e * ((∑ y, q r y * (k x y * kscale)) * rmask lb r.rev x.rev) := by
    rw [← Finset.sum_add_distrib]
    refine Finset.sum_congr rfl fun x _ => ?_
    unfold score
    rw [dmask_eq]
    exact split_mul _ _ _ _ (rmask_nonneg _ _ _) (rmask_nonneg _ _ _)
  have h2 : (∑ d, q r d * xf lf r * sf d e) = (∑ x, sf x e * q r x) * xf lf r := by
    rw [← sum_mul_real _ _ (xf_real lf hf r).1 (xf_real lf hf r).2]
    exact Finset.sum_congr rfl fun x _ => by rw [mul_right_comm, mul_comm (q r x)]
  have h3 : (∑ d, q r d * xb lb r * sb d e) = (∑ x, sb x e * q r x) * xf lb r.rev := by
    rw [xb_eq, ← sum_mul_real _ _ (xf_real lb hb r.rev).1 (xf_real lb hb r.rev).2]
    exact Finset.sum_congr rfl fun x _ => by rw [mul_right_comm, mul_comm (q r x)]
  unfold ctx
  rw [h1, h2, h3]
  exact add_add_add_comm _ _ _ _

theorem rev2_eq (n : Fin 2) : (n.rev = 0) ↔ ¬ (n = 0) := by revert n; decide

/-- The backward direction, run over the reversed sequence and read back in the sequence's own order. -/
theorem rdir_rev (l : EReal) (q k : Fin 2 → Fin 128 → Fin 128 → EReal) (v : Fin 2 → Fin 128 → Fin 256 → EReal)
    (n : Fin 2) (r : Fin 128) (e : Fin 256) :
    rdir l (rev q) (rev k) (rev v) n.rev r.rev e
      = (∑ x, v n x e * ((∑ y, q n r y * k n x y) * rmask l r.rev x.rev))
        + (∑ x, (if n = 0 then rs1 l (rev k) (rev v) x e else 0) * q n r x) * xf l r.rev := by
  unfold rdir
  refine congrArg₂ (· + ·) ?_ (congrArg (· * xf l r.rev) (Finset.sum_congr rfl fun x _ => ?_))
  · rw [← sum_rev]
    refine Finset.sum_congr rfl fun x _ => ?_
    unfold rev
    simp only [Fin.rev_rev]
  · have hq : rev q n.rev r.rev x = q n r x := by unfold rev; simp only [Fin.rev_rev]
    rw [hq]
    refine congrArg (· * q n r x) ?_
    by_cases h : n = 0
    · rw [if_pos h, if_neg (fun h' => (rev2_eq n).1 h' h)]
    · rw [if_neg h, if_pos ((rev2_eq n).2 h)]

variable (z : ZT.Idx → EReal) (lg : LT.Idx → EReal)

/-- The forward state after the first chunk. -/
theorem stF (b : Fin 32) (j : Fin 8) (d : Fin 128) (e : Fin 256) :
    st1 zf (fun _ => lgA lg 0 j) (qA z 1 b 0 j) (vA z 1 b 0 j) d e = rs1 (rls (lg (ix2 0 j))) (kA z b j) (vR z b j) d e := by
  unfold st1 rs1
  rw [kv_f, lgA, ls_eq]
  rfl
/-- The backward state after the first chunk it meets, the second of the sequence. -/
theorem stB (b : Fin 32) (j : Fin 8) (d : Fin 128) (e : Fin 256) :
    st1 zb (fun _ => lgA lg 1 j) (qA z 1 b 1 j) (vA z 1 b 1 j) d e
      = rs1 (rls (lg (ix2 1 j))) (rev (kA z b j)) (rev (vR z b j)) d e := by
  unfold st1 rs1
  rw [kv_b, lgA, ls_eq]
  rfl

theorem inF_eq (b : Fin 32) (n : Fin 2) (j : Fin 8) (d : Fin 128) (e : Fin 256) :
    inFA z lg b n j d e = if n = 0 then 0 else rs1 (rls (lg (ix2 0 j))) (kA z b j) (vR z b j) d e := by
  unfold inFA; rw [stF]
theorem inB_eq (b : Fin 32) (n : Fin 2) (j : Fin 8) (d : Fin 128) (e : Fin 256) :
    inBA z lg b n j d e = if n = 0 then rs1 (rls (lg (ix2 1 j))) (rev (kA z b j)) (rev (vR z b j)) d e else 0 := by
  unfold inBA; rw [stB]

/-- The kernel's context is the two directions' sum. -/
theorem ctx_eq (b : Fin 32) (n : Fin 2) (j : Fin 8) (r : Fin 128) (e : Fin 256) :
    ctxA z lg b n j r e = rsum z lg b j n r e := by
  unfold ctxA rsum
  rw [show lgA lg 0 j = rls (lg (ix2 0 j)) from ls_eq _, show lgA lg 1 j = rls (lg (ix2 1 j)) from ls_eq _,
    ctx_split _ _ (rls_nonpos _) (rls_nonpos _), rdir_rev]
  simp only [inF_eq, inB_eq]
  rfl

/-- The kernel's end states are the reference's. -/
theorem endF (b : Fin 32) (j : Fin 8) (d : Fin 128) (e : Fin 256) :
    endA z lg b 0 j d e = rs2 (rls (lg (ix2 0 j))) (kA z b j) (vR z b j) d e := by
  unfold endA st2 rs2
  rw [if_pos rfl, stF, kv_f, lgA, ls_eq]
  rfl
theorem endB (b : Fin 32) (j : Fin 8) (d : Fin 128) (e : Fin 256) :
    endA z lg b 1 j d e = rs2 (rls (lg (ix2 1 j))) (rev (kA z b j)) (rev (vR z b j)) d e := by
  unfold endA st2 rs2
  rw [if_neg (by decide), stB, kv_b, lgA, ls_eq]
  rfl

/-- The two programs' first results agree. -/
theorem out_eq : val_main_v185 (F := Ideal) z lg = outVal z lg := by
  funext y
  obtain ⟨r, l, rfl⟩ : ∃ (r : Fin 8192) (l : Fin 2048), y = ix2 r l := ⟨y 0, y 1, eq_ix2 y⟩
  obtain ⟨j, e, rfl⟩ := split_col l
  obtain ⟨b, n, p, rfl⟩ : ∃ (b : Fin 32) (n : Fin 2) (p : Fin 128), r = ⟨b.val * 256 + (n.val * 128 + p.val), by omega⟩ :=
    ⟨⟨r.val / 256, by omega⟩, ⟨r.val % 256 / 128, by omega⟩, ⟨r.val % 128, by omega⟩, Fin.ext (by simp only []; omega)⟩
  rw [out_apply, outVal_apply]
  unfold outA
  rw [show rsum z lg b j n p = ctxA z lg b n j p from funext fun e => (ctx_eq z lg b n j p e).symm]

/-- The two programs' second results agree. -/
theorem st_eq : val_main_v189 (F := Ideal) z lg = stVal z lg := by
  funext y
  obtain ⟨b, lay, dir, j, d, e, rfl⟩ : ∃ (y0 : Fin 32) (y1 : Fin 2) (y2 : Fin 2) (y3 : Fin 8) (y4 : Fin 128) (y5 : Fin 256),
    y = ix6 y0 y1 y2 y3 y4 y5 := ⟨y 0, y 1, y 2, y 3, y 4, y 5, eq_ix6 y⟩
  rw [st_apply]
  show _ = if lay.val = 0 then endA z lg b dir j d e else 0
  refine if_congr Iff.rfl ?_ rfl
  rcases (by revert dir; decide : dir = 0 ∨ dir = 1) with rfl | rfl
  · rw [if_pos rfl, endF]
  · rw [if_neg (by decide), endB]

end Cert.RetRefIdeal.Ret
-- ==== Proof.Ret.Algebraic.lean ====
/-
  The context retention call against its reference: the two runs side by side, both pairs of results the same functions of the
  arguments.
-/
module

public import proofs.«01_k».proof.Defs
public import proofs.«01_k».proof.Proof.Ret.Math
public import proofs.«01_k».proof.Proof.Gen.RetIdeal.Value
public import proofs.«01_k».proof.Proof.Gen.RetRefIdeal.Run

@[expose] public section

noncomputable section

namespace Cert.Proof.Ret

open Idealize.ShloMosaic Idealize.ShloMosaic.TcCoe Idealize.SL.Sem

/-- From equal arguments, at the ideal semantics, the kernel's two results equal the reference's. -/
theorem algebraic : Cert.algebraic_RetIdeal_RetRefIdeal (hRetIdeal := Cert.RetIdeal.Gen.facts)
    (hRetRefIdeal := Cert.RetRefIdeal.Gen.facts) := by
  intro m g m' g' _ hargs
  refine ⟨fun c => Cert.RetIdeal.Ret.outVal (m ((c.tc : Thread _ _).loc Cert.RetIdeal.main_arg0))
      (m ((c.tc : Thread _ _).loc Cert.RetIdeal.main_arg1)),
    fun c => Cert.RetIdeal.Ret.stVal (m ((c.tc : Thread _ _).loc Cert.RetIdeal.main_arg0))
      (m ((c.tc : Thread _ _).loc Cert.RetIdeal.main_arg1)), ?_, ?_⟩
  · refine (θ_run (Cert.RetIdeal.defs (F := Ideal)) _ _).mono (fun r h c => ?_) (Cert.RetIdeal.Value.run_blocks (F := Ideal) m g)
    obtain ⟨hv, hw, h0, h1⟩ := h c
    exact ⟨hv.trans (Cert.RetIdeal.Ret.final5 m c), hw.trans (Cert.RetIdeal.Ret.final6 m c), h0, h1⟩
  · refine (θ_run (Cert.RetRefIdeal.defs (F := Ideal)) _ _).mono (fun r h c => ?_) (Cert.RetRefIdeal.Value.run (F := Ideal) m' g')
    obtain ⟨hv, hw, h0, h1⟩ := h c
    refine ⟨hv.trans ?_, hw.trans ?_, h0, h1⟩
    · exact ((Cert.RetRefIdeal.Read.val_main_v185_eq _).trans (Cert.RetRefIdeal.Ret.out_eq _ _)).trans
        (congrArg₂ Cert.RetIdeal.Ret.outVal (hargs c).1 (hargs c).2)
    · exact ((Cert.RetRefIdeal.Read.val_main_v189_eq _).trans (Cert.RetRefIdeal.Ret.st_eq _ _)).trans
        (congrArg₂ Cert.RetIdeal.Ret.stVal (hargs c).1 (hargs c).2)

/-- The reference terminates, keeps its arguments and leaves every semaphore counter at zero. -/
theorem frame_ref : Cert.quiescent_RetRefIdeal (hRetRefIdeal := Cert.RetRefIdeal.Gen.facts) := fun m g _ =>
  (θ_run (Cert.RetRefIdeal.defs (F := Ideal)) _ _).mono
    (fun r h => ⟨fun c => (h c).2.2, Idealize.ShloMosaic.sem_eq_zero_of_no_sems (by decide) r.2⟩)
    (Cert.RetRefIdeal.Value.run (F := Ideal) m g)

end Cert.Proof.Ret
-- ==== Proof.Up.Kernel.lean ====
/-
  The feed-forward up call, read as values: at any grid point the carried weight scratch holds the point's two column blocks
  of the weights, each stored row tile is `silu (h · Wa) * (h · Wb)`, and the result array after the run is that function of
  the two argument arrays.
-/
module

public import proofs.«01_k».proof.Proof.Gen.UpIdeal.Value
public import Idealize.ShloMosaic.Lib.Pointwise
public import Idealize.ShloMosaic.Lib.Pipeline.ValueKit
public import Idealize.ShloMosaic.Lib.Tactic

@[expose] public section

noncomputable section

namespace Cert.UpIdeal.Up

open Cert.UpIdeal Cert.UpIdeal.Gen Idealize.ShloMosaic Idealize.ShloMosaic.TcCoe Idealize.SL.Sem
open Idealize.ShloMosaic.Pipeline (Dat)

/-- The gated unit of the layer: `a * sigmoid a * b`. -/
def gate (a b : EReal) : EReal := a * Ideal.div 1 (1 + Ideal.exp (-a)) * b

/-- One stored row tile, read at an index: the gated product of the two dot products of a row of `h`. -/
theorem tile_apply (h : Vec Ideal S256x2048 .bf16) (wa wb : Vec Ideal S2048x512 .bf16) (r : Fin 256) (l : Fin 512) :
    k0_pay6 (F := Ideal) h wa wb (ix2 r l)
      = gate (∑ k : Fin 2048, h (ix2 r k) * wa (ix2 k l)) (∑ k : Fin 2048, h (ix2 r k) * wb (ix2 k l)) := by
  pointwise [k0_pay6, gate]
  rfl

/-- A weight block as the body stores it in the scratch, read at an index. -/
theorem wa_apply (x : Vec Ideal S1x1x2048x512 .f32) (k : Fin 2048) (l : Fin 512) :
    k0_pay4 (F := Ideal) x (ix2 k l) = x (ix4 0 0 k l) := by
  pointwise [k0_pay4]

/-- A whole block of the result: the gated product at every row of the block of `h` and every column of the two weight
    blocks. -/
def blockVal (x : Vec Ideal S2048x2048 .bf16) (wa wb : Vec Ideal S2048x512 .bf16) : Vec Ideal S2048x512 .bf16 := fun y =>
  gate (∑ k : Fin 2048, x (ix2 (y 0) k) * wa (ix2 k (y 1))) (∑ k : Fin 2048, x (ix2 (y 0) k) * wb (ix2 k (y 1)))

/-- The row tile at row offset `off` of a block of `h`, read at an index of the tile. -/
theorem tile_ld (x : Vec Ideal S2048x2048 .bf16) (wa wb : Vec Ideal S2048x512 .bf16) (off : Nat)
    (inb : ∀ a, (![off, 0] : Fin 2 → Nat) a + S256x2048.size a ≤ S2048x2048.size a)
    (inb' : ∀ a, (![off, 0] : Fin 2 → Nat) a + S256x512.size a ≤ S2048x512.size a) (y : S256x512.Idx) :
    k0_pay6 (F := Ideal) (View.ld x (Rect.unit (s := S2048x2048) ![off, 0] S256x2048.size inb)) wa wb y
      = blockVal x wa wb ((Rect.unit (s := S2048x512) ![off, 0] S256x512.size inb').emb y) := by
  obtain ⟨r, l, rfl⟩ : ∃ r l, y = ix2 r l := ⟨y 0, y 1, eq_ix2 y⟩
  rw [tile_apply]
  have hl : ((Rect.unit (s := S2048x512) ![off, 0] S256x512.size inb').emb (ix2 r l)) 1 = l :=
    Fin.ext (by simp [Rect.emb_apply])
  have hr : ∀ k : Fin 2048, View.ld x (Rect.unit (s := S2048x2048) ![off, 0] S256x2048.size inb) (ix2 r k)
      = x (ix2 (((Rect.unit (s := S2048x512) ![off, 0] S256x512.size inb').emb (ix2 r l)) 0) k) := fun k =>
    View.ld_unit_apply_of x _ _ inb _ _ (fun a => by
      match a with
      | ⟨0, _⟩ => simp [Rect.emb_apply]
      | ⟨1, _⟩ => simp)
  simp only [blockVal, hr, hl]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- One row tile at row offset `off`, as the body stores it. -/
abbrev tile (x : Vec Ideal S2048x2048 .bf16) (wa wb : Vec Ideal S2048x512 .bf16) (off : Nat)
    (inb : ∀ a, (![off, 0] : Fin 2 → Nat) a + S256x2048.size a ≤ S2048x2048.size a)
    (inb' : ∀ a, (![off, 0] : Fin 2 → Nat) a + S256x512.size a ≤ S2048x512.size a) : View.Piece (Elt Ideal) S2048x512 .bf16 :=
  ⟨Rect.unit (s := S2048x512) ![off, 0] S256x512.size inb', k0_pay6 (F := Ideal) (View.ld x (Rect.unit (s := S2048x2048) ![off, 0] S256x2048.size inb)) wa wb⟩

/-- The body's eight row tiles, last first. -/
abbrev tiles (x : Vec Ideal S2048x2048 .bf16) (wa wb : Vec Ideal S2048x512 .bf16) : List (View.Piece (Elt Ideal) S2048x512 .bf16) :=
  [tile x wa wb 1792 (by decide) (by decide), tile x wa wb 1536 (by decide) (by decide), tile x wa wb 1280 (by decide) (by decide),
    tile x wa wb 1024 (by decide) (by decide), tile x wa wb 768 (by decide) (by decide), tile x wa wb 512 (by decide) (by decide),
    tile x wa wb 256 (by decide) (by decide), tile x wa wb 0 (by decide) (by decide)]

/-- Every one of a block's eight row tiles is the block's gated product restricted to its rows. -/
theorem tiles_forall (x : Vec Ideal S2048x2048 .bf16) (wa wb : Vec Ideal S2048x512 .bf16) :
    ∀ p ∈ tiles x wa wb, ∀ y : p.1.shape.Idx, p.2 y = blockVal x wa wb (p.1.emb y) := by
  refine List.forall_mem_cons.2 ⟨tile_ld x wa wb 1792 (by decide) (by decide), List.forall_mem_cons.2 ⟨tile_ld x wa wb 1536 (by decide) (by decide),
    List.forall_mem_cons.2 ⟨tile_ld x wa wb 1280 (by decide) (by decide), List.forall_mem_cons.2 ⟨tile_ld x wa wb 1024 (by decide) (by decide),
    List.forall_mem_cons.2 ⟨tile_ld x wa wb 768 (by decide) (by decide), List.forall_mem_cons.2 ⟨tile_ld x wa wb 512 (by decide) (by decide),
    List.forall_mem_cons.2 ⟨tile_ld x wa wb 256 (by decide) (by decide), List.forall_mem_cons.2 ⟨tile_ld x wa wb 0 (by decide) (by decide), ?_⟩⟩⟩⟩⟩⟩⟩⟩
  exact fun p hp => absurd hp List.not_mem_nil

/-- At a point that reads the carried weights (every point but the first of a column), the block it leaves is the gated
    product over the scratch. -/
theorem out_B (c : Dev nD) (i : grid0.Coords) (arg2 : Memref sig .tc .vmem S2048x2048 .bf16) (harg2 : arg2.IsWhole) (arg3 : Memref sig .tc .vmem S1x1x2048x512 .f32) (harg3 : arg3.IsWhole) (arg4 : Memref sig .tc .vmem S1x1x2048x512 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (hc0 : ¬cond0_0 i)
    (x0 : Vec Ideal S2048x2048 .bf16) (x1 : Vec Ideal S1x1x2048x512 .f32) (x2 : Vec Ideal S1x1x2048x512 .f32) (xs0 : Vec Ideal S2048x512 .bf16) (xs1 : Vec Ideal S2048x512 .bf16) :
    out0_B_3 c i arg2 harg2 arg3 harg3 arg4 harg4 arg5 harg5 arg6 harg6 arg7 harg7 hc0 x0 x1 x2 xs0 xs1 = blockVal x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  funext y
  have hcov := cover0_B_3 c i arg2 harg2 arg3 harg3 arg4 harg4 arg5 harg5 arg6 harg6 arg7 harg7 hc0 x0 x1 x2 xs0 xs1 y
  refine View.canon_apply_of_pieces (blockVal x0 xs0 xs1) _ ?_ y hcov
  unfold kernelRun0_B
  dsimp only
  sl_unfold_words
  simp only [View.readAt_eq_ld, harg2.read_unread, harg6.read_unread, harg7.read_unread, View.ld_unit_zero (S := S2048x512) hz2]
  exact tiles_forall x0 xs0 xs1

/-- At the first point of a column the block it leaves is the gated product over the two weight blocks, stored first in
    the scratch and read back. -/
theorem out_A (c : Dev nD) (i : grid0.Coords) (arg2 : Memref sig .tc .vmem S2048x2048 .bf16) (harg2 : arg2.IsWhole) (arg3 : Memref sig .tc .vmem S1x1x2048x512 .f32) (harg3 : arg3.IsWhole) (arg4 : Memref sig .tc .vmem S1x1x2048x512 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (hc0 : cond0_0 i)
    (x0 : Vec Ideal S2048x2048 .bf16) (x1 : Vec Ideal S1x1x2048x512 .f32) (x2 : Vec Ideal S1x1x2048x512 .f32) :
    out0_A_3 c i arg2 harg2 arg3 harg3 arg4 harg4 arg5 harg5 arg6 harg6 arg7 harg7 hc0 x0 x1 x2
      = blockVal x0 (k0_pay4 x1) (k0_pay4 x2) := by
  unfold out0_A_3
  rw [View.read_writes_eq_canon _ _ _ (cover0_A_3 c i arg2 harg2 arg3 harg3 arg4 harg4 arg5 harg5 arg6 harg6 arg7 harg7 hc0 x0 x1 x2)]
  funext y
  have hcov := cover0_A_3 c i arg2 harg2 arg3 harg3 arg4 harg4 arg5 harg5 arg6 harg6 arg7 harg7 hc0 x0 x1 x2 y
  refine View.canon_apply_of_pieces (blockVal x0 (k0_pay4 x1) (k0_pay4 x2)) _ ?_ y hcov
  unfold kernelRun0_A
  dsimp only
  sl_unfold_words
  simp only [View.readAt_eq_ld, harg2.read_unread, harg3.read_unread, harg4.read_unread, View.readCov_unit_zero (S := S2048x512) _ hz2,
    View.ld_unit_zero (S := S1x1x2048x512) hz4]
  exact tiles_forall x0 (k0_pay4 x1) (k0_pay4 x2)

/-- What the first point of a column leaves in the first scratch: the first weight block. -/
theorem sout_A_0 (c : Dev nD) (i : grid0.Coords) (arg2 : Memref sig .tc .vmem S2048x2048 .bf16) (harg2 : arg2.IsWhole) (arg3 : Memref sig .tc .vmem S1x1x2048x512 .f32) (harg3 : arg3.IsWhole) (arg4 : Memref sig .tc .vmem S1x1x2048x512 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (hc0 : cond0_0 i)
    (x0 : Vec Ideal S2048x2048 .bf16) (x1 : Vec Ideal S1x1x2048x512 .f32) (x2 : Vec Ideal S1x1x2048x512 .f32) :
    sout0_A_0 c i arg2 harg2 arg3 harg3 arg4 harg4 arg5 harg5 arg6 harg6 arg7 harg7 hc0 x0 x1 x2 = k0_pay4 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S1x1x2048x512) hz4]

/-- What the first point of a column leaves in the second scratch: the second weight block. -/
theorem sout_A_1 (c : Dev nD) (i : grid0.Coords) (arg2 : Memref sig .tc .vmem S2048x2048 .bf16) (harg2 : arg2.IsWhole) (arg3 : Memref sig .tc .vmem S1x1x2048x512 .f32) (harg3 : arg3.IsWhole) (arg4 : Memref sig .tc .vmem S1x1x2048x512 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (hc0 : cond0_0 i)
    (x0 : Vec Ideal S2048x2048 .bf16) (x1 : Vec Ideal S1x1x2048x512 .f32) (x2 : Vec Ideal S1x1x2048x512 .f32) :
    sout0_A_1 c i arg2 harg2 arg3 harg3 arg4 harg4 arg5 harg5 arg6 harg6 arg7 harg7 hc0 x0 x1 x2 = k0_pay4 x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x1x2048x512) hz4]
  rfl

variable (m : (ℓ : Loc nD τ sig) → Buf (Elt Ideal) ℓ) (ρ : Dev nD → PrngReg)

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 0, 0, t.val / 8] :=
  (by decide +kernel : ∀ t : Fin grid0.N, win0_1.index t = ![0, 0, 0, t.val / 8])
theorem idx2 : ∀ t : Fin cfg0.N, win0_2.index t = ![0, 0, 0, 11 + t.val / 8] :=
  (by decide +kernel : ∀ t : Fin grid0.N, win0_2.index t = ![0, 0, 0, 11 + t.val / 8])
theorem idx3 : ∀ t : Fin cfg0.N, win0_3.index t = ![t.val % 8, t.val / 8] :=
  (by decide +kernel : ∀ t : Fin grid0.N, win0_3.index t = ![t.val % 8, t.val / 8])

/-- Column block `j` of the weights, as the scratch holds it: column `j * 512 + l` of the weight matrix, `j` counted over
    the matrix's 22 blocks. -/
def wcol (c : Dev nD) (j : Nat) (hj : j < 22) : Vec Ideal S2048x512 .bf16 := fun y =>
  m ((c : Thread nD τ).loc main_arg1) (ix4 (0 : Fin 2) (0 : Fin 2) (y 0) (⟨j * 512 + (y 1).val, by have := (y 1).isLt; have h : (y 1).val < 512 := this; omega⟩ : Fin 11264))

theorem wcol_congr (c : Dev nD) {j j' : Nat} (h : j = j') (hj : j < 22) (hj' : j' < 22) : wcol m c j hj = wcol m c j' hj' := by
  subst h; rfl

theorem N_eq : cfg0.N = 88 := N_0

/-- The first weight window's block at a point is the point's column block. -/
theorem iblk1 (c : Dev nD) (t : Fin cfg0.N) : k0_pay4 (F := Ideal) (iblk m c 1 t) = wcol m c (t.val / 8) (by have := t.isLt; have := N_eq; omega) := by
  funext y
  obtain ⟨k, l, rfl⟩ : ∃ k l, y = ix2 k l := ⟨y 0, y 1, eq_ix2 y⟩
  rw [wa_apply]
  unfold wcol
  blk_ext [iblk, V_main_arg1, idx1 t]

/-- The second weight window's block at a point is the column block of the second half. -/
theorem iblk2 (c : Dev nD) (t : Fin cfg0.N) : k0_pay4 (F := Ideal) (iblk m c 2 t) = wcol m c (11 + t.val / 8) (by have := t.isLt; have := N_eq; omega) := by
  funext y
  obtain ⟨k, l, rfl⟩ : ∃ k l, y = ix2 k l := ⟨y 0, y 1, eq_ix2 y⟩
  rw [wa_apply]
  unfold wcol
  blk_ext [iblk, V_main_arg1, idx2 t]

/-- After any point the two scratch buffers hold the point's two column blocks of the weights: stored at the column's
    first point and carried since. -/
theorem scratch_eq (c : Dev nD) : ∀ (n : Nat) (hn : n < cfg0.N),
    (outsAt0 m c n hn).2.1 = wcol m c (n / 8) (by have := N_eq; omega)
      ∧ (outsAt0 m c n hn).2.2 = wcol m c (11 + n / 8) (by have := N_eq; omega) := by
  intro n
  induction n with
  | zero =>
    intro hn
    have h := outsAt0_A m c ⟨0, hn⟩ rfl
    rw [show outsAt0 m c 0 hn = _ from h]
    dsimp only
    rw [sout_A_0, sout_A_1, iblk1, iblk2]
    exact ⟨rfl, rfl⟩
  | succ n ih =>
    intro hn
    by_cases h0 : (n + 1) % 8 = 0
    · rw [show outsAt0 m c (n + 1) hn = _ from outsAt0_A m c ⟨n + 1, hn⟩ h0]
      dsimp only
      rw [sout_A_0, sout_A_1, iblk1, iblk2]
      exact ⟨rfl, rfl⟩
    · rw [show outsAt0 m c (n + 1) hn = _ from outsAt0_B m c ⟨n + 1, hn⟩ h0]
      dsimp only
      have e : (n + 1) / 8 = n / 8 := by omega
      obtain ⟨i1, i2⟩ := ih (by omega)
      exact ⟨i1.trans (wcol_congr m c e.symm _ _), i2.trans (wcol_congr m c (by omega) _ _)⟩

/-- After any point the output's staging buffer holds the gated product of the point's row block and its two column
    blocks of the weights. -/
theorem outs_eq (c : Dev nD) (t : Fin cfg0.N) :
    (outsAt0 m c t.val t.isLt).1 = blockVal (iblk m c 0 t) (wcol m c (t.val / 8) (by have := t.isLt; have := N_eq; omega))
      (wcol m c (11 + t.val / 8) (by have := t.isLt; have := N_eq; omega)) := by
  by_cases h0 : t.val % 8 = 0
  · rw [outsAt0_A m c t h0]
    dsimp only
    rw [out_A, iblk1, iblk2]
  · rw [outsAt0_B m c t h0]
    dsimp only
    rw [out_B]
    have e : (t.val - 1) / 8 = t.val / 8 := by omega
    obtain ⟨i1, i2⟩ := scratch_eq m c (t.val - 1) (by have := t.isLt; omega)
    have := N_eq
    have := t.isLt
    rw [i1, i2, wcol_congr m c e _ (by omega), wcol_congr m c (show 11 + (t.val - 1) / 8 = 11 + t.val / 8 by omega) _ (by omega)]

/-- The result as a function of the two arguments: at row `r` and column `l`, the gate of the products of row `r` with
    columns `l` and `5632 + l` of the weights. -/
def upVal (h : S16384x2048.Idx → EReal) (w : S2x2x2048x11264.Idx → EReal) : S16384x5632.Idx → EReal := fun y =>
  gate (∑ k : Fin 2048, h (ix2 (y 0) k) * w (ix4 (0 : Fin 2) (0 : Fin 2) k (⟨(y 1).val, by have h : (y 1).val < 5632 := (y 1).isLt; omega⟩ : Fin 11264)))
    (∑ k : Fin 2048, h (ix2 (y 0) k) * w (ix4 (0 : Fin 2) (0 : Fin 2) k (⟨5632 + (y 1).val, by have h : (y 1).val < 5632 := (y 1).isLt; omega⟩ : Fin 11264)))

/-- The result array after the run. -/
theorem final (c : Dev nD) : (dats m 0 c).arrAt 3 cfg0.N
    = upVal (m ((c : Thread nD τ).loc main_arg0)) (m ((c : Thread nD τ).loc main_arg1)) := by
  refine (dats m 0 c).arrAt_eq_of_covers 3 _ (by decide +kernel) fun t hf y => ?_
  blk_simp
  rw [after0_3, outs_eq]
  obtain ⟨r, l, rfl⟩ : ∃ (r : Fin 2048) (l : Fin 512), y = ix2 r l := ⟨y 0, y 1, eq_ix2 y⟩
  unfold blockVal upVal wcol
  refine congrArg₂ gate (Finset.sum_congr rfl fun k _ => congrArg₂ (· * ·) ?_ ?_)
    (Finset.sum_congr rfl fun k _ => congrArg₂ (· * ·) ?_ ?_) <;> blk_ext [iblk, V_main_arg0, idx0 t, idx3 t]

end Cert.UpIdeal.Up

end
-- ==== Proof.Up.Ref.lean ====
/-
  The feed-forward up reference, read at an index: the gate of the two dot products.
-/
module

public import proofs.«01_k».proof.Proof.Gen.UpRefIdeal.Read
public import proofs.«01_k».proof.Proof.Up.Kernel

@[expose] public section

noncomputable section

namespace Cert.UpRefIdeal.Up

open Cert.UpRefIdeal Cert.UpRefIdeal.Gen Cert.UpRefIdeal.Read Idealize.ShloMosaic Idealize.ShloMosaic.TcCoe Idealize.SL.Sem
open Cert.UpIdeal.Up (gate upVal)

/-- The product of `h` with the weight matrix, at row `r` and column `q`. -/
theorem dot_apply (h : (⟨S16384x2048, .bf16⟩ : BufTy).Contents (Elt Ideal)) (w : (⟨S2x2x2048x11264, .f32⟩ : BufTy).Contents (Elt Ideal))
    (r : Fin 16384) (q : Fin 11264) :
    val_main_v3 (F := Ideal) h w (ix2 r q) = ∑ k : Fin 2048, h (ix2 r k) * w (ix4 (0 : Fin 2) (0 : Fin 2) k q) := by
  pointwise [val_main_v3, val_main_v2, val_main_v1, val_main_v0]

/-- The reference's result is the gated product of the two column halves. -/
theorem val_eq (h : (⟨S16384x2048, .bf16⟩ : BufTy).Contents (Elt Ideal)) (w : (⟨S2x2x2048x11264, .f32⟩ : BufTy).Contents (Elt Ideal)) :
    val_main_v8 (F := Ideal) h w = upVal h w := by
  funext y
  obtain ⟨r, l, rfl⟩ : ∃ (r : Fin 16384) (l : Fin 5632), y = ix2 r l := ⟨y 0, y 1, eq_ix2 y⟩
  have e1 : val_main_v4 (F := Ideal) h w (ix2 r l) = val_main_v3 (F := Ideal) h w (ix2 r ⟨l.val, by omega⟩) := by
    pointwise [val_main_v4]
  have e2 : val_main_v5 (F := Ideal) h w (ix2 r l) = val_main_v3 (F := Ideal) h w (ix2 r ⟨5632 + l.val, by omega⟩) := by
    pointwise [val_main_v5]
  have e : val_main_v8 (F := Ideal) h w (ix2 r l)
      = gate (val_main_v4 (F := Ideal) h w (ix2 r l)) (val_main_v5 (F := Ideal) h w (ix2 r l)) := by
    pointwise [val_main_v8, val_main_v7, val_main_v6, val_main_call0_v5, val_main_call0_v4, val_main_call0_cst_0, val_main_call0_v3,
      val_main_call0_v2, val_main_call0_cst, val_main_call0_v1, val_main_call0_v0, gate]
  rw [e, e1, e2, dot_apply, dot_apply]
  rfl

end Cert.UpRefIdeal.Up

end
-- ==== Proof.Up.Algebraic.lean ====
/-
  The feed-forward up call against its reference: the two runs side by side, both results the gated product of the arguments.
-/
module

public import proofs.«01_k».proof.Defs
public import proofs.«01_k».proof.Proof.Up.Kernel
public import proofs.«01_k».proof.Proof.Up.Ref
public import proofs.«01_k».proof.Proof.Gen.UpRefIdeal.Run

@[expose] public section

noncomputable section

namespace Cert.Proof.Up

open Idealize.ShloMosaic Idealize.ShloMosaic.TcCoe Idealize.SL.Sem

/-- From equal arguments, at the ideal semantics, the kernel's result equals the reference's. -/
theorem algebraic : Cert.algebraic_UpIdeal_UpRefIdeal (hUpIdeal := Cert.UpIdeal.Gen.facts)
    (hUpRefIdeal := Cert.UpRefIdeal.Gen.facts) := by
  intro m g m' g' _ hargs
  refine ⟨fun c => Cert.UpIdeal.Up.upVal (m ((c.tc : Thread _ _).loc Cert.UpIdeal.main_arg0))
    (m ((c.tc : Thread _ _).loc Cert.UpIdeal.main_arg1)), ?_, ?_⟩
  · refine (θ_run (Cert.UpIdeal.defs (F := Ideal)) _ _).mono (fun r h c => ?_) (Cert.UpIdeal.Value.run_blocks (F := Ideal) m g)
    obtain ⟨hv, h0, h1⟩ := h c
    exact ⟨hv.trans (Cert.UpIdeal.Up.final m c), h0, h1⟩
  · refine (θ_run (Cert.UpRefIdeal.defs (F := Ideal)) _ _).mono (fun r h c => ?_) (Cert.UpRefIdeal.Value.run (F := Ideal) m' g')
    obtain ⟨hv, h0, h1⟩ := h c
    refine ⟨hv.trans ?_, h0, h1⟩
    exact ((Cert.UpRefIdeal.Read.val_main_v8_eq _ _).trans (Cert.UpRefIdeal.Up.val_eq _ _)).trans
      (congrArg₂ Cert.UpIdeal.Up.upVal (hargs c).1 (hargs c).2)

/-- The reference terminates, keeps its arguments and leaves every semaphore counter at zero. -/
theorem frame_ref : Cert.quiescent_UpRefIdeal (hUpRefIdeal := Cert.UpRefIdeal.Gen.facts) := fun m g _ =>
  (θ_run (Cert.UpRefIdeal.defs (F := Ideal)) _ _).mono
    (fun r h => ⟨fun c => (h c).2, Idealize.ShloMosaic.sem_eq_zero_of_no_sems (by decide) r.2⟩)
    (Cert.UpRefIdeal.Value.run (F := Ideal) m g)

end Cert.Proof.Up

end
-- ==== Proof.Proj.Kernel.lean ====
/-
  The combined input projection, read as values: at any grid point the weight scratch holds the point's column block of the
  weights, each stored row tile is the product with it, and the result array after the run is the product of the two arguments
  over the first nine column blocks.
-/
module

public import proofs.«01_k».proof.Proof.Gen.ProjIdeal.Value
public import Idealize.ShloMosaic.Lib.Pointwise
public import Idealize.ShloMosaic.Lib.Pipeline.ValueKit
public import Idealize.ShloMosaic.Lib.Tactic

@[expose] public section

noncomputable section

namespace Cert.ProjIdeal.Proj

open Cert.ProjIdeal Cert.ProjIdeal.Gen Idealize.ShloMosaic Idealize.ShloMosaic.TcCoe Idealize.SL.Sem
open Idealize.ShloMosaic.Pipeline (Dat)

/-- One stored row tile, read at an index: a row of `h` times a column of the weights. -/
theorem tile_apply (h : Vec Ideal S256x2048 .bf16) (w : Vec Ideal S2048x1024 .bf16) (r : Fin 256) (l : Fin 1024) :
    k0_pay6 (F := Ideal) h w (ix2 r l) = ∑ k : Fin 2048, h (ix2 r k) * w (ix2 k l) := by
  pointwise [k0_pay6]

/-- A weight block as the body stores it in the scratch, read at an index. -/
theorem w_apply (x : Vec Ideal S1x2048x1024 .f32) (k : Fin 2048) (l : Fin 1024) :
    k0_pay5 (F := Ideal) x (ix2 k l) = x (ix3 0 k l) := by
  pointwise [k0_pay5]

/-- A whole block of the result: every row of the block of `h` times every column of the weight block. -/
def blockVal (x : Vec Ideal S2048x2048 .bf16) (w : Vec Ideal S2048x1024 .bf16) : Vec Ideal S2048x1024 .bf16 := fun y =>
  ∑ k : Fin 2048, x (ix2 (y 0) k) * w (ix2 k (y 1))

/-- The row tile at row offset `off` of a block of `h`, read at an index of the tile. -/
theorem tile_ld (x : Vec Ideal S2048x2048 .bf16) (w : Vec Ideal S2048x1024 .bf16) (off : Nat)
    (inb : ∀ a, (![off, 0] : Fin 2 → Nat) a + S256x2048.size a ≤ S2048x2048.size a)
    (inb' : ∀ a, (![off, 0] : Fin 2 → Nat) a + S256x1024.size a ≤ S2048x1024.size a) (y : S256x1024.Idx) :
    k0_pay6 (F := Ideal) (View.ld x (Rect.unit (s := S2048x2048) ![off, 0] S256x2048.size inb)) w y
      = blockVal x w ((Rect.unit (s := S2048x1024) ![off, 0] S256x1024.size inb').emb y) := by
  obtain ⟨r, l, rfl⟩ : ∃ r l, y = ix2 r l := ⟨y 0, y 1, eq_ix2 y⟩
  rw [tile_apply]
  have hl : ((Rect.unit (s := S2048x1024) ![off, 0] S256x1024.size inb').emb (ix2 r l)) 1 = l :=
    Fin.ext (by simp [Rect.emb_apply])
  have hr : ∀ k : Fin 2048, View.ld x (Rect.unit (s := S2048x2048) ![off, 0] S256x2048.size inb) (ix2 r k)
      = x (ix2 (((Rect.unit (s := S2048x1024) ![off, 0] S256x1024.size inb').emb (ix2 r l)) 0) k) := fun k =>
    View.ld_unit_apply_of x _ _ inb _ _ (fun a => by
      match a with
      | ⟨0, _⟩ => simp [Rect.emb_apply]
      | ⟨1, _⟩ => simp)
  simp only [blockVal, hr, hl]

theorem hz2 : (![0, 0] : Fin 2 → Nat) = fun _ => 0 := funext fun a => by fin_cases a <;> rfl
theorem hz3 : (![0, 0, 0] : Fin 3 → Nat) = fun _ => 0 := funext fun a => by fin_cases a <;> rfl

/-- One row tile at row offset `off`, as the body stores it. -/
abbrev tile (x : Vec Ideal S2048x2048 .bf16) (w : Vec Ideal S2048x1024 .bf16) (off : Nat)
    (inb : ∀ a, (![off, 0] : Fin 2 → Nat) a + S256x2048.size a ≤ S2048x2048.size a)
    (inb' : ∀ a, (![off, 0] : Fin 2 → Nat) a + S256x1024.size a ≤ S2048x1024.size a) : View.Piece (Elt Ideal) S2048x1024 .bf16 :=
  ⟨Rect.unit (s := S2048x1024) ![off, 0] S256x1024.size inb', k0_pay6 (F := Ideal) (View.ld x (Rect.unit (s := S2048x2048) ![off, 0] S256x2048.size inb)) w⟩

/-- The body's eight row tiles, last first. -/
abbrev tiles (x : Vec Ideal S2048x2048 .bf16) (w : Vec Ideal S2048x1024 .bf16) : List (View.Piece (Elt Ideal) S2048x1024 .bf16) :=
  [tile x w 1792 (by decide) (by decide), tile x w 1536 (by decide) (by decide), tile x w 1280 (by decide) (by decide), tile x w 1024 (by decide) (by decide), tile x w 768 (by decide) (by decide), tile x w 512 (by decide) (by decide), tile x w 256 (by decide) (by decide), tile x w 0 (by decide) (by decide)]

/-- Every one of a block's eight row tiles is the block's product restricted to its rows. -/
theorem tiles_forall (x : Vec Ideal S2048x2048 .bf16) (w : Vec Ideal S2048x1024 .bf16) :
    ∀ p ∈ tiles x w, ∀ y : p.1.shape.Idx, p.2 y = blockVal x w (p.1.emb y) := by
  simp only [tiles, List.forall_mem_cons]
  exact ⟨tile_ld x w 1792 _ _, tile_ld x w 1536 _ _, tile_ld x w 1280 _ _, tile_ld x w 1024 _ _, tile_ld x w 768 _ _, tile_ld x w 512 _ _, tile_ld x w 256 _ _, tile_ld x w 0 _ _, fun p hp => absurd hp List.not_mem_nil⟩

/-- At a point that reads the carried weights (every point but the first of a column), the block it leaves is the product with
    the scratch. -/
theorem out_B (c : Dev nD) (i : grid0.Coords) (arg2 : Memref sig .tc .vmem S2048x2048 .bf16) (harg2 : arg2.IsWhole) (arg3 : Memref sig .tc .vmem S1x2048x1024 .f32) (harg3 : arg3.IsWhole)
    (arg4 : Memref sig .tc .vmem S2048x1024 .bf16) (harg4 : arg4.IsWhole) (arg5 : Memref sig .tc .vmem S2048x1024 .bf16) (harg5 : arg5.IsWhole) (hc0 : ¬cond0_0 i)
    (x0 : Vec Ideal S2048x2048 .bf16) (x1 : Vec Ideal S1x2048x1024 .f32) (xs0 : Vec Ideal S2048x1024 .bf16) :
    out0_B_2 c i arg2 harg2 arg3 harg3 arg4 harg4 arg5 harg5 hc0 x0 x1 xs0 = blockVal x0 xs0 := by
  unfold out0_B_2
  rw [View.read_writes_eq_canon _ _ _ (cover0_B_2 c i arg2 harg2 arg3 harg3 arg4 harg4 arg5 harg5 hc0 x0 x1 xs0)]
  funext y
  have hcov := cover0_B_2 c i arg2 harg2 arg3 harg3 arg4 harg4 arg5 harg5 hc0 x0 x1 xs0 y
  refine View.canon_apply_of_pieces (blockVal x0 xs0) _ ?_ y hcov
  unfold kernelRun0_B
  dsimp only
  sl_unfold_words
  simp only [View.readAt_eq_ld, harg2.read_unread, harg5.read_unread, View.ld_unit_zero (S := S2048x1024) hz2]
  exact tiles_forall x0 xs0

/-- At the first point of a column the block it leaves is the product with the weight block, stored first in the scratch and
    read back. -/
theorem out_A (c : Dev nD) (i : grid0.Coords) (arg2 : Memref sig .tc .vmem S2048x2048 .bf16) (harg2 : arg2.IsWhole) (arg3 : Memref sig .tc .vmem S1x2048x1024 .f32) (harg3 : arg3.IsWhole)
    (arg4 : Memref sig .tc .vmem S2048x1024 .bf16) (harg4 : arg4.IsWhole) (arg5 : Memref sig .tc .vmem S2048x1024 .bf16) (harg5 : arg5.IsWhole) (hc0 : cond0_0 i)
    (x0 : Vec Ideal S2048x2048 .bf16) (x1 : Vec Ideal S1x2048x1024 .f32) :
    out0_A_2 c i arg2 harg2 arg3 harg3 arg4 harg4 arg5 harg5 hc0 x0 x1 = blockVal x0 (k0_pay5 x1) := by
  unfold out0_A_2
  rw [View.read_writes_eq_canon _ _ _ (cover0_A_2 c i arg2 harg2 arg3 harg3 arg4 harg4 arg5 harg5 hc0 x0 x1)]
  funext y
  have hcov := cover0_A_2 c i arg2 harg2 arg3 harg3 arg4 harg4 arg5 harg5 hc0 x0 x1 y
  refine View.canon_apply_of_pieces (blockVal x0 (k0_pay5 x1)) _ ?_ y hcov
  unfold kernelRun0_A
  dsimp only
  sl_unfold_words
  simp only [View.readAt_eq_ld, harg2.read_unread, harg3.read_unread, View.readCov_unit_zero (S := S2048x1024) _ hz2,
    View.ld_unit_zero (S := S1x2048x1024) hz3]
  exact tiles_forall x0 (k0_pay5 x1)

/-- What the first point of a column leaves in the scratch: the weight block. -/
theorem sout_A (c : Dev nD) (i : grid0.Coords) (arg2 : Memref sig .tc .vmem S2048x2048 .bf16) (harg2 : arg2.IsWhole) (arg3 : Memref sig .tc .vmem S1x2048x1024 .f32) (harg3 : arg3.IsWhole)
    (arg4 : Memref sig .tc .vmem S2048x1024 .bf16) (harg4 : arg4.IsWhole) (arg5 : Memref sig .tc .vmem S2048x1024 .bf16) (harg5 : arg5.IsWhole) (hc0 : cond0_0 i)
    (x0 : Vec Ideal S2048x2048 .bf16) (x1 : Vec Ideal S1x2048x1024 .f32) :
    sout0_A_0 c i arg2 harg2 arg3 harg3 arg4 harg4 arg5 harg5 hc0 x0 x1 = k0_pay5 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz2]
  simp only [View.readAt_eq_ld, harg3.read_unread, View.ld_unit_zero (S := S1x2048x1024) hz3]

variable (m : (ℓ : Loc nD τ sig) → Buf (Elt Ideal) ℓ) (ρ : Dev nD → PrngReg)

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 0, t.val / 8] :=
  (by decide +kernel : ∀ t : Fin grid0.N, win0_1.index t = ![0, 0, t.val / 8])
theorem idx2 : ∀ t : Fin cfg0.N, win0_2.index t = ![t.val % 8, t.val / 8] :=
  (by decide +kernel : ∀ t : Fin grid0.N, win0_2.index t = ![t.val % 8, t.val / 8])

theorem N_eq : cfg0.N = 72 := N_0

/-- Column block `j` of the weights, as the scratch holds it. -/
def wcol (c : Dev nD) (j : Nat) (hj : j < 9) : Vec Ideal S2048x1024 .bf16 := fun y =>
  m ((c : Thread nD τ).loc main_arg1) (ix3 (0 : Fin 2) (y 0) (⟨j * 1024 + (y 1).val, by have h : (y 1).val < 1024 := (y 1).isLt; omega⟩ : Fin 17408))

theorem wcol_congr (c : Dev nD) {j j' : Nat} (h : j = j') (hj : j < 9) (hj' : j' < 9) : wcol m c j hj = wcol m c j' hj' := by
  subst h; rfl

/-- The weight window's block at a point is the point's column block. -/
theorem iblk1 (c : Dev nD) (t : Fin cfg0.N) :
    k0_pay5 (F := Ideal) (iblk m c 1 t) = wcol m c (t.val / 8) (by have := t.isLt; have := N_eq; omega) := by
  funext y
  obtain ⟨k, l, rfl⟩ : ∃ k l, y = ix2 k l := ⟨y 0, y 1, eq_ix2 y⟩
  rw [w_apply]
  unfold wcol
  blk_ext [iblk, V_main_arg1, idx1 t]

/-- After any point the scratch holds the point's column block of the weights: stored at the column's first point and carried
    since. -/
theorem scratch_eq (c : Dev nD) : ∀ (n : Nat) (hn : n < cfg0.N),
    (outsAt0 m c n hn).2 = wcol m c (n / 8) (by have := N_eq; omega) := by
  intro n
  induction n with
  | zero =>
    intro hn
    rw [show outsAt0 m c 0 hn = _ from outsAt0_A m c ⟨0, hn⟩ rfl]
    dsimp only
    rw [sout_A, iblk1]
  | succ n ih =>
    intro hn
    by_cases h0 : (n + 1) % 8 = 0
    · rw [show outsAt0 m c (n + 1) hn = _ from outsAt0_A m c ⟨n + 1, hn⟩ h0]
      dsimp only
      rw [sout_A, iblk1]
    · rw [show outsAt0 m c (n + 1) hn = _ from outsAt0_B m c ⟨n + 1, hn⟩ h0]
      dsimp only
      exact (ih (by omega)).trans (wcol_congr m c (by omega) _ _)

/-- After any point the output's staging buffer holds the product of the point's row block and its column block. -/
theorem outs_eq (c : Dev nD) (t : Fin cfg0.N) :
    (outsAt0 m c t.val t.isLt).1 = blockVal (iblk m c 0 t) (wcol m c (t.val / 8) (by have := t.isLt; have := N_eq; omega)) := by
  by_cases h0 : t.val % 8 = 0
  · rw [outsAt0_A m c t h0]
    dsimp only
    rw [out_A, iblk1]
  · rw [outsAt0_B m c t h0]
    dsimp only
    have := N_eq
    have := t.isLt
    rw [out_B, scratch_eq m c (t.val - 1) (by omega), wcol_congr m c (show (t.val - 1) / 8 = t.val / 8 by omega) _ (by omega)]

/-- The result as a function of the two arguments: row `r` of `h` times column `l` of the weights. -/
def projVal (h : S16384x2048.Idx → EReal) (w : S2x2048x17408.Idx → EReal) : S16384x9216.Idx → EReal := fun y =>
  ∑ k : Fin 2048, h (ix2 (y 0) k) * w (ix3 (0 : Fin 2) k (⟨(y 1).val, by have h : (y 1).val < 9216 := (y 1).isLt; omega⟩ : Fin 17408))

theorem sum_ext {f g : Fin 2048 → EReal} (h : ∀ k, f k = g k) : ∑ k, f k = ∑ k, g k := Finset.sum_congr rfl fun k _ => h k

/-- The result array after the run. -/
theorem final (c : Dev nD) : (dats m 0 c).arrAt 2 cfg0.N
    = projVal (m ((c : Thread nD τ).loc main_arg0)) (m ((c : Thread nD τ).loc main_arg1)) := by
  refine (dats m 0 c).arrAt_eq_of_covers 2 _ (by decide +kernel) fun t hf y => ?_
  blk_simp
  rw [after0_2, outs_eq]
  obtain ⟨r, l, rfl⟩ : ∃ (r : Fin 2048) (l : Fin 1024), y = ix2 r l := ⟨y 0, y 1, eq_ix2 y⟩
  unfold blockVal projVal wcol
  refine sum_ext fun k => congrArg₂ (· * ·) ?_ ?_ <;> blk_ext [iblk, V_main_arg0, idx0 t, idx2 t]

end Cert.ProjIdeal.Proj

end
-- ==== Proof.Proj.Ref.lean ====
/-
  The combined input projection's reference, read at an index.
-/
module

public import proofs.«01_k».proof.Proof.Gen.ProjRefIdeal.Read
public import proofs.«01_k».proof.Proof.Proj.Kernel

@[expose] public section

noncomputable section

namespace Cert.ProjRefIdeal.Proj

open Cert.ProjRefIdeal Cert.ProjRefIdeal.Gen Cert.ProjRefIdeal.Read Idealize.ShloMosaic Idealize.ShloMosaic.TcCoe Idealize.SL.Sem
open Cert.ProjIdeal.Proj (projVal)

/-- The reference's result is the product of the arguments over the first nine column blocks. -/
theorem val_eq (h : (⟨S16384x2048, .bf16⟩ : BufTy).Contents (Elt Ideal)) (w : (⟨S2x2048x17408, .f32⟩ : BufTy).Contents (Elt Ideal)) :
    val_main_v5 (F := Ideal) h w = projVal h w := by
  funext y
  obtain ⟨r, l, rfl⟩ : ∃ (r : Fin 16384) (l : Fin 9216), y = ix2 r l := ⟨y 0, y 1, eq_ix2 y⟩
  unfold projVal
  pointwise [val_main_v5, val_main_v4, val_main_v3, val_main_v2, val_main_v1, val_main_v0]

end Cert.ProjRefIdeal.Proj

end
-- ==== Proof.Proj.Algebraic.lean ====
/-
  The combined input projection against its reference: the two runs side by side, both results the product of the arguments.
-/
module

public import proofs.«01_k».proof.Defs
public import proofs.«01_k».proof.Proof.Proj.Kernel
public import proofs.«01_k».proof.Proof.Proj.Ref
public import proofs.«01_k».proof.Proof.Gen.ProjRefIdeal.Run

@[expose] public section

noncomputable section

namespace Cert.Proof.Proj

open Idealize.ShloMosaic Idealize.ShloMosaic.TcCoe Idealize.SL.Sem

/-- From equal arguments, at the ideal semantics, the kernel's result equals the reference's. -/
theorem algebraic : Cert.algebraic_ProjIdeal_ProjRefIdeal (hProjIdeal := Cert.ProjIdeal.Gen.facts)
    (hProjRefIdeal := Cert.ProjRefIdeal.Gen.facts) := by
  intro m g m' g' _ hargs
  refine ⟨fun c => Cert.ProjIdeal.Proj.projVal (m ((c.tc : Thread _ _).loc Cert.ProjIdeal.main_arg0))
    (m ((c.tc : Thread _ _).loc Cert.ProjIdeal.main_arg1)), ?_, ?_⟩
  · refine (θ_run (Cert.ProjIdeal.defs (F := Ideal)) _ _).mono (fun r h c => ?_) (Cert.ProjIdeal.Value.run_blocks (F := Ideal) m g)
    obtain ⟨hv, h0, h1⟩ := h c
    exact ⟨hv.trans (Cert.ProjIdeal.Proj.final m c), h0, h1⟩
  · refine (θ_run (Cert.ProjRefIdeal.defs (F := Ideal)) _ _).mono (fun r h c => ?_) (Cert.ProjRefIdeal.Value.run (F := Ideal) m' g')
    obtain ⟨hv, h0, h1⟩ := h c
    refine ⟨hv.trans ?_, h0, h1⟩
    exact ((Cert.ProjRefIdeal.Read.val_main_v5_eq _ _).trans (Cert.ProjRefIdeal.Proj.val_eq _ _)).trans
      (congrArg₂ Cert.ProjIdeal.Proj.projVal (hargs c).1 (hargs c).2)

/-- The reference terminates, keeps its arguments and leaves every semaphore counter at zero. -/
theorem frame_ref : Cert.quiescent_ProjRefIdeal (hProjRefIdeal := Cert.ProjRefIdeal.Gen.facts) := fun m g _ =>
  (θ_run (Cert.ProjRefIdeal.defs (F := Ideal)) _ _).mono
    (fun r h => ⟨fun c => (h c).2, Idealize.ShloMosaic.sem_eq_zero_of_no_sems (by decide) r.2⟩)
    (Cert.ProjRefIdeal.Value.run (F := Ideal) m g)

end Cert.Proof.Proj

end
-- ==== Proof.Cache.Kernel.lean ====
/-
  The projection into the cache, read as values: at any grid point the weight scratch holds the key columns of the last layer's
  weights, the stored block is the product with them, and the result array after the run is that product in the last layer's
  place and the previous cache in the other's.
-/
module

public import proofs.«01_k».proof.Proof.Gen.CacheIdeal.Value
public import Idealize.ShloMosaic.Lib.Pointwise
public import Idealize.ShloMosaic.Lib.Pipeline.ValueKit
public import Idealize.ShloMosaic.Lib.Tactic

@[expose] public section

noncomputable section

namespace Cert.CacheIdeal.Cache

open Cert.CacheIdeal Cert.CacheIdeal.Gen Idealize.ShloMosaic Idealize.ShloMosaic.TcCoe Idealize.SL.Sem
open Idealize.ShloMosaic.Pipeline (Dat)

/-- The stored block: at a sequence, a position and a lane, that row of `h` times that column of the weights. -/
def blockVal (x : Vec Ideal S512x2048 .bf16) (w : Vec Ideal S2048x1024 .bf16) : Vec Ideal S2x1x256x1024 .f32 := fun y =>
  ∑ k : Fin 2048, x (ix2 (⟨(y 0).val * 256 + (y 2).val, by
    have h0 : (y 0).val < 2 := (y 0).isLt
    have h2 : (y 2).val < 256 := (y 2).isLt
    omega⟩ : Fin 512) k) * w (ix2 k (y 3))

/-- The body's payload is the stored block. -/
theorem pay_eq (h : Vec Ideal S512x2048 .bf16) (w : Vec Ideal S2048x1024 .bf16) : k0_pay2 (F := Ideal) h w = blockVal h w := by
  funext y
  obtain ⟨a, b, r, l, rfl⟩ : ∃ (a : Fin 2) (b : Fin 1) (r : Fin 256) (l : Fin 1024), y = ix4 a b r l := ⟨y 0, y 1, y 2, y 3, eq_ix4 y⟩
  obtain rfl : b = 0 := Subsingleton.elim _ _
  unfold blockVal
  pointwise [k0_pay2]

/-- A weight block as the body stores it in the scratch, read at an index. -/
theorem w_apply (x : Vec Ideal S1x2048x1024 .f32) (k : Fin 2048) (l : Fin 1024) :
    k0_pay1 (F := Ideal) x (ix2 k l) = x (ix3 0 k l) := by
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At every point but the first, the block it leaves is the product with the carried scratch. -/
theorem out_B (c : Dev nD) (i : grid0.Coords) (arg1 : Memref sig .tc .vmem S512x2048 .bf16) (harg1 : arg1.IsWhole) (arg2 : Memref sig .tc .vmem S1x2048x1024 .f32) (harg2 : arg2.IsWhole)
    (arg4 : Memref sig .tc .vmem S2x1x256x1024 .f32) (harg4 : arg4.IsWhole) (arg5 : Memref sig .tc .vmem S2048x1024 .bf16) (harg5 : arg5.IsWhole) (hc0 : ¬cond0_0 i)
    (x0 : Vec Ideal S512x2048 .bf16) (x1 : Vec Ideal S1x2048x1024 .f32) (xs0 : Vec Ideal S2048x1024 .bf16) :
    out0_B_2 c i arg1 harg1 arg2 harg2 arg4 harg4 arg5 harg5 hc0 x0 x1 xs0 = blockVal x0 xs0 := by
  unfold out0_B_2
  rw [View.read_writes_eq_canon _ _ _ (cover0_B_2 c i arg1 harg1 arg2 harg2 arg4 harg4 arg5 harg5 hc0 x0 x1 xs0)]
  unfold kernelRun0_B
  dsimp only
  sl_unfold_words
  rw [View.canon_unit_zero hz4]
  simp only [View.readAt_eq_ld, harg1.read_unread, harg5.read_unread, View.ld_unit_zero (S := S2048x1024) hz2,
    View.ld_unit_zero (S := S512x2048) hz2]
  exact pay_eq _ _

/-- At the first point the block it leaves is the product with the weight block, stored first in the scratch and read back. -/
theorem out_A (c : Dev nD) (i : grid0.Coords) (arg1 : Memref sig .tc .vmem S512x2048 .bf16) (harg1 : arg1.IsWhole) (arg2 : Memref sig .tc .vmem S1x2048x1024 .f32) (harg2 : arg2.IsWhole)
    (arg4 : Memref sig .tc .vmem S2x1x256x1024 .f32) (harg4 : arg4.IsWhole) (arg5 : Memref sig .tc .vmem S2048x1024 .bf16) (harg5 : arg5.IsWhole) (hc0 : cond0_0 i)
    (x0 : Vec Ideal S512x2048 .bf16) (x1 : Vec Ideal S1x2048x1024 .f32) :
    out0_A_2 c i arg1 harg1 arg2 harg2 arg4 harg4 arg5 harg5 hc0 x0 x1 = blockVal x0 (k0_pay1 x1) := by
  unfold out0_A_2
  rw [View.read_writes_eq_canon _ _ _ (cover0_A_2 c i arg1 harg1 arg2 harg2 arg4 harg4 arg5 harg5 hc0 x0 x1)]
  unfold kernelRun0_A
  dsimp only
  sl_unfold_words
  rw [View.canon_unit_zero hz4]
  simp only [View.readAt_eq_ld, harg1.read_unread, harg2.read_unread, View.readCov_unit_zero (S := S2048x1024) _ hz2,
    View.ld_unit_zero (S := S512x2048) hz2, View.ld_unit_zero (S := S1x2048x1024) hz3]
  exact pay_eq _ _

/-- What the first point leaves in the scratch: the weight block. -/
theorem sout_A (c : Dev nD) (i : grid0.Coords) (arg1 : Memref sig .tc .vmem S512x2048 .bf16) (harg1 : arg1.IsWhole) (arg2 : Memref sig .tc .vmem S1x2048x1024 .f32) (harg2 : arg2.IsWhole)
    (arg4 : Memref sig .tc .vmem S2x1x256x1024 .f32) (harg4 : arg4.IsWhole) (arg5 : Memref sig .tc .vmem S2048x1024 .bf16) (harg5 : arg5.IsWhole) (hc0 : cond0_0 i)
    (x0 : Vec Ideal S512x2048 .bf16) (x1 : Vec Ideal S1x2048x1024 .f32) :
    sout0_A_0 c i arg1 harg1 arg2 harg2 arg4 harg4 arg5 harg5 hc0 x0 x1 = k0_pay1 x1 := by
  unfold sout0_A_0
  rw [View.read_writes_eq_canon _ _ _ (scover0_A_0 c i arg1 harg1 arg2 harg2 arg4 harg4 arg5 harg5 hc0 x0 x1)]
  unfold kernelRun0_A
  dsimp only
  sl_unfold_words
  rw [View.canon_unit_zero hz2]
  simp only [View.readAt_eq_ld, harg2.read_unread, View.ld_unit_zero (S := S1x2048x1024) hz3]

variable (m : (ℓ : Loc nD τ sig) → Buf (Elt Ideal) ℓ) (ρ : Dev nD → PrngReg)

theorem idx0 : ∀ t : Fin cfg0.N, win0_0.index t = ![t.val, 0] :=
  (by decide +kernel : ∀ t : Fin grid0.N, win0_0.index t = ![t.val, 0])
theorem idx1 : ∀ t : Fin cfg0.N, win0_1.index t = ![1, 0, 9] :=
  (by decide +kernel : ∀ t : Fin grid0.N, win0_1.index t = ![1, 0, 9])
theorem idx2 : ∀ t : Fin cfg0.N, win0_2.index t = ![t.val, 1, 0, 0] :=
  (by decide +kernel : ∀ t : Fin grid0.N, win0_2.index t = ![t.val, 1, 0, 0])

theorem N_eq : cfg0.N = 16 := N_0

/-- The key columns of the last layer's weights, as the scratch holds them. -/
def wcol (c : Dev nD) : Vec Ideal S2048x1024 .bf16 := fun y =>
  m ((c : Thread nD τ).loc main_arg1) (ix3 (1 : Fin 2) (y 0) (⟨9216 + (y 1).val, by have h : (y 1).val < 1024 := (y 1).isLt; omega⟩ : Fin 17408))

/-- The weight window's block is the key columns. -/
theorem iblk1 (c : Dev nD) (t : Fin cfg0.N) : k0_pay1 (F := Ideal) (iblk m c 1 t) = wcol m c := by
  funext y
  obtain ⟨k, l, rfl⟩ : ∃ k l, y = ix2 k l := ⟨y 0, y 1, eq_ix2 y⟩
  rw [w_apply]
  unfold wcol
  blk_ext [iblk, V_main_arg1, idx1 t]

/-- After any point the scratch holds the key columns: stored at the first point and carried since. -/
theorem scratch_eq (c : Dev nD) : ∀ (n : Nat) (hn : n < cfg0.N), (outsAt0 m c n hn).2 = wcol m c := by
  intro n
  induction n with
  | zero =>
    intro hn
    rw [show outsAt0 m c 0 hn = _ from outsAt0_A m c ⟨0, hn⟩ rfl]
    dsimp only
    rw [sout_A, iblk1]
  | succ n ih =>
    intro hn
    have := N_eq
    rw [show outsAt0 m c (n + 1) hn = _ from outsAt0_B m c ⟨n + 1, hn⟩ (by dsimp only; omega)]
    dsimp only
    exact ih (by omega)

/-- After any point the output's staging buffer holds the product of the point's rows and the key columns. -/
theorem outs_eq (c : Dev nD) (t : Fin cfg0.N) : (outsAt0 m c t.val t.isLt).1 = blockVal (iblk m c 0 t) (wcol m c) := by
  by_cases h0 : t.val % 16 = 0
  · rw [outsAt0_A m c t h0]
    dsimp only
    rw [out_A, iblk1]
  · rw [outsAt0_B m c t h0]
    dsimp only
    have := t.isLt
    rw [out_B, scratch_eq m c (t.val - 1) (by omega)]

/-- The new keys: row `256 s + p` of `h` times the key columns of the last layer's weights. -/
def keyVal (h : S16384x2048.Idx → EReal) (w : S2x2048x17408.Idx → EReal) : S32x2x256x1024.Idx → EReal := fun y =>
  ∑ k : Fin 2048, h (ix2 (⟨(y 0).val * 256 + (y 2).val, by
    have h0 : (y 0).val < 32 := (y 0).isLt
    have h2 : (y 2).val < 256 := (y 2).isLt
    omega⟩ : Fin 16384) k) * w (ix3 (1 : Fin 2) k (⟨9216 + (y 3).val, by have h : (y 3).val < 1024 := (y 3).isLt; omega⟩ : Fin 17408))

/-- The result as a function of the three arguments: the new keys in the last layer's place, the previous cache elsewhere. -/
def cacheVal (h : S16384x2048.Idx → EReal) (w : S2x2048x17408.Idx → EReal) (p : S32x2x256x1024.Idx → EReal) :
    S32x2x256x1024.Idx → EReal := fun y => if (y 1).val / 1 = 1 then keyVal h w y else p y

theorem sum_ext {f g : Fin 2048 → EReal} (h : ∀ k, f k = g k) : ∑ k, f k = ∑ k, g k := Finset.sum_congr rfl fun k _ => h k

/-- The result buffer is entered holding the previous cache. -/
theorem V_prev (c : Dev nD) : V m c main_v0 = m ((c : Thread nD τ).loc main_arg2) := by
  entry_read
  rfl

/-- The result array after the run. -/
theorem final (c : Dev nD) : (dats m 0 c).arrAt 2 cfg0.N
    = cacheVal (m ((c : Thread nD τ).loc main_arg0)) (m ((c : Thread nD τ).loc main_arg1)) (m ((c : Thread nD τ).loc main_arg2)) := by
  refine ((dats m 0 c).arrAt_eq_of_coversWhere 2 (keyVal (m ((c : Thread nD τ).loc main_arg0)) (m ((c : Thread nD τ).loc main_arg1)))
    (P := fun i => (i 1).val / 1 = 1) (fun β => β (1 : Fin 4) = 1) (by decide +kernel) (fun t hf y => ?_) (fun j => Iff.rfl)).trans ?_
  · blk_simp
    rw [after0_2, outs_eq]
    obtain ⟨a, b, r, l, rfl⟩ : ∃ (a : Fin 2) (b : Fin 1) (r : Fin 256) (l : Fin 1024), y = ix4 a b r l := ⟨y 0, y 1, y 2, y 3, eq_ix4 y⟩
    unfold blockVal keyVal wcol
    refine sum_ext fun k => congrArg₂ (· * ·) ?_ ?_ <;> blk_ext [iblk, V_main_arg0, idx0 t, idx2 t]
  · funext y
    refine if_congr Iff.rfl rfl ?_
    exact congrFun ((A_eq m c 2).trans (V_prev m c)) y

end Cert.CacheIdeal.Cache

end
-- ==== Proof.Cache.Ref.lean ====
/-
  The cache projection's reference, read at an index.
-/
module

public import proofs.«01_k».proof.Proof.Gen.CacheRefIdeal.Read
public import proofs.«01_k».proof.Proof.Cache.Kernel

@[expose] public section

noncomputable section

namespace Cert.CacheRefIdeal.Cache

open Cert.CacheRefIdeal Cert.CacheRefIdeal.Gen Cert.CacheRefIdeal.Read Idealize.ShloMosaic Idealize.ShloMosaic.TcCoe Idealize.SL.Sem
open Cert.CacheIdeal.Cache (cacheVal keyVal)

/-- The reference's result is the previous cache in the first layer's place and the new keys in the last layer's. -/
theorem val_eq (h : (⟨S16384x2048, .bf16⟩ : BufTy).Contents (Elt Ideal)) (w : (⟨S2x2048x17408, .f32⟩ : BufTy).Contents (Elt Ideal))
    (p : (⟨S32x2x256x1024, .f32⟩ : BufTy).Contents (Elt Ideal)) :
    val_main_v11 (F := Ideal) h w p = cacheVal h w p := by
  funext y
  obtain ⟨s, lay, r, l, rfl⟩ : ∃ (s : Fin 32) (lay : Fin 2) (r : Fin 256) (l : Fin 1024), y = ix4 s lay r l := ⟨y 0, y 1, y 2, y 3, eq_ix4 y⟩
  unfold cacheVal keyVal
  rcases (by revert lay; decide : lay = 0 ∨ lay = 1) with rfl | rfl
  · refine Eq.trans ?_ (if_neg (show ¬((0 : Fin 2).val / 1 = 1) by decide)).symm
    pointwise [val_main_v11, val_main_v9, val_main_v7, val_main_v6]
  · refine Eq.trans ?_ (if_pos (show (1 : Fin 2).val / 1 = 1 by decide)).symm
    pointwise [val_main_v11, val_main_v10, val_main_v8, val_main_v5, val_main_v4, val_main_v3, val_main_v2, val_main_v1, val_main_v0]

end Cert.CacheRefIdeal.Cache

end
-- ==== Proof.Cache.Algebraic.lean ====
/-
  The projection into the cache against its reference: the two runs side by side, both results the same function of the arguments.
-/
module

public import proofs.«01_k».proof.Defs
public import proofs.«01_k».proof.Proof.Cache.Kernel
public import proofs.«01_k».proof.Proof.Cache.Ref
public import proofs.«01_k».proof.Proof.Gen.CacheRefIdeal.Run

@[expose] public section

noncomputable section

namespace Cert.Proof.Cache

open Idealize.ShloMosaic Idealize.ShloMosaic.TcCoe Idealize.SL.Sem

/-- From equal arguments, at the ideal semantics, the kernel's result equals the reference's. -/
theorem algebraic : Cert.algebraic_CacheIdeal_CacheRefIdeal (hCacheIdeal := Cert.CacheIdeal.Gen.facts)
    (hCacheRefIdeal := Cert.CacheRefIdeal.Gen.facts) := by
  intro m g m' g' _ hargs
  refine ⟨fun c => Cert.CacheIdeal.Cache.cacheVal (m ((c.tc : Thread _ _).loc Cert.CacheIdeal.main_arg0))
    (m ((c.tc : Thread _ _).loc Cert.CacheIdeal.main_arg1)) (m ((c.tc : Thread _ _).loc Cert.CacheIdeal.main_arg2)), ?_, ?_⟩
  · refine (θ_run (Cert.CacheIdeal.defs (F := Ideal)) _ _).mono (fun r h c => ?_) (Cert.CacheIdeal.Value.run_blocks (F := Ideal) m g)
    obtain ⟨hv, h0, h1, h2⟩ := h c
    exact ⟨hv.trans (Cert.CacheIdeal.Cache.final m c), h0, h1, h2⟩
  · refine (θ_run (Cert.CacheRefIdeal.defs (F := Ideal)) _ _).mono (fun r h c => ?_) (Cert.CacheRefIdeal.Value.run (F := Ideal) m' g')
    obtain ⟨hv, h0, h1, h2⟩ := h c
    refine ⟨hv.trans ?_, h0, h1, h2⟩
    refine ((Cert.CacheRefIdeal.Read.val_main_v11_eq _ _ _).trans (Cert.CacheRefIdeal.Cache.val_eq _ _ _)).trans ?_
    rw [(hargs c).1, (hargs c).2.1, (hargs c).2.2]

/-- The reference terminates, keeps its arguments and leaves every semaphore counter at zero. -/
theorem frame_ref : Cert.quiescent_CacheRefIdeal (hCacheRefIdeal := Cert.CacheRefIdeal.Gen.facts) := fun m g _ =>
  (θ_run (Cert.CacheRefIdeal.defs (F := Ideal)) _ _).mono
    (fun r h => ⟨fun c => (h c).2, Idealize.ShloMosaic.sem_eq_zero_of_no_sems (by decide) r.2⟩)
    (Cert.CacheRefIdeal.Value.run (F := Ideal) m g)

end Cert.Proof.Cache

end
-- ==== Proof.Down.Cells.lean ====
module

public import proofs.«01_k».proof.Proof.Gen.DownIdeal.Skeleton
public import proofs.«01_k».proof.Proof.Gen.DownIdeal.Frame
public import Idealize.ShloMosaic.Lib.Writes
public import Idealize.ShloMosaic.Lib.WritesUnit
public import Idealize.ShloMosaic.Lib.VecWindow
public import Idealize.ShloMosaic.Lib.Pipeline.ValueKit

@[expose] public section

set_option maxRecDepth 16384

noncomputable section

namespace Cert.DownIdeal.Down

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `16 q` to `16 q + 15` of a tile lie inside it. -/
theorem rows_inb (q : Fin 16) : ∀ a, (![16 * q.val, 0] : Fin 2 → ℕ) a + S16x2048.size a ≤ S256x2048.size a := by
  have := q.isLt
  intro a
  match a with
  | 0 => show 16 * q.val + 16 ≤ 256; omega
  | 1 => show 0 + 2048 ≤ 2048; omega

/-- The rectangle of rows `16 q` to `16 q + 15` of a tile. -/
abbrev rowsRect (q : Fin 16) : Rect S256x2048 := Rect.unit (s := S256x2048) ![16 * q.val, 0] S16x2048.size (rows_inb q)

/-- Sixteen rows of a finished tile: the residual rows plus half the gate times the normed rows scaled by the norm's
    weight. -/
abbrev chunk (g : Vec F S1x1x2048 .f32) (p : Vec F S1x2048 .f32) (x y : Vec F S16x2048 .f32) : Vec F S16x2048 .f32 :=
  k0_pay5 g x y p

/-- A finished tile, from the gate, the norm's weight, the residual tile and the product tile, sixteen rows at a time. -/
def fin (g : Vec F S1x1x2048 .f32) (p : Vec F S1x2048 .f32) (x y : Vec F S256x2048 .f32) : Vec F S256x2048 .f32 := fun j =>
  chunk g p (View.ld x (rowsRect ⟨(j 0).val / 16, by have h : (j 0).val < 256 := (j 0).isLt; omega⟩))
    (View.ld y (rowsRect ⟨(j 0).val / 16, by have h : (j 0).val < 256 := (j 0).isLt; omega⟩))
    (ix2 ⟨(j 0).val % 16, by omega⟩ (j 1))

/-- What the finishing of a tile stores, last store first. -/
def pieces (g : Vec F S1x1x2048 .f32) (p : Vec F S1x2048 .f32) (x y : Vec F S256x2048 .f32) :
    List (View.Piece (Elt F) S256x2048 .f32) :=
  ([15, 14, 13, 12, 11, 10, 9, 8, 7, 6, 5, 4, 3, 2, 1, 0] : List (Fin 16)).map fun q =>
    ⟨rowsRect q, chunk (View.ld g (Rect.unit (s := S1x1x2048) ![0, 0, 0] S1x1x2048.size inb_S1x1x2048_S1x1x2048_0_0_0))
      (View.ld p (Rect.unit (s := S1x2048) ![0, 0] S1x2048.size inb_S1x2048_S1x2048_0_0))
      (View.ld x (rowsRect q)) (View.ld y (rowsRect q))⟩

/-- Row `r` of chunk `q` is row `16 q + r` of the tile. -/
theorem rows_emb_row (q : Fin 16) (j : (rowsRect q).shape.Idx) :
    ((rowsRect q).emb j 0).val = 16 * q.val + (j 0).val := by
  show 16 * q.val + 1 * (j 0).val = _; omega

theorem rows_emb_col (q : Fin 16) (j : (rowsRect q).shape.Idx) : ((rowsRect q).emb j 1).val = (j 1).val := by
  show 0 + 1 * (j 1).val = _; omega

/-- A row of a finished tile depends only on the sixteen rows it lies among. -/
theorem fin_at (g : Vec F S1x1x2048 .f32) (p : Vec F S1x2048 .f32) (x y : Vec F S256x2048 .f32) (q : Fin 16)
    (j : (rowsRect q).shape.Idx) :
    chunk g p (View.ld x (rowsRect q)) (View.ld y (rowsRect q)) j = fin g p x y ((rowsRect q).emb j) := by
  have hj : (j 0).val < 16 := (j 0).isLt
  have e0 := rows_emb_row q j
  have hq : (⟨((rowsRect q).emb j 0).val / 16, by have h : ((rowsRect q).emb j 0).val < 256 := ((rowsRect q).emb j 0).isLt; omega⟩ : Fin 16) = q :=
    Fin.ext (by show ((rowsRect q).emb j 0).val / 16 = q.val; omega)
  unfold fin
  rw [hq]
  refine congrArg _ (funext fun a => ?_)
  match a with
  | 0 => exact Fin.ext (by show (j 0).val = ((rowsRect q).emb j 0).val % 16; omega)
  | 1 => exact Fin.ext (rows_emb_col q j).symm

/-- The stores of a finishing cover the tile. -/
theorem pieces_cover (g : Vec F S1x1x2048 .f32) (p : Vec F S1x2048 .f32) (x y : Vec F S256x2048 .f32) (j : S256x2048.Idx) :
    ∃ pc ∈ pieces g p x y, j ∈ pc.1.set := by
  have h : (j 0).val < 256 := (j 0).isLt
  refine ⟨_, List.mem_map.2 ⟨⟨(j 0).val / 16, by omega⟩, ?_, rfl⟩, ?_⟩
  · generalize (⟨(j 0).val / 16, _⟩ : Fin 16) = q
    revert q; decide
  · rw [Rect.mem_set_unit]
    intro a
    match a with
    | 0 => show 16 * ((j 0).val / 16) ≤ (j 0).val ∧ (j 0).val < 16 * ((j 0).val / 16) + 16; omega
    | 1 => have h1 : (j 1).val < 2048 := (j 1).isLt
           show 0 ≤ (j 1).val ∧ (j 1).val < 0 + 2048; omega

/-- What the stores of a finishing leave is the finished tile, whatever was there before. -/
theorem read_pieces {sig' : RefSig} {κ : Kind} {sp : Space} (v : View sig' κ sp S256x2048 .f32) (f : v.ty.Contents (Elt F))
    (g : Vec F S1x1x2048 .f32) (p : Vec F S1x2048 .f32) (x y : Vec F S256x2048 .f32) :
    v.read (Elt F) (v.writes (Elt F) f (pieces g p x y)) = fin g p x y := funext fun j => by
  refine View.read_writes_apply_of_pieces v f (fin g p x y) _ (fun pc hpc => ?_) j (pieces_cover g p x y j)
  obtain ⟨q, -, rfl⟩ := List.mem_map.1 hpc
  intro k
  rw [← fin_at]
  refine congrFun (congrArg₂ (fun a b => chunk a b _ _) ?_ ?_) k
  · exact View.ld_unit_zero (by decide) _ _
  · exact View.ld_unit_zero (by decide) _ _

/-- The store of a whole product tile. -/
def whole (a : Vec F S256x5632 .bf16) (w : Vec F S5632x2048 .bf16) : List (View.Piece (Elt F) S256x2048 .f32) :=
  [⟨Rect.unit (s := S256x2048) ![0, 0] S256x2048.size inb_S256x2048_S256x2048_0_0,
    k0_pay3 (View.ld a (Rect.unit (s := S256x5632) ![0, 0] S256x5632.size inb_S256x5632_S256x5632_0_0))
      (View.ld w (Rect.unit (s := S5632x2048) ![0, 0] S5632x2048.size inb_S5632x2048_S5632x2048_0_0))⟩]

/-- It leaves the product of the tile of `up` with the weights. -/
theorem read_whole {sig' : RefSig} {κ : Kind} {sp : Space} (v : View sig' κ sp S256x2048 .f32) (f : v.ty.Contents (Elt F))
    (a : Vec F S256x5632 .bf16) (w : Vec F S5632x2048 .bf16) :
    v.read (Elt F) (v.writes (Elt F) f (whole a w)) = k0_pay3 a w := by
  unfold whole
  rw [View.ld_unit_zero (by decide), View.ld_unit_zero (by decide)]
  exact View.read_writes_full v f _ _ _

/-- The scratch weights after a loading point has stored its block of rows: the rows of the block are the stored ones,
    the others as before. -/
def put (n : ℕ) (w : Vec F S1x1x512x2048 .f32) (x : Vec F S5632x2048 .bf16) : Vec F S5632x2048 .bf16 := fun j =>
  if h : 512 * n ≤ (j 0).val ∧ (j 0).val < 512 * n + 512 then k0_pay121 w (ix2 ⟨(j 0).val - 512 * n, by omega⟩ (j 1)) else x j

/-- The block of rows a loading point stores starts at row `512` times the point. -/
theorem load_off : ∀ t : Fin grid0.N, k0_cond1 (grid0.coords t) = 1#1 → k0_off1 (grid0.coords t) = ![512 * t.val, 0] := by
  decide +kernel

/-- What the load's store leaves in the scratch. -/
theorem read_load {sig' : RefSig} {κ : Kind} {sp : Space} (v : View sig' κ sp S5632x2048 .bf16) (f : v.ty.Contents (Elt F))
    (n : ℕ) (off : Fin 2 → ℕ) (hoff : off = ![512 * n, 0]) (inb : ∀ a, off a + S512x2048.size a ≤ S5632x2048.size a)
    (w : Vec F S1x1x512x2048 .f32) :
    v.read (Elt F) (v.writes (Elt F) f [⟨Rect.unit (s := S5632x2048) off S512x2048.size inb,
      k0_pay121 (View.ld w (Rect.unit (s := S1x1x512x2048) ![0, 0, 0, 0] S1x1x512x2048.size inb_S1x1x512x2048_S1x1x512x2048_0_0_0_0))⟩])
      = put n w (v.read (Elt F) f) := funext fun j => by
  subst hoff
  rw [View.ld_unit_zero (by decide)]
  have h1 : (j 1).val < 2048 := (j 1).isLt
  unfold put
  by_cases h : 512 * n ≤ (j 0).val ∧ (j 0).val < 512 * n + 512
  · rw [dif_pos h]
    refine View.read_writes_cons_unit_of_mem v f inb _ [] j (ix2 ⟨(j 0).val - 512 * n, by omega⟩ (j 1)) rfl fun a => ?_
    match a with
    | 0 => show (j 0).val = 512 * n + ((j 0).val - 512 * n); omega
    | 1 => show (j 1).val = 0 + (j 1).val; omega
  · rw [dif_neg h]
    refine (View.read_writes_cons_unit_of_not_mem v f inb _ [] j rfl 0 ?_).trans rfl
    show (j 0).val < 512 * n ∨ 512 * n + 512 ≤ (j 0).val
    omega

end Cert.DownIdeal.Down

end
-- ==== Proof.Down.Steps.lean ====
module

public import proofs.«01_k».proof.Proof.Down.Cells

@[expose] public section

set_option maxRecDepth 16384

noncomputable section

namespace Cert.DownIdeal.Down

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S256x5632 .bf16) (harg1 : arg1.IsWhole)
  (arg2 : Memref sig .tc .vmem S1x1x512x2048 .f32) (harg2 : arg2.IsWhole)
  (arg3 : Memref sig .tc .vmem S256x2048 .f32) (harg3 : arg3.IsWhole)
  (arg4 : Memref sig .tc .vmem S1x2048 .f32) (harg4 : arg4.IsWhole)
  (arg5 : Memref sig .tc .vmem S1x1x2048 .f32) (harg5 : arg5.IsWhole)
  (arg6 : Memref sig .tc .vmem S256x2048 .f32) (harg6 : arg6.IsWhole)
  (arg7 : Memref sig .tc .vmem S256x2048 .f32) (harg7 : arg7.IsWhole)
  (arg8 : Memref sig .tc .vmem S5632x2048 .bf16) (harg8 : arg8.IsWhole)
  (arg9 : Memref sig .tc .vmem S256x2048 .f32) (harg9 : arg9.IsWhole)
  (arg10 : Memref sig .tc .vmem S256x2048 .f32) (harg10 : arg10.IsWhole)

/-- The body's program with its parts put in place, next to the equation with the body. -/
def skel : { p : Prog _ _ // cc0__rowout_kernel (F := F) i arg1 harg1 arg2 harg2 arg3 harg3 arg4 harg4 arg5 harg5 arg6 harg6 arg7 harg7 arg8 harg8 arg9 harg9 arg10 harg10 = p } := by
  refine ⟨?_, ?h⟩
  case h =>
    simp only [cc0__rowout_kernel_eq_skeleton]; unfold cc0__rowout_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    exact rfl

set_option maxHeartbeats 8000000 in
/-- The body at a loading point: the point stores its weight rows into the scratch `arg8`. -/
theorem stepL (hc1 : k0_cond1 i = 1#1) (hc2 : ¬(Scalar.cmpi .ne (Scalar.extui (Scalar.cmpi .eq (Scalar.subi (BitVec.ofNat 32 (i 0).val) 11#32) 0#32)) 0#32) = 1#1) (hc3 : ¬k0_cond3 i = 1#1) (hc4 : ¬k0_cond4 i = 1#1) (hc5 : ¬k0_cond5 i = 1#1) (hc6 : ¬k0_cond6 i = 1#1) (hc7 : ¬k0_cond7 i = 1#1) (n : ℕ) (hoff : k0_off1 i = ![512 * n, 0])
    (x2 : Vec F S1x1x512x2048 .f32) (x8 : Vec F S5632x2048 .bf16) (E : Set ℕ) (K : PUnit → sProp 𝕄) :
    iprop(owns (c : Thread nD τ) arg2 fullShare x2 ∗ owns (c : Thread nD τ) arg8 fullShare x8 ∗ (iprop(owns (c : Thread nD τ) arg2 fullShare x2 ∗ owns (c : Thread nD τ) arg8 fullShare (put n x2 x8)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10) K := by
  rw [(skel i arg1 harg1 arg2 harg2 arg3 harg3 arg4 harg4 arg5 harg5 arg6 harg6 arg7 harg7 arg8 harg8 arg9 harg9 arg10 harg10).2]; unfold skel
  unfold owns
  iintro ⟨⟨%f2, %hf2, H2⟩, ⟨%f8, %hf8, H8⟩, Hk⟩
  obtain rfl := harg2.eq_unread hf2; obtain rfl := harg8.eq_unread hf8
  sl_exec (disch := first | sl_exact hc1 | sl_exact hc2 | sl_exact hc3 | sl_exact hc4 | sl_exact hc5 | sl_exact hc6 | sl_exact hc7)
  sl_step
  iapply Hk
  isplitl [H2]
  · iexists _; isplitr; · ipureintro; exact harg2.read_unread _
    iexact H2
  iexists _; isplitr; swap; · iexact H8
  ipureintro; refine (read_load _ _ n _ hoff _ _).trans ?_; rw [harg2.read_unread, harg8.read_unread]

set_option maxHeartbeats 8000000 in
/-- The body at the first product: it goes to the scratch `arg9`. -/
theorem stepZ (hc1 : ¬k0_cond1 i = 1#1) (hc2 : (Scalar.cmpi .ne (Scalar.extui (Scalar.cmpi .eq (Scalar.subi (BitVec.ofNat 32 (i 0).val) 11#32) 0#32)) 0#32) = 1#1) (hc3 : ¬k0_cond3 i = 1#1) (hc4 : ¬k0_cond4 i = 1#1) (hc5 : ¬k0_cond5 i = 1#1) (hc6 : ¬k0_cond6 i = 1#1) (hc7 : ¬k0_cond7 i = 1#1)
    (x1 : Vec F S256x5632 .bf16) (x8 : Vec F S5632x2048 .bf16) (E : Set ℕ) (K : PUnit → sProp 𝕄) :
    iprop(owns (c : Thread nD τ) arg1 fullShare x1 ∗ owns (c : Thread nD τ) arg8 fullShare x8 ∗ (∃ d, owns (c : Thread nD τ) arg9 fullShare d) ∗ (iprop(owns (c : Thread nD τ) arg1 fullShare x1 ∗ owns (c : Thread nD τ) arg8 fullShare x8 ∗ owns (c : Thread nD τ) arg9 fullShare (k0_pay3 x1 x8)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10) K := by
  rw [(skel i arg1 harg1 arg2 harg2 arg3 harg3 arg4 harg4 arg5 harg5 arg6 harg6 arg7 harg7 arg8 harg8 arg9 harg9 arg10 harg10).2]; unfold skel
  unfold owns
  iintro ⟨⟨%f1, %hf1, H1⟩, ⟨%f8, %hf8, H8⟩, ⟨%d9, %f9, -, H9⟩, Hk⟩
  obtain rfl := harg1.eq_unread hf1; obtain rfl := harg8.eq_unread hf8
  sl_exec (disch := first | sl_exact hc1 | sl_exact hc2 | sl_exact hc3 | sl_exact hc4 | sl_exact hc5 | sl_exact hc6 | sl_exact hc7)
  sl_step
  iapply Hk
  isplitl [H1]
  · iexists _; isplitr; · ipureintro; exact harg1.read_unread _
    iexact H1
  isplitl [H8]
  · iexists _; isplitr; · ipureintro; exact harg8.read_unread _
    iexact H8
  iexists _; isplitr; swap; · iexact H9
  ipureintro; refine (read_whole _ _ (arg1.view.read (Elt F) (harg1.unread x1)) (arg8.view.read (Elt F) (harg8.unread x8))).trans ?_; rw [harg1.read_unread, harg8.read_unread]

set_option maxHeartbeats 8000000 in
/-- The body at an even step whose finished tile is a context tile. -/
theorem stepEC (hc1 : ¬k0_cond1 i = 1#1) (hc2 : ¬(Scalar.cmpi .ne (Scalar.extui (Scalar.cmpi .eq (Scalar.subi (BitVec.ofNat 32 (i 0).val) 11#32) 0#32)) 0#32) = 1#1) (hc3 : k0_cond3 i = 1#1) (hc4 : ¬k0_cond4 i = 1#1) (hc5 : ¬k0_cond5 i = 1#1) (hc6 : ¬k0_cond6 i = 1#1) (hc7 : ¬k0_cond7 i = 1#1)
    (x1 : Vec F S256x5632 .bf16) (x3 : Vec F S256x2048 .f32) (x4 : Vec F S1x2048 .f32) (x5 : Vec F S1x1x2048 .f32) (x8 : Vec F S5632x2048 .bf16) (x10 : Vec F S256x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg10 fullShare x10 ∗ (∃ d, owns (c : Thread nD τ) arg6 fullShare d) ∗ (∃ d, owns (c : Thread nD τ) arg9 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg10 fullShare x10 ∗ owns (c : Thread nD τ) arg6 fullShare (fin x5 x4 x3 x10) ∗ owns (c : Thread nD τ) arg9 fullShare (k0_pay3 x1 x8)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10) K := by
  rw [(skel i arg1 harg1 arg2 harg2 arg3 harg3 arg4 harg4 arg5 harg5 arg6 harg6 arg7 harg7 arg8 harg8 arg9 harg9 arg10 harg10).2]; unfold skel
  unfold owns
  iintro ⟨⟨%f1, %hf1, H1⟩, ⟨%f3, %hf3, H3⟩, ⟨%f4, %hf4, H4⟩, ⟨%f5, %hf5, H5⟩, ⟨%f8, %hf8, H8⟩, ⟨%f10, %hf10, H10⟩, ⟨%d6, %f6, -, H6⟩, ⟨%d9, %f9, -, H9⟩, Hk⟩
  obtain rfl := harg1.eq_unread hf1; obtain rfl := harg3.eq_unread hf3; obtain rfl := harg4.eq_unread hf4; obtain rfl := harg5.eq_unread hf5; obtain rfl := harg8.eq_unread hf8; obtain rfl := harg10.eq_unread hf10
  sl_exec (disch := first | sl_exact hc1 | sl_exact hc2 | sl_exact hc3 | sl_exact hc4 | sl_exact hc5 | sl_exact hc6 | sl_exact hc7)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H10]
  · iexists _; isplitr; · ipureintro; exact harg10.read_unread _
    iexact H10
  isplitl [H6]
  · iexists _; isplitr; swap; · iexact H6
    ipureintro; refine (read_pieces _ _ (arg5.view.read (Elt F) (harg5.unread x5)) (arg4.view.read (Elt F) (harg4.unread x4)) (arg3.view.read (Elt F) (harg3.unread x3)) (arg10.view.read (Elt F) (harg10.unread x10))).trans ?_; rw [harg5.read_unread, harg4.read_unread, harg3.read_unread, harg10.read_unread]
  iexists _; isplitr; swap; · iexact H9
  ipureintro; refine (read_whole _ _ (arg1.view.read (Elt F) (harg1.unread x1)) (arg8.view.read (Elt F) (harg8.unread x8))).trans ?_; rw [harg1.read_unread, harg8.read_unread]

set_option maxHeartbeats 8000000 in
/-- The body at an even step whose finished tile is a latent tile. -/
theorem stepEL (hc1 : ¬k0_cond1 i = 1#1) (hc2 : ¬(Scalar.cmpi .ne (Scalar.extui (Scalar.cmpi .eq (Scalar.subi (BitVec.ofNat 32 (i 0).val) 11#32) 0#32)) 0#32) = 1#1) (hc3 : ¬k0_cond3 i = 1#1) (hc4 : k0_cond4 i = 1#1) (hc5 : ¬k0_cond5 i = 1#1) (hc6 : ¬k0_cond6 i = 1#1) (hc7 : ¬k0_cond7 i = 1#1)
    (x1 : Vec F S256x5632 .bf16) (x3 : Vec F S256x2048 .f32) (x4 : Vec F S1x2048 .f32) (x5 : Vec F S1x1x2048 .f32) (x8 : Vec F S5632x2048 .bf16) (x10 : Vec F S256x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg10 fullShare x10 ∗ (∃ d, owns (c : Thread nD τ) arg7 fullShare d) ∗ (∃ d, owns (c : Thread nD τ) arg9 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg10 fullShare x10 ∗ owns (c : Thread nD τ) arg7 fullShare (fin x5 x4 x3 x10) ∗ owns (c : Thread nD τ) arg9 fullShare (k0_pay3 x1 x8)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10) K := by
  rw [(skel i arg1 harg1 arg2 harg2 arg3 harg3 arg4 harg4 arg5 harg5 arg6 harg6 arg7 harg7 arg8 harg8 arg9 harg9 arg10 harg10).2]; unfold skel
  unfold owns
  iintro ⟨⟨%f1, %hf1, H1⟩, ⟨%f3, %hf3, H3⟩, ⟨%f4, %hf4, H4⟩, ⟨%f5, %hf5, H5⟩, ⟨%f8, %hf8, H8⟩, ⟨%f10, %hf10, H10⟩, ⟨%d7, %f7, -, H7⟩, ⟨%d9, %f9, -, H9⟩, Hk⟩
  obtain rfl := harg1.eq_unread hf1; obtain rfl := harg3.eq_unread hf3; obtain rfl := harg4.eq_unread hf4; obtain rfl := harg5.eq_unread hf5; obtain rfl := harg8.eq_unread hf8; obtain rfl := harg10.eq_unread hf10
  sl_exec (disch := first | sl_exact hc1 | sl_exact hc2 | sl_exact hc3 | sl_exact hc4 | sl_exact hc5 | sl_exact hc6 | sl_exact hc7)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H10]
  · iexists _; isplitr; · ipureintro; exact harg10.read_unread _
    iexact H10
  isplitl [H7]
  · iexists _; isplitr; swap; · iexact H7
    ipureintro; refine (read_pieces _ _ (arg5.view.read (Elt F) (harg5.unread x5)) (arg4.view.read (Elt F) (harg4.unread x4)) (arg3.view.read (Elt F) (harg3.unread x3)) (arg10.view.read (Elt F) (harg10.unread x10))).trans ?_; rw [harg5.read_unread, harg4.read_unread, harg3.read_unread, harg10.read_unread]
  iexists _; isplitr; swap; · iexact H9
  ipureintro; refine (read_whole _ _ (arg1.view.read (Elt F) (harg1.unread x1)) (arg8.view.read (Elt F) (harg8.unread x8))).trans ?_; rw [harg1.read_unread, harg8.read_unread]

set_option maxHeartbeats 8000000 in
/-- The body at an odd step whose finished tile is a context tile. -/
theorem stepOC (hc1 : ¬k0_cond1 i = 1#1) (hc2 : ¬(Scalar.cmpi .ne (Scalar.extui (Scalar.cmpi .eq (Scalar.subi (BitVec.ofNat 32 (i 0).val) 11#32) 0#32)) 0#32) = 1#1) (hc3 : ¬k0_cond3 i = 1#1) (hc4 : ¬k0_cond4 i = 1#1) (hc5 : k0_cond5 i = 1#1) (hc6 : ¬k0_cond6 i = 1#1) (hc7 : ¬k0_cond7 i = 1#1)
    (x1 : Vec F S256x5632 .bf16) (x3 : Vec F S256x2048 .f32) (x4 : Vec F S1x2048 .f32) (x5 : Vec F S1x1x2048 .f32) (x8 : Vec F S5632x2048 .bf16) (x9 : Vec F S256x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ (∃ d, owns (c : Thread nD τ) arg6 fullShare d) ∗ (∃ d, owns (c : Thread nD τ) arg10 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg6 fullShare (fin x5 x4 x3 x9) ∗ owns (c : Thread nD τ) arg10 fullShare (k0_pay3 x1 x8)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10) K := by
  rw [(skel i arg1 harg1 arg2 harg2 arg3 harg3 arg4 harg4 arg5 harg5 arg6 harg6 arg7 harg7 arg8 harg8 arg9 harg9 arg10 harg10).2]; unfold skel
  unfold owns
  iintro ⟨⟨%f1, %hf1, H1⟩, ⟨%f3, %hf3, H3⟩, ⟨%f4, %hf4, H4⟩, ⟨%f5, %hf5, H5⟩, ⟨%f8, %hf8, H8⟩, ⟨%f9, %hf9, H9⟩, ⟨%d6, %f6, -, H6⟩, ⟨%d10, %f10, -, H10⟩, Hk⟩
  obtain rfl := harg1.eq_unread hf1; obtain rfl := harg3.eq_unread hf3; obtain rfl := harg4.eq_unread hf4; obtain rfl := harg5.eq_unread hf5; obtain rfl := harg8.eq_unread hf8; obtain rfl := harg9.eq_unread hf9
  sl_exec (disch := first | sl_exact hc1 | sl_exact hc2 | sl_exact hc3 | sl_exact hc4 | sl_exact hc5 | sl_exact hc6 | sl_exact hc7)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H9]
  · iexists _; isplitr; · ipureintro; exact harg9.read_unread _
    iexact H9
  isplitl [H6]
  · iexists _; isplitr; swap; · iexact H6
    ipureintro; refine (read_pieces _ _ (arg5.view.read (Elt F) (harg5.unread x5)) (arg4.view.read (Elt F) (harg4.unread x4)) (arg3.view.read (Elt F) (harg3.unread x3)) (arg9.view.read (Elt F) (harg9.unread x9))).trans ?_; rw [harg5.read_unread, harg4.read_unread, harg3.read_unread, harg9.read_unread]
  iexists _; isplitr; swap; · iexact H10
  ipureintro; refine (read_whole _ _ (arg1.view.read (Elt F) (harg1.unread x1)) (arg8.view.read (Elt F) (harg8.unread x8))).trans ?_; rw [harg1.read_unread, harg8.read_unread]

set_option maxHeartbeats 8000000 in
/-- The body at an odd step whose finished tile is a latent tile. -/
theorem stepOL (hc1 : ¬k0_cond1 i = 1#1) (hc2 : ¬(Scalar.cmpi .ne (Scalar.extui (Scalar.cmpi .eq (Scalar.subi (BitVec.ofNat 32 (i 0).val) 11#32) 0#32)) 0#32) = 1#1) (hc3 : ¬k0_cond3 i = 1#1) (hc4 : ¬k0_cond4 i = 1#1) (hc5 : ¬k0_cond5 i = 1#1) (hc6 : k0_cond6 i = 1#1) (hc7 : ¬k0_cond7 i = 1#1)
    (x1 : Vec F S256x5632 .bf16) (x3 : Vec F S256x2048 .f32) (x4 : Vec F S1x2048 .f32) (x5 : Vec F S1x1x2048 .f32) (x8 : Vec F S5632x2048 .bf16) (x9 : Vec F S256x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ (∃ d, owns (c : Thread nD τ) arg7 fullShare d) ∗ (∃ d, owns (c : Thread nD τ) arg10 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg7 fullShare (fin x5 x4 x3 x9) ∗ owns (c : Thread nD τ) arg10 fullShare (k0_pay3 x1 x8)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10) K := by
  rw [(skel i arg1 harg1 arg2 harg2 arg3 harg3 arg4 harg4 arg5 harg5 arg6 harg6 arg7 harg7 arg8 harg8 arg9 harg9 arg10 harg10).2]; unfold skel
  unfold owns
  iintro ⟨⟨%f1, %hf1, H1⟩, ⟨%f3, %hf3, H3⟩, ⟨%f4, %hf4, H4⟩, ⟨%f5, %hf5, H5⟩, ⟨%f8, %hf8, H8⟩, ⟨%f9, %hf9, H9⟩, ⟨%d7, %f7, -, H7⟩, ⟨%d10, %f10, -, H10⟩, Hk⟩
  obtain rfl := harg1.eq_unread hf1; obtain rfl := harg3.eq_unread hf3; obtain rfl := harg4.eq_unread hf4; obtain rfl := harg5.eq_unread hf5; obtain rfl := harg8.eq_unread hf8; obtain rfl := harg9.eq_unread hf9
  sl_exec (disch := first | sl_exact hc1 | sl_exact hc2 | sl_exact hc3 | sl_exact hc4 | sl_exact hc5 | sl_exact hc6 | sl_exact hc7)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H9]
  · iexists _; isplitr; · ipureintro; exact harg9.read_unread _
    iexact H9
  isplitl [H7]
  · iexists _; isplitr; swap; · iexact H7
    ipureintro; refine (read_pieces _ _ (arg5.view.read (Elt F) (harg5.unread x5)) (arg4.view.read (Elt F) (harg4.unread x4)) (arg3.view.read (Elt F) (harg3.unread x3)) (arg9.view.read (Elt F) (harg9.unread x9))).trans ?_; rw [harg5.read_unread, harg4.read_unread, harg3.read_unread, harg9.read_unread]
  iexists _; isplitr; swap; · iexact H10
  ipureintro; refine (read_whole _ _ (arg1.view.read (Elt F) (harg1.unread x1)) (arg8.view.read (Elt F) (harg8.unread x8))).trans ?_; rw [harg1.read_unread, harg8.read_unread]

set_option maxHeartbeats 8000000 in
/-- The body at the last point: only the last tile is finished. -/
theorem stepN (hc1 : ¬k0_cond1 i = 1#1) (hc2 : ¬(Scalar.cmpi .ne (Scalar.extui (Scalar.cmpi .eq (Scalar.subi (BitVec.ofNat 32 (i 0).val) 11#32) 0#32)) 0#32) = 1#1) (hc3 : ¬k0_cond3 i = 1#1) (hc4 : ¬k0_cond4 i = 1#1) (hc5 : ¬k0_cond5 i = 1#1) (hc6 : ¬k0_cond6 i = 1#1) (hc7 : k0_cond7 i = 1#1)
    (x3 : Vec F S256x2048 .f32) (x4 : Vec F S1x2048 .f32) (x5 : Vec F S1x1x2048 .f32) (x10 : Vec F S256x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg10 fullShare x10 ∗ (∃ d, owns (c : Thread nD τ) arg7 fullShare d) ∗ (iprop(owns (c : Thread nD τ) arg3 fullShare x3 ∗ owns (c : Thread nD τ) arg4 fullShare x4 ∗ owns (c : Thread nD τ) arg5 fullShare x5 ∗ owns (c : Thread nD τ) arg10 fullShare x10 ∗ owns (c : Thread nD τ) arg7 fullShare (fin x5 x4 x3 x10)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10) K := by
  rw [(skel i arg1 harg1 arg2 harg2 arg3 harg3 arg4 harg4 arg5 harg5 arg6 harg6 arg7 harg7 arg8 harg8 arg9 harg9 arg10 harg10).2]; unfold skel
  unfold owns
  iintro ⟨⟨%f3, %hf3, H3⟩, ⟨%f4, %hf4, H4⟩, ⟨%f5, %hf5, H5⟩, ⟨%f10, %hf10, H10⟩, ⟨%d7, %f7, -, H7⟩, Hk⟩
  obtain rfl := harg3.eq_unread hf3; obtain rfl := harg4.eq_unread hf4; obtain rfl := harg5.eq_unread hf5; obtain rfl := harg10.eq_unread hf10
  sl_exec (disch := first | sl_exact hc1 | sl_exact hc2 | sl_exact hc3 | sl_exact hc4 | sl_exact hc5 | sl_exact hc6 | sl_exact hc7)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H10]
  · iexists _; isplitr; · ipureintro; exact harg10.read_unread _
    iexact H10
  iexists _; isplitr; swap; · iexact H7
  ipureintro; refine (read_pieces _ _ (arg5.view.read (Elt F) (harg5.unread x5)) (arg4.view.read (Elt F) (harg4.unread x4)) (arg3.view.read (Elt F) (harg3.unread x3)) (arg10.view.read (Elt F) (harg10.unread x10))).trans ?_; rw [harg5.read_unread, harg4.read_unread, harg3.read_unread, harg10.read_unread]

end Cert.DownIdeal.Down

end
-- ==== Proof.Down.Inv.lean ====
module

public import proofs.«01_k».proof.Proof.Down.Steps

@[expose] public section

set_option maxRecDepth 16384

noncomputable section

namespace Cert.DownIdeal.Down

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where each branch of the body is taken, and where the outputs are written -/

theorem cond1_iff : ∀ t : Fin grid0.N, k0_cond1 (grid0.coords t) = 1#1 ↔ t.val < 11 := by decide +kernel
theorem cond2_iff : ∀ t : Fin grid0.N, Scalar.cmpi .ne (Scalar.extui (Scalar.cmpi .eq (Scalar.subi (BitVec.ofNat 32 (grid0.coords t 0).val) 11#32) 0#32)) 0#32 = 1#1 ↔ t.val = 11 := by
  decide +kernel
theorem cond3_iff : ∀ t : Fin grid0.N, k0_cond3 (grid0.coords t) = 1#1 ↔ 12 ≤ t.val ∧ t.val ≤ 43 ∧ t.val % 2 = 1 := by decide +kernel
theorem cond4_iff : ∀ t : Fin grid0.N, k0_cond4 (grid0.coords t) = 1#1 ↔ 44 ≤ t.val ∧ t.val ≤ 74 ∧ t.val % 2 = 1 := by decide +kernel
theorem cond5_iff : ∀ t : Fin grid0.N, k0_cond5 (grid0.coords t) = 1#1 ↔ 12 ≤ t.val ∧ t.val ≤ 43 ∧ t.val % 2 = 0 := by decide +kernel
theorem cond6_iff : ∀ t : Fin grid0.N, k0_cond6 (grid0.coords t) = 1#1 ↔ 44 ≤ t.val ∧ t.val ≤ 74 ∧ t.val % 2 = 0 := by decide +kernel
theorem cond7_iff : ∀ t : Fin grid0.N, k0_cond7 (grid0.coords t) = 1#1 ↔ t.val = 75 := by decide +kernel

/-- The context output is stored into at the points 12 to 43 only. -/
theorem idle5_iff : ∀ t : Fin grid0.N, cfg0.idle 5 (grid0.coords t) = true ↔ ¬(12 ≤ t.val ∧ t.val ≤ 43) := by decide +kernel
/-- The latent output is stored into from point 44 on. -/
theorem idle6_iff : ∀ t : Fin grid0.N, cfg0.idle 6 (grid0.coords t) = true ↔ t.val < 44 := by decide +kernel
/-- The context output's buffer is written back at the points 12 to 42 and after the last. -/
theorem flush5_iff : ∀ t : Fin grid0.N, win0_5.flush t = true ↔ (12 ≤ t.val ∧ t.val ≤ 42) ∨ t.val = 75 := by decide +kernel
/-- The latent output's buffer is written back from point 44 on. -/
theorem flush6_iff : ∀ t : Fin grid0.N, win0_6.flush t = true ↔ 44 ≤ t.val := by decide +kernel

/-! ## What the body leaves -/

/-- The weights as the loading points leave them in the scratch: row `r` is row `r % 512` of block `r / 512`. -/
def wts (c : Dev nD) : Vec F S5632x2048 .bf16 := fun j =>
  k0_pay121 (iblk m c 1 (⟨(j 0).val / 512, by have h : (j 0).val < 5632 := (j 0).isLt; have : cfg0.N = 76 := N_0; omega⟩ : Fin cfg0.N))
    (ix2 ⟨(j 0).val % 512, by omega⟩ (j 1))

/-- The point of a number, the last one beyond it. -/
abbrev pt (n : ℕ) : Fin cfg0.N := ⟨min n 75, by have : cfg0.N = 76 := N_0; omega⟩

/-- The product tile of point `n`. -/
def prod (c : Dev nD) (n : ℕ) : Vec F S256x2048 .f32 := k0_pay3 (iblk m c 0 (pt n)) (wts m c)

/-- The tile point `n` finishes: the product is that of the point before. -/
def tile (c : Dev nD) (n : ℕ) : Vec F S256x2048 .f32 :=
  fin (iblk m c 4 (pt n)) (iblk m c 3 (pt n)) (iblk m c 2 (pt n)) (prod m c (n - 1))

/-- What holds of the scratch buffers before point `n`: the rows of weights loaded so far are in the first, and from
    point 12 to 75 the product of the point before is in the second or third, by parity. -/
def Inv (c : Dev nD) (n : ℕ) (X0 : Vec F S5632x2048 .bf16) (X1 X2 : Vec F S256x2048 .f32) : Prop :=
  (∀ j : S5632x2048.Idx, (j 0).val < 512 * n → X0 j = wts m c j)
  ∧ (12 ≤ n → n ≤ 75 → ((n - 1) % 2 = 1 → X1 = prod m c (n - 1)) ∧ ((n - 1) % 2 = 0 → X2 = prod m c (n - 1)))

/-- Once every block is loaded the scratch is the weights. -/
theorem Inv.full {c : Dev nD} {n : ℕ} {X0 : Vec F S5632x2048 .bf16} {X1 X2 : Vec F S256x2048 .f32} (h : Inv m c n X0 X1 X2)
    (hn : 11 ≤ n) : X0 = wts m c :=
  funext fun j => h.1 j (by have hj : (j 0).val < 5632 := (j 0).isLt; omega)

/-- A loading point adds its block of rows. -/
theorem Inv.load {c : Dev nD} {n : ℕ} {X0 : Vec F S5632x2048 .bf16} {X1 X2 : Vec F S256x2048 .f32} (h : Inv m c n X0 X1 X2)
    (hn : n < 11) (t : Fin cfg0.N) (ht : t.val = n) : Inv m c (n + 1) (put n (iblk m c 1 t) X0) X1 X2 := by
  refine ⟨fun j hj => ?_, fun h12 => by omega⟩
  unfold put
  by_cases hb : 512 * n ≤ (j 0).val ∧ (j 0).val < 512 * n + 512
  · rw [dif_pos hb]
    unfold wts
    have e : t = (⟨(j 0).val / 512, by have h : (j 0).val < 5632 := (j 0).isLt; have : cfg0.N = 76 := N_0; omega⟩ : Fin cfg0.N) :=
      Fin.ext (by show t.val = (j 0).val / 512; omega)
    rw [← e]
    refine congrArg _ (congrArg (fun k => ix2 k (j 1)) (Fin.ext ?_))
    show (j 0).val - 512 * n = (j 0).val % 512
    omega
  · rw [dif_neg hb]
    exact h.1 j (by omega)

/-- A point that stores its product into the second scratch buffer. -/
theorem Inv.odd {c : Dev nD} {n : ℕ} {X2 : Vec F S256x2048 .f32} (hn : 11 ≤ n) (hp : n % 2 = 1) :
    Inv m c (n + 1) (wts m c) (prod m c n) X2 :=
  ⟨fun _ _ => rfl, fun _ _ => ⟨fun _ => rfl, fun h => by rw [Nat.add_sub_cancel] at h; omega⟩⟩

/-- A point that stores its product into the third. -/
theorem Inv.even {c : Dev nD} {n : ℕ} {X1 : Vec F S256x2048 .f32} (hn : 11 ≤ n) (hp : n % 2 = 0) :
    Inv m c (n + 1) (wts m c) X1 (prod m c n) :=
  ⟨fun _ _ => rfl, fun _ _ => ⟨fun h => by rw [Nat.add_sub_cancel] at h; omega, fun _ => rfl⟩⟩

/-- After the last point. -/
theorem Inv.last {c : Dev nD} {X1 X2 : Vec F S256x2048 .f32} : Inv m c 76 (wts m c) X1 X2 :=
  ⟨fun _ _ => rfl, fun _ h => by omega⟩

/-- Before the first point nothing is asked. -/
theorem Inv.first {c : Dev nD} {X0 : Vec F S5632x2048 .bf16} {X1 X2 : Vec F S256x2048 .f32} : Inv m c 0 X0 X1 X2 :=
  ⟨fun j h => by omega, fun h => by omega⟩

/-! ## The pipeline's proof data -/

abbrev sc0 : Memref sig .tc .vmem S5632x2048 .bf16 := Memref.whole cc0_scratch0
abbrev sc1 : Memref sig .tc .vmem S256x2048 .f32 := Memref.whole cc0_scratch1
abbrev sc2 : Memref sig .tc .vmem S256x2048 .f32 := Memref.whole cc0_scratch2

/-- The region's invariant before point `n`. -/
def Phi (c : Dev nD) (n : ℕ) : sProp 𝕄 :=
  iprop(∃ X0 X1 X2, ⌜Inv m c n X0 X1 X2⌝ ∗ owns (c : Thread nD τ) sc0 fullShare X0 ∗ owns (c : Thread nD τ) sc1 fullShare X1
    ∗ owns (c : Thread nD τ) sc2 fullShare X2 ∗ (∃ r, prngReg c r))

theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- The arrays as the region finds them; after the body each input's buffer at its block, the context output's at the
    tile last finished of the context rows, the latent output's at the tile just finished. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tile m c (min t.val 43)
    | ⟨6, _⟩ => tile m c t.val
  Φ t := Phi m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tile m c (min t.val 43) := by dsimp only [dats]
theorem after0_6 (c : Dev nD) (t : Fin cfg0.N) : (dats m 0 c).after 6 t = tile m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The context output is never fetched. -/
theorem fetch5 : ∀ t : Fin grid0.N, win0_5.fetch t = false := by decide +kernel

/-- Between the last context tile and the end, the context output's buffer keeps that tile. -/
theorem before0_5 (c : Dev nD) (d) : ∀ (k : ℕ) (t : Fin cfg0.N), t.val = 44 + k → (dats m 0 c).before 5 t d = tile m c 43
  | 0, t, ht => by
    have hN : cfg0.N = 76 := N_0
    rw [(dats m 0 c).before_of_pos 5 t (by omega) (fetch5 t)]
    have hf : (cfg0.win 5).flush ⟨t.val - 1, Nat.lt_of_le_of_lt (Nat.sub_le _ _) t.isLt⟩ = false :=
      Bool.eq_false_iff.2 fun h => by
        have := (flush5_iff _).1 h
        dsimp only at this
        omega
    rw [hf, if_neg Bool.false_ne_true]
    have hi : cfg0.idle 5 (cfg0.grid.coords ⟨t.val - 1, Nat.lt_of_le_of_lt (Nat.sub_le _ _) t.isLt⟩) = false :=
      Bool.eq_false_iff.2 fun h => (idle5_iff _).1 h (by dsimp only; omega)
    unfold Dat.left
    rw [hi]
    show (dats m 0 c).after 5 ⟨t.val - 1, Nat.lt_of_le_of_lt (Nat.sub_le _ _) t.isLt⟩ = _
    rw [after0_5]
    exact congrArg _ (by dsimp only; omega)
  | k + 1, t, ht => by
    have hN : cfg0.N = 76 := N_0
    have hlt : t.val < cfg0.N := t.isLt
    rw [(dats m 0 c).before_of_pos 5 t (by omega) (fetch5 t)]
    have hf : (cfg0.win 5).flush ⟨t.val - 1, Nat.lt_of_le_of_lt (Nat.sub_le _ _) t.isLt⟩ = false :=
      Bool.eq_false_iff.2 fun h => by
        have := (flush5_iff _).1 h
        dsimp only at this
        omega
    rw [hf, if_neg Bool.false_ne_true]
    have hi : cfg0.idle 5 (cfg0.grid.coords ⟨t.val - 1, Nat.lt_of_le_of_lt (Nat.sub_le _ _) t.isLt⟩) = true :=
      (idle5_iff _).2 (by dsimp only; omega)
    unfold Dat.left
    rw [hi]
    exact before0_5 c d k _ (by dsimp only; omega)

/-! ## The body obligation -/

/-- What the body is called with at point `t`, the windows one by one, -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop(Phi m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (dats m 0 c).leavesExact 5 t ∗ (dats m 0 c).leavesExact 6 t)

/-- An idle output not written back keeps what it held. -/
theorem leaves_idle (c : Dev nD) (w : Fin cfg0.W) (t : Fin cfg0.N) (hi : cfg0.idle w (grid0.coords t) = true)
    (hf : (cfg0.win w).flush t = false) :
    (dats m 0 c).leavesExact w t = iprop(∃ d, owns (c : Thread nD τ) ((cfg0.win w).stage (cfg0.slots t w)) fullShare ((dats m 0 c).before w t d)) :=
  (dats m 0 c).leavesExact_idle w t hi hf

/-- Any other output holds what the proof data say. -/
theorem leaves_live (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  have e : cfg0.grid.coords t = grid0.coords t := rfl
  unfold Dat.leavesExact
  rw [e]
  rcases h with h | h <;> rw [h]
  cases cfg0.idle w (grid0.coords t) <;> rfl

end Cert.DownIdeal.Down

end
-- ==== Proof.Down.Frame.lean ====
module

public import proofs.«01_k».proof.Proof.Down.Inv

@[expose] public section

set_option maxRecDepth 16384

noncomputable section

namespace Cert.DownIdeal.Down

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of a point's number is the point. -/
theorem pt_val (t : Fin cfg0.N) : pt t.val = t :=
  Fin.ext (by have := t.isLt; have : cfg0.N = 76 := N_0; show min t.val 75 = t.val; omega)

set_option maxHeartbeats 1600000 in
/-- The body's triple at a loading point. -/
theorem soundL (c : Dev nD) (t : Fin cfg0.N) (h : t.val < 11) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4]
  rw [leaves_idle m c 5 t ((idle5_iff t).2 (by omega)) (Bool.eq_false_iff.2 fun h' => by have := (flush5_iff t).1 h'; omega)]
  rw [leaves_idle m c 6 t ((idle6_iff t).2 (by omega)) (Bool.eq_false_iff.2 fun h' => by have := (flush6_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩⟩
  iapply (stepL c (grid0.coords t) _ _ _ _ _ _ _ _ _ _ _ _ _ _ _ _ _ _ _ _ ((cond1_iff t).2 (by omega)) (fun h => by have := (cond2_iff t).1 h; omega) (fun h => by have := (cond3_iff t).1 h; omega) (fun h => by have := (cond4_iff t).1 h; omega) (fun h => by have := (cond5_iff t).1 h; omega) (fun h => by have := (cond6_iff t).1 h; omega) (fun h => by have := (cond7_iff t).1 h; omega) t.val (load_off t ((cond1_iff t).2 (by omega))) _ _ Set.univ _)
  isplitl [H1]; · iexact H1
  isplitl [S0]; · iexact S0
  iintro ⟨H1, S0⟩
  isplitl [S0 S1 S2 Hg]
  · iexists _, _, _
    isplitr; swap
    · isplitl [S0]; · iexact S0
      isplitl [S1]; · iexact S1
      isplitl [S2]; · iexact S2
      iexact Hg
    ipureintro
    exact hI.load m h t rfl
  isplitl [Ho]; · iexact Ho
  isplitl [H0]; · iexact H0
  isplitl [H1]; · iexact H1
  isplitl [H2]; · iexact H2
  isplitl [H3]; · iexact H3
  isplitl [H4]; · iexact H4
  isplitl [H5]
  · iexists _; iexact H5
  iexists _; iexact H6

set_option maxHeartbeats 1600000 in
/-- The body's triple at the first product. -/
theorem soundZ (c : Dev nD) (t : Fin cfg0.N) (h : t.val = 11) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4]
  rw [leaves_idle m c 5 t ((idle5_iff t).2 (by omega)) (Bool.eq_false_iff.2 fun h' => by have := (flush5_iff t).1 h'; omega)]
  rw [leaves_idle m c 6 t ((idle6_iff t).2 (by omega)) (Bool.eq_false_iff.2 fun h' => by have := (flush6_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩⟩
  obtain rfl : X0 = wts m c := hI.full m (by omega)
  iapply (stepZ c (grid0.coords t) _ _ _ _ _ _ _ _ _ _ _ _ _ _ _ _ _ _ _ _ (fun h => by have := (cond1_iff t).1 h; omega) ((cond2_iff t).2 (by omega)) (fun h => by have := (cond3_iff t).1 h; omega) (fun h => by have := (cond4_iff t).1 h; omega) (fun h => by have := (cond5_iff t).1 h; omega) (fun h => by have := (cond6_iff t).1 h; omega) (fun h => by have := (cond7_iff t).1 h; omega) _ _ Set.univ _)
  isplitl [H0]; · iexact H0
  isplitl [S0]; · iexact S0
  isplitl [S1]; · iexists _; iexact S1
  iintro ⟨H0, S0, S1⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.odd (X2 := X2) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]
  · iexists _; iexact H5
  iexists _; iexact H6

set_option maxHeartbeats 1600000 in
/-- The body's triple at an odd point that finishes a context tile. -/
theorem soundEC (c : Dev nD) (t : Fin cfg0.N) (h : 12 ≤ t.val ∧ t.val ≤ 43 ∧ t.val % 2 = 1) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4]
  rw [leaves_live m c 5 t (.inl (Bool.eq_false_iff.2 fun h' => by have := (idle5_iff t).1 h'; omega)), after0_5]
  rw [leaves_idle m c 6 t ((idle6_iff t).2 (by omega)) (Bool.eq_false_iff.2 fun h' => by have := (flush6_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩⟩
  obtain rfl : X0 = wts m c := hI.full m (by omega)
  obtain rfl : X2 = prod m c (t.val - 1) := (hI.2 (by omega) (by omega)).2 (by omega)
  iapply (stepEC c (grid0.coords t) _ _ _ _ _ _ _ _ _ _ _ _ _ _ _ _ _ _ _ _ (fun h => by have := (cond1_iff t).1 h; omega) (fun h => by have := (cond2_iff t).1 h; omega) ((cond3_iff t).2 (by omega)) (fun h => by have := (cond4_iff t).1 h; omega) (fun h => by have := (cond5_iff t).1 h; omega) (fun h => by have := (cond6_iff t).1 h; omega) (fun h => by have := (cond7_iff t).1 h; omega) _ _ _ _ _ _ Set.univ _)
  isplitl [H0]; · iexact H0
  isplitl [H2]; · iexact H2
  isplitl [H3]; · iexact H3
  isplitl [H4]; · iexact H4
  isplitl [S0]; · iexact S0
  isplitl [S2]; · iexact S2
  isplitl [H5]; · iexists _; iexact H5
  isplitl [S1]; · iexists _; iexact S1
  iintro ⟨H0, H2, H3, H4, S0, S2, H5, S1⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.odd (X2 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]
  · rw [show min t.val 43 = t.val by omega]; unfold tile; rw [pt_val]; iexact H5
  iexists _; iexact H6

set_option maxHeartbeats 1600000 in
/-- The body's triple at an odd point that finishes a latent tile. -/
theorem soundEL (c : Dev nD) (t : Fin cfg0.N) (h : 44 ≤ t.val ∧ t.val ≤ 74 ∧ t.val % 2 = 1) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4]
  rw [leaves_idle m c 5 t ((idle5_iff t).2 (by omega)) (Bool.eq_false_iff.2 fun h' => by have := (flush5_iff t).1 h'; omega)]
  rw [leaves_live m c 6 t (.inl (Bool.eq_false_iff.2 fun h' => by have := (idle6_iff t).1 h'; omega)), after0_6]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩⟩
  obtain rfl : X0 = wts m c := hI.full m (by omega)
  obtain rfl : X2 = prod m c (t.val - 1) := (hI.2 (by omega) (by omega)).2 (by omega)
  iapply (stepEL c (grid0.coords t) _ _ _ _ _ _ _ _ _ _ _ _ _ _ _ _ _ _ _ _ (fun h => by have := (cond1_iff t).1 h; omega) (fun h => by have := (cond2_iff t).1 h; omega) (fun h => by have := (cond3_iff t).1 h; omega) ((cond4_iff t).2 (by omega)) (fun h => by have := (cond5_iff t).1 h; omega) (fun h => by have := (cond6_iff t).1 h; omega) (fun h => by have := (cond7_iff t).1 h; omega) _ _ _ _ _ _ Set.univ _)
  isplitl [H0]; · iexact H0
  isplitl [H2]; · iexact H2
  isplitl [H3]; · iexact H3
  isplitl [H4]; · iexact H4
  isplitl [S0]; · iexact S0
  isplitl [S2]; · iexact S2
  isplitl [H6]; · iexists _; iexact H6
  isplitl [S1]; · iexists _; iexact S1
  iintro ⟨H0, H2, H3, H4, S0, S2, H6, S1⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.odd (X2 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]
  · iexists _; iexact H5
  unfold tile; rw [pt_val]; iexact H6

set_option maxHeartbeats 1600000 in
/-- The body's triple at an even point that finishes a context tile. -/
theorem soundOC (c : Dev nD) (t : Fin cfg0.N) (h : 12 ≤ t.val ∧ t.val ≤ 43 ∧ t.val % 2 = 0) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4]
  rw [leaves_live m c 5 t (.inl (Bool.eq_false_iff.2 fun h' => by have := (idle5_iff t).1 h'; omega)), after0_5]
  rw [leaves_idle m c 6 t ((idle6_iff t).2 (by omega)) (Bool.eq_false_iff.2 fun h' => by have := (flush6_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩⟩
  obtain rfl : X0 = wts m c := hI.full m (by omega)
  obtain rfl : X1 = prod m c (t.val - 1) := (hI.2 (by omega) (by omega)).1 (by omega)
  iapply (stepOC c (grid0.coords t) _ _ _ _ _ _ _ _ _ _ _ _ _ _ _ _ _ _ _ _ (fun h => by have := (cond1_iff t).1 h; omega) (fun h => by have := (cond2_iff t).1 h; omega) (fun h => by have := (cond3_iff t).1 h; omega) (fun h => by have := (cond4_iff t).1 h; omega) ((cond5_iff t).2 (by omega)) (fun h => by have := (cond6_iff t).1 h; omega) (fun h => by have := (cond7_iff t).1 h; omega) _ _ _ _ _ _ Set.univ _)
  isplitl [H0]; · iexact H0
  isplitl [H2]; · iexact H2
  isplitl [H3]; · iexact H3
  isplitl [H4]; · iexact H4
  isplitl [S0]; · iexact S0
  isplitl [S1]; · iexact S1
  isplitl [H5]; · iexists _; iexact H5
  isplitl [S2]; · iexists _; iexact S2
  iintro ⟨H0, H2, H3, H4, S0, S1, H5, S2⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.even (X1 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]
  · rw [show min t.val 43 = t.val by omega]; unfold tile; rw [pt_val]; iexact H5
  iexists _; iexact H6

set_option maxHeartbeats 1600000 in
/-- The body's triple at an even point that finishes a latent tile. -/
theorem soundOL (c : Dev nD) (t : Fin cfg0.N) (h : 44 ≤ t.val ∧ t.val ≤ 74 ∧ t.val % 2 = 0) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4]
  rw [leaves_idle m c 5 t ((idle5_iff t).2 (by omega)) (Bool.eq_false_iff.2 fun h' => by have := (flush5_iff t).1 h'; omega)]
  rw [leaves_live m c 6 t (.inl (Bool.eq_false_iff.2 fun h' => by have := (idle6_iff t).1 h'; omega)), after0_6]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩⟩
  obtain rfl : X0 = wts m c := hI.full m (by omega)
  obtain rfl : X1 = prod m c (t.val - 1) := (hI.2 (by omega) (by omega)).1 (by omega)
  iapply (stepOL c (grid0.coords t) _ _ _ _ _ _ _ _ _ _ _ _ _ _ _ _ _ _ _ _ (fun h => by have := (cond1_iff t).1 h; omega) (fun h => by have := (cond2_iff t).1 h; omega) (fun h => by have := (cond3_iff t).1 h; omega) (fun h => by have := (cond4_iff t).1 h; omega) (fun h => by have := (cond5_iff t).1 h; omega) ((cond6_iff t).2 (by omega)) (fun h => by have := (cond7_iff t).1 h; omega) _ _ _ _ _ _ Set.univ _)
  isplitl [H0]; · iexact H0
  isplitl [H2]; · iexact H2
  isplitl [H3]; · iexact H3
  isplitl [H4]; · iexact H4
  isplitl [S0]; · iexact S0
  isplitl [S1]; · iexact S1
  isplitl [H6]; · iexists _; iexact H6
  isplitl [S2]; · iexists _; iexact S2
  iintro ⟨H0, H2, H3, H4, S0, S1, H6, S2⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.even (X1 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]
  · iexists _; iexact H5
  unfold tile; rw [pt_val]; iexact H6

set_option maxHeartbeats 1600000 in
/-- The body's triple at the last point. -/
theorem soundN (c : Dev nD) (t : Fin cfg0.N) (h : t.val = 75) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4]
  rw [leaves_live m c 5 t (.inr ((flush5_iff t).2 (by omega))), after0_5]
  rw [leaves_live m c 6 t (.inl (Bool.eq_false_iff.2 fun h' => by have := (idle6_iff t).1 h'; omega)), after0_6]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩⟩
  obtain rfl : X0 = wts m c := hI.full m (by omega)
  obtain rfl : X2 = prod m c (t.val - 1) := (hI.2 (by omega) (by omega)).2 (by omega)
  iapply (stepN c (grid0.coords t) _ _ _ _ _ _ _ _ _ _ _ _ _ _ _ _ _ _ _ _ (fun h => by have := (cond1_iff t).1 h; omega) (fun h => by have := (cond2_iff t).1 h; omega) (fun h => by have := (cond3_iff t).1 h; omega) (fun h => by have := (cond4_iff t).1 h; omega) (fun h => by have := (cond5_iff t).1 h; omega) (fun h => by have := (cond6_iff t).1 h; omega) ((cond7_iff t).2 (by omega)) _ _ _ _ Set.univ _)
  isplitl [H2]; · iexact H2
  isplitl [H3]; · iexact H3
  isplitl [H4]; · iexact H4
  isplitl [S2]; · iexact S2
  isplitl [H6]; · iexists _; iexact H6
  iintro ⟨H2, H3, H4, S2, H6⟩
  isplitl [S0 S1 S2 Hg]
  · iexists _, _, _
    isplitr; swap
    · isplitl [S0]; · iexact S0
      isplitl [S1]; · iexact S1
      isplitl [S2]; · iexact S2
      iexact Hg
    ipureintro
    rw [h]; exact Inv.last m
  isplitl [Ho]; · iexact Ho
  isplitl [H0]; · iexact H0
  isplitl [H1]; · iexact H1
  isplitl [H2]; · iexact H2
  isplitl [H3]; · iexact H3
  isplitl [H4]; · iexact H4
  isplitl [H5]
  · rw [before0_5 m c d5 31 t (by omega), show min t.val 43 = 43 by omega]; iexact H5
  unfold tile; rw [pt_val]; iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  rcases (by omega : t.val < 11 ∨ t.val = 11 ∨ (12 ≤ t.val ∧ t.val ≤ 43 ∧ t.val % 2 = 1) ∨ (44 ≤ t.val ∧ t.val ≤ 74 ∧ t.val % 2 = 1)
      ∨ (12 ≤ t.val ∧ t.val ≤ 43 ∧ t.val % 2 = 0) ∨ (44 ≤ t.val ∧ t.val ≤ 74 ∧ t.val % 2 = 0) ∨ t.val = 75)
    with h | h | h | h | h | h | h
  · exact soundL m c t h
  · exact soundZ m c t h
  · exact soundEC m c t h
  · exact soundEL m c t h
  · exact soundOC m c t h
  · exact soundOL m c t h
  · exact soundN m c t h

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%X0, S0⟩, ⟨%X1, S1⟩, ⟨%X2, S2⟩⟩, Hg⟩
  iexists _, _, _
  isplitr; swap
  · isplitl [S0]; · iexact S0
    isplitl [S1]; · iexact S1
    isplitl [S2]; · iexact S2
    iexact Hg
  ipureintro
  exact Inv.first m

/-- After the last point the scratch's contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%X0, %X1, %X2, -, S0, S1, S2, Hg⟩
  isplitl [S0 S1 S2]
  · isplitl [S0]; · iexists _; iexact S0
    isplitl [S1]; · iexists _; iexact S1
    iexists _; iexact S2
  iexact Hg

set_option backward.isDefEq.respectTransparency.types false in
/-- Every execution terminates with the pipeline's arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution terminates with the pipeline's arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every execution terminates, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.DownIdeal.Down

end
-- ==== Proof.DownBits.Frame.lean ====
/-
  The last residual call: the frame of the program itself. Its body table is the ideal program's at any instance of the floats, so its runs are
  the runs of that one.
-/
module

public import proofs.«01_k».proof.Proof.Gen.Down.Skeleton
public import proofs.«01_k».proof.Proof.Down.Frame

@[expose] public section

set_option maxRecDepth 16384

noncomputable section

namespace Cert.Down.Down

open Idealize.ShloMosaic Idealize.ShloMosaic.TcCoe Idealize.SL.Sem

variable {F : FTy → Type} [FloatOps F]

set_option maxHeartbeats 4000000 in
/-- The kernels' body table is the ideal program's. -/
theorem defs₀_eq : defs₀ (F := F) = Cert.DownIdeal.defs₀ (F := F) := by
  unfold defs₀ Cert.DownIdeal.defs₀
  refine congrArg Defs.onTc (funext fun l => funext fun x => ?_)
  match l, x with
  | 0, (t, s) =>
    dsimp only
    rfl

set_option maxHeartbeats 4000000 in
/-- The frame: every execution terminates, the argument arrays unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  unfold defs
  rw [defs₀_eq]
  exact Cert.DownIdeal.Down.frame m ρ

end Cert.Down.Down

end
-- ==== Proof.Down.Kernel.lean ====
/-
  The down-projection's kernel at the ideal semantics: what each tile holds as a function of the arguments, and the two
  results after the run.
-/
module

public import proofs.«01_k».proof.Proof.Down.Frame
public import Idealize.ShloMosaic.Lib.Pointwise
public import Idealize.ShloMosaic.Lib.Pipeline.ValueKit
public import Idealize.ShloMosaic.Lib.Tactic

@[expose] public section

set_option maxRecDepth 16384

noncomputable section

namespace Cert.DownIdeal.Down

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- One row finished at column `l`: the residual plus half the gate times the row's RMS-normalised entry times its weight. -/
def rowVal (x g p : EReal) (y : Fin 2048 → EReal) (l : Fin 2048) : EReal :=
  x + Ideal.ofBits FTy.f32 1056964608#32 * g
    * (y l * Ideal.rsqrt (Ideal.div (∑ j, y j * y j) (Ideal.ofBits FTy.f32 1157627904#32) + Ideal.ofBits FTy.f32 897988541#32) * p)

/-- The body's chunk of sixteen rows, each finished. -/
theorem chunk_apply (g : Vec Ideal S1x1x2048 .f32) (p : Vec Ideal S1x2048 .f32) (x y : Vec Ideal S16x2048 .f32) (r : Fin 16)
    (l : Fin 2048) :
    chunk (F := Ideal) g p x y (ix2 r l) = rowVal (x (ix2 r l)) (g (ix3 0 0 l)) (p (ix2 0 l)) (fun j => y (ix2 r j)) l := by
  unfold chunk rowVal
  pointwise [k0_pay5, k0_pay4]

/-- The weights' rows as loaded. -/
theorem load_apply (w : Vec Ideal S1x1x512x2048 .f32) (r : Fin 512) (l : Fin 2048) :
    k0_pay121 (F := Ideal) w (ix2 r l) = w (ix4 0 0 r l) := by
  pointwise [k0_pay121]

/-- The product of a tile of rows with the weights. -/
theorem prod_apply (a : Vec Ideal S256x5632 .bf16) (w : Vec Ideal S5632x2048 .bf16) (r : Fin 256) (l : Fin 2048) :
    k0_pay3 (F := Ideal) a w (ix2 r l) = ∑ k : Fin 5632, a (ix2 r k) * w (ix2 k l) := by
  pointwise [k0_pay3]

theorem idx0 : ∀ t : Fin cfg0.N, win0_0.index t = ![min (t.val - 11) 63, 0] :=
  (by decide +kernel : ∀ t : Fin grid0.N, win0_0.index t = ![min (t.val - 11) 63, 0])
theorem idx1 : ∀ t : Fin cfg0.N, win0_1.index t = ![1, 1, min t.val 10, 0] :=
  (by decide +kernel : ∀ t : Fin grid0.N, win0_1.index t = ![1, 1, min t.val 10, 0])
theorem idx2 : ∀ t : Fin cfg0.N, win0_2.index t = ![min (t.val - 12) 63, 0] :=
  (by decide +kernel : ∀ t : Fin grid0.N, win0_2.index t = ![min (t.val - 12) 63, 0])
theorem idx3 : ∀ t : Fin cfg0.N, win0_3.index t = ![0, 0] :=
  (by decide +kernel : ∀ t : Fin grid0.N, win0_3.index t = ![0, 0])
/-- The gate's row: that of the context before point 44, then that of the latent batch element. -/
theorem idx4 : ∀ t : Fin cfg0.N, win0_4.index t = ![if t.val < 44 then 8 else 17 + 9 * (min (t.val - 44) 31 / 4), 0, 0] :=
  (by decide +kernel : ∀ t : Fin grid0.N, win0_4.index t = ![if t.val < 44 then 8 else 17 + 9 * (min (t.val - 44) 31 / 4), 0, 0])
theorem idx5 : ∀ t : Fin cfg0.N, win0_5.index t = ![min (t.val - 12) 31, 0] :=
  (by decide +kernel : ∀ t : Fin grid0.N, win0_5.index t = ![min (t.val - 12) 31, 0])
theorem idx6 : ∀ t : Fin cfg0.N, win0_6.index t = ![min (t.val - 12) 63 - 32, 0] :=
  (by decide +kernel : ∀ t : Fin grid0.N, win0_6.index t = ![min (t.val - 12) 63 - 32, 0])

/-- A chunk's row read from its tile. -/
theorem ld_rows (x : Vec Ideal S256x2048 .f32) (r : Fin 256) (h : r.val / 16 < 16) (h' : r.val % 16 < 16) (l : Fin 2048) :
    View.ld x (rowsRect ⟨r.val / 16, h⟩) (ix2 (⟨r.val % 16, h'⟩ : Fin 16) l) = x (ix2 r l) := by
  refine congrArg x (funext fun i => ?_)
  refine Fin.cases ?_ (fun i => Fin.cases ?_ (fun i => i.elim0) i) i
  · refine Fin.ext ?_
    refine (rows_emb_row _ _).trans ?_
    show 16 * (r.val / 16) + r.val % 16 = r.val
    omega
  · refine Fin.ext ?_
    show 0 + 1 * l.val = l.val
    omega

/-- A tile, each row finished. -/
theorem fin_apply (g : Vec Ideal S1x1x2048 .f32) (p : Vec Ideal S1x2048 .f32) (x y : Vec Ideal S256x2048 .f32) (r : Fin 256)
    (l : Fin 2048) :
    fin (F := Ideal) g p x y (ix2 r l) = rowVal (x (ix2 r l)) (g (ix3 0 0 l)) (p (ix2 0 l)) (fun j => y (ix2 r j)) l := by
  have h1 : r.val / 16 < 16 := by omega
  have h2 : r.val % 16 < 16 := by omega
  show chunk g p (View.ld x (rowsRect ⟨r.val / 16, h1⟩)) (View.ld y (rowsRect ⟨r.val / 16, h1⟩)) (ix2 ⟨r.val % 16, h2⟩ l) = _
  rw [chunk_apply, ld_rows]
  congr 1
  funext j
  exact ld_rows y r h1 h2 j

/-- The weights in the scratch are the second layer's second-half matrix. -/
theorem wts_apply (c : Dev nD) (k : Fin 5632) (l : Fin 2048) :
    wts m c (ix2 k l) = m ((c : Thread nD τ).loc main_arg1) (ix4 (1 : Fin 2) (1 : Fin 2) k l) := by
  have h1 : k.val / 512 < cfg0.N := by have : cfg0.N = 76 := N_0; omega
  have h2 : k.val % 512 < 512 := by omega
  show k0_pay121 (iblk m c 1 (⟨k.val / 512, h1⟩ : Fin cfg0.N)) (ix2 ⟨k.val % 512, h2⟩ l) = _
  rw [load_apply]
  blk_ext [iblk, V_main_arg1, idx1 ⟨k.val / 512, h1⟩]

/-- The normalisation's weights as the region finds them: the second layer's third row. -/
theorem V_gpost (c : Dev nD) (z : Fin 1) (l : Fin 2048) :
    V m c main_v2 (ix2 z l) = m ((c : Thread nD τ).loc main_arg4) (ix3 (1 : Fin 2) (2 : Fin 3) l) := by
  entry_read
  pointwise

/-- One entry of the result as a function of the arguments: row `r` of the product of `a` with the second layer's matrix,
    finished with row `q` of the modulation table as the gate and added to row `r` of `x`. -/
def downAt (a : S16384x5632.Idx → EReal) (w : S2x2x5632x2048.Idx → EReal) (x : S16384x2048.Idx → EReal)
    (g : S144x1x2048.Idx → EReal) (p : S2x3x2048.Idx → EReal) (r : Fin 16384) (q : Fin 144) (l : Fin 2048) : EReal :=
  rowVal (x (ix2 r l)) (g (ix3 q (0 : Fin 1) l)) (p (ix3 (1 : Fin 2) (2 : Fin 3) l))
    (fun j => ∑ k : Fin 5632, a (ix2 r k) * w (ix4 (1 : Fin 2) (1 : Fin 2) k j)) l

/-- The context rows: the gate is the table's ninth row. -/
def ctxVal (a : S16384x5632.Idx → EReal) (w : S2x2x5632x2048.Idx → EReal) (x : S16384x2048.Idx → EReal)
    (g : S144x1x2048.Idx → EReal) (p : S2x3x2048.Idx → EReal) : S8192x2048.Idx → EReal := fun y =>
  downAt a w x g p ⟨(y 0).val, by have h : (y 0).val < 8192 := (y 0).isLt; omega⟩ ⟨8, by omega⟩ (y 1)

/-- The latent rows: each 1024 of them, one batch element, have a gate row of their own. -/
def latVal (a : S16384x5632.Idx → EReal) (w : S2x2x5632x2048.Idx → EReal) (x : S16384x2048.Idx → EReal)
    (g : S144x1x2048.Idx → EReal) (p : S2x3x2048.Idx → EReal) : S8192x2048.Idx → EReal := fun y =>
  downAt a w x g p ⟨8192 + (y 0).val, by have h : (y 0).val < 8192 := (y 0).isLt; omega⟩
    ⟨(1 + (y 0).val / 1024) * 9 + 8, by have h : (y 0).val < 8192 := (y 0).isLt; omega⟩ (y 1)

theorem rowVal_congr {x x' g g' p p' : EReal} {y y' : Fin 2048 → EReal} (l : Fin 2048) (hx : x = x') (hg : g = g') (hp : p = p')
    (hy : ∀ j, y j = y' j) : rowVal x g p y l = rowVal x' g' p' y' l := by
  rw [hx, hg, hp, funext hy]

theorem sum_ext {f g : Fin 5632 → EReal} (h : ∀ k, f k = g k) : ∑ k, f k = ∑ k, g k := Finset.sum_congr rfl fun k _ => h k

/-- What a point finishes, read at an entry: the rows are the point's tile, the gate the tile's. -/
theorem tile_apply (c : Dev nD) (n : ℕ) (h12 : 12 ≤ n) (h75 : n ≤ 75) (r : Fin 256) (l : Fin 2048) (R : Fin 16384) (q : Fin 144)
    (hR : R.val = 256 * (n - 12) + r.val) (hq : q.val = if n < 44 then 8 else 17 + 9 * ((n - 44) / 4)) :
    tile m c n (ix2 r l) = downAt (m ((c : Thread nD τ).loc main_arg0)) (m ((c : Thread nD τ).loc main_arg1))
      (m ((c : Thread nD τ).loc main_arg2)) (m ((c : Thread nD τ).loc main_arg3)) (m ((c : Thread nD τ).loc main_arg4)) R q l := by
  have hp : (pt n).val = n := by show min n 75 = n; omega
  have hp' : (pt (n - 1)).val = n - 1 := by show min (n - 1) 75 = n - 1; omega
  have i0 := idx0 (pt (n - 1))
  have i2 := idx2 (pt n)
  have i3 := idx3 (pt n)
  have i4 := idx4 (pt n)
  rw [hp'] at i0
  rw [hp] at i2 i4
  unfold tile downAt
  rw [fin_apply]
  refine rowVal_congr l ?_ ?_ ?_ fun j => ?_
  · blk_ext [iblk, V_main_arg2, i2]
  · rw [show (if n < 44 then 8 else 17 + 9 * ((n - 44) / 4)) = if n < 44 then 8 else 17 + 9 * (min (n - 44) 31 / 4) by
      rw [show min (n - 44) 31 = n - 44 by omega]] at hq
    rw [← hq] at i4
    blk_ext [iblk, V_main_arg3, i4]
  · refine Eq.trans ?_ (V_gpost m c 0 l)
    blk_ext [iblk, i3]
  · unfold prod
    rw [prod_apply]
    refine sum_ext fun k => congrArg₂ (· * ·) ?_ (wts_apply m c k j)
    blk_ext [iblk, V_main_arg0, i0]

/-- The context result after the run. -/
theorem final5 (c : Dev nD) : (dats m 0 c).arrAt 5 cfg0.N
    = ctxVal (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, l, rfl⟩ : ∃ (r : Fin 256) (l : Fin 2048), y = ix2 r l := ⟨y 0, y 1, eq_ix2 y⟩
  have h := (flush5_iff t).1 hf
  have hr := r.isLt
  have e : (win0_5.blk t).view.emb (ix2 r l) = ix2 (⟨256 * (min t.val 43 - 12) + r.val, by omega⟩ : Fin 8192) l := by
    have i5 := idx5 t
    rw [show min (t.val - 12) 31 = min t.val 43 - 12 by omega] at i5
    blk_ext [i5]
  rw [e]
  exact tile_apply m c _ (by omega) (by omega) r l _ _ rfl (by split <;> first | rfl | omega)

/-- The latent result after the run. -/
theorem final6 (c : Dev nD) : (dats m 0 c).arrAt 6 cfg0.N
    = latVal (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨r, l, rfl⟩ : ∃ (r : Fin 256) (l : Fin 2048), y = ix2 r l := ⟨y 0, y 1, eq_ix2 y⟩
  have h := (flush6_iff t).1 hf
  have hr := r.isLt
  have ht : t.val < 76 := lt_of_lt_of_eq t.isLt (show cfg0.N = 76 from N_0)
  have e : (win0_6.blk t).view.emb (ix2 r l) = ix2 (⟨256 * (t.val - 44) + r.val, by omega⟩ : Fin 8192) l := by
    have i6 := idx6 t
    rw [show min (t.val - 12) 63 - 32 = t.val - 44 by omega] at i6
    blk_ext [i6]
  rw [e]
  refine tile_apply m c _ (by omega) (by omega) r l _ _ ?_ ?_
  · show 8192 + (256 * (t.val - 44) + r.val) = _
    omega
  · show (1 + (256 * (t.val - 44) + r.val) / 1024) * 9 + 8 = _
    rw [if_neg (by omega)]
    omega

end Cert.DownIdeal.Down

end
-- ==== Proof.Down.Ref.lean ====
/-
  The down-projection's reference, read at an index.
-/
module

public import proofs.«01_k».proof.Proof.Gen.DownRefIdeal.Read
public import proofs.«01_k».proof.Proof.Down.Kernel

@[expose] public section

noncomputable section

namespace Cert.DownRefIdeal.Down

open Cert.DownRefIdeal Cert.DownRefIdeal.Gen Cert.DownRefIdeal.Read Idealize.ShloMosaic Idealize.ShloMosaic.TcCoe Idealize.SL.Sem
open Cert.DownIdeal.Down (ctxVal latVal downAt rowVal)

/-- The reference's context rows. -/
theorem val_ctx (a : (⟨S16384x5632, .bf16⟩ : BufTy).Contents (Elt Ideal))
    (w : (⟨S2x2x5632x2048, .f32⟩ : BufTy).Contents (Elt Ideal)) (x : (⟨S16384x2048, .f32⟩ : BufTy).Contents (Elt Ideal))
    (g : (⟨S144x1x2048, .f32⟩ : BufTy).Contents (Elt Ideal)) (p : (⟨S2x3x2048, .f32⟩ : BufTy).Contents (Elt Ideal)) :
    val_main_v31 (F := Ideal) a w x g p = ctxVal a w x g p := by
  funext y
  obtain ⟨r, l, rfl⟩ : ∃ (r : Fin 8192) (l : Fin 2048), y = ix2 r l := ⟨y 0, y 1, eq_ix2 y⟩
  unfold ctxVal downAt rowVal
  pointwise [val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2]

/-- The reference's latent rows. -/
theorem val_lat (a : (⟨S16384x5632, .bf16⟩ : BufTy).Contents (Elt Ideal))
    (w : (⟨S2x2x5632x2048, .f32⟩ : BufTy).Contents (Elt Ideal)) (x : (⟨S16384x2048, .f32⟩ : BufTy).Contents (Elt Ideal))
    (g : (⟨S144x1x2048, .f32⟩ : BufTy).Contents (Elt Ideal)) (p : (⟨S2x3x2048, .f32⟩ : BufTy).Contents (Elt Ideal)) :
    val_main_v58 (F := Ideal) a w x g p = latVal a w x g p := by
  funext y
  obtain ⟨r, l, rfl⟩ : ∃ (r : Fin 8192) (l : Fin 2048), y = ix2 r l := ⟨y 0, y 1, eq_ix2 y⟩
  unfold latVal downAt rowVal
  pointwise [val_main_v58, val_main_v57, val_main_v56, val_main_v55, val_main_v54, val_main_v53, val_main_v52, val_main_v51,
    val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_v32, val_main_v6, val_main_v5, val_main_v4, val_main_v3, val_main_v2, val_main_v1,
    val_main_v0, val_main_cst_3, val_main_cst_4, val_main_cst_5, val_main_cst_6]

end Cert.DownRefIdeal.Down

end
-- ==== Proof.Down.Algebraic.lean ====
/-
  The down-projection against its reference: the two runs side by side, both pairs of results the same functions of the
  arguments.
-/
module

public import proofs.«01_k».proof.Defs
public import proofs.«01_k».proof.Proof.Down.Kernel
public import proofs.«01_k».proof.Proof.Down.Ref
public import proofs.«01_k».proof.Proof.Gen.DownRefIdeal.Run

@[expose] public section

noncomputable section

namespace Cert.Proof.Down

open Idealize.ShloMosaic Idealize.ShloMosaic.TcCoe Idealize.SL.Sem

/-- From equal arguments, at the ideal semantics, the kernel's two results equal the reference's. -/
theorem algebraic : Cert.algebraic_DownIdeal_DownRefIdeal (hDownIdeal := Cert.DownIdeal.Gen.facts)
    (hDownRefIdeal := Cert.DownRefIdeal.Gen.facts) := by
  intro m g m' g' _ hargs
  refine ⟨fun c => Cert.DownIdeal.Down.ctxVal (m ((c.tc : Thread _ _).loc Cert.DownIdeal.main_arg0))
      (m ((c.tc : Thread _ _).loc Cert.DownIdeal.main_arg1)) (m ((c.tc : Thread _ _).loc Cert.DownIdeal.main_arg2))
      (m ((c.tc : Thread _ _).loc Cert.DownIdeal.main_arg3)) (m ((c.tc : Thread _ _).loc Cert.DownIdeal.main_arg4)),
    fun c => Cert.DownIdeal.Down.latVal (m ((c.tc : Thread _ _).loc Cert.DownIdeal.main_arg0))
      (m ((c.tc : Thread _ _).loc Cert.DownIdeal.main_arg1)) (m ((c.tc : Thread _ _).loc Cert.DownIdeal.main_arg2))
      (m ((c.tc : Thread _ _).loc Cert.DownIdeal.main_arg3)) (m ((c.tc : Thread _ _).loc Cert.DownIdeal.main_arg4)), ?_, ?_⟩
  · refine (θ_run (Cert.DownIdeal.defs (F := Ideal)) _ _).mono (fun r h c => ?_)
      (θ_run_and (Cert.DownIdeal.Down.run_main (F := Ideal) m g) (Cert.DownIdeal.Down.unchanged (F := Ideal) m g))
    exact ⟨((h.1 c).1 5).trans (Cert.DownIdeal.Down.final5 m c), ((h.1 c).1 6).trans (Cert.DownIdeal.Down.final6 m c), h.2 c⟩
  · refine (θ_run (Cert.DownRefIdeal.defs (F := Ideal)) _ _).mono (fun r h c => ?_) (Cert.DownRefIdeal.Value.run (F := Ideal) m' g')
    obtain ⟨hv, hw, h0⟩ := h c
    obtain ⟨e0, e1, e2, e3, e4⟩ := hargs c
    refine ⟨hv.trans ?_, hw.trans ?_, h0⟩
    · refine ((Cert.DownRefIdeal.Read.val_main_v31_eq _ _ _ _ _).trans (Cert.DownRefIdeal.Down.val_ctx _ _ _ _ _)).trans ?_
      rw [e0, e1, e2, e3, e4]
    · refine ((Cert.DownRefIdeal.Read.val_main_v58_eq _ _ _ _ _).trans (Cert.DownRefIdeal.Down.val_lat _ _ _ _ _)).trans ?_
      rw [e0, e1, e2, e3, e4]

/-- The reference terminates, keeps its arguments and leaves every semaphore counter at zero. -/
theorem frame_ref : Cert.quiescent_DownRefIdeal (hDownRefIdeal := Cert.DownRefIdeal.Gen.facts) := fun m g _ =>
  (θ_run (Cert.DownRefIdeal.defs (F := Ideal)) _ _).mono
    (fun r h => ⟨fun c => (h c).2.2, Idealize.ShloMosaic.sem_eq_zero_of_no_sems (by decide) r.2⟩)
    (Cert.DownRefIdeal.Value.run (F := Ideal) m g)

end Cert.Proof.Down

end
-- ==== Proof.Gates.Kernel.lean ====
/-
  The combined input projection at the columns of the merge gates: the same body as at the columns of `z`, over six other column
  blocks of the weights. The row tiles are those of the call at `z`.
-/
module

public import proofs.«01_k».proof.Proof.Gen.GatesIdeal.Value
public import proofs.«01_k».proof.Proof.Proj.Kernel

@[expose] public section

noncomputable section

namespace Cert.GatesIdeal.Gates

open Cert.GatesIdeal Cert.GatesIdeal.Gen Idealize.ShloMosaic Idealize.ShloMosaic.TcCoe Idealize.SL.Sem
open Idealize.ShloMosaic.Pipeline (Dat)
open Cert.ProjIdeal.Proj (blockVal tiles_forall hz2 hz3 sum_ext)

/-- A weight block as the body stores it in the scratch, read at an index. -/
theorem w_apply (x : Vec Ideal S1x2048x1024 .f32) (k : Fin 2048) (l : Fin 1024) :
    k0_pay5 (F := Ideal) x (ix2 k l) = x (ix3 0 k l) := Cert.ProjIdeal.Proj.w_apply x k l

/-- At a point that reads the carried weights (every point but the first of a column), the block it leaves is the product with
    the scratch. -/
theorem out_B (c : Dev nD) (i : grid0.Coords) (arg2 : Memref sig .tc .vmem S2048x2048 .bf16) (harg2 : arg2.IsWhole) (arg3 : Memref sig .tc .vmem S1x2048x1024 .f32) (harg3 : arg3.IsWhole)
    (arg4 : Memref sig .tc .vmem S2048x1024 .bf16) (harg4 : arg4.IsWhole) (arg5 : Memref sig .tc .vmem S2048x1024 .bf16) (harg5 : arg5.IsWhole) (hc0 : ¬cond0_0 i)
    (x0 : Vec Ideal S2048x2048 .bf16) (x1 : Vec Ideal S1x2048x1024 .f32) (xs0 : Vec Ideal S2048x1024 .bf16) :
    out0_B_2 c i arg2 harg2 arg3 harg3 arg4 harg4 arg5 harg5 hc0 x0 x1 xs0 = blockVal x0 xs0 := by
  unfold out0_B_2
  rw [View.read_writes_eq_canon _ _ _ (cover0_B_2 c i arg2 harg2 arg3 harg3 arg4 harg4 arg5 harg5 hc0 x0 x1 xs0)]
  funext y
  have hcov := cover0_B_2 c i arg2 harg2 arg3 harg3 arg4 harg4 arg5 harg5 hc0 x0 x1 xs0 y
  refine View.canon_apply_of_pieces (blockVal x0 xs0) _ ?_ y hcov
  unfold kernelRun0_B
  dsimp only
  sl_unfold_words
  simp only [View.readAt_eq_ld, harg2.read_unread, harg5.read_unread, View.ld_unit_zero (S := S2048x1024) hz2]
  exact tiles_forall x0 xs0

/-- At the first point of a column the block it leaves is the product with the weight block, stored first in the scratch and
    read back. -/
theorem out_A (c : Dev nD) (i : grid0.Coords) (arg2 : Memref sig .tc .vmem S2048x2048 .bf16) (harg2 : arg2.IsWhole) (arg3 : Memref sig .tc .vmem S1x2048x1024 .f32) (harg3 : arg3.IsWhole)
    (arg4 : Memref sig .tc .vmem S2048x1024 .bf16) (harg4 : arg4.IsWhole) (arg5 : Memref sig .tc .vmem S2048x1024 .bf16) (harg5 : arg5.IsWhole) (hc0 : cond0_0 i)
    (x0 : Vec Ideal S2048x2048 .bf16) (x1 : Vec Ideal S1x2048x1024 .f32) :
    out0_A_2 c i arg2 harg2 arg3 harg3 arg4 harg4 arg5 harg5 hc0 x0 x1 = blockVal x0 (k0_pay5 x1) := by
  unfold out0_A_2
  rw [View.read_writes_eq_canon _ _ _ (cover0_A_2 c i arg2 harg2 arg3 harg3 arg4 harg4 arg5 harg5 hc0 x0 x1)]
  funext y
  have hcov := cover0_A_2 c i arg2 harg2 arg3 harg3 arg4 harg4 arg5 harg5 hc0 x0 x1 y
  refine View.canon_apply_of_pieces (blockVal x0 (k0_pay5 x1)) _ ?_ y hcov
  unfold kernelRun0_A
  dsimp only
  sl_unfold_words
  simp only [View.readAt_eq_ld, harg2.read_unread, harg3.read_unread, View.readCov_unit_zero (S := S2048x1024) _ hz2,
    View.ld_unit_zero (S := S1x2048x1024) hz3]
  exact tiles_forall x0 (k0_pay5 x1)

/-- What the first point of a column leaves in the scratch: the weight block. -/
theorem sout_A (c : Dev nD) (i : grid0.Coords) (arg2 : Memref sig .tc .vmem S2048x2048 .bf16) (harg2 : arg2.IsWhole) (arg3 : Memref sig .tc .vmem S1x2048x1024 .f32) (harg3 : arg3.IsWhole)
    (arg4 : Memref sig .tc .vmem S2048x1024 .bf16) (harg4 : arg4.IsWhole) (arg5 : Memref sig .tc .vmem S2048x1024 .bf16) (harg5 : arg5.IsWhole) (hc0 : cond0_0 i)
    (x0 : Vec Ideal S2048x2048 .bf16) (x1 : Vec Ideal S1x2048x1024 .f32) :
    sout0_A_0 c i arg2 harg2 arg3 harg3 arg4 harg4 arg5 harg5 hc0 x0 x1 = k0_pay5 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz2]
  simp only [View.readAt_eq_ld, harg3.read_unread, View.ld_unit_zero (S := S1x2048x1024) hz3]

variable (m : (ℓ : Loc nD τ sig) → Buf (Elt Ideal) ℓ) (ρ : Dev nD → PrngReg)

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 0, 11 + t.val / 8] :=
  (by decide +kernel : ∀ t : Fin grid0.N, win0_1.index t = ![0, 0, 11 + t.val / 8])
theorem idx2 : ∀ t : Fin cfg0.N, win0_2.index t = ![t.val % 8, t.val / 8] :=
  (by decide +kernel : ∀ t : Fin grid0.N, win0_2.index t = ![t.val % 8, t.val / 8])

theorem N_eq : cfg0.N = 48 := N_0

/-- Column block `11 + j` of the weights, as the scratch holds it. -/
def wcol (c : Dev nD) (j : Nat) (hj : j < 6) : Vec Ideal S2048x1024 .bf16 := fun y =>
  m ((c : Thread nD τ).loc main_arg1) (ix3 (0 : Fin 2) (y 0) (⟨(11 + j) * 1024 + (y 1).val, by have h : (y 1).val < 1024 := (y 1).isLt; omega⟩ : Fin 17408))

theorem wcol_congr (c : Dev nD) {j j' : Nat} (h : j = j') (hj : j < 6) (hj' : j' < 6) : wcol m c j hj = wcol m c j' hj' := by
  subst h; rfl

/-- The weight window's block at a point is the point's column block. -/
theorem iblk1 (c : Dev nD) (t : Fin cfg0.N) :
    k0_pay5 (F := Ideal) (iblk m c 1 t) = wcol m c (t.val / 8) (by have := t.isLt; have := N_eq; omega) := by
  funext y
  obtain ⟨k, l, rfl⟩ : ∃ k l, y = ix2 k l := ⟨y 0, y 1, eq_ix2 y⟩
  rw [w_apply]
  unfold wcol
  blk_ext [iblk, V_main_arg1, idx1 t]

/-- After any point the scratch holds the point's column block of the weights: stored at the column's first point and carried
    since. -/
theorem scratch_eq (c : Dev nD) : ∀ (n : Nat) (hn : n < cfg0.N),
    (outsAt0 m c n hn).2 = wcol m c (n / 8) (by have := N_eq; omega) := by
  intro n
  induction n with
  | zero =>
    intro hn
    rw [show outsAt0 m c 0 hn = _ from outsAt0_A m c ⟨0, hn⟩ rfl]
    dsimp only
    rw [sout_A, iblk1]
  | succ n ih =>
    intro hn
    by_cases h0 : (n + 1) % 8 = 0
    · rw [show outsAt0 m c (n + 1) hn = _ from outsAt0_A m c ⟨n + 1, hn⟩ h0]
      dsimp only
      rw [sout_A, iblk1]
    · rw [show outsAt0 m c (n + 1) hn = _ from outsAt0_B m c ⟨n + 1, hn⟩ h0]
      dsimp only
      exact (ih (by omega)).trans (wcol_congr m c (by omega) _ _)

/-- After any point the output's staging buffer holds the product of the point's row block and its column block. -/
theorem outs_eq (c : Dev nD) (t : Fin cfg0.N) :
    (outsAt0 m c t.val t.isLt).1 = blockVal (iblk m c 0 t) (wcol m c (t.val / 8) (by have := t.isLt; have := N_eq; omega)) := by
  by_cases h0 : t.val % 8 = 0
  · rw [outsAt0_A m c t h0]
    dsimp only
    rw [out_A, iblk1]
  · rw [outsAt0_B m c t h0]
    dsimp only
    have := N_eq
    have := t.isLt
    rw [out_B, scratch_eq m c (t.val - 1) (by omega), wcol_congr m c (show (t.val - 1) / 8 = t.val / 8 by omega) _ (by omega)]

/-- The result as a function of the two arguments: row `r` of `h` times column `11264 + l` of the weights. -/
def gatesVal (h : S16384x2048.Idx → EReal) (w : S2x2048x17408.Idx → EReal) : S16384x6144.Idx → EReal := fun y =>
  ∑ k : Fin 2048, h (ix2 (y 0) k) * w (ix3 (0 : Fin 2) k (⟨11264 + (y 1).val, by have h : (y 1).val < 6144 := (y 1).isLt; omega⟩ : Fin 17408))

/-- The result array after the run. -/
theorem final (c : Dev nD) : (dats m 0 c).arrAt 2 cfg0.N
    = gatesVal (m ((c : Thread nD τ).loc main_arg0)) (m ((c : Thread nD τ).loc main_arg1)) := by
  refine (dats m 0 c).arrAt_eq_of_covers 2 _ (by decide +kernel) fun t hf y => ?_
  blk_simp
  rw [after0_2, outs_eq]
  obtain ⟨r, l, rfl⟩ : ∃ (r : Fin 2048) (l : Fin 1024), y = ix2 r l := ⟨y 0, y 1, eq_ix2 y⟩
  unfold blockVal gatesVal wcol
  refine sum_ext fun k => congrArg₂ (· * ·) ?_ ?_ <;> blk_ext [iblk, V_main_arg0, idx0 t, idx2 t]

end Cert.GatesIdeal.Gates

end
-- ==== Proof.Gates.Ref.lean ====
/-
  The reference of the combined input projection at the gates' columns, read at an index.
-/
module

public import proofs.«01_k».proof.Proof.Gen.GatesRefIdeal.Read
public import proofs.«01_k».proof.Proof.Gates.Kernel

@[expose] public section

noncomputable section

namespace Cert.GatesRefIdeal.Gates

open Cert.GatesRefIdeal Cert.GatesRefIdeal.Gen Cert.GatesRefIdeal.Read Idealize.ShloMosaic Idealize.ShloMosaic.TcCoe Idealize.SL.Sem
open Cert.GatesIdeal.Gates (gatesVal)

/-- The reference's result is the product of the arguments over the last six column blocks. -/
theorem val_eq (h : (⟨S16384x2048, .bf16⟩ : BufTy).Contents (Elt Ideal)) (w : (⟨S2x2048x17408, .f32⟩ : BufTy).Contents (Elt Ideal)) :
    val_main_v5 (F := Ideal) h w = gatesVal h w := by
  funext y
  obtain ⟨r, l, rfl⟩ : ∃ (r : Fin 16384) (l : Fin 6144), y = ix2 r l := ⟨y 0, y 1, eq_ix2 y⟩
  unfold gatesVal
  pointwise [val_main_v5, val_main_v4, val_main_v3, val_main_v2, val_main_v1, val_main_v0]

end Cert.GatesRefIdeal.Gates

end
-- ==== Proof.Gates.Algebraic.lean ====
/-
  The combined input projection at the gates' columns against its reference: the two runs side by side, both results the product of the arguments.
-/
module

public import proofs.«01_k».proof.Defs
public import proofs.«01_k».proof.Proof.Gates.Kernel
public import proofs.«01_k».proof.Proof.Gates.Ref
public import proofs.«01_k».proof.Proof.Gen.GatesRefIdeal.Run

@[expose] public section

noncomputable section

namespace Cert.Proof.Gates

open Idealize.ShloMosaic Idealize.ShloMosaic.TcCoe Idealize.SL.Sem

/-- From equal arguments, at the ideal semantics, the kernel's result equals the reference's. -/
theorem algebraic : Cert.algebraic_GatesIdeal_GatesRefIdeal (hGatesIdeal := Cert.GatesIdeal.Gen.facts)
    (hGatesRefIdeal := Cert.GatesRefIdeal.Gen.facts) := by
  intro m g m' g' _ hargs
  refine ⟨fun c => Cert.GatesIdeal.Gates.gatesVal (m ((c.tc : Thread _ _).loc Cert.GatesIdeal.main_arg0))
    (m ((c.tc : Thread _ _).loc Cert.GatesIdeal.main_arg1)), ?_, ?_⟩
  · refine (θ_run (Cert.GatesIdeal.defs (F := Ideal)) _ _).mono (fun r h c => ?_) (Cert.GatesIdeal.Value.run_blocks (F := Ideal) m g)
    obtain ⟨hv, h0, h1⟩ := h c
    exact ⟨hv.trans (Cert.GatesIdeal.Gates.final m c), h0, h1⟩
  · refine (θ_run (Cert.GatesRefIdeal.defs (F := Ideal)) _ _).mono (fun r h c => ?_) (Cert.GatesRefIdeal.Value.run (F := Ideal) m' g')
    obtain ⟨hv, h0, h1⟩ := h c
    refine ⟨hv.trans ?_, h0, h1⟩
    exact ((Cert.GatesRefIdeal.Read.val_main_v5_eq _ _).trans (Cert.GatesRefIdeal.Gates.val_eq _ _)).trans
      (congrArg₂ Cert.GatesIdeal.Gates.gatesVal (hargs c).1 (hargs c).2)

/-- The reference terminates, keeps its arguments and leaves every semaphore counter at zero. -/
theorem frame_ref : Cert.quiescent_GatesRefIdeal (hGatesRefIdeal := Cert.GatesRefIdeal.Gen.facts) := fun m g _ =>
  (θ_run (Cert.GatesRefIdeal.defs (F := Ideal)) _ _).mono
    (fun r h => ⟨fun c => (h c).2, Idealize.ShloMosaic.sem_eq_zero_of_no_sems (by decide) r.2⟩)
    (Cert.GatesRefIdeal.Value.run (F := Ideal) m g)

end Cert.Proof.Gates

end
-- ==== Proof.Rows.lean ====
/-
  A tile of 256 rows stored sixteen rows at a time.
-/
module

public import Idealize.ShloMosaic.Lib.Writes
public import Idealize.ShloMosaic.Lib.WritesUnit
public import Idealize.ShloMosaic.Lib.VecWindow
public import Idealize.ShloMosaic.Lib.Pipeline.ValueKit

@[expose] public section

noncomputable section

namespace Cert.Rows

open Idealize.ShloMosaic

variable {F : FTy → Type} [FloatOps F] {e : EltTy}

abbrev T : Shape := ⟨2, ![256, 2048]⟩
abbrev C : Shape := ⟨2, ![16, 2048]⟩

/-- Rows `16 q` to `16 q + 15` of a tile lie inside it. -/
theorem rows_inb (q : Fin 16) : ∀ a, (![16 * q.val, 0] : Fin 2 → ℕ) a + C.size a ≤ T.size a := by
  have := q.isLt
  intro a
  match a with
  | 0 => show 16 * q.val + 16 ≤ 256; omega
  | 1 => show 0 + 2048 ≤ 2048; omega

/-- The rectangle of rows `16 q` to `16 q + 15` of a tile. -/
abbrev rowsRect (q : Fin 16) : Rect T := Rect.unit (s := T) ![16 * q.val, 0] C.size (rows_inb q)

/-- The tile made of sixteen chunks. -/
def stack (ch : Fin 16 → Vec F C e) : Vec F T e := fun j =>
  ch ⟨(j 0).val / 16, by have h : (j 0).val < 256 := (j 0).isLt; omega⟩ (ix2 ⟨(j 0).val % 16, by omega⟩ (j 1))

/-- The stores of sixteen chunks, last first. -/
def pieces (ch : Fin 16 → Vec F C e) : List (View.Piece (Elt F) T e) :=
  ([15, 14, 13, 12, 11, 10, 9, 8, 7, 6, 5, 4, 3, 2, 1, 0] : List (Fin 16)).map fun q => ⟨rowsRect q, ch q⟩

/-- Row `r` of chunk `q` is row `16 q + r` of the tile. -/
theorem rows_emb_row (q : Fin 16) (j : (rowsRect q).shape.Idx) : ((rowsRect q).emb j 0).val = 16 * q.val + (j 0).val := by
  show 16 * q.val + 1 * (j 0).val = _; omega

theorem rows_emb_col (q : Fin 16) (j : (rowsRect q).shape.Idx) : ((rowsRect q).emb j 1).val = (j 1).val := by
  show 0 + 1 * (j 1).val = _; omega

/-- A chunk read out of its tile. -/
theorem stack_at (ch : Fin 16 → Vec F C e) (q : Fin 16) (j : (rowsRect q).shape.Idx) : ch q j = stack ch ((rowsRect q).emb j) := by
  have hj : (j 0).val < 16 := (j 0).isLt
  have e0 := rows_emb_row q j
  have hq : (⟨((rowsRect q).emb j 0).val / 16, by have h : ((rowsRect q).emb j 0).val < 256 := ((rowsRect q).emb j 0).isLt; omega⟩ : Fin 16) = q :=
    Fin.ext (by show ((rowsRect q).emb j 0).val / 16 = q.val; omega)
  unfold stack
  rw [hq]
  refine congrArg _ (funext fun a => ?_)
  match a with
  | 0 => exact Fin.ext (by show (j 0).val = ((rowsRect q).emb j 0).val % 16; omega)
  | 1 => exact Fin.ext (rows_emb_col q j).symm

/-- The stores cover the tile. -/
theorem pieces_cover (ch : Fin 16 → Vec F C e) (j : T.Idx) : ∃ pc ∈ pieces ch, j ∈ pc.1.set := by
  have h : (j 0).val < 256 := (j 0).isLt
  refine ⟨_, List.mem_map.2 ⟨⟨(j 0).val / 16, by omega⟩, ?_, rfl⟩, ?_⟩
  · generalize (⟨(j 0).val / 16, _⟩ : Fin 16) = q
    revert q; decide
  · rw [Rect.mem_set_unit]
    intro a
    match a with
    | 0 => show 16 * ((j 0).val / 16) ≤ (j 0).val ∧ (j 0).val < 16 * ((j 0).val / 16) + 16; omega
    | 1 => have h1 : (j 1).val < 2048 := (j 1).isLt
           show 0 ≤ (j 1).val ∧ (j 1).val < 0 + 2048; omega

/-- What the stores of sixteen chunks leave is the tile they make, whatever was there before. -/
theorem read_pieces {sig' : RefSig} {κ : Kind} {sp : Space} (v : View sig' κ sp T e) (f : v.ty.Contents (Elt F))
    (ch : Fin 16 → Vec F C e) : v.read (Elt F) (v.writes (Elt F) f (pieces ch)) = stack ch := funext fun j => by
  refine View.read_writes_apply_of_pieces v f (stack ch) _ (fun pc hpc => ?_) j (pieces_cover ch j)
  obtain ⟨q, -, rfl⟩ := List.mem_map.1 hpc
  exact fun k => stack_at ch q k

/-- A chunk's row read from its tile. -/
theorem ld_rows (x : Vec F T e) (r : Fin 256) (h : r.val / 16 < 16) (h' : r.val % 16 < 16) (l : Fin 2048) :
    View.ld x (rowsRect ⟨r.val / 16, h⟩) (ix2 (⟨r.val % 16, h'⟩ : Fin 16) l) = x (ix2 r l) := by
  refine congrArg x (funext fun i => ?_)
  refine Fin.cases ?_ (fun i => Fin.cases ?_ (fun i => i.elim0) i) i
  · refine Fin.ext ?_
    refine (rows_emb_row _ _).trans ?_
    show 16 * (r.val / 16) + r.val % 16 = r.val
    omega
  · refine Fin.ext ?_
    show 0 + 1 * l.val = l.val
    omega

end Cert.Rows

end
-- ==== Proof.Next.Cells.lean ====
/-
  What the residual call's body stores, in closed form: finished tiles, product tiles and weight rows.
-/
module

public import proofs.«01_k».proof.Proof.Gen.NextIdeal.Skeleton
public import proofs.«01_k».proof.Proof.Gen.NextIdeal.Frame
public import proofs.«01_k».proof.Proof.Rows

@[expose] public section

set_option maxRecDepth 16384

noncomputable section

namespace Cert.NextIdeal.Next

open Cert.NextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Rows (rowsRect stack pieces read_pieces)

/-- Sixteen rows of the residual output: the residual rows plus half the gate times the normed product rows scaled by the
    norm's weight. -/
abbrev xrows (g : Vec F S1x1x2048 .f32) (p : Vec F S1x2048 .f32) (x y : Vec F S256x2048 .f32) (q : Fin 16) : Vec F S16x2048 .f32 :=
  k0_pay5 g (View.ld x (rowsRect q)) (View.ld y (rowsRect q)) p

/-- Sixteen of the next rows: the residual output's, normed, scaled and shifted. -/
abbrev hrows (g : Vec F S1x1x2048 .f32) (p p' : Vec F S1x2048 .f32) (sc sh : Vec F S1x1x2048 .f32) (x y : Vec F S256x2048 .f32)
    (q : Fin 16) : Vec F S16x2048 .bf16 :=
  k0_pay7 (xrows g p x y q) (k0_pay6 p') sc sh

/-- The product of a tile of rows with the weights. -/
abbrev product (a : Vec F S256x5632 .bf16) (w : Vec F S5632x2048 .bf16) : Vec F S256x2048 .f32 := k0_pay3 a w

/-- A block of weight rows as it is stored. -/
abbrev loaded (w : Vec F S1x1x512x2048 .f32) : Vec F S512x2048 .bf16 := k0_pay210 w

theorem ld_vec3 (g : Vec F S1x1x2048 .f32) :
    View.ld g (Rect.unit (s := S1x1x2048) ![0, 0, 0] S1x1x2048.size inb_S1x1x2048_S1x1x2048_0_0_0) = g :=
  View.ld_unit_zero (by decide) _ _

theorem ld_vec2 (p : Vec F S1x2048 .f32) :
    View.ld p (Rect.unit (s := S1x2048) ![0, 0] S1x2048.size inb_S1x2048_S1x2048_0_0) = p :=
  View.ld_unit_zero (by decide) _ _

/-- The store of a whole product tile. -/
def whole (a : Vec F S256x5632 .bf16) (w : Vec F S5632x2048 .bf16) : List (View.Piece (Elt F) S256x2048 .f32) :=
  [⟨Rect.unit (s := S256x2048) ![0, 0] S256x2048.size inb_S256x2048_S256x2048_0_0,
    product (View.ld a (Rect.unit (s := S256x5632) ![0, 0] S256x5632.size inb_S256x5632_S256x5632_0_0))
      (View.ld w (Rect.unit (s := S5632x2048) ![0, 0] S5632x2048.size inb_S5632x2048_S5632x2048_0_0))⟩]

/-- It leaves the product of the tile of `up` with the weights. -/
theorem read_whole {sig' : RefSig} {κ : Kind} {sp : Space} (v : View sig' κ sp S256x2048 .f32) (f : v.ty.Contents (Elt F))
    (a : Vec F S256x5632 .bf16) (w : Vec F S5632x2048 .bf16) :
    v.read (Elt F) (v.writes (Elt F) f (whole a w)) = product a w := by
  unfold whole
  rw [View.ld_unit_zero (by decide), View.ld_unit_zero (by decide)]
  exact View.read_writes_full v f _ _ _

/-- The scratch weights after a loading point has stored its block of rows: the rows of the block are the stored ones,
    the others as before. -/
def put (n : ℕ) (w : Vec F S1x1x512x2048 .f32) (x : Vec F S5632x2048 .bf16) : Vec F S5632x2048 .bf16 := fun j =>
  if h : 512 * n ≤ (j 0).val ∧ (j 0).val < 512 * n + 512 then loaded w (ix2 ⟨(j 0).val - 512 * n, by omega⟩ (j 1)) else x j

/-- The block of rows a loading point stores starts at row `512` times the point. -/
theorem load_off : ∀ t : Fin grid0.N, k0_cond1 (grid0.coords t) = 1#1 → k0_off1 (grid0.coords t) = ![512 * t.val, 0] := by
  decide +kernel

/-- What the load's store leaves in the scratch. -/
theorem read_load {sig' : RefSig} {κ : Kind} {sp : Space} (v : View sig' κ sp S5632x2048 .bf16) (f : v.ty.Contents (Elt F))
    (n : ℕ) (off : Fin 2 → ℕ) (hoff : off = ![512 * n, 0]) (inb : ∀ a, off a + S512x2048.size a ≤ S5632x2048.size a)
    (w : Vec F S1x1x512x2048 .f32) :
    v.read (Elt F) (v.writes (Elt F) f [⟨Rect.unit (s := S5632x2048) off S512x2048.size inb,
      loaded (View.ld w (Rect.unit (s := S1x1x512x2048) ![0, 0, 0, 0] S1x1x512x2048.size inb_S1x1x512x2048_S1x1x512x2048_0_0_0_0))⟩])
      = put n w (v.read (Elt F) f) := funext fun j => by
  subst hoff
  rw [View.ld_unit_zero (by decide)]
  have h1 : (j 1).val < 2048 := (j 1).isLt
  unfold put
  by_cases h : 512 * n ≤ (j 0).val ∧ (j 0).val < 512 * n + 512
  · rw [dif_pos h]
    refine View.read_writes_cons_unit_of_mem v f inb _ [] j (ix2 ⟨(j 0).val - 512 * n, by omega⟩ (j 1)) rfl fun a => ?_
    match a with
    | 0 => show (j 0).val = 512 * n + ((j 0).val - 512 * n); omega
    | 1 => show (j 1).val = 0 + (j 1).val; omega
  · rw [dif_neg h]
    refine (View.read_writes_cons_unit_of_not_mem v f inb _ [] j rfl 0 ?_).trans rfl
    show (j 0).val < 512 * n ∨ 512 * n + 512 ≤ (j 0).val
    omega

end Cert.NextIdeal.Next

end
-- ==== Proof.Next.Steps.lean ====
/-
  The residual call's body at each kind of grid point, from owned buffers to owned buffers.
-/
module

public import proofs.«01_k».proof.Proof.Next.Cells

@[expose] public section

set_option maxRecDepth 16384

noncomputable section

namespace Cert.NextIdeal.Next

open Cert.NextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Rows (stack read_pieces)

local notation "𝕄" => MT nD τ sig Unit (Elt F) ℕ (UR sig nD τ) ℕ

variable (c : Dev nD) (i : grid0.Coords)
  (arg1 : Memref sig .tc .vmem S256x5632 .bf16) (harg1 : arg1.IsWhole)
  (arg2 : Memref sig .tc .vmem S1x1x512x2048 .f32) (harg2 : arg2.IsWhole)
  (arg3 : Memref sig .tc .vmem S256x2048 .f32) (harg3 : arg3.IsWhole)
  (arg4 : Memref sig .tc .vmem S1x2048 .f32) (harg4 : arg4.IsWhole)
  (arg5 : Memref sig .tc .vmem S1x1x2048 .f32) (harg5 : arg5.IsWhole)
  (arg6 : Memref sig .tc .vmem S1x2048 .f32) (harg6 : arg6.IsWhole)
  (arg7 : Memref sig .tc .vmem S1x1x2048 .f32) (harg7 : arg7.IsWhole)
  (arg8 : Memref sig .tc .vmem S1x1x2048 .f32) (harg8 : arg8.IsWhole)
  (arg9 : Memref sig .tc .vmem S256x2048 .f32) (harg9 : arg9.IsWhole)
  (arg10 : Memref sig .tc .vmem S256x2048 .bf16) (harg10 : arg10.IsWhole)
  (arg11 : Memref sig .tc .vmem S5632x2048 .bf16) (harg11 : arg11.IsWhole)
  (arg12 : Memref sig .tc .vmem S256x2048 .f32) (harg12 : arg12.IsWhole)
  (arg13 : Memref sig .tc .vmem S256x2048 .f32) (harg13 : arg13.IsWhole)

/-- The body with its parts unfolded, in one piece. -/
def skel : { p : Prog _ _ // cc0__rowout_kernel (F := F) i arg1 harg1 arg2 harg2 arg3 harg3 arg4 harg4 arg5 harg5 arg6 harg6 arg7 harg7 arg8 harg8 arg9 harg9 arg10 harg10 arg11 harg11 arg12 harg12 arg13 harg13 = p } := by
  refine ⟨?_, ?h⟩
  case h =>
    simp only [cc0__rowout_kernel_eq_skeleton]; unfold cc0__rowout_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    exact rfl

set_option maxHeartbeats 8000000 in
/-- The body at a loading point: it stores its weight rows into the scratch `arg11`. -/
theorem stepL (hc1 : k0_cond1 i = 1#1) (hc2 : ¬(Scalar.cmpi .ne (Scalar.extui (Scalar.cmpi .eq (Scalar.subi (BitVec.ofNat 32 (i 0).val) 11#32) 0#32)) 0#32) = 1#1) (hc3 : ¬k0_cond3 i = 1#1) (hc4 : ¬k0_cond4 i = 1#1) (hc5 : ¬k0_cond5 i = 1#1) (n : ℕ) (hoff : k0_off1 i = ![512 * n, 0])
    (x2 : Vec F S1x1x512x2048 .f32) (x11 : Vec F S5632x2048 .bf16) (E : Set ℕ) (K : PUnit → sProp 𝕄) :
    iprop(owns (c : Thread nD τ) arg2 fullShare x2 ∗ owns (c : Thread nD τ) arg11 fullShare x11 ∗ (iprop(owns (c : Thread nD τ) arg2 fullShare x2 ∗ owns (c : Thread nD τ) arg11 fullShare (put n x2 x11)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f2, %hf2, H2⟩, ⟨%f11, %hf11, H11⟩, Hk⟩
  obtain rfl := harg2.eq_unread hf2; obtain rfl := harg11.eq_unread hf11
  sl_exec (disch := first | sl_exact hc1 | sl_exact hc2 | sl_exact hc3 | sl_exact hc4 | sl_exact hc5)
  sl_step
  iapply Hk
  isplitl [H2]
  · iexists _; isplitr; · ipureintro; exact harg2.read_unread _
    iexact H2
  iexists _; isplitr; swap; · iexact H11
  ipureintro; refine (read_load _ _ n _ hoff _ _).trans ?_; rw [harg2.read_unread, harg11.read_unread]

set_option maxHeartbeats 8000000 in
/-- The body at the first product: it goes to the scratch `arg12`. -/
theorem stepZ (hc1 : ¬k0_cond1 i = 1#1) (hc2 : (Scalar.cmpi .ne (Scalar.extui (Scalar.cmpi .eq (Scalar.subi (BitVec.ofNat 32 (i 0).val) 11#32) 0#32)) 0#32) = 1#1) (hc3 : ¬k0_cond3 i = 1#1) (hc4 : ¬k0_cond4 i = 1#1) (hc5 : ¬k0_cond5 i = 1#1)
    (x1 : Vec F S256x5632 .bf16) (x11 : Vec F S5632x2048 .bf16) (E : Set ℕ) (K : PUnit → sProp 𝕄) :
    iprop(owns (c : Thread nD τ) arg1 fullShare x1 ∗ owns (c : Thread nD τ) arg11 fullShare x11 ∗ (∃ d, owns (c : Thread nD τ) arg12 fullShare d) ∗ (iprop(owns (c : Thread nD τ) arg1 fullShare x1 ∗ owns (c : Thread nD τ) arg11 fullShare x11 ∗ owns (c : Thread nD τ) arg12 fullShare (product x1 x11)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f1, %hf1, H1⟩, ⟨%f11, %hf11, H11⟩, ⟨%d12, %f12, -, H12⟩, Hk⟩
  obtain rfl := harg1.eq_unread hf1; obtain rfl := harg11.eq_unread hf11
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H11]
  · iexists _; isplitr; · ipureintro; exact harg11.read_unread _
    iexact H11
  iexists _; isplitr; swap; · iexact H12
  ipureintro; refine (read_whole _ _ (arg1.view.read (Elt F) (harg1.unread x1)) (arg11.view.read (Elt F) (harg11.unread x11))).trans ?_; rw [harg1.read_unread, harg11.read_unread]

set_option maxHeartbeats 8000000 in
/-- The body at an odd middle point. -/
theorem stepE (hc1 : ¬k0_cond1 i = 1#1) (hc2 : ¬(Scalar.cmpi .ne (Scalar.extui (Scalar.cmpi .eq (Scalar.subi (BitVec.ofNat 32 (i 0).val) 11#32) 0#32)) 0#32) = 1#1) (hc3 : k0_cond3 i = 1#1) (hc4 : ¬k0_cond4 i = 1#1) (hc5 : ¬k0_cond5 i = 1#1)
    (x1 : Vec F S256x5632 .bf16) (x3 : Vec F S256x2048 .f32) (x4 : Vec F S1x2048 .f32) (x5 : Vec F S1x1x2048 .f32) (x6 : Vec F S1x2048 .f32) (x7 : Vec F S1x1x2048 .f32) (x8 : Vec F S1x1x2048 .f32) (x11 : Vec F S5632x2048 .bf16) (x13 : Vec F S256x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg13 fullShare x13 ∗ (∃ d, owns (c : Thread nD τ) arg9 fullShare d) ∗ (∃ d, owns (c : Thread nD τ) arg10 fullShare d) ∗ (∃ d, owns (c : Thread nD τ) arg12 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg13 fullShare x13 ∗ owns (c : Thread nD τ) arg9 fullShare (stack (xrows x5 x4 x3 x13)) ∗ owns (c : Thread nD τ) arg10 fullShare (stack (hrows x5 x4 x6 x7 x8 x3 x13)) ∗ owns (c : Thread nD τ) arg12 fullShare (product x1 x11)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f11, %hf11, H11⟩, ⟨%f13, %hf13, H13⟩, ⟨%d9, %f9, -, H9⟩, ⟨%d10, %f10, -, H10⟩, ⟨%d12, %f12, -, H12⟩, Hk⟩
  obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H11]
  · iexists _; isplitr; · ipureintro; exact harg11.read_unread _
    iexact H11
  isplitl [H13]
  · iexists _; isplitr; · ipureintro; exact harg13.read_unread _
    iexact H13
  isplitl [H9]
  · iexists _; isplitr; swap; · iexact H9
    ipureintro; refine (read_pieces _ _ (xrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (arg3.view.read (Elt F) (harg3.unread x3)) (arg13.view.read (Elt F) (harg13.unread x13)))).trans ?_; rw [harg5.read_unread, harg4.read_unread, harg3.read_unread, harg13.read_unread, ld_vec3, ld_vec2]
  isplitl [H10]
  · iexists _; isplitr; swap; · iexact H10
    ipureintro; refine (read_pieces _ _ (hrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (View.ld (arg6.view.read (Elt F) (harg6.unread x6)) (Rect.unit (s := S1x2048) ![0, 0] S1x2048.size inb_S1x2048_S1x2048_0_0)) (View.ld (arg7.view.read (Elt F) (harg7.unread x7)) (Rect.unit (s := S1x1x2048) ![0, 0, 0] S1x1x2048.size inb_S1x1x2048_S1x1x2048_0_0_0)) (View.ld (arg8.view.read (Elt F) (harg8.unread x8)) (Rect.unit (s := S1x1x2048) ![0, 0, 0] S1x1x2048.size inb_S1x1x2048_S1x1x2048_0_0_0)) (arg3.view.read (Elt F) (harg3.unread x3)) (arg13.view.read (Elt F) (harg13.unread x13)))).trans ?_; rw [harg5.read_unread, harg4.read_unread, harg6.read_unread, harg7.read_unread, harg8.read_unread, harg3.read_unread, harg13.read_unread, ld_vec3, ld_vec3, ld_vec3, ld_vec2, ld_vec2]
  iexists _; isplitr; swap; · iexact H12
  ipureintro; refine (read_whole _ _ (arg1.view.read (Elt F) (harg1.unread x1)) (arg11.view.read (Elt F) (harg11.unread x11))).trans ?_; rw [harg1.read_unread, harg11.read_unread]

set_option maxHeartbeats 8000000 in
/-- The body at an even middle point. -/
theorem stepO (hc1 : ¬k0_cond1 i = 1#1) (hc2 : ¬(Scalar.cmpi .ne (Scalar.extui (Scalar.cmpi .eq (Scalar.subi (BitVec.ofNat 32 (i 0).val) 11#32) 0#32)) 0#32) = 1#1) (hc3 : ¬k0_cond3 i = 1#1) (hc4 : k0_cond4 i = 1#1) (hc5 : ¬k0_cond5 i = 1#1)
    (x1 : Vec F S256x5632 .bf16) (x3 : Vec F S256x2048 .f32) (x4 : Vec F S1x2048 .f32) (x5 : Vec F S1x1x2048 .f32) (x6 : Vec F S1x2048 .f32) (x7 : Vec F S1x1x2048 .f32) (x8 : Vec F S1x1x2048 .f32) (x11 : Vec F S5632x2048 .bf16) (x12 : Vec F S256x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ (∃ d, owns (c : Thread nD τ) arg9 fullShare d) ∗ (∃ d, owns (c : Thread nD τ) arg10 fullShare d) ∗ (∃ d, owns (c : Thread nD τ) arg13 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg9 fullShare (stack (xrows x5 x4 x3 x12)) ∗ owns (c : Thread nD τ) arg10 fullShare (stack (hrows x5 x4 x6 x7 x8 x3 x12)) ∗ owns (c : Thread nD τ) arg13 fullShare (product x1 x11)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f11, %hf11, H11⟩, ⟨%f12, %hf12, H12⟩, ⟨%d9, %f9, -, H9⟩, ⟨%d10, %f10, -, H10⟩, ⟨%d13, %f13, -, H13⟩, Hk⟩
  obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H11]
  · iexists _; isplitr; · ipureintro; exact harg11.read_unread _
    iexact H11
  isplitl [H12]
  · iexists _; isplitr; · ipureintro; exact harg12.read_unread _
    iexact H12
  isplitl [H9]
  · iexists _; isplitr; swap; · iexact H9
    ipureintro; refine (read_pieces _ _ (xrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (arg3.view.read (Elt F) (harg3.unread x3)) (arg12.view.read (Elt F) (harg12.unread x12)))).trans ?_; rw [harg5.read_unread, harg4.read_unread, harg3.read_unread, harg12.read_unread, ld_vec3, ld_vec2]
  isplitl [H10]
  · iexists _; isplitr; swap; · iexact H10
    ipureintro; refine (read_pieces _ _ (hrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (View.ld (arg6.view.read (Elt F) (harg6.unread x6)) (Rect.unit (s := S1x2048) ![0, 0] S1x2048.size inb_S1x2048_S1x2048_0_0)) (View.ld (arg7.view.read (Elt F) (harg7.unread x7)) (Rect.unit (s := S1x1x2048) ![0, 0, 0] S1x1x2048.size inb_S1x1x2048_S1x1x2048_0_0_0)) (View.ld (arg8.view.read (Elt F) (harg8.unread x8)) (Rect.unit (s := S1x1x2048) ![0, 0, 0] S1x1x2048.size inb_S1x1x2048_S1x1x2048_0_0_0)) (arg3.view.read (Elt F) (harg3.unread x3)) (arg12.view.read (Elt F) (harg12.unread x12)))).trans ?_; rw [harg5.read_unread, harg4.read_unread, harg6.read_unread, harg7.read_unread, harg8.read_unread, harg3.read_unread, harg12.read_unread, ld_vec3, ld_vec3, ld_vec3, ld_vec2, ld_vec2]
  iexists _; isplitr; swap; · iexact H13
  ipureintro; refine (read_whole _ _ (arg1.view.read (Elt F) (harg1.unread x1)) (arg11.view.read (Elt F) (harg11.unread x11))).trans ?_; rw [harg1.read_unread, harg11.read_unread]

set_option maxHeartbeats 8000000 in
/-- The body at the last point: only the last tile is finished. -/
theorem stepN (hc1 : ¬k0_cond1 i = 1#1) (hc2 : ¬(Scalar.cmpi .ne (Scalar.extui (Scalar.cmpi .eq (Scalar.subi (BitVec.ofNat 32 (i 0).val) 11#32) 0#32)) 0#32) = 1#1) (hc3 : ¬k0_cond3 i = 1#1) (hc4 : ¬k0_cond4 i = 1#1) (hc5 : k0_cond5 i = 1#1)
    (x3 : Vec F S256x2048 .f32) (x4 : Vec F S1x2048 .f32) (x5 : Vec F S1x1x2048 .f32) (x6 : Vec F S1x2048 .f32) (x7 : Vec F S1x1x2048 .f32) (x8 : Vec F S1x1x2048 .f32) (x13 : Vec F S256x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg13 fullShare x13 ∗ (∃ d, owns (c : Thread nD τ) arg9 fullShare d) ∗ (∃ d, owns (c : Thread nD τ) arg10 fullShare d) ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg13 fullShare x13 ∗ owns (c : Thread nD τ) arg9 fullShare (stack (xrows x5 x4 x3 x13)) ∗ owns (c : Thread nD τ) arg10 fullShare (stack (hrows x5 x4 x6 x7 x8 x3 x13))) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f13, %hf13, H13⟩, ⟨%d9, %f9, -, H9⟩, ⟨%d10, %f10, -, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13
  sl_exec (disch := first | sl_exact hc1 | sl_exact hc2 | sl_exact hc3 | sl_exact hc4 | sl_exact hc5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H13]
  · iexists _; isplitr; · ipureintro; exact harg13.read_unread _
    iexact H13
  isplitl [H9]
  · iexists _; isplitr; swap; · iexact H9
    ipureintro; refine (read_pieces _ _ (xrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (arg3.view.read (Elt F) (harg3.unread x3)) (arg13.view.read (Elt F) (harg13.unread x13)))).trans ?_; rw [harg5.read_unread, harg4.read_unread, harg3.read_unread, harg13.read_unread, ld_vec3, ld_vec2]
  iexists _; isplitr; swap; · iexact H10
  ipureintro; refine (read_pieces _ _ (hrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (View.ld (arg6.view.read (Elt F) (harg6.unread x6)) (Rect.unit (s := S1x2048) ![0, 0] S1x2048.size inb_S1x2048_S1x2048_0_0)) (View.ld (arg7.view.read (Elt F) (harg7.unread x7)) (Rect.unit (s := S1x1x2048) ![0, 0, 0] S1x1x2048.size inb_S1x1x2048_S1x1x2048_0_0_0)) (View.ld (arg8.view.read (Elt F) (harg8.unread x8)) (Rect.unit (s := S1x1x2048) ![0, 0, 0] S1x1x2048.size inb_S1x1x2048_S1x1x2048_0_0_0)) (arg3.view.read (Elt F) (harg3.unread x3)) (arg13.view.read (Elt F) (harg13.unread x13)))).trans ?_; rw [harg5.read_unread, harg4.read_unread, harg6.read_unread, harg7.read_unread, harg8.read_unread, harg3.read_unread, harg13.read_unread, ld_vec3, ld_vec3, ld_vec3, ld_vec2, ld_vec2]

end Cert.NextIdeal.Next

end
-- ==== Proof.Next.Inv.lean ====
/-
  What the residual call's grid points leave: the scratch's invariant between points and the outputs' buffers.
-/
module

public import proofs.«01_k».proof.Proof.Next.Steps

@[expose] public section

set_option maxRecDepth 16384

noncomputable section

namespace Cert.NextIdeal.Next

open Cert.NextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Rows (stack)

local notation "𝕄" => MT nD τ sig Unit (Elt F) ℕ (UR sig nD τ) ℕ

variable (m : (ℓ : Loc nD τ sig) → Buf (Elt F) ℓ) (ρ : Dev nD → PrngReg)

/-! ## Where each branch of the body is taken, and where the outputs are written -/

theorem cond1_iff : ∀ t : Fin grid0.N, k0_cond1 (grid0.coords t) = 1#1 ↔ t.val < 11 := by decide +kernel
theorem cond2_iff : ∀ t : Fin grid0.N, Scalar.cmpi .ne (Scalar.extui (Scalar.cmpi .eq (Scalar.subi (BitVec.ofNat 32 (grid0.coords t 0).val) 11#32) 0#32)) 0#32 = 1#1 ↔ t.val = 11 := by
  decide +kernel
theorem cond3_iff : ∀ t : Fin grid0.N, k0_cond3 (grid0.coords t) = 1#1 ↔ 12 ≤ t.val ∧ t.val ≤ 74 ∧ t.val % 2 = 1 := by decide +kernel
theorem cond4_iff : ∀ t : Fin grid0.N, k0_cond4 (grid0.coords t) = 1#1 ↔ 12 ≤ t.val ∧ t.val ≤ 74 ∧ t.val % 2 = 0 := by decide +kernel
theorem cond5_iff : ∀ t : Fin grid0.N, k0_cond5 (grid0.coords t) = 1#1 ↔ t.val = 75 := by decide +kernel

/-- Each output is stored into from point 12 on. -/
theorem idle8_iff : ∀ t : Fin grid0.N, cfg0.idle 8 (grid0.coords t) = true ↔ t.val < 12 := by decide +kernel
theorem idle9_iff : ∀ t : Fin grid0.N, cfg0.idle 9 (grid0.coords t) = true ↔ t.val < 12 := by decide +kernel
/-- Each output's buffer is written back from point 12 on. -/
theorem flush8_iff : ∀ t : Fin grid0.N, win0_8.flush t = true ↔ 12 ≤ t.val := by decide +kernel
theorem flush9_iff : ∀ t : Fin grid0.N, win0_9.flush t = true ↔ 12 ≤ t.val := by decide +kernel

/-! ## What the body leaves -/

/-- The weights as the loading points leave them in the scratch: row `r` is row `r % 512` of block `r / 512`. -/
def wts (c : Dev nD) : Vec F S5632x2048 .bf16 := fun j =>
  loaded (iblk m c 1 (⟨(j 0).val / 512, by have h : (j 0).val < 5632 := (j 0).isLt; have : cfg0.N = 76 := N_0; omega⟩ : Fin cfg0.N))
    (ix2 ⟨(j 0).val % 512, by omega⟩ (j 1))

/-- The point of a number, the last one beyond it. -/
abbrev pt (n : ℕ) : Fin cfg0.N := ⟨min n 75, by have : cfg0.N = 76 := N_0; omega⟩

/-- The product tile of point `n`. -/
def prod (c : Dev nD) (n : ℕ) : Vec F S256x2048 .f32 := product (iblk m c 0 (pt n)) (wts m c)

/-- The residual tile point `n` finishes: the product is that of the point before. -/
def xtile (c : Dev nD) (n : ℕ) : Vec F S256x2048 .f32 :=
  stack (xrows (iblk m c 4 (pt n)) (iblk m c 3 (pt n)) (iblk m c 2 (pt n)) (prod m c (n - 1)))

/-- The tile of next rows point `n` finishes. -/
def htile (c : Dev nD) (n : ℕ) : Vec F S256x2048 .bf16 :=
  stack (hrows (iblk m c 4 (pt n)) (iblk m c 3 (pt n)) (iblk m c 5 (pt n)) (iblk m c 6 (pt n)) (iblk m c 7 (pt n)) (iblk m c 2 (pt n))
    (prod m c (n - 1)))

/-- What holds of the scratch buffers before point `n`: the rows of weights loaded so far are in the first, and from
    point 12 to 75 the product of the point before is in the second or third, by parity. -/
def Inv (c : Dev nD) (n : ℕ) (X0 : Vec F S5632x2048 .bf16) (X1 X2 : Vec F S256x2048 .f32) : Prop :=
  (∀ j : S5632x2048.Idx, (j 0).val < 512 * n → X0 j = wts m c j)
  ∧ (12 ≤ n → n ≤ 75 → ((n - 1) % 2 = 1 → X1 = prod m c (n - 1)) ∧ ((n - 1) % 2 = 0 → X2 = prod m c (n - 1)))

/-- Once every block is loaded the scratch is the weights. -/
theorem Inv.full {c : Dev nD} {n : ℕ} {X0 : Vec F S5632x2048 .bf16} {X1 X2 : Vec F S256x2048 .f32} (h : Inv m c n X0 X1 X2)
    (hn : 11 ≤ n) : X0 = wts m c :=
  funext fun j => h.1 j (by have hj : (j 0).val < 5632 := (j 0).isLt; omega)

/-- A loading point adds its block of rows. -/
theorem Inv.load {c : Dev nD} {n : ℕ} {X0 : Vec F S5632x2048 .bf16} {X1 X2 : Vec F S256x2048 .f32} (h : Inv m c n X0 X1 X2)
    (hn : n < 11) (t : Fin cfg0.N) (ht : t.val = n) : Inv m c (n + 1) (put n (iblk m c 1 t) X0) X1 X2 := by
  refine ⟨fun j hj => ?_, fun h12 => by omega⟩
  unfold put
  by_cases hb : 512 * n ≤ (j 0).val ∧ (j 0).val < 512 * n + 512
  · rw [dif_pos hb]
    unfold wts
    have e : t = (⟨(j 0).val / 512, by have h : (j 0).val < 5632 := (j 0).isLt; have : cfg0.N = 76 := N_0; omega⟩ : Fin cfg0.N) :=
      Fin.ext (by show t.val = (j 0).val / 512; omega)
    rw [← e]
    refine congrArg _ (congrArg (fun k => ix2 k (j 1)) (Fin.ext ?_))
    show (j 0).val - 512 * n = (j 0).val % 512
    omega
  · rw [dif_neg hb]
    exact h.1 j (by omega)

/-- A point that stores its product into the second scratch buffer. -/
theorem Inv.odd {c : Dev nD} {n : ℕ} {X2 : Vec F S256x2048 .f32} (hn : 11 ≤ n) (hp : n % 2 = 1) :
    Inv m c (n + 1) (wts m c) (prod m c n) X2 :=
  ⟨fun _ _ => rfl, fun _ _ => ⟨fun _ => rfl, fun h => by rw [Nat.add_sub_cancel] at h; omega⟩⟩

/-- A point that stores its product into the third. -/
theorem Inv.even {c : Dev nD} {n : ℕ} {X1 : Vec F S256x2048 .f32} (hn : 11 ≤ n) (hp : n % 2 = 0) :
    Inv m c (n + 1) (wts m c) X1 (prod m c n) :=
  ⟨fun _ _ => rfl, fun _ _ => ⟨fun h => by rw [Nat.add_sub_cancel] at h; omega, fun _ => rfl⟩⟩

/-- After the last point. -/
theorem Inv.last {c : Dev nD} {X1 X2 : Vec F S256x2048 .f32} : Inv m c 76 (wts m c) X1 X2 :=
  ⟨fun _ _ => rfl, fun _ h => by omega⟩

/-- Before the first point nothing is asked. -/
theorem Inv.first {c : Dev nD} {X0 : Vec F S5632x2048 .bf16} {X1 X2 : Vec F S256x2048 .f32} : Inv m c 0 X0 X1 X2 :=
  ⟨fun j h => by omega, fun h => by omega⟩

/-! ## The pipeline's proof data -/

abbrev sc0 : Memref sig .tc .vmem S5632x2048 .bf16 := Memref.whole cc0_scratch0
abbrev sc1 : Memref sig .tc .vmem S256x2048 .f32 := Memref.whole cc0_scratch1
abbrev sc2 : Memref sig .tc .vmem S256x2048 .f32 := Memref.whole cc0_scratch2

/-- The region's invariant before point `n`. -/
def Phi (c : Dev nD) (n : ℕ) : sProp 𝕄 :=
  iprop(∃ X0 X1 X2, ⌜Inv m c n X0 X1 X2⌝ ∗ owns (c : Thread nD τ) sc0 fullShare X0 ∗ owns (c : Thread nD τ) sc1 fullShare X1
    ∗ owns (c : Thread nD τ) sc2 fullShare X2 ∗ (∃ r, prngReg c r))

theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- The arrays as the region finds them; after the body each input's buffer at its block, the outputs' at the tiles just
    finished. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => xtile m c t.val
    | ⟨9, _⟩ => htile m c t.val
  Φ t := Phi m c t.val
  q := Pipeline.shareOf spec0
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = xtile m c t.val := by dsimp only [dats]
theorem after0_9 (c : Dev nD) (t : Fin cfg0.N) : (dats m 0 c).after 9 t = htile m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, the windows one by one, -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop(Phi m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ (dats m 0 c).leavesExact 8 t ∗ (dats m 0 c).leavesExact 9 t)

/-- An idle output not written back keeps what it held. -/
theorem leaves_idle (c : Dev nD) (w : Fin cfg0.W) (t : Fin cfg0.N) (hi : cfg0.idle w (grid0.coords t) = true)
    (hf : (cfg0.win w).flush t = false) :
    (dats m 0 c).leavesExact w t = iprop(∃ d, owns (c : Thread nD τ) ((cfg0.win w).stage (cfg0.slots t w)) fullShare ((dats m 0 c).before w t d)) :=
  (dats m 0 c).leavesExact_idle w t hi hf

/-- Any other output holds what the proof data say. -/
theorem leaves_live (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  have e : cfg0.grid.coords t = grid0.coords t := rfl
  unfold Dat.leavesExact
  rw [e]
  rcases h with h | h <;> rw [h]
  cases cfg0.idle w (grid0.coords t) <;> rfl

end Cert.NextIdeal.Next

end
-- ==== Proof.Next.Frame.lean ====
/-
  The residual call with the next normed rows: every execution terminates, keeps the arguments and clears the counters.
-/
module

public import proofs.«01_k».proof.Proof.Next.Inv

@[expose] public section

set_option maxRecDepth 16384

noncomputable section

namespace Cert.NextIdeal.Next

open Cert.NextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of a point's number is the point. -/
theorem pt_val (t : Fin cfg0.N) : pt t.val = t :=
  Fin.ext (by have := t.isLt; have : cfg0.N = 76 := N_0; show min t.val 75 = t.val; omega)

set_option maxHeartbeats 1600000 in
/-- The body's triple at a loading point. -/
theorem soundL (c : Dev nD) (t : Fin cfg0.N) (h : t.val < 11) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4, before0_5, before0_6, before0_7]
  rw [leaves_idle m c 8 t ((idle8_iff t).2 (by omega)) (Bool.eq_false_iff.2 fun h' => by have := (flush8_iff t).1 h'; omega)]
  rw [leaves_idle m c 9 t ((idle9_iff t).2 (by omega)) (Bool.eq_false_iff.2 fun h' => by have := (flush9_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepL c (grid0.coords t) _ _ _ _ _ _ _ _ _ _ _ _ _ _ _ _ _ _ _ _ _ _ _ _ _ _ ((cond1_iff t).2 (by omega)) (fun h => by have := (cond2_iff t).1 h; omega) (fun h => by have := (cond3_iff t).1 h; omega) (fun h => by have := (cond4_iff t).1 h; omega) (fun h => by have := (cond5_iff t).1 h; omega) t.val (load_off t ((cond1_iff t).2 (by omega))) _ _ Set.univ _)
  isplitl [H1]; · iexact H1
  isplitl [S0]; · iexact S0
  iintro ⟨H1, S0⟩
  isplitl [S0 S1 S2 Hg]
  · iexists _, _, _
    isplitr; swap
    · isplitl [S0]; · iexact S0
      isplitl [S1]; · iexact S1
      isplitl [S2]; · iexact S2
      iexact Hg
    ipureintro
    exact hI.load m h t rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iexact H8
  iexists _; iexact H9

set_option maxHeartbeats 1600000 in
/-- The body's triple at the first product. -/
theorem soundZ (c : Dev nD) (t : Fin cfg0.N) (h : t.val = 11) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4, before0_5, before0_6, before0_7]
  rw [leaves_idle m c 8 t ((idle8_iff t).2 (by omega)) (Bool.eq_false_iff.2 fun h' => by have := (flush8_iff t).1 h'; omega)]
  rw [leaves_idle m c 9 t ((idle9_iff t).2 (by omega)) (Bool.eq_false_iff.2 fun h' => by have := (flush9_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : X0 = wts m c := hI.full m (by omega)
  iapply (stepZ c (grid0.coords t) _ _ _ _ _ _ _ _ _ _ _ _ _ _ _ _ _ _ _ _ _ _ _ _ _ _ (fun h => by have := (cond1_iff t).1 h; omega) ((cond2_iff t).2 (by omega)) (fun h => by have := (cond3_iff t).1 h; omega) (fun h => by have := (cond4_iff t).1 h; omega) (fun h => by have := (cond5_iff t).1 h; omega) _ _ Set.univ _)
  isplitl [H0]; · iexact H0
  isplitl [S0]; · iexact S0
  isplitl [S1]; · iexists _; iexact S1
  iintro ⟨H0, S0, S1⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.odd (X2 := X2) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iexact H8
  iexists _; iexact H9

set_option maxHeartbeats 1600000 in
/-- The body's triple at an odd middle point. -/
theorem soundE (c : Dev nD) (t : Fin cfg0.N) (h : 12 ≤ t.val ∧ t.val ≤ 74 ∧ t.val % 2 = 1) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4, before0_5, before0_6, before0_7]
  rw [leaves_live m c 8 t (.inl (Bool.eq_false_iff.2 fun h' => by have := (idle8_iff t).1 h'; omega)), after0_8]
  rw [leaves_live m c 9 t (.inl (Bool.eq_false_iff.2 fun h' => by have := (idle9_iff t).1 h'; omega)), after0_9]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : X0 = wts m c := hI.full m (by omega)
  obtain rfl : X2 = prod m c (t.val - 1) := (hI.2 (by omega) (by omega)).2 (by omega)
  iapply (stepE c (grid0.coords t) _ _ _ _ _ _ _ _ _ _ _ _ _ _ _ _ _ _ _ _ _ _ _ _ _ _ (fun h => by have := (cond1_iff t).1 h; omega) (fun h => by have := (cond2_iff t).1 h; omega) ((cond3_iff t).2 (by omega)) (fun h => by have := (cond4_iff t).1 h; omega) (fun h => by have := (cond5_iff t).1 h; omega) _ _ _ _ _ _ _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S2]; · iexact S2
  isplitl [H8]; · iexists _; iexact H8
  isplitl [H9]; · iexists _; iexact H9
  isplitl [S1]; · iexists _; iexact S1
  iintro ⟨H0, H2, H3, H4, H5, H6, H7, S0, S2, H8, H9, S1⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.odd (X2 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold xtile; rw [pt_val]; iexact H8
  unfold htile; rw [pt_val]; iexact H9

set_option maxHeartbeats 1600000 in
/-- The body's triple at an even middle point. -/
theorem soundO (c : Dev nD) (t : Fin cfg0.N) (h : 12 ≤ t.val ∧ t.val ≤ 74 ∧ t.val % 2 = 0) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4, before0_5, before0_6, before0_7]
  rw [leaves_live m c 8 t (.inl (Bool.eq_false_iff.2 fun h' => by have := (idle8_iff t).1 h'; omega)), after0_8]
  rw [leaves_live m c 9 t (.inl (Bool.eq_false_iff.2 fun h' => by have := (idle9_iff t).1 h'; omega)), after0_9]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : X0 = wts m c := hI.full m (by omega)
  obtain rfl : X1 = prod m c (t.val - 1) := (hI.2 (by omega) (by omega)).1 (by omega)
  iapply (stepO c (grid0.coords t) _ _ _ _ _ _ _ _ _ _ _ _ _ _ _ _ _ _ _ _ _ _ _ _ _ _ (fun h => by have := (cond1_iff t).1 h; omega) (fun h => by have := (cond2_iff t).1 h; omega) (fun h => by have := (cond3_iff t).1 h; omega) ((cond4_iff t).2 (by omega)) (fun h => by have := (cond5_iff t).1 h; omega) _ _ _ _ _ _ _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [H8]; · iexists _; iexact H8
  isplitl [H9]; · iexists _; iexact H9
  isplitl [S2]; · iexists _; iexact S2
  iintro ⟨H0, H2, H3, H4, H5, H6, H7, S0, S1, H8, H9, S2⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.even (X1 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold xtile; rw [pt_val]; iexact H8
  unfold htile; rw [pt_val]; iexact H9

set_option maxHeartbeats 1600000 in
/-- The body's triple at the last point. -/
theorem soundN (c : Dev nD) (t : Fin cfg0.N) (h : t.val = 75) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  unfold bodyPre bodyPost bodyAt0 Phi
  simp only [before0_0, before0_1, before0_2, before0_3, before0_4, before0_5, before0_6, before0_7]
  rw [leaves_live m c 8 t (.inl (Bool.eq_false_iff.2 fun h' => by have := (idle8_iff t).1 h'; omega)), after0_8]
  rw [leaves_live m c 9 t (.inl (Bool.eq_false_iff.2 fun h' => by have := (idle9_iff t).1 h'; omega)), after0_9]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : X0 = wts m c := hI.full m (by omega)
  obtain rfl : X2 = prod m c (t.val - 1) := (hI.2 (by omega) (by omega)).2 (by omega)
  iapply (stepN c (grid0.coords t) _ _ _ _ _ _ _ _ _ _ _ _ _ _ _ _ _ _ _ _ _ _ _ _ _ _ (fun h => by have := (cond1_iff t).1 h; omega) (fun h => by have := (cond2_iff t).1 h; omega) (fun h => by have := (cond3_iff t).1 h; omega) (fun h => by have := (cond4_iff t).1 h; omega) ((cond5_iff t).2 (by omega)) _ _ _ _ _ _ _ Set.univ _)
  isplitl [H2]; · iexact H2
  isplitl [H3]; · iexact H3
  isplitl [H4]; · iexact H4
  isplitl [H5]; · iexact H5
  isplitl [H6]; · iexact H6
  isplitl [H7]; · iexact H7
  isplitl [S2]; · iexact S2
  isplitl [H8]; · iexists _; iexact H8
  isplitl [H9]; · iexists _; iexact H9
  iintro ⟨H2, H3, H4, H5, H6, H7, S2, H8, H9⟩
  isplitl [S0 S1 S2 Hg]
  · iexists _, _, _
    isplitr; swap
    · isplitl [S0]; · iexact S0
      isplitl [S1]; · iexact S1
      isplitl [S2]; · iexact S2
      iexact Hg
    ipureintro
    rw [h]; exact Inv.last m
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold xtile; rw [pt_val]; iexact H8
  unfold htile; rw [pt_val]; iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 76 := lt_of_lt_of_eq t.isLt (show cfg0.N = 76 from N_0)
  rcases (by omega : t.val < 11 ∨ t.val = 11 ∨ (12 ≤ t.val ∧ t.val ≤ 74 ∧ t.val % 2 = 1) ∨ (12 ≤ t.val ∧ t.val ≤ 74 ∧ t.val % 2 = 0)
      ∨ t.val = 75) with h | h | h | h | h
  · exact soundL m c t h
  · exact soundZ m c t h
  · exact soundE m c t h
  · exact soundO m c t h
  · exact soundN m c t h

/-- The body the region calls. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%X0, S0⟩, ⟨%X1, S1⟩, ⟨%X2, S2⟩⟩, Hg⟩
  iexists _, _, _
  isplitr; swap
  · isplitl [S0]; · iexact S0
    isplitl [S1]; · iexact S1
    isplitl [S2]; · iexact S2
    iexact Hg
  ipureintro
  exact Inv.first m

/-- After the last point the scratch's contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%X0, %X1, %X2, -, S0, S1, S2, Hg⟩
  isplitl [S0 S1 S2]
  · isplitl [S0]; · iexists _; iexact S0
    isplitl [S1]; · iexists _; iexact S1
    iexists _; iexact S2
  iexact Hg

set_option backward.isDefEq.respectTransparency.types false in
/-- Every execution terminates with the pipeline's arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution terminates with the pipeline's arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution terminates, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.NextIdeal.Next

end
-- ==== Proof.NextBits.Frame.lean ====
/-
  The residual call with the next normed rows: the frame of the program itself. Its body table is the ideal program's at any instance of the floats, so its runs are
  the runs of that one.
-/
module

public import proofs.«01_k».proof.Proof.Gen.Next.Skeleton
public import proofs.«01_k».proof.Proof.Next.Frame

@[expose] public section

set_option maxRecDepth 16384

noncomputable section

namespace Cert.Next.Next

open Idealize.ShloMosaic Idealize.ShloMosaic.TcCoe Idealize.SL.Sem

variable {F : FTy → Type} [FloatOps F]

set_option maxHeartbeats 4000000 in
/-- The kernels' body table is the ideal program's. -/
theorem defs₀_eq : defs₀ (F := F) = Cert.NextIdeal.defs₀ (F := F) := by
  unfold defs₀ Cert.NextIdeal.defs₀
  refine congrArg Defs.onTc (funext fun l => funext fun x => ?_)
  match l, x with
  | 0, (t, s) =>
    dsimp only
    rfl

set_option maxHeartbeats 4000000 in
/-- The frame: every execution terminates, the argument arrays unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  unfold defs
  rw [defs₀_eq]
  exact Cert.NextIdeal.Next.frame m ρ

end Cert.Next.Next

end
-- ==== Proof.Next.Kernel.lean ====
/-
  The residual call's kernel at the ideal semantics: what each tile holds as a function of the arguments, and the two
  results after the run.
-/
module

public import proofs.«01_k».proof.Proof.Next.Frame
public import proofs.«01_k».proof.Proof.Down.Kernel

@[expose] public section

set_option maxRecDepth 16384

noncomputable section

namespace Cert.NextIdeal.Next

open Cert.NextIdeal Cert.NextIdeal.Gen Idealize.ShloMosaic Idealize.ShloMosaic.TcCoe Idealize.SL.Sem
open Idealize.ShloMosaic.Pipeline (Dat)
open Cert.Rows (rowsRect stack ld_rows)
open Cert.DownIdeal.Down (rowVal rowVal_congr sum_ext)

variable (m : (ℓ : Loc nD τ sig) → Buf (Elt Ideal) ℓ)

/-- One of the next rows at column `l`: the row's RMS-normalised entry times its weight, scaled by one plus `sc` and shifted
    by `sh`. -/
def nextVal (sc sh p : EReal) (y : Fin 2048 → EReal) (l : Fin 2048) : EReal :=
  y l * Ideal.rsqrt (Ideal.div (∑ j, y j * y j) (Ideal.ofBits FTy.f32 1157627904#32) + Ideal.ofBits FTy.f32 897988541#32) * p
    * (Ideal.ofBits FTy.f32 1065353216#32 + sc) + sh

/-- The body's chunk of sixteen residual rows. -/
theorem pay5_apply (g : Vec Ideal S1x1x2048 .f32) (p : Vec Ideal S1x2048 .f32) (x y : Vec Ideal S16x2048 .f32) (r : Fin 16)
    (l : Fin 2048) :
    k0_pay5 (F := Ideal) g x y p (ix2 r l) = rowVal (x (ix2 r l)) (g (ix3 0 0 l)) (p (ix2 0 l)) (fun j => y (ix2 r j)) l := by
  unfold rowVal
  pointwise [k0_pay5, k0_pay4]

/-- The body's chunk of sixteen next rows. -/
theorem pay7_apply (sc sh : Vec Ideal S1x1x2048 .f32) (p : Vec Ideal S1x2048 .f32) (x : Vec Ideal S16x2048 .f32) (r : Fin 16)
    (l : Fin 2048) :
    k0_pay7 (F := Ideal) x (k0_pay6 p) sc sh (ix2 r l)
      = nextVal (sc (ix3 0 0 l)) (sh (ix3 0 0 l)) (p (ix2 0 l)) (fun j => x (ix2 r j)) l := by
  unfold nextVal
  pointwise [k0_pay7, k0_pay6]

/-- The weights' rows as loaded. -/
theorem load_apply (w : Vec Ideal S1x1x512x2048 .f32) (r : Fin 512) (l : Fin 2048) :
    k0_pay210 (F := Ideal) w (ix2 r l) = w (ix4 0 0 r l) := by
  pointwise [k0_pay210]

/-- The product of a tile of rows with the weights. -/
theorem prod_apply (a : Vec Ideal S256x5632 .bf16) (w : Vec Ideal S5632x2048 .bf16) (r : Fin 256) (l : Fin 2048) :
    k0_pay3 (F := Ideal) a w (ix2 r l) = ∑ k : Fin 5632, a (ix2 r k) * w (ix2 k l) := by
  pointwise [k0_pay3]

/-- A tile of residual rows at an entry. -/
theorem xrows_apply (g : Vec Ideal S1x1x2048 .f32) (p : Vec Ideal S1x2048 .f32) (x y : Vec Ideal S256x2048 .f32) (r : Fin 256)
    (h1 : r.val / 16 < 16) (h2 : r.val % 16 < 16) (l : Fin 2048) :
    xrows (F := Ideal) g p x y ⟨r.val / 16, h1⟩ (ix2 (⟨r.val % 16, h2⟩ : Fin 16) l)
      = rowVal (x (ix2 r l)) (g (ix3 0 0 l)) (p (ix2 0 l)) (fun j => y (ix2 r j)) l := by
  refine (pay5_apply g p _ _ _ l).trans ?_
  exact rowVal_congr l (ld_rows x r h1 h2 l) rfl rfl fun j => ld_rows y r h1 h2 j

/-- A stacked tile of residual rows at an entry. -/
theorem xstack_apply (g : Vec Ideal S1x1x2048 .f32) (p : Vec Ideal S1x2048 .f32) (x y : Vec Ideal S256x2048 .f32) (r : Fin 256)
    (l : Fin 2048) :
    stack (xrows (F := Ideal) g p x y) (ix2 r l)
      = rowVal (x (ix2 r l)) (g (ix3 0 0 l)) (p (ix2 0 l)) (fun j => y (ix2 r j)) l := by
  have h1 : r.val / 16 < 16 := by omega
  have h2 : r.val % 16 < 16 := by omega
  exact xrows_apply g p x y r h1 h2 l

/-- A stacked tile of next rows at an entry, of the residual rows as the body made them. -/
theorem hstack_apply (g : Vec Ideal S1x1x2048 .f32) (p p' : Vec Ideal S1x2048 .f32) (sc sh : Vec Ideal S1x1x2048 .f32)
    (x y : Vec Ideal S256x2048 .f32) (r : Fin 256) (l : Fin 2048) :
    stack (hrows (F := Ideal) g p p' sc sh x y) (ix2 r l)
      = nextVal (sc (ix3 0 0 l)) (sh (ix3 0 0 l)) (p' (ix2 0 l)) (fun j => stack (xrows (F := Ideal) g p x y) (ix2 r j)) l := by
  have h1 : r.val / 16 < 16 := by omega
  have h2 : r.val % 16 < 16 := by omega
  exact pay7_apply sc sh p' (xrows g p x y ⟨r.val / 16, h1⟩) ⟨r.val % 16, h2⟩ l

theorem idx0 : ∀ t : Fin cfg0.N, win0_0.index t = ![min (t.val - 11) 63, 0] :=
  (by decide +kernel : ∀ t : Fin grid0.N, win0_0.index t = ![min (t.val - 11) 63, 0])
theorem idx1 : ∀ t : Fin cfg0.N, win0_1.index t = ![1, 0, min t.val 10, 0] :=
  (by decide +kernel : ∀ t : Fin grid0.N, win0_1.index t = ![1, 0, min t.val 10, 0])
theorem idx2 : ∀ t : Fin cfg0.N, win0_2.index t = ![min (t.val - 12) 63, 0] :=
  (by decide +kernel : ∀ t : Fin grid0.N, win0_2.index t = ![min (t.val - 12) 63, 0])
theorem idx3 : ∀ t : Fin cfg0.N, win0_3.index t = ![0, 0] :=
  (by decide +kernel : ∀ t : Fin grid0.N, win0_3.index t = ![0, 0])
theorem idx5 : ∀ t : Fin cfg0.N, win0_5.index t = ![0, 0] :=
  (by decide +kernel : ∀ t : Fin grid0.N, win0_5.index t = ![0, 0])
/-- The row of the modulation table that point `t` reads first: that of the context before point 44, then that of the latent
    batch element. -/
abbrev base (t : ℕ) : ℕ := if t < 44 then 0 else 9 + 9 * (min (t - 44) 31 / 4)
/-- The gate's row, -/
theorem idx4 : ∀ t : Fin cfg0.N, win0_4.index t = ![base t.val + 2, 0, 0] :=
  (by decide +kernel : ∀ t : Fin grid0.N, win0_4.index t = ![base t.val + 2, 0, 0])
/-- the scale's -/
theorem idx6 : ∀ t : Fin cfg0.N, win0_6.index t = ![base t.val + 4, 0, 0] :=
  (by decide +kernel : ∀ t : Fin grid0.N, win0_6.index t = ![base t.val + 4, 0, 0])
/-- and the shift's. -/
theorem idx7 : ∀ t : Fin cfg0.N, win0_7.index t = ![base t.val + 3, 0, 0] :=
  (by decide +kernel : ∀ t : Fin grid0.N, win0_7.index t = ![base t.val + 3, 0, 0])
theorem idx8 : ∀ t : Fin cfg0.N, win0_8.index t = ![min (t.val - 12) 63, 0] :=
  (by decide +kernel : ∀ t : Fin grid0.N, win0_8.index t = ![min (t.val - 12) 63, 0])
theorem idx9 : ∀ t : Fin cfg0.N, win0_9.index t = ![min (t.val - 12) 63, 0] :=
  (by decide +kernel : ∀ t : Fin grid0.N, win0_9.index t = ![min (t.val - 12) 63, 0])

/-- The weights in the scratch are the second layer's first-half matrix. -/
theorem wts_apply (c : Dev nD) (k : Fin 5632) (l : Fin 2048) :
    wts m c (ix2 k l) = m ((c : Thread nD τ).loc main_arg1) (ix4 (1 : Fin 2) (0 : Fin 2) k l) := by
  have h1 : k.val / 512 < cfg0.N := by have : cfg0.N = 76 := N_0; omega
  have h2 : k.val % 512 < 512 := by omega
  show k0_pay210 (iblk m c 1 (⟨k.val / 512, h1⟩ : Fin cfg0.N)) (ix2 ⟨k.val % 512, h2⟩ l) = _
  rw [load_apply]
  blk_ext [iblk, V_main_arg1, idx1 ⟨k.val / 512, h1⟩]

/-- The first norm's weights as the region finds them: the second layer's first row. -/
theorem V_gpost (c : Dev nD) (z : Fin 1) (l : Fin 2048) :
    V m c main_v4 (ix2 z l) = m ((c : Thread nD τ).loc main_arg4) (ix3 (1 : Fin 2) (0 : Fin 3) l) := by
  entry_read
  pointwise

/-- The next norm's weights as the region finds them: the second layer's second row. -/
theorem V_gpre (c : Dev nD) (z : Fin 1) (l : Fin 2048) :
    V m c main_v5 (ix2 z l) = m ((c : Thread nD τ).loc main_arg5) (ix3 (1 : Fin 2) (1 : Fin 3) l) := by
  entry_read
  pointwise

/-- The row of the modulation table of entry `j` for row `r`: the first 8192 rows are the context's, then each 1024 rows are one
    latent batch element's. -/
def modIx (r : Fin 16384) (j : Fin 9) : Fin 144 :=
  ⟨(if r.val < 8192 then 0 else 1 + (r.val - 8192) / 1024) * 9 + j.val, by split <;> omega⟩

/-- One entry of the residual result: row `r` of the product of `a` with the second layer's matrix, normed, gated and added to
    row `r` of `x`. -/
def xAt (a : S16384x5632.Idx → EReal) (w : S2x2x5632x2048.Idx → EReal) (x : S16384x2048.Idx → EReal)
    (g : S144x1x2048.Idx → EReal) (p : S2x3x2048.Idx → EReal) (r : Fin 16384) (l : Fin 2048) : EReal :=
  rowVal (x (ix2 r l)) (g (ix3 (modIx r 2) (0 : Fin 1) l)) (p (ix3 (1 : Fin 2) (0 : Fin 3) l))
    (fun j => ∑ k : Fin 5632, a (ix2 r k) * w (ix4 (1 : Fin 2) (0 : Fin 2) k j)) l

/-- One entry of the next rows: row `r` of the residual result, normed, scaled and shifted. -/
def hAt (a : S16384x5632.Idx → EReal) (w : S2x2x5632x2048.Idx → EReal) (x : S16384x2048.Idx → EReal)
    (g : S144x1x2048.Idx → EReal) (p p' : S2x3x2048.Idx → EReal) (r : Fin 16384) (l : Fin 2048) : EReal :=
  nextVal (g (ix3 (modIx r 4) (0 : Fin 1) l)) (g (ix3 (modIx r 3) (0 : Fin 1) l)) (p' (ix3 (1 : Fin 2) (1 : Fin 3) l))
    (fun j => xAt a w x g p r j) l

/-- The residual result. -/
def xVal (a : S16384x5632.Idx → EReal) (w : S2x2x5632x2048.Idx → EReal) (x : S16384x2048.Idx → EReal)
    (g : S144x1x2048.Idx → EReal) (p : S2x3x2048.Idx → EReal) : S16384x2048.Idx → EReal := fun y => xAt a w x g p (y 0) (y 1)

/-- The next rows. -/
def hVal (a : S16384x5632.Idx → EReal) (w : S2x2x5632x2048.Idx → EReal) (x : S16384x2048.Idx → EReal)
    (g : S144x1x2048.Idx → EReal) (p p' : S2x3x2048.Idx → EReal) : S16384x2048.Idx → EReal := fun y => hAt a w x g p p' (y 0) (y 1)

theorem nextVal_congr {sc sc' sh sh' p p' : EReal} {y y' : Fin 2048 → EReal} (l : Fin 2048) (hsc : sc = sc') (hsh : sh = sh')
    (hp : p = p') (hy : ∀ j, y j = y' j) : nextVal sc sh p y l = nextVal sc' sh' p' y' l := by
  rw [hsc, hsh, hp, funext hy]

/-- The table's row of a tile's rows is the one the tile's point reads. -/
theorem modIx_val (n : ℕ) (h12 : 12 ≤ n) (h75 : n ≤ 75) (r : Fin 256) (R : Fin 16384) (hR : R.val = 256 * (n - 12) + r.val)
    (j : Fin 9) : base n + j.val = (modIx R j).val := by
  have hr := r.isLt
  unfold base modIx
  show _ = (if R.val < 8192 then 0 else 1 + (R.val - 8192) / 1024) * 9 + j.val
  rw [hR]
  split <;> split <;> omega

/-- The residual rows a point finishes, at an entry. -/
theorem xtile_apply (c : Dev nD) (n : ℕ) (h12 : 12 ≤ n) (h75 : n ≤ 75) (r : Fin 256) (l : Fin 2048) (R : Fin 16384)
    (hR : R.val = 256 * (n - 12) + r.val) :
    xtile m c n (ix2 r l) = xAt (m ((c : Thread nD τ).loc main_arg0)) (m ((c : Thread nD τ).loc main_arg1))
      (m ((c : Thread nD τ).loc main_arg2)) (m ((c : Thread nD τ).loc main_arg3)) (m ((c : Thread nD τ).loc main_arg4)) R l := by
  have hp : (pt n).val = n := by show min n 75 = n; omega
  have hp' : (pt (n - 1)).val = n - 1 := by show min (n - 1) 75 = n - 1; omega
  have i0 := idx0 (pt (n - 1))
  have i2 := idx2 (pt n)
  have i3 := idx3 (pt n)
  have i4 := idx4 (pt n)
  rw [hp'] at i0
  rw [hp] at i2 i4
  rw [show base n + 2 = (modIx R 2).val from modIx_val n h12 h75 r R hR 2] at i4
  unfold xtile xAt
  rw [xstack_apply]
  refine rowVal_congr l ?_ ?_ ?_ fun j => ?_
  · blk_ext [iblk, V_main_arg2, i2]
  · blk_ext [iblk, V_main_arg3, i4]
  · refine Eq.trans ?_ (V_gpost m c 0 l)
    blk_ext [iblk, i3]
  · unfold prod
    refine (prod_apply _ _ r j).trans ?_
    refine sum_ext fun k => congrArg₂ (· * ·) ?_ (wts_apply m c k j)
    blk_ext [iblk, V_main_arg0, i0]

/-- The next rows a point finishes, at an entry. -/
theorem htile_apply (c : Dev nD) (n : ℕ) (h12 : 12 ≤ n) (h75 : n ≤ 75) (r : Fin 256) (l : Fin 2048) (R : Fin 16384)
    (hR : R.val = 256 * (n - 12) + r.val) :
    htile m c n (ix2 r l) = hAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) R l := by
  have hp : (pt n).val = n := by show min n 75 = n; omega
  have i5 := idx5 (pt n)
  have i6 := idx6 (pt n)
  have i7 := idx7 (pt n)
  rw [hp] at i6 i7
  rw [show base n + 4 = (modIx R 4).val from modIx_val n h12 h75 r R hR 4] at i6
  rw [show base n + 3 = (modIx R 3).val from modIx_val n h12 h75 r R hR 3] at i7
  unfold htile hAt
  rw [hstack_apply]
  refine nextVal_congr l ?_ ?_ ?_ fun j => xtile_apply m c n h12 h75 r j R hR
  · blk_ext [iblk, V_main_arg3, i6]
  · blk_ext [iblk, V_main_arg3, i7]
  · refine Eq.trans ?_ (V_gpre m c 0 l)
    blk_ext [iblk, i5]

/-- The residual result after the run. -/
theorem final8 (c : Dev nD) : (dats m 0 c).arrAt 8 cfg0.N
    = xVal (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨r, l, rfl⟩ : ∃ (r : Fin 256) (l : Fin 2048), y = ix2 r l := ⟨y 0, y 1, eq_ix2 y⟩
  have h := (flush8_iff t).1 hf
  have hr := r.isLt
  have ht : t.val < 76 := lt_of_lt_of_eq t.isLt (show cfg0.N = 76 from N_0)
  have e : (win0_8.blk t).view.emb (ix2 r l) = ix2 (⟨256 * (t.val - 12) + r.val, by omega⟩ : Fin 16384) l := by
    have i8 := idx8 t
    rw [show min (t.val - 12) 63 = t.val - 12 by omega] at i8
    blk_ext [i8]
  rw [e]
  exact xtile_apply m c _ h (by omega) r l _ rfl

/-- The next rows after the run. -/
theorem final9 (c : Dev nD) : (dats m 0 c).arrAt 9 cfg0.N
    = hVal (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 9 _ (by decide +kernel) fun t hf y => ?_
  blk_simp
  rw [after0_9]
  obtain ⟨r, l, rfl⟩ : ∃ (r : Fin 256) (l : Fin 2048), y = ix2 r l := ⟨y 0, y 1, eq_ix2 y⟩
  have h := (flush9_iff t).1 hf
  have hr := r.isLt
  have ht : t.val < 76 := lt_of_lt_of_eq t.isLt (show cfg0.N = 76 from N_0)
  have e : (win0_9.blk t).view.emb (ix2 r l) = ix2 (⟨256 * (t.val - 12) + r.val, by omega⟩ : Fin 16384) l := by
    have i9 := idx9 t
    rw [show min (t.val - 12) 63 = t.val - 12 by omega] at i9
    blk_ext [i9]
  rw [e]
  exact htile_apply m c _ h (by omega) r l _ rfl

end Cert.NextIdeal.Next

end
-- ==== Proof.Next.Ref.lean ====
/-
  The residual call's reference, read at an index.
-/
module

public import proofs.«01_k».proof.Proof.Gen.NextRefIdeal.Read
public import proofs.«01_k».proof.Proof.Next.Kernel

@[expose] public section

set_option maxRecDepth 16384

noncomputable section

namespace Cert.NextRefIdeal.Next

open Cert.NextRefIdeal Cert.NextRefIdeal.Gen Cert.NextRefIdeal.Read Idealize.ShloMosaic Idealize.ShloMosaic.TcCoe Idealize.SL.Sem
open Cert.NextIdeal.Next (xVal hVal xAt hAt nextVal modIx)
open Cert.DownIdeal.Down (rowVal)

/-- The context's copy of the modulation table: its first nine rows for every row. -/
theorem val_ctx (g : (⟨S144x1x2048, .f32⟩ : BufTy).Contents (Elt Ideal)) (r : Fin 8192) (j : Fin 9) (l : Fin 2048) :
    val_main_v6 (F := Ideal) g (ix3 r j l) = g (ix3 (⟨j.val, by omega⟩ : Fin 144) (0 : Fin 1) l) := by
  pointwise [val_main_v6, val_main_v5, val_main_v4]

/-- The latent rows' copy: nine rows for each batch element of 1024 rows. -/
theorem val_lat (g : (⟨S144x1x2048, .f32⟩ : BufTy).Contents (Elt Ideal)) (r : Fin 8192) (j : Fin 9) (l : Fin 2048) :
    val_main_v10 (F := Ideal) g (ix3 r j l) = g (ix3 (⟨(1 + r.val / 1024) * 9 + j.val, by omega⟩ : Fin 144) (0 : Fin 1) l) := by
  pointwise [val_main_v10, val_main_v9, val_main_v8, val_main_v7, val_main_v4]

/-- The modulation of a row is read off the table. -/
theorem val_rows (g : (⟨S144x1x2048, .f32⟩ : BufTy).Contents (Elt Ideal)) (r : Fin 16384) (j : Fin 9) (l : Fin 2048) :
    val_main_v11 (F := Ideal) g (ix3 r j l) = g (ix3 (modIx r j) (0 : Fin 1) l) := by
  unfold val_main_v11
  by_cases h : r.val < 8192
  · refine (concatenate_pair_apply_left (t := S16384x9x2048) (s₁ := S8192x9x2048) (s₂ := S8192x9x2048) (0 : Fin 3) _ _ _ (ix3 r j l) rfl (ix3 (⟨r.val, h⟩ : Fin 8192) j l)
      (fun b => by refine Fin.cases rfl (fun b => Fin.cases rfl (fun b => Fin.cases rfl (fun b => b.elim0) b) b) b)).trans ?_
    refine (val_ctx g ⟨r.val, h⟩ j l).trans (congrArg (fun q => g (ix3 q (0 : Fin 1) l)) (Fin.ext ?_))
    show j.val = (if r.val < 8192 then 0 else 1 + (r.val - 8192) / 1024) * 9 + j.val
    rw [if_pos h]; omega
  · have hr := r.isLt
    refine (concatenate_pair_apply_right (t := S16384x9x2048) (s₁ := S8192x9x2048) (s₂ := S8192x9x2048) (0 : Fin 3) _ _ _ (ix3 r j l)
      rfl rfl (ix3 (⟨r.val - 8192, by omega⟩ : Fin 8192) j l)
      (fun b => by refine Fin.cases (fun hb => absurd rfl hb) (fun b => Fin.cases (fun _ => rfl) (fun b => Fin.cases (fun _ => rfl) (fun b => b.elim0) b) b) b)
      (by show r.val - 8192 + 8192 = r.val; omega)).trans ?_
    refine (val_lat g ⟨r.val - 8192, by omega⟩ j l).trans (congrArg (fun q => g (ix3 q (0 : Fin 1) l)) (Fin.ext ?_))
    show (1 + (r.val - 8192) / 1024) * 9 + j.val = (if r.val < 8192 then 0 else 1 + (r.val - 8192) / 1024) * 9 + j.val
    rw [if_neg h]

/-- The gate's, the scale's and the shift's rows. -/
theorem val_gate (g : (⟨S144x1x2048, .f32⟩ : BufTy).Contents (Elt Ideal)) (r : Fin 16384) (l : Fin 2048) :
    val_main_v13 (F := Ideal) g (ix2 r l) = g (ix3 (modIx r 2) (0 : Fin 1) l) := by
  refine Eq.trans ?_ (val_rows g r 2 l)
  pointwise [val_main_v13, val_main_v12]

theorem val_scale (g : (⟨S144x1x2048, .f32⟩ : BufTy).Contents (Elt Ideal)) (r : Fin 16384) (l : Fin 2048) :
    val_main_v49 (F := Ideal) g (ix2 r l) = g (ix3 (modIx r 4) (0 : Fin 1) l) := by
  refine Eq.trans ?_ (val_rows g r 4 l)
  pointwise [val_main_v49, val_main_v48]

theorem val_shift (g : (⟨S144x1x2048, .f32⟩ : BufTy).Contents (Elt Ideal)) (r : Fin 16384) (l : Fin 2048) :
    val_main_v54 (F := Ideal) g (ix2 r l) = g (ix3 (modIx r 3) (0 : Fin 1) l) := by
  refine Eq.trans ?_ (val_rows g r 3 l)
  pointwise [val_main_v54, val_main_v53]

/-- The reference's residual rows. -/
theorem val_x (a : (⟨S16384x5632, .bf16⟩ : BufTy).Contents (Elt Ideal))
    (w : (⟨S2x2x5632x2048, .f32⟩ : BufTy).Contents (Elt Ideal)) (x : (⟨S16384x2048, .f32⟩ : BufTy).Contents (Elt Ideal))
    (g : (⟨S144x1x2048, .f32⟩ : BufTy).Contents (Elt Ideal)) (p : (⟨S2x3x2048, .f32⟩ : BufTy).Contents (Elt Ideal)) :
    val_main_v32 (F := Ideal) a w x g p = xVal a w x g p := by
  funext y
  obtain ⟨r, l, rfl⟩ : ∃ (r : Fin 16384) (l : Fin 2048), y = ix2 r l := ⟨y 0, y 1, eq_ix2 y⟩
  show _ = xAt a w x g p r l
  unfold xAt
  rw [← val_gate g r l]
  unfold rowVal
  pointwise [val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v3, val_main_v2, val_main_v1, val_main_v0, val_main_cst,
    val_main_cst_0, val_main_cst_1, val_main_cst_2]

/-- The reference's next rows. -/
theorem val_h (a : (⟨S16384x5632, .bf16⟩ : BufTy).Contents (Elt Ideal))
    (w : (⟨S2x2x5632x2048, .f32⟩ : BufTy).Contents (Elt Ideal)) (x : (⟨S16384x2048, .f32⟩ : BufTy).Contents (Elt Ideal))
    (g : (⟨S144x1x2048, .f32⟩ : BufTy).Contents (Elt Ideal)) (p p' : (⟨S2x3x2048, .f32⟩ : BufTy).Contents (Elt Ideal)) :
    val_main_v56 (F := Ideal) a w x g p p' = hVal a w x g p p' := by
  funext y
  obtain ⟨r, l, rfl⟩ : ∃ (r : Fin 16384) (l : Fin 2048), y = ix2 r l := ⟨y 0, y 1, eq_ix2 y⟩
  show _ = hAt a w x g p p' r l
  have e : (fun j => xAt a w x g p r j) = fun j => val_main_v32 (F := Ideal) a w x g p (ix2 r j) := by
    rw [val_x]; rfl
  unfold hAt
  rw [e, ← val_scale g r l, ← val_shift g r l]
  unfold nextVal
  pointwise [val_main_v56, val_main_v55, val_main_v52, val_main_v51, val_main_v50, val_main_v47, val_main_v46, val_main_v45,
    val_main_v44, val_main_v43, val_main_v42, val_main_v41, val_main_v40, val_main_v39, val_main_v38, val_main_v37,
    val_main_v36, val_main_v35, val_main_v34, val_main_v33, val_main_cst_3, val_main_cst_4, val_main_cst_5, val_main_cst_6]

end Cert.NextRefIdeal.Next

end
-- ==== Proof.Next.Algebraic.lean ====
/-
  The residual call with the next rows against its reference: the two runs side by side, both pairs of results the same functions of the
  arguments.
-/
module

public import proofs.«01_k».proof.Defs
public import proofs.«01_k».proof.Proof.Next.Kernel
public import proofs.«01_k».proof.Proof.Next.Ref
public import proofs.«01_k».proof.Proof.Gen.NextRefIdeal.Run

@[expose] public section

noncomputable section

namespace Cert.Proof.Next

open Idealize.ShloMosaic Idealize.ShloMosaic.TcCoe Idealize.SL.Sem

/-- From equal arguments, at the ideal semantics, the kernel's two results equal the reference's. -/
theorem algebraic : Cert.algebraic_NextIdeal_NextRefIdeal (hNextIdeal := Cert.NextIdeal.Gen.facts)
    (hNextRefIdeal := Cert.NextRefIdeal.Gen.facts) := by
  intro m g m' g' _ hargs
  refine ⟨fun c => Cert.NextIdeal.Next.xVal (m ((c.tc : Thread _ _).loc Cert.NextIdeal.main_arg0))
      (m ((c.tc : Thread _ _).loc Cert.NextIdeal.main_arg1)) (m ((c.tc : Thread _ _).loc Cert.NextIdeal.main_arg2))
      (m ((c.tc : Thread _ _).loc Cert.NextIdeal.main_arg3)) (m ((c.tc : Thread _ _).loc Cert.NextIdeal.main_arg4)),
    fun c => Cert.NextIdeal.Next.hVal (m ((c.tc : Thread _ _).loc Cert.NextIdeal.main_arg0))
      (m ((c.tc : Thread _ _).loc Cert.NextIdeal.main_arg1)) (m ((c.tc : Thread _ _).loc Cert.NextIdeal.main_arg2))
      (m ((c.tc : Thread _ _).loc Cert.NextIdeal.main_arg3)) (m ((c.tc : Thread _ _).loc Cert.NextIdeal.main_arg4))
      (m ((c.tc : Thread _ _).loc Cert.NextIdeal.main_arg5)), ?_, ?_⟩
  · refine (θ_run (Cert.NextIdeal.defs (F := Ideal)) _ _).mono (fun r h c => ?_)
      (θ_run_and (Cert.NextIdeal.Next.run_main (F := Ideal) m g) (Cert.NextIdeal.Next.unchanged (F := Ideal) m g))
    exact ⟨((h.1 c).1 8).trans (Cert.NextIdeal.Next.final8 m c), ((h.1 c).1 9).trans (Cert.NextIdeal.Next.final9 m c), h.2 c⟩
  · refine (θ_run (Cert.NextRefIdeal.defs (F := Ideal)) _ _).mono (fun r h c => ?_) (Cert.NextRefIdeal.Value.run (F := Ideal) m' g')
    obtain ⟨hv, hw, h0⟩ := h c
    obtain ⟨e0, e1, e2, e3, e4, e5⟩ := hargs c
    refine ⟨hv.trans ?_, hw.trans ?_, h0⟩
    · refine ((Cert.NextRefIdeal.Read.val_main_v32_eq _ _ _ _ _).trans (Cert.NextRefIdeal.Next.val_x _ _ _ _ _)).trans ?_
      rw [e0, e1, e2, e3, e4]
    · refine ((Cert.NextRefIdeal.Read.val_main_v56_eq m' c).trans (Cert.NextRefIdeal.Next.val_h _ _ _ _ _ _)).trans ?_
      rw [e0, e1, e2, e3, e4, e5]

/-- The reference terminates, keeps its arguments and leaves every semaphore counter at zero. -/
theorem frame_ref : Cert.quiescent_NextRefIdeal (hNextRefIdeal := Cert.NextRefIdeal.Gen.facts) := fun m g _ =>
  (θ_run (Cert.NextRefIdeal.defs (F := Ideal)) _ _).mono
    (fun r h => ⟨fun c => (h c).2.2, Idealize.ShloMosaic.sem_eq_zero_of_no_sems (by decide) r.2⟩)
    (Cert.NextRefIdeal.Value.run (F := Ideal) m g)

end Cert.Proof.Next

end
-- ==== Proof.Vals.Kernel.lean ====
/-
  The projection of the values into the cache, read as values: at any grid point the weight scratch holds the value columns of the last layer's
  weights, the stored block is the product with them, and the result array after the run is that product in the last layer's
  place and the previous cache in the other's.
-/
module

public import proofs.«01_k».proof.Proof.Gen.ValsIdeal.Value
public import proofs.«01_k».proof.Proof.Cache.Kernel
public import Idealize.ShloMosaic.Lib.Pointwise
public import Idealize.ShloMosaic.Lib.Pipeline.ValueKit
public import Idealize.ShloMosaic.Lib.Tactic

@[expose] public section

noncomputable section

namespace Cert.ValsIdeal.Vals

open Cert.ValsIdeal Cert.ValsIdeal.Gen Idealize.ShloMosaic Idealize.ShloMosaic.TcCoe Idealize.SL.Sem
open Idealize.ShloMosaic.Pipeline (Dat)
open Cert.CacheIdeal.Cache (blockVal pay_eq w_apply hz2 hz3 hz4 sum_ext)

/-- At every point but the first, the block it leaves is the product with the carried scratch. -/
theorem out_B (c : Dev nD) (i : grid0.Coords) (arg1 : Memref sig .tc .vmem S512x2048 .bf16) (harg1 : arg1.IsWhole) (arg2 : Memref sig .tc .vmem S1x2048x1024 .f32) (harg2 : arg2.IsWhole)
    (arg4 : Memref sig .tc .vmem S2x1x256x1024 .f32) (harg4 : arg4.IsWhole) (arg5 : Memref sig .tc .vmem S2048x1024 .bf16) (harg5 : arg5.IsWhole) (hc0 : ¬cond0_0 i)
    (x0 : Vec Ideal S512x2048 .bf16) (x1 : Vec Ideal S1x2048x1024 .f32) (xs0 : Vec Ideal S2048x1024 .bf16) :
    out0_B_2 c i arg1 harg1 arg2 harg2 arg4 harg4 arg5 harg5 hc0 x0 x1 xs0 = blockVal x0 xs0 := by
  unfold out0_B_2
  rw [View.read_writes_eq_canon _ _ _ (cover0_B_2 c i arg1 harg1 arg2 harg2 arg4 harg4 arg5 harg5 hc0 x0 x1 xs0)]
  unfold kernelRun0_B
  dsimp only
  sl_unfold_words
  rw [View.canon_unit_zero hz4]
  simp only [View.readAt_eq_ld, harg1.read_unread, harg5.read_unread, View.ld_unit_zero (S := S2048x1024) hz2,
    View.ld_unit_zero (S := S512x2048) hz2]
  exact pay_eq _ _

/-- At the first point the block it leaves is the product with the weight block, stored first in the scratch and read back. -/
theorem out_A (c : Dev nD) (i : grid0.Coords) (arg1 : Memref sig .tc .vmem S512x2048 .bf16) (harg1 : arg1.IsWhole) (arg2 : Memref sig .tc .vmem S1x2048x1024 .f32) (harg2 : arg2.IsWhole)
    (arg4 : Memref sig .tc .vmem S2x1x256x1024 .f32) (harg4 : arg4.IsWhole) (arg5 : Memref sig .tc .vmem S2048x1024 .bf16) (harg5 : arg5.IsWhole) (hc0 : cond0_0 i)
    (x0 : Vec Ideal S512x2048 .bf16) (x1 : Vec Ideal S1x2048x1024 .f32) :
    out0_A_2 c i arg1 harg1 arg2 harg2 arg4 harg4 arg5 harg5 hc0 x0 x1 = blockVal x0 (k0_pay1 x1) := by
  unfold out0_A_2
  rw [View.read_writes_eq_canon _ _ _ (cover0_A_2 c i arg1 harg1 arg2 harg2 arg4 harg4 arg5 harg5 hc0 x0 x1)]
  unfold kernelRun0_A
  dsimp only
  sl_unfold_words
  rw [View.canon_unit_zero hz4]
  simp only [View.readAt_eq_ld, harg1.read_unread, harg2.read_unread, View.readCov_unit_zero (S := S2048x1024) _ hz2,
    View.ld_unit_zero (S := S512x2048) hz2, View.ld_unit_zero (S := S1x2048x1024) hz3]
  exact pay_eq _ _

/-- What the first point leaves in the scratch: the weight block. -/
theorem sout_A (c : Dev nD) (i : grid0.Coords) (arg1 : Memref sig .tc .vmem S512x2048 .bf16) (harg1 : arg1.IsWhole) (arg2 : Memref sig .tc .vmem S1x2048x1024 .f32) (harg2 : arg2.IsWhole)
    (arg4 : Memref sig .tc .vmem S2x1x256x1024 .f32) (harg4 : arg4.IsWhole) (arg5 : Memref sig .tc .vmem S2048x1024 .bf16) (harg5 : arg5.IsWhole) (hc0 : cond0_0 i)
    (x0 : Vec Ideal S512x2048 .bf16) (x1 : Vec Ideal S1x2048x1024 .f32) :
    sout0_A_0 c i arg1 harg1 arg2 harg2 arg4 harg4 arg5 harg5 hc0 x0 x1 = k0_pay1 x1 := by
  unfold sout0_A_0
  rw [View.read_writes_eq_canon _ _ _ (scover0_A_0 c i arg1 harg1 arg2 harg2 arg4 harg4 arg5 harg5 hc0 x0 x1)]
  unfold kernelRun0_A
  dsimp only
  sl_unfold_words
  rw [View.canon_unit_zero hz2]
  simp only [View.readAt_eq_ld, harg2.read_unread, View.ld_unit_zero (S := S1x2048x1024) hz3]

variable (m : (ℓ : Loc nD τ sig) → Buf (Elt Ideal) ℓ) (ρ : Dev nD → PrngReg)

theorem idx0 : ∀ t : Fin cfg0.N, win0_0.index t = ![t.val, 0] :=
  (by decide +kernel : ∀ t : Fin grid0.N, win0_0.index t = ![t.val, 0])
theorem idx1 : ∀ t : Fin cfg0.N, win0_1.index t = ![1, 0, 10] :=
  (by decide +kernel : ∀ t : Fin grid0.N, win0_1.index t = ![1, 0, 10])
theorem idx2 : ∀ t : Fin cfg0.N, win0_2.index t = ![t.val, 1, 0, 0] :=
  (by decide +kernel : ∀ t : Fin grid0.N, win0_2.index t = ![t.val, 1, 0, 0])

theorem N_eq : cfg0.N = 16 := N_0

/-- The value columns of the last layer's weights, as the scratch holds them. -/
def wcol (c : Dev nD) : Vec Ideal S2048x1024 .bf16 := fun y =>
  m ((c : Thread nD τ).loc main_arg1) (ix3 (1 : Fin 2) (y 0) (⟨10240 + (y 1).val, by have h : (y 1).val < 1024 := (y 1).isLt; omega⟩ : Fin 17408))

/-- The weight window's block is the value columns. -/
theorem iblk1 (c : Dev nD) (t : Fin cfg0.N) : k0_pay1 (F := Ideal) (iblk m c 1 t) = wcol m c := by
  funext y
  obtain ⟨k, l, rfl⟩ : ∃ k l, y = ix2 k l := ⟨y 0, y 1, eq_ix2 y⟩
  refine (w_apply _ k l).trans ?_
  unfold wcol
  blk_ext [iblk, V_main_arg1, idx1 t]

/-- After any point the scratch holds the value columns: stored at the first point and carried since. -/
theorem scratch_eq (c : Dev nD) : ∀ (n : Nat) (hn : n < cfg0.N), (outsAt0 m c n hn).2 = wcol m c := by
  intro n
  induction n with
  | zero =>
    intro hn
    rw [show outsAt0 m c 0 hn = _ from outsAt0_A m c ⟨0, hn⟩ rfl]
    dsimp only
    rw [sout_A, iblk1]
  | succ n ih =>
    intro hn
    have := N_eq
    rw [show outsAt0 m c (n + 1) hn = _ from outsAt0_B m c ⟨n + 1, hn⟩ (by dsimp only; omega)]
    dsimp only
    exact ih (by omega)

/-- After any point the output's staging buffer holds the product of the point's rows and the value columns. -/
theorem outs_eq (c : Dev nD) (t : Fin cfg0.N) : (outsAt0 m c t.val t.isLt).1 = blockVal (iblk m c 0 t) (wcol m c) := by
  by_cases h0 : t.val % 16 = 0
  · rw [outsAt0_A m c t h0]
    dsimp only
    rw [out_A, iblk1]
  · rw [outsAt0_B m c t h0]
    dsimp only
    have := t.isLt
    rw [out_B, scratch_eq m c (t.val - 1) (by omega)]

/-- The new values: row `256 s + p` of `h` times the value columns of the last layer's weights. -/
def newVal (h : S16384x2048.Idx → EReal) (w : S2x2048x17408.Idx → EReal) : S32x2x256x1024.Idx → EReal := fun y =>
  ∑ k : Fin 2048, h (ix2 (⟨(y 0).val * 256 + (y 2).val, by
    have h0 : (y 0).val < 32 := (y 0).isLt
    have h2 : (y 2).val < 256 := (y 2).isLt
    omega⟩ : Fin 16384) k) * w (ix3 (1 : Fin 2) k (⟨10240 + (y 3).val, by have h : (y 3).val < 1024 := (y 3).isLt; omega⟩ : Fin 17408))

/-- The result as a function of the three arguments: the new values in the last layer's place, the previous cache elsewhere. -/
def valsVal (h : S16384x2048.Idx → EReal) (w : S2x2048x17408.Idx → EReal) (p : S32x2x256x1024.Idx → EReal) :
    S32x2x256x1024.Idx → EReal := fun y => if (y 1).val / 1 = 1 then newVal h w y else p y

/-- The result buffer is entered holding the previous cache. -/
theorem V_prev (c : Dev nD) : V m c main_v0 = m ((c : Thread nD τ).loc main_arg2) := by
  entry_read
  rfl

/-- The result array after the run. -/
theorem final (c : Dev nD) : (dats m 0 c).arrAt 2 cfg0.N
    = valsVal (m ((c : Thread nD τ).loc main_arg0)) (m ((c : Thread nD τ).loc main_arg1)) (m ((c : Thread nD τ).loc main_arg2)) := by
  refine ((dats m 0 c).arrAt_eq_of_coversWhere 2 (newVal (m ((c : Thread nD τ).loc main_arg0)) (m ((c : Thread nD τ).loc main_arg1)))
    (P := fun i => (i 1).val / 1 = 1) (fun β => β (1 : Fin 4) = 1) (by decide +kernel) (fun t hf y => ?_) (fun j => Iff.rfl)).trans ?_
  · blk_simp
    rw [after0_2, outs_eq]
    obtain ⟨a, b, r, l, rfl⟩ : ∃ (a : Fin 2) (b : Fin 1) (r : Fin 256) (l : Fin 1024), y = ix4 a b r l := ⟨y 0, y 1, y 2, y 3, eq_ix4 y⟩
    unfold blockVal newVal wcol
    refine sum_ext fun k => congrArg₂ (· * ·) ?_ ?_ <;> blk_ext [iblk, V_main_arg0, idx0 t, idx2 t]
  · funext y
    refine if_congr Iff.rfl rfl ?_
    exact congrFun ((A_eq m c 2).trans (V_prev m c)) y

end Cert.ValsIdeal.Vals

end
-- ==== Proof.Vals.Ref.lean ====
/-
  The value cache projection's reference, read at an index.
-/
module

public import proofs.«01_k».proof.Proof.Gen.ValsRefIdeal.Read
public import proofs.«01_k».proof.Proof.Vals.Kernel

@[expose] public section

noncomputable section

namespace Cert.ValsRefIdeal.Vals

open Cert.ValsRefIdeal Cert.ValsRefIdeal.Gen Cert.ValsRefIdeal.Read Idealize.ShloMosaic Idealize.ShloMosaic.TcCoe Idealize.SL.Sem
open Cert.ValsIdeal.Vals (valsVal newVal)

/-- The reference's result is the previous cache in the first layer's place and the new values in the last layer's. -/
theorem val_eq (h : (⟨S16384x2048, .bf16⟩ : BufTy).Contents (Elt Ideal)) (w : (⟨S2x2048x17408, .f32⟩ : BufTy).Contents (Elt Ideal))
    (p : (⟨S32x2x256x1024, .f32⟩ : BufTy).Contents (Elt Ideal)) :
    val_main_v11 (F := Ideal) h w p = valsVal h w p := by
  funext y
  obtain ⟨s, lay, r, l, rfl⟩ : ∃ (s : Fin 32) (lay : Fin 2) (r : Fin 256) (l : Fin 1024), y = ix4 s lay r l := ⟨y 0, y 1, y 2, y 3, eq_ix4 y⟩
  unfold valsVal newVal
  rcases (by revert lay; decide : lay = 0 ∨ lay = 1) with rfl | rfl
  · refine Eq.trans ?_ (if_neg (show ¬((0 : Fin 2).val / 1 = 1) by decide)).symm
    pointwise [val_main_v11, val_main_v9, val_main_v7, val_main_v6]
  · refine Eq.trans ?_ (if_pos (show (1 : Fin 2).val / 1 = 1 by decide)).symm
    pointwise [val_main_v11, val_main_v10, val_main_v8, val_main_v5, val_main_v4, val_main_v3, val_main_v2, val_main_v1, val_main_v0]

end Cert.ValsRefIdeal.Vals

end
-- ==== Proof.Vals.Algebraic.lean ====
/-
  The projection of the values into the cache against its reference: the two runs side by side, both results the same function of the arguments.
-/
module

public import proofs.«01_k».proof.Defs
public import proofs.«01_k».proof.Proof.Vals.Kernel
public import proofs.«01_k».proof.Proof.Vals.Ref
public import proofs.«01_k».proof.Proof.Gen.ValsRefIdeal.Run

@[expose] public section

noncomputable section

namespace Cert.Proof.Vals

open Idealize.ShloMosaic Idealize.ShloMosaic.TcCoe Idealize.SL.Sem

/-- From equal arguments, at the ideal semantics, the kernel's result equals the reference's. -/
theorem algebraic : Cert.algebraic_ValsIdeal_ValsRefIdeal (hValsIdeal := Cert.ValsIdeal.Gen.facts)
    (hValsRefIdeal := Cert.ValsRefIdeal.Gen.facts) := by
  intro m g m' g' _ hargs
  refine ⟨fun c => Cert.ValsIdeal.Vals.valsVal (m ((c.tc : Thread _ _).loc Cert.ValsIdeal.main_arg0))
    (m ((c.tc : Thread _ _).loc Cert.ValsIdeal.main_arg1)) (m ((c.tc : Thread _ _).loc Cert.ValsIdeal.main_arg2)), ?_, ?_⟩
  · refine (θ_run (Cert.ValsIdeal.defs (F := Ideal)) _ _).mono (fun r h c => ?_) (Cert.ValsIdeal.Value.run_blocks (F := Ideal) m g)
    obtain ⟨hv, h0, h1, h2⟩ := h c
    exact ⟨hv.trans (Cert.ValsIdeal.Vals.final m c), h0, h1, h2⟩
  · refine (θ_run (Cert.ValsRefIdeal.defs (F := Ideal)) _ _).mono (fun r h c => ?_) (Cert.ValsRefIdeal.Value.run (F := Ideal) m' g')
    obtain ⟨hv, h0, h1, h2⟩ := h c
    refine ⟨hv.trans ?_, h0, h1, h2⟩
    refine ((Cert.ValsRefIdeal.Read.val_main_v11_eq _ _ _).trans (Cert.ValsRefIdeal.Vals.val_eq _ _ _)).trans ?_
    rw [(hargs c).1, (hargs c).2.1, (hargs c).2.2]

/-- The reference terminates, keeps its arguments and leaves every semaphore counter at zero. -/
theorem frame_ref : Cert.quiescent_ValsRefIdeal (hValsRefIdeal := Cert.ValsRefIdeal.Gen.facts) := fun m g _ =>
  (θ_run (Cert.ValsRefIdeal.defs (F := Ideal)) _ _).mono
    (fun r h => ⟨fun c => (h c).2, Idealize.ShloMosaic.sem_eq_zero_of_no_sems (by decide) r.2⟩)
    (Cert.ValsRefIdeal.Value.run (F := Ideal) m g)

end Cert.Proof.Vals

end
-- ==== Proof.Latkv.Kernel.lean ====
/-
  The combined input projection at the latent rows and the columns of their keys and values: the same body as at the columns of `z`,
  over the last four row tiles and two column blocks of the first layer's weights.
-/
module

public import proofs.«01_k».proof.Proof.Gen.LatkvIdeal.Value
public import proofs.«01_k».proof.Proof.Proj.Kernel

@[expose] public section

noncomputable section

namespace Cert.LatkvIdeal.Latkv

open Cert.LatkvIdeal Cert.LatkvIdeal.Gen Idealize.ShloMosaic Idealize.ShloMosaic.TcCoe Idealize.SL.Sem
open Idealize.ShloMosaic.Pipeline (Dat)
open Cert.ProjIdeal.Proj (blockVal tiles_forall hz2 hz3 sum_ext)

/-- A weight block as the body stores it in the scratch, read at an index. -/
theorem w_apply (x : Vec Ideal S1x2048x1024 .f32) (k : Fin 2048) (l : Fin 1024) :
    k0_pay5 (F := Ideal) x (ix2 k l) = x (ix3 0 k l) := Cert.ProjIdeal.Proj.w_apply x k l

/-- At a point that reads the carried weights (every point but the first of a column), the block it leaves is the product with
    the scratch. -/
theorem out_B (c : Dev nD) (i : grid0.Coords) (arg2 : Memref sig .tc .vmem S2048x2048 .bf16) (harg2 : arg2.IsWhole) (arg3 : Memref sig .tc .vmem S1x2048x1024 .f32) (harg3 : arg3.IsWhole)
    (arg4 : Memref sig .tc .vmem S2048x1024 .bf16) (harg4 : arg4.IsWhole) (arg5 : Memref sig .tc .vmem S2048x1024 .bf16) (harg5 : arg5.IsWhole) (hc0 : ¬cond0_0 i)
    (x0 : Vec Ideal S2048x2048 .bf16) (x1 : Vec Ideal S1x2048x1024 .f32) (xs0 : Vec Ideal S2048x1024 .bf16) :
    out0_B_2 c i arg2 harg2 arg3 harg3 arg4 harg4 arg5 harg5 hc0 x0 x1 xs0 = blockVal x0 xs0 := by
  unfold out0_B_2
  rw [View.read_writes_eq_canon _ _ _ (cover0_B_2 c i arg2 harg2 arg3 harg3 arg4 harg4 arg5 harg5 hc0 x0 x1 xs0)]
  funext y
  have hcov := cover0_B_2 c i arg2 harg2 arg3 harg3 arg4 harg4 arg5 harg5 hc0 x0 x1 xs0 y
  refine View.canon_apply_of_pieces (blockVal x0 xs0) _ ?_ y hcov
  unfold kernelRun0_B
  dsimp only
  sl_unfold_words
  simp only [View.readAt_eq_ld, harg2.read_unread, harg5.read_unread, View.ld_unit_zero (S := S2048x1024) hz2]
  exact tiles_forall x0 xs0

/-- At the first point of a column the block it leaves is the product with the weight block, stored first in the scratch and
    read back. -/
theorem out_A (c : Dev nD) (i : grid0.Coords) (arg2 : Memref sig .tc .vmem S2048x2048 .bf16) (harg2 : arg2.IsWhole) (arg3 : Memref sig .tc .vmem S1x2048x1024 .f32) (harg3 : arg3.IsWhole)
    (arg4 : Memref sig .tc .vmem S2048x1024 .bf16) (harg4 : arg4.IsWhole) (arg5 : Memref sig .tc .vmem S2048x1024 .bf16) (harg5 : arg5.IsWhole) (hc0 : cond0_0 i)
    (x0 : Vec Ideal S2048x2048 .bf16) (x1 : Vec Ideal S1x2048x1024 .f32) :
    out0_A_2 c i arg2 harg2 arg3 harg3 arg4 harg4 arg5 harg5 hc0 x0 x1 = blockVal x0 (k0_pay5 x1) := by
  unfold out0_A_2
  rw [View.read_writes_eq_canon _ _ _ (cover0_A_2 c i arg2 harg2 arg3 harg3 arg4 harg4 arg5 harg5 hc0 x0 x1)]
  funext y
  have hcov := cover0_A_2 c i arg2 harg2 arg3 harg3 arg4 harg4 arg5 harg5 hc0 x0 x1 y
  refine View.canon_apply_of_pieces (blockVal x0 (k0_pay5 x1)) _ ?_ y hcov
  unfold kernelRun0_A
  dsimp only
  sl_unfold_words
  simp only [View.readAt_eq_ld, harg2.read_unread, harg3.read_unread, View.readCov_unit_zero (S := S2048x1024) _ hz2,
    View.ld_unit_zero (S := S1x2048x1024) hz3]
  exact tiles_forall x0 (k0_pay5 x1)

/-- What the first point of a column leaves in the scratch: the weight block. -/
theorem sout_A (c : Dev nD) (i : grid0.Coords) (arg2 : Memref sig .tc .vmem S2048x2048 .bf16) (harg2 : arg2.IsWhole) (arg3 : Memref sig .tc .vmem S1x2048x1024 .f32) (harg3 : arg3.IsWhole)
    (arg4 : Memref sig .tc .vmem S2048x1024 .bf16) (harg4 : arg4.IsWhole) (arg5 : Memref sig .tc .vmem S2048x1024 .bf16) (harg5 : arg5.IsWhole) (hc0 : cond0_0 i)
    (x0 : Vec Ideal S2048x2048 .bf16) (x1 : Vec Ideal S1x2048x1024 .f32) :
    sout0_A_0 c i arg2 harg2 arg3 harg3 arg4 harg4 arg5 harg5 hc0 x0 x1 = k0_pay5 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz2]
  simp only [View.readAt_eq_ld, harg3.read_unread, View.ld_unit_zero (S := S1x2048x1024) hz3]

variable (m : (ℓ : Loc nD τ sig) → Buf (Elt Ideal) ℓ) (ρ : Dev nD → PrngReg)

theorem idx0 : ∀ t : Fin cfg0.N, win0_0.index t = ![4 + t.val % 4, 0] :=
  (by decide +kernel : ∀ t : Fin grid0.N, win0_0.index t = ![4 + t.val % 4, 0])
theorem idx1 : ∀ t : Fin cfg0.N, win0_1.index t = ![0, 0, 9 + t.val / 4] :=
  (by decide +kernel : ∀ t : Fin grid0.N, win0_1.index t = ![0, 0, 9 + t.val / 4])
theorem idx2 : ∀ t : Fin cfg0.N, win0_2.index t = ![t.val % 4, t.val / 4] :=
  (by decide +kernel : ∀ t : Fin grid0.N, win0_2.index t = ![t.val % 4, t.val / 4])

theorem N_eq : cfg0.N = 8 := N_0

/-- Column block `9 + j` of the weights, as the scratch holds it. -/
def wcol (c : Dev nD) (j : Nat) (hj : j < 2) : Vec Ideal S2048x1024 .bf16 := fun y =>
  m ((c : Thread nD τ).loc main_arg1) (ix3 (0 : Fin 2) (y 0) (⟨(9 + j) * 1024 + (y 1).val, by have h : (y 1).val < 1024 := (y 1).isLt; omega⟩ : Fin 17408))

theorem wcol_congr (c : Dev nD) {j j' : Nat} (h : j = j') (hj : j < 2) (hj' : j' < 2) : wcol m c j hj = wcol m c j' hj' := by
  subst h; rfl

/-- The weight window's block at a point is the point's column block. -/
theorem iblk1 (c : Dev nD) (t : Fin cfg0.N) :
    k0_pay5 (F := Ideal) (iblk m c 1 t) = wcol m c (t.val / 4) (by have := t.isLt; have := N_eq; omega) := by
  funext y
  obtain ⟨k, l, rfl⟩ : ∃ k l, y = ix2 k l := ⟨y 0, y 1, eq_ix2 y⟩
  rw [w_apply]
  unfold wcol
  blk_ext [iblk, V_main_arg1, idx1 t]

/-- After any point the scratch holds the point's column block of the weights: stored at the column's first point and carried
    since. -/
theorem scratch_eq (c : Dev nD) : ∀ (n : Nat) (hn : n < cfg0.N),
    (outsAt0 m c n hn).2 = wcol m c (n / 4) (by have := N_eq; omega) := by
  intro n
  induction n with
  | zero =>
    intro hn
    rw [show outsAt0 m c 0 hn = _ from outsAt0_A m c ⟨0, hn⟩ rfl]
    dsimp only
    rw [sout_A, iblk1]
  | succ n ih =>
    intro hn
    by_cases h0 : (n + 1) % 4 = 0
    · rw [show outsAt0 m c (n + 1) hn = _ from outsAt0_A m c ⟨n + 1, hn⟩ h0]
      dsimp only
      rw [sout_A, iblk1]
    · rw [show outsAt0 m c (n + 1) hn = _ from outsAt0_B m c ⟨n + 1, hn⟩ h0]
      dsimp only
      exact (ih (by omega)).trans (wcol_congr m c (by omega) _ _)

/-- After any point the output's staging buffer holds the product of the point's row block and its column block. -/
theorem outs_eq (c : Dev nD) (t : Fin cfg0.N) :
    (outsAt0 m c t.val t.isLt).1 = blockVal (iblk m c 0 t) (wcol m c (t.val / 4) (by have := t.isLt; have := N_eq; omega)) := by
  by_cases h0 : t.val % 4 = 0
  · rw [outsAt0_A m c t h0]
    dsimp only
    rw [out_A, iblk1]
  · rw [outsAt0_B m c t h0]
    dsimp only
    have := N_eq
    have := t.isLt
    rw [out_B, scratch_eq m c (t.val - 1) (by omega), wcol_congr m c (show (t.val - 1) / 4 = t.val / 4 by omega) _ (by omega)]

/-- The result as a function of the two arguments: row `8192 + r` of `h` times column `9216 + l` of the weights. -/
def latkvVal (h : S16384x2048.Idx → EReal) (w : S2x2048x17408.Idx → EReal) : S8192x2048.Idx → EReal := fun y =>
  ∑ k : Fin 2048, h (ix2 (⟨8192 + (y 0).val, by have h : (y 0).val < 8192 := (y 0).isLt; omega⟩ : Fin 16384) k) * w (ix3 (0 : Fin 2) k (⟨9216 + (y 1).val, by have h : (y 1).val < 2048 := (y 1).isLt; omega⟩ : Fin 17408))

/-- The result array after the run. -/
theorem final (c : Dev nD) : (dats m 0 c).arrAt 2 cfg0.N
    = latkvVal (m ((c : Thread nD τ).loc main_arg0)) (m ((c : Thread nD τ).loc main_arg1)) := by
  refine (dats m 0 c).arrAt_eq_of_covers 2 _ (by decide +kernel) fun t hf y => ?_
  blk_simp
  rw [after0_2, outs_eq]
  obtain ⟨r, l, rfl⟩ : ∃ (r : Fin 2048) (l : Fin 1024), y = ix2 r l := ⟨y 0, y 1, eq_ix2 y⟩
  unfold blockVal latkvVal wcol
  refine sum_ext fun k => congrArg₂ (· * ·) ?_ ?_ <;> blk_ext [iblk, V_main_arg0, idx0 t, idx2 t]

end Cert.LatkvIdeal.Latkv

end
-- ==== Proof.Latkv.Ref.lean ====
/-
  The reference of the combined input projection at the latent rows and the columns of their keys and values, read at an index.
-/
module

public import proofs.«01_k».proof.Proof.Gen.LatkvRefIdeal.Read
public import proofs.«01_k».proof.Proof.Latkv.Kernel

@[expose] public section

noncomputable section

namespace Cert.LatkvRefIdeal.Latkv

open Cert.LatkvRefIdeal Cert.LatkvRefIdeal.Gen Cert.LatkvRefIdeal.Read Idealize.ShloMosaic Idealize.ShloMosaic.TcCoe Idealize.SL.Sem
open Cert.LatkvIdeal.Latkv (latkvVal)

/-- The reference's result is the product of the arguments over the latent rows and two column blocks. -/
theorem val_eq (h : (⟨S16384x2048, .bf16⟩ : BufTy).Contents (Elt Ideal)) (w : (⟨S2x2048x17408, .f32⟩ : BufTy).Contents (Elt Ideal)) :
    val_main_v6 (F := Ideal) h w = latkvVal h w := by
  funext y
  obtain ⟨r, l, rfl⟩ : ∃ (r : Fin 8192) (l : Fin 2048), y = ix2 r l := ⟨y 0, y 1, eq_ix2 y⟩
  unfold latkvVal
  pointwise [val_main_v6, val_main_v5, val_main_v4, val_main_v3, val_main_v2, val_main_v1, val_main_v0]

end Cert.LatkvRefIdeal.Latkv

end
-- ==== Proof.Latkv.Algebraic.lean ====
/-
  The combined input projection at the latent rows against its reference: the two runs side by side, both results the product of the arguments.
-/
module

public import proofs.«01_k».proof.Defs
public import proofs.«01_k».proof.Proof.Latkv.Kernel
public import proofs.«01_k».proof.Proof.Latkv.Ref
public import proofs.«01_k».proof.Proof.Gen.LatkvRefIdeal.Run

@[expose] public section

noncomputable section

namespace Cert.Proof.Latkv

open Idealize.ShloMosaic Idealize.ShloMosaic.TcCoe Idealize.SL.Sem

/-- From equal arguments, at the ideal semantics, the kernel's result equals the reference's. -/
theorem algebraic : Cert.algebraic_LatkvIdeal_LatkvRefIdeal (hLatkvIdeal := Cert.LatkvIdeal.Gen.facts)
    (hLatkvRefIdeal := Cert.LatkvRefIdeal.Gen.facts) := by
  intro m g m' g' _ hargs
  refine ⟨fun c => Cert.LatkvIdeal.Latkv.latkvVal (m ((c.tc : Thread _ _).loc Cert.LatkvIdeal.main_arg0))
    (m ((c.tc : Thread _ _).loc Cert.LatkvIdeal.main_arg1)), ?_, ?_⟩
  · refine (θ_run (Cert.LatkvIdeal.defs (F := Ideal)) _ _).mono (fun r h c => ?_) (Cert.LatkvIdeal.Value.run_blocks (F := Ideal) m g)
    obtain ⟨hv, h0, h1⟩ := h c
    exact ⟨hv.trans (Cert.LatkvIdeal.Latkv.final m c), h0, h1⟩
  · refine (θ_run (Cert.LatkvRefIdeal.defs (F := Ideal)) _ _).mono (fun r h c => ?_) (Cert.LatkvRefIdeal.Value.run (F := Ideal) m' g')
    obtain ⟨hv, h0, h1⟩ := h c
    refine ⟨hv.trans ?_, h0, h1⟩
    exact ((Cert.LatkvRefIdeal.Read.val_main_v6_eq _ _).trans (Cert.LatkvRefIdeal.Latkv.val_eq _ _)).trans
      (congrArg₂ Cert.LatkvIdeal.Latkv.latkvVal (hargs c).1 (hargs c).2)

/-- The reference terminates, keeps its arguments and leaves every semaphore counter at zero. -/
theorem frame_ref : Cert.quiescent_LatkvRefIdeal (hLatkvRefIdeal := Cert.LatkvRefIdeal.Gen.facts) := fun m g _ =>
  (θ_run (Cert.LatkvRefIdeal.defs (F := Ideal)) _ _).mono
    (fun r h => ⟨fun c => (h c).2, Idealize.ShloMosaic.sem_eq_zero_of_no_sems (by decide) r.2⟩)
    (Cert.LatkvRefIdeal.Value.run (F := Ideal) m g)

end Cert.Proof.Latkv

end
-- ==== Proof.Last.Kernel.lean ====
/-
  The context retention call at the last layer, on one block: the heads are those of the first layer's call, and the two
  result blocks a point leaves are the gated and normalised context and the heads' end states.
-/
module

public import proofs.«01_k».proof.Proof.Gen.LastIdeal.Value
public import proofs.«01_k».proof.Proof.Ret.Block

@[expose] public section

set_option maxHeartbeats 4000000
set_option maxRecDepth 16384

noncomputable section

namespace Cert.LastIdeal.Last

open Cert.LastIdeal Cert.LastIdeal.Gen Idealize.ShloMosaic Idealize.ShloMosaic.TcCoe Idealize.SL.Sem
open Cert.RetIdeal.Ret

/-! ## The stores of the states -/

/-- The forward state after both chunks: chunk 0, then chunk 1. -/
def fin6F (lg : Vec Ideal S1x2x1x256 .f32) (k0 : Vec Ideal S128x128 .bf16) (v0 : Vec Ideal S128x256 .bf16)
    (k1 : Vec Ideal S128x128 .bf16) (v1 : Vec Ideal S128x256 .bf16) : FVec Ideal S1x1x1x1x128x256 .f32 :=
  k0_pay88 (Cert.RetIdeal.Gen.k0_pay17 (Cert.RetIdeal.Gen.k0_pay5 lg)) k0_pay41 (kfB lg k0) v0 (kfB lg k1) v1
/-- The backward state after both chunks: chunk 1, then chunk 0. -/
def fin6B (lg : Vec Ideal S1x2x1x256 .f32) (k1 : Vec Ideal S128x128 .bf16) (v1 : Vec Ideal S128x256 .bf16)
    (k0 : Vec Ideal S128x128 .bf16) (v0 : Vec Ideal S128x256 .bf16) : FVec Ideal S1x1x1x1x128x256 .f32 :=
  k0_pay88 (Cert.RetIdeal.Gen.k0_pay18 (Cert.RetIdeal.Gen.k0_pay6 lg)) k0_pay41 (kbB lg k1) v1 (kbB lg k0) v0

theorem fin6F_apply (lg : Vec Ideal S1x2x1x256 .f32) (k0 : Vec Ideal S128x128 .bf16) (v0 : Vec Ideal S128x256 .bf16)
    (k1 : Vec Ideal S128x128 .bf16) (v1 : Vec Ideal S128x256 .bf16) (d : Fin 128) (e : Fin 256) :
    fin6F lg k0 v0 k1 v1 (ix6 (0 : Fin 1) (0 : Fin 1) (0 : Fin 1) (0 : Fin 1) d e)
      = st2 zf (lv lg 0) (cv k0) (cv k1) (cv v0) (cv v1) d e := by
  have h : fin6F lg k0 v0 k1 v1 (ix6 (0 : Fin 1) (0 : Fin 1) (0 : Fin 1) (0 : Fin 1) d e)
      = dc (lv lg 0 e) * (dc (lv lg 0 e) * 0 + ∑ x : Fin 128, kfB lg k0 (ix3 (0 : Fin 1) x d) * v0 (ix2 x e))
        + ∑ x : Fin 128, kfB lg k1 (ix3 (0 : Fin 1) x d) * v1 (ix2 x e) := by
    pointwise [fin6F, k0_pay88, k0_pay86, k0_pay41, Cert.RetIdeal.Gen.k0_pay17, Cert.RetIdeal.Gen.k0_pay5, Cert.RetIdeal.Gen.k0_pay4]
    rfl
  simp only [h, kfB_apply]
  rfl

theorem fin6B_apply (lg : Vec Ideal S1x2x1x256 .f32) (k1 : Vec Ideal S128x128 .bf16) (v1 : Vec Ideal S128x256 .bf16)
    (k0 : Vec Ideal S128x128 .bf16) (v0 : Vec Ideal S128x256 .bf16) (d : Fin 128) (e : Fin 256) :
    fin6B lg k1 v1 k0 v0 (ix6 (0 : Fin 1) (0 : Fin 1) (0 : Fin 1) (0 : Fin 1) d e)
      = st2 zb (lv lg 1) (cv k1) (cv k0) (cv v1) (cv v0) d e := by
  have h : fin6B lg k1 v1 k0 v0 (ix6 (0 : Fin 1) (0 : Fin 1) (0 : Fin 1) (0 : Fin 1) d e)
      = dc (lv lg 1 e) * (dc (lv lg 1 e) * 0 + ∑ x : Fin 128, kbB lg k1 (ix3 (0 : Fin 1) x d) * v1 (ix2 x e))
        + ∑ x : Fin 128, kbB lg k0 (ix3 (0 : Fin 1) x d) * v0 (ix2 x e) := by
    pointwise [fin6B, k0_pay88, k0_pay86, k0_pay41, Cert.RetIdeal.Gen.k0_pay18, Cert.RetIdeal.Gen.k0_pay6, Cert.RetIdeal.Gen.k0_pay4]
    rfl
  simp only [h, kbB_apply]
  rfl

/-- The block of the states: every head's end state in both directions. -/
def endBlock (x0 : Vec Ideal S8x2x1x256 .f32) (x2 : Vec Ideal S256x1024 .bf16) (x3 : Vec Ideal S256x2048 .bf16) :
    Vec Ideal S1x1x2x8x128x256 .f32 := fun y => endAt x0 x2 x3 (y 2) (y 3) (y 4) (y 5)

/-- The store of a head's end state. -/
abbrev endPiece (dir : Fin 2) (j : Fin 8) (w : FVec Ideal S1x1x1x1x128x256 .f32) : View.Piece (Elt Ideal) S1x1x2x8x128x256 .f32 :=
  ⟨Rect.unit (s := S1x1x2x8x128x256) ![0, 0, dir.val, j.val, 0, 0] ![1, 1, 1, 1, 128, 256] (fun a => by fin_cases a <;> simp <;> omega), w⟩

theorem endPiece_apply (x0 : Vec Ideal S8x2x1x256 .f32) (x2 : Vec Ideal S256x1024 .bf16) (x3 : Vec Ideal S256x2048 .bf16)
    (dir : Fin 2) (j : Fin 8) (w : FVec Ideal S1x1x1x1x128x256 .f32)
    (hw : ∀ d e, w (ix6 (0 : Fin 1) (0 : Fin 1) (0 : Fin 1) (0 : Fin 1) d e) = endAt x0 x2 x3 dir j d e) (y : (endPiece dir j w).1.shape.Idx) :
    (endPiece dir j w).2 y = endBlock x0 x2 x3 ((endPiece dir j w).1.emb y) := by
  obtain ⟨a, b, u, v, d, e, rfl⟩ : ∃ (a b u v : Fin 1) (d : Fin 128) (e : Fin 256), y = ix6 a b u v d e :=
    ⟨y 0, y 1, y 2, y 3, y 4, y 5, eq_ix6 y⟩
  obtain ⟨rfl, rfl, rfl, rfl⟩ : a = 0 ∧ b = 0 ∧ u = 0 ∧ v = 0 :=
    ⟨Subsingleton.elim _ _, Subsingleton.elim _ _, Subsingleton.elim _ _, Subsingleton.elim _ _⟩
  refine (hw d e).trans ?_
  have e2 : ((endPiece dir j w).1.emb (ix6 (0 : Fin 1) (0 : Fin 1) (0 : Fin 1) (0 : Fin 1) d e)) 2 = dir := Fin.ext (by
    rw [Rect.emb_apply]; show dir.val + 1 * 0 = dir.val; omega)
  have e3 : ((endPiece dir j w).1.emb (ix6 (0 : Fin 1) (0 : Fin 1) (0 : Fin 1) (0 : Fin 1) d e)) 3 = j := Fin.ext (by
    rw [Rect.emb_apply]; show j.val + 1 * 0 = j.val; omega)
  have e4 : ((endPiece dir j w).1.emb (ix6 (0 : Fin 1) (0 : Fin 1) (0 : Fin 1) (0 : Fin 1) d e)) 4 = d := Fin.ext (by
    rw [Rect.emb_apply]; show 0 + 1 * d.val = d.val; omega)
  have e5 : ((endPiece dir j w).1.emb (ix6 (0 : Fin 1) (0 : Fin 1) (0 : Fin 1) (0 : Fin 1) d e)) 5 = e := Fin.ext (by
    rw [Rect.emb_apply]; show 0 + 1 * e.val = e.val; omega)
  unfold endBlock
  rw [e2, e3, e4, e5]

/-- A head's end state stored in its place. -/
def endP (x0 : Vec Ideal S8x2x1x256 .f32) (x2 : Vec Ideal S256x1024 .bf16) (x3 : Vec Ideal S256x2048 .bf16) :
    Fin 2 × Fin 8 → View.Piece (Elt Ideal) S1x1x2x8x128x256 .f32
  | (0, j) => endPiece 0 j (fin6F (lgL x0 j) (qL x2 0 j) (vL x3 0 j) (qL x2 1 j) (vL x3 1 j))
  | (1, j) => endPiece 1 j (fin6B (lgL x0 j) (qL x2 1 j) (vL x3 1 j) (qL x2 0 j) (vL x3 0 j))

/-- Each store of a state is the block's value on the part it covers. -/
theorem endL_forall (x0 : Vec Ideal S8x2x1x256 .f32) (x2 : Vec Ideal S256x1024 .bf16) (x3 : Vec Ideal S256x2048 .bf16) :
    ∀ p ∈ stKeys.map (endP x0 x2 x3), ∀ y : p.1.shape.Idx, p.2 y = endBlock x0 x2 x3 (p.1.emb y) := by
  intro p hp
  obtain ⟨q, _, rfl⟩ := List.mem_map.1 hp
  match q with
  | (0, j) =>
    refine endPiece_apply x0 x2 x3 0 j _ (fun d e => ?_)
    simp only [fin6F_apply, lv_lgL, cv_qL, cv_vL]; rfl
  | (1, j) =>
    refine endPiece_apply x0 x2 x3 1 j _ (fun d e => ?_)
    simp only [fin6B_apply, lv_lgL, cv_qL, cv_vL]; rfl

/-! ## The blocks a point leaves -/

variable (c : Dev nD) (i : grid0.Coords) (arg2 : Memref sig .tc .vmem S8x2x1x256 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x2048 .bf16) (harg6 : arg6.IsWhole) (arg8 : Memref sig .tc .vmem S256x2048 .bf16) (harg8 : arg8.IsWhole) (arg9 : Memref sig .tc .vmem S1x1x2x8x128x256 .f32) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x256x128 .bf16) (harg12 : arg12.IsWhole) (arg13 : Memref sig .tc .vmem S8x256x128 .bf16) (harg13 : arg13.IsWhole) (arg14 : Memref sig .tc .vmem S8x256x256 .bf16) (harg14 : arg14.IsWhole) (arg15 : Memref sig .tc .vmem S8x2x128x256 .bf16) (harg15 : arg15.IsWhole) (arg16 : Memref sig .tc .vmem S8x2x128x256 .bf16) (harg16 : arg16.IsWhole)
  (x0 : Vec Ideal S8x2x1x256 .f32) (x1 : Vec Ideal S256x1024 .bf16) (x2 : Vec Ideal S256x1024 .bf16) (x3 : Vec Ideal S256x2048 .bf16) (x4 : Vec Ideal S256x2048 .bf16)

/-- The result block a point leaves is the gated and normalised context over the point's input blocks. -/
theorem out5 : out0_A_5 c i arg2 harg2 arg3 harg3 arg4 harg4 arg5 harg5 arg6 harg6 arg8 harg8 arg9 harg9 arg10 harg10 arg11 harg11 arg12 harg12 arg13 harg13 arg14 harg14 arg15 harg15 arg16 harg16 x0 x1 x2 x3 x4 = blockOut x0 x1 x2 x3 x4 := by
  unfold out0_A_5
  rw [View.read_writes_eq_canon _ _ _ (cover0_A_5 c i arg2 harg2 arg3 harg3 arg4 harg4 arg5 harg5 arg6 harg6 arg8 harg8 arg9 harg9 arg10 harg10 arg11 harg11 arg12 harg12 arg13 harg13 arg14 harg14 arg15 harg15 arg16 harg16 x0 x1 x2 x3 x4)]
  funext y
  have hcov := cover0_A_5 c i arg2 harg2 arg3 harg3 arg4 harg4 arg5 harg5 arg6 harg6 arg8 harg8 arg9 harg9 arg10 harg10 arg11 harg11 arg12 harg12 arg13 harg13 arg14 harg14 arg15 harg15 arg16 harg16 x0 x1 x2 x3 x4 y
  refine View.canon_apply_of_pieces (blockOut x0 x1 x2 x3 x4) _ ?_ y hcov
  unfold kernelRun0_A
  dsimp only
  sl_unfold_words
  simp (discharger := decide) only [↓View.readCov_skip, ↓View.readCov_cons_toLoadRect, ↓readCov_join, View.readAt_eq_ld, harg2.read_unread,
    harg3.read_unread, harg4.read_unread, harg5.read_unread, harg6.read_unread]
  exact outL_forall x0 x1 x2 x3 x4

/-- The block of states a point leaves holds the heads' end states. -/
theorem out6 : out0_A_6 c i arg2 harg2 arg3 harg3 arg4 harg4 arg5 harg5 arg6 harg6 arg8 harg8 arg9 harg9 arg10 harg10 arg11 harg11 arg12 harg12 arg13 harg13 arg14 harg14 arg15 harg15 arg16 harg16 x0 x1 x2 x3 x4 = endBlock x0 x2 x3 := by
  unfold out0_A_6
  rw [View.read_writes_eq_canon _ _ _ (cover0_A_6 c i arg2 harg2 arg3 harg3 arg4 harg4 arg5 harg5 arg6 harg6 arg8 harg8 arg9 harg9 arg10 harg10 arg11 harg11 arg12 harg12 arg13 harg13 arg14 harg14 arg15 harg15 arg16 harg16 x0 x1 x2 x3 x4)]
  funext y
  have hcov := cover0_A_6 c i arg2 harg2 arg3 harg3 arg4 harg4 arg5 harg5 arg6 harg6 arg8 harg8 arg9 harg9 arg10 harg10 arg11 harg11 arg12 harg12 arg13 harg13 arg14 harg14 arg15 harg15 arg16 harg16 x0 x1 x2 x3 x4 y
  refine View.canon_apply_of_pieces (endBlock x0 x2 x3) _ ?_ y hcov
  unfold kernelRun0_A
  dsimp only
  sl_unfold_words
  simp (discharger := decide) only [↓View.readCov_skip, ↓View.readCov_cons_toLoadRect, ↓readCov_join, View.readAt_eq_ld, harg2.read_unread,
    harg3.read_unread, harg4.read_unread, harg5.read_unread, harg6.read_unread]
  exact endL_forall x0 x2 x3

end Cert.LastIdeal.Last

end
-- ==== Proof.Last.Final.lean ====
/-
  The last layer's context retention call: its two results after the run, as functions of the three argument arrays.
-/
module

public import proofs.«01_k».proof.Proof.Last.Kernel
public import proofs.«01_k».proof.Proof.Ret.Final

@[expose] public section

noncomputable section

namespace Cert.LastIdeal.Last

open Cert.LastIdeal Cert.LastIdeal.Gen Idealize.ShloMosaic Idealize.ShloMosaic.TcCoe Idealize.SL.Sem
open Idealize.ShloMosaic.Pipeline (Dat)
open Cert.RetIdeal.Ret (L Q W lgA qA vA inF inB ctxAt endAt outA outVal endA ls blockOut blockOut_apply outVal_apply split_row split_col)

variable (m : (ℓ : Loc nD τ sig) → Buf (Elt Ideal) ℓ)

/-- The logits as the region finds them: transposed and repeated along the lanes. -/
theorem V_logits (c : Dev nD) (j : Fin 8) (d : Fin 2) (z : Fin 1) (e : Fin 256) :
    V m c main_v2 (ix4 j d z e) = m ((c : Thread nD τ).loc main_arg1) (ix2 d j) := by
  entry_read
  pointwise

theorem N_eq : cfg0.N = 32 := N_0

theorem idx0 : ∀ t : Fin cfg0.N, win0_0.index t = ![0, 0, 0, 0] :=
  (by decide +kernel : ∀ t : Fin grid0.N, win0_0.index t = ![0, 0, 0, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 1] :=
  (by decide +kernel : ∀ t : Fin grid0.N, win0_2.index t = ![t.val, 1])
theorem idx3 : ∀ t : Fin cfg0.N, win0_3.index t = ![t.val, 1] :=
  (by decide +kernel : ∀ t : Fin grid0.N, win0_3.index t = ![t.val, 1])
theorem idx4 : ∀ t : Fin cfg0.N, win0_4.index t = ![t.val, 2] :=
  (by decide +kernel : ∀ t : Fin grid0.N, win0_4.index t = ![t.val, 2])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 1, 0, 0, 0, 0] :=
  (by decide +kernel : ∀ t : Fin grid0.N, win0_6.index t = ![t.val, 1, 0, 0, 0, 0])

/-- The grid's sequences. -/
abbrev seqOf (t : Fin cfg0.N) : Fin 32 := ⟨t.val, by have := t.isLt; have := N_eq; omega⟩

theorem L_iblk (c : Dev nD) (t : Fin cfg0.N) (j : Fin 8) (d : Fin 2) :
    L (iblk m c 0 t) j d = fun _ => lgA (m ((c : Thread nD τ).loc main_arg1)) d j := by
  funext e
  unfold L lgA
  refine congrArg ls ((?_ : _ = V m c main_v2 (ix4 j d (0 : Fin 1) e)).trans (V_logits m c j d 0 e))
  blk_ext [iblk, idx0 t]
theorem Q_iblk1 (c : Dev nD) (t : Fin cfg0.N) (n : Fin 2) (j : Fin 8) :
    Q (iblk m c 1 t) n j = qA (m ((c : Thread nD τ).loc main_arg0)) 0 (seqOf t) n j := by
  funext r d
  unfold Q qA
  blk_ext [iblk, V_main_arg0, idx1 t]
theorem Q_iblk2 (c : Dev nD) (t : Fin cfg0.N) (n : Fin 2) (j : Fin 8) :
    Q (iblk m c 2 t) n j = qA (m ((c : Thread nD τ).loc main_arg0)) 1 (seqOf t) n j := by
  funext r d
  unfold Q qA
  blk_ext [iblk, V_main_arg0, idx2 t]
theorem W_iblk3 (c : Dev nD) (t : Fin cfg0.N) (n : Fin 2) (j : Fin 8) :
    W (iblk m c 3 t) n j = vA (m ((c : Thread nD τ).loc main_arg0)) 1 (seqOf t) n j := by
  funext r d
  unfold W vA
  blk_ext [iblk, V_main_arg0, idx3 t]

theorem W_iblk4 (c : Dev nD) (t : Fin cfg0.N) (n : Fin 2) (j : Fin 8) :
    W (iblk m c 4 t) n j = vA (m ((c : Thread nD τ).loc main_arg0)) 2 (seqOf t) n j := by
  funext r d
  unfold W vA
  blk_ext [iblk, V_main_arg0, idx4 t]

/-- The first result array after the run. -/
theorem final5 (c : Dev nD) : (dats m 0 c).arrAt 5 cfg0.N
    = outVal (m ((c : Thread nD τ).loc main_arg0)) (m ((c : Thread nD τ).loc main_arg1)) := by
  refine (dats m 0 c).arrAt_eq_of_covers 5 _ (by decide +kernel) fun t hf y => ?_
  blk_simp
  rw [after0_5]
  dsimp only [outsAt0]
  rw [out5]
  obtain ⟨r, l, rfl⟩ : ∃ (r : Fin 256) (l : Fin 2048), y = ix2 r l := ⟨y 0, y 1, eq_ix2 y⟩
  obtain ⟨n, p, rfl⟩ := split_row r
  obtain ⟨j, e, rfl⟩ := split_col l
  have h := outVal_apply (m ((c : Thread nD τ).loc main_arg0)) (m ((c : Thread nD τ).loc main_arg1)) (seqOf t) n p j e
  rw [blockOut_apply]
  unfold ctxAt inF inB
  simp only [L_iblk, Q_iblk1, Q_iblk2, W_iblk3, W_iblk4]
  refine Eq.trans h.symm ?_
  generalize outVal (m ((c : Thread nD τ).loc main_arg0)) (m ((c : Thread nD τ).loc main_arg1)) = f
  blk_ext [idx5 t]

/-- The end states, at either layer's place. -/
def endVal (z : S16384x8192.Idx → EReal) (lg : S2x8.Idx → EReal) : S32x2x2x8x128x256.Idx → EReal := fun y =>
  endA z lg (y 0) (y 2) (y 3) (y 4) (y 5)
/-- The second result: the end states in the last layer's place, the previous states in the first's. -/
def lastVal (z : S16384x8192.Idx → EReal) (lg : S2x8.Idx → EReal) (p : S32x2x2x8x128x256.Idx → EReal) : S32x2x2x8x128x256.Idx → EReal :=
  fun y => if (y 1).val / 1 = 1 then endVal z lg y else p y

/-- The states' buffer is entered holding the previous states. -/
theorem V_prev (c : Dev nD) : V m c main_v3_1 = m ((c : Thread nD τ).loc main_arg2) := by
  entry_read
  rfl

/-- The second result array after the run. -/
theorem final6 (c : Dev nD) : (dats m 0 c).arrAt 6 cfg0.N
    = lastVal (m ((c : Thread nD τ).loc main_arg0)) (m ((c : Thread nD τ).loc main_arg1)) (m ((c : Thread nD τ).loc main_arg2)) := by
  refine ((dats m 0 c).arrAt_eq_of_coversWhere 6 (endVal (m ((c : Thread nD τ).loc main_arg0)) (m ((c : Thread nD τ).loc main_arg1)))
    (P := fun i => (i 1).val / 1 = 1) (fun β => β (1 : Fin 6) = 1) (by decide +kernel) (fun t hf y => ?_) (fun j => Iff.rfl)).trans ?_
  · blk_simp
    rw [after0_6]
    dsimp only [outsAt0]
    rw [out6]
    obtain ⟨y0, y1, y2, y3, y4, y5, rfl⟩ : ∃ (y0 : Fin 1) (y1 : Fin 1) (y2 : Fin 2) (y3 : Fin 8) (y4 : Fin 128) (y5 : Fin 256), y = ix6 y0 y1 y2 y3 y4 y5 :=
      ⟨y 0, y 1, y 2, y 3, y 4, y 5, eq_ix6 y⟩
    have h : endBlock (iblk m c 0 t) (iblk m c 2 t) (iblk m c 3 t) (ix6 y0 y1 y2 y3 y4 y5)
        = endVal (m ((c : Thread nD τ).loc main_arg0)) (m ((c : Thread nD τ).loc main_arg1)) (ix6 (seqOf t) (1 : Fin 2) y2 y3 y4 y5) := by
      show endAt (iblk m c 0 t) (iblk m c 2 t) (iblk m c 3 t) y2 y3 y4 y5
        = endA (m ((c : Thread nD τ).loc main_arg0)) (m ((c : Thread nD τ).loc main_arg1)) (seqOf t) y2 y3 y4 y5
      unfold endAt endA
      simp only [L_iblk, Q_iblk2, W_iblk3]
    refine Eq.trans h ?_
    generalize endVal (m ((c : Thread nD τ).loc main_arg0)) (m ((c : Thread nD τ).loc main_arg1)) = f
    blk_ext [idx6 t]
  · funext y
    refine if_congr Iff.rfl rfl ?_
    exact congrFun ((A_eq m c 6).trans (V_prev m c)) y

end Cert.LastIdeal.Last

end
-- ==== Proof.Last.Ref.lean ====
/-
  The last layer's context retention reference: its stages are those of the first layer's, up to where the states are stacked.
-/
module

public import proofs.«01_k».proof.Proof.Gen.LastRefIdeal.Read
public import proofs.«01_k».proof.Proof.Last.Final
public import proofs.«01_k».proof.Proof.Ret.Math

@[expose] public section

set_option maxHeartbeats 4000000
set_option maxRecDepth 16384

noncomputable section

namespace Cert.LastRefIdeal.Last

open Cert.LastRefIdeal Cert.LastRefIdeal.Gen Cert.LastRefIdeal.Read Idealize.ShloMosaic Idealize.ShloMosaic.TcCoe Idealize.SL.Sem
open Cert.RetIdeal.Ret (outVal endA)
open Cert.LastIdeal.Last (lastVal endVal)

variable (z : (⟨S16384x8192, .bf16⟩ : BufTy).Contents (Elt Ideal)) (lg : (⟨S2x8, .f32⟩ : BufTy).Contents (Elt Ideal))
  (p : (⟨S32x2x2x8x128x256, .f32⟩ : BufTy).Contents (Elt Ideal))

/-- The stages of the two directions' end states are the first layer's. -/
theorem endF_same : val_main_v68 (F := Ideal) z lg = Cert.RetRefIdeal.Read.val_main_v68 (F := Ideal) z lg := rfl
theorem endB_same : val_main_v146 (F := Ideal) z lg = Cert.RetRefIdeal.Read.val_main_v146 (F := Ideal) z lg := rfl

/-- The reference's first result is the first layer's function of its arguments. -/
theorem out_eq : val_main_v185 (F := Ideal) z lg = outVal z lg :=
  Eq.trans (show _ = Cert.RetRefIdeal.Read.val_main_v185 (F := Ideal) z lg from rfl) (Cert.RetRefIdeal.Ret.out_eq z lg)

/-- The stacked end states of both directions. -/
theorem ends_apply (b : Fin 32) (dir : Fin 2) (j : Fin 8) (d : Fin 128) (e : Fin 256) :
    val_main_v183 (F := Ideal) z lg (ix5 b dir j d e) = endA z lg b dir j d e := by
  have h : val_main_v183 (F := Ideal) z lg (ix5 b dir j d e) = (if h : dir.val < 1 then
      val_main_v68 (F := Ideal) z lg (ix4 b j d e) else val_main_v146 (F := Ideal) z lg (ix4 b j d e)) := by
    pointwise [val_main_v183, val_main_v182, val_main_v181]
  rw [h, endF_same, endB_same]
  rcases (by clear h; revert dir; decide : dir = 0 ∨ dir = 1) with rfl | rfl
  · exact (Cert.RetRefIdeal.Ret.s2F_apply z lg b j d e).trans (Cert.RetRefIdeal.Ret.endF z lg b j d e).symm
  · exact (Cert.RetRefIdeal.Ret.s2B_apply z lg b j d e).trans (Cert.RetRefIdeal.Ret.endB z lg b j d e).symm

/-- The reference's second result is the previous states in the first layer's place and the end states in the last layer's. -/
theorem st_eq : val_main_v190 (F := Ideal) z lg p = lastVal z lg p := by
  funext y
  obtain ⟨b, lay, dir, j, d, e, rfl⟩ : ∃ (y0 : Fin 32) (y1 : Fin 2) (y2 : Fin 2) (y3 : Fin 8) (y4 : Fin 128) (y5 : Fin 256),
    y = ix6 y0 y1 y2 y3 y4 y5 := ⟨y 0, y 1, y 2, y 3, y 4, y 5, eq_ix6 y⟩
  unfold lastVal endVal
  rcases (by revert lay; decide : lay = 0 ∨ lay = 1) with rfl | rfl
  · refine Eq.trans ?_ (if_neg (show ¬((0 : Fin 2).val / 1 = 1) by decide)).symm
    pointwise [val_main_v190, val_main_v188, val_main_v187, val_main_v186]
  · refine Eq.trans ?_ (if_pos (show (1 : Fin 2).val / 1 = 1 by decide)).symm
    refine Eq.trans ?_ (ends_apply z lg b dir j d e)
    pointwise [val_main_v190, val_main_v189]

end Cert.LastRefIdeal.Last

end
-- ==== Proof.Last.Algebraic.lean ====
/-
  The last layer's context retention call against its reference: the two runs side by side, both pairs of results the same functions of the
  arguments.
-/
module

public import proofs.«01_k».proof.Defs
public import proofs.«01_k».proof.Proof.Last.Ref
public import proofs.«01_k».proof.Proof.Gen.LastIdeal.Value
public import proofs.«01_k».proof.Proof.Gen.LastRefIdeal.Run

@[expose] public section

noncomputable section

namespace Cert.Proof.Last

open Idealize.ShloMosaic Idealize.ShloMosaic.TcCoe Idealize.SL.Sem

/-- From equal arguments, at the ideal semantics, the kernel's two results equal the reference's. -/
theorem algebraic : Cert.algebraic_LastIdeal_LastRefIdeal (hLastIdeal := Cert.LastIdeal.Gen.facts)
    (hLastRefIdeal := Cert.LastRefIdeal.Gen.facts) := by
  intro m g m' g' _ hargs
  refine ⟨fun c => Cert.RetIdeal.Ret.outVal (m ((c.tc : Thread _ _).loc Cert.LastIdeal.main_arg0))
      (m ((c.tc : Thread _ _).loc Cert.LastIdeal.main_arg1)),
    fun c => Cert.LastIdeal.Last.lastVal (m ((c.tc : Thread _ _).loc Cert.LastIdeal.main_arg0))
      (m ((c.tc : Thread _ _).loc Cert.LastIdeal.main_arg1)) (m ((c.tc : Thread _ _).loc Cert.LastIdeal.main_arg2)), ?_, ?_⟩
  · refine (θ_run (Cert.LastIdeal.defs (F := Ideal)) _ _).mono (fun r h c => ?_) (Cert.LastIdeal.Value.run_blocks (F := Ideal) m g)
    obtain ⟨hv, hw, h0, h1, h2⟩ := h c
    exact ⟨hv.trans (Cert.LastIdeal.Last.final5 m c), hw.trans (Cert.LastIdeal.Last.final6 m c), h0, h1, h2⟩
  · refine (θ_run (Cert.LastRefIdeal.defs (F := Ideal)) _ _).mono (fun r h c => ?_) (Cert.LastRefIdeal.Value.run (F := Ideal) m' g')
    obtain ⟨hv, hw, h0, h1, h2⟩ := h c
    refine ⟨hv.trans ?_, hw.trans ?_, h0, h1, h2⟩
    · exact ((Cert.LastRefIdeal.Read.val_main_v185_eq _).trans (Cert.LastRefIdeal.Last.out_eq _ _)).trans
        (congrArg₂ Cert.RetIdeal.Ret.outVal (hargs c).1 (hargs c).2.1)
    · exact ((Cert.LastRefIdeal.Read.val_main_v190_eq _).trans (Cert.LastRefIdeal.Last.st_eq _ _ _)).trans
        (congr (congr (congrArg Cert.LastIdeal.Last.lastVal (hargs c).1) (hargs c).2.1) (hargs c).2.2)

/-- The reference terminates, keeps its arguments and leaves every semaphore counter at zero. -/
theorem frame_ref : Cert.quiescent_LastRefIdeal (hLastRefIdeal := Cert.LastRefIdeal.Gen.facts) := fun m g _ =>
  (θ_run (Cert.LastRefIdeal.defs (F := Ideal)) _ _).mono
    (fun r h => ⟨fun c => (h c).2.2, Idealize.ShloMosaic.sem_eq_zero_of_no_sems (by decide) r.2⟩)
    (Cert.LastRefIdeal.Value.run (F := Ideal) m g)

end Cert.Proof.Last
-- ==== Proof.First.Cells.lean ====
/-
  What the first residual call's body stores, in closed form: finished tiles, product tiles and weight rows.
-/
module

public import proofs.«01_k».proof.Proof.Gen.FirstIdeal.Skeleton
public import proofs.«01_k».proof.Proof.Gen.FirstIdeal.Frame
public import proofs.«01_k».proof.Proof.Rows

@[expose] public section

set_option maxRecDepth 16384

noncomputable section

namespace Cert.FirstIdeal.First

open Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Rows (rowsRect stack pieces read_pieces)

/-- The number of the point after the loads; it says whether the residual rows are the context's or the latents'. -/
abbrev sel (i : grid0.Coords) : BitVec 32 := Scalar.subi (BitVec.ofNat 32 (i 0).val) 22#32

/-- Sixteen rows of the residual output: the residual rows, the context's or the latents', plus half the gate times the normed product rows scaled by the
    norm's weight. -/
abbrev xrows (b : BitVec 32) (g : Vec F S1x1x2048 .f32) (p : Vec F S1x2048 .f32) (x x' y : Vec F S256x2048 .f32) (q : Fin 16) :
    Vec F S16x2048 .f32 :=
  k0_pay5 b g (View.ld x (rowsRect q)) (View.ld x' (rowsRect q)) (View.ld y (rowsRect q)) p

/-- Sixteen of the next rows: the residual output's, normed, scaled and shifted. -/
abbrev hrows (b : BitVec 32) (g : Vec F S1x1x2048 .f32) (p p' : Vec F S1x2048 .f32) (sc sh : Vec F S1x1x2048 .f32)
    (x x' y : Vec F S256x2048 .f32) (q : Fin 16) : Vec F S16x2048 .bf16 :=
  k0_pay6 (xrows b g p x x' y q) p' sc sh

/-- The product of a tile of rows with the weights. -/
abbrev product (a : Vec F S256x5632 .bf16) (w : Vec F S5632x2048 .bf16) : Vec F S256x2048 .f32 := k0_pay3 a w

/-- A block of weight rows as it is stored. -/
abbrev loaded (w : Vec F S1x1x256x2048 .f32) : Vec F S256x2048 .bf16 := k0_pay225 w

theorem ld_vec3 (g : Vec F S1x1x2048 .f32) :
    View.ld g (Rect.unit (s := S1x1x2048) ![0, 0, 0] S1x1x2048.size inb_S1x1x2048_S1x1x2048_0_0_0) = g :=
  View.ld_unit_zero (by decide) _ _

theorem ld_vec2 (p : Vec F S1x2048 .f32) :
    View.ld p (Rect.unit (s := S1x2048) ![0, 0] S1x2048.size inb_S1x2048_S1x2048_0_0) = p :=
  View.ld_unit_zero (by decide) _ _

/-- The store of a whole product tile. -/
def whole (a : Vec F S256x5632 .bf16) (w : Vec F S5632x2048 .bf16) : List (View.Piece (Elt F) S256x2048 .f32) :=
  [⟨Rect.unit (s := S256x2048) ![0, 0] S256x2048.size inb_S256x2048_S256x2048_0_0,
    product (View.ld a (Rect.unit (s := S256x5632) ![0, 0] S256x5632.size inb_S256x5632_S256x5632_0_0))
      (View.ld w (Rect.unit (s := S5632x2048) ![0, 0] S5632x2048.size inb_S5632x2048_S5632x2048_0_0))⟩]

/-- It leaves the product of the tile of `up` with the weights. -/
theorem read_whole {sig' : RefSig} {κ : Kind} {sp : Space} (v : View sig' κ sp S256x2048 .f32) (f : v.ty.Contents (Elt F))
    (a : Vec F S256x5632 .bf16) (w : Vec F S5632x2048 .bf16) :
    v.read (Elt F) (v.writes (Elt F) f (whole a w)) = product a w := by
  unfold whole
  rw [View.ld_unit_zero (by decide), View.ld_unit_zero (by decide)]
  exact View.read_writes_full v f _ _ _

/-- The scratch weights after a loading point has stored its block of rows: the rows of the block are the stored ones,
    the others as before. -/
def put (n : ℕ) (w : Vec F S1x1x256x2048 .f32) (x : Vec F S5632x2048 .bf16) : Vec F S5632x2048 .bf16 := fun j =>
  if h : 256 * n ≤ (j 0).val ∧ (j 0).val < 256 * n + 256 then loaded w (ix2 ⟨(j 0).val - 256 * n, by omega⟩ (j 1)) else x j

/-- The block of rows a loading point stores starts at row `256` times the point. -/
theorem load_off : ∀ t : Fin grid0.N, k0_cond1 (grid0.coords t) = 1#1 → k0_off1 (grid0.coords t) = ![256 * t.val, 0] := by
  decide +kernel

/-- What the load's store leaves in the scratch. -/
theorem read_load {sig' : RefSig} {κ : Kind} {sp : Space} (v : View sig' κ sp S5632x2048 .bf16) (f : v.ty.Contents (Elt F))
    (n : ℕ) (off : Fin 2 → ℕ) (hoff : off = ![256 * n, 0]) (inb : ∀ a, off a + S256x2048.size a ≤ S5632x2048.size a)
    (w : Vec F S1x1x256x2048 .f32) :
    v.read (Elt F) (v.writes (Elt F) f [⟨Rect.unit (s := S5632x2048) off S256x2048.size inb,
      loaded (View.ld w (Rect.unit (s := S1x1x256x2048) ![0, 0, 0, 0] S1x1x256x2048.size inb_S1x1x256x2048_S1x1x256x2048_0_0_0_0))⟩])
      = put n w (v.read (Elt F) f) := funext fun j => by
  subst hoff
  rw [View.ld_unit_zero (by decide)]
  have h1 : (j 1).val < 2048 := (j 1).isLt
  unfold put
  by_cases h : 256 * n ≤ (j 0).val ∧ (j 0).val < 256 * n + 256
  · rw [dif_pos h]
    refine View.read_writes_cons_unit_of_mem v f inb _ [] j (ix2 ⟨(j 0).val - 256 * n, by omega⟩ (j 1)) rfl fun a => ?_
    match a with
    | 0 => show (j 0).val = 256 * n + ((j 0).val - 256 * n); omega
    | 1 => show (j 1).val = 0 + (j 1).val; omega
  · rw [dif_neg h]
    refine (View.read_writes_cons_unit_of_not_mem v f inb _ [] j rfl 0 ?_).trans rfl
    show (j 0).val < 256 * n ∨ 256 * n + 256 ≤ (j 0).val
    omega

end Cert.FirstIdeal.First

end
-- ==== Proof.First.Steps.lean ====
/-
  The first residual call's body at each kind of grid point, from owned buffers to owned buffers.
-/
module

public import proofs.«01_k».proof.Proof.First.Cells

@[expose] public section

set_option maxRecDepth 16384

noncomputable section

namespace Cert.FirstIdeal.First

open Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Rows (stack read_pieces)

local notation "𝕄" => MT nD τ sig Unit (Elt F) ℕ (UR sig nD τ) ℕ

variable (c : Dev nD) (i : grid0.Coords)
  (arg1 : Memref sig .tc .vmem S256x5632 .bf16) (harg1 : arg1.IsWhole)
  (arg2 : Memref sig .tc .vmem S1x1x256x2048 .f32) (harg2 : arg2.IsWhole)
  (arg3 : Memref sig .tc .vmem S256x2048 .f32) (harg3 : arg3.IsWhole)
  (arg4 : Memref sig .tc .vmem S256x2048 .f32) (harg4 : arg4.IsWhole)
  (arg5 : Memref sig .tc .vmem S1x2048 .f32) (harg5 : arg5.IsWhole)
  (arg6 : Memref sig .tc .vmem S1x1x2048 .f32) (harg6 : arg6.IsWhole)
  (arg7 : Memref sig .tc .vmem S1x2048 .f32) (harg7 : arg7.IsWhole)
  (arg8 : Memref sig .tc .vmem S1x1x2048 .f32) (harg8 : arg8.IsWhole)
  (arg9 : Memref sig .tc .vmem S1x1x2048 .f32) (harg9 : arg9.IsWhole)
  (arg10 : Memref sig .tc .vmem S256x2048 .f32) (harg10 : arg10.IsWhole)
  (arg11 : Memref sig .tc .vmem S256x2048 .bf16) (harg11 : arg11.IsWhole)
  (arg12 : Memref sig .tc .vmem S5632x2048 .bf16) (harg12 : arg12.IsWhole)
  (arg13 : Memref sig .tc .vmem S256x2048 .f32) (harg13 : arg13.IsWhole)
  (arg14 : Memref sig .tc .vmem S256x2048 .f32) (harg14 : arg14.IsWhole)

/-- The body with its parts unfolded, in one piece. -/
def skel : { p : Prog _ _ // cc0__rowout_kernel (F := F) i arg1 harg1 arg2 harg2 arg3 harg3 arg4 harg4 arg5 harg5 arg6 harg6 arg7 harg7 arg8 harg8 arg9 harg9 arg10 harg10 arg11 harg11 arg12 harg12 arg13 harg13 arg14 harg14 = p } := by
  refine ⟨?_, ?h⟩
  case h =>
    simp only [cc0__rowout_kernel_eq_skeleton]; unfold cc0__rowout_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    exact rfl

set_option maxHeartbeats 8000000 in
/-- The body at a loading point: it stores its weight rows into the scratch `arg12`. -/
theorem stepL (hc1 : k0_cond1 i = 1#1) (hc2 : ¬(Scalar.cmpi .ne (Scalar.extui (Scalar.cmpi .eq (Scalar.subi (BitVec.ofNat 32 (i 0).val) 22#32) 0#32)) 0#32) = 1#1) (hc3 : ¬k0_cond3 i = 1#1) (hc4 : ¬k0_cond4 i = 1#1) (hc5 : ¬k0_cond5 i = 1#1) (n : ℕ) (hoff : k0_off1 i = ![256 * n, 0])
    (x2 : Vec F S1x1x256x2048 .f32) (x12 : Vec F S5632x2048 .bf16) (E : Set ℕ) (K : PUnit → sProp 𝕄) :
    iprop(owns (c : Thread nD τ) arg2 fullShare x2 ∗ owns (c : Thread nD τ) arg12 fullShare x12 ∗ (iprop(owns (c : Thread nD τ) arg2 fullShare x2 ∗ owns (c : Thread nD τ) arg12 fullShare (put n x2 x12)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13 arg14 harg14) K := by
  rw [(skel i arg1 harg1 arg2 harg2 arg3 harg3 arg4 harg4 arg5 harg5 arg6 harg6 arg7 harg7 arg8 harg8 arg9 harg9 arg10 harg10 arg11 harg11 arg12 harg12 arg13 harg13 arg14 harg14).2]; unfold skel
  unfold owns
  iintro ⟨⟨%f2, %hf2, H2⟩, ⟨%f12, %hf12, H12⟩, Hk⟩
  obtain rfl := harg2.eq_unread hf2; obtain rfl := harg12.eq_unread hf12
  sl_exec (disch := first | sl_exact hc1 | sl_exact hc2 | sl_exact hc3 | sl_exact hc4 | sl_exact hc5)
  sl_step
  iapply Hk
  isplitl [H2]
  · iexists _; isplitr; · ipureintro; exact harg2.read_unread _
    iexact H2
  iexists _; isplitr; swap; · iexact H12
  ipureintro; refine (read_load _ _ n _ hoff _ _).trans ?_; rw [harg2.read_unread, harg12.read_unread]

set_option maxHeartbeats 8000000 in
/-- The body at the first product: it goes to the scratch `arg13`. -/
theorem stepZ (hc1 : ¬k0_cond1 i = 1#1) (hc2 : (Scalar.cmpi .ne (Scalar.extui (Scalar.cmpi .eq (Scalar.subi (BitVec.ofNat 32 (i 0).val) 22#32) 0#32)) 0#32) = 1#1) (hc3 : ¬k0_cond3 i = 1#1) (hc4 : ¬k0_cond4 i = 1#1) (hc5 : ¬k0_cond5 i = 1#1)
    (x1 : Vec F S256x5632 .bf16) (x12 : Vec F S5632x2048 .bf16) (E : Set ℕ) (K : PUnit → sProp 𝕄) :
    iprop(owns (c : Thread nD τ) arg1 fullShare x1 ∗ owns (c : Thread nD τ) arg12 fullShare x12 ∗ (∃ d, owns (c : Thread nD τ) arg13 fullShare d) ∗ (iprop(owns (c : Thread nD τ) arg1 fullShare x1 ∗ owns (c : Thread nD τ) arg12 fullShare x12 ∗ owns (c : Thread nD τ) arg13 fullShare (product x1 x12)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13 arg14 harg14) K := by
  rw [(skel i arg1 harg1 arg2 harg2 arg3 harg3 arg4 harg4 arg5 harg5 arg6 harg6 arg7 harg7 arg8 harg8 arg9 harg9 arg10 harg10 arg11 harg11 arg12 harg12 arg13 harg13 arg14 harg14).2]; unfold skel
  unfold owns
  iintro ⟨⟨%f1, %hf1, H1⟩, ⟨%f12, %hf12, H12⟩, ⟨%d13, %f13, -, H13⟩, Hk⟩
  obtain rfl := harg1.eq_unread hf1; obtain rfl := harg12.eq_unread hf12
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H12]
  · iexists _; isplitr; · ipureintro; exact harg12.read_unread _
    iexact H12
  iexists _; isplitr; swap; · iexact H13
  ipureintro; refine (read_whole _ _ (arg1.view.read (Elt F) (harg1.unread x1)) (arg12.view.read (Elt F) (harg12.unread x12))).trans ?_; rw [harg1.read_unread, harg12.read_unread]

set_option maxHeartbeats 8000000 in
/-- The body at an even middle point. -/
theorem stepE (hc1 : ¬k0_cond1 i = 1#1) (hc2 : ¬(Scalar.cmpi .ne (Scalar.extui (Scalar.cmpi .eq (Scalar.subi (BitVec.ofNat 32 (i 0).val) 22#32) 0#32)) 0#32) = 1#1) (hc3 : k0_cond3 i = 1#1) (hc4 : ¬k0_cond4 i = 1#1) (hc5 : ¬k0_cond5 i = 1#1)
    (x1 : Vec F S256x5632 .bf16) (x3 : Vec F S256x2048 .f32) (x4 : Vec F S256x2048 .f32) (x5 : Vec F S1x2048 .f32) (x6 : Vec F S1x1x2048 .f32) (x7 : Vec F S1x2048 .f32) (x8 : Vec F S1x1x2048 .f32) (x9 : Vec F S1x1x2048 .f32) (x12 : Vec F S5632x2048 .bf16) (x14 : Vec F S256x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg14 fullShare x14 ∗ (∃ d, owns (c : Thread nD τ) arg10 fullShare d) ∗ (∃ d, owns (c : Thread nD τ) arg11 fullShare d) ∗ (∃ d, owns (c : Thread nD τ) arg13 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg14 fullShare x14 ∗ owns (c : Thread nD τ) arg10 fullShare (stack (xrows (sel i) x6 x5 x3 x4 x14)) ∗ owns (c : Thread nD τ) arg11 fullShare (stack (hrows (sel i) x6 x5 x7 x8 x9 x3 x4 x14)) ∗ owns (c : Thread nD τ) arg13 fullShare (product x1 x12)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13 arg14 harg14) K := by
  rw [(skel i arg1 harg1 arg2 harg2 arg3 harg3 arg4 harg4 arg5 harg5 arg6 harg6 arg7 harg7 arg8 harg8 arg9 harg9 arg10 harg10 arg11 harg11 arg12 harg12 arg13 harg13 arg14 harg14).2]; unfold skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f12, %hf12, H12⟩, ⟨%f14, %hf14, H14⟩, ⟨%d10, %f10, -, H10⟩, ⟨%d11, %f11, -, H11⟩, ⟨%d13, %f13, -, H13⟩, Hk⟩
  obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg14.eq_unread hf14
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H12]
  · iexists _; isplitr; · ipureintro; exact harg12.read_unread _
    iexact H12
  isplitl [H14]
  · iexists _; isplitr; · ipureintro; exact harg14.read_unread _
    iexact H14
  isplitl [H10]
  · iexists _; isplitr; swap; · iexact H10
    ipureintro; refine (read_pieces _ _ (xrows (sel i) (View.ld (arg6.view.read (Elt F) (harg6.unread x6)) (Rect.unit (s := S1x1x2048) ![0, 0, 0] S1x1x2048.size inb_S1x1x2048_S1x1x2048_0_0_0)) (View.ld (arg5.view.read (Elt F) (harg5.unread x5)) (Rect.unit (s := S1x2048) ![0, 0] S1x2048.size inb_S1x2048_S1x2048_0_0)) (arg3.view.read (Elt F) (harg3.unread x3)) (arg4.view.read (Elt F) (harg4.unread x4)) (arg14.view.read (Elt F) (harg14.unread x14)))).trans ?_; rw [harg6.read_unread, harg5.read_unread, harg3.read_unread, harg4.read_unread, harg14.read_unread, ld_vec3, ld_vec2]
  isplitl [H11]
  · iexists _; isplitr; swap; · iexact H11
    ipureintro; refine (read_pieces _ _ (hrows (sel i) (View.ld (arg6.view.read (Elt F) (harg6.unread x6)) (Rect.unit (s := S1x1x2048) ![0, 0, 0] S1x1x2048.size inb_S1x1x2048_S1x1x2048_0_0_0)) (View.ld (arg5.view.read (Elt F) (harg5.unread x5)) (Rect.unit (s := S1x2048) ![0, 0] S1x2048.size inb_S1x2048_S1x2048_0_0)) (View.ld (arg7.view.read (Elt F) (harg7.unread x7)) (Rect.unit (s := S1x2048) ![0, 0] S1x2048.size inb_S1x2048_S1x2048_0_0)) (View.ld (arg8.view.read (Elt F) (harg8.unread x8)) (Rect.unit (s := S1x1x2048) ![0, 0, 0] S1x1x2048.size inb_S1x1x2048_S1x1x2048_0_0_0)) (View.ld (arg9.view.read (Elt F) (harg9.unread x9)) (Rect.unit (s := S1x1x2048) ![0, 0, 0] S1x1x2048.size inb_S1x1x2048_S1x1x2048_0_0_0)) (arg3.view.read (Elt F) (harg3.unread x3)) (arg4.view.read (Elt F) (harg4.unread x4)) (arg14.view.read (Elt F) (harg14.unread x14)))).trans ?_; rw [harg6.read_unread, harg5.read_unread, harg7.read_unread, harg8.read_unread, harg9.read_unread, harg3.read_unread, harg4.read_unread, harg14.read_unread, ld_vec3, ld_vec3, ld_vec3, ld_vec2, ld_vec2]
  iexists _; isplitr; swap; · iexact H13
  ipureintro; refine (read_whole _ _ (arg1.view.read (Elt F) (harg1.unread x1)) (arg12.view.read (Elt F) (harg12.unread x12))).trans ?_; rw [harg1.read_unread, harg12.read_unread]

set_option maxHeartbeats 8000000 in
/-- The body at an odd middle point. -/
theorem stepO (hc1 : ¬k0_cond1 i = 1#1) (hc2 : ¬(Scalar.cmpi .ne (Scalar.extui (Scalar.cmpi .eq (Scalar.subi (BitVec.ofNat 32 (i 0).val) 22#32) 0#32)) 0#32) = 1#1) (hc3 : ¬k0_cond3 i = 1#1) (hc4 : k0_cond4 i = 1#1) (hc5 : ¬k0_cond5 i = 1#1)
    (x1 : Vec F S256x5632 .bf16) (x3 : Vec F S256x2048 .f32) (x4 : Vec F S256x2048 .f32) (x5 : Vec F S1x2048 .f32) (x6 : Vec F S1x1x2048 .f32) (x7 : Vec F S1x2048 .f32) (x8 : Vec F S1x1x2048 .f32) (x9 : Vec F S1x1x2048 .f32) (x12 : Vec F S5632x2048 .bf16) (x13 : Vec F S256x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg13 fullShare x13 ∗ (∃ d, owns (c : Thread nD τ) arg10 fullShare d) ∗ (∃ d, owns (c : Thread nD τ) arg11 fullShare d) ∗ (∃ d, owns (c : Thread nD τ) arg14 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg13 fullShare x13 ∗ owns (c : Thread nD τ) arg10 fullShare (stack (xrows (sel i) x6 x5 x3 x4 x13)) ∗ owns (c : Thread nD τ) arg11 fullShare (stack (hrows (sel i) x6 x5 x7 x8 x9 x3 x4 x13)) ∗ owns (c : Thread nD τ) arg14 fullShare (product x1 x12)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13 arg14 harg14) K := by
  rw [(skel i arg1 harg1 arg2 harg2 arg3 harg3 arg4 harg4 arg5 harg5 arg6 harg6 arg7 harg7 arg8 harg8 arg9 harg9 arg10 harg10 arg11 harg11 arg12 harg12 arg13 harg13 arg14 harg14).2]; unfold skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f12, %hf12, H12⟩, ⟨%f13, %hf13, H13⟩, ⟨%d10, %f10, -, H10⟩, ⟨%d11, %f11, -, H11⟩, ⟨%d14, %f14, -, H14⟩, Hk⟩
  obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H12]
  · iexists _; isplitr; · ipureintro; exact harg12.read_unread _
    iexact H12
  isplitl [H13]
  · iexists _; isplitr; · ipureintro; exact harg13.read_unread _
    iexact H13
  isplitl [H10]
  · iexists _; isplitr; swap; · iexact H10
    ipureintro; refine (read_pieces _ _ (xrows (sel i) (View.ld (arg6.view.read (Elt F) (harg6.unread x6)) (Rect.unit (s := S1x1x2048) ![0, 0, 0] S1x1x2048.size inb_S1x1x2048_S1x1x2048_0_0_0)) (View.ld (arg5.view.read (Elt F) (harg5.unread x5)) (Rect.unit (s := S1x2048) ![0, 0] S1x2048.size inb_S1x2048_S1x2048_0_0)) (arg3.view.read (Elt F) (harg3.unread x3)) (arg4.view.read (Elt F) (harg4.unread x4)) (arg13.view.read (Elt F) (harg13.unread x13)))).trans ?_; rw [harg6.read_unread, harg5.read_unread, harg3.read_unread, harg4.read_unread, harg13.read_unread, ld_vec3, ld_vec2]
  isplitl [H11]
  · iexists _; isplitr; swap; · iexact H11
    ipureintro; refine (read_pieces _ _ (hrows (sel i) (View.ld (arg6.view.read (Elt F) (harg6.unread x6)) (Rect.unit (s := S1x1x2048) ![0, 0, 0] S1x1x2048.size inb_S1x1x2048_S1x1x2048_0_0_0)) (View.ld (arg5.view.read (Elt F) (harg5.unread x5)) (Rect.unit (s := S1x2048) ![0, 0] S1x2048.size inb_S1x2048_S1x2048_0_0)) (View.ld (arg7.view.read (Elt F) (harg7.unread x7)) (Rect.unit (s := S1x2048) ![0, 0] S1x2048.size inb_S1x2048_S1x2048_0_0)) (View.ld (arg8.view.read (Elt F) (harg8.unread x8)) (Rect.unit (s := S1x1x2048) ![0, 0, 0] S1x1x2048.size inb_S1x1x2048_S1x1x2048_0_0_0)) (View.ld (arg9.view.read (Elt F) (harg9.unread x9)) (Rect.unit (s := S1x1x2048) ![0, 0, 0] S1x1x2048.size inb_S1x1x2048_S1x1x2048_0_0_0)) (arg3.view.read (Elt F) (harg3.unread x3)) (arg4.view.read (Elt F) (harg4.unread x4)) (arg13.view.read (Elt F) (harg13.unread x13)))).trans ?_; rw [harg6.read_unread, harg5.read_unread, harg7.read_unread, harg8.read_unread, harg9.read_unread, harg3.read_unread, harg4.read_unread, harg13.read_unread, ld_vec3, ld_vec3, ld_vec3, ld_vec2, ld_vec2]
  iexists _; isplitr; swap; · iexact H14
  ipureintro; refine (read_whole _ _ (arg1.view.read (Elt F) (harg1.unread x1)) (arg12.view.read (Elt F) (harg12.unread x12))).trans ?_; rw [harg1.read_unread, harg12.read_unread]

set_option maxHeartbeats 8000000 in
/-- The body at the last point: only the last tile is finished. -/
theorem stepN (hc1 : ¬k0_cond1 i = 1#1) (hc2 : ¬(Scalar.cmpi .ne (Scalar.extui (Scalar.cmpi .eq (Scalar.subi (BitVec.ofNat 32 (i 0).val) 22#32) 0#32)) 0#32) = 1#1) (hc3 : ¬k0_cond3 i = 1#1) (hc4 : ¬k0_cond4 i = 1#1) (hc5 : k0_cond5 i = 1#1)
    (x3 : Vec F S256x2048 .f32) (x4 : Vec F S256x2048 .f32) (x5 : Vec F S1x2048 .f32) (x6 : Vec F S1x1x2048 .f32) (x7 : Vec F S1x2048 .f32) (x8 : Vec F S1x1x2048 .f32) (x9 : Vec F S1x1x2048 .f32) (x14 : Vec F S256x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare x14 ∗ (∃ d, owns (c : Thread nD τ) arg10 fullShare d) ∗ (∃ d, owns (c : Thread nD τ) arg11 fullShare d) ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare x14 ∗ owns (c : Thread nD τ) arg10 fullShare (stack (xrows (sel i) x6 x5 x3 x4 x14)) ∗ owns (c : Thread nD τ) arg11 fullShare (stack (hrows (sel i) x6 x5 x7 x8 x9 x3 x4 x14))) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13 arg14 harg14) K := by
  rw [(skel i arg1 harg1 arg2 harg2 arg3 harg3 arg4 harg4 arg5 harg5 arg6 harg6 arg7 harg7 arg8 harg8 arg9 harg9 arg10 harg10 arg11 harg11 arg12 harg12 arg13 harg13 arg14 harg14).2]; unfold skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f14, %hf14, H14⟩, ⟨%d10, %f10, -, H10⟩, ⟨%d11, %f11, -, H11⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg14.eq_unread hf14
  sl_exec (disch := first | sl_exact hc1 | sl_exact hc2 | sl_exact hc3 | sl_exact hc4 | sl_exact hc5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H14]
  · iexists _; isplitr; · ipureintro; exact harg14.read_unread _
    iexact H14
  isplitl [H10]
  · iexists _; isplitr; swap; · iexact H10
    ipureintro; refine (read_pieces _ _ (xrows (sel i) (View.ld (arg6.view.read (Elt F) (harg6.unread x6)) (Rect.unit (s := S1x1x2048) ![0, 0, 0] S1x1x2048.size inb_S1x1x2048_S1x1x2048_0_0_0)) (View.ld (arg5.view.read (Elt F) (harg5.unread x5)) (Rect.unit (s := S1x2048) ![0, 0] S1x2048.size inb_S1x2048_S1x2048_0_0)) (arg3.view.read (Elt F) (harg3.unread x3)) (arg4.view.read (Elt F) (harg4.unread x4)) (arg14.view.read (Elt F) (harg14.unread x14)))).trans ?_; rw [harg6.read_unread, harg5.read_unread, harg3.read_unread, harg4.read_unread, harg14.read_unread, ld_vec3, ld_vec2]
  iexists _; isplitr; swap; · iexact H11
  ipureintro; refine (read_pieces _ _ (hrows (sel i) (View.ld (arg6.view.read (Elt F) (harg6.unread x6)) (Rect.unit (s := S1x1x2048) ![0, 0, 0] S1x1x2048.size inb_S1x1x2048_S1x1x2048_0_0_0)) (View.ld (arg5.view.read (Elt F) (harg5.unread x5)) (Rect.unit (s := S1x2048) ![0, 0] S1x2048.size inb_S1x2048_S1x2048_0_0)) (View.ld (arg7.view.read (Elt F) (harg7.unread x7)) (Rect.unit (s := S1x2048) ![0, 0] S1x2048.size inb_S1x2048_S1x2048_0_0)) (View.ld (arg8.view.read (Elt F) (harg8.unread x8)) (Rect.unit (s := S1x1x2048) ![0, 0, 0] S1x1x2048.size inb_S1x1x2048_S1x1x2048_0_0_0)) (View.ld (arg9.view.read (Elt F) (harg9.unread x9)) (Rect.unit (s := S1x1x2048) ![0, 0, 0] S1x1x2048.size inb_S1x1x2048_S1x1x2048_0_0_0)) (arg3.view.read (Elt F) (harg3.unread x3)) (arg4.view.read (Elt F) (harg4.unread x4)) (arg14.view.read (Elt F) (harg14.unread x14)))).trans ?_; rw [harg6.read_unread, harg5.read_unread, harg7.read_unread, harg8.read_unread, harg9.read_unread, harg3.read_unread, harg4.read_unread, harg14.read_unread, ld_vec3, ld_vec3, ld_vec3, ld_vec2, ld_vec2]

end Cert.FirstIdeal.First

end
-- ==== Proof.First.Inv.lean ====
/-
  What the first residual call's grid points leave: the scratch's invariant between points and the outputs' buffers.
-/
module

public import proofs.«01_k».proof.Proof.First.Steps

@[expose] public section

set_option maxRecDepth 16384

noncomputable section

namespace Cert.FirstIdeal.First

open Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Rows (stack)

local notation "𝕄" => MT nD τ sig Unit (Elt F) ℕ (UR sig nD τ) ℕ

variable (m : (ℓ : Loc nD τ sig) → Buf (Elt F) ℓ) (ρ : Dev nD → PrngReg)

/-! ## Where each branch of the body is taken, and where the outputs are written -/

theorem cond1_iff : ∀ t : Fin grid0.N, k0_cond1 (grid0.coords t) = 1#1 ↔ t.val < 22 := by decide +kernel
theorem cond2_iff : ∀ t : Fin grid0.N, Scalar.cmpi .ne (Scalar.extui (Scalar.cmpi .eq (Scalar.subi (BitVec.ofNat 32 (grid0.coords t 0).val) 22#32) 0#32)) 0#32 = 1#1 ↔ t.val = 22 := by
  decide +kernel
theorem cond3_iff : ∀ t : Fin grid0.N, k0_cond3 (grid0.coords t) = 1#1 ↔ 23 ≤ t.val ∧ t.val ≤ 85 ∧ t.val % 2 = 0 := by decide +kernel
theorem cond4_iff : ∀ t : Fin grid0.N, k0_cond4 (grid0.coords t) = 1#1 ↔ 23 ≤ t.val ∧ t.val ≤ 85 ∧ t.val % 2 = 1 := by decide +kernel
theorem cond5_iff : ∀ t : Fin grid0.N, k0_cond5 (grid0.coords t) = 1#1 ↔ t.val = 86 := by decide +kernel

/-- Each output is stored into from point 23 on. -/
theorem idle9_iff : ∀ t : Fin grid0.N, cfg0.idle 9 (grid0.coords t) = true ↔ t.val < 23 := by decide +kernel
theorem idle10_iff : ∀ t : Fin grid0.N, cfg0.idle 10 (grid0.coords t) = true ↔ t.val < 23 := by decide +kernel
/-- Each output's buffer is written back from point 23 on. -/
theorem flush9_iff : ∀ t : Fin grid0.N, win0_9.flush t = true ↔ 23 ≤ t.val := by decide +kernel
theorem flush10_iff : ∀ t : Fin grid0.N, win0_10.flush t = true ↔ 23 ≤ t.val := by decide +kernel

/-! ## What the body leaves -/

/-- The weights as the loading points leave them in the scratch: row `r` is row `r % 256` of block `r / 256`. -/
def wts (c : Dev nD) : Vec F S5632x2048 .bf16 := fun j =>
  loaded (iblk m c 1 (⟨(j 0).val / 256, by have h : (j 0).val < 5632 := (j 0).isLt; have : cfg0.N = 87 := N_0; omega⟩ : Fin cfg0.N))
    (ix2 ⟨(j 0).val % 256, by omega⟩ (j 1))

/-- The point of a number, the last one beyond it. -/
abbrev pt (n : ℕ) : Fin cfg0.N := ⟨min n 86, by have : cfg0.N = 87 := N_0; omega⟩

/-- The product tile of point `n`. -/
def prod (c : Dev nD) (n : ℕ) : Vec F S256x2048 .f32 := product (iblk m c 0 (pt n)) (wts m c)

/-- The residual tile point `n` finishes: the product is that of the point before. -/
def xtile (c : Dev nD) (n : ℕ) : Vec F S256x2048 .f32 :=
  stack (xrows (sel (grid0.coords (pt n))) (iblk m c 5 (pt n)) (iblk m c 4 (pt n)) (iblk m c 2 (pt n)) (iblk m c 3 (pt n))
    (prod m c (n - 1)))

/-- The tile of next rows point `n` finishes. -/
def htile (c : Dev nD) (n : ℕ) : Vec F S256x2048 .bf16 :=
  stack (hrows (sel (grid0.coords (pt n))) (iblk m c 5 (pt n)) (iblk m c 4 (pt n)) (iblk m c 6 (pt n)) (iblk m c 7 (pt n)) (iblk m c 8 (pt n))
    (iblk m c 2 (pt n)) (iblk m c 3 (pt n)) (prod m c (n - 1)))

/-- What holds of the scratch buffers before point `n`: the rows of weights loaded so far are in the first, and from
    point 23 to 86 the product of the point before is in the second or third, by parity. -/
def Inv (c : Dev nD) (n : ℕ) (X0 : Vec F S5632x2048 .bf16) (X1 X2 : Vec F S256x2048 .f32) : Prop :=
  (∀ j : S5632x2048.Idx, (j 0).val < 256 * n → X0 j = wts m c j)
  ∧ (23 ≤ n → n ≤ 86 → ((n - 1) % 2 = 0 → X1 = prod m c (n - 1)) ∧ ((n - 1) % 2 = 1 → X2 = prod m c (n - 1)))

/-- Once every block is loaded the scratch is the weights. -/
theorem Inv.full {c : Dev nD} {n : ℕ} {X0 : Vec F S5632x2048 .bf16} {X1 X2 : Vec F S256x2048 .f32} (h : Inv m c n X0 X1 X2)
    (hn : 22 ≤ n) : X0 = wts m c :=
  funext fun j => h.1 j (by have hj : (j 0).val < 5632 := (j 0).isLt; omega)

/-- A loading point adds its block of rows. -/
theorem Inv.load {c : Dev nD} {n : ℕ} {X0 : Vec F S5632x2048 .bf16} {X1 X2 : Vec F S256x2048 .f32} (h : Inv m c n X0 X1 X2)
    (hn : n < 22) (t : Fin cfg0.N) (ht : t.val = n) : Inv m c (n + 1) (put n (iblk m c 1 t) X0) X1 X2 := by
  refine ⟨fun j hj => ?_, fun h23 => by omega⟩
  unfold put
  by_cases hb : 256 * n ≤ (j 0).val ∧ (j 0).val < 256 * n + 256
  · rw [dif_pos hb]
    unfold wts
    have e : t = (⟨(j 0).val / 256, by have h : (j 0).val < 5632 := (j 0).isLt; have : cfg0.N = 87 := N_0; omega⟩ : Fin cfg0.N) :=
      Fin.ext (by show t.val = (j 0).val / 256; omega)
    rw [← e]
    refine congrArg _ (congrArg (fun k => ix2 k (j 1)) (Fin.ext ?_))
    show (j 0).val - 256 * n = (j 0).val % 256
    omega
  · rw [dif_neg hb]
    exact h.1 j (by omega)

/-- A point that stores its product into the second scratch buffer. -/
theorem Inv.even {c : Dev nD} {n : ℕ} {X2 : Vec F S256x2048 .f32} (hn : 22 ≤ n) (hp : n % 2 = 0) :
    Inv m c (n + 1) (wts m c) (prod m c n) X2 :=
  ⟨fun _ _ => rfl, fun _ _ => ⟨fun _ => rfl, fun h => by rw [Nat.add_sub_cancel] at h; omega⟩⟩

/-- A point that stores its product into the third. -/
theorem Inv.odd {c : Dev nD} {n : ℕ} {X1 : Vec F S256x2048 .f32} (hn : 22 ≤ n) (hp : n % 2 = 1) :
    Inv m c (n + 1) (wts m c) X1 (prod m c n) :=
  ⟨fun _ _ => rfl, fun _ _ => ⟨fun h => by rw [Nat.add_sub_cancel] at h; omega, fun _ => rfl⟩⟩

/-- After the last point. -/
theorem Inv.last {c : Dev nD} {X1 X2 : Vec F S256x2048 .f32} : Inv m c 87 (wts m c) X1 X2 :=
  ⟨fun _ _ => rfl, fun _ h => by omega⟩

/-- Before the first point nothing is asked. -/
theorem Inv.first {c : Dev nD} {X0 : Vec F S5632x2048 .bf16} {X1 X2 : Vec F S256x2048 .f32} : Inv m c 0 X0 X1 X2 :=
  ⟨fun j h => by omega, fun h => by omega⟩

/-! ## The pipeline's proof data -/

abbrev sc0 : Memref sig .tc .vmem S5632x2048 .bf16 := Memref.whole cc0_scratch0
abbrev sc1 : Memref sig .tc .vmem S256x2048 .f32 := Memref.whole cc0_scratch1
abbrev sc2 : Memref sig .tc .vmem S256x2048 .f32 := Memref.whole cc0_scratch2

/-- The region's invariant before point `n`. -/
def Phi (c : Dev nD) (n : ℕ) : sProp 𝕄 :=
  iprop(∃ X0 X1 X2, ⌜Inv m c n X0 X1 X2⌝ ∗ owns (c : Thread nD τ) sc0 fullShare X0 ∗ owns (c : Thread nD τ) sc1 fullShare X1
    ∗ owns (c : Thread nD τ) sc2 fullShare X2 ∗ (∃ r, prngReg c r))

theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- The arrays as the region finds them; after the body each input's buffer at its block, the outputs' at the tiles just
    finished. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => xtile m c t.val
    | ⟨10, _⟩ => htile m c t.val
  Φ t := Phi m c t.val
  q := Pipeline.shareOf spec0
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = xtile m c t.val := by dsimp only [dats]
theorem after0_10 (c : Dev nD) (t : Fin cfg0.N) : (dats m 0 c).after 10 t = htile m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, the windows one by one, -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop(Phi m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (dats m 0 c).leavesExact 9 t ∗ (dats m 0 c).leavesExact 10 t)

/-- An idle output not written back keeps what it held. -/
theorem leaves_idle (c : Dev nD) (w : Fin cfg0.W) (t : Fin cfg0.N) (hi : cfg0.idle w (grid0.coords t) = true)
    (hf : (cfg0.win w).flush t = false) :
    (dats m 0 c).leavesExact w t = iprop(∃ d, owns (c : Thread nD τ) ((cfg0.win w).stage (cfg0.slots t w)) fullShare ((dats m 0 c).before w t d)) :=
  (dats m 0 c).leavesExact_idle w t hi hf

/-- Any other output holds what the proof data say. -/
theorem leaves_live (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  have e : cfg0.grid.coords t = grid0.coords t := rfl
  unfold Dat.leavesExact
  rw [e]
  rcases h with h | h <;> rw [h]
  cases cfg0.idle w (grid0.coords t) <;> rfl

end Cert.FirstIdeal.First

end
-- ==== Proof.First.Frame.lean ====
/-
  The first residual call with the next normed rows: every execution terminates, keeps the arguments and clears the counters.
-/
module

public import proofs.«01_k».proof.Proof.First.Inv

@[expose] public section

set_option maxRecDepth 16384

noncomputable section

namespace Cert.FirstIdeal.First

open Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of a point's number is the point. -/
theorem pt_val (t : Fin cfg0.N) : pt t.val = t :=
  Fin.ext (by have := t.isLt; have : cfg0.N = 87 := N_0; show min t.val 86 = t.val; omega)

set_option maxHeartbeats 1600000 in
/-- The body's triple at a loading point. -/
theorem soundL (c : Dev nD) (t : Fin cfg0.N) (h : t.val < 22) :
    bodyPre m c t ⊢ wp frame (wpE (defs₀ (F := F)) Variants.none c none) Set.univ (bodyAt0 t) (fun _ => bodyPost m c t) := by
  have hN : t.val < 87 := lt_of_lt_of_eq t.isLt (show cfg0.N = 87 from N_0)
  unfold bodyPre bodyPost bodyAt0 Phi
  simp only [before0_0, before0_1, before0_2, before0_3, before0_4, before0_5, before0_6, before0_7, before0_8]
  rw [leaves_idle m c 9 t ((idle9_iff t).2 (by omega)) (Bool.eq_false_iff.2 fun h' => by have := (flush9_iff t).1 h'; omega)]
  rw [leaves_idle m c 10 t ((idle10_iff t).2 (by omega)) (Bool.eq_false_iff.2 fun h' => by have := (flush10_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (stepL c (grid0.coords t) _ _ _ _ _ _ _ _ _ _ _ _ _ _ _ _ _ _ _ _ _ _ _ _ _ _ _ _ ((cond1_iff t).2 (by omega)) (fun h => by have := (cond2_iff t).1 h; omega) (fun h => by have := (cond3_iff t).1 h; omega) (fun h => by have := (cond4_iff t).1 h; omega) (fun h => by have := (cond5_iff t).1 h; omega) t.val (load_off t ((cond1_iff t).2 (by omega))) _ _ Set.univ _)
  isplitl [H1]; · iexact H1
  isplitl [S0]; · iexact S0
  iintro ⟨H1, S0⟩
  isplitl [S0 S1 S2 Hg]
  · iexists _, _, _
    isplitr; swap
    · isplitl [S0]; · iexact S0
      isplitl [S1]; · iexact S1
      isplitl [S2]; · iexact S2
      iexact Hg
    ipureintro
    exact hI.load m h t rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  iexists _; iexact H10

set_option maxHeartbeats 1600000 in
/-- The body's triple at the first product. -/
theorem soundZ (c : Dev nD) (t : Fin cfg0.N) (h : t.val = 22) :
    bodyPre m c t ⊢ wp frame (wpE (defs₀ (F := F)) Variants.none c none) Set.univ (bodyAt0 t) (fun _ => bodyPost m c t) := by
  have hN : t.val < 87 := lt_of_lt_of_eq t.isLt (show cfg0.N = 87 from N_0)
  unfold bodyPre bodyPost bodyAt0 Phi
  simp only [before0_0, before0_1, before0_2, before0_3, before0_4, before0_5, before0_6, before0_7, before0_8]
  rw [leaves_idle m c 9 t ((idle9_iff t).2 (by omega)) (Bool.eq_false_iff.2 fun h' => by have := (flush9_iff t).1 h'; omega)]
  rw [leaves_idle m c 10 t ((idle10_iff t).2 (by omega)) (Bool.eq_false_iff.2 fun h' => by have := (flush10_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl : X0 = wts m c := hI.full m (by omega)
  iapply (stepZ c (grid0.coords t) _ _ _ _ _ _ _ _ _ _ _ _ _ _ _ _ _ _ _ _ _ _ _ _ _ _ _ _ (fun h => by have := (cond1_iff t).1 h; omega) ((cond2_iff t).2 (by omega)) (fun h => by have := (cond3_iff t).1 h; omega) (fun h => by have := (cond4_iff t).1 h; omega) (fun h => by have := (cond5_iff t).1 h; omega) _ _ Set.univ _)
  isplitl [H0]; · iexact H0
  isplitl [S0]; · iexact S0
  isplitl [S1]; · iexists _; iexact S1
  iintro ⟨H0, S0, S1⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.even (X2 := X2) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; iexact H9
  iexists _; iexact H10

set_option maxHeartbeats 1600000 in
/-- The body's triple at an even middle point. -/
theorem soundE (c : Dev nD) (t : Fin cfg0.N) (h : 23 ≤ t.val ∧ t.val ≤ 85 ∧ t.val % 2 = 0) :
    bodyPre m c t ⊢ wp frame (wpE (defs₀ (F := F)) Variants.none c none) Set.univ (bodyAt0 t) (fun _ => bodyPost m c t) := by
  have hN : t.val < 87 := lt_of_lt_of_eq t.isLt (show cfg0.N = 87 from N_0)
  unfold bodyPre bodyPost bodyAt0 Phi
  simp only [before0_0, before0_1, before0_2, before0_3, before0_4, before0_5, before0_6, before0_7, before0_8]
  rw [leaves_live m c 9 t (.inl (Bool.eq_false_iff.2 fun h' => by have := (idle9_iff t).1 h'; omega)), after0_9]
  rw [leaves_live m c 10 t (.inl (Bool.eq_false_iff.2 fun h' => by have := (idle10_iff t).1 h'; omega)), after0_10]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl : X0 = wts m c := hI.full m (by omega)
  obtain rfl : X2 = prod m c (t.val - 1) := (hI.2 (by omega) (by omega)).2 (by omega)
  iapply (stepE c (grid0.coords t) _ _ _ _ _ _ _ _ _ _ _ _ _ _ _ _ _ _ _ _ _ _ _ _ _ _ _ _ (fun h => by have := (cond1_iff t).1 h; omega) (fun h => by have := (cond2_iff t).1 h; omega) ((cond3_iff t).2 (by omega)) (fun h => by have := (cond4_iff t).1 h; omega) (fun h => by have := (cond5_iff t).1 h; omega) _ _ _ _ _ _ _ _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S2]; · iexact S2
  isplitl [H9]; · iexists _; iexact H9
  isplitl [H10]; · iexists _; iexact H10
  isplitl [S1]; · iexists _; iexact S1
  iintro ⟨H0, H2, H3, H4, H5, H6, H7, H8, S0, S2, H9, H10, S1⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.even (X2 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold xtile; rw [pt_val]; iexact H9
  unfold htile; rw [pt_val]; iexact H10

set_option maxHeartbeats 1600000 in
/-- The body's triple at an odd middle point. -/
theorem soundO (c : Dev nD) (t : Fin cfg0.N) (h : 23 ≤ t.val ∧ t.val ≤ 85 ∧ t.val % 2 = 1) :
    bodyPre m c t ⊢ wp frame (wpE (defs₀ (F := F)) Variants.none c none) Set.univ (bodyAt0 t) (fun _ => bodyPost m c t) := by
  have hN : t.val < 87 := lt_of_lt_of_eq t.isLt (show cfg0.N = 87 from N_0)
  unfold bodyPre bodyPost bodyAt0 Phi
  simp only [before0_0, before0_1, before0_2, before0_3, before0_4, before0_5, before0_6, before0_7, before0_8]
  rw [leaves_live m c 9 t (.inl (Bool.eq_false_iff.2 fun h' => by have := (idle9_iff t).1 h'; omega)), after0_9]
  rw [leaves_live m c 10 t (.inl (Bool.eq_false_iff.2 fun h' => by have := (idle10_iff t).1 h'; omega)), after0_10]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl : X0 = wts m c := hI.full m (by omega)
  obtain rfl : X1 = prod m c (t.val - 1) := (hI.2 (by omega) (by omega)).1 (by omega)
  iapply (stepO c (grid0.coords t) _ _ _ _ _ _ _ _ _ _ _ _ _ _ _ _ _ _ _ _ _ _ _ _ _ _ _ _ (fun h => by have := (cond1_iff t).1 h; omega) (fun h => by have := (cond2_iff t).1 h; omega) (fun h => by have := (cond3_iff t).1 h; omega) ((cond4_iff t).2 (by omega)) (fun h => by have := (cond5_iff t).1 h; omega) _ _ _ _ _ _ _ _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [H9]; · iexists _; iexact H9
  isplitl [H10]; · iexists _; iexact H10
  isplitl [S2]; · iexists _; iexact S2
  iintro ⟨H0, H2, H3, H4, H5, H6, H7, H8, S0, S1, H9, H10, S2⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.odd (X1 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold xtile; rw [pt_val]; iexact H9
  unfold htile; rw [pt_val]; iexact H10

set_option maxHeartbeats 1600000 in
/-- The body's triple at the last point. -/
theorem soundN (c : Dev nD) (t : Fin cfg0.N) (h : t.val = 86) :
    bodyPre m c t ⊢ wp frame (wpE (defs₀ (F := F)) Variants.none c none) Set.univ (bodyAt0 t) (fun _ => bodyPost m c t) := by
  have hN : t.val < 87 := lt_of_lt_of_eq t.isLt (show cfg0.N = 87 from N_0)
  unfold bodyPre bodyPost bodyAt0 Phi
  simp only [before0_0, before0_1, before0_2, before0_3, before0_4, before0_5, before0_6, before0_7, before0_8]
  rw [leaves_live m c 9 t (.inl (Bool.eq_false_iff.2 fun h' => by have := (idle9_iff t).1 h'; omega)), after0_9]
  rw [leaves_live m c 10 t (.inl (Bool.eq_false_iff.2 fun h' => by have := (idle10_iff t).1 h'; omega)), after0_10]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl : X0 = wts m c := hI.full m (by omega)
  obtain rfl : X2 = prod m c (t.val - 1) := (hI.2 (by omega) (by omega)).2 (by omega)
  iapply (stepN c (grid0.coords t) _ _ _ _ _ _ _ _ _ _ _ _ _ _ _ _ _ _ _ _ _ _ _ _ _ _ _ _ (fun h => by have := (cond1_iff t).1 h; omega) (fun h => by have := (cond2_iff t).1 h; omega) (fun h => by have := (cond3_iff t).1 h; omega) (fun h => by have := (cond4_iff t).1 h; omega) ((cond5_iff t).2 (by omega)) _ _ _ _ _ _ _ _ Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S2]; · iexact S2
  isplitl [H9]; · iexists _; iexact H9
  isplitl [H10]; · iexists _; iexact H10
  iintro ⟨H2, H3, H4, H5, H6, H7, H8, S2, H9, H10⟩
  isplitl [S0 S1 S2 Hg]
  · iexists _, _, _
    isplitr; swap
    · isplitl [S0]; · iexact S0
      isplitl [S1]; · iexact S1
      isplitl [S2]; · iexact S2
      iexact Hg
    ipureintro
    rw [h]; exact Inv.last m
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold xtile; rw [pt_val]; iexact H9
  unfold htile; rw [pt_val]; iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 87 := lt_of_lt_of_eq t.isLt (show cfg0.N = 87 from N_0)
  rcases (by omega : t.val < 22 ∨ t.val = 22 ∨ (23 ≤ t.val ∧ t.val ≤ 85 ∧ t.val % 2 = 0) ∨ (23 ≤ t.val ∧ t.val ≤ 85 ∧ t.val % 2 = 1)
      ∨ t.val = 86) with h | h | h | h | h
  · exact soundL m c t h
  · exact soundZ m c t h
  · exact soundE m c t h
  · exact soundO m c t h
  · exact soundN m c t h

/-- The body the region calls. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%X0, S0⟩, ⟨%X1, S1⟩, ⟨%X2, S2⟩⟩, Hg⟩
  iexists _, _, _
  isplitr; swap
  · isplitl [S0]; · iexact S0
    isplitl [S1]; · iexact S1
    isplitl [S2]; · iexact S2
    iexact Hg
  ipureintro
  exact Inv.first m

/-- After the last point the scratch's contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%X0, %X1, %X2, -, S0, S1, S2, Hg⟩
  isplitl [S0 S1 S2]
  · isplitl [S0]; · iexists _; iexact S0
    isplitl [S1]; · iexists _; iexact S1
    iexists _; iexact S2
  iexact Hg

set_option backward.isDefEq.respectTransparency.types false in
/-- Every execution terminates with the pipeline's arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution terminates with the pipeline's arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: every execution terminates, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FirstIdeal.First

end
-- ==== Proof.FirstBits.Frame.lean ====
/-
  The first down projection's call with the next rows: the frame of the program itself. Its body table is the ideal program's at any instance of the floats, so its runs are
  the runs of that one.
-/
module

public import proofs.«01_k».proof.Proof.Gen.First.Skeleton
public import proofs.«01_k».proof.Proof.First.Frame

@[expose] public section

set_option maxRecDepth 16384

noncomputable section

namespace Cert.First.First

open Idealize.ShloMosaic Idealize.ShloMosaic.TcCoe Idealize.SL.Sem

variable {F : FTy → Type} [FloatOps F]

set_option maxHeartbeats 4000000 in
/-- The kernels' body table is the ideal program's. -/
theorem defs₀_eq : defs₀ (F := F) = Cert.FirstIdeal.defs₀ (F := F) := by
  unfold defs₀ Cert.FirstIdeal.defs₀
  refine congrArg Defs.onTc (funext fun l => funext fun x => ?_)
  match l, x with
  | 0, (t, s) =>
    dsimp only
    rfl

set_option maxHeartbeats 4000000 in
/-- The frame: every execution terminates, the argument arrays unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  unfold defs
  rw [defs₀_eq]
  exact Cert.FirstIdeal.First.frame m ρ

end Cert.First.First

end
-- ==== Proof.First.Kernel.lean ====
/-
  The first residual call's kernel at the ideal semantics: what each tile holds as a function of the arguments, and the two
  results after the run.
-/
module

public import proofs.«01_k».proof.Proof.First.Frame
public import proofs.«01_k».proof.Proof.Next.Kernel

@[expose] public section

set_option maxRecDepth 16384

noncomputable section

namespace Cert.FirstIdeal.First

open Cert.FirstIdeal Cert.FirstIdeal.Gen Idealize.ShloMosaic Idealize.ShloMosaic.TcCoe Idealize.SL.Sem
open Idealize.ShloMosaic.Pipeline (Dat)
open Cert.Rows (rowsRect stack ld_rows)
open Cert.DownIdeal.Down (rowVal rowVal_congr sum_ext)
open Cert.NextIdeal.Next (nextVal nextVal_congr modIx)

variable (m : (ℓ : Loc nD τ sig) → Buf (Elt Ideal) ℓ)

/-- The residual rows the body takes: the first's or the second's, by the point's number. -/
abbrev pick {s : Shape} (b : BitVec 32) (x x' : Vec Ideal s .f32) : Vec Ideal s .f32 :=
  Scalar.select (Scalar.cmpi .slt (Scalar.subi b 1#32) 32#32) x x'

/-- The body's chunk of sixteen residual rows. -/
theorem pay5_apply (b : BitVec 32) (g : Vec Ideal S1x1x2048 .f32) (p : Vec Ideal S1x2048 .f32) (x x' y z : Vec Ideal S16x2048 .f32)
    (hz : pick b x x' = z) (r : Fin 16) (l : Fin 2048) :
    k0_pay5 (F := Ideal) b g x x' y p (ix2 r l) = rowVal (z (ix2 r l)) (g (ix3 0 0 l)) (p (ix2 0 l)) (fun j => y (ix2 r j)) l := by
  subst hz
  unfold rowVal
  pointwise [k0_pay5, k0_pay4]

/-- The body's chunk of sixteen next rows. -/
theorem pay6_apply (sc sh : Vec Ideal S1x1x2048 .f32) (p : Vec Ideal S1x2048 .f32) (x : Vec Ideal S16x2048 .f32) (r : Fin 16)
    (l : Fin 2048) :
    k0_pay6 (F := Ideal) x p sc sh (ix2 r l)
      = nextVal (sc (ix3 0 0 l)) (sh (ix3 0 0 l)) (p (ix2 0 l)) (fun j => x (ix2 r j)) l := by
  unfold nextVal
  pointwise [k0_pay6]

/-- The weights' rows as loaded. -/
theorem load_apply (w : Vec Ideal S1x1x256x2048 .f32) (r : Fin 256) (l : Fin 2048) :
    k0_pay225 (F := Ideal) w (ix2 r l) = w (ix4 0 0 r l) := by
  pointwise [k0_pay225]

/-- The product of a tile of rows with the weights. -/
theorem prod_apply (a : Vec Ideal S256x5632 .bf16) (w : Vec Ideal S5632x2048 .bf16) (r : Fin 256) (l : Fin 2048) :
    k0_pay3 (F := Ideal) a w (ix2 r l) = ∑ k : Fin 5632, a (ix2 r k) * w (ix2 k l) := by
  pointwise [k0_pay3]

/-- A chunk of the rows taken is the rows taken of a chunk. -/
theorem pick_rows (b : BitVec 32) (x x' : Vec Ideal S256x2048 .f32) (r : Fin 256) (h1 : r.val / 16 < 16) (h2 : r.val % 16 < 16)
    (l : Fin 2048) :
    pick b (View.ld x (rowsRect ⟨r.val / 16, h1⟩)) (View.ld x' (rowsRect ⟨r.val / 16, h1⟩)) (ix2 (⟨r.val % 16, h2⟩ : Fin 16) l)
      = pick b x x' (ix2 r l) := by
  unfold pick Scalar.select
  split
  · exact ld_rows x r h1 h2 l
  · exact ld_rows x' r h1 h2 l

/-- A stacked tile of residual rows at an entry. -/
theorem xstack_apply (b : BitVec 32) (g : Vec Ideal S1x1x2048 .f32) (p : Vec Ideal S1x2048 .f32) (x x' y : Vec Ideal S256x2048 .f32)
    (r : Fin 256) (l : Fin 2048) :
    stack (xrows (F := Ideal) b g p x x' y) (ix2 r l)
      = rowVal (pick b x x' (ix2 r l)) (g (ix3 0 0 l)) (p (ix2 0 l)) (fun j => y (ix2 r j)) l := by
  have h1 : r.val / 16 < 16 := by omega
  have h2 : r.val % 16 < 16 := by omega
  refine (pay5_apply b g p _ _ _ _ rfl ⟨r.val % 16, h2⟩ l).trans ?_
  exact rowVal_congr l (pick_rows b x x' r h1 h2 l) rfl rfl fun j => ld_rows y r h1 h2 j

/-- A stacked tile of next rows at an entry, of the residual rows as the body made them. -/
theorem hstack_apply (b : BitVec 32) (g : Vec Ideal S1x1x2048 .f32) (p p' : Vec Ideal S1x2048 .f32) (sc sh : Vec Ideal S1x1x2048 .f32)
    (x x' y : Vec Ideal S256x2048 .f32) (r : Fin 256) (l : Fin 2048) :
    stack (hrows (F := Ideal) b g p p' sc sh x x' y) (ix2 r l)
      = nextVal (sc (ix3 0 0 l)) (sh (ix3 0 0 l)) (p' (ix2 0 l)) (fun j => stack (xrows (F := Ideal) b g p x x' y) (ix2 r j)) l := by
  have h1 : r.val / 16 < 16 := by omega
  have h2 : r.val % 16 < 16 := by omega
  exact pay6_apply sc sh p' (xrows b g p x x' y ⟨r.val / 16, h1⟩) ⟨r.val % 16, h2⟩ l

/-- The rows taken are the context's up to point 54, then the latents'. -/
theorem sel_iff : ∀ t : Fin grid0.N, 23 ≤ t.val →
    (Scalar.cmpi .slt (Scalar.subi (sel (grid0.coords t)) 1#32) 32#32 = 1#1 ↔ t.val < 55) := by decide +kernel

theorem idx0 : ∀ t : Fin cfg0.N, win0_0.index t = ![min (t.val - 22) 63, 0] :=
  (by decide +kernel : ∀ t : Fin grid0.N, win0_0.index t = ![min (t.val - 22) 63, 0])
theorem idx1 : ∀ t : Fin cfg0.N, win0_1.index t = ![0, 0, min t.val 21, 0] :=
  (by decide +kernel : ∀ t : Fin grid0.N, win0_1.index t = ![0, 0, min t.val 21, 0])
theorem idx2 : ∀ t : Fin cfg0.N, win0_2.index t = ![min (t.val - 23) 31, 0] :=
  (by decide +kernel : ∀ t : Fin grid0.N, win0_2.index t = ![min (t.val - 23) 31, 0])
theorem idx3 : ∀ t : Fin cfg0.N, win0_3.index t = ![min (t.val - 55) 31, 0] :=
  (by decide +kernel : ∀ t : Fin grid0.N, win0_3.index t = ![min (t.val - 55) 31, 0])
theorem idx4 : ∀ t : Fin cfg0.N, win0_4.index t = ![0, 0] :=
  (by decide +kernel : ∀ t : Fin grid0.N, win0_4.index t = ![0, 0])
theorem idx6 : ∀ t : Fin cfg0.N, win0_6.index t = ![0, 0] :=
  (by decide +kernel : ∀ t : Fin grid0.N, win0_6.index t = ![0, 0])
/-- The row of the modulation table that point `t` reads first: that of the context before point 55, then that of the latent
    batch element. -/
abbrev base (t : ℕ) : ℕ := if t < 55 then 0 else 9 + 9 * (min (t - 55) 31 / 4)
/-- The gate's row, -/
theorem idx5 : ∀ t : Fin cfg0.N, win0_5.index t = ![base t.val + 2, 0, 0] :=
  (by decide +kernel : ∀ t : Fin grid0.N, win0_5.index t = ![base t.val + 2, 0, 0])
/-- the scale's -/
theorem idx7 : ∀ t : Fin cfg0.N, win0_7.index t = ![base t.val + 4, 0, 0] :=
  (by decide +kernel : ∀ t : Fin grid0.N, win0_7.index t = ![base t.val + 4, 0, 0])
/-- and the shift's. -/
theorem idx8 : ∀ t : Fin cfg0.N, win0_8.index t = ![base t.val + 3, 0, 0] :=
  (by decide +kernel : ∀ t : Fin grid0.N, win0_8.index t = ![base t.val + 3, 0, 0])
theorem idx9 : ∀ t : Fin cfg0.N, win0_9.index t = ![min (t.val - 23) 63, 0] :=
  (by decide +kernel : ∀ t : Fin grid0.N, win0_9.index t = ![min (t.val - 23) 63, 0])
theorem idx10 : ∀ t : Fin cfg0.N, win0_10.index t = ![min (t.val - 23) 63, 0] :=
  (by decide +kernel : ∀ t : Fin grid0.N, win0_10.index t = ![min (t.val - 23) 63, 0])

/-- The weights in the scratch are the first layer's first-half matrix. -/
theorem wts_apply (c : Dev nD) (k : Fin 5632) (l : Fin 2048) :
    wts m c (ix2 k l) = m ((c : Thread nD τ).loc main_arg1) (ix4 (0 : Fin 2) (0 : Fin 2) k l) := by
  have h1 : k.val / 256 < cfg0.N := by have : cfg0.N = 87 := N_0; omega
  have h2 : k.val % 256 < 256 := by omega
  show k0_pay225 (iblk m c 1 (⟨k.val / 256, h1⟩ : Fin cfg0.N)) (ix2 ⟨k.val % 256, h2⟩ l) = _
  rw [load_apply]
  blk_ext [iblk, V_main_arg1, idx1 ⟨k.val / 256, h1⟩]

/-- The first norm's weights as the region finds them: the first layer's first row. -/
theorem V_gpost (c : Dev nD) (z : Fin 1) (l : Fin 2048) :
    V m c main_v4 (ix2 z l) = m ((c : Thread nD τ).loc main_arg5) (ix3 (0 : Fin 2) (0 : Fin 3) l) := by
  entry_read
  pointwise

/-- The next norm's weights as the region finds them: the first layer's second row. -/
theorem V_gpre (c : Dev nD) (z : Fin 1) (l : Fin 2048) :
    V m c main_v5 (ix2 z l) = m ((c : Thread nD τ).loc main_arg6) (ix3 (0 : Fin 2) (1 : Fin 3) l) := by
  entry_read
  pointwise

/-- Row `r` of the residual rows: of `x` below 8192, of `x'` from there on. -/
def rowOf (x x' : S8192x2048.Idx → EReal) (r : Fin 16384) (l : Fin 2048) : EReal :=
  if h : r.val < 8192 then x (ix2 ⟨r.val, h⟩ l) else x' (ix2 ⟨r.val - 8192, by omega⟩ l)

/-- One entry of the residual result: row `r` of the product of `a` with the first layer's matrix, normed, gated and added to
    row `r` of the residual rows. -/
def xAt (a : S16384x5632.Idx → EReal) (w : S2x2x5632x2048.Idx → EReal) (x x' : S8192x2048.Idx → EReal)
    (g : S144x1x2048.Idx → EReal) (p : S2x3x2048.Idx → EReal) (r : Fin 16384) (l : Fin 2048) : EReal :=
  rowVal (rowOf x x' r l) (g (ix3 (modIx r 2) (0 : Fin 1) l)) (p (ix3 (0 : Fin 2) (0 : Fin 3) l))
    (fun j => ∑ k : Fin 5632, a (ix2 r k) * w (ix4 (0 : Fin 2) (0 : Fin 2) k j)) l

/-- One entry of the next rows: row `r` of the residual result, normed, scaled and shifted. -/
def hAt (a : S16384x5632.Idx → EReal) (w : S2x2x5632x2048.Idx → EReal) (x x' : S8192x2048.Idx → EReal)
    (g : S144x1x2048.Idx → EReal) (p p' : S2x3x2048.Idx → EReal) (r : Fin 16384) (l : Fin 2048) : EReal :=
  nextVal (g (ix3 (modIx r 4) (0 : Fin 1) l)) (g (ix3 (modIx r 3) (0 : Fin 1) l)) (p' (ix3 (0 : Fin 2) (1 : Fin 3) l))
    (fun j => xAt a w x x' g p r j) l

/-- The residual result. -/
def xVal (a : S16384x5632.Idx → EReal) (w : S2x2x5632x2048.Idx → EReal) (x x' : S8192x2048.Idx → EReal)
    (g : S144x1x2048.Idx → EReal) (p : S2x3x2048.Idx → EReal) : S16384x2048.Idx → EReal := fun y => xAt a w x x' g p (y 0) (y 1)

/-- The next rows. -/
def hVal (a : S16384x5632.Idx → EReal) (w : S2x2x5632x2048.Idx → EReal) (x x' : S8192x2048.Idx → EReal)
    (g : S144x1x2048.Idx → EReal) (p p' : S2x3x2048.Idx → EReal) : S16384x2048.Idx → EReal := fun y => hAt a w x x' g p p' (y 0) (y 1)

/-- The table's row of a tile's rows is the one the tile's point reads. -/
theorem modIx_val (n : ℕ) (h23 : 23 ≤ n) (h86 : n ≤ 86) (r : Fin 256) (R : Fin 16384) (hR : R.val = 256 * (n - 23) + r.val)
    (j : Fin 9) : base n + j.val = (modIx R j).val := by
  have hr := r.isLt
  unfold base modIx
  show _ = (if R.val < 8192 then 0 else 1 + (R.val - 8192) / 1024) * 9 + j.val
  rw [hR]
  split <;> split <;> omega

/-- The residual rows a point finishes, at an entry. -/
theorem xtile_apply (c : Dev nD) (n : ℕ) (h23 : 23 ≤ n) (h86 : n ≤ 86) (r : Fin 256) (l : Fin 2048) (R : Fin 16384)
    (hR : R.val = 256 * (n - 23) + r.val) :
    xtile m c n (ix2 r l) = xAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) R l := by
  have hp : (pt n).val = n := by show min n 86 = n; omega
  have hp' : (pt (n - 1)).val = n - 1 := by show min (n - 1) 86 = n - 1; omega
  have i0 := idx0 (pt (n - 1))
  have i2 := idx2 (pt n)
  have i3 := idx3 (pt n)
  have hs := sel_iff (pt n) (by omega)
  have i4 := idx4 (pt n)
  have i5 := idx5 (pt n)
  rw [hp'] at i0
  rw [hp] at i2 i3 i5 hs
  rw [show base n + 2 = (modIx R 2).val from modIx_val n h23 h86 r R hR 2] at i5
  unfold xtile xAt
  rw [xstack_apply]
  refine rowVal_congr l ?_ ?_ ?_ fun j => ?_
  · unfold rowOf pick Scalar.select
    by_cases h : n < 55
    · refine (congrFun (if_pos (hs.2 h)) _).trans ?_
      rw [dif_pos (by omega)]
      rw [show min (n - 23) 31 = n - 23 by omega] at i2
      blk_ext [iblk, V_main_arg2, i2]
    · refine (congrFun (if_neg fun h' => h (hs.1 h')) _).trans ?_
      rw [dif_neg (by omega)]
      rw [show min (n - 55) 31 = n - 55 by omega] at i3
      blk_ext [iblk, V_main_arg3, i3]
  · blk_ext [iblk, V_main_arg4, i5]
  · refine Eq.trans ?_ (V_gpost m c 0 l)
    blk_ext [iblk, i4]
  · unfold prod
    refine (prod_apply _ _ r j).trans ?_
    refine sum_ext fun k => congrArg₂ (· * ·) ?_ (wts_apply m c k j)
    blk_ext [iblk, V_main_arg0, i0]

/-- The next rows a point finishes, at an entry. -/
theorem htile_apply (c : Dev nD) (n : ℕ) (h23 : 23 ≤ n) (h86 : n ≤ 86) (r : Fin 256) (l : Fin 2048) (R : Fin 16384)
    (hR : R.val = 256 * (n - 23) + r.val) :
    htile m c n (ix2 r l) = hAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))
      (m ((c : Thread nD τ).loc main_arg6)) R l := by
  have hp : (pt n).val = n := by show min n 86 = n; omega
  have i6 := idx6 (pt n)
  have i7 := idx7 (pt n)
  have i8 := idx8 (pt n)
  rw [hp] at i7 i8
  rw [show base n + 4 = (modIx R 4).val from modIx_val n h23 h86 r R hR 4] at i7
  rw [show base n + 3 = (modIx R 3).val from modIx_val n h23 h86 r R hR 3] at i8
  unfold htile hAt
  rw [hstack_apply]
  refine nextVal_congr l ?_ ?_ ?_ fun j => xtile_apply m c n h23 h86 r j R hR
  · blk_ext [iblk, V_main_arg4, i7]
  · blk_ext [iblk, V_main_arg4, i8]
  · refine Eq.trans ?_ (V_gpre m c 0 l)
    blk_ext [iblk, i6]

/-- The residual result after the run. -/
theorem final9 (c : Dev nD) : (dats m 0 c).arrAt 9 cfg0.N
    = xVal (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 9 _ (by decide +kernel) fun t hf y => ?_
  blk_simp
  rw [after0_9]
  obtain ⟨r, l, rfl⟩ : ∃ (r : Fin 256) (l : Fin 2048), y = ix2 r l := ⟨y 0, y 1, eq_ix2 y⟩
  have h := (flush9_iff t).1 hf
  have hr := r.isLt
  have ht : t.val < 87 := lt_of_lt_of_eq t.isLt (show cfg0.N = 87 from N_0)
  have e : (win0_9.blk t).view.emb (ix2 r l) = ix2 (⟨256 * (t.val - 23) + r.val, by omega⟩ : Fin 16384) l := by
    have i9 := idx9 t
    rw [show min (t.val - 23) 63 = t.val - 23 by omega] at i9
    blk_ext [i9]
  rw [e]
  exact xtile_apply m c _ h (by omega) r l _ rfl

/-- The next rows after the run. -/
theorem final10 (c : Dev nD) : (dats m 0 c).arrAt 10 cfg0.N
    = hVal (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))
      (m ((c : Thread nD τ).loc main_arg6)) := by
  refine (dats m 0 c).arrAt_eq_of_covers 10 _ (by decide +kernel) fun t hf y => ?_
  blk_simp
  rw [after0_10]
  obtain ⟨r, l, rfl⟩ : ∃ (r : Fin 256) (l : Fin 2048), y = ix2 r l := ⟨y 0, y 1, eq_ix2 y⟩
  have h := (flush10_iff t).1 hf
  have hr := r.isLt
  have ht : t.val < 87 := lt_of_lt_of_eq t.isLt (show cfg0.N = 87 from N_0)
  have e : (win0_10.blk t).view.emb (ix2 r l) = ix2 (⟨256 * (t.val - 23) + r.val, by omega⟩ : Fin 16384) l := by
    have i10 := idx10 t
    rw [show min (t.val - 23) 63 = t.val - 23 by omega] at i10
    blk_ext [i10]
  rw [e]
  exact htile_apply m c _ h (by omega) r l _ rfl

end Cert.FirstIdeal.First

end
-- ==== Proof.First.Ref.lean ====
/-
  The first residual call's reference, read at an index.
-/
module

public import proofs.«01_k».proof.Proof.Gen.FirstRefIdeal.Read
public import proofs.«01_k».proof.Proof.First.Kernel

@[expose] public section

set_option maxRecDepth 16384

noncomputable section

namespace Cert.FirstRefIdeal.First

open Cert.FirstRefIdeal Cert.FirstRefIdeal.Gen Cert.FirstRefIdeal.Read Idealize.ShloMosaic Idealize.ShloMosaic.TcCoe Idealize.SL.Sem
open Cert.FirstIdeal.First (xVal hVal xAt hAt rowOf)
open Cert.NextIdeal.Next (nextVal modIx)
open Cert.DownIdeal.Down (rowVal)

/-- The context's copy of the modulation table: its first nine rows for every row. -/
theorem val_ctx (g : (⟨S144x1x2048, .f32⟩ : BufTy).Contents (Elt Ideal)) (r : Fin 8192) (j : Fin 9) (l : Fin 2048) :
    val_main_v6 (F := Ideal) g (ix3 r j l) = g (ix3 (⟨j.val, by omega⟩ : Fin 144) (0 : Fin 1) l) := by
  pointwise [val_main_v6, val_main_v5, val_main_v4]

/-- The latent rows' copy: nine rows for each batch element of 1024 rows. -/
theorem val_lat (g : (⟨S144x1x2048, .f32⟩ : BufTy).Contents (Elt Ideal)) (r : Fin 8192) (j : Fin 9) (l : Fin 2048) :
    val_main_v10 (F := Ideal) g (ix3 r j l) = g (ix3 (⟨(1 + r.val / 1024) * 9 + j.val, by omega⟩ : Fin 144) (0 : Fin 1) l) := by
  pointwise [val_main_v10, val_main_v9, val_main_v8, val_main_v7, val_main_v4]

/-- The modulation of a row is read off the table. -/
theorem val_rows (g : (⟨S144x1x2048, .f32⟩ : BufTy).Contents (Elt Ideal)) (r : Fin 16384) (j : Fin 9) (l : Fin 2048) :
    val_main_v11 (F := Ideal) g (ix3 r j l) = g (ix3 (modIx r j) (0 : Fin 1) l) := by
  unfold val_main_v11
  by_cases h : r.val < 8192
  · refine (concatenate_pair_apply_left (t := S16384x9x2048) (s₁ := S8192x9x2048) (s₂ := S8192x9x2048) (0 : Fin 3) _ _ _ (ix3 r j l) rfl (ix3 (⟨r.val, h⟩ : Fin 8192) j l)
      (fun b => by refine Fin.cases rfl (fun b => Fin.cases rfl (fun b => Fin.cases rfl (fun b => b.elim0) b) b) b)).trans ?_
    refine (val_ctx g ⟨r.val, h⟩ j l).trans (congrArg (fun q => g (ix3 q (0 : Fin 1) l)) (Fin.ext ?_))
    show j.val = (if r.val < 8192 then 0 else 1 + (r.val - 8192) / 1024) * 9 + j.val
    rw [if_pos h]; omega
  · have hr := r.isLt
    refine (concatenate_pair_apply_right (t := S16384x9x2048) (s₁ := S8192x9x2048) (s₂ := S8192x9x2048) (0 : Fin 3) _ _ _ (ix3 r j l)
      rfl rfl (ix3 (⟨r.val - 8192, by omega⟩ : Fin 8192) j l)
      (fun b => by refine Fin.cases (fun hb => absurd rfl hb) (fun b => Fin.cases (fun _ => rfl) (fun b => Fin.cases (fun _ => rfl) (fun b => b.elim0) b) b) b)
      (by show r.val - 8192 + 8192 = r.val; omega)).trans ?_
    refine (val_lat g ⟨r.val - 8192, by omega⟩ j l).trans (congrArg (fun q => g (ix3 q (0 : Fin 1) l)) (Fin.ext ?_))
    show (1 + (r.val - 8192) / 1024) * 9 + j.val = (if r.val < 8192 then 0 else 1 + (r.val - 8192) / 1024) * 9 + j.val
    rw [if_neg h]

/-- The gate's, the scale's and the shift's rows. -/
theorem val_gate (g : (⟨S144x1x2048, .f32⟩ : BufTy).Contents (Elt Ideal)) (r : Fin 16384) (l : Fin 2048) :
    val_main_v14 (F := Ideal) g (ix2 r l) = g (ix3 (modIx r 2) (0 : Fin 1) l) := by
  refine Eq.trans ?_ (val_rows g r 2 l)
  pointwise [val_main_v14, val_main_v13]

theorem val_scale (g : (⟨S144x1x2048, .f32⟩ : BufTy).Contents (Elt Ideal)) (r : Fin 16384) (l : Fin 2048) :
    val_main_v50 (F := Ideal) g (ix2 r l) = g (ix3 (modIx r 4) (0 : Fin 1) l) := by
  refine Eq.trans ?_ (val_rows g r 4 l)
  pointwise [val_main_v50, val_main_v49]

theorem val_shift (g : (⟨S144x1x2048, .f32⟩ : BufTy).Contents (Elt Ideal)) (r : Fin 16384) (l : Fin 2048) :
    val_main_v55 (F := Ideal) g (ix2 r l) = g (ix3 (modIx r 3) (0 : Fin 1) l) := by
  refine Eq.trans ?_ (val_rows g r 3 l)
  pointwise [val_main_v55, val_main_v54]

/-- The residual rows, the context's and the latents' one after the other. -/
theorem val_res (x x' : (⟨S8192x2048, .f32⟩ : BufTy).Contents (Elt Ideal)) (r : Fin 16384) (l : Fin 2048) :
    val_main_v12 (F := Ideal) x x' (ix2 r l) = rowOf x x' r l := by
  unfold val_main_v12 rowOf
  by_cases h : r.val < 8192
  · rw [dif_pos h]
    exact concatenate_pair_apply_left (t := S16384x2048) (s₁ := S8192x2048) (s₂ := S8192x2048) (0 : Fin 2) _ _ _ (ix2 r l) rfl
      (ix2 (⟨r.val, h⟩ : Fin 8192) l) (fun b => by refine Fin.cases rfl (fun b => Fin.cases rfl (fun b => b.elim0) b) b)
  · rw [dif_neg h]
    exact concatenate_pair_apply_right (t := S16384x2048) (s₁ := S8192x2048) (s₂ := S8192x2048) (0 : Fin 2) _ _ _ (ix2 r l) rfl rfl
      (ix2 (⟨r.val - 8192, by omega⟩ : Fin 8192) l)
      (fun b => by refine Fin.cases (fun hb => absurd rfl hb) (fun b => Fin.cases (fun _ => rfl) (fun b => b.elim0) b) b)
      (by show r.val - 8192 + 8192 = r.val; omega)

/-- The reference's residual rows. -/
theorem val_x (a : (⟨S16384x5632, .bf16⟩ : BufTy).Contents (Elt Ideal))
    (w : (⟨S2x2x5632x2048, .f32⟩ : BufTy).Contents (Elt Ideal)) (x x' : (⟨S8192x2048, .f32⟩ : BufTy).Contents (Elt Ideal))
    (g : (⟨S144x1x2048, .f32⟩ : BufTy).Contents (Elt Ideal)) (p : (⟨S2x3x2048, .f32⟩ : BufTy).Contents (Elt Ideal)) :
    val_main_v33 (F := Ideal) a w x x' g p = xVal a w x x' g p := by
  funext y
  obtain ⟨r, l, rfl⟩ : ∃ (r : Fin 16384) (l : Fin 2048), y = ix2 r l := ⟨y 0, y 1, eq_ix2 y⟩
  show _ = xAt a w x x' g p r l
  unfold xAt
  rw [← val_gate g r l, ← val_res x x' r l]
  unfold rowVal
  pointwise [val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v3, val_main_v2, val_main_v1, val_main_v0, val_main_cst,
    val_main_cst_0, val_main_cst_1, val_main_cst_2]

/-- The reference's next rows. -/
theorem val_h (a : (⟨S16384x5632, .bf16⟩ : BufTy).Contents (Elt Ideal))
    (w : (⟨S2x2x5632x2048, .f32⟩ : BufTy).Contents (Elt Ideal)) (x x' : (⟨S8192x2048, .f32⟩ : BufTy).Contents (Elt Ideal))
    (g : (⟨S144x1x2048, .f32⟩ : BufTy).Contents (Elt Ideal)) (p p' : (⟨S2x3x2048, .f32⟩ : BufTy).Contents (Elt Ideal)) :
    val_main_v57 (F := Ideal) a w x x' g p p' = hVal a w x x' g p p' := by
  funext y
  obtain ⟨r, l, rfl⟩ : ∃ (r : Fin 16384) (l : Fin 2048), y = ix2 r l := ⟨y 0, y 1, eq_ix2 y⟩
  show _ = hAt a w x x' g p p' r l
  have e : (fun j => xAt a w x x' g p r j) = fun j => val_main_v33 (F := Ideal) a w x x' g p (ix2 r j) := by
    rw [val_x]; rfl
  unfold hAt
  rw [e, ← val_scale g r l, ← val_shift g r l]
  unfold nextVal
  pointwise [val_main_v57, val_main_v56, val_main_v53, val_main_v52, val_main_v51, val_main_v48, val_main_v47, val_main_v46,
    val_main_v45, val_main_v44, val_main_v43, val_main_v42, val_main_v41, val_main_v40, val_main_v39, val_main_v38,
    val_main_v37, val_main_v36, val_main_v35, val_main_v34, val_main_cst_3, val_main_cst_4, val_main_cst_5, val_main_cst_6]

end Cert.FirstRefIdeal.First

end
-- ==== Proof.First.Algebraic.lean ====
/-
  The first residual call with the next rows against its reference: the two runs side by side, both pairs of results the same functions of the
  arguments.
-/
module

public import proofs.«01_k».proof.Defs
public import proofs.«01_k».proof.Proof.First.Kernel
public import proofs.«01_k».proof.Proof.First.Ref
public import proofs.«01_k».proof.Proof.Gen.FirstRefIdeal.Run

@[expose] public section

noncomputable section

namespace Cert.Proof.First

open Idealize.ShloMosaic Idealize.ShloMosaic.TcCoe Idealize.SL.Sem

/-- From equal arguments, at the ideal semantics, the kernel's two results equal the reference's. -/
theorem algebraic : Cert.algebraic_FirstIdeal_FirstRefIdeal (hFirstIdeal := Cert.FirstIdeal.Gen.facts)
    (hFirstRefIdeal := Cert.FirstRefIdeal.Gen.facts) := by
  intro m g m' g' _ hargs
  refine ⟨fun c => Cert.FirstIdeal.First.xVal (m ((c.tc : Thread _ _).loc Cert.FirstIdeal.main_arg0))
      (m ((c.tc : Thread _ _).loc Cert.FirstIdeal.main_arg1)) (m ((c.tc : Thread _ _).loc Cert.FirstIdeal.main_arg2))
      (m ((c.tc : Thread _ _).loc Cert.FirstIdeal.main_arg3)) (m ((c.tc : Thread _ _).loc Cert.FirstIdeal.main_arg4))
      (m ((c.tc : Thread _ _).loc Cert.FirstIdeal.main_arg5)),
    fun c => Cert.FirstIdeal.First.hVal (m ((c.tc : Thread _ _).loc Cert.FirstIdeal.main_arg0))
      (m ((c.tc : Thread _ _).loc Cert.FirstIdeal.main_arg1)) (m ((c.tc : Thread _ _).loc Cert.FirstIdeal.main_arg2))
      (m ((c.tc : Thread _ _).loc Cert.FirstIdeal.main_arg3)) (m ((c.tc : Thread _ _).loc Cert.FirstIdeal.main_arg4))
      (m ((c.tc : Thread _ _).loc Cert.FirstIdeal.main_arg5)) (m ((c.tc : Thread _ _).loc Cert.FirstIdeal.main_arg6)), ?_, ?_⟩
  · refine (θ_run (Cert.FirstIdeal.defs (F := Ideal)) _ _).mono (fun r h c => ?_)
      (θ_run_and (Cert.FirstIdeal.First.run_main (F := Ideal) m g) (Cert.FirstIdeal.First.unchanged (F := Ideal) m g))
    exact ⟨((h.1 c).1 9).trans (Cert.FirstIdeal.First.final9 m c), ((h.1 c).1 10).trans (Cert.FirstIdeal.First.final10 m c), h.2 c⟩
  · refine (θ_run (Cert.FirstRefIdeal.defs (F := Ideal)) _ _).mono (fun r h c => ?_) (Cert.FirstRefIdeal.Value.run (F := Ideal) m' g')
    obtain ⟨hv, hw, h0⟩ := h c
    obtain ⟨e0, e1, e2, e3, e4, e5, e6⟩ := hargs c
    refine ⟨hv.trans ?_, hw.trans ?_, h0⟩
    · refine ((Cert.FirstRefIdeal.Read.val_main_v33_eq _ _ _ _ _ _).trans (Cert.FirstRefIdeal.First.val_x _ _ _ _ _ _)).trans ?_
      rw [e0, e1, e2, e3, e4, e5]
    · refine ((Cert.FirstRefIdeal.Read.val_main_v57_eq m' c).trans (Cert.FirstRefIdeal.First.val_h _ _ _ _ _ _ _)).trans ?_
      rw [e0, e1, e2, e3, e4, e5, e6]

/-- The reference terminates, keeps its arguments and leaves every semaphore counter at zero. -/
theorem frame_ref : Cert.quiescent_FirstRefIdeal (hFirstRefIdeal := Cert.FirstRefIdeal.Gen.facts) := fun m g _ =>
  (θ_run (Cert.FirstRefIdeal.defs (F := Ideal)) _ _).mono
    (fun r h => ⟨fun c => (h c).2.2, Idealize.ShloMosaic.sem_eq_zero_of_no_sems (by decide) r.2⟩)
    (Cert.FirstRefIdeal.Value.run (F := Ideal) m g)

end Cert.Proof.First

end
-- ==== Proof.Newk.Kernel.lean ====
/-
  The projection of the keys of the first layer, read as values: at any grid point the weight scratch holds the key columns of
  the first layer's weights, the stored block is the product with them beside zeros, and the result array after the run is that
  product in the first layer's place and zero in the other's.
-/
module

public import proofs.«01_k».proof.Proof.Gen.NewkIdeal.Value
public import proofs.«01_k».proof.Proof.Cache.Kernel
public import Idealize.ShloMosaic.Lib.VecWindow
public import Idealize.ShloMosaic.Lib.WritesUnit
public import Idealize.ShloMosaic.Lib.Pointwise
public import Idealize.ShloMosaic.Lib.Pipeline.ValueKit
public import Idealize.ShloMosaic.Lib.Tactic

@[expose] public section

noncomputable section

namespace Cert.NewkIdeal.Newk

open Cert.NewkIdeal Cert.NewkIdeal.Gen Idealize.ShloMosaic Idealize.ShloMosaic.TcCoe Idealize.SL.Sem
open Idealize.ShloMosaic.Pipeline (Dat)
open Cert.CacheIdeal.Cache (blockVal hz2 hz3 hz4 sum_ext)

/-- The block a point writes: the product in the first layer's place, zero in the last's. -/
def wideVal (x : Vec Ideal S512x2048 .bf16) (w : Vec Ideal S2048x1024 .bf16) : Vec Ideal S2x2x256x1024 .f32 := fun y =>
  if (y 1).val = 0 then blockVal x w (ix4 (y 0) 0 (y 2) (y 3)) else 0

/-- What the store of zeros and then of the product in the first layer's place leave. -/
theorem read_wide {sig' : RefSig} {κ : Kind} {sp : Space} (v : View sig' κ sp S2x2x256x1024 .f32) (f : v.ty.Contents (Elt Ideal))
    (x : Vec Ideal S512x2048 .bf16) (w : Vec Ideal S2048x1024 .bf16) (z : Vec Ideal S2x2x256x1024 .f32) (hz : ∀ y, z y = 0)
    (inb : ∀ a, (![0, 0, 0, 0] : Fin 4 → Nat) a + S2x1x256x1024.size a ≤ S2x2x256x1024.size a)
    (inb' : ∀ a, (![0, 0, 0, 0] : Fin 4 → Nat) a + S2x2x256x1024.size a ≤ S2x2x256x1024.size a) :
    v.read (Elt Ideal) (v.writes (Elt Ideal) f
      [⟨Rect.unit (s := S2x2x256x1024) ![0, 0, 0, 0] S2x1x256x1024.size inb, blockVal x w⟩,
        ⟨Rect.unit (s := S2x2x256x1024) ![0, 0, 0, 0] S2x2x256x1024.size inb', z⟩]) = wideVal x w := funext fun j => by
  have h1 : (j 1).val < 2 := (j 1).isLt
  unfold wideVal
  by_cases h : (j 1).val = 0
  · rw [if_pos h]
    refine View.read_writes_cons_unit_of_mem v f inb _ _ j (ix4 (j 0) 0 (j 2) (j 3)) rfl fun a => ?_
    match a with
    | 0 => show (j 0).val = 0 + (j 0).val; omega
    | 1 => show (j 1).val = 0 + 0; omega
    | 2 => show (j 2).val = 0 + (j 2).val; omega
    | 3 => show (j 3).val = 0 + (j 3).val; omega
  · rw [if_neg h]
    refine (View.read_writes_cons_unit_of_not_mem v f inb _ _ j rfl 1 ?_).trans ?_
    · show (j 1).val < 0 ∨ 0 + 1 ≤ (j 1).val; omega
    · exact (congrFun (View.read_writes_full v f _ _ _) j).trans (hz j)

/-- The body's payload is the block of the product. -/
theorem pay_eq (h : Vec Ideal S512x2048 .bf16) (w : Vec Ideal S2048x1024 .bf16) : k0_pay3 (F := Ideal) h w = blockVal h w :=
  Cert.CacheIdeal.Cache.pay_eq h w

/-- A weight block as the body stores it in the scratch, read at an index. -/
theorem w_apply (x : Vec Ideal S1x2048x1024 .f32) (k : Fin 2048) (l : Fin 1024) :
    k0_pay1 (F := Ideal) x (ix2 k l) = x (ix3 0 k l) :=
  Cert.CacheIdeal.Cache.w_apply x k l

/-- The other stored block is zero. -/
theorem zero_apply (y : S2x2x256x1024.Idx) : k0_pay2 (F := Ideal) y = 0 := by
  pointwise [k0_pay2]

/-- At every point but the first, the block it leaves is the product with the carried scratch, beside zeros. -/
theorem out_B (c : Dev nD) (i : grid0.Coords) (arg1 : Memref sig .tc .vmem S512x2048 .bf16) (harg1 : arg1.IsWhole) (arg2 : Memref sig .tc .vmem S1x2048x1024 .f32) (harg2 : arg2.IsWhole)
    (arg3 : Memref sig .tc .vmem S2x2x256x1024 .f32) (harg3 : arg3.IsWhole) (arg4 : Memref sig .tc .vmem S2048x1024 .bf16) (harg4 : arg4.IsWhole) (hc0 : ¬cond0_0 i)
    (x0 : Vec Ideal S512x2048 .bf16) (x1 : Vec Ideal S1x2048x1024 .f32) (xs0 : Vec Ideal S2048x1024 .bf16) :
    out0_B_2 c i arg1 harg1 arg2 harg2 arg3 harg3 arg4 harg4 hc0 x0 x1 xs0 = wideVal x0 xs0 := by
  unfold out0_B_2 kernelRun0_B
  dsimp only
  sl_unfold_words
  simp only [View.readAt_eq_ld, harg1.read_unread, harg4.read_unread, View.ld_unit_zero (S := S2048x1024) hz2,
    View.ld_unit_zero (S := S512x2048) hz2, pay_eq]
  exact read_wide _ _ _ _ _ zero_apply _ _

/-- At the first point the block it leaves is the product with the weight block, stored first in the scratch and read back. -/
theorem out_A (c : Dev nD) (i : grid0.Coords) (arg1 : Memref sig .tc .vmem S512x2048 .bf16) (harg1 : arg1.IsWhole) (arg2 : Memref sig .tc .vmem S1x2048x1024 .f32) (harg2 : arg2.IsWhole)
    (arg3 : Memref sig .tc .vmem S2x2x256x1024 .f32) (harg3 : arg3.IsWhole) (arg4 : Memref sig .tc .vmem S2048x1024 .bf16) (harg4 : arg4.IsWhole) (hc0 : cond0_0 i)
    (x0 : Vec Ideal S512x2048 .bf16) (x1 : Vec Ideal S1x2048x1024 .f32) :
    out0_A_2 c i arg1 harg1 arg2 harg2 arg3 harg3 arg4 harg4 hc0 x0 x1 = wideVal x0 (k0_pay1 x1) := by
  unfold out0_A_2 kernelRun0_A
  dsimp only
  sl_unfold_words
  simp only [View.readAt_eq_ld, harg1.read_unread, harg2.read_unread, View.readCov_unit_zero (S := S2048x1024) _ hz2,
    View.ld_unit_zero (S := S512x2048) hz2, View.ld_unit_zero (S := S1x2048x1024) hz3, pay_eq]
  exact read_wide _ _ _ _ _ zero_apply _ _

/-- What the first point leaves in the scratch: the weight block. -/
theorem sout_A (c : Dev nD) (i : grid0.Coords) (arg1 : Memref sig .tc .vmem S512x2048 .bf16) (harg1 : arg1.IsWhole) (arg2 : Memref sig .tc .vmem S1x2048x1024 .f32) (harg2 : arg2.IsWhole)
    (arg3 : Memref sig .tc .vmem S2x2x256x1024 .f32) (harg3 : arg3.IsWhole) (arg4 : Memref sig .tc .vmem S2048x1024 .bf16) (harg4 : arg4.IsWhole) (hc0 : cond0_0 i)
    (x0 : Vec Ideal S512x2048 .bf16) (x1 : Vec Ideal S1x2048x1024 .f32) :
    sout0_A_0 c i arg1 harg1 arg2 harg2 arg3 harg3 arg4 harg4 hc0 x0 x1 = k0_pay1 x1 := by
  unfold sout0_A_0
  rw [View.read_writes_eq_canon _ _ _ (scover0_A_0 c i arg1 harg1 arg2 harg2 arg3 harg3 arg4 harg4 hc0 x0 x1)]
  unfold kernelRun0_A
  dsimp only
  sl_unfold_words
  rw [View.canon_unit_zero hz2]
  simp only [View.readAt_eq_ld, harg2.read_unread, View.ld_unit_zero (S := S1x2048x1024) hz3]

variable (m : (ℓ : Loc nD τ sig) → Buf (Elt Ideal) ℓ) (ρ : Dev nD → PrngReg)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0, 9] :=
  (by decide +kernel : ∀ t : Fin grid0.N, win0_1.index t = ![0, 0, 9])
theorem idx2 : ∀ t : Fin cfg0.N, win0_2.index t = ![t.val, 0, 0, 0] :=
  (by decide +kernel : ∀ t : Fin grid0.N, win0_2.index t = ![t.val, 0, 0, 0])

theorem N_eq : cfg0.N = 16 := N_0

/-- The key columns of the first layer's weights, as the scratch holds them. -/
def wcol (c : Dev nD) : Vec Ideal S2048x1024 .bf16 := fun y =>
  m ((c : Thread nD τ).loc main_arg1) (ix3 (0 : Fin 2) (y 0) (⟨9216 + (y 1).val, by have h : (y 1).val < 1024 := (y 1).isLt; omega⟩ : Fin 17408))

/-- The weight window's block is the key columns. -/
theorem iblk1 (c : Dev nD) (t : Fin cfg0.N) : k0_pay1 (F := Ideal) (iblk m c 1 t) = wcol m c := by
  funext y
  obtain ⟨k, l, rfl⟩ : ∃ k l, y = ix2 k l := ⟨y 0, y 1, eq_ix2 y⟩
  rw [w_apply]
  unfold wcol
  blk_ext [iblk, V_main_arg1, idx1 t]

/-- After any point the scratch holds the key columns: stored at the first point and carried since. -/
theorem scratch_eq (c : Dev nD) : ∀ (n : Nat) (hn : n < cfg0.N), (outsAt0 m c n hn).2 = wcol m c := by
  intro n
  induction n with
  | zero =>
    intro hn
    rw [show outsAt0 m c 0 hn = _ from outsAt0_A m c ⟨0, hn⟩ rfl]
    dsimp only
    rw [sout_A, iblk1]
  | succ n ih =>
    intro hn
    have := N_eq
    rw [show outsAt0 m c (n + 1) hn = _ from outsAt0_B m c ⟨n + 1, hn⟩ (by dsimp only; omega)]
    dsimp only
    exact ih (by omega)

/-- After any point the output's staging buffer holds the product of the point's rows and the key columns, beside zeros. -/
theorem outs_eq (c : Dev nD) (t : Fin cfg0.N) : (outsAt0 m c t.val t.isLt).1 = wideVal (iblk m c 0 t) (wcol m c) := by
  by_cases h0 : t.val % 16 = 0
  · rw [outsAt0_A m c t h0]
    dsimp only
    rw [out_A, iblk1]
  · rw [outsAt0_B m c t h0]
    dsimp only
    have := t.isLt
    rw [out_B, scratch_eq m c (t.val - 1) (by omega)]

/-- The result as a function of the two arguments: in the first layer's place row `256 s + p` of `h` times the key columns of
    the first layer's weights, zero in the last's. -/
def resVal (h : S16384x2048.Idx → EReal) (w : S2x2048x17408.Idx → EReal) : S32x2x256x1024.Idx → EReal := fun y =>
  if (y 1).val = 0 then ∑ k : Fin 2048, h (ix2 (⟨(y 0).val * 256 + (y 2).val, by
    have h0 : (y 0).val < 32 := (y 0).isLt
    have h2 : (y 2).val < 256 := (y 2).isLt
    omega⟩ : Fin 16384) k) * w (ix3 (0 : Fin 2) k (⟨9216 + (y 3).val, by have h : (y 3).val < 1024 := (y 3).isLt; omega⟩ : Fin 17408))
  else 0

/-- The result array after the run. -/
theorem final (c : Dev nD) : (dats m 0 c).arrAt 2 cfg0.N
    = resVal (m ((c : Thread nD τ).loc main_arg0)) (m ((c : Thread nD τ).loc main_arg1)) := by
  refine (dats m 0 c).arrAt_eq_of_covers 2 _ (by decide +kernel) fun t hf y => ?_
  blk_simp
  rw [after0_2, outs_eq]
  obtain ⟨a, b, r, l, rfl⟩ : ∃ (a : Fin 2) (b : Fin 2) (r : Fin 256) (l : Fin 1024), y = ix4 a b r l := ⟨y 0, y 1, y 2, y 3, eq_ix4 y⟩
  have ht : t.val < 16 := lt_of_lt_of_eq t.isLt N_eq
  have hb := b.isLt
  have e : (win0_2.blk t).view.emb (ix4 a b r l) = ix4 (⟨2 * t.val + a.val, by have := a.isLt; omega⟩ : Fin 32) b r l := by
    blk_ext [idx2 t]
  rw [e]
  unfold wideVal resVal
  refine if_congr Iff.rfl ?_ rfl
  unfold blockVal wcol
  refine sum_ext fun k => congrArg₂ (· * ·) ?_ ?_ <;> blk_ext [iblk, V_main_arg0, idx0 t]

end Cert.NewkIdeal.Newk

end
-- ==== Proof.Newk.Ref.lean ====
/-
  The reference of the first layer's key projection, read at an index.
-/
module

public import proofs.«01_k».proof.Proof.Gen.NewkRefIdeal.Read
public import proofs.«01_k».proof.Proof.Newk.Kernel

@[expose] public section

noncomputable section

namespace Cert.NewkRefIdeal.Newk

open Cert.NewkRefIdeal Cert.NewkRefIdeal.Gen Cert.NewkRefIdeal.Read Idealize.ShloMosaic Idealize.ShloMosaic.TcCoe Idealize.SL.Sem
open Cert.NewkIdeal.Newk (resVal)

/-- The reference's result is the product in the first layer's place and zero in the last layer's. -/
theorem val_eq (h : (⟨S16384x2048, .bf16⟩ : BufTy).Contents (Elt Ideal)) (w : (⟨S2x2048x17408, .f32⟩ : BufTy).Contents (Elt Ideal)) :
    val_main_v10 (F := Ideal) h w = resVal h w := by
  funext y
  obtain ⟨s, lay, r, l, rfl⟩ : ∃ (s : Fin 32) (lay : Fin 2) (r : Fin 256) (l : Fin 1024), y = ix4 s lay r l := ⟨y 0, y 1, y 2, y 3, eq_ix4 y⟩
  unfold resVal
  rcases (by revert lay; decide : lay = 0 ∨ lay = 1) with rfl | rfl
  · refine Eq.trans ?_ (if_pos (show (0 : Fin 2).val = 0 by decide)).symm
    pointwise [val_main_v10, val_main_v8, val_main_v6, val_main_v5, val_main_v4, val_main_v3, val_main_v2, val_main_v1, val_main_v0]
  · refine Eq.trans ?_ (if_neg (show ¬(1 : Fin 2).val = 0 by decide)).symm
    pointwise [val_main_v10, val_main_v9, val_main_v7, val_main_cst]

end Cert.NewkRefIdeal.Newk

end
-- ==== Proof.Newk.Algebraic.lean ====
/-
  The first layer's key projection against its reference: the two runs side by side, both results the same function of the arguments.
-/
module

public import proofs.«01_k».proof.Defs
public import proofs.«01_k».proof.Proof.Newk.Kernel
public import proofs.«01_k».proof.Proof.Newk.Ref
public import proofs.«01_k».proof.Proof.Gen.NewkRefIdeal.Run

@[expose] public section

noncomputable section

namespace Cert.Proof.Newk

open Idealize.ShloMosaic Idealize.ShloMosaic.TcCoe Idealize.SL.Sem

/-- From equal arguments, at the ideal semantics, the kernel's result equals the reference's. -/
theorem algebraic : Cert.algebraic_NewkIdeal_NewkRefIdeal (hNewkIdeal := Cert.NewkIdeal.Gen.facts)
    (hNewkRefIdeal := Cert.NewkRefIdeal.Gen.facts) := by
  intro m g m' g' _ hargs
  refine ⟨fun c => Cert.NewkIdeal.Newk.resVal (m ((c.tc : Thread _ _).loc Cert.NewkIdeal.main_arg0))
    (m ((c.tc : Thread _ _).loc Cert.NewkIdeal.main_arg1)), ?_, ?_⟩
  · refine (θ_run (Cert.NewkIdeal.defs (F := Ideal)) _ _).mono (fun r h c => ?_) (Cert.NewkIdeal.Value.run_blocks (F := Ideal) m g)
    obtain ⟨hv, h0, h1⟩ := h c
    exact ⟨hv.trans (Cert.NewkIdeal.Newk.final m c), h0, h1⟩
  · refine (θ_run (Cert.NewkRefIdeal.defs (F := Ideal)) _ _).mono (fun r h c => ?_) (Cert.NewkRefIdeal.Value.run (F := Ideal) m' g')
    obtain ⟨hv, h0, h1⟩ := h c
    refine ⟨hv.trans ?_, h0, h1⟩
    refine ((Cert.NewkRefIdeal.Read.val_main_v10_eq _ _).trans (Cert.NewkRefIdeal.Newk.val_eq _ _)).trans ?_
    rw [(hargs c).1, (hargs c).2]

/-- The reference terminates, keeps its arguments and leaves every semaphore counter at zero. -/
theorem frame_ref : Cert.quiescent_NewkRefIdeal (hNewkRefIdeal := Cert.NewkRefIdeal.Gen.facts) := fun m g _ =>
  (θ_run (Cert.NewkRefIdeal.defs (F := Ideal)) _ _).mono
    (fun r h => ⟨fun c => (h c).2, Idealize.ShloMosaic.sem_eq_zero_of_no_sems (by decide) r.2⟩)
    (Cert.NewkRefIdeal.Value.run (F := Ideal) m g)

end Cert.Proof.Newk

end
-- ==== Proof.Newv.Kernel.lean ====
/-
  The projection of the values of the first layer, read as values: at any grid point the weight scratch holds the value columns of
  the first layer's weights, the stored block is the product with them beside zeros, and the result array after the run is that
  product in the first layer's place and zero in the other's.
-/
module

public import proofs.«01_k».proof.Proof.Gen.NewvIdeal.Value
public import proofs.«01_k».proof.Proof.Cache.Kernel
public import proofs.«01_k».proof.Proof.Newk.Kernel
public import Idealize.ShloMosaic.Lib.VecWindow
public import Idealize.ShloMosaic.Lib.WritesUnit
public import Idealize.ShloMosaic.Lib.Pointwise
public import Idealize.ShloMosaic.Lib.Pipeline.ValueKit
public import Idealize.ShloMosaic.Lib.Tactic

@[expose] public section

noncomputable section

namespace Cert.NewvIdeal.Newv

open Cert.NewvIdeal Cert.NewvIdeal.Gen Idealize.ShloMosaic Idealize.ShloMosaic.TcCoe Idealize.SL.Sem
open Idealize.ShloMosaic.Pipeline (Dat)
open Cert.CacheIdeal.Cache (blockVal hz2 hz3 hz4 sum_ext)
open Cert.NewkIdeal.Newk (wideVal read_wide)

/-- The body's payload is the block of the product. -/
theorem pay_eq (h : Vec Ideal S512x2048 .bf16) (w : Vec Ideal S2048x1024 .bf16) : k0_pay3 (F := Ideal) h w = blockVal h w :=
  Cert.CacheIdeal.Cache.pay_eq h w

/-- A weight block as the body stores it in the scratch, read at an index. -/
theorem w_apply (x : Vec Ideal S1x2048x1024 .f32) (k : Fin 2048) (l : Fin 1024) :
    k0_pay1 (F := Ideal) x (ix2 k l) = x (ix3 0 k l) :=
  Cert.CacheIdeal.Cache.w_apply x k l

/-- The other stored block is zero. -/
theorem zero_apply (y : S2x2x256x1024.Idx) : k0_pay2 (F := Ideal) y = 0 := by
  pointwise [k0_pay2]

/-- At every point but the first, the block it leaves is the product with the carried scratch, beside zeros. -/
theorem out_B (c : Dev nD) (i : grid0.Coords) (arg1 : Memref sig .tc .vmem S512x2048 .bf16) (harg1 : arg1.IsWhole) (arg2 : Memref sig .tc .vmem S1x2048x1024 .f32) (harg2 : arg2.IsWhole)
    (arg3 : Memref sig .tc .vmem S2x2x256x1024 .f32) (harg3 : arg3.IsWhole) (arg4 : Memref sig .tc .vmem S2048x1024 .bf16) (harg4 : arg4.IsWhole) (hc0 : ¬cond0_0 i)
    (x0 : Vec Ideal S512x2048 .bf16) (x1 : Vec Ideal S1x2048x1024 .f32) (xs0 : Vec Ideal S2048x1024 .bf16) :
    out0_B_2 c i arg1 harg1 arg2 harg2 arg3 harg3 arg4 harg4 hc0 x0 x1 xs0 = wideVal x0 xs0 := by
  unfold out0_B_2 kernelRun0_B
  dsimp only
  sl_unfold_words
  simp only [View.readAt_eq_ld, harg1.read_unread, harg4.read_unread, View.ld_unit_zero (S := S2048x1024) hz2,
    View.ld_unit_zero (S := S512x2048) hz2, pay_eq]
  exact read_wide _ _ _ _ _ zero_apply _ _

/-- At the first point the block it leaves is the product with the weight block, stored first in the scratch and read back. -/
theorem out_A (c : Dev nD) (i : grid0.Coords) (arg1 : Memref sig .tc .vmem S512x2048 .bf16) (harg1 : arg1.IsWhole) (arg2 : Memref sig .tc .vmem S1x2048x1024 .f32) (harg2 : arg2.IsWhole)
    (arg3 : Memref sig .tc .vmem S2x2x256x1024 .f32) (harg3 : arg3.IsWhole) (arg4 : Memref sig .tc .vmem S2048x1024 .bf16) (harg4 : arg4.IsWhole) (hc0 : cond0_0 i)
    (x0 : Vec Ideal S512x2048 .bf16) (x1 : Vec Ideal S1x2048x1024 .f32) :
    out0_A_2 c i arg1 harg1 arg2 harg2 arg3 harg3 arg4 harg4 hc0 x0 x1 = wideVal x0 (k0_pay1 x1) := by
  unfold out0_A_2 kernelRun0_A
  dsimp only
  sl_unfold_words
  simp only [View.readAt_eq_ld, harg1.read_unread, harg2.read_unread, View.readCov_unit_zero (S := S2048x1024) _ hz2,
    View.ld_unit_zero (S := S512x2048) hz2, View.ld_unit_zero (S := S1x2048x1024) hz3, pay_eq]
  exact read_wide _ _ _ _ _ zero_apply _ _

/-- What the first point leaves in the scratch: the weight block. -/
theorem sout_A (c : Dev nD) (i : grid0.Coords) (arg1 : Memref sig .tc .vmem S512x2048 .bf16) (harg1 : arg1.IsWhole) (arg2 : Memref sig .tc .vmem S1x2048x1024 .f32) (harg2 : arg2.IsWhole)
    (arg3 : Memref sig .tc .vmem S2x2x256x1024 .f32) (harg3 : arg3.IsWhole) (arg4 : Memref sig .tc .vmem S2048x1024 .bf16) (harg4 : arg4.IsWhole) (hc0 : cond0_0 i)
    (x0 : Vec Ideal S512x2048 .bf16) (x1 : Vec Ideal S1x2048x1024 .f32) :
    sout0_A_0 c i arg1 harg1 arg2 harg2 arg3 harg3 arg4 harg4 hc0 x0 x1 = k0_pay1 x1 := by
  unfold sout0_A_0
  rw [View.read_writes_eq_canon _ _ _ (scover0_A_0 c i arg1 harg1 arg2 harg2 arg3 harg3 arg4 harg4 hc0 x0 x1)]
  unfold kernelRun0_A
  dsimp only
  sl_unfold_words
  rw [View.canon_unit_zero hz2]
  simp only [View.readAt_eq_ld, harg2.read_unread, View.ld_unit_zero (S := S1x2048x1024) hz3]

variable (m : (ℓ : Loc nD τ sig) → Buf (Elt Ideal) ℓ) (ρ : Dev nD → PrngReg)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0, 10] :=
  (by decide +kernel : ∀ t : Fin grid0.N, win0_1.index t = ![0, 0, 10])
theorem idx2 : ∀ t : Fin cfg0.N, win0_2.index t = ![t.val, 0, 0, 0] :=
  (by decide +kernel : ∀ t : Fin grid0.N, win0_2.index t = ![t.val, 0, 0, 0])

theorem N_eq : cfg0.N = 16 := N_0

/-- The value columns of the first layer's weights, as the scratch holds them. -/
def wcol (c : Dev nD) : Vec Ideal S2048x1024 .bf16 := fun y =>
  m ((c : Thread nD τ).loc main_arg1) (ix3 (0 : Fin 2) (y 0) (⟨10240 + (y 1).val, by have h : (y 1).val < 1024 := (y 1).isLt; omega⟩ : Fin 17408))

/-- The weight window's block is the value columns. -/
theorem iblk1 (c : Dev nD) (t : Fin cfg0.N) : k0_pay1 (F := Ideal) (iblk m c 1 t) = wcol m c := by
  funext y
  obtain ⟨k, l, rfl⟩ : ∃ k l, y = ix2 k l := ⟨y 0, y 1, eq_ix2 y⟩
  rw [w_apply]
  unfold wcol
  blk_ext [iblk, V_main_arg1, idx1 t]

/-- After any point the scratch holds the value columns: stored at the first point and carried since. -/
theorem scratch_eq (c : Dev nD) : ∀ (n : Nat) (hn : n < cfg0.N), (outsAt0 m c n hn).2 = wcol m c := by
  intro n
  induction n with
  | zero =>
    intro hn
    rw [show outsAt0 m c 0 hn = _ from outsAt0_A m c ⟨0, hn⟩ rfl]
    dsimp only
    rw [sout_A, iblk1]
  | succ n ih =>
    intro hn
    have := N_eq
    rw [show outsAt0 m c (n + 1) hn = _ from outsAt0_B m c ⟨n + 1, hn⟩ (by dsimp only; omega)]
    dsimp only
    exact ih (by omega)

/-- After any point the output's staging buffer holds the product of the point's rows and the value columns, beside zeros. -/
theorem outs_eq (c : Dev nD) (t : Fin cfg0.N) : (outsAt0 m c t.val t.isLt).1 = wideVal (iblk m c 0 t) (wcol m c) := by
  by_cases h0 : t.val % 16 = 0
  · rw [outsAt0_A m c t h0]
    dsimp only
    rw [out_A, iblk1]
  · rw [outsAt0_B m c t h0]
    dsimp only
    have := t.isLt
    rw [out_B, scratch_eq m c (t.val - 1) (by omega)]

/-- The result as a function of the two arguments: in the first layer's place row `256 s + p` of `h` times the value columns of
    the first layer's weights, zero in the last's. -/
def resVal (h : S16384x2048.Idx → EReal) (w : S2x2048x17408.Idx → EReal) : S32x2x256x1024.Idx → EReal := fun y =>
  if (y 1).val = 0 then ∑ k : Fin 2048, h (ix2 (⟨(y 0).val * 256 + (y 2).val, by
    have h0 : (y 0).val < 32 := (y 0).isLt
    have h2 : (y 2).val < 256 := (y 2).isLt
    omega⟩ : Fin 16384) k) * w (ix3 (0 : Fin 2) k (⟨10240 + (y 3).val, by have h : (y 3).val < 1024 := (y 3).isLt; omega⟩ : Fin 17408))
  else 0

/-- The result array after the run. -/
theorem final (c : Dev nD) : (dats m 0 c).arrAt 2 cfg0.N
    = resVal (m ((c : Thread nD τ).loc main_arg0)) (m ((c : Thread nD τ).loc main_arg1)) := by
  refine (dats m 0 c).arrAt_eq_of_covers 2 _ (by decide +kernel) fun t hf y => ?_
  blk_simp
  rw [after0_2, outs_eq]
  obtain ⟨a, b, r, l, rfl⟩ : ∃ (a : Fin 2) (b : Fin 2) (r : Fin 256) (l : Fin 1024), y = ix4 a b r l := ⟨y 0, y 1, y 2, y 3, eq_ix4 y⟩
  have ht : t.val < 16 := lt_of_lt_of_eq t.isLt N_eq
  have hb := b.isLt
  have e : (win0_2.blk t).view.emb (ix4 a b r l) = ix4 (⟨2 * t.val + a.val, by have := a.isLt; omega⟩ : Fin 32) b r l := by
    blk_ext [idx2 t]
  rw [e]
  unfold wideVal resVal
  refine if_congr Iff.rfl ?_ rfl
  unfold blockVal wcol
  refine sum_ext fun k => congrArg₂ (· * ·) ?_ ?_ <;> blk_ext [iblk, V_main_arg0, idx0 t]

end Cert.NewvIdeal.Newv

end
-- ==== Proof.Newv.Ref.lean ====
/-
  The reference of the first layer's value projection, read at an index.
-/
module

public import proofs.«01_k».proof.Proof.Gen.NewvRefIdeal.Read
public import proofs.«01_k».proof.Proof.Newv.Kernel

@[expose] public section

noncomputable section

namespace Cert.NewvRefIdeal.Newv

open Cert.NewvRefIdeal Cert.NewvRefIdeal.Gen Cert.NewvRefIdeal.Read Idealize.ShloMosaic Idealize.ShloMosaic.TcCoe Idealize.SL.Sem
open Cert.NewvIdeal.Newv (resVal)

/-- The reference's result is the product in the first layer's place and zero in the last layer's. -/
theorem val_eq (h : (⟨S16384x2048, .bf16⟩ : BufTy).Contents (Elt Ideal)) (w : (⟨S2x2048x17408, .f32⟩ : BufTy).Contents (Elt Ideal)) :
    val_main_v10 (F := Ideal) h w = resVal h w := by
  funext y
  obtain ⟨s, lay, r, l, rfl⟩ : ∃ (s : Fin 32) (lay : Fin 2) (r : Fin 256) (l : Fin 1024), y = ix4 s lay r l := ⟨y 0, y 1, y 2, y 3, eq_ix4 y⟩
  unfold resVal
  rcases (by revert lay; decide : lay = 0 ∨ lay = 1) with rfl | rfl
  · refine Eq.trans ?_ (if_pos (show (0 : Fin 2).val = 0 by decide)).symm
    pointwise [val_main_v10, val_main_v8, val_main_v6, val_main_v5, val_main_v4, val_main_v3, val_main_v2, val_main_v1, val_main_v0]
  · refine Eq.trans ?_ (if_neg (show ¬(1 : Fin 2).val = 0 by decide)).symm
    pointwise [val_main_v10, val_main_v9, val_main_v7, val_main_cst]

end Cert.NewvRefIdeal.Newv

end
-- ==== Proof.Newv.Algebraic.lean ====
/-
  The first layer's value projection against its reference: the two runs side by side, both results the same function of the arguments.
-/
module

public import proofs.«01_k».proof.Defs
public import proofs.«01_k».proof.Proof.Newv.Kernel
public import proofs.«01_k».proof.Proof.Newv.Ref
public import proofs.«01_k».proof.Proof.Gen.NewvRefIdeal.Run

@[expose] public section

noncomputable section

namespace Cert.Proof.Newv

open Idealize.ShloMosaic Idealize.ShloMosaic.TcCoe Idealize.SL.Sem

/-- From equal arguments, at the ideal semantics, the kernel's result equals the reference's. -/
theorem algebraic : Cert.algebraic_NewvIdeal_NewvRefIdeal (hNewvIdeal := Cert.NewvIdeal.Gen.facts)
    (hNewvRefIdeal := Cert.NewvRefIdeal.Gen.facts) := by
  intro m g m' g' _ hargs
  refine ⟨fun c => Cert.NewvIdeal.Newv.resVal (m ((c.tc : Thread _ _).loc Cert.NewvIdeal.main_arg0))
    (m ((c.tc : Thread _ _).loc Cert.NewvIdeal.main_arg1)), ?_, ?_⟩
  · refine (θ_run (Cert.NewvIdeal.defs (F := Ideal)) _ _).mono (fun r h c => ?_) (Cert.NewvIdeal.Value.run_blocks (F := Ideal) m g)
    obtain ⟨hv, h0, h1⟩ := h c
    exact ⟨hv.trans (Cert.NewvIdeal.Newv.final m c), h0, h1⟩
  · refine (θ_run (Cert.NewvRefIdeal.defs (F := Ideal)) _ _).mono (fun r h c => ?_) (Cert.NewvRefIdeal.Value.run (F := Ideal) m' g')
    obtain ⟨hv, h0, h1⟩ := h c
    refine ⟨hv.trans ?_, h0, h1⟩
    refine ((Cert.NewvRefIdeal.Read.val_main_v10_eq _ _).trans (Cert.NewvRefIdeal.Newv.val_eq _ _)).trans ?_
    rw [(hargs c).1, (hargs c).2]

/-- The reference terminates, keeps its arguments and leaves every semaphore counter at zero. -/
theorem frame_ref : Cert.quiescent_NewvRefIdeal (hNewvRefIdeal := Cert.NewvRefIdeal.Gen.facts) := fun m g _ =>
  (θ_run (Cert.NewvRefIdeal.defs (F := Ideal)) _ _).mono
    (fun r h => ⟨fun c => (h c).2, Idealize.ShloMosaic.sem_eq_zero_of_no_sems (by decide) r.2⟩)
    (Cert.NewvRefIdeal.Value.run (F := Ideal) m g)

end Cert.Proof.Newv

end
-- ==== Proof.Out.Rows.lean ====
/-
  A tile of 512 rows stored sixteen rows at a time.
-/
module

public import Idealize.ShloMosaic.Lib.Writes
public import Idealize.ShloMosaic.Lib.WritesUnit
public import Idealize.ShloMosaic.Lib.VecWindow
public import Idealize.ShloMosaic.Lib.Pipeline.ValueKit

@[expose] public section

noncomputable section

namespace Cert.Out.Rows

open Idealize.ShloMosaic

variable {F : FTy → Type} [FloatOps F] {e : EltTy}

abbrev T : Shape := ⟨2, ![512, 2048]⟩
abbrev C : Shape := ⟨2, ![16, 2048]⟩

/-- Rows `16 q` to `16 q + 15` of a tile lie inside it. -/
theorem rows_inb (q : Fin 32) : ∀ a, (![16 * q.val, 0] : Fin 2 → ℕ) a + C.size a ≤ T.size a := by
  have := q.isLt
  intro a
  match a with
  | 0 => show 16 * q.val + 16 ≤ 512; omega
  | 1 => show 0 + 2048 ≤ 2048; omega

/-- The rectangle of rows `16 q` to `16 q + 15` of a tile. -/
abbrev rowsRect (q : Fin 32) : Rect T := Rect.unit (s := T) ![16 * q.val, 0] C.size (rows_inb q)

/-- The tile made of thirty-two chunks. -/
def stack (ch : Fin 32 → Vec F C e) : Vec F T e := fun j =>
  ch ⟨(j 0).val / 16, by have h : (j 0).val < 512 := (j 0).isLt; omega⟩ (ix2 ⟨(j 0).val % 16, by omega⟩ (j 1))

/-- The stores of thirty-two chunks, last first. -/
def pieces (ch : Fin 32 → Vec F C e) : List (View.Piece (Elt F) T e) :=
  ([31, 30, 29, 28, 27, 26, 25, 24, 23, 22, 21, 20, 19, 18, 17, 16, 15, 14, 13, 12, 11, 10, 9, 8, 7, 6, 5, 4, 3, 2, 1, 0] : List (Fin 32)).map fun q => ⟨rowsRect q, ch q⟩

/-- Row `r` of chunk `q` is row `16 q + r` of the tile. -/
theorem rows_emb_row (q : Fin 32) (j : (rowsRect q).shape.Idx) : ((rowsRect q).emb j 0).val = 16 * q.val + (j 0).val := by
  show 16 * q.val + 1 * (j 0).val = _; omega

theorem rows_emb_col (q : Fin 32) (j : (rowsRect q).shape.Idx) : ((rowsRect q).emb j 1).val = (j 1).val := by
  show 0 + 1 * (j 1).val = _; omega

/-- A chunk read out of its tile. -/
theorem stack_at (ch : Fin 32 → Vec F C e) (q : Fin 32) (j : (rowsRect q).shape.Idx) : ch q j = stack ch ((rowsRect q).emb j) := by
  have hj : (j 0).val < 16 := (j 0).isLt
  have e0 := rows_emb_row q j
  have hq : (⟨((rowsRect q).emb j 0).val / 16, by have h : ((rowsRect q).emb j 0).val < 512 := ((rowsRect q).emb j 0).isLt; omega⟩ : Fin 32) = q :=
    Fin.ext (by show ((rowsRect q).emb j 0).val / 16 = q.val; omega)
  unfold stack
  rw [hq]
  refine congrArg _ (funext fun a => ?_)
  match a with
  | 0 => exact Fin.ext (by show (j 0).val = ((rowsRect q).emb j 0).val % 16; omega)
  | 1 => exact Fin.ext (rows_emb_col q j).symm

/-- The stores cover the tile. -/
theorem pieces_cover (ch : Fin 32 → Vec F C e) (j : T.Idx) : ∃ pc ∈ pieces ch, j ∈ pc.1.set := by
  have h : (j 0).val < 512 := (j 0).isLt
  refine ⟨_, List.mem_map.2 ⟨⟨(j 0).val / 16, by omega⟩, ?_, rfl⟩, ?_⟩
  · generalize (⟨(j 0).val / 16, _⟩ : Fin 32) = q
    revert q; decide
  · rw [Rect.mem_set_unit]
    intro a
    match a with
    | 0 => show 16 * ((j 0).val / 16) ≤ (j 0).val ∧ (j 0).val < 16 * ((j 0).val / 16) + 16; omega
    | 1 => have h1 : (j 1).val < 2048 := (j 1).isLt
           show 0 ≤ (j 1).val ∧ (j 1).val < 0 + 2048; omega

/-- What the stores of thirty-two chunks leave is the tile they make, whatever was there before. -/
theorem read_pieces {sig' : RefSig} {κ : Kind} {sp : Space} (v : View sig' κ sp T e) (f : v.ty.Contents (Elt F))
    (ch : Fin 32 → Vec F C e) : v.read (Elt F) (v.writes (Elt F) f (pieces ch)) = stack ch := funext fun j => by
  refine View.read_writes_apply_of_pieces v f (stack ch) _ (fun pc hpc => ?_) j (pieces_cover ch j)
  obtain ⟨q, -, rfl⟩ := List.mem_map.1 hpc
  exact fun k => stack_at ch q k

/-- A chunk's row read from its tile. -/
theorem ld_rows (x : Vec F T e) (r : Fin 512) (h : r.val / 16 < 32) (h' : r.val % 16 < 16) (l : Fin 2048) :
    View.ld x (rowsRect ⟨r.val / 16, h⟩) (ix2 (⟨r.val % 16, h'⟩ : Fin 16) l) = x (ix2 r l) := by
  refine congrArg x (funext fun i => ?_)
  refine Fin.cases ?_ (fun i => Fin.cases ?_ (fun i => i.elim0) i) i
  · refine Fin.ext ?_
    refine (rows_emb_row _ _).trans ?_
    show 16 * (r.val / 16) + r.val % 16 = r.val
    omega
  · refine Fin.ext ?_
    show 0 + 1 * l.val = l.val
    omega

end Cert.Out.Rows

end
-- ==== Proof.Out.Steps.lean ====
/-
  The output projection's call's body at each kind of grid point, from owned buffers to owned buffers.
-/
module

public import proofs.«01_k».proof.Proof.Gen.OutIdeal.Skeleton
public import proofs.«01_k».proof.Proof.Gen.OutIdeal.Frame
public import proofs.«01_k».proof.Proof.Out.Rows

@[expose] public section

set_option maxRecDepth 16384

noncomputable section

namespace Cert.OutIdeal.Out

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Out.Rows (rowsRect stack pieces read_pieces)

local notation "𝕄" => MT nD τ sig Unit (Elt F) ℕ (UR sig nD τ) ℕ

/-- Sixteen rows of the residual output: the residual rows plus the gate times the normed product rows scaled by the
    norm's weight. -/
abbrev xrows (g : Vec F S1x1x2048 .f32) (p : Vec F S1x2048 .f32) (x y : Vec F S512x2048 .f32) (q : Fin 32) : Vec F S16x2048 .f32 :=
  k0_pay4 g (View.ld x (rowsRect q)) (View.ld y (rowsRect q)) p

/-- Sixteen of the next rows: the residual output's, normed, scaled and shifted. -/
abbrev hrows (g : Vec F S1x1x2048 .f32) (p p' : Vec F S1x2048 .f32) (sc sh : Vec F S1x1x2048 .f32) (x y : Vec F S512x2048 .f32)
    (q : Fin 32) : Vec F S16x2048 .bf16 :=
  k0_pay6 (xrows g p x y q) (k0_pay5 p') sc sh

/-- The product of a tile of rows with the weights. -/
abbrev product (a : Vec F S512x2048 .bf16) (w : Vec F S2048x2048 .bf16) : Vec F S512x2048 .f32 := k0_pay2 a w

/-- A block of weight rows as it is stored. -/
abbrev loaded (w : Vec F S1x512x2048 .f32) : Vec F S512x2048 .bf16 := k0_pay400 w

theorem ld_vec3 (g : Vec F S1x1x2048 .f32) :
    View.ld g (Rect.unit (s := S1x1x2048) ![0, 0, 0] S1x1x2048.size inb_S1x1x2048_S1x1x2048_0_0_0) = g :=
  View.ld_unit_zero (by decide) _ _

theorem ld_vec2 (p : Vec F S1x2048 .f32) :
    View.ld p (Rect.unit (s := S1x2048) ![0, 0] S1x2048.size inb_S1x2048_S1x2048_0_0) = p :=
  View.ld_unit_zero (by decide) _ _

/-- The store of a whole product tile. -/
def whole (a : Vec F S512x2048 .bf16) (w : Vec F S2048x2048 .bf16) : List (View.Piece (Elt F) S512x2048 .f32) :=
  [⟨Rect.unit (s := S512x2048) ![0, 0] S512x2048.size inb_S512x2048_S512x2048_0_0,
    product (View.ld a (Rect.unit (s := S512x2048) ![0, 0] S512x2048.size inb_S512x2048_S512x2048_0_0))
      (View.ld w (Rect.unit (s := S2048x2048) ![0, 0] S2048x2048.size inb_S2048x2048_S2048x2048_0_0))⟩]

/-- It leaves the product of the tile with the weights. -/
theorem read_whole {sig' : RefSig} {κ : Kind} {sp : Space} (v : View sig' κ sp S512x2048 .f32) (f : v.ty.Contents (Elt F))
    (a : Vec F S512x2048 .bf16) (w : Vec F S2048x2048 .bf16) :
    v.read (Elt F) (v.writes (Elt F) f (whole a w)) = product a w := by
  unfold whole
  rw [View.ld_unit_zero (by decide), View.ld_unit_zero (by decide)]
  exact View.read_writes_full v f _ _ _

/-- The scratch weights after a loading point has stored its block of rows: the rows of the block are the stored ones,
    the others as before. -/
def put (n : ℕ) (w : Vec F S1x512x2048 .f32) (x : Vec F S2048x2048 .bf16) : Vec F S2048x2048 .bf16 := fun j =>
  if h : 512 * n ≤ (j 0).val ∧ (j 0).val < 512 * n + 512 then loaded w (ix2 ⟨(j 0).val - 512 * n, by omega⟩ (j 1)) else x j

/-- The block of rows a loading point stores starts at row `512` times the point. -/
theorem load_off : ∀ t : Fin grid0.N, k0_cond1 (grid0.coords t) = 1#1 → k0_off1 (grid0.coords t) = ![512 * t.val, 0] := by
  decide +kernel

/-- What the load's store leaves in the scratch. -/
theorem read_load {sig' : RefSig} {κ : Kind} {sp : Space} (v : View sig' κ sp S2048x2048 .bf16) (f : v.ty.Contents (Elt F))
    (n : ℕ) (off : Fin 2 → ℕ) (hoff : off = ![512 * n, 0]) (inb : ∀ a, off a + S512x2048.size a ≤ S2048x2048.size a)
    (w : Vec F S1x512x2048 .f32) :
    v.read (Elt F) (v.writes (Elt F) f [⟨Rect.unit (s := S2048x2048) off S512x2048.size inb,
      loaded (View.ld w (Rect.unit (s := S1x512x2048) ![0, 0, 0] S1x512x2048.size inb_S1x512x2048_S1x512x2048_0_0_0))⟩])
      = put n w (v.read (Elt F) f) := funext fun j => by
  subst hoff
  rw [View.ld_unit_zero (by decide)]
  have h1 : (j 1).val < 2048 := (j 1).isLt
  unfold put
  by_cases h : 512 * n ≤ (j 0).val ∧ (j 0).val < 512 * n + 512
  · rw [dif_pos h]
    refine View.read_writes_cons_unit_of_mem v f inb _ [] j (ix2 ⟨(j 0).val - 512 * n, by omega⟩ (j 1)) rfl fun a => ?_
    match a with
    | 0 => show (j 0).val = 512 * n + ((j 0).val - 512 * n); omega
    | 1 => show (j 1).val = 0 + (j 1).val; omega
  · rw [dif_neg h]
    refine (View.read_writes_cons_unit_of_not_mem v f inb _ [] j rfl 0 ?_).trans rfl
    show (j 0).val < 512 * n ∨ 512 * n + 512 ≤ (j 0).val
    omega

variable (c : Dev nD) (i : grid0.Coords)
  (arg1 : Memref sig .tc .vmem S512x2048 .bf16) (harg1 : arg1.IsWhole)
  (arg2 : Memref sig .tc .vmem S1x512x2048 .f32) (harg2 : arg2.IsWhole)
  (arg3 : Memref sig .tc .vmem S512x2048 .f32) (harg3 : arg3.IsWhole)
  (arg4 : Memref sig .tc .vmem S1x2048 .f32) (harg4 : arg4.IsWhole)
  (arg5 : Memref sig .tc .vmem S1x1x2048 .f32) (harg5 : arg5.IsWhole)
  (arg6 : Memref sig .tc .vmem S1x2048 .f32) (harg6 : arg6.IsWhole)
  (arg7 : Memref sig .tc .vmem S1x1x2048 .f32) (harg7 : arg7.IsWhole)
  (arg8 : Memref sig .tc .vmem S1x1x2048 .f32) (harg8 : arg8.IsWhole)
  (arg9 : Memref sig .tc .vmem S512x2048 .f32) (harg9 : arg9.IsWhole)
  (arg10 : Memref sig .tc .vmem S512x2048 .bf16) (harg10 : arg10.IsWhole)
  (arg11 : Memref sig .tc .vmem S2048x2048 .bf16) (harg11 : arg11.IsWhole)
  (arg12 : Memref sig .tc .vmem S512x2048 .f32) (harg12 : arg12.IsWhole)
  (arg13 : Memref sig .tc .vmem S512x2048 .f32) (harg13 : arg13.IsWhole)

/-- The body with its parts unfolded, in one piece. -/
def skel : { p : Prog _ _ // cc0__rowout_kernel (F := F) i arg1 harg1 arg2 harg2 arg3 harg3 arg4 harg4 arg5 harg5 arg6 harg6 arg7 harg7 arg8 harg8 arg9 harg9 arg10 harg10 arg11 harg11 arg12 harg12 arg13 harg13 = p } := by
  refine ⟨?_, ?h⟩
  case h =>
    simp only [cc0__rowout_kernel_eq_skeleton]; unfold cc0__rowout_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    exact rfl

set_option maxHeartbeats 8000000 in
/-- The body at a loading point: it stores its weight rows into the scratch `arg11`. -/
theorem stepL (hc1 : k0_cond1 i = 1#1) (hc2 : ¬(Scalar.cmpi .ne (Scalar.extui (Scalar.cmpi .eq (Scalar.subi (BitVec.ofNat 32 (i 0).val) 4#32) 0#32)) 0#32) = 1#1) (hc3 : ¬k0_cond3 i = 1#1) (hc4 : ¬k0_cond4 i = 1#1) (hc5 : ¬k0_cond5 i = 1#1) (n : ℕ) (hoff : k0_off1 i = ![512 * n, 0])
    (x2 : Vec F S1x512x2048 .f32) (x11 : Vec F S2048x2048 .bf16) (E : Set ℕ) (K : PUnit → sProp 𝕄) :
    iprop(owns (c : Thread nD τ) arg2 fullShare x2 ∗ owns (c : Thread nD τ) arg11 fullShare x11 ∗ (iprop(owns (c : Thread nD τ) arg2 fullShare x2 ∗ owns (c : Thread nD τ) arg11 fullShare (put n x2 x11)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f2, %hf2, H2⟩, ⟨%f11, %hf11, H11⟩, Hk⟩
  obtain rfl := harg2.eq_unread hf2; obtain rfl := harg11.eq_unread hf11
  sl_exec (disch := first | sl_exact hc1 | sl_exact hc2 | sl_exact hc3 | sl_exact hc4 | sl_exact hc5)
  sl_step
  iapply Hk
  isplitl [H2]
  · iexists _; isplitr; · ipureintro; exact harg2.read_unread _
    iexact H2
  iexists _; isplitr; swap; · iexact H11
  ipureintro; refine (read_load _ _ n _ hoff _ _).trans ?_; rw [harg2.read_unread, harg11.read_unread]

set_option maxHeartbeats 8000000 in
/-- The body at the first product: it goes to the scratch `arg12`. -/
theorem stepZ (hc1 : ¬k0_cond1 i = 1#1) (hc2 : (Scalar.cmpi .ne (Scalar.extui (Scalar.cmpi .eq (Scalar.subi (BitVec.ofNat 32 (i 0).val) 4#32) 0#32)) 0#32) = 1#1) (hc3 : ¬k0_cond3 i = 1#1) (hc4 : ¬k0_cond4 i = 1#1) (hc5 : ¬k0_cond5 i = 1#1)
    (x1 : Vec F S512x2048 .bf16) (x11 : Vec F S2048x2048 .bf16) (E : Set ℕ) (K : PUnit → sProp 𝕄) :
    iprop(owns (c : Thread nD τ) arg1 fullShare x1 ∗ owns (c : Thread nD τ) arg11 fullShare x11 ∗ (∃ d, owns (c : Thread nD τ) arg12 fullShare d) ∗ (iprop(owns (c : Thread nD τ) arg1 fullShare x1 ∗ owns (c : Thread nD τ) arg11 fullShare x11 ∗ owns (c : Thread nD τ) arg12 fullShare (product x1 x11)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f1, %hf1, H1⟩, ⟨%f11, %hf11, H11⟩, ⟨%d12, %f12, -, H12⟩, Hk⟩
  obtain rfl := harg1.eq_unread hf1; obtain rfl := harg11.eq_unread hf11
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H11]
  · iexists _; isplitr; · ipureintro; exact harg11.read_unread _
    iexact H11
  iexists _; isplitr; swap; · iexact H12
  ipureintro; refine (read_whole _ _ _ _).trans ?_; rw [harg1.read_unread, harg11.read_unread]

set_option maxHeartbeats 8000000 in
/-- The body at an even middle point. -/
theorem stepE (hc1 : ¬k0_cond1 i = 1#1) (hc2 : ¬(Scalar.cmpi .ne (Scalar.extui (Scalar.cmpi .eq (Scalar.subi (BitVec.ofNat 32 (i 0).val) 4#32) 0#32)) 0#32) = 1#1) (hc3 : k0_cond3 i = 1#1) (hc4 : ¬k0_cond4 i = 1#1) (hc5 : ¬k0_cond5 i = 1#1)
    (x1 : Vec F S512x2048 .bf16) (x3 : Vec F S512x2048 .f32) (x4 : Vec F S1x2048 .f32) (x5 : Vec F S1x1x2048 .f32) (x6 : Vec F S1x2048 .f32) (x7 : Vec F S1x1x2048 .f32) (x8 : Vec F S1x1x2048 .f32) (x11 : Vec F S2048x2048 .bf16) (x13 : Vec F S512x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg13 fullShare x13 ∗ (∃ d, owns (c : Thread nD τ) arg9 fullShare d) ∗ (∃ d, owns (c : Thread nD τ) arg10 fullShare d) ∗ (∃ d, owns (c : Thread nD τ) arg12 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg13 fullShare x13 ∗ owns (c : Thread nD τ) arg9 fullShare (stack (xrows x5 x4 x3 x13)) ∗ owns (c : Thread nD τ) arg10 fullShare (stack (hrows x5 x4 x6 x7 x8 x3 x13)) ∗ owns (c : Thread nD τ) arg12 fullShare (product x1 x11)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f11, %hf11, H11⟩, ⟨%f13, %hf13, H13⟩, ⟨%d9, %f9, -, H9⟩, ⟨%d10, %f10, -, H10⟩, ⟨%d12, %f12, -, H12⟩, Hk⟩
  obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg13.eq_unread hf13
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H11]
  · iexists _; isplitr; · ipureintro; exact harg11.read_unread _
    iexact H11
  isplitl [H13]
  · iexists _; isplitr; · ipureintro; exact harg13.read_unread _
    iexact H13
  isplitl [H9]
  · iexists _; isplitr; swap; · iexact H9
    ipureintro; refine (read_pieces _ _ (xrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (arg3.view.read (Elt F) (harg3.unread x3)) (arg13.view.read (Elt F) (harg13.unread x13)))).trans ?_; rw [harg5.read_unread, harg4.read_unread, harg3.read_unread, harg13.read_unread, ld_vec3, ld_vec2]
  isplitl [H10]
  · iexists _; isplitr; swap; · iexact H10
    ipureintro; refine (read_pieces _ _ (hrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (View.ld (arg6.view.read (Elt F) (harg6.unread x6)) (Rect.unit (s := S1x2048) ![0, 0] S1x2048.size inb_S1x2048_S1x2048_0_0)) (View.ld (arg7.view.read (Elt F) (harg7.unread x7)) (Rect.unit (s := S1x1x2048) ![0, 0, 0] S1x1x2048.size inb_S1x1x2048_S1x1x2048_0_0_0)) (View.ld (arg8.view.read (Elt F) (harg8.unread x8)) (Rect.unit (s := S1x1x2048) ![0, 0, 0] S1x1x2048.size inb_S1x1x2048_S1x1x2048_0_0_0)) (arg3.view.read (Elt F) (harg3.unread x3)) (arg13.view.read (Elt F) (harg13.unread x13)))).trans ?_; rw [harg5.read_unread, harg4.read_unread, harg6.read_unread, harg7.read_unread, harg8.read_unread, harg3.read_unread, harg13.read_unread, ld_vec3, ld_vec3, ld_vec3, ld_vec2, ld_vec2]
  iexists _; isplitr; swap; · iexact H12
  ipureintro; refine (read_whole _ _ _ _).trans ?_; rw [harg1.read_unread, harg11.read_unread]

set_option maxHeartbeats 8000000 in
/-- The body at an odd middle point. -/
theorem stepO (hc1 : ¬k0_cond1 i = 1#1) (hc2 : ¬(Scalar.cmpi .ne (Scalar.extui (Scalar.cmpi .eq (Scalar.subi (BitVec.ofNat 32 (i 0).val) 4#32) 0#32)) 0#32) = 1#1) (hc3 : ¬k0_cond3 i = 1#1) (hc4 : k0_cond4 i = 1#1) (hc5 : ¬k0_cond5 i = 1#1)
    (x1 : Vec F S512x2048 .bf16) (x3 : Vec F S512x2048 .f32) (x4 : Vec F S1x2048 .f32) (x5 : Vec F S1x1x2048 .f32) (x6 : Vec F S1x2048 .f32) (x7 : Vec F S1x1x2048 .f32) (x8 : Vec F S1x1x2048 .f32) (x11 : Vec F S2048x2048 .bf16) (x12 : Vec F S512x2048 .f32) (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ (∃ d, owns (c : Thread nD τ) arg9 fullShare d) ∗ (∃ d, owns (c : Thread nD τ) arg10 fullShare d) ∗ (∃ d, owns (c : Thread nD τ) arg13 fullShare d) ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg12 fullShare x12 ∗ owns (c : Thread nD τ) arg9 fullShare (stack (xrows x5 x4 x3 x12)) ∗ owns (c : Thread nD τ) arg10 fullShare (stack (hrows x5 x4 x6 x7 x8 x3 x12)) ∗ owns (c : Thread nD τ) arg13 fullShare (product x1 x11)) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f11, %hf11, H11⟩, ⟨%f12, %hf12, H12⟩, ⟨%d9, %f9, -, H9⟩, ⟨%d10, %f10, -, H10⟩, ⟨%d13, %f13, -, H13⟩, Hk⟩
  obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12
  sl_exec (disch := first | sl_exact hc1 | sl_exact hc2 | sl_exact hc3 | sl_exact hc4 | sl_exact hc5)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H11]
  · iexists _; isplitr; · ipureintro; exact harg11.read_unread _
    iexact H11
  isplitl [H12]
  · iexists _; isplitr; · ipureintro; exact harg12.read_unread _
    iexact H12
  isplitl [H9]
  · iexists _; isplitr; swap; · iexact H9
    ipureintro; refine (read_pieces _ _ (xrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (arg3.view.read (Elt F) (harg3.unread x3)) (arg12.view.read (Elt F) (harg12.unread x12)))).trans ?_; rw [harg5.read_unread, harg4.read_unread, harg3.read_unread, harg12.read_unread, ld_vec3, ld_vec2]
  isplitl [H10]
  · iexists _; isplitr; swap; · iexact H10
    ipureintro; refine (read_pieces _ _ (hrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (View.ld (arg6.view.read (Elt F) (harg6.unread x6)) (Rect.unit (s := S1x2048) ![0, 0] S1x2048.size inb_S1x2048_S1x2048_0_0)) (View.ld (arg7.view.read (Elt F) (harg7.unread x7)) (Rect.unit (s := S1x1x2048) ![0, 0, 0] S1x1x2048.size inb_S1x1x2048_S1x1x2048_0_0_0)) (View.ld (arg8.view.read (Elt F) (harg8.unread x8)) (Rect.unit (s := S1x1x2048) ![0, 0, 0] S1x1x2048.size inb_S1x1x2048_S1x1x2048_0_0_0)) (arg3.view.read (Elt F) (harg3.unread x3)) (arg12.view.read (Elt F) (harg12.unread x12)))).trans ?_; rw [harg5.read_unread, harg4.read_unread, harg6.read_unread, harg7.read_unread, harg8.read_unread, harg3.read_unread, harg12.read_unread, ld_vec3, ld_vec3, ld_vec3, ld_vec2, ld_vec2]
  iexists _; isplitr; swap; · iexact H13
  ipureintro; refine (read_whole _ _ _ _).trans ?_; rw [harg1.read_unread, harg11.read_unread]

set_option maxHeartbeats 8000000 in
/-- The body at the last point: only the last tile is finished. -/
theorem stepN (hc1 : ¬k0_cond1 i = 1#1) (hc2 : ¬(Scalar.cmpi .ne (Scalar.extui (Scalar.cmpi .eq (Scalar.subi (BitVec.ofNat 32 (i 0).val) 4#32) 0#32)) 0#32) = 1#1) (hc3 : ¬k0_cond3 i = 1#1) (hc4 : ¬k0_cond4 i = 1#1) (hc5 : k0_cond5 i = 1#1)
    (x3 : Vec F S512x2048 .f32) (x4 : Vec F S1x2048 .f32) (x5 : Vec F S1x1x2048 .f32) (x6 : Vec F S1x2048 .f32) (x7 : Vec F S1x1x2048 .f32) (x8 : Vec F S1x1x2048 .f32) (x13 : Vec F S512x2048 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg13 fullShare x13 ∗ (∃ d, owns (c : Thread nD τ) arg9 fullShare d) ∗ (∃ d, owns (c : Thread nD τ) arg10 fullShare d) ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg13 fullShare x13 ∗ owns (c : Thread nD τ) arg9 fullShare (stack (xrows x5 x4 x3 x13)) ∗ owns (c : Thread nD τ) arg10 fullShare (stack (hrows x5 x4 x6 x7 x8 x3 x13))) -∗ K ⟨⟩))
      ⊢ wp frame (wpE (defs₀ (F := F)) Variants.none c none) E
        (cc0__rowout_kernel i arg1 harg1 arg2 harg2 arg3 harg3 arg4 harg4 arg5 harg5 arg6 harg6 arg7 harg7 arg8 harg8 arg9 harg9 arg10 harg10 arg11 harg11 arg12 harg12 arg13 harg13) K := by
  rw [(skel i arg1 harg1 arg2 harg2 arg3 harg3 arg4 harg4 arg5 harg5 arg6 harg6 arg7 harg7 arg8 harg8 arg9 harg9 arg10 harg10 arg11 harg11 arg12 harg12 arg13 harg13).2]; unfold skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f13, %hf13, H13⟩, ⟨%d9, %f9, -, H9⟩, ⟨%d10, %f10, -, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13
  sl_exec (disch := first | sl_exact hc1 | sl_exact hc2 | sl_exact hc3 | sl_exact hc4 | sl_exact hc5)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H13]
  · iexists _; isplitr; · ipureintro; exact harg13.read_unread _
    iexact H13
  isplitl [H9]
  · iexists _; isplitr; swap; · iexact H9
    ipureintro; refine (read_pieces _ _ (xrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (arg3.view.read (Elt F) (harg3.unread x3)) (arg13.view.read (Elt F) (harg13.unread x13)))).trans ?_; rw [harg5.read_unread, harg4.read_unread, harg3.read_unread, harg13.read_unread, ld_vec3, ld_vec2]
  iexists _; isplitr; swap; · iexact H10
  ipureintro; refine (read_pieces _ _ (hrows (View.ld (arg5.view.read (Elt F) (harg5.unread x5)) (Rect.unit (s := S1x1x2048) ![0, 0, 0] S1x1x2048.size inb_S1x1x2048_S1x1x2048_0_0_0)) (View.ld (arg4.view.read (Elt F) (harg4.unread x4)) (Rect.unit (s := S1x2048) ![0, 0] S1x2048.size inb_S1x2048_S1x2048_0_0)) (View.ld (arg6.view.read (Elt F) (harg6.unread x6)) (Rect.unit (s := S1x2048) ![0, 0] S1x2048.size inb_S1x2048_S1x2048_0_0)) (View.ld (arg7.view.read (Elt F) (harg7.unread x7)) (Rect.unit (s := S1x1x2048) ![0, 0, 0] S1x1x2048.size inb_S1x1x2048_S1x1x2048_0_0_0)) (View.ld (arg8.view.read (Elt F) (harg8.unread x8)) (Rect.unit (s := S1x1x2048) ![0, 0, 0] S1x1x2048.size inb_S1x1x2048_S1x1x2048_0_0_0)) (arg3.view.read (Elt F) (harg3.unread x3)) (arg13.view.read (Elt F) (harg13.unread x13)))).trans ?_; rw [harg5.read_unread, harg4.read_unread, harg6.read_unread, harg7.read_unread, harg8.read_unread, harg3.read_unread, harg13.read_unread, ld_vec3, ld_vec3, ld_vec3, ld_vec2, ld_vec2]

end Cert.OutIdeal.Out

end
-- ==== Proof.Out.Inv.lean ====
/-
  What the output projection's grid points leave: the scratch's invariant between points and the outputs' buffers.
-/
module

public import proofs.«01_k».proof.Proof.Out.Steps

@[expose] public section

set_option maxRecDepth 16384

noncomputable section

namespace Cert.OutIdeal.Out

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Out.Rows (stack)

local notation "𝕄" => MT nD τ sig Unit (Elt F) ℕ (UR sig nD τ) ℕ

variable (m : (ℓ : Loc nD τ sig) → Buf (Elt F) ℓ) (ρ : Dev nD → PrngReg)

/-! ## Where each branch of the body is taken, and where the outputs are written -/

theorem cond1_iff : ∀ t : Fin grid0.N, k0_cond1 (grid0.coords t) = 1#1 ↔ t.val < 4 := by decide +kernel
theorem cond2_iff : ∀ t : Fin grid0.N, Scalar.cmpi .ne (Scalar.extui (Scalar.cmpi .eq (Scalar.subi (BitVec.ofNat 32 (grid0.coords t 0).val) 4#32) 0#32)) 0#32 = 1#1 ↔ t.val = 4 := by
  decide +kernel
theorem cond3_iff : ∀ t : Fin grid0.N, k0_cond3 (grid0.coords t) = 1#1 ↔ 5 ≤ t.val ∧ t.val ≤ 35 ∧ t.val % 2 = 0 := by decide +kernel
theorem cond4_iff : ∀ t : Fin grid0.N, k0_cond4 (grid0.coords t) = 1#1 ↔ 5 ≤ t.val ∧ t.val ≤ 35 ∧ t.val % 2 = 1 := by decide +kernel
theorem cond5_iff : ∀ t : Fin grid0.N, k0_cond5 (grid0.coords t) = 1#1 ↔ t.val = 36 := by decide +kernel

/-- Each output is stored into from point 5 on. -/
theorem idle8_iff : ∀ t : Fin grid0.N, cfg0.idle 8 (grid0.coords t) = true ↔ t.val < 5 := by decide +kernel
theorem idle9_iff : ∀ t : Fin grid0.N, cfg0.idle 9 (grid0.coords t) = true ↔ t.val < 5 := by decide +kernel
/-- Each output's buffer is written back from point 5 on. -/
theorem flush8_iff : ∀ t : Fin grid0.N, win0_8.flush t = true ↔ 5 ≤ t.val := by decide +kernel
theorem flush9_iff : ∀ t : Fin grid0.N, win0_9.flush t = true ↔ 5 ≤ t.val := by decide +kernel

/-! ## What the body leaves -/

/-- The weights as the loading points leave them in the scratch: row `r` is row `r % 512` of block `r / 512`. -/
def wts (c : Dev nD) : Vec F S2048x2048 .bf16 := fun j =>
  loaded (iblk m c 1 (⟨(j 0).val / 512, by have h : (j 0).val < 2048 := (j 0).isLt; have : cfg0.N = 37 := N_0; omega⟩ : Fin cfg0.N))
    (ix2 ⟨(j 0).val % 512, by omega⟩ (j 1))

/-- The point of a number, the last one beyond it. -/
abbrev pt (n : ℕ) : Fin cfg0.N := ⟨min n 36, by have : cfg0.N = 37 := N_0; omega⟩

/-- The product tile of point `n`. -/
def prod (c : Dev nD) (n : ℕ) : Vec F S512x2048 .f32 := product (iblk m c 0 (pt n)) (wts m c)

/-- The residual tile point `n` finishes: the product is that of the point before. -/
def xtile (c : Dev nD) (n : ℕ) : Vec F S512x2048 .f32 :=
  stack (xrows (iblk m c 4 (pt n)) (iblk m c 3 (pt n)) (iblk m c 2 (pt n)) (prod m c (n - 1)))

/-- The tile of next rows point `n` finishes. -/
def htile (c : Dev nD) (n : ℕ) : Vec F S512x2048 .bf16 :=
  stack (hrows (iblk m c 4 (pt n)) (iblk m c 3 (pt n)) (iblk m c 5 (pt n)) (iblk m c 6 (pt n)) (iblk m c 7 (pt n)) (iblk m c 2 (pt n))
    (prod m c (n - 1)))

/-- What holds of the scratch buffers before point `n`: the rows of weights loaded so far are in the first, and from
    point 5 to 36 the product of the point before is in the second or third, by parity. -/
def Inv (c : Dev nD) (n : ℕ) (X0 : Vec F S2048x2048 .bf16) (X1 X2 : Vec F S512x2048 .f32) : Prop :=
  (∀ j : S2048x2048.Idx, (j 0).val < 512 * n → X0 j = wts m c j)
  ∧ (5 ≤ n → n ≤ 36 → ((n - 1) % 2 = 0 → X1 = prod m c (n - 1)) ∧ ((n - 1) % 2 = 1 → X2 = prod m c (n - 1)))

/-- Once every block is loaded the scratch is the weights. -/
theorem Inv.full {c : Dev nD} {n : ℕ} {X0 : Vec F S2048x2048 .bf16} {X1 X2 : Vec F S512x2048 .f32} (h : Inv m c n X0 X1 X2)
    (hn : 4 ≤ n) : X0 = wts m c :=
  funext fun j => h.1 j (by have hj : (j 0).val < 2048 := (j 0).isLt; omega)

/-- A loading point adds its block of rows. -/
theorem Inv.load {c : Dev nD} {n : ℕ} {X0 : Vec F S2048x2048 .bf16} {X1 X2 : Vec F S512x2048 .f32} (h : Inv m c n X0 X1 X2)
    (hn : n < 4) (t : Fin cfg0.N) (ht : t.val = n) : Inv m c (n + 1) (put n (iblk m c 1 t) X0) X1 X2 := by
  refine ⟨fun j hj => ?_, fun h5 => by omega⟩
  unfold put
  by_cases hb : 512 * n ≤ (j 0).val ∧ (j 0).val < 512 * n + 512
  · rw [dif_pos hb]
    unfold wts
    have e : t = (⟨(j 0).val / 512, by have h : (j 0).val < 2048 := (j 0).isLt; have : cfg0.N = 37 := N_0; omega⟩ : Fin cfg0.N) :=
      Fin.ext (by show t.val = (j 0).val / 512; omega)
    rw [← e]
    refine congrArg _ (congrArg (fun k => ix2 k (j 1)) (Fin.ext ?_))
    show (j 0).val - 512 * n = (j 0).val % 512
    omega
  · rw [dif_neg hb]
    exact h.1 j (by omega)

/-- A point that stores its product into the second scratch buffer. -/
theorem Inv.even {c : Dev nD} {n : ℕ} {X2 : Vec F S512x2048 .f32} (hn : 4 ≤ n) (hp : n % 2 = 0) :
    Inv m c (n + 1) (wts m c) (prod m c n) X2 :=
  ⟨fun _ _ => rfl, fun _ _ => ⟨fun _ => rfl, fun h => by rw [Nat.add_sub_cancel] at h; omega⟩⟩

/-- A point that stores its product into the third. -/
theorem Inv.odd {c : Dev nD} {n : ℕ} {X1 : Vec F S512x2048 .f32} (hn : 4 ≤ n) (hp : n % 2 = 1) :
    Inv m c (n + 1) (wts m c) X1 (prod m c n) :=
  ⟨fun _ _ => rfl, fun _ _ => ⟨fun h => by rw [Nat.add_sub_cancel] at h; omega, fun _ => rfl⟩⟩

/-- After the last point. -/
theorem Inv.last {c : Dev nD} {X1 X2 : Vec F S512x2048 .f32} : Inv m c 37 (wts m c) X1 X2 :=
  ⟨fun _ _ => rfl, fun _ h => by omega⟩

/-- Before the first point nothing is asked. -/
theorem Inv.first {c : Dev nD} {X0 : Vec F S2048x2048 .bf16} {X1 X2 : Vec F S512x2048 .f32} : Inv m c 0 X0 X1 X2 :=
  ⟨fun j h => by omega, fun h => by omega⟩

/-! ## The pipeline's proof data -/

abbrev sc0 : Memref sig .tc .vmem S2048x2048 .bf16 := Memref.whole cc0_scratch0
abbrev sc1 : Memref sig .tc .vmem S512x2048 .f32 := Memref.whole cc0_scratch1
abbrev sc2 : Memref sig .tc .vmem S512x2048 .f32 := Memref.whole cc0_scratch2

/-- The region's invariant before point `n`. -/
def Phi (c : Dev nD) (n : ℕ) : sProp 𝕄 :=
  iprop(∃ X0 X1 X2, ⌜Inv m c n X0 X1 X2⌝ ∗ owns (c : Thread nD τ) sc0 fullShare X0 ∗ owns (c : Thread nD τ) sc1 fullShare X1
    ∗ owns (c : Thread nD τ) sc2 fullShare X2 ∗ (∃ r, prngReg c r))

theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- The arrays as the region finds them; after the body each input's buffer at its block, the outputs' at the tiles just
    finished. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => xtile m c t.val
    | ⟨9, _⟩ => htile m c t.val
  Φ t := Phi m c t.val
  q := Pipeline.shareOf spec0
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = xtile m c t.val := by dsimp only [dats]
theorem after0_9 (c : Dev nD) (t : Fin cfg0.N) : (dats m 0 c).after 9 t = htile m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, the windows one by one, -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop(Phi m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ (dats m 0 c).leavesExact 8 t ∗ (dats m 0 c).leavesExact 9 t)

/-- An idle output not written back keeps what it held. -/
theorem leaves_idle (c : Dev nD) (w : Fin cfg0.W) (t : Fin cfg0.N) (hi : cfg0.idle w (grid0.coords t) = true)
    (hf : (cfg0.win w).flush t = false) :
    (dats m 0 c).leavesExact w t = iprop(∃ d, owns (c : Thread nD τ) ((cfg0.win w).stage (cfg0.slots t w)) fullShare ((dats m 0 c).before w t d)) :=
  (dats m 0 c).leavesExact_idle w t hi hf

/-- Any other output holds what the proof data say. -/
theorem leaves_live (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  have e : cfg0.grid.coords t = grid0.coords t := rfl
  unfold Dat.leavesExact
  rw [e]
  rcases h with h | h <;> rw [h]
  cases cfg0.idle w (grid0.coords t) <;> rfl

end Cert.OutIdeal.Out

end
-- ==== Proof.Out.Frame.lean ====
/-
  The output projection with the next normed rows: every execution terminates, keeps the arguments and clears the counters.
-/
module

public import proofs.«01_k».proof.Proof.Out.Inv

@[expose] public section

set_option maxRecDepth 16384

noncomputable section

namespace Cert.OutIdeal.Out

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of a point's number is the point. -/
theorem pt_val (t : Fin cfg0.N) : pt t.val = t :=
  Fin.ext (by have := t.isLt; have : cfg0.N = 37 := N_0; show min t.val 36 = t.val; omega)

set_option maxHeartbeats 1600000 in
/-- The body's triple at a loading point. -/
theorem soundL (c : Dev nD) (t : Fin cfg0.N) (h : t.val < 4) :
    bodyPre m c t ⊢ wp frame (wpE (defs₀ (F := F)) Variants.none c none) Set.univ (bodyAt0 t) (fun _ => bodyPost m c t) := by
  have hN : t.val < 37 := lt_of_lt_of_eq t.isLt (show cfg0.N = 37 from N_0)
  unfold bodyPre bodyPost bodyAt0 Phi
  simp only [before0_0, before0_1, before0_2, before0_3, before0_4, before0_5, before0_6, before0_7]
  rw [leaves_idle m c 8 t ((idle8_iff t).2 (by omega)) (Bool.eq_false_iff.2 fun h' => by have := (flush8_iff t).1 h'; omega)]
  rw [leaves_idle m c 9 t ((idle9_iff t).2 (by omega)) (Bool.eq_false_iff.2 fun h' => by have := (flush9_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepL c (grid0.coords t) _ _ _ _ _ _ _ _ _ _ _ _ _ _ _ _ _ _ _ _ _ _ _ _ _ _ ((cond1_iff t).2 (by omega)) (fun h => by have := (cond2_iff t).1 h; omega) (fun h => by have := (cond3_iff t).1 h; omega) (fun h => by have := (cond4_iff t).1 h; omega) (fun h => by have := (cond5_iff t).1 h; omega) t.val (load_off t ((cond1_iff t).2 (by omega))) _ _ Set.univ _)
  isplitl [H1]; · iexact H1
  isplitl [S0]; · iexact S0
  iintro ⟨H1, S0⟩
  isplitl [S0 S1 S2 Hg]
  · iexists _, _, _
    isplitr; swap
    · isplitl [S0]; · iexact S0
      isplitl [S1]; · iexact S1
      isplitl [S2]; · iexact S2
      iexact Hg
    ipureintro
    exact hI.load m h t rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iexact H8
  iexists _; iexact H9

set_option maxHeartbeats 1600000 in
/-- The body's triple at the first product. -/
theorem soundZ (c : Dev nD) (t : Fin cfg0.N) (h : t.val = 4) :
    bodyPre m c t ⊢ wp frame (wpE (defs₀ (F := F)) Variants.none c none) Set.univ (bodyAt0 t) (fun _ => bodyPost m c t) := by
  have hN : t.val < 37 := lt_of_lt_of_eq t.isLt (show cfg0.N = 37 from N_0)
  unfold bodyPre bodyPost bodyAt0 Phi
  simp only [before0_0, before0_1, before0_2, before0_3, before0_4, before0_5, before0_6, before0_7]
  rw [leaves_idle m c 8 t ((idle8_iff t).2 (by omega)) (Bool.eq_false_iff.2 fun h' => by have := (flush8_iff t).1 h'; omega)]
  rw [leaves_idle m c 9 t ((idle9_iff t).2 (by omega)) (Bool.eq_false_iff.2 fun h' => by have := (flush9_iff t).1 h'; omega)]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : X0 = wts m c := hI.full m (by omega)
  iapply (stepZ c (grid0.coords t) _ _ _ _ _ _ _ _ _ _ _ _ _ _ _ _ _ _ _ _ _ _ _ _ _ _ (fun h => by have := (cond1_iff t).1 h; omega) ((cond2_iff t).2 (by omega)) (fun h => by have := (cond3_iff t).1 h; omega) (fun h => by have := (cond4_iff t).1 h; omega) (fun h => by have := (cond5_iff t).1 h; omega) _ _ Set.univ _)
  isplitl [H0]; · iexact H0
  isplitl [S0]; · iexact S0
  isplitl [S1]; · iexists _; iexact S1
  iintro ⟨H0, S0, S1⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.even (X2 := X2) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iexact H8
  iexists _; iexact H9

set_option maxHeartbeats 1600000 in
/-- The body's triple at an even middle point. -/
theorem soundE (c : Dev nD) (t : Fin cfg0.N) (h : 5 ≤ t.val ∧ t.val ≤ 35 ∧ t.val % 2 = 0) :
    bodyPre m c t ⊢ wp frame (wpE (defs₀ (F := F)) Variants.none c none) Set.univ (bodyAt0 t) (fun _ => bodyPost m c t) := by
  have hN : t.val < 37 := lt_of_lt_of_eq t.isLt (show cfg0.N = 37 from N_0)
  unfold bodyPre bodyPost bodyAt0 Phi
  simp only [before0_0, before0_1, before0_2, before0_3, before0_4, before0_5, before0_6, before0_7]
  rw [leaves_live m c 8 t (.inl (Bool.eq_false_iff.2 fun h' => by have := (idle8_iff t).1 h'; omega)), after0_8]
  rw [leaves_live m c 9 t (.inl (Bool.eq_false_iff.2 fun h' => by have := (idle9_iff t).1 h'; omega)), after0_9]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : X0 = wts m c := hI.full m (by omega)
  obtain rfl : X2 = prod m c (t.val - 1) := (hI.2 (by omega) (by omega)).2 (by omega)
  iapply (stepE c (grid0.coords t) _ _ _ _ _ _ _ _ _ _ _ _ _ _ _ _ _ _ _ _ _ _ _ _ _ _ (fun h => by have := (cond1_iff t).1 h; omega) (fun h => by have := (cond2_iff t).1 h; omega) ((cond3_iff t).2 (by omega)) (fun h => by have := (cond4_iff t).1 h; omega) (fun h => by have := (cond5_iff t).1 h; omega) _ _ _ _ _ _ _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S2]; · iexact S2
  isplitl [H8]; · iexists _; iexact H8
  isplitl [H9]; · iexists _; iexact H9
  isplitl [S1]; · iexists _; iexact S1
  iintro ⟨H0, H2, H3, H4, H5, H6, H7, S0, S2, H8, H9, S1⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.even (X2 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold xtile; rw [pt_val]; iexact H8
  unfold htile; rw [pt_val]; iexact H9

set_option maxHeartbeats 1600000 in
/-- The body's triple at an odd middle point. -/
theorem soundO (c : Dev nD) (t : Fin cfg0.N) (h : 5 ≤ t.val ∧ t.val ≤ 35 ∧ t.val % 2 = 1) :
    bodyPre m c t ⊢ wp frame (wpE (defs₀ (F := F)) Variants.none c none) Set.univ (bodyAt0 t) (fun _ => bodyPost m c t) := by
  have hN : t.val < 37 := lt_of_lt_of_eq t.isLt (show cfg0.N = 37 from N_0)
  unfold bodyPre bodyPost bodyAt0 Phi
  simp only [before0_0, before0_1, before0_2, before0_3, before0_4, before0_5, before0_6, before0_7]
  rw [leaves_live m c 8 t (.inl (Bool.eq_false_iff.2 fun h' => by have := (idle8_iff t).1 h'; omega)), after0_8]
  rw [leaves_live m c 9 t (.inl (Bool.eq_false_iff.2 fun h' => by have := (idle9_iff t).1 h'; omega)), after0_9]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : X0 = wts m c := hI.full m (by omega)
  obtain rfl : X1 = prod m c (t.val - 1) := (hI.2 (by omega) (by omega)).1 (by omega)
  iapply (stepO c (grid0.coords t) _ _ _ _ _ _ _ _ _ _ _ _ _ _ _ _ _ _ _ _ _ _ _ _ _ _ (fun h => by have := (cond1_iff t).1 h; omega) (fun h => by have := (cond2_iff t).1 h; omega) (fun h => by have := (cond3_iff t).1 h; omega) ((cond4_iff t).2 (by omega)) (fun h => by have := (cond5_iff t).1 h; omega) _ _ _ _ _ _ _ _ _ Set.univ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [H8]; · iexists _; iexact H8
  isplitl [H9]; · iexists _; iexact H9
  isplitl [S2]; · iexists _; iexact S2
  iintro ⟨H0, H2, H3, H4, H5, H6, H7, S0, S1, H8, H9, S2⟩
  isplitl [S0 S1 S2 Hg]
  · iexists _, _, _
    isplitr; swap
    · isplitl [S0]; · iexact S0
      isplitl [S1]; · iexact S1
      isplitl [S2]; · iexact S2
      iexact Hg
    ipureintro
    exact cast (by unfold prod; rw [pt_val]) (Inv.odd (X1 := prod m c (t.val - 1)) m (n := t.val) (c := c) (by omega) (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold xtile; rw [pt_val]; iexact H8
  unfold htile; rw [pt_val]; iexact H9

set_option maxHeartbeats 1600000 in
/-- The body's triple at the last point. -/
theorem soundN (c : Dev nD) (t : Fin cfg0.N) (h : t.val = 36) :
    bodyPre m c t ⊢ wp frame (wpE (defs₀ (F := F)) Variants.none c none) Set.univ (bodyAt0 t) (fun _ => bodyPost m c t) := by
  have hN : t.val < 37 := lt_of_lt_of_eq t.isLt (show cfg0.N = 37 from N_0)
  unfold bodyPre bodyPost bodyAt0 Phi
  simp only [before0_0, before0_1, before0_2, before0_3, before0_4, before0_5, before0_6, before0_7]
  rw [leaves_live m c 8 t (.inl (Bool.eq_false_iff.2 fun h' => by have := (idle8_iff t).1 h'; omega)), after0_8]
  rw [leaves_live m c 9 t (.inl (Bool.eq_false_iff.2 fun h' => by have := (idle9_iff t).1 h'; omega)), after0_9]
  iintro ⟨⟨%X0, %X1, %X2, %hI, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : X0 = wts m c := hI.full m (by omega)
  obtain rfl : X2 = prod m c (t.val - 1) := (hI.2 (by omega) (by omega)).2 (by omega)
  iapply (stepN c (grid0.coords t) _ _ _ _ _ _ _ _ _ _ _ _ _ _ _ _ _ _ _ _ _ _ _ _ _ _ (fun h => by have := (cond1_iff t).1 h; omega) (fun h => by have := (cond2_iff t).1 h; omega) (fun h => by have := (cond3_iff t).1 h; omega) (fun h => by have := (cond4_iff t).1 h; omega) ((cond5_iff t).2 (by omega)) _ _ _ _ _ _ _ Set.univ _)
  isplitl [H2]; · iexact H2
  isplitl [H3]; · iexact H3
  isplitl [H4]; · iexact H4
  isplitl [H5]; · iexact H5
  isplitl [H6]; · iexact H6
  isplitl [H7]; · iexact H7
  isplitl [S2]; · iexact S2
  isplitl [H8]; · iexists _; iexact H8
  isplitl [H9]; · iexists _; iexact H9
  iintro ⟨H2, H3, H4, H5, H6, H7, S2, H8, H9⟩
  isplitl [S0 S1 S2 Hg]
  · iexists _, _, _
    isplitr; swap
    · isplitl [S0]; · iexact S0
      isplitl [S1]; · iexact S1
      isplitl [S2]; · iexact S2
      iexact Hg
    ipureintro
    rw [h]; exact Inv.last m
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold xtile; rw [pt_val]; iexact H8
  unfold htile; rw [pt_val]; iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 37 := lt_of_lt_of_eq t.isLt (show cfg0.N = 37 from N_0)
  rcases (by omega : t.val < 4 ∨ t.val = 4 ∨ (5 ≤ t.val ∧ t.val ≤ 35 ∧ t.val % 2 = 0) ∨ (5 ≤ t.val ∧ t.val ≤ 35 ∧ t.val % 2 = 1)
      ∨ t.val = 36) with h | h | h | h | h
  · exact soundL m c t h
  · exact soundZ m c t h
  · exact soundE m c t h
  · exact soundO m c t h
  · exact soundN m c t h

/-- The body the region calls. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%X0, S0⟩, ⟨%X1, S1⟩, ⟨%X2, S2⟩⟩, Hg⟩
  iexists _, _, _
  isplitr; swap
  · isplitl [S0]; · iexact S0
    isplitl [S1]; · iexact S1
    isplitl [S2]; · iexact S2
    iexact Hg
  ipureintro
  exact Inv.first m

/-- After the last point the scratch's contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%X0, %X1, %X2, -, S0, S1, S2, Hg⟩
  isplitl [S0 S1 S2]
  · isplitl [S0]; · iexists _; iexact S0
    isplitl [S1]; · iexists _; iexact S1
    iexists _; iexact S2
  iexact Hg

set_option backward.isDefEq.respectTransparency.types false in
/-- Every execution terminates with the pipeline's arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution terminates with the pipeline's arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution terminates, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OutIdeal.Out

end
-- ==== Proof.OutBits.Frame.lean ====
/-
  The output projection's call with the next rows: the frame of the program itself. Its body table is the ideal program's at any instance of the floats, so its runs are
  the runs of that one.
-/
module

public import proofs.«01_k».proof.Proof.Gen.Out.Skeleton
public import proofs.«01_k».proof.Proof.Out.Frame

@[expose] public section

set_option maxRecDepth 16384

noncomputable section

namespace Cert.Out.Out

open Idealize.ShloMosaic Idealize.ShloMosaic.TcCoe Idealize.SL.Sem

variable {F : FTy → Type} [FloatOps F]

set_option maxHeartbeats 4000000 in
/-- The kernels' body table is the ideal program's. -/
theorem defs₀_eq : defs₀ (F := F) = Cert.OutIdeal.defs₀ (F := F) := by
  unfold defs₀ Cert.OutIdeal.defs₀
  refine congrArg Defs.onTc (funext fun l => funext fun x => ?_)
  match l, x with
  | 0, (t, s) =>
    dsimp only
    rfl

set_option maxHeartbeats 4000000 in
/-- The frame: every execution terminates, the argument arrays unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  unfold defs
  rw [defs₀_eq]
  exact Cert.OutIdeal.Out.frame m ρ

end Cert.Out.Out

end
-- ==== Proof.Out.Kernel.lean ====
/-
  The output projection's kernel at the ideal semantics: what each tile holds as a function of the arguments, and the two
  results after the run.
-/
module

public import proofs.«01_k».proof.Proof.Out.Frame
public import proofs.«01_k».proof.Proof.Next.Kernel

@[expose] public section

set_option maxRecDepth 16384

noncomputable section

namespace Cert.OutIdeal.Out

open Cert.OutIdeal Cert.OutIdeal.Gen Idealize.ShloMosaic Idealize.ShloMosaic.TcCoe Idealize.SL.Sem
open Idealize.ShloMosaic.Pipeline (Dat)
open Cert.Out.Rows (rowsRect stack ld_rows)
open Cert.NextIdeal.Next (nextVal nextVal_congr modIx)

variable (m : (ℓ : Loc nD τ sig) → Buf (Elt Ideal) ℓ)

/-- One of the residual rows at column `l`: `x` plus the gate times the row's RMS-normalised entry times its weight. -/
def rowVal (x g p : EReal) (y : Fin 2048 → EReal) (l : Fin 2048) : EReal :=
  x + g * (y l * Ideal.rsqrt (Ideal.div (∑ j, y j * y j) (Ideal.ofBits FTy.f32 1157627904#32) + Ideal.ofBits FTy.f32 897988541#32) * p)

theorem rowVal_congr {x x' g g' p p' : EReal} {y y' : Fin 2048 → EReal} (l : Fin 2048) (hx : x = x') (hg : g = g') (hp : p = p')
    (hy : ∀ j, y j = y' j) : rowVal x g p y l = rowVal x' g' p' y' l := by
  rw [hx, hg, hp, funext hy]

/-- The body's chunk of sixteen residual rows. -/
theorem pay4_apply (g : Vec Ideal S1x1x2048 .f32) (p : Vec Ideal S1x2048 .f32) (x y : Vec Ideal S16x2048 .f32) (r : Fin 16)
    (l : Fin 2048) :
    k0_pay4 (F := Ideal) g x y p (ix2 r l) = rowVal (x (ix2 r l)) (g (ix3 0 0 l)) (p (ix2 0 l)) (fun j => y (ix2 r j)) l := by
  unfold rowVal
  pointwise [k0_pay4, k0_pay3]

/-- The body's chunk of sixteen next rows. -/
theorem pay6_apply (sc sh : Vec Ideal S1x1x2048 .f32) (p : Vec Ideal S1x2048 .f32) (x : Vec Ideal S16x2048 .f32) (r : Fin 16)
    (l : Fin 2048) :
    k0_pay6 (F := Ideal) x (k0_pay5 p) sc sh (ix2 r l)
      = nextVal (sc (ix3 0 0 l)) (sh (ix3 0 0 l)) (p (ix2 0 l)) (fun j => x (ix2 r j)) l := by
  unfold nextVal
  pointwise [k0_pay6, k0_pay5]

/-- The weights' rows as loaded. -/
theorem load_apply (w : Vec Ideal S1x512x2048 .f32) (r : Fin 512) (l : Fin 2048) :
    k0_pay400 (F := Ideal) w (ix2 r l) = w (ix3 0 r l) := by
  pointwise [k0_pay400]

/-- The product of a tile of rows with the weights. -/
theorem prod_apply (a : Vec Ideal S512x2048 .bf16) (w : Vec Ideal S2048x2048 .bf16) (r : Fin 512) (l : Fin 2048) :
    k0_pay2 (F := Ideal) a w (ix2 r l) = ∑ k : Fin 2048, a (ix2 r k) * w (ix2 k l) := by
  pointwise [k0_pay2]

/-- A tile of residual rows at an entry. -/
theorem xrows_apply (g : Vec Ideal S1x1x2048 .f32) (p : Vec Ideal S1x2048 .f32) (x y : Vec Ideal S512x2048 .f32) (r : Fin 512)
    (h1 : r.val / 16 < 32) (h2 : r.val % 16 < 16) (l : Fin 2048) :
    xrows (F := Ideal) g p x y ⟨r.val / 16, h1⟩ (ix2 (⟨r.val % 16, h2⟩ : Fin 16) l)
      = rowVal (x (ix2 r l)) (g (ix3 0 0 l)) (p (ix2 0 l)) (fun j => y (ix2 r j)) l := by
  refine (pay4_apply g p _ _ _ l).trans ?_
  exact rowVal_congr l (ld_rows x r h1 h2 l) rfl rfl fun j => ld_rows y r h1 h2 j

/-- A stacked tile of residual rows at an entry. -/
theorem xstack_apply (g : Vec Ideal S1x1x2048 .f32) (p : Vec Ideal S1x2048 .f32) (x y : Vec Ideal S512x2048 .f32) (r : Fin 512)
    (l : Fin 2048) :
    stack (xrows (F := Ideal) g p x y) (ix2 r l)
      = rowVal (x (ix2 r l)) (g (ix3 0 0 l)) (p (ix2 0 l)) (fun j => y (ix2 r j)) l := by
  have h1 : r.val / 16 < 32 := by omega
  have h2 : r.val % 16 < 16 := by omega
  exact xrows_apply g p x y r h1 h2 l

/-- A stacked tile of next rows at an entry, of the residual rows as the body made them. -/
theorem hstack_apply (g : Vec Ideal S1x1x2048 .f32) (p p' : Vec Ideal S1x2048 .f32) (sc sh : Vec Ideal S1x1x2048 .f32)
    (x y : Vec Ideal S512x2048 .f32) (r : Fin 512) (l : Fin 2048) :
    stack (hrows (F := Ideal) g p p' sc sh x y) (ix2 r l)
      = nextVal (sc (ix3 0 0 l)) (sh (ix3 0 0 l)) (p' (ix2 0 l)) (fun j => stack (xrows (F := Ideal) g p x y) (ix2 r j)) l := by
  have h1 : r.val / 16 < 32 := by omega
  have h2 : r.val % 16 < 16 := by omega
  exact pay6_apply sc sh p' (xrows g p x y ⟨r.val / 16, h1⟩) ⟨r.val % 16, h2⟩ l

theorem idx0 : ∀ t : Fin cfg0.N, win0_0.index t = ![min (t.val - 4) 31, 0] :=
  (by decide +kernel : ∀ t : Fin grid0.N, win0_0.index t = ![min (t.val - 4) 31, 0])
theorem idx1 : ∀ t : Fin cfg0.N, win0_1.index t = ![1, min t.val 3, 0] :=
  (by decide +kernel : ∀ t : Fin grid0.N, win0_1.index t = ![1, min t.val 3, 0])
theorem idx2 : ∀ t : Fin cfg0.N, win0_2.index t = ![min (t.val - 5) 31, 0] :=
  (by decide +kernel : ∀ t : Fin grid0.N, win0_2.index t = ![min (t.val - 5) 31, 0])
theorem idx3 : ∀ t : Fin cfg0.N, win0_3.index t = ![0, 0] :=
  (by decide +kernel : ∀ t : Fin grid0.N, win0_3.index t = ![0, 0])
theorem idx5 : ∀ t : Fin cfg0.N, win0_5.index t = ![0, 0] :=
  (by decide +kernel : ∀ t : Fin grid0.N, win0_5.index t = ![0, 0])
/-- The row of the modulation table that point `t` reads first: that of the context before point 21, then that of the latent
    batch element. -/
abbrev base (t : ℕ) : ℕ := if t < 21 then 0 else 9 + 9 * (min (t - 21) 15 / 2)
/-- The gate's row, -/
theorem idx4 : ∀ t : Fin cfg0.N, win0_4.index t = ![base t.val + 5, 0, 0] :=
  (by decide +kernel : ∀ t : Fin grid0.N, win0_4.index t = ![base t.val + 5, 0, 0])
/-- the scale's -/
theorem idx6 : ∀ t : Fin cfg0.N, win0_6.index t = ![base t.val + 7, 0, 0] :=
  (by decide +kernel : ∀ t : Fin grid0.N, win0_6.index t = ![base t.val + 7, 0, 0])
/-- and the shift's. -/
theorem idx7 : ∀ t : Fin cfg0.N, win0_7.index t = ![base t.val + 6, 0, 0] :=
  (by decide +kernel : ∀ t : Fin grid0.N, win0_7.index t = ![base t.val + 6, 0, 0])
theorem idx8 : ∀ t : Fin cfg0.N, win0_8.index t = ![min (t.val - 5) 31, 0] :=
  (by decide +kernel : ∀ t : Fin grid0.N, win0_8.index t = ![min (t.val - 5) 31, 0])
theorem idx9 : ∀ t : Fin cfg0.N, win0_9.index t = ![min (t.val - 5) 31, 0] :=
  (by decide +kernel : ∀ t : Fin grid0.N, win0_9.index t = ![min (t.val - 5) 31, 0])

/-- The weights in the scratch are the second layer's matrix. -/
theorem wts_apply (c : Dev nD) (k : Fin 2048) (l : Fin 2048) :
    wts m c (ix2 k l) = m ((c : Thread nD τ).loc main_arg1) (ix3 (1 : Fin 2) k l) := by
  have h1 : k.val / 512 < cfg0.N := by have : cfg0.N = 37 := N_0; omega
  have h2 : k.val % 512 < 512 := by omega
  show k0_pay400 (iblk m c 1 (⟨k.val / 512, h1⟩ : Fin cfg0.N)) (ix2 ⟨k.val % 512, h2⟩ l) = _
  rw [load_apply]
  blk_ext [iblk, V_main_arg1, idx1 ⟨k.val / 512, h1⟩]

/-- The first norm's weights as the region finds them: the second layer's second row. -/
theorem V_gpost (c : Dev nD) (z : Fin 1) (l : Fin 2048) :
    V m c main_v4 (ix2 z l) = m ((c : Thread nD τ).loc main_arg4) (ix3 (1 : Fin 2) (1 : Fin 3) l) := by
  entry_read
  pointwise

/-- The next norm's weights as the region finds them: the second layer's third row. -/
theorem V_gpre (c : Dev nD) (z : Fin 1) (l : Fin 2048) :
    V m c main_v5 (ix2 z l) = m ((c : Thread nD τ).loc main_arg5) (ix3 (1 : Fin 2) (2 : Fin 3) l) := by
  entry_read
  pointwise

/-- One entry of the residual result: row `r` of the product of `a` with the second layer's matrix, normed, gated and added to
    row `r` of `x`. -/
def xAt (a : S16384x2048.Idx → EReal) (w : S2x2048x2048.Idx → EReal) (x : S16384x2048.Idx → EReal)
    (g : S144x1x2048.Idx → EReal) (p : S2x3x2048.Idx → EReal) (r : Fin 16384) (l : Fin 2048) : EReal :=
  rowVal (x (ix2 r l)) (g (ix3 (modIx r 5) (0 : Fin 1) l)) (p (ix3 (1 : Fin 2) (1 : Fin 3) l))
    (fun j => ∑ k : Fin 2048, a (ix2 r k) * w (ix3 (1 : Fin 2) k j)) l

/-- One entry of the next rows: row `r` of the residual result, normed, scaled and shifted. -/
def hAt (a : S16384x2048.Idx → EReal) (w : S2x2048x2048.Idx → EReal) (x : S16384x2048.Idx → EReal)
    (g : S144x1x2048.Idx → EReal) (p p' : S2x3x2048.Idx → EReal) (r : Fin 16384) (l : Fin 2048) : EReal :=
  nextVal (g (ix3 (modIx r 7) (0 : Fin 1) l)) (g (ix3 (modIx r 6) (0 : Fin 1) l)) (p' (ix3 (1 : Fin 2) (2 : Fin 3) l))
    (fun j => xAt a w x g p r j) l

/-- The residual result. -/
def xVal (a : S16384x2048.Idx → EReal) (w : S2x2048x2048.Idx → EReal) (x : S16384x2048.Idx → EReal)
    (g : S144x1x2048.Idx → EReal) (p : S2x3x2048.Idx → EReal) : S16384x2048.Idx → EReal := fun y => xAt a w x g p (y 0) (y 1)

/-- The next rows. -/
def hVal (a : S16384x2048.Idx → EReal) (w : S2x2048x2048.Idx → EReal) (x : S16384x2048.Idx → EReal)
    (g : S144x1x2048.Idx → EReal) (p p' : S2x3x2048.Idx → EReal) : S16384x2048.Idx → EReal := fun y => hAt a w x g p p' (y 0) (y 1)

/-- The table's row of a tile's rows is the one the tile's point reads. -/
theorem modIx_val (n : ℕ) (h5 : 5 ≤ n) (h36 : n ≤ 36) (r : Fin 512) (R : Fin 16384) (hR : R.val = 512 * (n - 5) + r.val)
    (j : Fin 9) : base n + j.val = (modIx R j).val := by
  have hr := r.isLt
  unfold base modIx
  show _ = (if R.val < 8192 then 0 else 1 + (R.val - 8192) / 1024) * 9 + j.val
  rw [hR]
  split <;> split <;> omega

/-- The residual rows a point finishes, at an entry. -/
theorem xtile_apply (c : Dev nD) (n : ℕ) (h5 : 5 ≤ n) (h36 : n ≤ 36) (r : Fin 512) (l : Fin 2048) (R : Fin 16384)
    (hR : R.val = 512 * (n - 5) + r.val) :
    xtile m c n (ix2 r l) = xAt (m ((c : Thread nD τ).loc main_arg0)) (m ((c : Thread nD τ).loc main_arg1))
      (m ((c : Thread nD τ).loc main_arg2)) (m ((c : Thread nD τ).loc main_arg3)) (m ((c : Thread nD τ).loc main_arg4)) R l := by
  have hp : (pt n).val = n := by show min n 36 = n; omega
  have hp' : (pt (n - 1)).val = n - 1 := by show min (n - 1) 36 = n - 1; omega
  have i0 := idx0 (pt (n - 1))
  have i2 := idx2 (pt n)
  have i3 := idx3 (pt n)
  have i4 := idx4 (pt n)
  rw [hp'] at i0
  rw [hp] at i2 i4
  rw [show base n + 5 = (modIx R 5).val from modIx_val n h5 h36 r R hR 5] at i4
  unfold xtile xAt
  rw [xstack_apply]
  refine rowVal_congr l ?_ ?_ ?_ fun j => ?_
  · blk_ext [iblk, V_main_arg2, i2]
  · blk_ext [iblk, V_main_arg3, i4]
  · refine Eq.trans ?_ (V_gpost m c 0 l)
    blk_ext [iblk, i3]
  · unfold prod
    refine (prod_apply _ _ r j).trans ?_
    refine Finset.sum_congr rfl fun k _ => congrArg₂ (· * ·) ?_ (wts_apply m c k j)
    blk_ext [iblk, V_main_arg0, i0]

/-- The next rows a point finishes, at an entry. -/
theorem htile_apply (c : Dev nD) (n : ℕ) (h5 : 5 ≤ n) (h36 : n ≤ 36) (r : Fin 512) (l : Fin 2048) (R : Fin 16384)
    (hR : R.val = 512 * (n - 5) + r.val) :
    htile m c n (ix2 r l) = hAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) R l := by
  have hp : (pt n).val = n := by show min n 36 = n; omega
  have i5 := idx5 (pt n)
  have i6 := idx6 (pt n)
  have i7 := idx7 (pt n)
  rw [hp] at i6 i7
  rw [show base n + 7 = (modIx R 7).val from modIx_val n h5 h36 r R hR 7] at i6
  rw [show base n + 6 = (modIx R 6).val from modIx_val n h5 h36 r R hR 6] at i7
  unfold htile hAt
  rw [hstack_apply]
  refine nextVal_congr l ?_ ?_ ?_ fun j => xtile_apply m c n h5 h36 r j R hR
  · blk_ext [iblk, V_main_arg3, i6]
  · blk_ext [iblk, V_main_arg3, i7]
  · refine Eq.trans ?_ (V_gpre m c 0 l)
    blk_ext [iblk, i5]

/-- The residual result after the run. -/
theorem final8 (c : Dev nD) : (dats m 0 c).arrAt 8 cfg0.N
    = xVal (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨r, l, rfl⟩ : ∃ (r : Fin 512) (l : Fin 2048), y = ix2 r l := ⟨y 0, y 1, eq_ix2 y⟩
  have h := (flush8_iff t).1 hf
  have hr := r.isLt
  have ht : t.val < 37 := lt_of_lt_of_eq t.isLt (show cfg0.N = 37 from N_0)
  have e : (win0_8.blk t).view.emb (ix2 r l) = ix2 (⟨512 * (t.val - 5) + r.val, by omega⟩ : Fin 16384) l := by
    have i8 := idx8 t
    rw [show min (t.val - 5) 31 = t.val - 5 by omega] at i8
    blk_ext [i8]
  rw [e]
  exact xtile_apply m c _ h (by omega) r l _ rfl

/-- The next rows after the run. -/
theorem final9 (c : Dev nD) : (dats m 0 c).arrAt 9 cfg0.N
    = hVal (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 9 _ (by decide +kernel) fun t hf y => ?_
  blk_simp
  rw [after0_9]
  obtain ⟨r, l, rfl⟩ : ∃ (r : Fin 512) (l : Fin 2048), y = ix2 r l := ⟨y 0, y 1, eq_ix2 y⟩
  have h := (flush9_iff t).1 hf
  have hr := r.isLt
  have ht : t.val < 37 := lt_of_lt_of_eq t.isLt (show cfg0.N = 37 from N_0)
  have e : (win0_9.blk t).view.emb (ix2 r l) = ix2 (⟨512 * (t.val - 5) + r.val, by omega⟩ : Fin 16384) l := by
    have i9 := idx9 t
    rw [show min (t.val - 5) 31 = t.val - 5 by omega] at i9
    blk_ext [i9]
  rw [e]
  exact htile_apply m c _ h (by omega) r l _ rfl

end Cert.OutIdeal.Out

end
-- ==== Proof.Out.Ref.lean ====
/-
  The output projection's reference, read at an index.
-/
module

public import proofs.«01_k».proof.Proof.Gen.OutRefIdeal.Read
public import proofs.«01_k».proof.Proof.Out.Kernel

@[expose] public section

set_option maxRecDepth 16384

noncomputable section

namespace Cert.OutRefIdeal.Out

open Cert.OutRefIdeal Cert.OutRefIdeal.Gen Cert.OutRefIdeal.Read Idealize.ShloMosaic Idealize.ShloMosaic.TcCoe Idealize.SL.Sem
open Cert.OutIdeal.Out (xVal hVal xAt hAt rowVal)
open Cert.NextIdeal.Next (nextVal modIx)

/-- The context's copy of the modulation table: its first nine rows for every row. -/
theorem val_ctx (g : (⟨S144x1x2048, .f32⟩ : BufTy).Contents (Elt Ideal)) (r : Fin 8192) (j : Fin 9) (l : Fin 2048) :
    val_main_v6 (F := Ideal) g (ix3 r j l) = g (ix3 (⟨j.val, by omega⟩ : Fin 144) (0 : Fin 1) l) := by
  pointwise [val_main_v6, val_main_v5, val_main_v4]

/-- The latent rows' copy: nine rows for each batch element of 1024 rows. -/
theorem val_lat (g : (⟨S144x1x2048, .f32⟩ : BufTy).Contents (Elt Ideal)) (r : Fin 8192) (j : Fin 9) (l : Fin 2048) :
    val_main_v10 (F := Ideal) g (ix3 r j l) = g (ix3 (⟨(1 + r.val / 1024) * 9 + j.val, by omega⟩ : Fin 144) (0 : Fin 1) l) := by
  pointwise [val_main_v10, val_main_v9, val_main_v8, val_main_v7, val_main_v4]

/-- The modulation of a row is read off the table. -/
theorem val_rows (g : (⟨S144x1x2048, .f32⟩ : BufTy).Contents (Elt Ideal)) (r : Fin 16384) (j : Fin 9) (l : Fin 2048) :
    val_main_v11 (F := Ideal) g (ix3 r j l) = g (ix3 (modIx r j) (0 : Fin 1) l) := by
  unfold val_main_v11
  by_cases h : r.val < 8192
  · refine (concatenate_pair_apply_left (t := S16384x9x2048) (s₁ := S8192x9x2048) (s₂ := S8192x9x2048) (0 : Fin 3) _ _ _ (ix3 r j l) rfl (ix3 (⟨r.val, h⟩ : Fin 8192) j l)
      (fun b => by refine Fin.cases rfl (fun b => Fin.cases rfl (fun b => Fin.cases rfl (fun b => b.elim0) b) b) b)).trans ?_
    refine (val_ctx g ⟨r.val, h⟩ j l).trans (congrArg (fun q => g (ix3 q (0 : Fin 1) l)) (Fin.ext ?_))
    show j.val = (if r.val < 8192 then 0 else 1 + (r.val - 8192) / 1024) * 9 + j.val
    rw [if_pos h]; omega
  · have hr := r.isLt
    refine (concatenate_pair_apply_right (t := S16384x9x2048) (s₁ := S8192x9x2048) (s₂ := S8192x9x2048) (0 : Fin 3) _ _ _ (ix3 r j l)
      rfl rfl (ix3 (⟨r.val - 8192, by omega⟩ : Fin 8192) j l)
      (fun b => by refine Fin.cases (fun hb => absurd rfl hb) (fun b => Fin.cases (fun _ => rfl) (fun b => Fin.cases (fun _ => rfl) (fun b => b.elim0) b) b) b)
      (by show r.val - 8192 + 8192 = r.val; omega)).trans ?_
    refine (val_lat g ⟨r.val - 8192, by omega⟩ j l).trans (congrArg (fun q => g (ix3 q (0 : Fin 1) l)) (Fin.ext ?_))
    show (1 + (r.val - 8192) / 1024) * 9 + j.val = (if r.val < 8192 then 0 else 1 + (r.val - 8192) / 1024) * 9 + j.val
    rw [if_neg h]

/-- The gate's, the scale's and the shift's rows. -/
theorem val_gate (g : (⟨S144x1x2048, .f32⟩ : BufTy).Contents (Elt Ideal)) (r : Fin 16384) (l : Fin 2048) :
    val_main_v13 (F := Ideal) g (ix2 r l) = g (ix3 (modIx r 5) (0 : Fin 1) l) := by
  refine Eq.trans ?_ (val_rows g r 5 l)
  pointwise [val_main_v13, val_main_v12]

theorem val_scale (g : (⟨S144x1x2048, .f32⟩ : BufTy).Contents (Elt Ideal)) (r : Fin 16384) (l : Fin 2048) :
    val_main_v47 (F := Ideal) g (ix2 r l) = g (ix3 (modIx r 7) (0 : Fin 1) l) := by
  refine Eq.trans ?_ (val_rows g r 7 l)
  pointwise [val_main_v47, val_main_v46]

theorem val_shift (g : (⟨S144x1x2048, .f32⟩ : BufTy).Contents (Elt Ideal)) (r : Fin 16384) (l : Fin 2048) :
    val_main_v52 (F := Ideal) g (ix2 r l) = g (ix3 (modIx r 6) (0 : Fin 1) l) := by
  refine Eq.trans ?_ (val_rows g r 6 l)
  pointwise [val_main_v52, val_main_v51]

/-- The reference's residual rows. -/
theorem val_x (a : (⟨S16384x2048, .bf16⟩ : BufTy).Contents (Elt Ideal))
    (w : (⟨S2x2048x2048, .f32⟩ : BufTy).Contents (Elt Ideal)) (x : (⟨S16384x2048, .f32⟩ : BufTy).Contents (Elt Ideal))
    (g : (⟨S144x1x2048, .f32⟩ : BufTy).Contents (Elt Ideal)) (p : (⟨S2x3x2048, .f32⟩ : BufTy).Contents (Elt Ideal)) :
    val_main_v30 (F := Ideal) a w x g p = xVal a w x g p := by
  funext y
  obtain ⟨r, l, rfl⟩ : ∃ (r : Fin 16384) (l : Fin 2048), y = ix2 r l := ⟨y 0, y 1, eq_ix2 y⟩
  show _ = xAt a w x g p r l
  unfold xAt
  rw [← val_gate g r l]
  unfold rowVal
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v3, val_main_v2, val_main_v1, val_main_v0, val_main_cst, val_main_cst_0, val_main_cst_1]

/-- The reference's next rows. -/
theorem val_h (a : (⟨S16384x2048, .bf16⟩ : BufTy).Contents (Elt Ideal))
    (w : (⟨S2x2048x2048, .f32⟩ : BufTy).Contents (Elt Ideal)) (x : (⟨S16384x2048, .f32⟩ : BufTy).Contents (Elt Ideal))
    (g : (⟨S144x1x2048, .f32⟩ : BufTy).Contents (Elt Ideal)) (p p' : (⟨S2x3x2048, .f32⟩ : BufTy).Contents (Elt Ideal)) :
    val_main_v54 (F := Ideal) a w x g p p' = hVal a w x g p p' := by
  funext y
  obtain ⟨r, l, rfl⟩ : ∃ (r : Fin 16384) (l : Fin 2048), y = ix2 r l := ⟨y 0, y 1, eq_ix2 y⟩
  show _ = hAt a w x g p p' r l
  have e : (fun j => xAt a w x g p r j) = fun j => val_main_v30 (F := Ideal) a w x g p (ix2 r j) := by
    rw [val_x]; rfl
  unfold hAt
  rw [e, ← val_scale g r l, ← val_shift g r l]
  unfold nextVal
  pointwise [val_main_v54, val_main_v53, val_main_v50, val_main_v49, val_main_v48, val_main_v45, val_main_v44, val_main_v43,
    val_main_v42, val_main_v41, val_main_v40, val_main_v39, val_main_v38, val_main_v37, val_main_v36, val_main_v35,
    val_main_v34, val_main_v33, val_main_v32, val_main_v31, val_main_cst_2, val_main_cst_3, val_main_cst_4, val_main_cst_5]

end Cert.OutRefIdeal.Out

end
-- ==== Proof.Out.Algebraic.lean ====
/-
  The output projection with the next rows against its reference: the two runs side by side, both pairs of results the same functions of the
  arguments.
-/
module

public import proofs.«01_k».proof.Defs
public import proofs.«01_k».proof.Proof.Out.Kernel
public import proofs.«01_k».proof.Proof.Out.Ref
public import proofs.«01_k».proof.Proof.Gen.OutRefIdeal.Run

@[expose] public section

noncomputable section

namespace Cert.Proof.Out

open Idealize.ShloMosaic Idealize.ShloMosaic.TcCoe Idealize.SL.Sem

/-- From equal arguments, at the ideal semantics, the kernel's two results equal the reference's. -/
theorem algebraic : Cert.algebraic_OutIdeal_OutRefIdeal (hOutIdeal := Cert.OutIdeal.Gen.facts)
    (hOutRefIdeal := Cert.OutRefIdeal.Gen.facts) := by
  intro m g m' g' _ hargs
  refine ⟨fun c => Cert.OutIdeal.Out.xVal (m ((c.tc : Thread _ _).loc Cert.OutIdeal.main_arg0))
      (m ((c.tc : Thread _ _).loc Cert.OutIdeal.main_arg1)) (m ((c.tc : Thread _ _).loc Cert.OutIdeal.main_arg2))
      (m ((c.tc : Thread _ _).loc Cert.OutIdeal.main_arg3)) (m ((c.tc : Thread _ _).loc Cert.OutIdeal.main_arg4)),
    fun c => Cert.OutIdeal.Out.hVal (m ((c.tc : Thread _ _).loc Cert.OutIdeal.main_arg0))
      (m ((c.tc : Thread _ _).loc Cert.OutIdeal.main_arg1)) (m ((c.tc : Thread _ _).loc Cert.OutIdeal.main_arg2))
      (m ((c.tc : Thread _ _).loc Cert.OutIdeal.main_arg3)) (m ((c.tc : Thread _ _).loc Cert.OutIdeal.main_arg4))
      (m ((c.tc : Thread _ _).loc Cert.OutIdeal.main_arg5)), ?_, ?_⟩
  · refine (θ_run (Cert.OutIdeal.defs (F := Ideal)) _ _).mono (fun r h c => ?_)
      (θ_run_and (Cert.OutIdeal.Out.run_main (F := Ideal) m g) (Cert.OutIdeal.Out.unchanged (F := Ideal) m g))
    exact ⟨((h.1 c).1 8).trans (Cert.OutIdeal.Out.final8 m c), ((h.1 c).1 9).trans (Cert.OutIdeal.Out.final9 m c), h.2 c⟩
  · refine (θ_run (Cert.OutRefIdeal.defs (F := Ideal)) _ _).mono (fun r h c => ?_) (Cert.OutRefIdeal.Value.run (F := Ideal) m' g')
    obtain ⟨hv, hw, h0⟩ := h c
    obtain ⟨e0, e1, e2, e3, e4, e5⟩ := hargs c
    refine ⟨hv.trans ?_, hw.trans ?_, h0⟩
    · refine ((Cert.OutRefIdeal.Read.val_main_v30_eq _ _ _ _ _).trans (Cert.OutRefIdeal.Out.val_x _ _ _ _ _)).trans ?_
      rw [e0, e1, e2, e3, e4]
    · refine ((Cert.OutRefIdeal.Read.val_main_v54_eq m' c).trans (Cert.OutRefIdeal.Out.val_h _ _ _ _ _ _)).trans ?_
      rw [e0, e1, e2, e3, e4, e5]

/-- The reference terminates, keeps its arguments and leaves every semaphore counter at zero. -/
theorem frame_ref : Cert.quiescent_OutRefIdeal (hOutRefIdeal := Cert.OutRefIdeal.Gen.facts) := fun m g _ =>
  (θ_run (Cert.OutRefIdeal.defs (F := Ideal)) _ _).mono
    (fun r h => ⟨fun c => (h c).2.2, Idealize.ShloMosaic.sem_eq_zero_of_no_sems (by decide) r.2⟩)
    (Cert.OutRefIdeal.Value.run (F := Ideal) m g)

end Cert.Proof.Out

end
-- ==== Proof.lean ====
/-
  The proof of `Cert.Claim`: the frames come from the runs, the value claims from the modules under Proof/.
-/
module

public import proofs.«01_k».proof.Defs
public import proofs.«01_k».proof.Proof.Gen.Ret.Frame
public import proofs.«01_k».proof.Proof.Gen.RetIdeal.Frame
public import proofs.«01_k».proof.Proof.Ret.Algebraic
public import proofs.«01_k».proof.Proof.Gen.Up.Frame
public import proofs.«01_k».proof.Proof.Gen.UpIdeal.Frame
public import proofs.«01_k».proof.Proof.Up.Algebraic
public import proofs.«01_k».proof.Proof.Gen.Proj.Frame
public import proofs.«01_k».proof.Proof.Gen.ProjIdeal.Frame
public import proofs.«01_k».proof.Proof.Proj.Algebraic
public import proofs.«01_k».proof.Proof.Gen.Cache.Frame
public import proofs.«01_k».proof.Proof.Gen.CacheIdeal.Frame
public import proofs.«01_k».proof.Proof.Cache.Algebraic
public import proofs.«01_k».proof.Proof.Gen.Down.Skeleton
public import proofs.«01_k».proof.Proof.Gen.DownIdeal.Skeleton
public import proofs.«01_k».proof.Proof.DownBits.Frame
public import proofs.«01_k».proof.Proof.Down.Algebraic
public import proofs.«01_k».proof.Proof.Gen.Gates.Frame
public import proofs.«01_k».proof.Proof.Gen.GatesIdeal.Frame
public import proofs.«01_k».proof.Proof.Gates.Algebraic
public import proofs.«01_k».proof.Proof.Gen.Next.Skeleton
public import proofs.«01_k».proof.Proof.Gen.NextIdeal.Skeleton
public import proofs.«01_k».proof.Proof.NextBits.Frame
public import proofs.«01_k».proof.Proof.Next.Algebraic
public import proofs.«01_k».proof.Proof.Gen.Vals.Frame
public import proofs.«01_k».proof.Proof.Gen.ValsIdeal.Frame
public import proofs.«01_k».proof.Proof.Vals.Algebraic
public import proofs.«01_k».proof.Proof.Gen.Latkv.Frame
public import proofs.«01_k».proof.Proof.Gen.LatkvIdeal.Frame
public import proofs.«01_k».proof.Proof.Latkv.Algebraic
public import proofs.«01_k».proof.Proof.Gen.Last.Frame
public import proofs.«01_k».proof.Proof.Gen.LastIdeal.Frame
public import proofs.«01_k».proof.Proof.Last.Algebraic
public import proofs.«01_k».proof.Proof.Gen.First.Skeleton
public import proofs.«01_k».proof.Proof.Gen.FirstIdeal.Skeleton
public import proofs.«01_k».proof.Proof.FirstBits.Frame
public import proofs.«01_k».proof.Proof.First.Algebraic
public import proofs.«01_k».proof.Proof.Gen.Newk.Frame
public import proofs.«01_k».proof.Proof.Gen.NewkIdeal.Frame
public import proofs.«01_k».proof.Proof.Newk.Algebraic
public import proofs.«01_k».proof.Proof.Gen.Newv.Frame
public import proofs.«01_k».proof.Proof.Gen.NewvIdeal.Frame
public import proofs.«01_k».proof.Proof.Newv.Algebraic
public import proofs.«01_k».proof.Proof.Gen.Out.Skeleton
public import proofs.«01_k».proof.Proof.Gen.OutIdeal.Skeleton
public import proofs.«01_k».proof.Proof.OutBits.Frame
public import proofs.«01_k».proof.Proof.Out.Algebraic

@[expose] public section

noncomputable section

namespace Cert.Proof

open Idealize.ShloMosaic Idealize.SL.Sem

/-- Every claim of this certificate. -/
theorem claim : Cert.Claim :=
  ⟨Cert.Ret.Gen.facts, Cert.RetIdeal.Gen.facts, Cert.RetRefIdeal.Gen.facts,
    Cert.Up.Gen.facts, Cert.UpIdeal.Gen.facts, Cert.UpRefIdeal.Gen.facts,
    Cert.Proj.Gen.facts, Cert.ProjIdeal.Gen.facts, Cert.ProjRefIdeal.Gen.facts,
    Cert.Cache.Gen.facts, Cert.CacheIdeal.Gen.facts, Cert.CacheRefIdeal.Gen.facts,
    Cert.Down.Gen.facts, Cert.DownIdeal.Gen.facts, Cert.DownRefIdeal.Gen.facts,
    Cert.Gates.Gen.facts, Cert.GatesIdeal.Gen.facts, Cert.GatesRefIdeal.Gen.facts,
    Cert.Next.Gen.facts, Cert.NextIdeal.Gen.facts, Cert.NextRefIdeal.Gen.facts,
    Cert.Vals.Gen.facts, Cert.ValsIdeal.Gen.facts, Cert.ValsRefIdeal.Gen.facts,
    Cert.Latkv.Gen.facts, Cert.LatkvIdeal.Gen.facts, Cert.LatkvRefIdeal.Gen.facts,
    Cert.Last.Gen.facts, Cert.LastIdeal.Gen.facts, Cert.LastRefIdeal.Gen.facts,
    Cert.First.Gen.facts, Cert.FirstIdeal.Gen.facts, Cert.FirstRefIdeal.Gen.facts,
    Cert.Newk.Gen.facts, Cert.NewkIdeal.Gen.facts, Cert.NewkRefIdeal.Gen.facts,
    Cert.Newv.Gen.facts, Cert.NewvIdeal.Gen.facts, Cert.NewvRefIdeal.Gen.facts,
    Cert.Out.Gen.facts, Cert.OutIdeal.Gen.facts, Cert.OutRefIdeal.Gen.facts,
    fun m g _ => Cert.Ret.Gen.frame m g, fun m g _ => Cert.RetIdeal.Gen.frame m g, Ret.frame_ref,
    fun m g _ => Cert.Up.Gen.frame m g, fun m g _ => Cert.UpIdeal.Gen.frame m g, Up.frame_ref,
    fun m g _ => Cert.Proj.Gen.frame m g, fun m g _ => Cert.ProjIdeal.Gen.frame m g, Proj.frame_ref,
    fun m g _ => Cert.Cache.Gen.frame m g, fun m g _ => Cert.CacheIdeal.Gen.frame m g, Cache.frame_ref,
    fun m g _ => Cert.Down.Down.frame m g, fun m g _ => Cert.DownIdeal.Down.frame m g, Down.frame_ref,
    fun m g _ => Cert.Gates.Gen.frame m g, fun m g _ => Cert.GatesIdeal.Gen.frame m g, Gates.frame_ref,
    fun m g _ => Cert.Next.Next.frame m g, fun m g _ => Cert.NextIdeal.Next.frame m g, Next.frame_ref,
    fun m g _ => Cert.Vals.Gen.frame m g, fun m g _ => Cert.ValsIdeal.Gen.frame m g, Vals.frame_ref,
    fun m g _ => Cert.Latkv.Gen.frame m g, fun m g _ => Cert.LatkvIdeal.Gen.frame m g, Latkv.frame_ref,
    fun m g _ => Cert.Last.Gen.frame m g, fun m g _ => Cert.LastIdeal.Gen.frame m g, Last.frame_ref,
    fun m g _ => Cert.First.First.frame m g, fun m g _ => Cert.FirstIdeal.First.frame m g, First.frame_ref,
    fun m g _ => Cert.Newk.Gen.frame m g, fun m g _ => Cert.NewkIdeal.Gen.frame m g, Newk.frame_ref,
    fun m g _ => Cert.Newv.Gen.frame m g, fun m g _ => Cert.NewvIdeal.Gen.frame m g, Newv.frame_ref,
    fun m g _ => Cert.Out.Out.frame m g, fun m g _ => Cert.OutIdeal.Out.frame m g, Out.frame_ref,
    trivial, Ret.algebraic, trivial, Up.algebraic, trivial, Proj.algebraic, trivial, Cache.algebraic, trivial, Down.algebraic, trivial, Gates.algebraic, trivial, Next.algebraic, trivial, Vals.algebraic, trivial, Latkv.algebraic, trivial, Last.algebraic, trivial, First.algebraic, trivial, Newk.algebraic, trivial, Newv.algebraic, trivial, Out.algebraic⟩

end Cert.Proof

end
